-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterReferenceIdeal (m : (ℓ : Loc Cert.ScatterReferenceIdeal.nD Cert.ScatterReferenceIdeal.τ Cert.ScatterReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_PwOne (m : (ℓ : Loc Cert.PwOne.nD Cert.PwOne.τ Cert.PwOne.sig) → Buf (Elt Bits) ℓ) : Prop :=
  True

def Pre_PwOneIdeal (m : (ℓ : Loc Cert.PwOneIdeal.nD Cert.PwOneIdeal.τ Cert.PwOneIdeal.sig) → Buf (Elt Ideal) ℓ) : Prop :=
  True

def Pre_PwOneReferenceIdeal (m : (ℓ : Loc Cert.PwOneReferenceIdeal.nD Cert.PwOneReferenceIdeal.τ Cert.PwOneReferenceIdeal.sig) → Buf (Elt Ideal) ℓ) : Prop :=
  True

def Pre_PwTwo (m : (ℓ : Loc Cert.PwTwo.nD Cert.PwTwo.τ Cert.PwTwo.sig) → Buf (Elt Bits) ℓ) : Prop :=
  True

def Pre_PwTwoIdeal (m : (ℓ : Loc Cert.PwTwoIdeal.nD Cert.PwTwoIdeal.τ Cert.PwTwoIdeal.sig) → Buf (Elt Ideal) ℓ) : Prop :=
  True

def Pre_PwTwoReferenceIdeal (m : (ℓ : Loc Cert.PwTwoReferenceIdeal.nD Cert.PwTwoReferenceIdeal.τ Cert.PwTwoReferenceIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInReferenceIdeal (m : (ℓ : Loc Cert.RetInReferenceIdeal.nD Cert.RetInReferenceIdeal.τ Cert.RetInReferenceIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondReferenceIdeal (m : (ℓ : Loc Cert.CondReferenceIdeal.nD Cert.CondReferenceIdeal.τ Cert.CondReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Grads (m : (ℓ : Loc Cert.Grads.nD Cert.Grads.τ Cert.Grads.sig) → Buf (Elt Bits) ℓ) : Prop :=
  True

def Pre_GradsIdeal (m : (ℓ : Loc Cert.GradsIdeal.nD Cert.GradsIdeal.τ Cert.GradsIdeal.sig) → Buf (Elt Ideal) ℓ) : Prop :=
  True

def Pre_GradsReferenceIdeal (m : (ℓ : Loc Cert.GradsReferenceIdeal.nD Cert.GradsReferenceIdeal.τ Cert.GradsReferenceIdeal.sig) → Buf (Elt Ideal) ℓ) : Prop :=
  True

def Pre_AddPwOne (m : (ℓ : Loc Cert.AddPwOne.nD Cert.AddPwOne.τ Cert.AddPwOne.sig) → Buf (Elt Bits) ℓ) : Prop :=
  True

def Pre_AddPwOneIdeal (m : (ℓ : Loc Cert.AddPwOneIdeal.nD Cert.AddPwOneIdeal.τ Cert.AddPwOneIdeal.sig) → Buf (Elt Ideal) ℓ) : Prop :=
  True

def Pre_AddPwOneReferenceIdeal (m : (ℓ : Loc Cert.AddPwOneReferenceIdeal.nD Cert.AddPwOneReferenceIdeal.τ Cert.AddPwOneReferenceIdeal.sig) → Buf (Elt Ideal) ℓ) : Prop :=
  True

def Pre_AddPwTwo (m : (ℓ : Loc Cert.AddPwTwo.nD Cert.AddPwTwo.τ Cert.AddPwTwo.sig) → Buf (Elt Bits) ℓ) : Prop :=
  True

def Pre_AddPwTwoIdeal (m : (ℓ : Loc Cert.AddPwTwoIdeal.nD Cert.AddPwTwoIdeal.τ Cert.AddPwTwoIdeal.sig) → Buf (Elt Ideal) ℓ) : Prop :=
  True

def Pre_AddPwTwoReferenceIdeal (m : (ℓ : Loc Cert.AddPwTwoReferenceIdeal.nD Cert.AddPwTwoReferenceIdeal.τ Cert.AddPwTwoReferenceIdeal.sig) → Buf (Elt Ideal) ℓ) : Prop :=
  True

def Pre_AddRetIn (m : (ℓ : Loc Cert.AddRetIn.nD Cert.AddRetIn.τ Cert.AddRetIn.sig) → Buf (Elt Bits) ℓ) : Prop :=
  True

def Pre_AddRetInIdeal (m : (ℓ : Loc Cert.AddRetInIdeal.nD Cert.AddRetInIdeal.τ Cert.AddRetInIdeal.sig) → Buf (Elt Ideal) ℓ) : Prop :=
  True

def Pre_AddRetInReferenceIdeal (m : (ℓ : Loc Cert.AddRetInReferenceIdeal.nD Cert.AddRetInReferenceIdeal.τ Cert.AddRetInReferenceIdeal.sig) → Buf (Elt Ideal) ℓ) : Prop :=
  True

def Pre_AddRetOut (m : (ℓ : Loc Cert.AddRetOut.nD Cert.AddRetOut.τ Cert.AddRetOut.sig) → Buf (Elt Bits) ℓ) : Prop :=
  True

def Pre_AddRetOutIdeal (m : (ℓ : Loc Cert.AddRetOutIdeal.nD Cert.AddRetOutIdeal.τ Cert.AddRetOutIdeal.sig) → Buf (Elt Ideal) ℓ) : Prop :=
  True

def Pre_AddRetOutReferenceIdeal (m : (ℓ : Loc Cert.AddRetOutReferenceIdeal.nD Cert.AddRetOutReferenceIdeal.τ Cert.AddRetOutReferenceIdeal.sig) → Buf (Elt Ideal) ℓ) : Prop :=
  True

def Pre_AddMlp (m : (ℓ : Loc Cert.AddMlp.nD Cert.AddMlp.τ Cert.AddMlp.sig) → Buf (Elt Bits) ℓ) : Prop :=
  True

def Pre_AddMlpIdeal (m : (ℓ : Loc Cert.AddMlpIdeal.nD Cert.AddMlpIdeal.τ Cert.AddMlpIdeal.sig) → Buf (Elt Ideal) ℓ) : Prop :=
  True

def Pre_AddMlpReferenceIdeal (m : (ℓ : Loc Cert.AddMlpReferenceIdeal.nD Cert.AddMlpReferenceIdeal.τ Cert.AddMlpReferenceIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_RowFwd (m : (ℓ : Loc Cert.RowFwd.nD Cert.RowFwd.τ Cert.RowFwd.sig) → Buf (Elt Bits) ℓ) : Prop :=
  True

def Pre_RowFwdIdeal (m : (ℓ : Loc Cert.RowFwdIdeal.nD Cert.RowFwdIdeal.τ Cert.RowFwdIdeal.sig) → Buf (Elt Ideal) ℓ) : Prop :=
  True

def Pre_RowFwdReferenceIdeal (m : (ℓ : Loc Cert.RowFwdReferenceIdeal.nD Cert.RowFwdReferenceIdeal.τ Cert.RowFwdReferenceIdeal.sig) → Buf (Elt Ideal) ℓ) : Prop :=
  True

def Pre_RowFirst (m : (ℓ : Loc Cert.RowFirst.nD Cert.RowFirst.τ Cert.RowFirst.sig) → Buf (Elt Bits) ℓ) : Prop :=
  True

def Pre_RowFirstIdeal (m : (ℓ : Loc Cert.RowFirstIdeal.nD Cert.RowFirstIdeal.τ Cert.RowFirstIdeal.sig) → Buf (Elt Ideal) ℓ) : Prop :=
  True

def Pre_RowFirstReferenceIdeal (m : (ℓ : Loc Cert.RowFirstReferenceIdeal.nD Cert.RowFirstReferenceIdeal.τ Cert.RowFirstReferenceIdeal.sig) → Buf (Elt Ideal) ℓ) : Prop :=
  True

def Pre_RowBwd (m : (ℓ : Loc Cert.RowBwd.nD Cert.RowBwd.τ Cert.RowBwd.sig) → Buf (Elt Bits) ℓ) : Prop :=
  True

def Pre_RowBwdIdeal (m : (ℓ : Loc Cert.RowBwdIdeal.nD Cert.RowBwdIdeal.τ Cert.RowBwdIdeal.sig) → Buf (Elt Ideal) ℓ) : Prop :=
  True

def Pre_RowBwdReferenceIdeal (m : (ℓ : Loc Cert.RowBwdReferenceIdeal.nD Cert.RowBwdReferenceIdeal.τ Cert.RowBwdReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_PwOneFwd (m : (ℓ : Loc Cert.PwOneFwd.nD Cert.PwOneFwd.τ Cert.PwOneFwd.sig) → Buf (Elt Bits) ℓ) : Prop :=
  True

def Pre_PwOneFwdIdeal (m : (ℓ : Loc Cert.PwOneFwdIdeal.nD Cert.PwOneFwdIdeal.τ Cert.PwOneFwdIdeal.sig) → Buf (Elt Ideal) ℓ) : Prop :=
  True

def Pre_PwOneFwdReferenceIdeal (m : (ℓ : Loc Cert.PwOneFwdReferenceIdeal.nD Cert.PwOneFwdReferenceIdeal.τ Cert.PwOneFwdReferenceIdeal.sig) → Buf (Elt Ideal) ℓ) : Prop :=
  True

def Pre_PwTwoFwd (m : (ℓ : Loc Cert.PwTwoFwd.nD Cert.PwTwoFwd.τ Cert.PwTwoFwd.sig) → Buf (Elt Bits) ℓ) : Prop :=
  True

def Pre_PwTwoFwdIdeal (m : (ℓ : Loc Cert.PwTwoFwdIdeal.nD Cert.PwTwoFwdIdeal.τ Cert.PwTwoFwdIdeal.sig) → Buf (Elt Ideal) ℓ) : Prop :=
  True

def Pre_PwTwoFwdReferenceIdeal (m : (ℓ : Loc Cert.PwTwoFwdReferenceIdeal.nD Cert.PwTwoFwdReferenceIdeal.τ Cert.PwTwoFwdReferenceIdeal.sig) → Buf (Elt Ideal) ℓ) : Prop :=
  True

def Pre_RetInFwd (m : (ℓ : Loc Cert.RetInFwd.nD Cert.RetInFwd.τ Cert.RetInFwd.sig) → Buf (Elt Bits) ℓ) : Prop :=
  True

def Pre_RetInFwdIdeal (m : (ℓ : Loc Cert.RetInFwdIdeal.nD Cert.RetInFwdIdeal.τ Cert.RetInFwdIdeal.sig) → Buf (Elt Ideal) ℓ) : Prop :=
  True

def Pre_RetInFwdReferenceIdeal (m : (ℓ : Loc Cert.RetInFwdReferenceIdeal.nD Cert.RetInFwdReferenceIdeal.τ Cert.RetInFwdReferenceIdeal.sig) → Buf (Elt Ideal) ℓ) : Prop :=
  True

def Pre_RetOutFwd (m : (ℓ : Loc Cert.RetOutFwd.nD Cert.RetOutFwd.τ Cert.RetOutFwd.sig) → Buf (Elt Bits) ℓ) : Prop :=
  True

def Pre_RetOutFwdIdeal (m : (ℓ : Loc Cert.RetOutFwdIdeal.nD Cert.RetOutFwdIdeal.τ Cert.RetOutFwdIdeal.sig) → Buf (Elt Ideal) ℓ) : Prop :=
  True

def Pre_RetOutFwdReferenceIdeal (m : (ℓ : Loc Cert.RetOutFwdReferenceIdeal.nD Cert.RetOutFwdReferenceIdeal.τ Cert.RetOutFwdReferenceIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdReferenceIdeal (m : (ℓ : Loc Cert.UpFwdReferenceIdeal.nD Cert.UpFwdReferenceIdeal.τ Cert.UpFwdReferenceIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdReferenceIdeal (m : (ℓ : Loc Cert.DownFwdReferenceIdeal.nD Cert.DownFwdReferenceIdeal.τ Cert.DownFwdReferenceIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdReferenceIdeal (m : (ℓ : Loc Cert.AdaFwdReferenceIdeal.nD Cert.AdaFwdReferenceIdeal.τ Cert.AdaFwdReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_PwTwoDx (m : (ℓ : Loc Cert.PwTwoDx.nD Cert.PwTwoDx.τ Cert.PwTwoDx.sig) → Buf (Elt Bits) ℓ) : Prop :=
  True

def Pre_PwTwoDxIdeal (m : (ℓ : Loc Cert.PwTwoDxIdeal.nD Cert.PwTwoDxIdeal.τ Cert.PwTwoDxIdeal.sig) → Buf (Elt Ideal) ℓ) : Prop :=
  True

def Pre_PwTwoDxReferenceIdeal (m : (ℓ : Loc Cert.PwTwoDxReferenceIdeal.nD Cert.PwTwoDxReferenceIdeal.τ Cert.PwTwoDxReferenceIdeal.sig) → Buf (Elt Ideal) ℓ) : Prop :=
  True

def Pre_PwTwoDw (m : (ℓ : Loc Cert.PwTwoDw.nD Cert.PwTwoDw.τ Cert.PwTwoDw.sig) → Buf (Elt Bits) ℓ) : Prop :=
  True

def Pre_PwTwoDwIdeal (m : (ℓ : Loc Cert.PwTwoDwIdeal.nD Cert.PwTwoDwIdeal.τ Cert.PwTwoDwIdeal.sig) → Buf (Elt Ideal) ℓ) : Prop :=
  True

def Pre_PwTwoDwReferenceIdeal (m : (ℓ : Loc Cert.PwTwoDwReferenceIdeal.nD Cert.PwTwoDwReferenceIdeal.τ Cert.PwTwoDwReferenceIdeal.sig) → Buf (Elt Ideal) ℓ) : Prop :=
  True

def Pre_PwOneDw (m : (ℓ : Loc Cert.PwOneDw.nD Cert.PwOneDw.τ Cert.PwOneDw.sig) → Buf (Elt Bits) ℓ) : Prop :=
  True

def Pre_PwOneDwIdeal (m : (ℓ : Loc Cert.PwOneDwIdeal.nD Cert.PwOneDwIdeal.τ Cert.PwOneDwIdeal.sig) → Buf (Elt Ideal) ℓ) : Prop :=
  True

def Pre_PwOneDwReferenceIdeal (m : (ℓ : Loc Cert.PwOneDwReferenceIdeal.nD Cert.PwOneDwReferenceIdeal.τ Cert.PwOneDwReferenceIdeal.sig) → Buf (Elt Ideal) ℓ) : Prop :=
  True

def Pre_PwOneDx (m : (ℓ : Loc Cert.PwOneDx.nD Cert.PwOneDx.τ Cert.PwOneDx.sig) → Buf (Elt Bits) ℓ) : Prop :=
  True

def Pre_PwOneDxIdeal (m : (ℓ : Loc Cert.PwOneDxIdeal.nD Cert.PwOneDxIdeal.τ Cert.PwOneDxIdeal.sig) → Buf (Elt Ideal) ℓ) : Prop :=
  True

def Pre_PwOneDxReferenceIdeal (m : (ℓ : Loc Cert.PwOneDxReferenceIdeal.nD Cert.PwOneDxReferenceIdeal.τ Cert.PwOneDxReferenceIdeal.sig) → Buf (Elt Ideal) ℓ) : Prop :=
  True

def Pre_RetOutDx (m : (ℓ : Loc Cert.RetOutDx.nD Cert.RetOutDx.τ Cert.RetOutDx.sig) → Buf (Elt Bits) ℓ) : Prop :=
  True

def Pre_RetOutDxIdeal (m : (ℓ : Loc Cert.RetOutDxIdeal.nD Cert.RetOutDxIdeal.τ Cert.RetOutDxIdeal.sig) → Buf (Elt Ideal) ℓ) : Prop :=
  True

def Pre_RetOutDxReferenceIdeal (m : (ℓ : Loc Cert.RetOutDxReferenceIdeal.nD Cert.RetOutDxReferenceIdeal.τ Cert.RetOutDxReferenceIdeal.sig) → Buf (Elt Ideal) ℓ) : Prop :=
  True

def Pre_RetOutDw (m : (ℓ : Loc Cert.RetOutDw.nD Cert.RetOutDw.τ Cert.RetOutDw.sig) → Buf (Elt Bits) ℓ) : Prop :=
  True

def Pre_RetOutDwIdeal (m : (ℓ : Loc Cert.RetOutDwIdeal.nD Cert.RetOutDwIdeal.τ Cert.RetOutDwIdeal.sig) → Buf (Elt Ideal) ℓ) : Prop :=
  True

def Pre_RetOutDwReferenceIdeal (m : (ℓ : Loc Cert.RetOutDwReferenceIdeal.nD Cert.RetOutDwReferenceIdeal.τ Cert.RetOutDwReferenceIdeal.sig) → Buf (Elt Ideal) ℓ) : Prop :=
  True

def Pre_RetInDw (m : (ℓ : Loc Cert.RetInDw.nD Cert.RetInDw.τ Cert.RetInDw.sig) → Buf (Elt Bits) ℓ) : Prop :=
  True

def Pre_RetInDwIdeal (m : (ℓ : Loc Cert.RetInDwIdeal.nD Cert.RetInDwIdeal.τ Cert.RetInDwIdeal.sig) → Buf (Elt Ideal) ℓ) : Prop :=
  True

def Pre_RetInDwReferenceIdeal (m : (ℓ : Loc Cert.RetInDwReferenceIdeal.nD Cert.RetInDwReferenceIdeal.τ Cert.RetInDwReferenceIdeal.sig) → Buf (Elt Ideal) ℓ) : Prop :=
  True

def Pre_RetInDx (m : (ℓ : Loc Cert.RetInDx.nD Cert.RetInDx.τ Cert.RetInDx.sig) → Buf (Elt Bits) ℓ) : Prop :=
  True

def Pre_RetInDxIdeal (m : (ℓ : Loc Cert.RetInDxIdeal.nD Cert.RetInDxIdeal.τ Cert.RetInDxIdeal.sig) → Buf (Elt Ideal) ℓ) : Prop :=
  True

def Pre_RetInDxReferenceIdeal (m : (ℓ : Loc Cert.RetInDxReferenceIdeal.nD Cert.RetInDxReferenceIdeal.τ Cert.RetInDxReferenceIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwReferenceIdeal (m : (ℓ : Loc Cert.AdaDwReferenceIdeal.nD Cert.AdaDwReferenceIdeal.τ Cert.AdaDwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4)
      ∧ r.2.mem ((c.tc : Thread Cert.Scatter.nD Cert.Scatter.τ).loc Cert.Scatter.main_arg5) = m ((c.tc : Thread Cert.Scatter.nD Cert.Scatter.τ).loc Cert.Scatter.main_arg5)
      ∧ r.2.mem ((c.tc : Thread Cert.Scatter.nD Cert.Scatter.τ).loc Cert.Scatter.main_arg6) = m ((c.tc : Thread Cert.Scatter.nD Cert.Scatter.τ).loc Cert.Scatter.main_arg6)
      ∧ r.2.mem ((c.tc : Thread Cert.Scatter.nD Cert.Scatter.τ).loc Cert.Scatter.main_arg7) = m ((c.tc : Thread Cert.Scatter.nD Cert.Scatter.τ).loc Cert.Scatter.main_arg7)
      ∧ r.2.mem ((c.tc : Thread Cert.Scatter.nD Cert.Scatter.τ).loc Cert.Scatter.main_arg8) = m ((c.tc : Thread Cert.Scatter.nD Cert.Scatter.τ).loc Cert.Scatter.main_arg8)
      ∧ r.2.mem ((c.tc : Thread Cert.Scatter.nD Cert.Scatter.τ).loc Cert.Scatter.main_arg9) = m ((c.tc : Thread Cert.Scatter.nD Cert.Scatter.τ).loc Cert.Scatter.main_arg9)
      ∧ r.2.mem ((c.tc : Thread Cert.Scatter.nD Cert.Scatter.τ).loc Cert.Scatter.main_arg10) = m ((c.tc : Thread Cert.Scatter.nD Cert.Scatter.τ).loc Cert.Scatter.main_arg10)
      ∧ r.2.mem ((c.tc : Thread Cert.Scatter.nD Cert.Scatter.τ).loc Cert.Scatter.main_arg11) = m ((c.tc : Thread Cert.Scatter.nD Cert.Scatter.τ).loc Cert.Scatter.main_arg11)
      ∧ r.2.mem ((c.tc : Thread Cert.Scatter.nD Cert.Scatter.τ).loc Cert.Scatter.main_arg12) = m ((c.tc : Thread Cert.Scatter.nD Cert.Scatter.τ).loc Cert.Scatter.main_arg12)
      ∧ r.2.mem ((c.tc : Thread Cert.Scatter.nD Cert.Scatter.τ).loc Cert.Scatter.main_arg13) = m ((c.tc : Thread Cert.Scatter.nD Cert.Scatter.τ).loc Cert.Scatter.main_arg13)
      ∧ r.2.mem ((c.tc : Thread Cert.Scatter.nD Cert.Scatter.τ).loc Cert.Scatter.main_arg14) = m ((c.tc : Thread Cert.Scatter.nD Cert.Scatter.τ).loc Cert.Scatter.main_arg14)
      ∧ r.2.mem ((c.tc : Thread Cert.Scatter.nD Cert.Scatter.τ).loc Cert.Scatter.main_arg15) = m ((c.tc : Thread Cert.Scatter.nD Cert.Scatter.τ).loc Cert.Scatter.main_arg15))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
      ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
      ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6)
      ∧ r.2.mem ((c.tc : Thread Cert.ScatterIdeal.nD Cert.ScatterIdeal.τ).loc Cert.ScatterIdeal.main_arg7) = m ((c.tc : Thread Cert.ScatterIdeal.nD Cert.ScatterIdeal.τ).loc Cert.ScatterIdeal.main_arg7)
      ∧ r.2.mem ((c.tc : Thread Cert.ScatterIdeal.nD Cert.ScatterIdeal.τ).loc Cert.ScatterIdeal.main_arg8) = m ((c.tc : Thread Cert.ScatterIdeal.nD Cert.ScatterIdeal.τ).loc Cert.ScatterIdeal.main_arg8)
      ∧ r.2.mem ((c.tc : Thread Cert.ScatterIdeal.nD Cert.ScatterIdeal.τ).loc Cert.ScatterIdeal.main_arg9) = m ((c.tc : Thread Cert.ScatterIdeal.nD Cert.ScatterIdeal.τ).loc Cert.ScatterIdeal.main_arg9)
      ∧ r.2.mem ((c.tc : Thread Cert.ScatterIdeal.nD Cert.ScatterIdeal.τ).loc Cert.ScatterIdeal.main_arg10) = m ((c.tc : Thread Cert.ScatterIdeal.nD Cert.ScatterIdeal.τ).loc Cert.ScatterIdeal.main_arg10)
      ∧ r.2.mem ((c.tc : Thread Cert.ScatterIdeal.nD Cert.ScatterIdeal.τ).loc Cert.ScatterIdeal.main_arg11) = m ((c.tc : Thread Cert.ScatterIdeal.nD Cert.ScatterIdeal.τ).loc Cert.ScatterIdeal.main_arg11)
      ∧ r.2.mem ((c.tc : Thread Cert.ScatterIdeal.nD Cert.ScatterIdeal.τ).loc Cert.ScatterIdeal.main_arg12) = m ((c.tc : Thread Cert.ScatterIdeal.nD Cert.ScatterIdeal.τ).loc Cert.ScatterIdeal.main_arg12)
      ∧ r.2.mem ((c.tc : Thread Cert.ScatterIdeal.nD Cert.ScatterIdeal.τ).loc Cert.ScatterIdeal.main_arg13) = m ((c.tc : Thread Cert.ScatterIdeal.nD Cert.ScatterIdeal.τ).loc Cert.ScatterIdeal.main_arg13)
      ∧ r.2.mem ((c.tc : Thread Cert.ScatterIdeal.nD Cert.ScatterIdeal.τ).loc Cert.ScatterIdeal.main_arg14) = m ((c.tc : Thread Cert.ScatterIdeal.nD Cert.ScatterIdeal.τ).loc Cert.ScatterIdeal.main_arg14)
      ∧ r.2.mem ((c.tc : Thread Cert.ScatterIdeal.nD Cert.ScatterIdeal.τ).loc Cert.ScatterIdeal.main_arg15) = m ((c.tc : Thread Cert.ScatterIdeal.nD Cert.ScatterIdeal.τ).loc Cert.ScatterIdeal.main_arg15))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1)
      ∧ r.2.mem ((c.tc : Thread Cert.ScatterReferenceIdeal.nD Cert.ScatterReferenceIdeal.τ).loc Cert.ScatterReferenceIdeal.main_arg2) = m ((c.tc : Thread Cert.ScatterReferenceIdeal.nD Cert.ScatterReferenceIdeal.τ).loc Cert.ScatterReferenceIdeal.main_arg2)
      ∧ r.2.mem ((c.tc : Thread Cert.ScatterReferenceIdeal.nD Cert.ScatterReferenceIdeal.τ).loc Cert.ScatterReferenceIdeal.main_arg3) = m ((c.tc : Thread Cert.ScatterReferenceIdeal.nD Cert.ScatterReferenceIdeal.τ).loc Cert.ScatterReferenceIdeal.main_arg3)
      ∧ r.2.mem ((c.tc : Thread Cert.ScatterReferenceIdeal.nD Cert.ScatterReferenceIdeal.τ).loc Cert.ScatterReferenceIdeal.main_arg4) = m ((c.tc : Thread Cert.ScatterReferenceIdeal.nD Cert.ScatterReferenceIdeal.τ).loc Cert.ScatterReferenceIdeal.main_arg4)
      ∧ r.2.mem ((c.tc : Thread Cert.ScatterReferenceIdeal.nD Cert.ScatterReferenceIdeal.τ).loc Cert.ScatterReferenceIdeal.main_arg5) = m ((c.tc : Thread Cert.ScatterReferenceIdeal.nD Cert.ScatterReferenceIdeal.τ).loc Cert.ScatterReferenceIdeal.main_arg5)
      ∧ r.2.mem ((c.tc : Thread Cert.ScatterReferenceIdeal.nD Cert.ScatterReferenceIdeal.τ).loc Cert.ScatterReferenceIdeal.main_arg6) = m ((c.tc : Thread Cert.ScatterReferenceIdeal.nD Cert.ScatterReferenceIdeal.τ).loc Cert.ScatterReferenceIdeal.main_arg6)
      ∧ r.2.mem ((c.tc : Thread Cert.ScatterReferenceIdeal.nD Cert.ScatterReferenceIdeal.τ).loc Cert.ScatterReferenceIdeal.main_arg7) = m ((c.tc : Thread Cert.ScatterReferenceIdeal.nD Cert.ScatterReferenceIdeal.τ).loc Cert.ScatterReferenceIdeal.main_arg7)
      ∧ r.2.mem ((c.tc : Thread Cert.ScatterReferenceIdeal.nD Cert.ScatterReferenceIdeal.τ).loc Cert.ScatterReferenceIdeal.main_arg8) = m ((c.tc : Thread Cert.ScatterReferenceIdeal.nD Cert.ScatterReferenceIdeal.τ).loc Cert.ScatterReferenceIdeal.main_arg8)
      ∧ r.2.mem ((c.tc : Thread Cert.ScatterReferenceIdeal.nD Cert.ScatterReferenceIdeal.τ).loc Cert.ScatterReferenceIdeal.main_arg9) = m ((c.tc : Thread Cert.ScatterReferenceIdeal.nD Cert.ScatterReferenceIdeal.τ).loc Cert.ScatterReferenceIdeal.main_arg9)
      ∧ r.2.mem ((c.tc : Thread Cert.ScatterReferenceIdeal.nD Cert.ScatterReferenceIdeal.τ).loc Cert.ScatterReferenceIdeal.main_arg10) = m ((c.tc : Thread Cert.ScatterReferenceIdeal.nD Cert.ScatterReferenceIdeal.τ).loc Cert.ScatterReferenceIdeal.main_arg10)
      ∧ r.2.mem ((c.tc : Thread Cert.ScatterReferenceIdeal.nD Cert.ScatterReferenceIdeal.τ).loc Cert.ScatterReferenceIdeal.main_arg11) = m ((c.tc : Thread Cert.ScatterReferenceIdeal.nD Cert.ScatterReferenceIdeal.τ).loc Cert.ScatterReferenceIdeal.main_arg11)
      ∧ r.2.mem ((c.tc : Thread Cert.ScatterReferenceIdeal.nD Cert.ScatterReferenceIdeal.τ).loc Cert.ScatterReferenceIdeal.main_arg12) = m ((c.tc : Thread Cert.ScatterReferenceIdeal.nD Cert.ScatterReferenceIdeal.τ).loc Cert.ScatterReferenceIdeal.main_arg12)
      ∧ r.2.mem ((c.tc : Thread Cert.ScatterReferenceIdeal.nD Cert.ScatterReferenceIdeal.τ).loc Cert.ScatterReferenceIdeal.main_arg13) = m ((c.tc : Thread Cert.ScatterReferenceIdeal.nD Cert.ScatterReferenceIdeal.τ).loc Cert.ScatterReferenceIdeal.main_arg13)
      ∧ r.2.mem ((c.tc : Thread Cert.ScatterReferenceIdeal.nD Cert.ScatterReferenceIdeal.τ).loc Cert.ScatterReferenceIdeal.main_arg14) = m ((c.tc : Thread Cert.ScatterReferenceIdeal.nD Cert.ScatterReferenceIdeal.τ).loc Cert.ScatterReferenceIdeal.main_arg14)
      ∧ r.2.mem ((c.tc : Thread Cert.ScatterReferenceIdeal.nD Cert.ScatterReferenceIdeal.τ).loc Cert.ScatterReferenceIdeal.main_arg15) = m ((c.tc : Thread Cert.ScatterReferenceIdeal.nD Cert.ScatterReferenceIdeal.τ).loc Cert.ScatterReferenceIdeal.main_arg15))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7)
      ∧ r.2.mem ((c.tc : Thread Cert.Gather.nD Cert.Gather.τ).loc Cert.Gather.main_arg8) = m ((c.tc : Thread Cert.Gather.nD Cert.Gather.τ).loc Cert.Gather.main_arg8)
      ∧ r.2.mem ((c.tc : Thread Cert.Gather.nD Cert.Gather.τ).loc Cert.Gather.main_arg9) = m ((c.tc : Thread Cert.Gather.nD Cert.Gather.τ).loc Cert.Gather.main_arg9)
      ∧ r.2.mem ((c.tc : Thread Cert.Gather.nD Cert.Gather.τ).loc Cert.Gather.main_arg10) = m ((c.tc : Thread Cert.Gather.nD Cert.Gather.τ).loc Cert.Gather.main_arg10)
      ∧ r.2.mem ((c.tc : Thread Cert.Gather.nD Cert.Gather.τ).loc Cert.Gather.main_arg11) = m ((c.tc : Thread Cert.Gather.nD Cert.Gather.τ).loc Cert.Gather.main_arg11)
      ∧ r.2.mem ((c.tc : Thread Cert.Gather.nD Cert.Gather.τ).loc Cert.Gather.main_arg12) = m ((c.tc : Thread Cert.Gather.nD Cert.Gather.τ).loc Cert.Gather.main_arg12)
      ∧ r.2.mem ((c.tc : Thread Cert.Gather.nD Cert.Gather.τ).loc Cert.Gather.main_arg13) = m ((c.tc : Thread Cert.Gather.nD Cert.Gather.τ).loc Cert.Gather.main_arg13)
      ∧ r.2.mem ((c.tc : Thread Cert.Gather.nD Cert.Gather.τ).loc Cert.Gather.main_arg14) = m ((c.tc : Thread Cert.Gather.nD Cert.Gather.τ).loc Cert.Gather.main_arg14)
      ∧ r.2.mem ((c.tc : Thread Cert.Gather.nD Cert.Gather.τ).loc Cert.Gather.main_arg15) = m ((c.tc : Thread Cert.Gather.nD Cert.Gather.τ).loc Cert.Gather.main_arg15)
      ∧ r.2.mem ((c.tc : Thread Cert.Gather.nD Cert.Gather.τ).loc Cert.Gather.main_arg16) = m ((c.tc : Thread Cert.Gather.nD Cert.Gather.τ).loc Cert.Gather.main_arg16)
      ∧ r.2.mem ((c.tc : Thread Cert.Gather.nD Cert.Gather.τ).loc Cert.Gather.main_arg17) = m ((c.tc : Thread Cert.Gather.nD Cert.Gather.τ).loc Cert.Gather.main_arg17)
      ∧ r.2.mem ((c.tc : Thread Cert.Gather.nD Cert.Gather.τ).loc Cert.Gather.main_arg18) = m ((c.tc : Thread Cert.Gather.nD Cert.Gather.τ).loc Cert.Gather.main_arg18))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
      ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8)
      ∧ r.2.mem ((c.tc : Thread Cert.GatherIdeal.nD Cert.GatherIdeal.τ).loc Cert.GatherIdeal.main_arg9) = m ((c.tc : Thread Cert.GatherIdeal.nD Cert.GatherIdeal.τ).loc Cert.GatherIdeal.main_arg9)
      ∧ r.2.mem ((c.tc : Thread Cert.GatherIdeal.nD Cert.GatherIdeal.τ).loc Cert.GatherIdeal.main_arg10) = m ((c.tc : Thread Cert.GatherIdeal.nD Cert.GatherIdeal.τ).loc Cert.GatherIdeal.main_arg10)
      ∧ r.2.mem ((c.tc : Thread Cert.GatherIdeal.nD Cert.GatherIdeal.τ).loc Cert.GatherIdeal.main_arg11) = m ((c.tc : Thread Cert.GatherIdeal.nD Cert.GatherIdeal.τ).loc Cert.GatherIdeal.main_arg11)
      ∧ r.2.mem ((c.tc : Thread Cert.GatherIdeal.nD Cert.GatherIdeal.τ).loc Cert.GatherIdeal.main_arg12) = m ((c.tc : Thread Cert.GatherIdeal.nD Cert.GatherIdeal.τ).loc Cert.GatherIdeal.main_arg12)
      ∧ r.2.mem ((c.tc : Thread Cert.GatherIdeal.nD Cert.GatherIdeal.τ).loc Cert.GatherIdeal.main_arg13) = m ((c.tc : Thread Cert.GatherIdeal.nD Cert.GatherIdeal.τ).loc Cert.GatherIdeal.main_arg13)
      ∧ r.2.mem ((c.tc : Thread Cert.GatherIdeal.nD Cert.GatherIdeal.τ).loc Cert.GatherIdeal.main_arg14) = m ((c.tc : Thread Cert.GatherIdeal.nD Cert.GatherIdeal.τ).loc Cert.GatherIdeal.main_arg14)
      ∧ r.2.mem ((c.tc : Thread Cert.GatherIdeal.nD Cert.GatherIdeal.τ).loc Cert.GatherIdeal.main_arg15) = m ((c.tc : Thread Cert.GatherIdeal.nD Cert.GatherIdeal.τ).loc Cert.GatherIdeal.main_arg15)
      ∧ r.2.mem ((c.tc : Thread Cert.GatherIdeal.nD Cert.GatherIdeal.τ).loc Cert.GatherIdeal.main_arg16) = m ((c.tc : Thread Cert.GatherIdeal.nD Cert.GatherIdeal.τ).loc Cert.GatherIdeal.main_arg16)
      ∧ r.2.mem ((c.tc : Thread Cert.GatherIdeal.nD Cert.GatherIdeal.τ).loc Cert.GatherIdeal.main_arg17) = m ((c.tc : Thread Cert.GatherIdeal.nD Cert.GatherIdeal.τ).loc Cert.GatherIdeal.main_arg17)
      ∧ r.2.mem ((c.tc : Thread Cert.GatherIdeal.nD Cert.GatherIdeal.τ).loc Cert.GatherIdeal.main_arg18) = m ((c.tc : Thread Cert.GatherIdeal.nD Cert.GatherIdeal.τ).loc Cert.GatherIdeal.main_arg18))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5)
      ∧ r.2.mem ((c.tc : Thread Cert.GatherReferenceIdeal.nD Cert.GatherReferenceIdeal.τ).loc Cert.GatherReferenceIdeal.main_arg6) = m ((c.tc : Thread Cert.GatherReferenceIdeal.nD Cert.GatherReferenceIdeal.τ).loc Cert.GatherReferenceIdeal.main_arg6)
      ∧ r.2.mem ((c.tc : Thread Cert.GatherReferenceIdeal.nD Cert.GatherReferenceIdeal.τ).loc Cert.GatherReferenceIdeal.main_arg7) = m ((c.tc : Thread Cert.GatherReferenceIdeal.nD Cert.GatherReferenceIdeal.τ).loc Cert.GatherReferenceIdeal.main_arg7)
      ∧ r.2.mem ((c.tc : Thread Cert.GatherReferenceIdeal.nD Cert.GatherReferenceIdeal.τ).loc Cert.GatherReferenceIdeal.main_arg8) = m ((c.tc : Thread Cert.GatherReferenceIdeal.nD Cert.GatherReferenceIdeal.τ).loc Cert.GatherReferenceIdeal.main_arg8)
      ∧ r.2.mem ((c.tc : Thread Cert.GatherReferenceIdeal.nD Cert.GatherReferenceIdeal.τ).loc Cert.GatherReferenceIdeal.main_arg9) = m ((c.tc : Thread Cert.GatherReferenceIdeal.nD Cert.GatherReferenceIdeal.τ).loc Cert.GatherReferenceIdeal.main_arg9)
      ∧ r.2.mem ((c.tc : Thread Cert.GatherReferenceIdeal.nD Cert.GatherReferenceIdeal.τ).loc Cert.GatherReferenceIdeal.main_arg10) = m ((c.tc : Thread Cert.GatherReferenceIdeal.nD Cert.GatherReferenceIdeal.τ).loc Cert.GatherReferenceIdeal.main_arg10)
      ∧ r.2.mem ((c.tc : Thread Cert.GatherReferenceIdeal.nD Cert.GatherReferenceIdeal.τ).loc Cert.GatherReferenceIdeal.main_arg11) = m ((c.tc : Thread Cert.GatherReferenceIdeal.nD Cert.GatherReferenceIdeal.τ).loc Cert.GatherReferenceIdeal.main_arg11)
      ∧ r.2.mem ((c.tc : Thread Cert.GatherReferenceIdeal.nD Cert.GatherReferenceIdeal.τ).loc Cert.GatherReferenceIdeal.main_arg12) = m ((c.tc : Thread Cert.GatherReferenceIdeal.nD Cert.GatherReferenceIdeal.τ).loc Cert.GatherReferenceIdeal.main_arg12)
      ∧ r.2.mem ((c.tc : Thread Cert.GatherReferenceIdeal.nD Cert.GatherReferenceIdeal.τ).loc Cert.GatherReferenceIdeal.main_arg13) = m ((c.tc : Thread Cert.GatherReferenceIdeal.nD Cert.GatherReferenceIdeal.τ).loc Cert.GatherReferenceIdeal.main_arg13)
      ∧ r.2.mem ((c.tc : Thread Cert.GatherReferenceIdeal.nD Cert.GatherReferenceIdeal.τ).loc Cert.GatherReferenceIdeal.main_arg14) = m ((c.tc : Thread Cert.GatherReferenceIdeal.nD Cert.GatherReferenceIdeal.τ).loc Cert.GatherReferenceIdeal.main_arg14)
      ∧ r.2.mem ((c.tc : Thread Cert.GatherReferenceIdeal.nD Cert.GatherReferenceIdeal.τ).loc Cert.GatherReferenceIdeal.main_arg15) = m ((c.tc : Thread Cert.GatherReferenceIdeal.nD Cert.GatherReferenceIdeal.τ).loc Cert.GatherReferenceIdeal.main_arg15)
      ∧ r.2.mem ((c.tc : Thread Cert.GatherReferenceIdeal.nD Cert.GatherReferenceIdeal.τ).loc Cert.GatherReferenceIdeal.main_arg16) = m ((c.tc : Thread Cert.GatherReferenceIdeal.nD Cert.GatherReferenceIdeal.τ).loc Cert.GatherReferenceIdeal.main_arg16)
      ∧ r.2.mem ((c.tc : Thread Cert.GatherReferenceIdeal.nD Cert.GatherReferenceIdeal.τ).loc Cert.GatherReferenceIdeal.main_arg17) = m ((c.tc : Thread Cert.GatherReferenceIdeal.nD Cert.GatherReferenceIdeal.τ).loc Cert.GatherReferenceIdeal.main_arg17)
      ∧ r.2.mem ((c.tc : Thread Cert.GatherReferenceIdeal.nD Cert.GatherReferenceIdeal.τ).loc Cert.GatherReferenceIdeal.main_arg18) = m ((c.tc : Thread Cert.GatherReferenceIdeal.nD Cert.GatherReferenceIdeal.τ).loc Cert.GatherReferenceIdeal.main_arg18))
      ∧ r.2.sem = fun _ => 0)

def quiescent_PwOne [hPwOne : Cert.PwOne.Facts] : Prop :=
  ∀ (m : (ℓ : Loc Cert.PwOne.nD Cert.PwOne.τ Cert.PwOne.sig) → Buf (Elt Bits) ℓ) (g : Dev Cert.PwOne.nD → PrngReg), Pre_PwOne m →
    θ_run (Cert.PwOne.defs (F := Bits)) (onTc (τ := Cert.PwOne.τ) (Cert.PwOne.main (F := Bits))) ⟨m, fun _ => 0, g⟩ (fun r => (∀ c : Dev Cert.PwOne.nD,
      r.2.mem ((c.tc : Thread Cert.PwOne.nD Cert.PwOne.τ).loc Cert.PwOne.main_arg0) = m ((c.tc : Thread Cert.PwOne.nD Cert.PwOne.τ).loc Cert.PwOne.main_arg0)
      ∧ r.2.mem ((c.tc : Thread Cert.PwOne.nD Cert.PwOne.τ).loc Cert.PwOne.main_arg1) = m ((c.tc : Thread Cert.PwOne.nD Cert.PwOne.τ).loc Cert.PwOne.main_arg1)
      ∧ r.2.mem ((c.tc : Thread Cert.PwOne.nD Cert.PwOne.τ).loc Cert.PwOne.main_arg2) = m ((c.tc : Thread Cert.PwOne.nD Cert.PwOne.τ).loc Cert.PwOne.main_arg2)
      ∧ r.2.mem ((c.tc : Thread Cert.PwOne.nD Cert.PwOne.τ).loc Cert.PwOne.main_arg3) = m ((c.tc : Thread Cert.PwOne.nD Cert.PwOne.τ).loc Cert.PwOne.main_arg3))
      ∧ r.2.sem = fun _ => 0)

def quiescent_PwOneIdeal [hPwOneIdeal : Cert.PwOneIdeal.Facts] : Prop :=
  ∀ (m : (ℓ : Loc Cert.PwOneIdeal.nD Cert.PwOneIdeal.τ Cert.PwOneIdeal.sig) → Buf (Elt Ideal) ℓ) (g : Dev Cert.PwOneIdeal.nD → PrngReg), Pre_PwOneIdeal m →
    θ_run (Cert.PwOneIdeal.defs (F := Ideal)) (onTc (τ := Cert.PwOneIdeal.τ) (Cert.PwOneIdeal.main (F := Ideal))) ⟨m, fun _ => 0, g⟩ (fun r => (∀ c : Dev Cert.PwOneIdeal.nD,
      r.2.mem ((c.tc : Thread Cert.PwOneIdeal.nD Cert.PwOneIdeal.τ).loc Cert.PwOneIdeal.main_arg0) = m ((c.tc : Thread Cert.PwOneIdeal.nD Cert.PwOneIdeal.τ).loc Cert.PwOneIdeal.main_arg0)
      ∧ r.2.mem ((c.tc : Thread Cert.PwOneIdeal.nD Cert.PwOneIdeal.τ).loc Cert.PwOneIdeal.main_arg1) = m ((c.tc : Thread Cert.PwOneIdeal.nD Cert.PwOneIdeal.τ).loc Cert.PwOneIdeal.main_arg1)
      ∧ r.2.mem ((c.tc : Thread Cert.PwOneIdeal.nD Cert.PwOneIdeal.τ).loc Cert.PwOneIdeal.main_arg2) = m ((c.tc : Thread Cert.PwOneIdeal.nD Cert.PwOneIdeal.τ).loc Cert.PwOneIdeal.main_arg2)
      ∧ r.2.mem ((c.tc : Thread Cert.PwOneIdeal.nD Cert.PwOneIdeal.τ).loc Cert.PwOneIdeal.main_arg3) = m ((c.tc : Thread Cert.PwOneIdeal.nD Cert.PwOneIdeal.τ).loc Cert.PwOneIdeal.main_arg3))
      ∧ r.2.sem = fun _ => 0)

def quiescent_PwOneReferenceIdeal [hPwOneReferenceIdeal : Cert.PwOneReferenceIdeal.Facts] : Prop :=
  ∀ (m : (ℓ : Loc Cert.PwOneReferenceIdeal.nD Cert.PwOneReferenceIdeal.τ Cert.PwOneReferenceIdeal.sig) → Buf (Elt Ideal) ℓ) (g : Dev Cert.PwOneReferenceIdeal.nD → PrngReg), Pre_PwOneReferenceIdeal m →
    θ_run (Cert.PwOneReferenceIdeal.defs (F := Ideal)) (onTc (τ := Cert.PwOneReferenceIdeal.τ) (Cert.PwOneReferenceIdeal.main (F := Ideal))) ⟨m, fun _ => 0, g⟩ (fun r => (∀ c : Dev Cert.PwOneReferenceIdeal.nD,
      r.2.mem ((c.tc : Thread Cert.PwOneReferenceIdeal.nD Cert.PwOneReferenceIdeal.τ).loc Cert.PwOneReferenceIdeal.main_arg0) = m ((c.tc : Thread Cert.PwOneReferenceIdeal.nD Cert.PwOneReferenceIdeal.τ).loc Cert.PwOneReferenceIdeal.main_arg0)
      ∧ r.2.mem ((c.tc : Thread Cert.PwOneReferenceIdeal.nD Cert.PwOneReferenceIdeal.τ).loc Cert.PwOneReferenceIdeal.main_arg1) = m ((c.tc : Thread Cert.PwOneReferenceIdeal.nD Cert.PwOneReferenceIdeal.τ).loc Cert.PwOneReferenceIdeal.main_arg1)
      ∧ r.2.mem ((c.tc : Thread Cert.PwOneReferenceIdeal.nD Cert.PwOneReferenceIdeal.τ).loc Cert.PwOneReferenceIdeal.main_arg2) = m ((c.tc : Thread Cert.PwOneReferenceIdeal.nD Cert.PwOneReferenceIdeal.τ).loc Cert.PwOneReferenceIdeal.main_arg2)
      ∧ r.2.mem ((c.tc : Thread Cert.PwOneReferenceIdeal.nD Cert.PwOneReferenceIdeal.τ).loc Cert.PwOneReferenceIdeal.main_arg3) = m ((c.tc : Thread Cert.PwOneReferenceIdeal.nD Cert.PwOneReferenceIdeal.τ).loc Cert.PwOneReferenceIdeal.main_arg3))
      ∧ r.2.sem = fun _ => 0)

def quiescent_PwTwo [hPwTwo : Cert.PwTwo.Facts] : Prop :=
  ∀ (m : (ℓ : Loc Cert.PwTwo.nD Cert.PwTwo.τ Cert.PwTwo.sig) → Buf (Elt Bits) ℓ) (g : Dev Cert.PwTwo.nD → PrngReg), Pre_PwTwo m →
    θ_run (Cert.PwTwo.defs (F := Bits)) (onTc (τ := Cert.PwTwo.τ) (Cert.PwTwo.main (F := Bits))) ⟨m, fun _ => 0, g⟩ (fun r => (∀ c : Dev Cert.PwTwo.nD,
      r.2.mem ((c.tc : Thread Cert.PwTwo.nD Cert.PwTwo.τ).loc Cert.PwTwo.main_arg0) = m ((c.tc : Thread Cert.PwTwo.nD Cert.PwTwo.τ).loc Cert.PwTwo.main_arg0)
      ∧ r.2.mem ((c.tc : Thread Cert.PwTwo.nD Cert.PwTwo.τ).loc Cert.PwTwo.main_arg1) = m ((c.tc : Thread Cert.PwTwo.nD Cert.PwTwo.τ).loc Cert.PwTwo.main_arg1)
      ∧ r.2.mem ((c.tc : Thread Cert.PwTwo.nD Cert.PwTwo.τ).loc Cert.PwTwo.main_arg2) = m ((c.tc : Thread Cert.PwTwo.nD Cert.PwTwo.τ).loc Cert.PwTwo.main_arg2)
      ∧ r.2.mem ((c.tc : Thread Cert.PwTwo.nD Cert.PwTwo.τ).loc Cert.PwTwo.main_arg3) = m ((c.tc : Thread Cert.PwTwo.nD Cert.PwTwo.τ).loc Cert.PwTwo.main_arg3))
      ∧ r.2.sem = fun _ => 0)

def quiescent_PwTwoIdeal [hPwTwoIdeal : Cert.PwTwoIdeal.Facts] : Prop :=
  ∀ (m : (ℓ : Loc Cert.PwTwoIdeal.nD Cert.PwTwoIdeal.τ Cert.PwTwoIdeal.sig) → Buf (Elt Ideal) ℓ) (g : Dev Cert.PwTwoIdeal.nD → PrngReg), Pre_PwTwoIdeal m →
    θ_run (Cert.PwTwoIdeal.defs (F := Ideal)) (onTc (τ := Cert.PwTwoIdeal.τ) (Cert.PwTwoIdeal.main (F := Ideal))) ⟨m, fun _ => 0, g⟩ (fun r => (∀ c : Dev Cert.PwTwoIdeal.nD,
      r.2.mem ((c.tc : Thread Cert.PwTwoIdeal.nD Cert.PwTwoIdeal.τ).loc Cert.PwTwoIdeal.main_arg0) = m ((c.tc : Thread Cert.PwTwoIdeal.nD Cert.PwTwoIdeal.τ).loc Cert.PwTwoIdeal.main_arg0)
      ∧ r.2.mem ((c.tc : Thread Cert.PwTwoIdeal.nD Cert.PwTwoIdeal.τ).loc Cert.PwTwoIdeal.main_arg1) = m ((c.tc : Thread Cert.PwTwoIdeal.nD Cert.PwTwoIdeal.τ).loc Cert.PwTwoIdeal.main_arg1)
      ∧ r.2.mem ((c.tc : Thread Cert.PwTwoIdeal.nD Cert.PwTwoIdeal.τ).loc Cert.PwTwoIdeal.main_arg2) = m ((c.tc : Thread Cert.PwTwoIdeal.nD Cert.PwTwoIdeal.τ).loc Cert.PwTwoIdeal.main_arg2)
      ∧ r.2.mem ((c.tc : Thread Cert.PwTwoIdeal.nD Cert.PwTwoIdeal.τ).loc Cert.PwTwoIdeal.main_arg3) = m ((c.tc : Thread Cert.PwTwoIdeal.nD Cert.PwTwoIdeal.τ).loc Cert.PwTwoIdeal.main_arg3))
      ∧ r.2.sem = fun _ => 0)

def quiescent_PwTwoReferenceIdeal [hPwTwoReferenceIdeal : Cert.PwTwoReferenceIdeal.Facts] : Prop :=
  ∀ (m : (ℓ : Loc Cert.PwTwoReferenceIdeal.nD Cert.PwTwoReferenceIdeal.τ Cert.PwTwoReferenceIdeal.sig) → Buf (Elt Ideal) ℓ) (g : Dev Cert.PwTwoReferenceIdeal.nD → PrngReg), Pre_PwTwoReferenceIdeal m →
    θ_run (Cert.PwTwoReferenceIdeal.defs (F := Ideal)) (onTc (τ := Cert.PwTwoReferenceIdeal.τ) (Cert.PwTwoReferenceIdeal.main (F := Ideal))) ⟨m, fun _ => 0, g⟩ (fun r => (∀ c : Dev Cert.PwTwoReferenceIdeal.nD,
      r.2.mem ((c.tc : Thread Cert.PwTwoReferenceIdeal.nD Cert.PwTwoReferenceIdeal.τ).loc Cert.PwTwoReferenceIdeal.main_arg0) = m ((c.tc : Thread Cert.PwTwoReferenceIdeal.nD Cert.PwTwoReferenceIdeal.τ).loc Cert.PwTwoReferenceIdeal.main_arg0)
      ∧ r.2.mem ((c.tc : Thread Cert.PwTwoReferenceIdeal.nD Cert.PwTwoReferenceIdeal.τ).loc Cert.PwTwoReferenceIdeal.main_arg1) = m ((c.tc : Thread Cert.PwTwoReferenceIdeal.nD Cert.PwTwoReferenceIdeal.τ).loc Cert.PwTwoReferenceIdeal.main_arg1)
      ∧ r.2.mem ((c.tc : Thread Cert.PwTwoReferenceIdeal.nD Cert.PwTwoReferenceIdeal.τ).loc Cert.PwTwoReferenceIdeal.main_arg2) = m ((c.tc : Thread Cert.PwTwoReferenceIdeal.nD Cert.PwTwoReferenceIdeal.τ).loc Cert.PwTwoReferenceIdeal.main_arg2)
      ∧ r.2.mem ((c.tc : Thread Cert.PwTwoReferenceIdeal.nD Cert.PwTwoReferenceIdeal.τ).loc Cert.PwTwoReferenceIdeal.main_arg3) = m ((c.tc : Thread Cert.PwTwoReferenceIdeal.nD Cert.PwTwoReferenceIdeal.τ).loc Cert.PwTwoReferenceIdeal.main_arg3))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1)
      ∧ r.2.mem ((c.tc : Thread Cert.RetIn.nD Cert.RetIn.τ).loc Cert.RetIn.main_arg2) = m ((c.tc : Thread Cert.RetIn.nD Cert.RetIn.τ).loc Cert.RetIn.main_arg2)
      ∧ r.2.mem ((c.tc : Thread Cert.RetIn.nD Cert.RetIn.τ).loc Cert.RetIn.main_arg3) = m ((c.tc : Thread Cert.RetIn.nD Cert.RetIn.τ).loc Cert.RetIn.main_arg3))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
      ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
      ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3))
      ∧ r.2.sem = fun _ => 0)

def quiescent_RetInReferenceIdeal [hRetInReferenceIdeal : Cert.RetInReferenceIdeal.Facts] : Prop :=
  ∀ (m : (ℓ : Loc Cert.RetInReferenceIdeal.nD Cert.RetInReferenceIdeal.τ Cert.RetInReferenceIdeal.sig) → Buf (Elt Ideal) ℓ) (g : Dev Cert.RetInReferenceIdeal.nD → PrngReg), Pre_RetInReferenceIdeal m →
    θ_run (Cert.RetInReferenceIdeal.defs (F := Ideal)) (onTc (τ := Cert.RetInReferenceIdeal.τ) (Cert.RetInReferenceIdeal.main (F := Ideal))) ⟨m, fun _ => 0, g⟩ (fun r => (∀ c : Dev Cert.RetInReferenceIdeal.nD,
      r.2.mem ((c.tc : Thread Cert.RetInReferenceIdeal.nD Cert.RetInReferenceIdeal.τ).loc Cert.RetInReferenceIdeal.main_arg0) = m ((c.tc : Thread Cert.RetInReferenceIdeal.nD Cert.RetInReferenceIdeal.τ).loc Cert.RetInReferenceIdeal.main_arg0)
      ∧ r.2.mem ((c.tc : Thread Cert.RetInReferenceIdeal.nD Cert.RetInReferenceIdeal.τ).loc Cert.RetInReferenceIdeal.main_arg1) = m ((c.tc : Thread Cert.RetInReferenceIdeal.nD Cert.RetInReferenceIdeal.τ).loc Cert.RetInReferenceIdeal.main_arg1)
      ∧ r.2.mem ((c.tc : Thread Cert.RetInReferenceIdeal.nD Cert.RetInReferenceIdeal.τ).loc Cert.RetInReferenceIdeal.main_arg2) = m ((c.tc : Thread Cert.RetInReferenceIdeal.nD Cert.RetInReferenceIdeal.τ).loc Cert.RetInReferenceIdeal.main_arg2)
      ∧ r.2.mem ((c.tc : Thread Cert.RetInReferenceIdeal.nD Cert.RetInReferenceIdeal.τ).loc Cert.RetInReferenceIdeal.main_arg3) = m ((c.tc : Thread Cert.RetInReferenceIdeal.nD Cert.RetInReferenceIdeal.τ).loc Cert.RetInReferenceIdeal.main_arg3))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1)
      ∧ r.2.mem ((c.tc : Thread Cert.RetOutReferenceIdeal.nD Cert.RetOutReferenceIdeal.τ).loc Cert.RetOutReferenceIdeal.main_arg2) = m ((c.tc : Thread Cert.RetOutReferenceIdeal.nD Cert.RetOutReferenceIdeal.τ).loc Cert.RetOutReferenceIdeal.main_arg2)
      ∧ r.2.mem ((c.tc : Thread Cert.RetOutReferenceIdeal.nD Cert.RetOutReferenceIdeal.τ).loc Cert.RetOutReferenceIdeal.main_arg3) = m ((c.tc : Thread Cert.RetOutReferenceIdeal.nD Cert.RetOutReferenceIdeal.τ).loc Cert.RetOutReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0))
      ∧ r.2.sem = fun _ => 0)

def quiescent_CondReferenceIdeal [hCondReferenceIdeal : Cert.CondReferenceIdeal.Facts] : Prop :=
  ∀ (m : (ℓ : Loc Cert.CondReferenceIdeal.nD Cert.CondReferenceIdeal.τ Cert.CondReferenceIdeal.sig) → Buf (Elt Ideal) ℓ) (g : Dev Cert.CondReferenceIdeal.nD → PrngReg), Pre_CondReferenceIdeal m →
    θ_run (Cert.CondReferenceIdeal.defs (F := Ideal)) (onTc (τ := Cert.CondReferenceIdeal.τ) (Cert.CondReferenceIdeal.main (F := Ideal))) ⟨m, fun _ => 0, g⟩ (fun r => (∀ c : Dev Cert.CondReferenceIdeal.nD,
      r.2.mem ((c.tc : Thread Cert.CondReferenceIdeal.nD Cert.CondReferenceIdeal.τ).loc Cert.CondReferenceIdeal.main_arg0) = m ((c.tc : Thread Cert.CondReferenceIdeal.nD Cert.CondReferenceIdeal.τ).loc Cert.CondReferenceIdeal.main_arg0))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0))
      ∧ r.2.sem = fun _ => 0)

def quiescent_Grads [hGrads : Cert.Grads.Facts] : Prop :=
  ∀ (m : (ℓ : Loc Cert.Grads.nD Cert.Grads.τ Cert.Grads.sig) → Buf (Elt Bits) ℓ) (g : Dev Cert.Grads.nD → PrngReg), Pre_Grads m →
    θ_run (Cert.Grads.defs (F := Bits)) (onTc (τ := Cert.Grads.τ) (Cert.Grads.main (F := Bits))) ⟨m, fun _ => 0, g⟩ (fun r => (∀ c : Dev Cert.Grads.nD,
      r.2.mem ((c.tc : Thread Cert.Grads.nD Cert.Grads.τ).loc Cert.Grads.main_arg0) = m ((c.tc : Thread Cert.Grads.nD Cert.Grads.τ).loc Cert.Grads.main_arg0))
      ∧ r.2.sem = fun _ => 0)

def quiescent_GradsIdeal [hGradsIdeal : Cert.GradsIdeal.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ r.2.sem = fun _ => 0)

def quiescent_GradsReferenceIdeal [hGradsReferenceIdeal : Cert.GradsReferenceIdeal.Facts] : Prop :=
  ∀ (m : (ℓ : Loc Cert.GradsReferenceIdeal.nD Cert.GradsReferenceIdeal.τ Cert.GradsReferenceIdeal.sig) → Buf (Elt Ideal) ℓ) (g : Dev Cert.GradsReferenceIdeal.nD → PrngReg), Pre_GradsReferenceIdeal m →
    θ_run (Cert.GradsReferenceIdeal.defs (F := Ideal)) (onTc (τ := Cert.GradsReferenceIdeal.τ) (Cert.GradsReferenceIdeal.main (F := Ideal))) ⟨m, fun _ => 0, g⟩ (fun r => (∀ c : Dev Cert.GradsReferenceIdeal.nD,
      r.2.mem ((c.tc : Thread Cert.GradsReferenceIdeal.nD Cert.GradsReferenceIdeal.τ).loc Cert.GradsReferenceIdeal.main_arg0) = m ((c.tc : Thread Cert.GradsReferenceIdeal.nD Cert.GradsReferenceIdeal.τ).loc Cert.GradsReferenceIdeal.main_arg0))
      ∧ r.2.sem = fun _ => 0)

def quiescent_AddPwOne [hAddPwOne : Cert.AddPwOne.Facts] : Prop :=
  ∀ (m : (ℓ : Loc Cert.AddPwOne.nD Cert.AddPwOne.τ Cert.AddPwOne.sig) → Buf (Elt Bits) ℓ) (g : Dev Cert.AddPwOne.nD → PrngReg), Pre_AddPwOne m →
    θ_run (Cert.AddPwOne.defs (F := Bits)) (onTc (τ := Cert.AddPwOne.τ) (Cert.AddPwOne.main (F := Bits))) ⟨m, fun _ => 0, g⟩ (fun r => (∀ c : Dev Cert.AddPwOne.nD,
      r.2.mem ((c.tc : Thread Cert.AddPwOne.nD Cert.AddPwOne.τ).loc Cert.AddPwOne.main_arg0) = m ((c.tc : Thread Cert.AddPwOne.nD Cert.AddPwOne.τ).loc Cert.AddPwOne.main_arg0)
      ∧ r.2.mem ((c.tc : Thread Cert.AddPwOne.nD Cert.AddPwOne.τ).loc Cert.AddPwOne.main_arg1) = m ((c.tc : Thread Cert.AddPwOne.nD Cert.AddPwOne.τ).loc Cert.AddPwOne.main_arg1))
      ∧ r.2.sem = fun _ => 0)

def quiescent_AddPwOneIdeal [hAddPwOneIdeal : Cert.AddPwOneIdeal.Facts] : Prop :=
  ∀ (m : (ℓ : Loc Cert.AddPwOneIdeal.nD Cert.AddPwOneIdeal.τ Cert.AddPwOneIdeal.sig) → Buf (Elt Ideal) ℓ) (g : Dev Cert.AddPwOneIdeal.nD → PrngReg), Pre_AddPwOneIdeal m →
    θ_run (Cert.AddPwOneIdeal.defs (F := Ideal)) (onTc (τ := Cert.AddPwOneIdeal.τ) (Cert.AddPwOneIdeal.main (F := Ideal))) ⟨m, fun _ => 0, g⟩ (fun r => (∀ c : Dev Cert.AddPwOneIdeal.nD,
      r.2.mem ((c.tc : Thread Cert.AddPwOneIdeal.nD Cert.AddPwOneIdeal.τ).loc Cert.AddPwOneIdeal.main_arg0) = m ((c.tc : Thread Cert.AddPwOneIdeal.nD Cert.AddPwOneIdeal.τ).loc Cert.AddPwOneIdeal.main_arg0)
      ∧ r.2.mem ((c.tc : Thread Cert.AddPwOneIdeal.nD Cert.AddPwOneIdeal.τ).loc Cert.AddPwOneIdeal.main_arg1) = m ((c.tc : Thread Cert.AddPwOneIdeal.nD Cert.AddPwOneIdeal.τ).loc Cert.AddPwOneIdeal.main_arg1))
      ∧ r.2.sem = fun _ => 0)

def quiescent_AddPwOneReferenceIdeal [hAddPwOneReferenceIdeal : Cert.AddPwOneReferenceIdeal.Facts] : Prop :=
  ∀ (m : (ℓ : Loc Cert.AddPwOneReferenceIdeal.nD Cert.AddPwOneReferenceIdeal.τ Cert.AddPwOneReferenceIdeal.sig) → Buf (Elt Ideal) ℓ) (g : Dev Cert.AddPwOneReferenceIdeal.nD → PrngReg), Pre_AddPwOneReferenceIdeal m →
    θ_run (Cert.AddPwOneReferenceIdeal.defs (F := Ideal)) (onTc (τ := Cert.AddPwOneReferenceIdeal.τ) (Cert.AddPwOneReferenceIdeal.main (F := Ideal))) ⟨m, fun _ => 0, g⟩ (fun r => (∀ c : Dev Cert.AddPwOneReferenceIdeal.nD,
      r.2.mem ((c.tc : Thread Cert.AddPwOneReferenceIdeal.nD Cert.AddPwOneReferenceIdeal.τ).loc Cert.AddPwOneReferenceIdeal.main_arg0) = m ((c.tc : Thread Cert.AddPwOneReferenceIdeal.nD Cert.AddPwOneReferenceIdeal.τ).loc Cert.AddPwOneReferenceIdeal.main_arg0)
      ∧ r.2.mem ((c.tc : Thread Cert.AddPwOneReferenceIdeal.nD Cert.AddPwOneReferenceIdeal.τ).loc Cert.AddPwOneReferenceIdeal.main_arg1) = m ((c.tc : Thread Cert.AddPwOneReferenceIdeal.nD Cert.AddPwOneReferenceIdeal.τ).loc Cert.AddPwOneReferenceIdeal.main_arg1))
      ∧ r.2.sem = fun _ => 0)

def quiescent_AddPwTwo [hAddPwTwo : Cert.AddPwTwo.Facts] : Prop :=
  ∀ (m : (ℓ : Loc Cert.AddPwTwo.nD Cert.AddPwTwo.τ Cert.AddPwTwo.sig) → Buf (Elt Bits) ℓ) (g : Dev Cert.AddPwTwo.nD → PrngReg), Pre_AddPwTwo m →
    θ_run (Cert.AddPwTwo.defs (F := Bits)) (onTc (τ := Cert.AddPwTwo.τ) (Cert.AddPwTwo.main (F := Bits))) ⟨m, fun _ => 0, g⟩ (fun r => (∀ c : Dev Cert.AddPwTwo.nD,
      r.2.mem ((c.tc : Thread Cert.AddPwTwo.nD Cert.AddPwTwo.τ).loc Cert.AddPwTwo.main_arg0) = m ((c.tc : Thread Cert.AddPwTwo.nD Cert.AddPwTwo.τ).loc Cert.AddPwTwo.main_arg0)
      ∧ r.2.mem ((c.tc : Thread Cert.AddPwTwo.nD Cert.AddPwTwo.τ).loc Cert.AddPwTwo.main_arg1) = m ((c.tc : Thread Cert.AddPwTwo.nD Cert.AddPwTwo.τ).loc Cert.AddPwTwo.main_arg1))
      ∧ r.2.sem = fun _ => 0)

def quiescent_AddPwTwoIdeal [hAddPwTwoIdeal : Cert.AddPwTwoIdeal.Facts] : Prop :=
  ∀ (m : (ℓ : Loc Cert.AddPwTwoIdeal.nD Cert.AddPwTwoIdeal.τ Cert.AddPwTwoIdeal.sig) → Buf (Elt Ideal) ℓ) (g : Dev Cert.AddPwTwoIdeal.nD → PrngReg), Pre_AddPwTwoIdeal m →
    θ_run (Cert.AddPwTwoIdeal.defs (F := Ideal)) (onTc (τ := Cert.AddPwTwoIdeal.τ) (Cert.AddPwTwoIdeal.main (F := Ideal))) ⟨m, fun _ => 0, g⟩ (fun r => (∀ c : Dev Cert.AddPwTwoIdeal.nD,
      r.2.mem ((c.tc : Thread Cert.AddPwTwoIdeal.nD Cert.AddPwTwoIdeal.τ).loc Cert.AddPwTwoIdeal.main_arg0) = m ((c.tc : Thread Cert.AddPwTwoIdeal.nD Cert.AddPwTwoIdeal.τ).loc Cert.AddPwTwoIdeal.main_arg0)
      ∧ r.2.mem ((c.tc : Thread Cert.AddPwTwoIdeal.nD Cert.AddPwTwoIdeal.τ).loc Cert.AddPwTwoIdeal.main_arg1) = m ((c.tc : Thread Cert.AddPwTwoIdeal.nD Cert.AddPwTwoIdeal.τ).loc Cert.AddPwTwoIdeal.main_arg1))
      ∧ r.2.sem = fun _ => 0)

def quiescent_AddPwTwoReferenceIdeal [hAddPwTwoReferenceIdeal : Cert.AddPwTwoReferenceIdeal.Facts] : Prop :=
  ∀ (m : (ℓ : Loc Cert.AddPwTwoReferenceIdeal.nD Cert.AddPwTwoReferenceIdeal.τ Cert.AddPwTwoReferenceIdeal.sig) → Buf (Elt Ideal) ℓ) (g : Dev Cert.AddPwTwoReferenceIdeal.nD → PrngReg), Pre_AddPwTwoReferenceIdeal m →
    θ_run (Cert.AddPwTwoReferenceIdeal.defs (F := Ideal)) (onTc (τ := Cert.AddPwTwoReferenceIdeal.τ) (Cert.AddPwTwoReferenceIdeal.main (F := Ideal))) ⟨m, fun _ => 0, g⟩ (fun r => (∀ c : Dev Cert.AddPwTwoReferenceIdeal.nD,
      r.2.mem ((c.tc : Thread Cert.AddPwTwoReferenceIdeal.nD Cert.AddPwTwoReferenceIdeal.τ).loc Cert.AddPwTwoReferenceIdeal.main_arg0) = m ((c.tc : Thread Cert.AddPwTwoReferenceIdeal.nD Cert.AddPwTwoReferenceIdeal.τ).loc Cert.AddPwTwoReferenceIdeal.main_arg0)
      ∧ r.2.mem ((c.tc : Thread Cert.AddPwTwoReferenceIdeal.nD Cert.AddPwTwoReferenceIdeal.τ).loc Cert.AddPwTwoReferenceIdeal.main_arg1) = m ((c.tc : Thread Cert.AddPwTwoReferenceIdeal.nD Cert.AddPwTwoReferenceIdeal.τ).loc Cert.AddPwTwoReferenceIdeal.main_arg1))
      ∧ r.2.sem = fun _ => 0)

def quiescent_AddRetIn [hAddRetIn : Cert.AddRetIn.Facts] : Prop :=
  ∀ (m : (ℓ : Loc Cert.AddRetIn.nD Cert.AddRetIn.τ Cert.AddRetIn.sig) → Buf (Elt Bits) ℓ) (g : Dev Cert.AddRetIn.nD → PrngReg), Pre_AddRetIn m →
    θ_run (Cert.AddRetIn.defs (F := Bits)) (onTc (τ := Cert.AddRetIn.τ) (Cert.AddRetIn.main (F := Bits))) ⟨m, fun _ => 0, g⟩ (fun r => (∀ c : Dev Cert.AddRetIn.nD,
      r.2.mem ((c.tc : Thread Cert.AddRetIn.nD Cert.AddRetIn.τ).loc Cert.AddRetIn.main_arg0) = m ((c.tc : Thread Cert.AddRetIn.nD Cert.AddRetIn.τ).loc Cert.AddRetIn.main_arg0)
      ∧ r.2.mem ((c.tc : Thread Cert.AddRetIn.nD Cert.AddRetIn.τ).loc Cert.AddRetIn.main_arg1) = m ((c.tc : Thread Cert.AddRetIn.nD Cert.AddRetIn.τ).loc Cert.AddRetIn.main_arg1))
      ∧ r.2.sem = fun _ => 0)

def quiescent_AddRetInIdeal [hAddRetInIdeal : Cert.AddRetInIdeal.Facts] : Prop :=
  ∀ (m : (ℓ : Loc Cert.AddRetInIdeal.nD Cert.AddRetInIdeal.τ Cert.AddRetInIdeal.sig) → Buf (Elt Ideal) ℓ) (g : Dev Cert.AddRetInIdeal.nD → PrngReg), Pre_AddRetInIdeal m →
    θ_run (Cert.AddRetInIdeal.defs (F := Ideal)) (onTc (τ := Cert.AddRetInIdeal.τ) (Cert.AddRetInIdeal.main (F := Ideal))) ⟨m, fun _ => 0, g⟩ (fun r => (∀ c : Dev Cert.AddRetInIdeal.nD,
      r.2.mem ((c.tc : Thread Cert.AddRetInIdeal.nD Cert.AddRetInIdeal.τ).loc Cert.AddRetInIdeal.main_arg0) = m ((c.tc : Thread Cert.AddRetInIdeal.nD Cert.AddRetInIdeal.τ).loc Cert.AddRetInIdeal.main_arg0)
      ∧ r.2.mem ((c.tc : Thread Cert.AddRetInIdeal.nD Cert.AddRetInIdeal.τ).loc Cert.AddRetInIdeal.main_arg1) = m ((c.tc : Thread Cert.AddRetInIdeal.nD Cert.AddRetInIdeal.τ).loc Cert.AddRetInIdeal.main_arg1))
      ∧ r.2.sem = fun _ => 0)

def quiescent_AddRetInReferenceIdeal [hAddRetInReferenceIdeal : Cert.AddRetInReferenceIdeal.Facts] : Prop :=
  ∀ (m : (ℓ : Loc Cert.AddRetInReferenceIdeal.nD Cert.AddRetInReferenceIdeal.τ Cert.AddRetInReferenceIdeal.sig) → Buf (Elt Ideal) ℓ) (g : Dev Cert.AddRetInReferenceIdeal.nD → PrngReg), Pre_AddRetInReferenceIdeal m →
    θ_run (Cert.AddRetInReferenceIdeal.defs (F := Ideal)) (onTc (τ := Cert.AddRetInReferenceIdeal.τ) (Cert.AddRetInReferenceIdeal.main (F := Ideal))) ⟨m, fun _ => 0, g⟩ (fun r => (∀ c : Dev Cert.AddRetInReferenceIdeal.nD,
      r.2.mem ((c.tc : Thread Cert.AddRetInReferenceIdeal.nD Cert.AddRetInReferenceIdeal.τ).loc Cert.AddRetInReferenceIdeal.main_arg0) = m ((c.tc : Thread Cert.AddRetInReferenceIdeal.nD Cert.AddRetInReferenceIdeal.τ).loc Cert.AddRetInReferenceIdeal.main_arg0)
      ∧ r.2.mem ((c.tc : Thread Cert.AddRetInReferenceIdeal.nD Cert.AddRetInReferenceIdeal.τ).loc Cert.AddRetInReferenceIdeal.main_arg1) = m ((c.tc : Thread Cert.AddRetInReferenceIdeal.nD Cert.AddRetInReferenceIdeal.τ).loc Cert.AddRetInReferenceIdeal.main_arg1))
      ∧ r.2.sem = fun _ => 0)

def quiescent_AddRetOut [hAddRetOut : Cert.AddRetOut.Facts] : Prop :=
  ∀ (m : (ℓ : Loc Cert.AddRetOut.nD Cert.AddRetOut.τ Cert.AddRetOut.sig) → Buf (Elt Bits) ℓ) (g : Dev Cert.AddRetOut.nD → PrngReg), Pre_AddRetOut m →
    θ_run (Cert.AddRetOut.defs (F := Bits)) (onTc (τ := Cert.AddRetOut.τ) (Cert.AddRetOut.main (F := Bits))) ⟨m, fun _ => 0, g⟩ (fun r => (∀ c : Dev Cert.AddRetOut.nD,
      r.2.mem ((c.tc : Thread Cert.AddRetOut.nD Cert.AddRetOut.τ).loc Cert.AddRetOut.main_arg0) = m ((c.tc : Thread Cert.AddRetOut.nD Cert.AddRetOut.τ).loc Cert.AddRetOut.main_arg0)
      ∧ r.2.mem ((c.tc : Thread Cert.AddRetOut.nD Cert.AddRetOut.τ).loc Cert.AddRetOut.main_arg1) = m ((c.tc : Thread Cert.AddRetOut.nD Cert.AddRetOut.τ).loc Cert.AddRetOut.main_arg1))
      ∧ r.2.sem = fun _ => 0)

def quiescent_AddRetOutIdeal [hAddRetOutIdeal : Cert.AddRetOutIdeal.Facts] : Prop :=
  ∀ (m : (ℓ : Loc Cert.AddRetOutIdeal.nD Cert.AddRetOutIdeal.τ Cert.AddRetOutIdeal.sig) → Buf (Elt Ideal) ℓ) (g : Dev Cert.AddRetOutIdeal.nD → PrngReg), Pre_AddRetOutIdeal m →
    θ_run (Cert.AddRetOutIdeal.defs (F := Ideal)) (onTc (τ := Cert.AddRetOutIdeal.τ) (Cert.AddRetOutIdeal.main (F := Ideal))) ⟨m, fun _ => 0, g⟩ (fun r => (∀ c : Dev Cert.AddRetOutIdeal.nD,
      r.2.mem ((c.tc : Thread Cert.AddRetOutIdeal.nD Cert.AddRetOutIdeal.τ).loc Cert.AddRetOutIdeal.main_arg0) = m ((c.tc : Thread Cert.AddRetOutIdeal.nD Cert.AddRetOutIdeal.τ).loc Cert.AddRetOutIdeal.main_arg0)
      ∧ r.2.mem ((c.tc : Thread Cert.AddRetOutIdeal.nD Cert.AddRetOutIdeal.τ).loc Cert.AddRetOutIdeal.main_arg1) = m ((c.tc : Thread Cert.AddRetOutIdeal.nD Cert.AddRetOutIdeal.τ).loc Cert.AddRetOutIdeal.main_arg1))
      ∧ r.2.sem = fun _ => 0)

def quiescent_AddRetOutReferenceIdeal [hAddRetOutReferenceIdeal : Cert.AddRetOutReferenceIdeal.Facts] : Prop :=
  ∀ (m : (ℓ : Loc Cert.AddRetOutReferenceIdeal.nD Cert.AddRetOutReferenceIdeal.τ Cert.AddRetOutReferenceIdeal.sig) → Buf (Elt Ideal) ℓ) (g : Dev Cert.AddRetOutReferenceIdeal.nD → PrngReg), Pre_AddRetOutReferenceIdeal m →
    θ_run (Cert.AddRetOutReferenceIdeal.defs (F := Ideal)) (onTc (τ := Cert.AddRetOutReferenceIdeal.τ) (Cert.AddRetOutReferenceIdeal.main (F := Ideal))) ⟨m, fun _ => 0, g⟩ (fun r => (∀ c : Dev Cert.AddRetOutReferenceIdeal.nD,
      r.2.mem ((c.tc : Thread Cert.AddRetOutReferenceIdeal.nD Cert.AddRetOutReferenceIdeal.τ).loc Cert.AddRetOutReferenceIdeal.main_arg0) = m ((c.tc : Thread Cert.AddRetOutReferenceIdeal.nD Cert.AddRetOutReferenceIdeal.τ).loc Cert.AddRetOutReferenceIdeal.main_arg0)
      ∧ r.2.mem ((c.tc : Thread Cert.AddRetOutReferenceIdeal.nD Cert.AddRetOutReferenceIdeal.τ).loc Cert.AddRetOutReferenceIdeal.main_arg1) = m ((c.tc : Thread Cert.AddRetOutReferenceIdeal.nD Cert.AddRetOutReferenceIdeal.τ).loc Cert.AddRetOutReferenceIdeal.main_arg1))
      ∧ r.2.sem = fun _ => 0)

def quiescent_AddMlp [hAddMlp : Cert.AddMlp.Facts] : Prop :=
  ∀ (m : (ℓ : Loc Cert.AddMlp.nD Cert.AddMlp.τ Cert.AddMlp.sig) → Buf (Elt Bits) ℓ) (g : Dev Cert.AddMlp.nD → PrngReg), Pre_AddMlp m →
    θ_run (Cert.AddMlp.defs (F := Bits)) (onTc (τ := Cert.AddMlp.τ) (Cert.AddMlp.main (F := Bits))) ⟨m, fun _ => 0, g⟩ (fun r => (∀ c : Dev Cert.AddMlp.nD,
      r.2.mem ((c.tc : Thread Cert.AddMlp.nD Cert.AddMlp.τ).loc Cert.AddMlp.main_arg0) = m ((c.tc : Thread Cert.AddMlp.nD Cert.AddMlp.τ).loc Cert.AddMlp.main_arg0)
      ∧ r.2.mem ((c.tc : Thread Cert.AddMlp.nD Cert.AddMlp.τ).loc Cert.AddMlp.main_arg1) = m ((c.tc : Thread Cert.AddMlp.nD Cert.AddMlp.τ).loc Cert.AddMlp.main_arg1))
      ∧ r.2.sem = fun _ => 0)

def quiescent_AddMlpIdeal [hAddMlpIdeal : Cert.AddMlpIdeal.Facts] : Prop :=
  ∀ (m : (ℓ : Loc Cert.AddMlpIdeal.nD Cert.AddMlpIdeal.τ Cert.AddMlpIdeal.sig) → Buf (Elt Ideal) ℓ) (g : Dev Cert.AddMlpIdeal.nD → PrngReg), Pre_AddMlpIdeal m →
    θ_run (Cert.AddMlpIdeal.defs (F := Ideal)) (onTc (τ := Cert.AddMlpIdeal.τ) (Cert.AddMlpIdeal.main (F := Ideal))) ⟨m, fun _ => 0, g⟩ (fun r => (∀ c : Dev Cert.AddMlpIdeal.nD,
      r.2.mem ((c.tc : Thread Cert.AddMlpIdeal.nD Cert.AddMlpIdeal.τ).loc Cert.AddMlpIdeal.main_arg0) = m ((c.tc : Thread Cert.AddMlpIdeal.nD Cert.AddMlpIdeal.τ).loc Cert.AddMlpIdeal.main_arg0)
      ∧ r.2.mem ((c.tc : Thread Cert.AddMlpIdeal.nD Cert.AddMlpIdeal.τ).loc Cert.AddMlpIdeal.main_arg1) = m ((c.tc : Thread Cert.AddMlpIdeal.nD Cert.AddMlpIdeal.τ).loc Cert.AddMlpIdeal.main_arg1))
      ∧ r.2.sem = fun _ => 0)

def quiescent_AddMlpReferenceIdeal [hAddMlpReferenceIdeal : Cert.AddMlpReferenceIdeal.Facts] : Prop :=
  ∀ (m : (ℓ : Loc Cert.AddMlpReferenceIdeal.nD Cert.AddMlpReferenceIdeal.τ Cert.AddMlpReferenceIdeal.sig) → Buf (Elt Ideal) ℓ) (g : Dev Cert.AddMlpReferenceIdeal.nD → PrngReg), Pre_AddMlpReferenceIdeal m →
    θ_run (Cert.AddMlpReferenceIdeal.defs (F := Ideal)) (onTc (τ := Cert.AddMlpReferenceIdeal.τ) (Cert.AddMlpReferenceIdeal.main (F := Ideal))) ⟨m, fun _ => 0, g⟩ (fun r => (∀ c : Dev Cert.AddMlpReferenceIdeal.nD,
      r.2.mem ((c.tc : Thread Cert.AddMlpReferenceIdeal.nD Cert.AddMlpReferenceIdeal.τ).loc Cert.AddMlpReferenceIdeal.main_arg0) = m ((c.tc : Thread Cert.AddMlpReferenceIdeal.nD Cert.AddMlpReferenceIdeal.τ).loc Cert.AddMlpReferenceIdeal.main_arg0)
      ∧ r.2.mem ((c.tc : Thread Cert.AddMlpReferenceIdeal.nD Cert.AddMlpReferenceIdeal.τ).loc Cert.AddMlpReferenceIdeal.main_arg1) = m ((c.tc : Thread Cert.AddMlpReferenceIdeal.nD Cert.AddMlpReferenceIdeal.τ).loc Cert.AddMlpReferenceIdeal.main_arg1))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_RowFwd [hRowFwd : Cert.RowFwd.Facts] : Prop :=
  ∀ (m : (ℓ : Loc Cert.RowFwd.nD Cert.RowFwd.τ Cert.RowFwd.sig) → Buf (Elt Bits) ℓ) (g : Dev Cert.RowFwd.nD → PrngReg), Pre_RowFwd m →
    θ_run (Cert.RowFwd.defs (F := Bits)) (onTc (τ := Cert.RowFwd.τ) (Cert.RowFwd.main (F := Bits))) ⟨m, fun _ => 0, g⟩ (fun r => (∀ c : Dev Cert.RowFwd.nD,
      r.2.mem ((c.tc : Thread Cert.RowFwd.nD Cert.RowFwd.τ).loc Cert.RowFwd.main_arg0) = m ((c.tc : Thread Cert.RowFwd.nD Cert.RowFwd.τ).loc Cert.RowFwd.main_arg0)
      ∧ r.2.mem ((c.tc : Thread Cert.RowFwd.nD Cert.RowFwd.τ).loc Cert.RowFwd.main_arg1) = m ((c.tc : Thread Cert.RowFwd.nD Cert.RowFwd.τ).loc Cert.RowFwd.main_arg1)
      ∧ r.2.mem ((c.tc : Thread Cert.RowFwd.nD Cert.RowFwd.τ).loc Cert.RowFwd.main_arg2) = m ((c.tc : Thread Cert.RowFwd.nD Cert.RowFwd.τ).loc Cert.RowFwd.main_arg2))
      ∧ r.2.sem = fun _ => 0)

def quiescent_RowFwdIdeal [hRowFwdIdeal : Cert.RowFwdIdeal.Facts] : Prop :=
  ∀ (m : (ℓ : Loc Cert.RowFwdIdeal.nD Cert.RowFwdIdeal.τ Cert.RowFwdIdeal.sig) → Buf (Elt Ideal) ℓ) (g : Dev Cert.RowFwdIdeal.nD → PrngReg), Pre_RowFwdIdeal m →
    θ_run (Cert.RowFwdIdeal.defs (F := Ideal)) (onTc (τ := Cert.RowFwdIdeal.τ) (Cert.RowFwdIdeal.main (F := Ideal))) ⟨m, fun _ => 0, g⟩ (fun r => (∀ c : Dev Cert.RowFwdIdeal.nD,
      r.2.mem ((c.tc : Thread Cert.RowFwdIdeal.nD Cert.RowFwdIdeal.τ).loc Cert.RowFwdIdeal.main_arg0) = m ((c.tc : Thread Cert.RowFwdIdeal.nD Cert.RowFwdIdeal.τ).loc Cert.RowFwdIdeal.main_arg0)
      ∧ r.2.mem ((c.tc : Thread Cert.RowFwdIdeal.nD Cert.RowFwdIdeal.τ).loc Cert.RowFwdIdeal.main_arg1) = m ((c.tc : Thread Cert.RowFwdIdeal.nD Cert.RowFwdIdeal.τ).loc Cert.RowFwdIdeal.main_arg1)
      ∧ r.2.mem ((c.tc : Thread Cert.RowFwdIdeal.nD Cert.RowFwdIdeal.τ).loc Cert.RowFwdIdeal.main_arg2) = m ((c.tc : Thread Cert.RowFwdIdeal.nD Cert.RowFwdIdeal.τ).loc Cert.RowFwdIdeal.main_arg2))
      ∧ r.2.sem = fun _ => 0)

def quiescent_RowFwdReferenceIdeal [hRowFwdReferenceIdeal : Cert.RowFwdReferenceIdeal.Facts] : Prop :=
  ∀ (m : (ℓ : Loc Cert.RowFwdReferenceIdeal.nD Cert.RowFwdReferenceIdeal.τ Cert.RowFwdReferenceIdeal.sig) → Buf (Elt Ideal) ℓ) (g : Dev Cert.RowFwdReferenceIdeal.nD → PrngReg), Pre_RowFwdReferenceIdeal m →
    θ_run (Cert.RowFwdReferenceIdeal.defs (F := Ideal)) (onTc (τ := Cert.RowFwdReferenceIdeal.τ) (Cert.RowFwdReferenceIdeal.main (F := Ideal))) ⟨m, fun _ => 0, g⟩ (fun r => (∀ c : Dev Cert.RowFwdReferenceIdeal.nD,
      r.2.mem ((c.tc : Thread Cert.RowFwdReferenceIdeal.nD Cert.RowFwdReferenceIdeal.τ).loc Cert.RowFwdReferenceIdeal.main_arg0) = m ((c.tc : Thread Cert.RowFwdReferenceIdeal.nD Cert.RowFwdReferenceIdeal.τ).loc Cert.RowFwdReferenceIdeal.main_arg0)
      ∧ r.2.mem ((c.tc : Thread Cert.RowFwdReferenceIdeal.nD Cert.RowFwdReferenceIdeal.τ).loc Cert.RowFwdReferenceIdeal.main_arg1) = m ((c.tc : Thread Cert.RowFwdReferenceIdeal.nD Cert.RowFwdReferenceIdeal.τ).loc Cert.RowFwdReferenceIdeal.main_arg1)
      ∧ r.2.mem ((c.tc : Thread Cert.RowFwdReferenceIdeal.nD Cert.RowFwdReferenceIdeal.τ).loc Cert.RowFwdReferenceIdeal.main_arg2) = m ((c.tc : Thread Cert.RowFwdReferenceIdeal.nD Cert.RowFwdReferenceIdeal.τ).loc Cert.RowFwdReferenceIdeal.main_arg2))
      ∧ r.2.sem = fun _ => 0)

def quiescent_RowFirst [hRowFirst : Cert.RowFirst.Facts] : Prop :=
  ∀ (m : (ℓ : Loc Cert.RowFirst.nD Cert.RowFirst.τ Cert.RowFirst.sig) → Buf (Elt Bits) ℓ) (g : Dev Cert.RowFirst.nD → PrngReg), Pre_RowFirst m →
    θ_run (Cert.RowFirst.defs (F := Bits)) (onTc (τ := Cert.RowFirst.τ) (Cert.RowFirst.main (F := Bits))) ⟨m, fun _ => 0, g⟩ (fun r => (∀ c : Dev Cert.RowFirst.nD,
      r.2.mem ((c.tc : Thread Cert.RowFirst.nD Cert.RowFirst.τ).loc Cert.RowFirst.main_arg0) = m ((c.tc : Thread Cert.RowFirst.nD Cert.RowFirst.τ).loc Cert.RowFirst.main_arg0)
      ∧ r.2.mem ((c.tc : Thread Cert.RowFirst.nD Cert.RowFirst.τ).loc Cert.RowFirst.main_arg1) = m ((c.tc : Thread Cert.RowFirst.nD Cert.RowFirst.τ).loc Cert.RowFirst.main_arg1))
      ∧ r.2.sem = fun _ => 0)

def quiescent_RowFirstIdeal [hRowFirstIdeal : Cert.RowFirstIdeal.Facts] : Prop :=
  ∀ (m : (ℓ : Loc Cert.RowFirstIdeal.nD Cert.RowFirstIdeal.τ Cert.RowFirstIdeal.sig) → Buf (Elt Ideal) ℓ) (g : Dev Cert.RowFirstIdeal.nD → PrngReg), Pre_RowFirstIdeal m →
    θ_run (Cert.RowFirstIdeal.defs (F := Ideal)) (onTc (τ := Cert.RowFirstIdeal.τ) (Cert.RowFirstIdeal.main (F := Ideal))) ⟨m, fun _ => 0, g⟩ (fun r => (∀ c : Dev Cert.RowFirstIdeal.nD,
      r.2.mem ((c.tc : Thread Cert.RowFirstIdeal.nD Cert.RowFirstIdeal.τ).loc Cert.RowFirstIdeal.main_arg0) = m ((c.tc : Thread Cert.RowFirstIdeal.nD Cert.RowFirstIdeal.τ).loc Cert.RowFirstIdeal.main_arg0)
      ∧ r.2.mem ((c.tc : Thread Cert.RowFirstIdeal.nD Cert.RowFirstIdeal.τ).loc Cert.RowFirstIdeal.main_arg1) = m ((c.tc : Thread Cert.RowFirstIdeal.nD Cert.RowFirstIdeal.τ).loc Cert.RowFirstIdeal.main_arg1))
      ∧ r.2.sem = fun _ => 0)

def quiescent_RowFirstReferenceIdeal [hRowFirstReferenceIdeal : Cert.RowFirstReferenceIdeal.Facts] : Prop :=
  ∀ (m : (ℓ : Loc Cert.RowFirstReferenceIdeal.nD Cert.RowFirstReferenceIdeal.τ Cert.RowFirstReferenceIdeal.sig) → Buf (Elt Ideal) ℓ) (g : Dev Cert.RowFirstReferenceIdeal.nD → PrngReg), Pre_RowFirstReferenceIdeal m →
    θ_run (Cert.RowFirstReferenceIdeal.defs (F := Ideal)) (onTc (τ := Cert.RowFirstReferenceIdeal.τ) (Cert.RowFirstReferenceIdeal.main (F := Ideal))) ⟨m, fun _ => 0, g⟩ (fun r => (∀ c : Dev Cert.RowFirstReferenceIdeal.nD,
      r.2.mem ((c.tc : Thread Cert.RowFirstReferenceIdeal.nD Cert.RowFirstReferenceIdeal.τ).loc Cert.RowFirstReferenceIdeal.main_arg0) = m ((c.tc : Thread Cert.RowFirstReferenceIdeal.nD Cert.RowFirstReferenceIdeal.τ).loc Cert.RowFirstReferenceIdeal.main_arg0)
      ∧ r.2.mem ((c.tc : Thread Cert.RowFirstReferenceIdeal.nD Cert.RowFirstReferenceIdeal.τ).loc Cert.RowFirstReferenceIdeal.main_arg1) = m ((c.tc : Thread Cert.RowFirstReferenceIdeal.nD Cert.RowFirstReferenceIdeal.τ).loc Cert.RowFirstReferenceIdeal.main_arg1))
      ∧ r.2.sem = fun _ => 0)

def quiescent_RowBwd [hRowBwd : Cert.RowBwd.Facts] : Prop :=
  ∀ (m : (ℓ : Loc Cert.RowBwd.nD Cert.RowBwd.τ Cert.RowBwd.sig) → Buf (Elt Bits) ℓ) (g : Dev Cert.RowBwd.nD → PrngReg), Pre_RowBwd m →
    θ_run (Cert.RowBwd.defs (F := Bits)) (onTc (τ := Cert.RowBwd.τ) (Cert.RowBwd.main (F := Bits))) ⟨m, fun _ => 0, g⟩ (fun r => (∀ c : Dev Cert.RowBwd.nD,
      r.2.mem ((c.tc : Thread Cert.RowBwd.nD Cert.RowBwd.τ).loc Cert.RowBwd.main_arg0) = m ((c.tc : Thread Cert.RowBwd.nD Cert.RowBwd.τ).loc Cert.RowBwd.main_arg0)
      ∧ r.2.mem ((c.tc : Thread Cert.RowBwd.nD Cert.RowBwd.τ).loc Cert.RowBwd.main_arg1) = m ((c.tc : Thread Cert.RowBwd.nD Cert.RowBwd.τ).loc Cert.RowBwd.main_arg1)
      ∧ r.2.mem ((c.tc : Thread Cert.RowBwd.nD Cert.RowBwd.τ).loc Cert.RowBwd.main_arg2) = m ((c.tc : Thread Cert.RowBwd.nD Cert.RowBwd.τ).loc Cert.RowBwd.main_arg2)
      ∧ r.2.mem ((c.tc : Thread Cert.RowBwd.nD Cert.RowBwd.τ).loc Cert.RowBwd.main_arg3) = m ((c.tc : Thread Cert.RowBwd.nD Cert.RowBwd.τ).loc Cert.RowBwd.main_arg3)
      ∧ r.2.mem ((c.tc : Thread Cert.RowBwd.nD Cert.RowBwd.τ).loc Cert.RowBwd.main_arg4) = m ((c.tc : Thread Cert.RowBwd.nD Cert.RowBwd.τ).loc Cert.RowBwd.main_arg4))
      ∧ r.2.sem = fun _ => 0)

def quiescent_RowBwdIdeal [hRowBwdIdeal : Cert.RowBwdIdeal.Facts] : Prop :=
  ∀ (m : (ℓ : Loc Cert.RowBwdIdeal.nD Cert.RowBwdIdeal.τ Cert.RowBwdIdeal.sig) → Buf (Elt Ideal) ℓ) (g : Dev Cert.RowBwdIdeal.nD → PrngReg), Pre_RowBwdIdeal m →
    θ_run (Cert.RowBwdIdeal.defs (F := Ideal)) (onTc (τ := Cert.RowBwdIdeal.τ) (Cert.RowBwdIdeal.main (F := Ideal))) ⟨m, fun _ => 0, g⟩ (fun r => (∀ c : Dev Cert.RowBwdIdeal.nD,
      r.2.mem ((c.tc : Thread Cert.RowBwdIdeal.nD Cert.RowBwdIdeal.τ).loc Cert.RowBwdIdeal.main_arg0) = m ((c.tc : Thread Cert.RowBwdIdeal.nD Cert.RowBwdIdeal.τ).loc Cert.RowBwdIdeal.main_arg0)
      ∧ r.2.mem ((c.tc : Thread Cert.RowBwdIdeal.nD Cert.RowBwdIdeal.τ).loc Cert.RowBwdIdeal.main_arg1) = m ((c.tc : Thread Cert.RowBwdIdeal.nD Cert.RowBwdIdeal.τ).loc Cert.RowBwdIdeal.main_arg1)
      ∧ r.2.mem ((c.tc : Thread Cert.RowBwdIdeal.nD Cert.RowBwdIdeal.τ).loc Cert.RowBwdIdeal.main_arg2) = m ((c.tc : Thread Cert.RowBwdIdeal.nD Cert.RowBwdIdeal.τ).loc Cert.RowBwdIdeal.main_arg2)
      ∧ r.2.mem ((c.tc : Thread Cert.RowBwdIdeal.nD Cert.RowBwdIdeal.τ).loc Cert.RowBwdIdeal.main_arg3) = m ((c.tc : Thread Cert.RowBwdIdeal.nD Cert.RowBwdIdeal.τ).loc Cert.RowBwdIdeal.main_arg3)
      ∧ r.2.mem ((c.tc : Thread Cert.RowBwdIdeal.nD Cert.RowBwdIdeal.τ).loc Cert.RowBwdIdeal.main_arg4) = m ((c.tc : Thread Cert.RowBwdIdeal.nD Cert.RowBwdIdeal.τ).loc Cert.RowBwdIdeal.main_arg4))
      ∧ r.2.sem = fun _ => 0)

def quiescent_RowBwdReferenceIdeal [hRowBwdReferenceIdeal : Cert.RowBwdReferenceIdeal.Facts] : Prop :=
  ∀ (m : (ℓ : Loc Cert.RowBwdReferenceIdeal.nD Cert.RowBwdReferenceIdeal.τ Cert.RowBwdReferenceIdeal.sig) → Buf (Elt Ideal) ℓ) (g : Dev Cert.RowBwdReferenceIdeal.nD → PrngReg), Pre_RowBwdReferenceIdeal m →
    θ_run (Cert.RowBwdReferenceIdeal.defs (F := Ideal)) (onTc (τ := Cert.RowBwdReferenceIdeal.τ) (Cert.RowBwdReferenceIdeal.main (F := Ideal))) ⟨m, fun _ => 0, g⟩ (fun r => (∀ c : Dev Cert.RowBwdReferenceIdeal.nD,
      r.2.mem ((c.tc : Thread Cert.RowBwdReferenceIdeal.nD Cert.RowBwdReferenceIdeal.τ).loc Cert.RowBwdReferenceIdeal.main_arg0) = m ((c.tc : Thread Cert.RowBwdReferenceIdeal.nD Cert.RowBwdReferenceIdeal.τ).loc Cert.RowBwdReferenceIdeal.main_arg0)
      ∧ r.2.mem ((c.tc : Thread Cert.RowBwdReferenceIdeal.nD Cert.RowBwdReferenceIdeal.τ).loc Cert.RowBwdReferenceIdeal.main_arg1) = m ((c.tc : Thread Cert.RowBwdReferenceIdeal.nD Cert.RowBwdReferenceIdeal.τ).loc Cert.RowBwdReferenceIdeal.main_arg1)
      ∧ r.2.mem ((c.tc : Thread Cert.RowBwdReferenceIdeal.nD Cert.RowBwdReferenceIdeal.τ).loc Cert.RowBwdReferenceIdeal.main_arg2) = m ((c.tc : Thread Cert.RowBwdReferenceIdeal.nD Cert.RowBwdReferenceIdeal.τ).loc Cert.RowBwdReferenceIdeal.main_arg2)
      ∧ r.2.mem ((c.tc : Thread Cert.RowBwdReferenceIdeal.nD Cert.RowBwdReferenceIdeal.τ).loc Cert.RowBwdReferenceIdeal.main_arg3) = m ((c.tc : Thread Cert.RowBwdReferenceIdeal.nD Cert.RowBwdReferenceIdeal.τ).loc Cert.RowBwdReferenceIdeal.main_arg3)
      ∧ r.2.mem ((c.tc : Thread Cert.RowBwdReferenceIdeal.nD Cert.RowBwdReferenceIdeal.τ).loc Cert.RowBwdReferenceIdeal.main_arg4) = m ((c.tc : Thread Cert.RowBwdReferenceIdeal.nD Cert.RowBwdReferenceIdeal.τ).loc Cert.RowBwdReferenceIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1)
      ∧ r.2.mem ((c.tc : Thread Cert.ConvFwdReferenceIdeal.nD Cert.ConvFwdReferenceIdeal.τ).loc Cert.ConvFwdReferenceIdeal.main_arg2) = m ((c.tc : Thread Cert.ConvFwdReferenceIdeal.nD Cert.ConvFwdReferenceIdeal.τ).loc Cert.ConvFwdReferenceIdeal.main_arg2))
      ∧ r.2.sem = fun _ => 0)

def quiescent_PwOneFwd [hPwOneFwd : Cert.PwOneFwd.Facts] : Prop :=
  ∀ (m : (ℓ : Loc Cert.PwOneFwd.nD Cert.PwOneFwd.τ Cert.PwOneFwd.sig) → Buf (Elt Bits) ℓ) (g : Dev Cert.PwOneFwd.nD → PrngReg), Pre_PwOneFwd m →
    θ_run (Cert.PwOneFwd.defs (F := Bits)) (onTc (τ := Cert.PwOneFwd.τ) (Cert.PwOneFwd.main (F := Bits))) ⟨m, fun _ => 0, g⟩ (fun r => (∀ c : Dev Cert.PwOneFwd.nD,
      r.2.mem ((c.tc : Thread Cert.PwOneFwd.nD Cert.PwOneFwd.τ).loc Cert.PwOneFwd.main_arg0) = m ((c.tc : Thread Cert.PwOneFwd.nD Cert.PwOneFwd.τ).loc Cert.PwOneFwd.main_arg0)
      ∧ r.2.mem ((c.tc : Thread Cert.PwOneFwd.nD Cert.PwOneFwd.τ).loc Cert.PwOneFwd.main_arg1) = m ((c.tc : Thread Cert.PwOneFwd.nD Cert.PwOneFwd.τ).loc Cert.PwOneFwd.main_arg1)
      ∧ r.2.mem ((c.tc : Thread Cert.PwOneFwd.nD Cert.PwOneFwd.τ).loc Cert.PwOneFwd.main_arg2) = m ((c.tc : Thread Cert.PwOneFwd.nD Cert.PwOneFwd.τ).loc Cert.PwOneFwd.main_arg2))
      ∧ r.2.sem = fun _ => 0)

def quiescent_PwOneFwdIdeal [hPwOneFwdIdeal : Cert.PwOneFwdIdeal.Facts] : Prop :=
  ∀ (m : (ℓ : Loc Cert.PwOneFwdIdeal.nD Cert.PwOneFwdIdeal.τ Cert.PwOneFwdIdeal.sig) → Buf (Elt Ideal) ℓ) (g : Dev Cert.PwOneFwdIdeal.nD → PrngReg), Pre_PwOneFwdIdeal m →
    θ_run (Cert.PwOneFwdIdeal.defs (F := Ideal)) (onTc (τ := Cert.PwOneFwdIdeal.τ) (Cert.PwOneFwdIdeal.main (F := Ideal))) ⟨m, fun _ => 0, g⟩ (fun r => (∀ c : Dev Cert.PwOneFwdIdeal.nD,
      r.2.mem ((c.tc : Thread Cert.PwOneFwdIdeal.nD Cert.PwOneFwdIdeal.τ).loc Cert.PwOneFwdIdeal.main_arg0) = m ((c.tc : Thread Cert.PwOneFwdIdeal.nD Cert.PwOneFwdIdeal.τ).loc Cert.PwOneFwdIdeal.main_arg0)
      ∧ r.2.mem ((c.tc : Thread Cert.PwOneFwdIdeal.nD Cert.PwOneFwdIdeal.τ).loc Cert.PwOneFwdIdeal.main_arg1) = m ((c.tc : Thread Cert.PwOneFwdIdeal.nD Cert.PwOneFwdIdeal.τ).loc Cert.PwOneFwdIdeal.main_arg1)
      ∧ r.2.mem ((c.tc : Thread Cert.PwOneFwdIdeal.nD Cert.PwOneFwdIdeal.τ).loc Cert.PwOneFwdIdeal.main_arg2) = m ((c.tc : Thread Cert.PwOneFwdIdeal.nD Cert.PwOneFwdIdeal.τ).loc Cert.PwOneFwdIdeal.main_arg2))
      ∧ r.2.sem = fun _ => 0)

def quiescent_PwOneFwdReferenceIdeal [hPwOneFwdReferenceIdeal : Cert.PwOneFwdReferenceIdeal.Facts] : Prop :=
  ∀ (m : (ℓ : Loc Cert.PwOneFwdReferenceIdeal.nD Cert.PwOneFwdReferenceIdeal.τ Cert.PwOneFwdReferenceIdeal.sig) → Buf (Elt Ideal) ℓ) (g : Dev Cert.PwOneFwdReferenceIdeal.nD → PrngReg), Pre_PwOneFwdReferenceIdeal m →
    θ_run (Cert.PwOneFwdReferenceIdeal.defs (F := Ideal)) (onTc (τ := Cert.PwOneFwdReferenceIdeal.τ) (Cert.PwOneFwdReferenceIdeal.main (F := Ideal))) ⟨m, fun _ => 0, g⟩ (fun r => (∀ c : Dev Cert.PwOneFwdReferenceIdeal.nD,
      r.2.mem ((c.tc : Thread Cert.PwOneFwdReferenceIdeal.nD Cert.PwOneFwdReferenceIdeal.τ).loc Cert.PwOneFwdReferenceIdeal.main_arg0) = m ((c.tc : Thread Cert.PwOneFwdReferenceIdeal.nD Cert.PwOneFwdReferenceIdeal.τ).loc Cert.PwOneFwdReferenceIdeal.main_arg0)
      ∧ r.2.mem ((c.tc : Thread Cert.PwOneFwdReferenceIdeal.nD Cert.PwOneFwdReferenceIdeal.τ).loc Cert.PwOneFwdReferenceIdeal.main_arg1) = m ((c.tc : Thread Cert.PwOneFwdReferenceIdeal.nD Cert.PwOneFwdReferenceIdeal.τ).loc Cert.PwOneFwdReferenceIdeal.main_arg1)
      ∧ r.2.mem ((c.tc : Thread Cert.PwOneFwdReferenceIdeal.nD Cert.PwOneFwdReferenceIdeal.τ).loc Cert.PwOneFwdReferenceIdeal.main_arg2) = m ((c.tc : Thread Cert.PwOneFwdReferenceIdeal.nD Cert.PwOneFwdReferenceIdeal.τ).loc Cert.PwOneFwdReferenceIdeal.main_arg2))
      ∧ r.2.sem = fun _ => 0)

def quiescent_PwTwoFwd [hPwTwoFwd : Cert.PwTwoFwd.Facts] : Prop :=
  ∀ (m : (ℓ : Loc Cert.PwTwoFwd.nD Cert.PwTwoFwd.τ Cert.PwTwoFwd.sig) → Buf (Elt Bits) ℓ) (g : Dev Cert.PwTwoFwd.nD → PrngReg), Pre_PwTwoFwd m →
    θ_run (Cert.PwTwoFwd.defs (F := Bits)) (onTc (τ := Cert.PwTwoFwd.τ) (Cert.PwTwoFwd.main (F := Bits))) ⟨m, fun _ => 0, g⟩ (fun r => (∀ c : Dev Cert.PwTwoFwd.nD,
      r.2.mem ((c.tc : Thread Cert.PwTwoFwd.nD Cert.PwTwoFwd.τ).loc Cert.PwTwoFwd.main_arg0) = m ((c.tc : Thread Cert.PwTwoFwd.nD Cert.PwTwoFwd.τ).loc Cert.PwTwoFwd.main_arg0)
      ∧ r.2.mem ((c.tc : Thread Cert.PwTwoFwd.nD Cert.PwTwoFwd.τ).loc Cert.PwTwoFwd.main_arg1) = m ((c.tc : Thread Cert.PwTwoFwd.nD Cert.PwTwoFwd.τ).loc Cert.PwTwoFwd.main_arg1)
      ∧ r.2.mem ((c.tc : Thread Cert.PwTwoFwd.nD Cert.PwTwoFwd.τ).loc Cert.PwTwoFwd.main_arg2) = m ((c.tc : Thread Cert.PwTwoFwd.nD Cert.PwTwoFwd.τ).loc Cert.PwTwoFwd.main_arg2))
      ∧ r.2.sem = fun _ => 0)

def quiescent_PwTwoFwdIdeal [hPwTwoFwdIdeal : Cert.PwTwoFwdIdeal.Facts] : Prop :=
  ∀ (m : (ℓ : Loc Cert.PwTwoFwdIdeal.nD Cert.PwTwoFwdIdeal.τ Cert.PwTwoFwdIdeal.sig) → Buf (Elt Ideal) ℓ) (g : Dev Cert.PwTwoFwdIdeal.nD → PrngReg), Pre_PwTwoFwdIdeal m →
    θ_run (Cert.PwTwoFwdIdeal.defs (F := Ideal)) (onTc (τ := Cert.PwTwoFwdIdeal.τ) (Cert.PwTwoFwdIdeal.main (F := Ideal))) ⟨m, fun _ => 0, g⟩ (fun r => (∀ c : Dev Cert.PwTwoFwdIdeal.nD,
      r.2.mem ((c.tc : Thread Cert.PwTwoFwdIdeal.nD Cert.PwTwoFwdIdeal.τ).loc Cert.PwTwoFwdIdeal.main_arg0) = m ((c.tc : Thread Cert.PwTwoFwdIdeal.nD Cert.PwTwoFwdIdeal.τ).loc Cert.PwTwoFwdIdeal.main_arg0)
      ∧ r.2.mem ((c.tc : Thread Cert.PwTwoFwdIdeal.nD Cert.PwTwoFwdIdeal.τ).loc Cert.PwTwoFwdIdeal.main_arg1) = m ((c.tc : Thread Cert.PwTwoFwdIdeal.nD Cert.PwTwoFwdIdeal.τ).loc Cert.PwTwoFwdIdeal.main_arg1)
      ∧ r.2.mem ((c.tc : Thread Cert.PwTwoFwdIdeal.nD Cert.PwTwoFwdIdeal.τ).loc Cert.PwTwoFwdIdeal.main_arg2) = m ((c.tc : Thread Cert.PwTwoFwdIdeal.nD Cert.PwTwoFwdIdeal.τ).loc Cert.PwTwoFwdIdeal.main_arg2))
      ∧ r.2.sem = fun _ => 0)

def quiescent_PwTwoFwdReferenceIdeal [hPwTwoFwdReferenceIdeal : Cert.PwTwoFwdReferenceIdeal.Facts] : Prop :=
  ∀ (m : (ℓ : Loc Cert.PwTwoFwdReferenceIdeal.nD Cert.PwTwoFwdReferenceIdeal.τ Cert.PwTwoFwdReferenceIdeal.sig) → Buf (Elt Ideal) ℓ) (g : Dev Cert.PwTwoFwdReferenceIdeal.nD → PrngReg), Pre_PwTwoFwdReferenceIdeal m →
    θ_run (Cert.PwTwoFwdReferenceIdeal.defs (F := Ideal)) (onTc (τ := Cert.PwTwoFwdReferenceIdeal.τ) (Cert.PwTwoFwdReferenceIdeal.main (F := Ideal))) ⟨m, fun _ => 0, g⟩ (fun r => (∀ c : Dev Cert.PwTwoFwdReferenceIdeal.nD,
      r.2.mem ((c.tc : Thread Cert.PwTwoFwdReferenceIdeal.nD Cert.PwTwoFwdReferenceIdeal.τ).loc Cert.PwTwoFwdReferenceIdeal.main_arg0) = m ((c.tc : Thread Cert.PwTwoFwdReferenceIdeal.nD Cert.PwTwoFwdReferenceIdeal.τ).loc Cert.PwTwoFwdReferenceIdeal.main_arg0)
      ∧ r.2.mem ((c.tc : Thread Cert.PwTwoFwdReferenceIdeal.nD Cert.PwTwoFwdReferenceIdeal.τ).loc Cert.PwTwoFwdReferenceIdeal.main_arg1) = m ((c.tc : Thread Cert.PwTwoFwdReferenceIdeal.nD Cert.PwTwoFwdReferenceIdeal.τ).loc Cert.PwTwoFwdReferenceIdeal.main_arg1)
      ∧ r.2.mem ((c.tc : Thread Cert.PwTwoFwdReferenceIdeal.nD Cert.PwTwoFwdReferenceIdeal.τ).loc Cert.PwTwoFwdReferenceIdeal.main_arg2) = m ((c.tc : Thread Cert.PwTwoFwdReferenceIdeal.nD Cert.PwTwoFwdReferenceIdeal.τ).loc Cert.PwTwoFwdReferenceIdeal.main_arg2))
      ∧ r.2.sem = fun _ => 0)

def quiescent_RetInFwd [hRetInFwd : Cert.RetInFwd.Facts] : Prop :=
  ∀ (m : (ℓ : Loc Cert.RetInFwd.nD Cert.RetInFwd.τ Cert.RetInFwd.sig) → Buf (Elt Bits) ℓ) (g : Dev Cert.RetInFwd.nD → PrngReg), Pre_RetInFwd m →
    θ_run (Cert.RetInFwd.defs (F := Bits)) (onTc (τ := Cert.RetInFwd.τ) (Cert.RetInFwd.main (F := Bits))) ⟨m, fun _ => 0, g⟩ (fun r => (∀ c : Dev Cert.RetInFwd.nD,
      r.2.mem ((c.tc : Thread Cert.RetInFwd.nD Cert.RetInFwd.τ).loc Cert.RetInFwd.main_arg0) = m ((c.tc : Thread Cert.RetInFwd.nD Cert.RetInFwd.τ).loc Cert.RetInFwd.main_arg0)
      ∧ r.2.mem ((c.tc : Thread Cert.RetInFwd.nD Cert.RetInFwd.τ).loc Cert.RetInFwd.main_arg1) = m ((c.tc : Thread Cert.RetInFwd.nD Cert.RetInFwd.τ).loc Cert.RetInFwd.main_arg1))
      ∧ r.2.sem = fun _ => 0)

def quiescent_RetInFwdIdeal [hRetInFwdIdeal : Cert.RetInFwdIdeal.Facts] : Prop :=
  ∀ (m : (ℓ : Loc Cert.RetInFwdIdeal.nD Cert.RetInFwdIdeal.τ Cert.RetInFwdIdeal.sig) → Buf (Elt Ideal) ℓ) (g : Dev Cert.RetInFwdIdeal.nD → PrngReg), Pre_RetInFwdIdeal m →
    θ_run (Cert.RetInFwdIdeal.defs (F := Ideal)) (onTc (τ := Cert.RetInFwdIdeal.τ) (Cert.RetInFwdIdeal.main (F := Ideal))) ⟨m, fun _ => 0, g⟩ (fun r => (∀ c : Dev Cert.RetInFwdIdeal.nD,
      r.2.mem ((c.tc : Thread Cert.RetInFwdIdeal.nD Cert.RetInFwdIdeal.τ).loc Cert.RetInFwdIdeal.main_arg0) = m ((c.tc : Thread Cert.RetInFwdIdeal.nD Cert.RetInFwdIdeal.τ).loc Cert.RetInFwdIdeal.main_arg0)
      ∧ r.2.mem ((c.tc : Thread Cert.RetInFwdIdeal.nD Cert.RetInFwdIdeal.τ).loc Cert.RetInFwdIdeal.main_arg1) = m ((c.tc : Thread Cert.RetInFwdIdeal.nD Cert.RetInFwdIdeal.τ).loc Cert.RetInFwdIdeal.main_arg1))
      ∧ r.2.sem = fun _ => 0)

def quiescent_RetInFwdReferenceIdeal [hRetInFwdReferenceIdeal : Cert.RetInFwdReferenceIdeal.Facts] : Prop :=
  ∀ (m : (ℓ : Loc Cert.RetInFwdReferenceIdeal.nD Cert.RetInFwdReferenceIdeal.τ Cert.RetInFwdReferenceIdeal.sig) → Buf (Elt Ideal) ℓ) (g : Dev Cert.RetInFwdReferenceIdeal.nD → PrngReg), Pre_RetInFwdReferenceIdeal m →
    θ_run (Cert.RetInFwdReferenceIdeal.defs (F := Ideal)) (onTc (τ := Cert.RetInFwdReferenceIdeal.τ) (Cert.RetInFwdReferenceIdeal.main (F := Ideal))) ⟨m, fun _ => 0, g⟩ (fun r => (∀ c : Dev Cert.RetInFwdReferenceIdeal.nD,
      r.2.mem ((c.tc : Thread Cert.RetInFwdReferenceIdeal.nD Cert.RetInFwdReferenceIdeal.τ).loc Cert.RetInFwdReferenceIdeal.main_arg0) = m ((c.tc : Thread Cert.RetInFwdReferenceIdeal.nD Cert.RetInFwdReferenceIdeal.τ).loc Cert.RetInFwdReferenceIdeal.main_arg0)
      ∧ r.2.mem ((c.tc : Thread Cert.RetInFwdReferenceIdeal.nD Cert.RetInFwdReferenceIdeal.τ).loc Cert.RetInFwdReferenceIdeal.main_arg1) = m ((c.tc : Thread Cert.RetInFwdReferenceIdeal.nD Cert.RetInFwdReferenceIdeal.τ).loc Cert.RetInFwdReferenceIdeal.main_arg1))
      ∧ r.2.sem = fun _ => 0)

def quiescent_RetOutFwd [hRetOutFwd : Cert.RetOutFwd.Facts] : Prop :=
  ∀ (m : (ℓ : Loc Cert.RetOutFwd.nD Cert.RetOutFwd.τ Cert.RetOutFwd.sig) → Buf (Elt Bits) ℓ) (g : Dev Cert.RetOutFwd.nD → PrngReg), Pre_RetOutFwd m →
    θ_run (Cert.RetOutFwd.defs (F := Bits)) (onTc (τ := Cert.RetOutFwd.τ) (Cert.RetOutFwd.main (F := Bits))) ⟨m, fun _ => 0, g⟩ (fun r => (∀ c : Dev Cert.RetOutFwd.nD,
      r.2.mem ((c.tc : Thread Cert.RetOutFwd.nD Cert.RetOutFwd.τ).loc Cert.RetOutFwd.main_arg0) = m ((c.tc : Thread Cert.RetOutFwd.nD Cert.RetOutFwd.τ).loc Cert.RetOutFwd.main_arg0)
      ∧ r.2.mem ((c.tc : Thread Cert.RetOutFwd.nD Cert.RetOutFwd.τ).loc Cert.RetOutFwd.main_arg1) = m ((c.tc : Thread Cert.RetOutFwd.nD Cert.RetOutFwd.τ).loc Cert.RetOutFwd.main_arg1))
      ∧ r.2.sem = fun _ => 0)

def quiescent_RetOutFwdIdeal [hRetOutFwdIdeal : Cert.RetOutFwdIdeal.Facts] : Prop :=
  ∀ (m : (ℓ : Loc Cert.RetOutFwdIdeal.nD Cert.RetOutFwdIdeal.τ Cert.RetOutFwdIdeal.sig) → Buf (Elt Ideal) ℓ) (g : Dev Cert.RetOutFwdIdeal.nD → PrngReg), Pre_RetOutFwdIdeal m →
    θ_run (Cert.RetOutFwdIdeal.defs (F := Ideal)) (onTc (τ := Cert.RetOutFwdIdeal.τ) (Cert.RetOutFwdIdeal.main (F := Ideal))) ⟨m, fun _ => 0, g⟩ (fun r => (∀ c : Dev Cert.RetOutFwdIdeal.nD,
      r.2.mem ((c.tc : Thread Cert.RetOutFwdIdeal.nD Cert.RetOutFwdIdeal.τ).loc Cert.RetOutFwdIdeal.main_arg0) = m ((c.tc : Thread Cert.RetOutFwdIdeal.nD Cert.RetOutFwdIdeal.τ).loc Cert.RetOutFwdIdeal.main_arg0)
      ∧ r.2.mem ((c.tc : Thread Cert.RetOutFwdIdeal.nD Cert.RetOutFwdIdeal.τ).loc Cert.RetOutFwdIdeal.main_arg1) = m ((c.tc : Thread Cert.RetOutFwdIdeal.nD Cert.RetOutFwdIdeal.τ).loc Cert.RetOutFwdIdeal.main_arg1))
      ∧ r.2.sem = fun _ => 0)

def quiescent_RetOutFwdReferenceIdeal [hRetOutFwdReferenceIdeal : Cert.RetOutFwdReferenceIdeal.Facts] : Prop :=
  ∀ (m : (ℓ : Loc Cert.RetOutFwdReferenceIdeal.nD Cert.RetOutFwdReferenceIdeal.τ Cert.RetOutFwdReferenceIdeal.sig) → Buf (Elt Ideal) ℓ) (g : Dev Cert.RetOutFwdReferenceIdeal.nD → PrngReg), Pre_RetOutFwdReferenceIdeal m →
    θ_run (Cert.RetOutFwdReferenceIdeal.defs (F := Ideal)) (onTc (τ := Cert.RetOutFwdReferenceIdeal.τ) (Cert.RetOutFwdReferenceIdeal.main (F := Ideal))) ⟨m, fun _ => 0, g⟩ (fun r => (∀ c : Dev Cert.RetOutFwdReferenceIdeal.nD,
      r.2.mem ((c.tc : Thread Cert.RetOutFwdReferenceIdeal.nD Cert.RetOutFwdReferenceIdeal.τ).loc Cert.RetOutFwdReferenceIdeal.main_arg0) = m ((c.tc : Thread Cert.RetOutFwdReferenceIdeal.nD Cert.RetOutFwdReferenceIdeal.τ).loc Cert.RetOutFwdReferenceIdeal.main_arg0)
      ∧ r.2.mem ((c.tc : Thread Cert.RetOutFwdReferenceIdeal.nD Cert.RetOutFwdReferenceIdeal.τ).loc Cert.RetOutFwdReferenceIdeal.main_arg1) = m ((c.tc : Thread Cert.RetOutFwdReferenceIdeal.nD Cert.RetOutFwdReferenceIdeal.τ).loc Cert.RetOutFwdReferenceIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdReferenceIdeal [hUpFwdReferenceIdeal : Cert.UpFwdReferenceIdeal.Facts] : Prop :=
  ∀ (m : (ℓ : Loc Cert.UpFwdReferenceIdeal.nD Cert.UpFwdReferenceIdeal.τ Cert.UpFwdReferenceIdeal.sig) → Buf (Elt Ideal) ℓ) (g : Dev Cert.UpFwdReferenceIdeal.nD → PrngReg), Pre_UpFwdReferenceIdeal m →
    θ_run (Cert.UpFwdReferenceIdeal.defs (F := Ideal)) (onTc (τ := Cert.UpFwdReferenceIdeal.τ) (Cert.UpFwdReferenceIdeal.main (F := Ideal))) ⟨m, fun _ => 0, g⟩ (fun r => (∀ c : Dev Cert.UpFwdReferenceIdeal.nD,
      r.2.mem ((c.tc : Thread Cert.UpFwdReferenceIdeal.nD Cert.UpFwdReferenceIdeal.τ).loc Cert.UpFwdReferenceIdeal.main_arg0) = m ((c.tc : Thread Cert.UpFwdReferenceIdeal.nD Cert.UpFwdReferenceIdeal.τ).loc Cert.UpFwdReferenceIdeal.main_arg0)
      ∧ r.2.mem ((c.tc : Thread Cert.UpFwdReferenceIdeal.nD Cert.UpFwdReferenceIdeal.τ).loc Cert.UpFwdReferenceIdeal.main_arg1) = m ((c.tc : Thread Cert.UpFwdReferenceIdeal.nD Cert.UpFwdReferenceIdeal.τ).loc Cert.UpFwdReferenceIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdReferenceIdeal [hDownFwdReferenceIdeal : Cert.DownFwdReferenceIdeal.Facts] : Prop :=
  ∀ (m : (ℓ : Loc Cert.DownFwdReferenceIdeal.nD Cert.DownFwdReferenceIdeal.τ Cert.DownFwdReferenceIdeal.sig) → Buf (Elt Ideal) ℓ) (g : Dev Cert.DownFwdReferenceIdeal.nD → PrngReg), Pre_DownFwdReferenceIdeal m →
    θ_run (Cert.DownFwdReferenceIdeal.defs (F := Ideal)) (onTc (τ := Cert.DownFwdReferenceIdeal.τ) (Cert.DownFwdReferenceIdeal.main (F := Ideal))) ⟨m, fun _ => 0, g⟩ (fun r => (∀ c : Dev Cert.DownFwdReferenceIdeal.nD,
      r.2.mem ((c.tc : Thread Cert.DownFwdReferenceIdeal.nD Cert.DownFwdReferenceIdeal.τ).loc Cert.DownFwdReferenceIdeal.main_arg0) = m ((c.tc : Thread Cert.DownFwdReferenceIdeal.nD Cert.DownFwdReferenceIdeal.τ).loc Cert.DownFwdReferenceIdeal.main_arg0)
      ∧ r.2.mem ((c.tc : Thread Cert.DownFwdReferenceIdeal.nD Cert.DownFwdReferenceIdeal.τ).loc Cert.DownFwdReferenceIdeal.main_arg1) = m ((c.tc : Thread Cert.DownFwdReferenceIdeal.nD Cert.DownFwdReferenceIdeal.τ).loc Cert.DownFwdReferenceIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdReferenceIdeal [hAdaFwdReferenceIdeal : Cert.AdaFwdReferenceIdeal.Facts] : Prop :=
  ∀ (m : (ℓ : Loc Cert.AdaFwdReferenceIdeal.nD Cert.AdaFwdReferenceIdeal.τ Cert.AdaFwdReferenceIdeal.sig) → Buf (Elt Ideal) ℓ) (g : Dev Cert.AdaFwdReferenceIdeal.nD → PrngReg), Pre_AdaFwdReferenceIdeal m →
    θ_run (Cert.AdaFwdReferenceIdeal.defs (F := Ideal)) (onTc (τ := Cert.AdaFwdReferenceIdeal.τ) (Cert.AdaFwdReferenceIdeal.main (F := Ideal))) ⟨m, fun _ => 0, g⟩ (fun r => (∀ c : Dev Cert.AdaFwdReferenceIdeal.nD,
      r.2.mem ((c.tc : Thread Cert.AdaFwdReferenceIdeal.nD Cert.AdaFwdReferenceIdeal.τ).loc Cert.AdaFwdReferenceIdeal.main_arg0) = m ((c.tc : Thread Cert.AdaFwdReferenceIdeal.nD Cert.AdaFwdReferenceIdeal.τ).loc Cert.AdaFwdReferenceIdeal.main_arg0)
      ∧ r.2.mem ((c.tc : Thread Cert.AdaFwdReferenceIdeal.nD Cert.AdaFwdReferenceIdeal.τ).loc Cert.AdaFwdReferenceIdeal.main_arg1) = m ((c.tc : Thread Cert.AdaFwdReferenceIdeal.nD Cert.AdaFwdReferenceIdeal.τ).loc Cert.AdaFwdReferenceIdeal.main_arg1)
      ∧ r.2.mem ((c.tc : Thread Cert.AdaFwdReferenceIdeal.nD Cert.AdaFwdReferenceIdeal.τ).loc Cert.AdaFwdReferenceIdeal.main_arg2) = m ((c.tc : Thread Cert.AdaFwdReferenceIdeal.nD Cert.AdaFwdReferenceIdeal.τ).loc Cert.AdaFwdReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_PwTwoDx [hPwTwoDx : Cert.PwTwoDx.Facts] : Prop :=
  ∀ (m : (ℓ : Loc Cert.PwTwoDx.nD Cert.PwTwoDx.τ Cert.PwTwoDx.sig) → Buf (Elt Bits) ℓ) (g : Dev Cert.PwTwoDx.nD → PrngReg), Pre_PwTwoDx m →
    θ_run (Cert.PwTwoDx.defs (F := Bits)) (onTc (τ := Cert.PwTwoDx.τ) (Cert.PwTwoDx.main (F := Bits))) ⟨m, fun _ => 0, g⟩ (fun r => (∀ c : Dev Cert.PwTwoDx.nD,
      r.2.mem ((c.tc : Thread Cert.PwTwoDx.nD Cert.PwTwoDx.τ).loc Cert.PwTwoDx.main_arg0) = m ((c.tc : Thread Cert.PwTwoDx.nD Cert.PwTwoDx.τ).loc Cert.PwTwoDx.main_arg0)
      ∧ r.2.mem ((c.tc : Thread Cert.PwTwoDx.nD Cert.PwTwoDx.τ).loc Cert.PwTwoDx.main_arg1) = m ((c.tc : Thread Cert.PwTwoDx.nD Cert.PwTwoDx.τ).loc Cert.PwTwoDx.main_arg1))
      ∧ r.2.sem = fun _ => 0)

def quiescent_PwTwoDxIdeal [hPwTwoDxIdeal : Cert.PwTwoDxIdeal.Facts] : Prop :=
  ∀ (m : (ℓ : Loc Cert.PwTwoDxIdeal.nD Cert.PwTwoDxIdeal.τ Cert.PwTwoDxIdeal.sig) → Buf (Elt Ideal) ℓ) (g : Dev Cert.PwTwoDxIdeal.nD → PrngReg), Pre_PwTwoDxIdeal m →
    θ_run (Cert.PwTwoDxIdeal.defs (F := Ideal)) (onTc (τ := Cert.PwTwoDxIdeal.τ) (Cert.PwTwoDxIdeal.main (F := Ideal))) ⟨m, fun _ => 0, g⟩ (fun r => (∀ c : Dev Cert.PwTwoDxIdeal.nD,
      r.2.mem ((c.tc : Thread Cert.PwTwoDxIdeal.nD Cert.PwTwoDxIdeal.τ).loc Cert.PwTwoDxIdeal.main_arg0) = m ((c.tc : Thread Cert.PwTwoDxIdeal.nD Cert.PwTwoDxIdeal.τ).loc Cert.PwTwoDxIdeal.main_arg0)
      ∧ r.2.mem ((c.tc : Thread Cert.PwTwoDxIdeal.nD Cert.PwTwoDxIdeal.τ).loc Cert.PwTwoDxIdeal.main_arg1) = m ((c.tc : Thread Cert.PwTwoDxIdeal.nD Cert.PwTwoDxIdeal.τ).loc Cert.PwTwoDxIdeal.main_arg1))
      ∧ r.2.sem = fun _ => 0)

def quiescent_PwTwoDxReferenceIdeal [hPwTwoDxReferenceIdeal : Cert.PwTwoDxReferenceIdeal.Facts] : Prop :=
  ∀ (m : (ℓ : Loc Cert.PwTwoDxReferenceIdeal.nD Cert.PwTwoDxReferenceIdeal.τ Cert.PwTwoDxReferenceIdeal.sig) → Buf (Elt Ideal) ℓ) (g : Dev Cert.PwTwoDxReferenceIdeal.nD → PrngReg), Pre_PwTwoDxReferenceIdeal m →
    θ_run (Cert.PwTwoDxReferenceIdeal.defs (F := Ideal)) (onTc (τ := Cert.PwTwoDxReferenceIdeal.τ) (Cert.PwTwoDxReferenceIdeal.main (F := Ideal))) ⟨m, fun _ => 0, g⟩ (fun r => (∀ c : Dev Cert.PwTwoDxReferenceIdeal.nD,
      r.2.mem ((c.tc : Thread Cert.PwTwoDxReferenceIdeal.nD Cert.PwTwoDxReferenceIdeal.τ).loc Cert.PwTwoDxReferenceIdeal.main_arg0) = m ((c.tc : Thread Cert.PwTwoDxReferenceIdeal.nD Cert.PwTwoDxReferenceIdeal.τ).loc Cert.PwTwoDxReferenceIdeal.main_arg0)
      ∧ r.2.mem ((c.tc : Thread Cert.PwTwoDxReferenceIdeal.nD Cert.PwTwoDxReferenceIdeal.τ).loc Cert.PwTwoDxReferenceIdeal.main_arg1) = m ((c.tc : Thread Cert.PwTwoDxReferenceIdeal.nD Cert.PwTwoDxReferenceIdeal.τ).loc Cert.PwTwoDxReferenceIdeal.main_arg1))
      ∧ r.2.sem = fun _ => 0)

def quiescent_PwTwoDw [hPwTwoDw : Cert.PwTwoDw.Facts] : Prop :=
  ∀ (m : (ℓ : Loc Cert.PwTwoDw.nD Cert.PwTwoDw.τ Cert.PwTwoDw.sig) → Buf (Elt Bits) ℓ) (g : Dev Cert.PwTwoDw.nD → PrngReg), Pre_PwTwoDw m →
    θ_run (Cert.PwTwoDw.defs (F := Bits)) (onTc (τ := Cert.PwTwoDw.τ) (Cert.PwTwoDw.main (F := Bits))) ⟨m, fun _ => 0, g⟩ (fun r => (∀ c : Dev Cert.PwTwoDw.nD,
      r.2.mem ((c.tc : Thread Cert.PwTwoDw.nD Cert.PwTwoDw.τ).loc Cert.PwTwoDw.main_arg0) = m ((c.tc : Thread Cert.PwTwoDw.nD Cert.PwTwoDw.τ).loc Cert.PwTwoDw.main_arg0)
      ∧ r.2.mem ((c.tc : Thread Cert.PwTwoDw.nD Cert.PwTwoDw.τ).loc Cert.PwTwoDw.main_arg1) = m ((c.tc : Thread Cert.PwTwoDw.nD Cert.PwTwoDw.τ).loc Cert.PwTwoDw.main_arg1))
      ∧ r.2.sem = fun _ => 0)

def quiescent_PwTwoDwIdeal [hPwTwoDwIdeal : Cert.PwTwoDwIdeal.Facts] : Prop :=
  ∀ (m : (ℓ : Loc Cert.PwTwoDwIdeal.nD Cert.PwTwoDwIdeal.τ Cert.PwTwoDwIdeal.sig) → Buf (Elt Ideal) ℓ) (g : Dev Cert.PwTwoDwIdeal.nD → PrngReg), Pre_PwTwoDwIdeal m →
    θ_run (Cert.PwTwoDwIdeal.defs (F := Ideal)) (onTc (τ := Cert.PwTwoDwIdeal.τ) (Cert.PwTwoDwIdeal.main (F := Ideal))) ⟨m, fun _ => 0, g⟩ (fun r => (∀ c : Dev Cert.PwTwoDwIdeal.nD,
      r.2.mem ((c.tc : Thread Cert.PwTwoDwIdeal.nD Cert.PwTwoDwIdeal.τ).loc Cert.PwTwoDwIdeal.main_arg0) = m ((c.tc : Thread Cert.PwTwoDwIdeal.nD Cert.PwTwoDwIdeal.τ).loc Cert.PwTwoDwIdeal.main_arg0)
      ∧ r.2.mem ((c.tc : Thread Cert.PwTwoDwIdeal.nD Cert.PwTwoDwIdeal.τ).loc Cert.PwTwoDwIdeal.main_arg1) = m ((c.tc : Thread Cert.PwTwoDwIdeal.nD Cert.PwTwoDwIdeal.τ).loc Cert.PwTwoDwIdeal.main_arg1))
      ∧ r.2.sem = fun _ => 0)

def quiescent_PwTwoDwReferenceIdeal [hPwTwoDwReferenceIdeal : Cert.PwTwoDwReferenceIdeal.Facts] : Prop :=
  ∀ (m : (ℓ : Loc Cert.PwTwoDwReferenceIdeal.nD Cert.PwTwoDwReferenceIdeal.τ Cert.PwTwoDwReferenceIdeal.sig) → Buf (Elt Ideal) ℓ) (g : Dev Cert.PwTwoDwReferenceIdeal.nD → PrngReg), Pre_PwTwoDwReferenceIdeal m →
    θ_run (Cert.PwTwoDwReferenceIdeal.defs (F := Ideal)) (onTc (τ := Cert.PwTwoDwReferenceIdeal.τ) (Cert.PwTwoDwReferenceIdeal.main (F := Ideal))) ⟨m, fun _ => 0, g⟩ (fun r => (∀ c : Dev Cert.PwTwoDwReferenceIdeal.nD,
      r.2.mem ((c.tc : Thread Cert.PwTwoDwReferenceIdeal.nD Cert.PwTwoDwReferenceIdeal.τ).loc Cert.PwTwoDwReferenceIdeal.main_arg0) = m ((c.tc : Thread Cert.PwTwoDwReferenceIdeal.nD Cert.PwTwoDwReferenceIdeal.τ).loc Cert.PwTwoDwReferenceIdeal.main_arg0)
      ∧ r.2.mem ((c.tc : Thread Cert.PwTwoDwReferenceIdeal.nD Cert.PwTwoDwReferenceIdeal.τ).loc Cert.PwTwoDwReferenceIdeal.main_arg1) = m ((c.tc : Thread Cert.PwTwoDwReferenceIdeal.nD Cert.PwTwoDwReferenceIdeal.τ).loc Cert.PwTwoDwReferenceIdeal.main_arg1))
      ∧ r.2.sem = fun _ => 0)

def quiescent_PwOneDw [hPwOneDw : Cert.PwOneDw.Facts] : Prop :=
  ∀ (m : (ℓ : Loc Cert.PwOneDw.nD Cert.PwOneDw.τ Cert.PwOneDw.sig) → Buf (Elt Bits) ℓ) (g : Dev Cert.PwOneDw.nD → PrngReg), Pre_PwOneDw m →
    θ_run (Cert.PwOneDw.defs (F := Bits)) (onTc (τ := Cert.PwOneDw.τ) (Cert.PwOneDw.main (F := Bits))) ⟨m, fun _ => 0, g⟩ (fun r => (∀ c : Dev Cert.PwOneDw.nD,
      r.2.mem ((c.tc : Thread Cert.PwOneDw.nD Cert.PwOneDw.τ).loc Cert.PwOneDw.main_arg0) = m ((c.tc : Thread Cert.PwOneDw.nD Cert.PwOneDw.τ).loc Cert.PwOneDw.main_arg0)
      ∧ r.2.mem ((c.tc : Thread Cert.PwOneDw.nD Cert.PwOneDw.τ).loc Cert.PwOneDw.main_arg1) = m ((c.tc : Thread Cert.PwOneDw.nD Cert.PwOneDw.τ).loc Cert.PwOneDw.main_arg1))
      ∧ r.2.sem = fun _ => 0)

def quiescent_PwOneDwIdeal [hPwOneDwIdeal : Cert.PwOneDwIdeal.Facts] : Prop :=
  ∀ (m : (ℓ : Loc Cert.PwOneDwIdeal.nD Cert.PwOneDwIdeal.τ Cert.PwOneDwIdeal.sig) → Buf (Elt Ideal) ℓ) (g : Dev Cert.PwOneDwIdeal.nD → PrngReg), Pre_PwOneDwIdeal m →
    θ_run (Cert.PwOneDwIdeal.defs (F := Ideal)) (onTc (τ := Cert.PwOneDwIdeal.τ) (Cert.PwOneDwIdeal.main (F := Ideal))) ⟨m, fun _ => 0, g⟩ (fun r => (∀ c : Dev Cert.PwOneDwIdeal.nD,
      r.2.mem ((c.tc : Thread Cert.PwOneDwIdeal.nD Cert.PwOneDwIdeal.τ).loc Cert.PwOneDwIdeal.main_arg0) = m ((c.tc : Thread Cert.PwOneDwIdeal.nD Cert.PwOneDwIdeal.τ).loc Cert.PwOneDwIdeal.main_arg0)
      ∧ r.2.mem ((c.tc : Thread Cert.PwOneDwIdeal.nD Cert.PwOneDwIdeal.τ).loc Cert.PwOneDwIdeal.main_arg1) = m ((c.tc : Thread Cert.PwOneDwIdeal.nD Cert.PwOneDwIdeal.τ).loc Cert.PwOneDwIdeal.main_arg1))
      ∧ r.2.sem = fun _ => 0)

def quiescent_PwOneDwReferenceIdeal [hPwOneDwReferenceIdeal : Cert.PwOneDwReferenceIdeal.Facts] : Prop :=
  ∀ (m : (ℓ : Loc Cert.PwOneDwReferenceIdeal.nD Cert.PwOneDwReferenceIdeal.τ Cert.PwOneDwReferenceIdeal.sig) → Buf (Elt Ideal) ℓ) (g : Dev Cert.PwOneDwReferenceIdeal.nD → PrngReg), Pre_PwOneDwReferenceIdeal m →
    θ_run (Cert.PwOneDwReferenceIdeal.defs (F := Ideal)) (onTc (τ := Cert.PwOneDwReferenceIdeal.τ) (Cert.PwOneDwReferenceIdeal.main (F := Ideal))) ⟨m, fun _ => 0, g⟩ (fun r => (∀ c : Dev Cert.PwOneDwReferenceIdeal.nD,
      r.2.mem ((c.tc : Thread Cert.PwOneDwReferenceIdeal.nD Cert.PwOneDwReferenceIdeal.τ).loc Cert.PwOneDwReferenceIdeal.main_arg0) = m ((c.tc : Thread Cert.PwOneDwReferenceIdeal.nD Cert.PwOneDwReferenceIdeal.τ).loc Cert.PwOneDwReferenceIdeal.main_arg0)
      ∧ r.2.mem ((c.tc : Thread Cert.PwOneDwReferenceIdeal.nD Cert.PwOneDwReferenceIdeal.τ).loc Cert.PwOneDwReferenceIdeal.main_arg1) = m ((c.tc : Thread Cert.PwOneDwReferenceIdeal.nD Cert.PwOneDwReferenceIdeal.τ).loc Cert.PwOneDwReferenceIdeal.main_arg1))
      ∧ r.2.sem = fun _ => 0)

def quiescent_PwOneDx [hPwOneDx : Cert.PwOneDx.Facts] : Prop :=
  ∀ (m : (ℓ : Loc Cert.PwOneDx.nD Cert.PwOneDx.τ Cert.PwOneDx.sig) → Buf (Elt Bits) ℓ) (g : Dev Cert.PwOneDx.nD → PrngReg), Pre_PwOneDx m →
    θ_run (Cert.PwOneDx.defs (F := Bits)) (onTc (τ := Cert.PwOneDx.τ) (Cert.PwOneDx.main (F := Bits))) ⟨m, fun _ => 0, g⟩ (fun r => (∀ c : Dev Cert.PwOneDx.nD,
      r.2.mem ((c.tc : Thread Cert.PwOneDx.nD Cert.PwOneDx.τ).loc Cert.PwOneDx.main_arg0) = m ((c.tc : Thread Cert.PwOneDx.nD Cert.PwOneDx.τ).loc Cert.PwOneDx.main_arg0)
      ∧ r.2.mem ((c.tc : Thread Cert.PwOneDx.nD Cert.PwOneDx.τ).loc Cert.PwOneDx.main_arg1) = m ((c.tc : Thread Cert.PwOneDx.nD Cert.PwOneDx.τ).loc Cert.PwOneDx.main_arg1))
      ∧ r.2.sem = fun _ => 0)

def quiescent_PwOneDxIdeal [hPwOneDxIdeal : Cert.PwOneDxIdeal.Facts] : Prop :=
  ∀ (m : (ℓ : Loc Cert.PwOneDxIdeal.nD Cert.PwOneDxIdeal.τ Cert.PwOneDxIdeal.sig) → Buf (Elt Ideal) ℓ) (g : Dev Cert.PwOneDxIdeal.nD → PrngReg), Pre_PwOneDxIdeal m →
    θ_run (Cert.PwOneDxIdeal.defs (F := Ideal)) (onTc (τ := Cert.PwOneDxIdeal.τ) (Cert.PwOneDxIdeal.main (F := Ideal))) ⟨m, fun _ => 0, g⟩ (fun r => (∀ c : Dev Cert.PwOneDxIdeal.nD,
      r.2.mem ((c.tc : Thread Cert.PwOneDxIdeal.nD Cert.PwOneDxIdeal.τ).loc Cert.PwOneDxIdeal.main_arg0) = m ((c.tc : Thread Cert.PwOneDxIdeal.nD Cert.PwOneDxIdeal.τ).loc Cert.PwOneDxIdeal.main_arg0)
      ∧ r.2.mem ((c.tc : Thread Cert.PwOneDxIdeal.nD Cert.PwOneDxIdeal.τ).loc Cert.PwOneDxIdeal.main_arg1) = m ((c.tc : Thread Cert.PwOneDxIdeal.nD Cert.PwOneDxIdeal.τ).loc Cert.PwOneDxIdeal.main_arg1))
      ∧ r.2.sem = fun _ => 0)

def quiescent_PwOneDxReferenceIdeal [hPwOneDxReferenceIdeal : Cert.PwOneDxReferenceIdeal.Facts] : Prop :=
  ∀ (m : (ℓ : Loc Cert.PwOneDxReferenceIdeal.nD Cert.PwOneDxReferenceIdeal.τ Cert.PwOneDxReferenceIdeal.sig) → Buf (Elt Ideal) ℓ) (g : Dev Cert.PwOneDxReferenceIdeal.nD → PrngReg), Pre_PwOneDxReferenceIdeal m →
    θ_run (Cert.PwOneDxReferenceIdeal.defs (F := Ideal)) (onTc (τ := Cert.PwOneDxReferenceIdeal.τ) (Cert.PwOneDxReferenceIdeal.main (F := Ideal))) ⟨m, fun _ => 0, g⟩ (fun r => (∀ c : Dev Cert.PwOneDxReferenceIdeal.nD,
      r.2.mem ((c.tc : Thread Cert.PwOneDxReferenceIdeal.nD Cert.PwOneDxReferenceIdeal.τ).loc Cert.PwOneDxReferenceIdeal.main_arg0) = m ((c.tc : Thread Cert.PwOneDxReferenceIdeal.nD Cert.PwOneDxReferenceIdeal.τ).loc Cert.PwOneDxReferenceIdeal.main_arg0)
      ∧ r.2.mem ((c.tc : Thread Cert.PwOneDxReferenceIdeal.nD Cert.PwOneDxReferenceIdeal.τ).loc Cert.PwOneDxReferenceIdeal.main_arg1) = m ((c.tc : Thread Cert.PwOneDxReferenceIdeal.nD Cert.PwOneDxReferenceIdeal.τ).loc Cert.PwOneDxReferenceIdeal.main_arg1))
      ∧ r.2.sem = fun _ => 0)

def quiescent_RetOutDx [hRetOutDx : Cert.RetOutDx.Facts] : Prop :=
  ∀ (m : (ℓ : Loc Cert.RetOutDx.nD Cert.RetOutDx.τ Cert.RetOutDx.sig) → Buf (Elt Bits) ℓ) (g : Dev Cert.RetOutDx.nD → PrngReg), Pre_RetOutDx m →
    θ_run (Cert.RetOutDx.defs (F := Bits)) (onTc (τ := Cert.RetOutDx.τ) (Cert.RetOutDx.main (F := Bits))) ⟨m, fun _ => 0, g⟩ (fun r => (∀ c : Dev Cert.RetOutDx.nD,
      r.2.mem ((c.tc : Thread Cert.RetOutDx.nD Cert.RetOutDx.τ).loc Cert.RetOutDx.main_arg0) = m ((c.tc : Thread Cert.RetOutDx.nD Cert.RetOutDx.τ).loc Cert.RetOutDx.main_arg0)
      ∧ r.2.mem ((c.tc : Thread Cert.RetOutDx.nD Cert.RetOutDx.τ).loc Cert.RetOutDx.main_arg1) = m ((c.tc : Thread Cert.RetOutDx.nD Cert.RetOutDx.τ).loc Cert.RetOutDx.main_arg1))
      ∧ r.2.sem = fun _ => 0)

def quiescent_RetOutDxIdeal [hRetOutDxIdeal : Cert.RetOutDxIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg), Pre_RetOutDxIdeal m →
    θ_run (Cert.RetOutDxIdeal.defs (F := Ideal)) (onTc (τ := Cert.RetOutDxIdeal.τ) (Cert.RetOutDxIdeal.main (F := Ideal))) ⟨m, fun _ => 0, g⟩ (fun r => (∀ c : Dev Cert.RetOutDxIdeal.nD,
      r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
      ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ r.2.sem = fun _ => 0)

def quiescent_RetOutDxReferenceIdeal [hRetOutDxReferenceIdeal : Cert.RetOutDxReferenceIdeal.Facts] : Prop :=
  ∀ (m : (ℓ : Loc Cert.RetOutDxReferenceIdeal.nD Cert.RetOutDxReferenceIdeal.τ Cert.RetOutDxReferenceIdeal.sig) → Buf (Elt Ideal) ℓ) (g : Dev Cert.RetOutDxReferenceIdeal.nD → PrngReg), Pre_RetOutDxReferenceIdeal m →
    θ_run (Cert.RetOutDxReferenceIdeal.defs (F := Ideal)) (onTc (τ := Cert.RetOutDxReferenceIdeal.τ) (Cert.RetOutDxReferenceIdeal.main (F := Ideal))) ⟨m, fun _ => 0, g⟩ (fun r => (∀ c : Dev Cert.RetOutDxReferenceIdeal.nD,
      r.2.mem ((c.tc : Thread Cert.RetOutDxReferenceIdeal.nD Cert.RetOutDxReferenceIdeal.τ).loc Cert.RetOutDxReferenceIdeal.main_arg0) = m ((c.tc : Thread Cert.RetOutDxReferenceIdeal.nD Cert.RetOutDxReferenceIdeal.τ).loc Cert.RetOutDxReferenceIdeal.main_arg0)
      ∧ r.2.mem ((c.tc : Thread Cert.RetOutDxReferenceIdeal.nD Cert.RetOutDxReferenceIdeal.τ).loc Cert.RetOutDxReferenceIdeal.main_arg1) = m ((c.tc : Thread Cert.RetOutDxReferenceIdeal.nD Cert.RetOutDxReferenceIdeal.τ).loc Cert.RetOutDxReferenceIdeal.main_arg1))
      ∧ r.2.sem = fun _ => 0)

def quiescent_RetOutDw [hRetOutDw : Cert.RetOutDw.Facts] : Prop :=
  ∀ (m : (ℓ : Loc Cert.RetOutDw.nD Cert.RetOutDw.τ Cert.RetOutDw.sig) → Buf (Elt Bits) ℓ) (g : Dev Cert.RetOutDw.nD → PrngReg), Pre_RetOutDw m →
    θ_run (Cert.RetOutDw.defs (F := Bits)) (onTc (τ := Cert.RetOutDw.τ) (Cert.RetOutDw.main (F := Bits))) ⟨m, fun _ => 0, g⟩ (fun r => (∀ c : Dev Cert.RetOutDw.nD,
      r.2.mem ((c.tc : Thread Cert.RetOutDw.nD Cert.RetOutDw.τ).loc Cert.RetOutDw.main_arg0) = m ((c.tc : Thread Cert.RetOutDw.nD Cert.RetOutDw.τ).loc Cert.RetOutDw.main_arg0)
      ∧ r.2.mem ((c.tc : Thread Cert.RetOutDw.nD Cert.RetOutDw.τ).loc Cert.RetOutDw.main_arg1) = m ((c.tc : Thread Cert.RetOutDw.nD Cert.RetOutDw.τ).loc Cert.RetOutDw.main_arg1))
      ∧ r.2.sem = fun _ => 0)

def quiescent_RetOutDwIdeal [hRetOutDwIdeal : Cert.RetOutDwIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg), Pre_RetOutDwIdeal m →
    θ_run (Cert.RetOutDwIdeal.defs (F := Ideal)) (onTc (τ := Cert.RetOutDwIdeal.τ) (Cert.RetOutDwIdeal.main (F := Ideal))) ⟨m, fun _ => 0, g⟩ (fun r => (∀ c : Dev Cert.RetOutDwIdeal.nD,
      r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
      ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ r.2.sem = fun _ => 0)

def quiescent_RetOutDwReferenceIdeal [hRetOutDwReferenceIdeal : Cert.RetOutDwReferenceIdeal.Facts] : Prop :=
  ∀ (m : (ℓ : Loc Cert.RetOutDwReferenceIdeal.nD Cert.RetOutDwReferenceIdeal.τ Cert.RetOutDwReferenceIdeal.sig) → Buf (Elt Ideal) ℓ) (g : Dev Cert.RetOutDwReferenceIdeal.nD → PrngReg), Pre_RetOutDwReferenceIdeal m →
    θ_run (Cert.RetOutDwReferenceIdeal.defs (F := Ideal)) (onTc (τ := Cert.RetOutDwReferenceIdeal.τ) (Cert.RetOutDwReferenceIdeal.main (F := Ideal))) ⟨m, fun _ => 0, g⟩ (fun r => (∀ c : Dev Cert.RetOutDwReferenceIdeal.nD,
      r.2.mem ((c.tc : Thread Cert.RetOutDwReferenceIdeal.nD Cert.RetOutDwReferenceIdeal.τ).loc Cert.RetOutDwReferenceIdeal.main_arg0) = m ((c.tc : Thread Cert.RetOutDwReferenceIdeal.nD Cert.RetOutDwReferenceIdeal.τ).loc Cert.RetOutDwReferenceIdeal.main_arg0)
      ∧ r.2.mem ((c.tc : Thread Cert.RetOutDwReferenceIdeal.nD Cert.RetOutDwReferenceIdeal.τ).loc Cert.RetOutDwReferenceIdeal.main_arg1) = m ((c.tc : Thread Cert.RetOutDwReferenceIdeal.nD Cert.RetOutDwReferenceIdeal.τ).loc Cert.RetOutDwReferenceIdeal.main_arg1))
      ∧ r.2.sem = fun _ => 0)

def quiescent_RetInDw [hRetInDw : Cert.RetInDw.Facts] : Prop :=
  ∀ (m : (ℓ : Loc Cert.RetInDw.nD Cert.RetInDw.τ Cert.RetInDw.sig) → Buf (Elt Bits) ℓ) (g : Dev Cert.RetInDw.nD → PrngReg), Pre_RetInDw m →
    θ_run (Cert.RetInDw.defs (F := Bits)) (onTc (τ := Cert.RetInDw.τ) (Cert.RetInDw.main (F := Bits))) ⟨m, fun _ => 0, g⟩ (fun r => (∀ c : Dev Cert.RetInDw.nD,
      r.2.mem ((c.tc : Thread Cert.RetInDw.nD Cert.RetInDw.τ).loc Cert.RetInDw.main_arg0) = m ((c.tc : Thread Cert.RetInDw.nD Cert.RetInDw.τ).loc Cert.RetInDw.main_arg0)
      ∧ r.2.mem ((c.tc : Thread Cert.RetInDw.nD Cert.RetInDw.τ).loc Cert.RetInDw.main_arg1) = m ((c.tc : Thread Cert.RetInDw.nD Cert.RetInDw.τ).loc Cert.RetInDw.main_arg1))
      ∧ r.2.sem = fun _ => 0)

def quiescent_RetInDwIdeal [hRetInDwIdeal : Cert.RetInDwIdeal.Facts] : Prop :=
  ∀ (m : (ℓ : Loc Cert.RetInDwIdeal.nD Cert.RetInDwIdeal.τ Cert.RetInDwIdeal.sig) → Buf (Elt Ideal) ℓ) (g : Dev Cert.RetInDwIdeal.nD → PrngReg), Pre_RetInDwIdeal m →
    θ_run (Cert.RetInDwIdeal.defs (F := Ideal)) (onTc (τ := Cert.RetInDwIdeal.τ) (Cert.RetInDwIdeal.main (F := Ideal))) ⟨m, fun _ => 0, g⟩ (fun r => (∀ c : Dev Cert.RetInDwIdeal.nD,
      r.2.mem ((c.tc : Thread Cert.RetInDwIdeal.nD Cert.RetInDwIdeal.τ).loc Cert.RetInDwIdeal.main_arg0) = m ((c.tc : Thread Cert.RetInDwIdeal.nD Cert.RetInDwIdeal.τ).loc Cert.RetInDwIdeal.main_arg0)
      ∧ r.2.mem ((c.tc : Thread Cert.RetInDwIdeal.nD Cert.RetInDwIdeal.τ).loc Cert.RetInDwIdeal.main_arg1) = m ((c.tc : Thread Cert.RetInDwIdeal.nD Cert.RetInDwIdeal.τ).loc Cert.RetInDwIdeal.main_arg1))
      ∧ r.2.sem = fun _ => 0)

def quiescent_RetInDwReferenceIdeal [hRetInDwReferenceIdeal : Cert.RetInDwReferenceIdeal.Facts] : Prop :=
  ∀ (m : (ℓ : Loc Cert.RetInDwReferenceIdeal.nD Cert.RetInDwReferenceIdeal.τ Cert.RetInDwReferenceIdeal.sig) → Buf (Elt Ideal) ℓ) (g : Dev Cert.RetInDwReferenceIdeal.nD → PrngReg), Pre_RetInDwReferenceIdeal m →
    θ_run (Cert.RetInDwReferenceIdeal.defs (F := Ideal)) (onTc (τ := Cert.RetInDwReferenceIdeal.τ) (Cert.RetInDwReferenceIdeal.main (F := Ideal))) ⟨m, fun _ => 0, g⟩ (fun r => (∀ c : Dev Cert.RetInDwReferenceIdeal.nD,
      r.2.mem ((c.tc : Thread Cert.RetInDwReferenceIdeal.nD Cert.RetInDwReferenceIdeal.τ).loc Cert.RetInDwReferenceIdeal.main_arg0) = m ((c.tc : Thread Cert.RetInDwReferenceIdeal.nD Cert.RetInDwReferenceIdeal.τ).loc Cert.RetInDwReferenceIdeal.main_arg0)
      ∧ r.2.mem ((c.tc : Thread Cert.RetInDwReferenceIdeal.nD Cert.RetInDwReferenceIdeal.τ).loc Cert.RetInDwReferenceIdeal.main_arg1) = m ((c.tc : Thread Cert.RetInDwReferenceIdeal.nD Cert.RetInDwReferenceIdeal.τ).loc Cert.RetInDwReferenceIdeal.main_arg1))
      ∧ r.2.sem = fun _ => 0)

def quiescent_RetInDx [hRetInDx : Cert.RetInDx.Facts] : Prop :=
  ∀ (m : (ℓ : Loc Cert.RetInDx.nD Cert.RetInDx.τ Cert.RetInDx.sig) → Buf (Elt Bits) ℓ) (g : Dev Cert.RetInDx.nD → PrngReg), Pre_RetInDx m →
    θ_run (Cert.RetInDx.defs (F := Bits)) (onTc (τ := Cert.RetInDx.τ) (Cert.RetInDx.main (F := Bits))) ⟨m, fun _ => 0, g⟩ (fun r => (∀ c : Dev Cert.RetInDx.nD,
      r.2.mem ((c.tc : Thread Cert.RetInDx.nD Cert.RetInDx.τ).loc Cert.RetInDx.main_arg0) = m ((c.tc : Thread Cert.RetInDx.nD Cert.RetInDx.τ).loc Cert.RetInDx.main_arg0)
      ∧ r.2.mem ((c.tc : Thread Cert.RetInDx.nD Cert.RetInDx.τ).loc Cert.RetInDx.main_arg1) = m ((c.tc : Thread Cert.RetInDx.nD Cert.RetInDx.τ).loc Cert.RetInDx.main_arg1))
      ∧ r.2.sem = fun _ => 0)

def quiescent_RetInDxIdeal [hRetInDxIdeal : Cert.RetInDxIdeal.Facts] : Prop :=
  ∀ (m : (ℓ : Loc Cert.RetInDxIdeal.nD Cert.RetInDxIdeal.τ Cert.RetInDxIdeal.sig) → Buf (Elt Ideal) ℓ) (g : Dev Cert.RetInDxIdeal.nD → PrngReg), Pre_RetInDxIdeal m →
    θ_run (Cert.RetInDxIdeal.defs (F := Ideal)) (onTc (τ := Cert.RetInDxIdeal.τ) (Cert.RetInDxIdeal.main (F := Ideal))) ⟨m, fun _ => 0, g⟩ (fun r => (∀ c : Dev Cert.RetInDxIdeal.nD,
      r.2.mem ((c.tc : Thread Cert.RetInDxIdeal.nD Cert.RetInDxIdeal.τ).loc Cert.RetInDxIdeal.main_arg0) = m ((c.tc : Thread Cert.RetInDxIdeal.nD Cert.RetInDxIdeal.τ).loc Cert.RetInDxIdeal.main_arg0)
      ∧ r.2.mem ((c.tc : Thread Cert.RetInDxIdeal.nD Cert.RetInDxIdeal.τ).loc Cert.RetInDxIdeal.main_arg1) = m ((c.tc : Thread Cert.RetInDxIdeal.nD Cert.RetInDxIdeal.τ).loc Cert.RetInDxIdeal.main_arg1))
      ∧ r.2.sem = fun _ => 0)

def quiescent_RetInDxReferenceIdeal [hRetInDxReferenceIdeal : Cert.RetInDxReferenceIdeal.Facts] : Prop :=
  ∀ (m : (ℓ : Loc Cert.RetInDxReferenceIdeal.nD Cert.RetInDxReferenceIdeal.τ Cert.RetInDxReferenceIdeal.sig) → Buf (Elt Ideal) ℓ) (g : Dev Cert.RetInDxReferenceIdeal.nD → PrngReg), Pre_RetInDxReferenceIdeal m →
    θ_run (Cert.RetInDxReferenceIdeal.defs (F := Ideal)) (onTc (τ := Cert.RetInDxReferenceIdeal.τ) (Cert.RetInDxReferenceIdeal.main (F := Ideal))) ⟨m, fun _ => 0, g⟩ (fun r => (∀ c : Dev Cert.RetInDxReferenceIdeal.nD,
      r.2.mem ((c.tc : Thread Cert.RetInDxReferenceIdeal.nD Cert.RetInDxReferenceIdeal.τ).loc Cert.RetInDxReferenceIdeal.main_arg0) = m ((c.tc : Thread Cert.RetInDxReferenceIdeal.nD Cert.RetInDxReferenceIdeal.τ).loc Cert.RetInDxReferenceIdeal.main_arg0)
      ∧ r.2.mem ((c.tc : Thread Cert.RetInDxReferenceIdeal.nD Cert.RetInDxReferenceIdeal.τ).loc Cert.RetInDxReferenceIdeal.main_arg1) = m ((c.tc : Thread Cert.RetInDxReferenceIdeal.nD Cert.RetInDxReferenceIdeal.τ).loc Cert.RetInDxReferenceIdeal.main_arg1))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwReferenceIdeal [hAdaDwReferenceIdeal : Cert.AdaDwReferenceIdeal.Facts] : Prop :=
  ∀ (m : (ℓ : Loc Cert.AdaDwReferenceIdeal.nD Cert.AdaDwReferenceIdeal.τ Cert.AdaDwReferenceIdeal.sig) → Buf (Elt Ideal) ℓ) (g : Dev Cert.AdaDwReferenceIdeal.nD → PrngReg), Pre_AdaDwReferenceIdeal m →
    θ_run (Cert.AdaDwReferenceIdeal.defs (F := Ideal)) (onTc (τ := Cert.AdaDwReferenceIdeal.τ) (Cert.AdaDwReferenceIdeal.main (F := Ideal))) ⟨m, fun _ => 0, g⟩ (fun r => (∀ c : Dev Cert.AdaDwReferenceIdeal.nD,
      r.2.mem ((c.tc : Thread Cert.AdaDwReferenceIdeal.nD Cert.AdaDwReferenceIdeal.τ).loc Cert.AdaDwReferenceIdeal.main_arg0) = m ((c.tc : Thread Cert.AdaDwReferenceIdeal.nD Cert.AdaDwReferenceIdeal.τ).loc Cert.AdaDwReferenceIdeal.main_arg0)
      ∧ r.2.mem ((c.tc : Thread Cert.AdaDwReferenceIdeal.nD Cert.AdaDwReferenceIdeal.τ).loc Cert.AdaDwReferenceIdeal.main_arg1) = m ((c.tc : Thread Cert.AdaDwReferenceIdeal.nD Cert.AdaDwReferenceIdeal.τ).loc Cert.AdaDwReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![32, 1024, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![4, 1024, 512]⟩ ⟨3, ![32, 1024, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 256, 1024]⟩ ⟨3, ![32, 256, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 1024]⟩ ⟨3, ![32, 256, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![4, 1024, 1536]⟩ ⟨3, ![32, 1024, 1536]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨3, ![4, 1024, 1536]⟩ ⟨3, ![32, 1024, 1536]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg6))
      ∧ m ((c.tc : Thread Cert.KernelIdeal.nD Cert.KernelIdeal.τ).loc Cert.KernelIdeal.main_arg7) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨3, ![4, 1024, 1024]⟩ ⟨3, ![32, 1024, 1024]⟩ 0 8 c (m' (((0 : Dev Cert.ReferenceIdeal.nD).tc : Thread Cert.ReferenceIdeal.nD Cert.ReferenceIdeal.τ).loc Cert.ReferenceIdeal.main_arg8))
      ∧ m ((c.tc : Thread Cert.KernelIdeal.nD Cert.KernelIdeal.τ).loc Cert.KernelIdeal.main_arg9) = Layout.block ⟨3, ![4, 1024, 1024]⟩ ⟨3, ![32, 1024, 1024]⟩ 0 8 c (m' (((0 : Dev Cert.ReferenceIdeal.nD).tc : Thread Cert.ReferenceIdeal.nD Cert.ReferenceIdeal.τ).loc Cert.ReferenceIdeal.main_arg9))
      ∧ m ((c.tc : Thread Cert.KernelIdeal.nD Cert.KernelIdeal.τ).loc Cert.KernelIdeal.main_arg10) = Layout.block ⟨3, ![4, 1024, 1024]⟩ ⟨3, ![32, 1024, 1024]⟩ 0 8 c (m' (((0 : Dev Cert.ReferenceIdeal.nD).tc : Thread Cert.ReferenceIdeal.nD Cert.ReferenceIdeal.τ).loc Cert.ReferenceIdeal.main_arg10))
      ∧ m ((c.tc : Thread Cert.KernelIdeal.nD Cert.KernelIdeal.τ).loc Cert.KernelIdeal.main_arg11) = Layout.block ⟨3, ![4, 1024, 1024]⟩ ⟨3, ![32, 1024, 1024]⟩ 0 8 c (m' (((0 : Dev Cert.ReferenceIdeal.nD).tc : Thread Cert.ReferenceIdeal.nD Cert.ReferenceIdeal.τ).loc Cert.ReferenceIdeal.main_arg11))
      ∧ m ((c.tc : Thread Cert.KernelIdeal.nD Cert.KernelIdeal.τ).loc Cert.KernelIdeal.main_arg12) = Layout.block ⟨3, ![4, 1024, 1024]⟩ ⟨3, ![32, 1024, 1024]⟩ 0 8 c (m' (((0 : Dev Cert.ReferenceIdeal.nD).tc : Thread Cert.ReferenceIdeal.nD Cert.ReferenceIdeal.τ).loc Cert.ReferenceIdeal.main_arg12))
      ∧ m ((c.tc : Thread Cert.KernelIdeal.nD Cert.KernelIdeal.τ).loc Cert.KernelIdeal.main_arg13) = Layout.block ⟨3, ![4, 1024, 1024]⟩ ⟨3, ![32, 1024, 1024]⟩ 0 8 c (m' (((0 : Dev Cert.ReferenceIdeal.nD).tc : Thread Cert.ReferenceIdeal.nD Cert.ReferenceIdeal.τ).loc Cert.ReferenceIdeal.main_arg13))
      ∧ m ((c.tc : Thread Cert.KernelIdeal.nD Cert.KernelIdeal.τ).loc Cert.KernelIdeal.main_arg14) = Layout.block ⟨3, ![4, 1024, 1024]⟩ ⟨3, ![32, 1024, 1024]⟩ 0 8 c (m' (((0 : Dev Cert.ReferenceIdeal.nD).tc : Thread Cert.ReferenceIdeal.nD Cert.ReferenceIdeal.τ).loc Cert.ReferenceIdeal.main_arg14))
      ∧ m ((c.tc : Thread Cert.KernelIdeal.nD Cert.KernelIdeal.τ).loc Cert.KernelIdeal.main_arg15) = Layout.block ⟨3, ![4, 1024, 1024]⟩ ⟨3, ![32, 1024, 1024]⟩ 0 8 c (m' (((0 : Dev Cert.ReferenceIdeal.nD).tc : Thread Cert.ReferenceIdeal.nD Cert.ReferenceIdeal.τ).loc Cert.ReferenceIdeal.main_arg15))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)) (v5 : Buf (Elt Ideal) (((0 : Dev Cert.ReferenceIdeal.nD).tc : Thread Cert.ReferenceIdeal.nD Cert.ReferenceIdeal.τ).loc Cert.ReferenceIdeal.main_v17)) (v6 : Buf (Elt Ideal) (((0 : Dev Cert.ReferenceIdeal.nD).tc : Thread Cert.ReferenceIdeal.nD Cert.ReferenceIdeal.τ).loc Cert.ReferenceIdeal.main_v20)) (v7 : Buf (Elt Ideal) (((0 : Dev Cert.ReferenceIdeal.nD).tc : Thread Cert.ReferenceIdeal.nD Cert.ReferenceIdeal.τ).loc Cert.ReferenceIdeal.main_v23)) (v8 : Buf (Elt Ideal) (((0 : Dev Cert.ReferenceIdeal.nD).tc : Thread Cert.ReferenceIdeal.nD Cert.ReferenceIdeal.τ).loc Cert.ReferenceIdeal.main_v26)) (v9 : Buf (Elt Ideal) (((0 : Dev Cert.ReferenceIdeal.nD).tc : Thread Cert.ReferenceIdeal.nD Cert.ReferenceIdeal.τ).loc Cert.ReferenceIdeal.main_v29)) (v10 : Buf (Elt Ideal) (((0 : Dev Cert.ReferenceIdeal.nD).tc : Thread Cert.ReferenceIdeal.nD Cert.ReferenceIdeal.τ).loc Cert.ReferenceIdeal.main_v32)) (v11 : Buf (Elt Ideal) (((0 : Dev Cert.ReferenceIdeal.nD).tc : Thread Cert.ReferenceIdeal.nD Cert.ReferenceIdeal.τ).loc Cert.ReferenceIdeal.main_v35)) (v12 : Buf (Elt Ideal) (((0 : Dev Cert.ReferenceIdeal.nD).tc : Thread Cert.ReferenceIdeal.nD Cert.ReferenceIdeal.τ).loc Cert.ReferenceIdeal.main_v38)) (v13 : Buf (Elt Ideal) (((0 : Dev Cert.ReferenceIdeal.nD).tc : Thread Cert.ReferenceIdeal.nD Cert.ReferenceIdeal.τ).loc Cert.ReferenceIdeal.main_v41)) (v14 : Buf (Elt Ideal) (((0 : Dev Cert.ReferenceIdeal.nD).tc : Thread Cert.ReferenceIdeal.nD Cert.ReferenceIdeal.τ).loc Cert.ReferenceIdeal.main_v44)) (v15 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![4, 1024, 512]⟩ ⟨3, ![32, 1024, 512]⟩ 0 8 c v0
          ∧ r.2.mem ((c.tc : Thread Cert.KernelIdeal.nD Cert.KernelIdeal.τ).loc Cert.KernelIdeal.main_v1_1) = Layout.block ⟨3, ![4, 1024, 512]⟩ ⟨3, ![32, 1024, 512]⟩ 0 8 c v1
          ∧ r.2.mem ((c.tc : Thread Cert.KernelIdeal.nD Cert.KernelIdeal.τ).loc Cert.KernelIdeal.main_v1_2) = Layout.block ⟨3, ![4, 256, 1024]⟩ ⟨3, ![32, 256, 1024]⟩ 0 8 c v2
          ∧ r.2.mem ((c.tc : Thread Cert.KernelIdeal.nD Cert.KernelIdeal.τ).loc Cert.KernelIdeal.main_v1_3) = Layout.block ⟨3, ![4, 256, 1024]⟩ ⟨3, ![32, 256, 1024]⟩ 0 8 c v3
          ∧ r.2.mem ((c.tc : Thread Cert.KernelIdeal.nD Cert.KernelIdeal.τ).loc Cert.KernelIdeal.main_v1_4) = Layout.block ⟨3, ![4, 1024, 1536]⟩ ⟨3, ![32, 1024, 1536]⟩ 0 8 c v4
          ∧ r.2.mem ((c.tc : Thread Cert.KernelIdeal.nD Cert.KernelIdeal.τ).loc Cert.KernelIdeal.main_v1_5) = Layout.block ⟨3, ![4, 1024, 1536]⟩ ⟨3, ![32, 1024, 1536]⟩ 0 8 c v5
          ∧ r.2.mem ((c.tc : Thread Cert.KernelIdeal.nD Cert.KernelIdeal.τ).loc Cert.KernelIdeal.main_v1_6) = Layout.block ⟨3, ![4, 512, 1024]⟩ ⟨3, ![32, 512, 1024]⟩ 0 8 c v6
          ∧ r.2.mem ((c.tc : Thread Cert.KernelIdeal.nD Cert.KernelIdeal.τ).loc Cert.KernelIdeal.main_v1_7) = Layout.block ⟨3, ![4, 512, 1024]⟩ ⟨3, ![32, 512, 1024]⟩ 0 8 c v7
          ∧ r.2.mem ((c.tc : Thread Cert.KernelIdeal.nD Cert.KernelIdeal.τ).loc Cert.KernelIdeal.main_v1_8) = Layout.block ⟨3, ![4, 1024, 1024]⟩ ⟨3, ![32, 1024, 1024]⟩ 0 8 c v8
          ∧ r.2.mem ((c.tc : Thread Cert.KernelIdeal.nD Cert.KernelIdeal.τ).loc Cert.KernelIdeal.main_v1_9) = Layout.block ⟨3, ![4, 1024, 1024]⟩ ⟨3, ![32, 1024, 1024]⟩ 0 8 c v9
          ∧ r.2.mem ((c.tc : Thread Cert.KernelIdeal.nD Cert.KernelIdeal.τ).loc Cert.KernelIdeal.main_v1_10) = Layout.block ⟨3, ![4, 1024, 1024]⟩ ⟨3, ![32, 1024, 1024]⟩ 0 8 c v10
          ∧ r.2.mem ((c.tc : Thread Cert.KernelIdeal.nD Cert.KernelIdeal.τ).loc Cert.KernelIdeal.main_v1_11) = Layout.block ⟨3, ![4, 1024, 1024]⟩ ⟨3, ![32, 1024, 1024]⟩ 0 8 c v11
          ∧ r.2.mem ((c.tc : Thread Cert.KernelIdeal.nD Cert.KernelIdeal.τ).loc Cert.KernelIdeal.main_v1_12) = Layout.block ⟨3, ![4, 1024, 1024]⟩ ⟨3, ![32, 1024, 1024]⟩ 0 8 c v12
          ∧ r.2.mem ((c.tc : Thread Cert.KernelIdeal.nD Cert.KernelIdeal.τ).loc Cert.KernelIdeal.main_v1_13) = Layout.block ⟨3, ![4, 1024, 1024]⟩ ⟨3, ![32, 1024, 1024]⟩ 0 8 c v13
          ∧ r.2.mem ((c.tc : Thread Cert.KernelIdeal.nD Cert.KernelIdeal.τ).loc Cert.KernelIdeal.main_v1_14) = Layout.block ⟨3, ![4, 1024, 1024]⟩ ⟨3, ![32, 1024, 1024]⟩ 0 8 c v14
          ∧ r.2.mem ((c.tc : Thread Cert.KernelIdeal.nD Cert.KernelIdeal.τ).loc Cert.KernelIdeal.main_v1_15) = Layout.block ⟨3, ![4, 1024, 1024]⟩ ⟨3, ![32, 1024, 1024]⟩ 0 8 c v15
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_v17) = v5
          ∧ r.2.mem (((0 : Dev Cert.ReferenceIdeal.nD).tc : Thread Cert.ReferenceIdeal.nD Cert.ReferenceIdeal.τ).loc Cert.ReferenceIdeal.main_v20) = v6
          ∧ r.2.mem (((0 : Dev Cert.ReferenceIdeal.nD).tc : Thread Cert.ReferenceIdeal.nD Cert.ReferenceIdeal.τ).loc Cert.ReferenceIdeal.main_v23) = v7
          ∧ r.2.mem (((0 : Dev Cert.ReferenceIdeal.nD).tc : Thread Cert.ReferenceIdeal.nD Cert.ReferenceIdeal.τ).loc Cert.ReferenceIdeal.main_v26) = v8
          ∧ r.2.mem (((0 : Dev Cert.ReferenceIdeal.nD).tc : Thread Cert.ReferenceIdeal.nD Cert.ReferenceIdeal.τ).loc Cert.ReferenceIdeal.main_v29) = v9
          ∧ r.2.mem (((0 : Dev Cert.ReferenceIdeal.nD).tc : Thread Cert.ReferenceIdeal.nD Cert.ReferenceIdeal.τ).loc Cert.ReferenceIdeal.main_v32) = v10
          ∧ r.2.mem (((0 : Dev Cert.ReferenceIdeal.nD).tc : Thread Cert.ReferenceIdeal.nD Cert.ReferenceIdeal.τ).loc Cert.ReferenceIdeal.main_v35) = v11
          ∧ r.2.mem (((0 : Dev Cert.ReferenceIdeal.nD).tc : Thread Cert.ReferenceIdeal.nD Cert.ReferenceIdeal.τ).loc Cert.ReferenceIdeal.main_v38) = v12
          ∧ r.2.mem (((0 : Dev Cert.ReferenceIdeal.nD).tc : Thread Cert.ReferenceIdeal.nD Cert.ReferenceIdeal.τ).loc Cert.ReferenceIdeal.main_v41) = v13
          ∧ r.2.mem (((0 : Dev Cert.ReferenceIdeal.nD).tc : Thread Cert.ReferenceIdeal.nD Cert.ReferenceIdeal.τ).loc Cert.ReferenceIdeal.main_v44) = v14
          ∧ r.2.mem (((0 : Dev Cert.ReferenceIdeal.nD).tc : Thread Cert.ReferenceIdeal.nD Cert.ReferenceIdeal.τ).loc Cert.ReferenceIdeal.main_v47) = v15
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8)
          ∧ r.2.mem (((0 : Dev Cert.ReferenceIdeal.nD).tc : Thread Cert.ReferenceIdeal.nD Cert.ReferenceIdeal.τ).loc Cert.ReferenceIdeal.main_arg9) = m' (((0 : Dev Cert.ReferenceIdeal.nD).tc : Thread Cert.ReferenceIdeal.nD Cert.ReferenceIdeal.τ).loc Cert.ReferenceIdeal.main_arg9)
          ∧ r.2.mem (((0 : Dev Cert.ReferenceIdeal.nD).tc : Thread Cert.ReferenceIdeal.nD Cert.ReferenceIdeal.τ).loc Cert.ReferenceIdeal.main_arg10) = m' (((0 : Dev Cert.ReferenceIdeal.nD).tc : Thread Cert.ReferenceIdeal.nD Cert.ReferenceIdeal.τ).loc Cert.ReferenceIdeal.main_arg10)
          ∧ r.2.mem (((0 : Dev Cert.ReferenceIdeal.nD).tc : Thread Cert.ReferenceIdeal.nD Cert.ReferenceIdeal.τ).loc Cert.ReferenceIdeal.main_arg11) = m' (((0 : Dev Cert.ReferenceIdeal.nD).tc : Thread Cert.ReferenceIdeal.nD Cert.ReferenceIdeal.τ).loc Cert.ReferenceIdeal.main_arg11)
          ∧ r.2.mem (((0 : Dev Cert.ReferenceIdeal.nD).tc : Thread Cert.ReferenceIdeal.nD Cert.ReferenceIdeal.τ).loc Cert.ReferenceIdeal.main_arg12) = m' (((0 : Dev Cert.ReferenceIdeal.nD).tc : Thread Cert.ReferenceIdeal.nD Cert.ReferenceIdeal.τ).loc Cert.ReferenceIdeal.main_arg12)
          ∧ r.2.mem (((0 : Dev Cert.ReferenceIdeal.nD).tc : Thread Cert.ReferenceIdeal.nD Cert.ReferenceIdeal.τ).loc Cert.ReferenceIdeal.main_arg13) = m' (((0 : Dev Cert.ReferenceIdeal.nD).tc : Thread Cert.ReferenceIdeal.nD Cert.ReferenceIdeal.τ).loc Cert.ReferenceIdeal.main_arg13)
          ∧ r.2.mem (((0 : Dev Cert.ReferenceIdeal.nD).tc : Thread Cert.ReferenceIdeal.nD Cert.ReferenceIdeal.τ).loc Cert.ReferenceIdeal.main_arg14) = m' (((0 : Dev Cert.ReferenceIdeal.nD).tc : Thread Cert.ReferenceIdeal.nD Cert.ReferenceIdeal.τ).loc Cert.ReferenceIdeal.main_arg14)
          ∧ r.2.mem (((0 : Dev Cert.ReferenceIdeal.nD).tc : Thread Cert.ReferenceIdeal.nD Cert.ReferenceIdeal.τ).loc Cert.ReferenceIdeal.main_arg15) = m' (((0 : Dev Cert.ReferenceIdeal.nD).tc : Thread Cert.ReferenceIdeal.nD Cert.ReferenceIdeal.τ).loc Cert.ReferenceIdeal.main_arg15))

def preserves_Scatter_ScatterIdeal : Prop :=
  True

def algebraic_ScatterIdeal_ScatterReferenceIdeal [hScatterIdeal : Cert.ScatterIdeal.Facts] [hScatterReferenceIdeal : Cert.ScatterReferenceIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 1024, 512]⟩ ⟨3, ![32, 1024, 512]⟩ 0 8 c (m' (((0 : Dev Cert.ScatterReferenceIdeal.nD).tc : Thread Cert.ScatterReferenceIdeal.nD Cert.ScatterReferenceIdeal.τ).loc Cert.ScatterReferenceIdeal.main_arg0))
      ∧ m ((c.tc : Thread Cert.ScatterIdeal.nD Cert.ScatterIdeal.τ).loc Cert.ScatterIdeal.main_arg1) = Layout.block ⟨3, ![4, 1024, 512]⟩ ⟨3, ![32, 1024, 512]⟩ 0 8 c (m' (((0 : Dev Cert.ScatterReferenceIdeal.nD).tc : Thread Cert.ScatterReferenceIdeal.nD Cert.ScatterReferenceIdeal.τ).loc Cert.ScatterReferenceIdeal.main_arg1))
      ∧ m ((c.tc : Thread Cert.ScatterIdeal.nD Cert.ScatterIdeal.τ).loc Cert.ScatterIdeal.main_arg2) = Layout.block ⟨3, ![4, 256, 1024]⟩ ⟨3, ![32, 256, 1024]⟩ 0 8 c (m' (((0 : Dev Cert.ScatterReferenceIdeal.nD).tc : Thread Cert.ScatterReferenceIdeal.nD Cert.ScatterReferenceIdeal.τ).loc Cert.ScatterReferenceIdeal.main_arg2))
      ∧ m ((c.tc : Thread Cert.ScatterIdeal.nD Cert.ScatterIdeal.τ).loc Cert.ScatterIdeal.main_arg3) = Layout.block ⟨3, ![4, 256, 1024]⟩ ⟨3, ![32, 256, 1024]⟩ 0 8 c (m' (((0 : Dev Cert.ScatterReferenceIdeal.nD).tc : Thread Cert.ScatterReferenceIdeal.nD Cert.ScatterReferenceIdeal.τ).loc Cert.ScatterReferenceIdeal.main_arg3))
      ∧ m ((c.tc : Thread Cert.ScatterIdeal.nD Cert.ScatterIdeal.τ).loc Cert.ScatterIdeal.main_arg4) = Layout.block ⟨3, ![4, 1024, 1536]⟩ ⟨3, ![32, 1024, 1536]⟩ 0 8 c (m' (((0 : Dev Cert.ScatterReferenceIdeal.nD).tc : Thread Cert.ScatterReferenceIdeal.nD Cert.ScatterReferenceIdeal.τ).loc Cert.ScatterReferenceIdeal.main_arg4))
      ∧ m ((c.tc : Thread Cert.ScatterIdeal.nD Cert.ScatterIdeal.τ).loc Cert.ScatterIdeal.main_arg5) = Layout.block ⟨3, ![4, 1024, 1536]⟩ ⟨3, ![32, 1024, 1536]⟩ 0 8 c (m' (((0 : Dev Cert.ScatterReferenceIdeal.nD).tc : Thread Cert.ScatterReferenceIdeal.nD Cert.ScatterReferenceIdeal.τ).loc Cert.ScatterReferenceIdeal.main_arg5))
      ∧ m ((c.tc : Thread Cert.ScatterIdeal.nD Cert.ScatterIdeal.τ).loc Cert.ScatterIdeal.main_arg6) = Layout.block ⟨3, ![4, 512, 1024]⟩ ⟨3, ![32, 512, 1024]⟩ 0 8 c (m' (((0 : Dev Cert.ScatterReferenceIdeal.nD).tc : Thread Cert.ScatterReferenceIdeal.nD Cert.ScatterReferenceIdeal.τ).loc Cert.ScatterReferenceIdeal.main_arg6))
      ∧ m ((c.tc : Thread Cert.ScatterIdeal.nD Cert.ScatterIdeal.τ).loc Cert.ScatterIdeal.main_arg7) = Layout.block ⟨3, ![4, 512, 1024]⟩ ⟨3, ![32, 512, 1024]⟩ 0 8 c (m' (((0 : Dev Cert.ScatterReferenceIdeal.nD).tc : Thread Cert.ScatterReferenceIdeal.nD Cert.ScatterReferenceIdeal.τ).loc Cert.ScatterReferenceIdeal.main_arg7))
      ∧ m ((c.tc : Thread Cert.ScatterIdeal.nD Cert.ScatterIdeal.τ).loc Cert.ScatterIdeal.main_arg8) = Layout.block ⟨3, ![4, 1024, 1024]⟩ ⟨3, ![32, 1024, 1024]⟩ 0 8 c (m' (((0 : Dev Cert.ScatterReferenceIdeal.nD).tc : Thread Cert.ScatterReferenceIdeal.nD Cert.ScatterReferenceIdeal.τ).loc Cert.ScatterReferenceIdeal.main_arg8))
      ∧ m ((c.tc : Thread Cert.ScatterIdeal.nD Cert.ScatterIdeal.τ).loc Cert.ScatterIdeal.main_arg9) = Layout.block ⟨3, ![4, 1024, 1024]⟩ ⟨3, ![32, 1024, 1024]⟩ 0 8 c (m' (((0 : Dev Cert.ScatterReferenceIdeal.nD).tc : Thread Cert.ScatterReferenceIdeal.nD Cert.ScatterReferenceIdeal.τ).loc Cert.ScatterReferenceIdeal.main_arg9))
      ∧ m ((c.tc : Thread Cert.ScatterIdeal.nD Cert.ScatterIdeal.τ).loc Cert.ScatterIdeal.main_arg10) = Layout.block ⟨3, ![4, 1024, 1024]⟩ ⟨3, ![32, 1024, 1024]⟩ 0 8 c (m' (((0 : Dev Cert.ScatterReferenceIdeal.nD).tc : Thread Cert.ScatterReferenceIdeal.nD Cert.ScatterReferenceIdeal.τ).loc Cert.ScatterReferenceIdeal.main_arg10))
      ∧ m ((c.tc : Thread Cert.ScatterIdeal.nD Cert.ScatterIdeal.τ).loc Cert.ScatterIdeal.main_arg11) = Layout.block ⟨3, ![4, 1024, 1024]⟩ ⟨3, ![32, 1024, 1024]⟩ 0 8 c (m' (((0 : Dev Cert.ScatterReferenceIdeal.nD).tc : Thread Cert.ScatterReferenceIdeal.nD Cert.ScatterReferenceIdeal.τ).loc Cert.ScatterReferenceIdeal.main_arg11))
      ∧ m ((c.tc : Thread Cert.ScatterIdeal.nD Cert.ScatterIdeal.τ).loc Cert.ScatterIdeal.main_arg12) = Layout.block ⟨3, ![4, 1024, 1024]⟩ ⟨3, ![32, 1024, 1024]⟩ 0 8 c (m' (((0 : Dev Cert.ScatterReferenceIdeal.nD).tc : Thread Cert.ScatterReferenceIdeal.nD Cert.ScatterReferenceIdeal.τ).loc Cert.ScatterReferenceIdeal.main_arg12))
      ∧ m ((c.tc : Thread Cert.ScatterIdeal.nD Cert.ScatterIdeal.τ).loc Cert.ScatterIdeal.main_arg13) = Layout.block ⟨3, ![4, 1024, 1024]⟩ ⟨3, ![32, 1024, 1024]⟩ 0 8 c (m' (((0 : Dev Cert.ScatterReferenceIdeal.nD).tc : Thread Cert.ScatterReferenceIdeal.nD Cert.ScatterReferenceIdeal.τ).loc Cert.ScatterReferenceIdeal.main_arg13))
      ∧ m ((c.tc : Thread Cert.ScatterIdeal.nD Cert.ScatterIdeal.τ).loc Cert.ScatterIdeal.main_arg14) = Layout.block ⟨3, ![4, 1024, 1024]⟩ ⟨3, ![32, 1024, 1024]⟩ 0 8 c (m' (((0 : Dev Cert.ScatterReferenceIdeal.nD).tc : Thread Cert.ScatterReferenceIdeal.nD Cert.ScatterReferenceIdeal.τ).loc Cert.ScatterReferenceIdeal.main_arg14))
      ∧ m ((c.tc : Thread Cert.ScatterIdeal.nD Cert.ScatterIdeal.τ).loc Cert.ScatterIdeal.main_arg15) = Layout.block ⟨3, ![4, 1024, 1024]⟩ ⟨3, ![32, 1024, 1024]⟩ 0 8 c (m' (((0 : Dev Cert.ScatterReferenceIdeal.nD).tc : Thread Cert.ScatterReferenceIdeal.nD Cert.ScatterReferenceIdeal.τ).loc Cert.ScatterReferenceIdeal.main_arg15))) →
    ∃ (v0 : Buf (Elt Ideal) (((0 : Dev Cert.ScatterReferenceIdeal.nD).tc : Thread Cert.ScatterReferenceIdeal.nD Cert.ScatterReferenceIdeal.τ).loc Cert.ScatterReferenceIdeal.main_v8)) (v1 : Buf (Elt Ideal) (((0 : Dev Cert.ScatterReferenceIdeal.nD).tc : Thread Cert.ScatterReferenceIdeal.nD Cert.ScatterReferenceIdeal.τ).loc Cert.ScatterReferenceIdeal.main_v17)) (v2 : Buf (Elt Ideal) (((0 : Dev Cert.ScatterReferenceIdeal.nD).tc : Thread Cert.ScatterReferenceIdeal.nD Cert.ScatterReferenceIdeal.τ).loc Cert.ScatterReferenceIdeal.main_v26)) (v3 : Buf (Elt Ideal) (((0 : Dev Cert.ScatterReferenceIdeal.nD).tc : Thread Cert.ScatterReferenceIdeal.nD Cert.ScatterReferenceIdeal.τ).loc Cert.ScatterReferenceIdeal.main_v35)) (v4 : Buf (Elt Ideal) (((0 : Dev Cert.ScatterReferenceIdeal.nD).tc : Thread Cert.ScatterReferenceIdeal.nD Cert.ScatterReferenceIdeal.τ).loc Cert.ScatterReferenceIdeal.main_v52)) (v5 : Buf (Elt Ideal) (((0 : Dev Cert.ScatterReferenceIdeal.nD).tc : Thread Cert.ScatterReferenceIdeal.nD Cert.ScatterReferenceIdeal.τ).loc Cert.ScatterReferenceIdeal.main_v69)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.block ⟨4, ![2, 4, 1024, 512]⟩ ⟨4, ![2, 32, 1024, 512]⟩ 1 8 c v0
          ∧ r.2.mem ((c.tc : Thread Cert.ScatterIdeal.nD Cert.ScatterIdeal.τ).loc Cert.ScatterIdeal.main_v1_1) = Layout.block ⟨4, ![2, 4, 256, 1024]⟩ ⟨4, ![2, 32, 256, 1024]⟩ 1 8 c v1
          ∧ r.2.mem ((c.tc : Thread Cert.ScatterIdeal.nD Cert.ScatterIdeal.τ).loc Cert.ScatterIdeal.main_v1_2) = Layout.block ⟨4, ![2, 4, 1024, 1536]⟩ ⟨4, ![2, 32, 1024, 1536]⟩ 1 8 c v2
          ∧ r.2.mem ((c.tc : Thread Cert.ScatterIdeal.nD Cert.ScatterIdeal.τ).loc Cert.ScatterIdeal.main_v1_3) = Layout.block ⟨4, ![2, 4, 512, 1024]⟩ ⟨4, ![2, 32, 512, 1024]⟩ 1 8 c v3
          ∧ r.2.mem ((c.tc : Thread Cert.ScatterIdeal.nD Cert.ScatterIdeal.τ).loc Cert.ScatterIdeal.main_v1_4) = Layout.block ⟨4, ![4, 4, 1024, 1024]⟩ ⟨4, ![4, 32, 1024, 1024]⟩ 1 8 c v4
          ∧ r.2.mem ((c.tc : Thread Cert.ScatterIdeal.nD Cert.ScatterIdeal.τ).loc Cert.ScatterIdeal.main_v1_5) = Layout.block ⟨4, ![4, 4, 1024, 1024]⟩ ⟨4, ![4, 32, 1024, 1024]⟩ 1 8 c v5
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
          ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
          ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6)
          ∧ r.2.mem ((c.tc : Thread Cert.ScatterIdeal.nD Cert.ScatterIdeal.τ).loc Cert.ScatterIdeal.main_arg7) = m ((c.tc : Thread Cert.ScatterIdeal.nD Cert.ScatterIdeal.τ).loc Cert.ScatterIdeal.main_arg7)
          ∧ r.2.mem ((c.tc : Thread Cert.ScatterIdeal.nD Cert.ScatterIdeal.τ).loc Cert.ScatterIdeal.main_arg8) = m ((c.tc : Thread Cert.ScatterIdeal.nD Cert.ScatterIdeal.τ).loc Cert.ScatterIdeal.main_arg8)
          ∧ r.2.mem ((c.tc : Thread Cert.ScatterIdeal.nD Cert.ScatterIdeal.τ).loc Cert.ScatterIdeal.main_arg9) = m ((c.tc : Thread Cert.ScatterIdeal.nD Cert.ScatterIdeal.τ).loc Cert.ScatterIdeal.main_arg9)
          ∧ r.2.mem ((c.tc : Thread Cert.ScatterIdeal.nD Cert.ScatterIdeal.τ).loc Cert.ScatterIdeal.main_arg10) = m ((c.tc : Thread Cert.ScatterIdeal.nD Cert.ScatterIdeal.τ).loc Cert.ScatterIdeal.main_arg10)
          ∧ r.2.mem ((c.tc : Thread Cert.ScatterIdeal.nD Cert.ScatterIdeal.τ).loc Cert.ScatterIdeal.main_arg11) = m ((c.tc : Thread Cert.ScatterIdeal.nD Cert.ScatterIdeal.τ).loc Cert.ScatterIdeal.main_arg11)
          ∧ r.2.mem ((c.tc : Thread Cert.ScatterIdeal.nD Cert.ScatterIdeal.τ).loc Cert.ScatterIdeal.main_arg12) = m ((c.tc : Thread Cert.ScatterIdeal.nD Cert.ScatterIdeal.τ).loc Cert.ScatterIdeal.main_arg12)
          ∧ r.2.mem ((c.tc : Thread Cert.ScatterIdeal.nD Cert.ScatterIdeal.τ).loc Cert.ScatterIdeal.main_arg13) = m ((c.tc : Thread Cert.ScatterIdeal.nD Cert.ScatterIdeal.τ).loc Cert.ScatterIdeal.main_arg13)
          ∧ r.2.mem ((c.tc : Thread Cert.ScatterIdeal.nD Cert.ScatterIdeal.τ).loc Cert.ScatterIdeal.main_arg14) = m ((c.tc : Thread Cert.ScatterIdeal.nD Cert.ScatterIdeal.τ).loc Cert.ScatterIdeal.main_arg14)
          ∧ r.2.mem ((c.tc : Thread Cert.ScatterIdeal.nD Cert.ScatterIdeal.τ).loc Cert.ScatterIdeal.main_arg15) = m ((c.tc : Thread Cert.ScatterIdeal.nD Cert.ScatterIdeal.τ).loc Cert.ScatterIdeal.main_arg15))
      ∧ θ_run (Cert.ScatterReferenceIdeal.defs (F := Ideal)) (onTc (τ := Cert.ScatterReferenceIdeal.τ) (Cert.ScatterReferenceIdeal.main (F := Ideal))) ⟨m', fun _ => 0, g'⟩ (fun r =>
          r.2.mem (((0 : Dev Cert.ScatterReferenceIdeal.nD).tc : Thread Cert.ScatterReferenceIdeal.nD Cert.ScatterReferenceIdeal.τ).loc Cert.ScatterReferenceIdeal.main_v8) = v0
          ∧ r.2.mem (((0 : Dev Cert.ScatterReferenceIdeal.nD).tc : Thread Cert.ScatterReferenceIdeal.nD Cert.ScatterReferenceIdeal.τ).loc Cert.ScatterReferenceIdeal.main_v17) = v1
          ∧ r.2.mem (((0 : Dev Cert.ScatterReferenceIdeal.nD).tc : Thread Cert.ScatterReferenceIdeal.nD Cert.ScatterReferenceIdeal.τ).loc Cert.ScatterReferenceIdeal.main_v26) = v2
          ∧ r.2.mem (((0 : Dev Cert.ScatterReferenceIdeal.nD).tc : Thread Cert.ScatterReferenceIdeal.nD Cert.ScatterReferenceIdeal.τ).loc Cert.ScatterReferenceIdeal.main_v35) = v3
          ∧ r.2.mem (((0 : Dev Cert.ScatterReferenceIdeal.nD).tc : Thread Cert.ScatterReferenceIdeal.nD Cert.ScatterReferenceIdeal.τ).loc Cert.ScatterReferenceIdeal.main_v52) = v4
          ∧ r.2.mem (((0 : Dev Cert.ScatterReferenceIdeal.nD).tc : Thread Cert.ScatterReferenceIdeal.nD Cert.ScatterReferenceIdeal.τ).loc Cert.ScatterReferenceIdeal.main_v69) = v5
          ∧ r.2.mem (((0 : Dev Cert.ScatterReferenceIdeal.nD).tc : Thread Cert.ScatterReferenceIdeal.nD Cert.ScatterReferenceIdeal.τ).loc Cert.ScatterReferenceIdeal.main_arg0) = m' (((0 : Dev Cert.ScatterReferenceIdeal.nD).tc : Thread Cert.ScatterReferenceIdeal.nD Cert.ScatterReferenceIdeal.τ).loc Cert.ScatterReferenceIdeal.main_arg0)
          ∧ r.2.mem (((0 : Dev Cert.ScatterReferenceIdeal.nD).tc : Thread Cert.ScatterReferenceIdeal.nD Cert.ScatterReferenceIdeal.τ).loc Cert.ScatterReferenceIdeal.main_arg1) = m' (((0 : Dev Cert.ScatterReferenceIdeal.nD).tc : Thread Cert.ScatterReferenceIdeal.nD Cert.ScatterReferenceIdeal.τ).loc Cert.ScatterReferenceIdeal.main_arg1)
          ∧ r.2.mem (((0 : Dev Cert.ScatterReferenceIdeal.nD).tc : Thread Cert.ScatterReferenceIdeal.nD Cert.ScatterReferenceIdeal.τ).loc Cert.ScatterReferenceIdeal.main_arg2) = m' (((0 : Dev Cert.ScatterReferenceIdeal.nD).tc : Thread Cert.ScatterReferenceIdeal.nD Cert.ScatterReferenceIdeal.τ).loc Cert.ScatterReferenceIdeal.main_arg2)
          ∧ r.2.mem (((0 : Dev Cert.ScatterReferenceIdeal.nD).tc : Thread Cert.ScatterReferenceIdeal.nD Cert.ScatterReferenceIdeal.τ).loc Cert.ScatterReferenceIdeal.main_arg3) = m' (((0 : Dev Cert.ScatterReferenceIdeal.nD).tc : Thread Cert.ScatterReferenceIdeal.nD Cert.ScatterReferenceIdeal.τ).loc Cert.ScatterReferenceIdeal.main_arg3)
          ∧ r.2.mem (((0 : Dev Cert.ScatterReferenceIdeal.nD).tc : Thread Cert.ScatterReferenceIdeal.nD Cert.ScatterReferenceIdeal.τ).loc Cert.ScatterReferenceIdeal.main_arg4) = m' (((0 : Dev Cert.ScatterReferenceIdeal.nD).tc : Thread Cert.ScatterReferenceIdeal.nD Cert.ScatterReferenceIdeal.τ).loc Cert.ScatterReferenceIdeal.main_arg4)
          ∧ r.2.mem (((0 : Dev Cert.ScatterReferenceIdeal.nD).tc : Thread Cert.ScatterReferenceIdeal.nD Cert.ScatterReferenceIdeal.τ).loc Cert.ScatterReferenceIdeal.main_arg5) = m' (((0 : Dev Cert.ScatterReferenceIdeal.nD).tc : Thread Cert.ScatterReferenceIdeal.nD Cert.ScatterReferenceIdeal.τ).loc Cert.ScatterReferenceIdeal.main_arg5)
          ∧ r.2.mem (((0 : Dev Cert.ScatterReferenceIdeal.nD).tc : Thread Cert.ScatterReferenceIdeal.nD Cert.ScatterReferenceIdeal.τ).loc Cert.ScatterReferenceIdeal.main_arg6) = m' (((0 : Dev Cert.ScatterReferenceIdeal.nD).tc : Thread Cert.ScatterReferenceIdeal.nD Cert.ScatterReferenceIdeal.τ).loc Cert.ScatterReferenceIdeal.main_arg6)
          ∧ r.2.mem (((0 : Dev Cert.ScatterReferenceIdeal.nD).tc : Thread Cert.ScatterReferenceIdeal.nD Cert.ScatterReferenceIdeal.τ).loc Cert.ScatterReferenceIdeal.main_arg7) = m' (((0 : Dev Cert.ScatterReferenceIdeal.nD).tc : Thread Cert.ScatterReferenceIdeal.nD Cert.ScatterReferenceIdeal.τ).loc Cert.ScatterReferenceIdeal.main_arg7)
          ∧ r.2.mem (((0 : Dev Cert.ScatterReferenceIdeal.nD).tc : Thread Cert.ScatterReferenceIdeal.nD Cert.ScatterReferenceIdeal.τ).loc Cert.ScatterReferenceIdeal.main_arg8) = m' (((0 : Dev Cert.ScatterReferenceIdeal.nD).tc : Thread Cert.ScatterReferenceIdeal.nD Cert.ScatterReferenceIdeal.τ).loc Cert.ScatterReferenceIdeal.main_arg8)
          ∧ r.2.mem (((0 : Dev Cert.ScatterReferenceIdeal.nD).tc : Thread Cert.ScatterReferenceIdeal.nD Cert.ScatterReferenceIdeal.τ).loc Cert.ScatterReferenceIdeal.main_arg9) = m' (((0 : Dev Cert.ScatterReferenceIdeal.nD).tc : Thread Cert.ScatterReferenceIdeal.nD Cert.ScatterReferenceIdeal.τ).loc Cert.ScatterReferenceIdeal.main_arg9)
          ∧ r.2.mem (((0 : Dev Cert.ScatterReferenceIdeal.nD).tc : Thread Cert.ScatterReferenceIdeal.nD Cert.ScatterReferenceIdeal.τ).loc Cert.ScatterReferenceIdeal.main_arg10) = m' (((0 : Dev Cert.ScatterReferenceIdeal.nD).tc : Thread Cert.ScatterReferenceIdeal.nD Cert.ScatterReferenceIdeal.τ).loc Cert.ScatterReferenceIdeal.main_arg10)
          ∧ r.2.mem (((0 : Dev Cert.ScatterReferenceIdeal.nD).tc : Thread Cert.ScatterReferenceIdeal.nD Cert.ScatterReferenceIdeal.τ).loc Cert.ScatterReferenceIdeal.main_arg11) = m' (((0 : Dev Cert.ScatterReferenceIdeal.nD).tc : Thread Cert.ScatterReferenceIdeal.nD Cert.ScatterReferenceIdeal.τ).loc Cert.ScatterReferenceIdeal.main_arg11)
          ∧ r.2.mem (((0 : Dev Cert.ScatterReferenceIdeal.nD).tc : Thread Cert.ScatterReferenceIdeal.nD Cert.ScatterReferenceIdeal.τ).loc Cert.ScatterReferenceIdeal.main_arg12) = m' (((0 : Dev Cert.ScatterReferenceIdeal.nD).tc : Thread Cert.ScatterReferenceIdeal.nD Cert.ScatterReferenceIdeal.τ).loc Cert.ScatterReferenceIdeal.main_arg12)
          ∧ r.2.mem (((0 : Dev Cert.ScatterReferenceIdeal.nD).tc : Thread Cert.ScatterReferenceIdeal.nD Cert.ScatterReferenceIdeal.τ).loc Cert.ScatterReferenceIdeal.main_arg13) = m' (((0 : Dev Cert.ScatterReferenceIdeal.nD).tc : Thread Cert.ScatterReferenceIdeal.nD Cert.ScatterReferenceIdeal.τ).loc Cert.ScatterReferenceIdeal.main_arg13)
          ∧ r.2.mem (((0 : Dev Cert.ScatterReferenceIdeal.nD).tc : Thread Cert.ScatterReferenceIdeal.nD Cert.ScatterReferenceIdeal.τ).loc Cert.ScatterReferenceIdeal.main_arg14) = m' (((0 : Dev Cert.ScatterReferenceIdeal.nD).tc : Thread Cert.ScatterReferenceIdeal.nD Cert.ScatterReferenceIdeal.τ).loc Cert.ScatterReferenceIdeal.main_arg14)
          ∧ r.2.mem (((0 : Dev Cert.ScatterReferenceIdeal.nD).tc : Thread Cert.ScatterReferenceIdeal.nD Cert.ScatterReferenceIdeal.τ).loc Cert.ScatterReferenceIdeal.main_arg15) = m' (((0 : Dev Cert.ScatterReferenceIdeal.nD).tc : Thread Cert.ScatterReferenceIdeal.nD Cert.ScatterReferenceIdeal.τ).loc Cert.ScatterReferenceIdeal.main_arg15))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![1024, 512]⟩ ⟨2, ![1024, 2048]⟩ (Layout.meshBlock [2, 2, 2] ![[], [0, 1]] c) (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.blockN ⟨2, ![1024, 512]⟩ ⟨2, ![1024, 2048]⟩ (Layout.meshBlock [2, 2, 2] ![[], [0, 1]] c) (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.blockN ⟨2, ![256, 1024]⟩ ⟨2, ![1024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.blockN ⟨2, ![256, 1024]⟩ ⟨2, ![1024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = Layout.blockN ⟨2, ![1024, 1536]⟩ ⟨2, ![1024, 6144]⟩ (Layout.meshBlock [2, 2, 2] ![[], [0, 1]] c) (m' (((0 : Dev Cert.GatherReferenceIdeal.nD).tc : Thread Cert.GatherReferenceIdeal.nD Cert.GatherReferenceIdeal.τ).loc Cert.GatherReferenceIdeal.main_arg4))
      ∧ m ((c.tc : Thread Cert.GatherIdeal.nD Cert.GatherIdeal.τ).loc Cert.GatherIdeal.main_arg5) = Layout.blockN ⟨2, ![1024, 1536]⟩ ⟨2, ![1024, 6144]⟩ (Layout.meshBlock [2, 2, 2] ![[], [0, 1]] c) (m' (((0 : Dev Cert.GatherReferenceIdeal.nD).tc : Thread Cert.GatherReferenceIdeal.nD Cert.GatherReferenceIdeal.τ).loc Cert.GatherReferenceIdeal.main_arg5))
      ∧ m ((c.tc : Thread Cert.GatherIdeal.nD Cert.GatherIdeal.τ).loc Cert.GatherIdeal.main_arg6) = Layout.blockN ⟨2, ![512, 1024]⟩ ⟨2, ![2048, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg6))
      ∧ m ((c.tc : Thread Cert.GatherIdeal.nD Cert.GatherIdeal.τ).loc Cert.GatherIdeal.main_arg7) = Layout.blockN ⟨2, ![512, 1024]⟩ ⟨2, ![2048, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg7))
      ∧ m ((c.tc : Thread Cert.GatherIdeal.nD Cert.GatherIdeal.τ).loc Cert.GatherIdeal.main_arg8) = Layout.blockN ⟨2, ![1024, 1024]⟩ ⟨2, ![1024, 4096]⟩ (Layout.meshBlock [2, 2, 2] ![[], [0, 1]] c) (m' (((0 : Dev Cert.GatherReferenceIdeal.nD).tc : Thread Cert.GatherReferenceIdeal.nD Cert.GatherReferenceIdeal.τ).loc Cert.GatherReferenceIdeal.main_arg8))
      ∧ m ((c.tc : Thread Cert.GatherIdeal.nD Cert.GatherIdeal.τ).loc Cert.GatherIdeal.main_arg9) = Layout.blockN ⟨2, ![1024, 1024]⟩ ⟨2, ![1024, 4096]⟩ (Layout.meshBlock [2, 2, 2] ![[], [0, 1]] c) (m' (((0 : Dev Cert.GatherReferenceIdeal.nD).tc : Thread Cert.GatherReferenceIdeal.nD Cert.GatherReferenceIdeal.τ).loc Cert.GatherReferenceIdeal.main_arg9))
      ∧ m ((c.tc : Thread Cert.GatherIdeal.nD Cert.GatherIdeal.τ).loc Cert.GatherIdeal.main_arg10) = Layout.blockN ⟨2, ![1024, 1024]⟩ ⟨2, ![1024, 4096]⟩ (Layout.meshBlock [2, 2, 2] ![[], [0, 1]] c) (m' (((0 : Dev Cert.GatherReferenceIdeal.nD).tc : Thread Cert.GatherReferenceIdeal.nD Cert.GatherReferenceIdeal.τ).loc Cert.GatherReferenceIdeal.main_arg10))
      ∧ m ((c.tc : Thread Cert.GatherIdeal.nD Cert.GatherIdeal.τ).loc Cert.GatherIdeal.main_arg11) = Layout.blockN ⟨2, ![1024, 1024]⟩ ⟨2, ![1024, 4096]⟩ (Layout.meshBlock [2, 2, 2] ![[], [0, 1]] c) (m' (((0 : Dev Cert.GatherReferenceIdeal.nD).tc : Thread Cert.GatherReferenceIdeal.nD Cert.GatherReferenceIdeal.τ).loc Cert.GatherReferenceIdeal.main_arg11))
      ∧ m ((c.tc : Thread Cert.GatherIdeal.nD Cert.GatherIdeal.τ).loc Cert.GatherIdeal.main_arg12) = Layout.blockN ⟨2, ![1024, 1024]⟩ ⟨2, ![4096, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg12))
      ∧ m ((c.tc : Thread Cert.GatherIdeal.nD Cert.GatherIdeal.τ).loc Cert.GatherIdeal.main_arg13) = Layout.blockN ⟨2, ![1024, 1024]⟩ ⟨2, ![4096, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg13))
      ∧ m ((c.tc : Thread Cert.GatherIdeal.nD Cert.GatherIdeal.τ).loc Cert.GatherIdeal.main_arg14) = Layout.blockN ⟨2, ![1024, 1024]⟩ ⟨2, ![4096, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg14))
      ∧ m ((c.tc : Thread Cert.GatherIdeal.nD Cert.GatherIdeal.τ).loc Cert.GatherIdeal.main_arg15) = Layout.blockN ⟨2, ![1024, 1024]⟩ ⟨2, ![4096, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg15))
      ∧ m ((c.tc : Thread Cert.GatherIdeal.nD Cert.GatherIdeal.τ).loc Cert.GatherIdeal.main_arg16) = Layout.blockN ⟨3, ![2, 31, 256]⟩ ⟨3, ![2, 31, 1024]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg16))
      ∧ m ((c.tc : Thread Cert.GatherIdeal.nD Cert.GatherIdeal.τ).loc Cert.GatherIdeal.main_arg17) = Layout.blockN ⟨3, ![2, 4, 128]⟩ ⟨3, ![2, 4, 512]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg17))
      ∧ m ((c.tc : Thread Cert.GatherIdeal.nD Cert.GatherIdeal.τ).loc Cert.GatherIdeal.main_arg18) = Layout.blockN ⟨3, ![2, 4, 128]⟩ ⟨3, ![2, 4, 512]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg18))) →
    ∃ (v0 : Buf (Elt Ideal) (((0 : Dev Cert.GatherReferenceIdeal.nD).tc : Thread Cert.GatherReferenceIdeal.nD Cert.GatherReferenceIdeal.τ).loc Cert.GatherReferenceIdeal.main_v1)) (v1 : Buf (Elt Ideal) (((0 : Dev Cert.GatherReferenceIdeal.nD).tc : Thread Cert.GatherReferenceIdeal.nD Cert.GatherReferenceIdeal.τ).loc Cert.GatherReferenceIdeal.main_v3)) (v2 : Buf (Elt Ideal) (((0 : Dev Cert.GatherReferenceIdeal.nD).tc : Thread Cert.GatherReferenceIdeal.nD Cert.GatherReferenceIdeal.τ).loc Cert.GatherReferenceIdeal.main_v4)) (v3 : Buf (Elt Ideal) (((0 : Dev Cert.GatherReferenceIdeal.nD).tc : Thread Cert.GatherReferenceIdeal.nD Cert.GatherReferenceIdeal.τ).loc Cert.GatherReferenceIdeal.main_v5)) (v4 : Buf (Elt Ideal) (((0 : Dev Cert.GatherReferenceIdeal.nD).tc : Thread Cert.GatherReferenceIdeal.nD Cert.GatherReferenceIdeal.τ).loc Cert.GatherReferenceIdeal.main_v7)) (v5 : Buf (Elt Ideal) (((0 : Dev Cert.GatherReferenceIdeal.nD).tc : Thread Cert.GatherReferenceIdeal.nD Cert.GatherReferenceIdeal.τ).loc Cert.GatherReferenceIdeal.main_v9)) (v6 : Buf (Elt Ideal) (((0 : Dev Cert.GatherReferenceIdeal.nD).tc : Thread Cert.GatherReferenceIdeal.nD Cert.GatherReferenceIdeal.τ).loc Cert.GatherReferenceIdeal.main_v10)) (v7 : Buf (Elt Ideal) (((0 : Dev Cert.GatherReferenceIdeal.nD).tc : Thread Cert.GatherReferenceIdeal.nD Cert.GatherReferenceIdeal.τ).loc Cert.GatherReferenceIdeal.main_v11)) (v8 : Buf (Elt Ideal) (((0 : Dev Cert.GatherReferenceIdeal.nD).tc : Thread Cert.GatherReferenceIdeal.nD Cert.GatherReferenceIdeal.τ).loc Cert.GatherReferenceIdeal.main_v13)) (v9 : Buf (Elt Ideal) (((0 : Dev Cert.GatherReferenceIdeal.nD).tc : Thread Cert.GatherReferenceIdeal.nD Cert.GatherReferenceIdeal.τ).loc Cert.GatherReferenceIdeal.main_v15)) (v10 : Buf (Elt Ideal) (((0 : Dev Cert.GatherReferenceIdeal.nD).tc : Thread Cert.GatherReferenceIdeal.nD Cert.GatherReferenceIdeal.τ).loc Cert.GatherReferenceIdeal.main_v17)) (v11 : Buf (Elt Ideal) (((0 : Dev Cert.GatherReferenceIdeal.nD).tc : Thread Cert.GatherReferenceIdeal.nD Cert.GatherReferenceIdeal.τ).loc Cert.GatherReferenceIdeal.main_v19)) (v12 : Buf (Elt Ideal) (((0 : Dev Cert.GatherReferenceIdeal.nD).tc : Thread Cert.GatherReferenceIdeal.nD Cert.GatherReferenceIdeal.τ).loc Cert.GatherReferenceIdeal.main_v20)) (v13 : Buf (Elt Ideal) (((0 : Dev Cert.GatherReferenceIdeal.nD).tc : Thread Cert.GatherReferenceIdeal.nD Cert.GatherReferenceIdeal.τ).loc Cert.GatherReferenceIdeal.main_v21)) (v14 : Buf (Elt Ideal) (((0 : Dev Cert.GatherReferenceIdeal.nD).tc : Thread Cert.GatherReferenceIdeal.nD Cert.GatherReferenceIdeal.τ).loc Cert.GatherReferenceIdeal.main_v22)) (v15 : Buf (Elt Ideal) (((0 : Dev Cert.GatherReferenceIdeal.nD).tc : Thread Cert.GatherReferenceIdeal.nD Cert.GatherReferenceIdeal.τ).loc Cert.GatherReferenceIdeal.main_v23)) (v16 : Buf (Elt Ideal) (((0 : Dev Cert.GatherReferenceIdeal.nD).tc : Thread Cert.GatherReferenceIdeal.nD Cert.GatherReferenceIdeal.τ).loc Cert.GatherReferenceIdeal.main_v25)) (v17 : Buf (Elt Ideal) (((0 : Dev Cert.GatherReferenceIdeal.nD).tc : Thread Cert.GatherReferenceIdeal.nD Cert.GatherReferenceIdeal.τ).loc Cert.GatherReferenceIdeal.main_v27)) (v18 : Buf (Elt Ideal) (((0 : Dev Cert.GatherReferenceIdeal.nD).tc : Thread Cert.GatherReferenceIdeal.nD Cert.GatherReferenceIdeal.τ).loc Cert.GatherReferenceIdeal.main_v29)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_v1_8) = v8
          ∧ r.2.mem ((c.tc : Thread Cert.GatherIdeal.nD Cert.GatherIdeal.τ).loc Cert.GatherIdeal.main_v1_9) = v9
          ∧ r.2.mem ((c.tc : Thread Cert.GatherIdeal.nD Cert.GatherIdeal.τ).loc Cert.GatherIdeal.main_v1_10) = v10
          ∧ r.2.mem ((c.tc : Thread Cert.GatherIdeal.nD Cert.GatherIdeal.τ).loc Cert.GatherIdeal.main_v1_11) = v11
          ∧ r.2.mem ((c.tc : Thread Cert.GatherIdeal.nD Cert.GatherIdeal.τ).loc Cert.GatherIdeal.main_v1_12) = v12
          ∧ r.2.mem ((c.tc : Thread Cert.GatherIdeal.nD Cert.GatherIdeal.τ).loc Cert.GatherIdeal.main_v1_13) = v13
          ∧ r.2.mem ((c.tc : Thread Cert.GatherIdeal.nD Cert.GatherIdeal.τ).loc Cert.GatherIdeal.main_v1_14) = v14
          ∧ r.2.mem ((c.tc : Thread Cert.GatherIdeal.nD Cert.GatherIdeal.τ).loc Cert.GatherIdeal.main_v1_15) = v15
          ∧ r.2.mem ((c.tc : Thread Cert.GatherIdeal.nD Cert.GatherIdeal.τ).loc Cert.GatherIdeal.main_v1_16) = v16
          ∧ r.2.mem ((c.tc : Thread Cert.GatherIdeal.nD Cert.GatherIdeal.τ).loc Cert.GatherIdeal.main_v1_17) = v17
          ∧ r.2.mem ((c.tc : Thread Cert.GatherIdeal.nD Cert.GatherIdeal.τ).loc Cert.GatherIdeal.main_v1_18) = v18
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8)
          ∧ r.2.mem ((c.tc : Thread Cert.GatherIdeal.nD Cert.GatherIdeal.τ).loc Cert.GatherIdeal.main_arg9) = m ((c.tc : Thread Cert.GatherIdeal.nD Cert.GatherIdeal.τ).loc Cert.GatherIdeal.main_arg9)
          ∧ r.2.mem ((c.tc : Thread Cert.GatherIdeal.nD Cert.GatherIdeal.τ).loc Cert.GatherIdeal.main_arg10) = m ((c.tc : Thread Cert.GatherIdeal.nD Cert.GatherIdeal.τ).loc Cert.GatherIdeal.main_arg10)
          ∧ r.2.mem ((c.tc : Thread Cert.GatherIdeal.nD Cert.GatherIdeal.τ).loc Cert.GatherIdeal.main_arg11) = m ((c.tc : Thread Cert.GatherIdeal.nD Cert.GatherIdeal.τ).loc Cert.GatherIdeal.main_arg11)
          ∧ r.2.mem ((c.tc : Thread Cert.GatherIdeal.nD Cert.GatherIdeal.τ).loc Cert.GatherIdeal.main_arg12) = m ((c.tc : Thread Cert.GatherIdeal.nD Cert.GatherIdeal.τ).loc Cert.GatherIdeal.main_arg12)
          ∧ r.2.mem ((c.tc : Thread Cert.GatherIdeal.nD Cert.GatherIdeal.τ).loc Cert.GatherIdeal.main_arg13) = m ((c.tc : Thread Cert.GatherIdeal.nD Cert.GatherIdeal.τ).loc Cert.GatherIdeal.main_arg13)
          ∧ r.2.mem ((c.tc : Thread Cert.GatherIdeal.nD Cert.GatherIdeal.τ).loc Cert.GatherIdeal.main_arg14) = m ((c.tc : Thread Cert.GatherIdeal.nD Cert.GatherIdeal.τ).loc Cert.GatherIdeal.main_arg14)
          ∧ r.2.mem ((c.tc : Thread Cert.GatherIdeal.nD Cert.GatherIdeal.τ).loc Cert.GatherIdeal.main_arg15) = m ((c.tc : Thread Cert.GatherIdeal.nD Cert.GatherIdeal.τ).loc Cert.GatherIdeal.main_arg15)
          ∧ r.2.mem ((c.tc : Thread Cert.GatherIdeal.nD Cert.GatherIdeal.τ).loc Cert.GatherIdeal.main_arg16) = m ((c.tc : Thread Cert.GatherIdeal.nD Cert.GatherIdeal.τ).loc Cert.GatherIdeal.main_arg16)
          ∧ r.2.mem ((c.tc : Thread Cert.GatherIdeal.nD Cert.GatherIdeal.τ).loc Cert.GatherIdeal.main_arg17) = m ((c.tc : Thread Cert.GatherIdeal.nD Cert.GatherIdeal.τ).loc Cert.GatherIdeal.main_arg17)
          ∧ r.2.mem ((c.tc : Thread Cert.GatherIdeal.nD Cert.GatherIdeal.τ).loc Cert.GatherIdeal.main_arg18) = m ((c.tc : Thread Cert.GatherIdeal.nD Cert.GatherIdeal.τ).loc Cert.GatherIdeal.main_arg18))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v1) = v0
          ∧ r.2.mem (((0 : Dev Cert.GatherReferenceIdeal.nD).tc : Thread Cert.GatherReferenceIdeal.nD Cert.GatherReferenceIdeal.τ).loc Cert.GatherReferenceIdeal.main_v3) = v1
          ∧ r.2.mem (((0 : Dev Cert.GatherReferenceIdeal.nD).tc : Thread Cert.GatherReferenceIdeal.nD Cert.GatherReferenceIdeal.τ).loc Cert.GatherReferenceIdeal.main_v4) = v2
          ∧ r.2.mem (((0 : Dev Cert.GatherReferenceIdeal.nD).tc : Thread Cert.GatherReferenceIdeal.nD Cert.GatherReferenceIdeal.τ).loc Cert.GatherReferenceIdeal.main_v5) = v3
          ∧ r.2.mem (((0 : Dev Cert.GatherReferenceIdeal.nD).tc : Thread Cert.GatherReferenceIdeal.nD Cert.GatherReferenceIdeal.τ).loc Cert.GatherReferenceIdeal.main_v7) = v4
          ∧ r.2.mem (((0 : Dev Cert.GatherReferenceIdeal.nD).tc : Thread Cert.GatherReferenceIdeal.nD Cert.GatherReferenceIdeal.τ).loc Cert.GatherReferenceIdeal.main_v9) = v5
          ∧ r.2.mem (((0 : Dev Cert.GatherReferenceIdeal.nD).tc : Thread Cert.GatherReferenceIdeal.nD Cert.GatherReferenceIdeal.τ).loc Cert.GatherReferenceIdeal.main_v10) = v6
          ∧ r.2.mem (((0 : Dev Cert.GatherReferenceIdeal.nD).tc : Thread Cert.GatherReferenceIdeal.nD Cert.GatherReferenceIdeal.τ).loc Cert.GatherReferenceIdeal.main_v11) = v7
          ∧ r.2.mem (((0 : Dev Cert.GatherReferenceIdeal.nD).tc : Thread Cert.GatherReferenceIdeal.nD Cert.GatherReferenceIdeal.τ).loc Cert.GatherReferenceIdeal.main_v13) = v8
          ∧ r.2.mem (((0 : Dev Cert.GatherReferenceIdeal.nD).tc : Thread Cert.GatherReferenceIdeal.nD Cert.GatherReferenceIdeal.τ).loc Cert.GatherReferenceIdeal.main_v15) = v9
          ∧ r.2.mem (((0 : Dev Cert.GatherReferenceIdeal.nD).tc : Thread Cert.GatherReferenceIdeal.nD Cert.GatherReferenceIdeal.τ).loc Cert.GatherReferenceIdeal.main_v17) = v10
          ∧ r.2.mem (((0 : Dev Cert.GatherReferenceIdeal.nD).tc : Thread Cert.GatherReferenceIdeal.nD Cert.GatherReferenceIdeal.τ).loc Cert.GatherReferenceIdeal.main_v19) = v11
          ∧ r.2.mem (((0 : Dev Cert.GatherReferenceIdeal.nD).tc : Thread Cert.GatherReferenceIdeal.nD Cert.GatherReferenceIdeal.τ).loc Cert.GatherReferenceIdeal.main_v20) = v12
          ∧ r.2.mem (((0 : Dev Cert.GatherReferenceIdeal.nD).tc : Thread Cert.GatherReferenceIdeal.nD Cert.GatherReferenceIdeal.τ).loc Cert.GatherReferenceIdeal.main_v21) = v13
          ∧ r.2.mem (((0 : Dev Cert.GatherReferenceIdeal.nD).tc : Thread Cert.GatherReferenceIdeal.nD Cert.GatherReferenceIdeal.τ).loc Cert.GatherReferenceIdeal.main_v22) = v14
          ∧ r.2.mem (((0 : Dev Cert.GatherReferenceIdeal.nD).tc : Thread Cert.GatherReferenceIdeal.nD Cert.GatherReferenceIdeal.τ).loc Cert.GatherReferenceIdeal.main_v23) = v15
          ∧ r.2.mem (((0 : Dev Cert.GatherReferenceIdeal.nD).tc : Thread Cert.GatherReferenceIdeal.nD Cert.GatherReferenceIdeal.τ).loc Cert.GatherReferenceIdeal.main_v25) = v16
          ∧ r.2.mem (((0 : Dev Cert.GatherReferenceIdeal.nD).tc : Thread Cert.GatherReferenceIdeal.nD Cert.GatherReferenceIdeal.τ).loc Cert.GatherReferenceIdeal.main_v27) = v17
          ∧ r.2.mem (((0 : Dev Cert.GatherReferenceIdeal.nD).tc : Thread Cert.GatherReferenceIdeal.nD Cert.GatherReferenceIdeal.τ).loc Cert.GatherReferenceIdeal.main_v29) = v18
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5)
          ∧ r.2.mem (((0 : Dev Cert.GatherReferenceIdeal.nD).tc : Thread Cert.GatherReferenceIdeal.nD Cert.GatherReferenceIdeal.τ).loc Cert.GatherReferenceIdeal.main_arg6) = m' (((0 : Dev Cert.GatherReferenceIdeal.nD).tc : Thread Cert.GatherReferenceIdeal.nD Cert.GatherReferenceIdeal.τ).loc Cert.GatherReferenceIdeal.main_arg6)
          ∧ r.2.mem (((0 : Dev Cert.GatherReferenceIdeal.nD).tc : Thread Cert.GatherReferenceIdeal.nD Cert.GatherReferenceIdeal.τ).loc Cert.GatherReferenceIdeal.main_arg7) = m' (((0 : Dev Cert.GatherReferenceIdeal.nD).tc : Thread Cert.GatherReferenceIdeal.nD Cert.GatherReferenceIdeal.τ).loc Cert.GatherReferenceIdeal.main_arg7)
          ∧ r.2.mem (((0 : Dev Cert.GatherReferenceIdeal.nD).tc : Thread Cert.GatherReferenceIdeal.nD Cert.GatherReferenceIdeal.τ).loc Cert.GatherReferenceIdeal.main_arg8) = m' (((0 : Dev Cert.GatherReferenceIdeal.nD).tc : Thread Cert.GatherReferenceIdeal.nD Cert.GatherReferenceIdeal.τ).loc Cert.GatherReferenceIdeal.main_arg8)
          ∧ r.2.mem (((0 : Dev Cert.GatherReferenceIdeal.nD).tc : Thread Cert.GatherReferenceIdeal.nD Cert.GatherReferenceIdeal.τ).loc Cert.GatherReferenceIdeal.main_arg9) = m' (((0 : Dev Cert.GatherReferenceIdeal.nD).tc : Thread Cert.GatherReferenceIdeal.nD Cert.GatherReferenceIdeal.τ).loc Cert.GatherReferenceIdeal.main_arg9)
          ∧ r.2.mem (((0 : Dev Cert.GatherReferenceIdeal.nD).tc : Thread Cert.GatherReferenceIdeal.nD Cert.GatherReferenceIdeal.τ).loc Cert.GatherReferenceIdeal.main_arg10) = m' (((0 : Dev Cert.GatherReferenceIdeal.nD).tc : Thread Cert.GatherReferenceIdeal.nD Cert.GatherReferenceIdeal.τ).loc Cert.GatherReferenceIdeal.main_arg10)
          ∧ r.2.mem (((0 : Dev Cert.GatherReferenceIdeal.nD).tc : Thread Cert.GatherReferenceIdeal.nD Cert.GatherReferenceIdeal.τ).loc Cert.GatherReferenceIdeal.main_arg11) = m' (((0 : Dev Cert.GatherReferenceIdeal.nD).tc : Thread Cert.GatherReferenceIdeal.nD Cert.GatherReferenceIdeal.τ).loc Cert.GatherReferenceIdeal.main_arg11)
          ∧ r.2.mem (((0 : Dev Cert.GatherReferenceIdeal.nD).tc : Thread Cert.GatherReferenceIdeal.nD Cert.GatherReferenceIdeal.τ).loc Cert.GatherReferenceIdeal.main_arg12) = m' (((0 : Dev Cert.GatherReferenceIdeal.nD).tc : Thread Cert.GatherReferenceIdeal.nD Cert.GatherReferenceIdeal.τ).loc Cert.GatherReferenceIdeal.main_arg12)
          ∧ r.2.mem (((0 : Dev Cert.GatherReferenceIdeal.nD).tc : Thread Cert.GatherReferenceIdeal.nD Cert.GatherReferenceIdeal.τ).loc Cert.GatherReferenceIdeal.main_arg13) = m' (((0 : Dev Cert.GatherReferenceIdeal.nD).tc : Thread Cert.GatherReferenceIdeal.nD Cert.GatherReferenceIdeal.τ).loc Cert.GatherReferenceIdeal.main_arg13)
          ∧ r.2.mem (((0 : Dev Cert.GatherReferenceIdeal.nD).tc : Thread Cert.GatherReferenceIdeal.nD Cert.GatherReferenceIdeal.τ).loc Cert.GatherReferenceIdeal.main_arg14) = m' (((0 : Dev Cert.GatherReferenceIdeal.nD).tc : Thread Cert.GatherReferenceIdeal.nD Cert.GatherReferenceIdeal.τ).loc Cert.GatherReferenceIdeal.main_arg14)
          ∧ r.2.mem (((0 : Dev Cert.GatherReferenceIdeal.nD).tc : Thread Cert.GatherReferenceIdeal.nD Cert.GatherReferenceIdeal.τ).loc Cert.GatherReferenceIdeal.main_arg15) = m' (((0 : Dev Cert.GatherReferenceIdeal.nD).tc : Thread Cert.GatherReferenceIdeal.nD Cert.GatherReferenceIdeal.τ).loc Cert.GatherReferenceIdeal.main_arg15)
          ∧ r.2.mem (((0 : Dev Cert.GatherReferenceIdeal.nD).tc : Thread Cert.GatherReferenceIdeal.nD Cert.GatherReferenceIdeal.τ).loc Cert.GatherReferenceIdeal.main_arg16) = m' (((0 : Dev Cert.GatherReferenceIdeal.nD).tc : Thread Cert.GatherReferenceIdeal.nD Cert.GatherReferenceIdeal.τ).loc Cert.GatherReferenceIdeal.main_arg16)
          ∧ r.2.mem (((0 : Dev Cert.GatherReferenceIdeal.nD).tc : Thread Cert.GatherReferenceIdeal.nD Cert.GatherReferenceIdeal.τ).loc Cert.GatherReferenceIdeal.main_arg17) = m' (((0 : Dev Cert.GatherReferenceIdeal.nD).tc : Thread Cert.GatherReferenceIdeal.nD Cert.GatherReferenceIdeal.τ).loc Cert.GatherReferenceIdeal.main_arg17)
          ∧ r.2.mem (((0 : Dev Cert.GatherReferenceIdeal.nD).tc : Thread Cert.GatherReferenceIdeal.nD Cert.GatherReferenceIdeal.τ).loc Cert.GatherReferenceIdeal.main_arg18) = m' (((0 : Dev Cert.GatherReferenceIdeal.nD).tc : Thread Cert.GatherReferenceIdeal.nD Cert.GatherReferenceIdeal.τ).loc Cert.GatherReferenceIdeal.main_arg18))

def preserves_PwOne_PwOneIdeal : Prop :=
  True

def algebraic_PwOneIdeal_PwOneReferenceIdeal [hPwOneIdeal : Cert.PwOneIdeal.Facts] [hPwOneReferenceIdeal : Cert.PwOneReferenceIdeal.Facts] : Prop :=
  ∀ (m : (ℓ : Loc Cert.PwOneIdeal.nD Cert.PwOneIdeal.τ Cert.PwOneIdeal.sig) → Buf (Elt Ideal) ℓ) (g : Dev Cert.PwOneIdeal.nD → PrngReg)
    (m' : (ℓ : Loc Cert.PwOneReferenceIdeal.nD Cert.PwOneReferenceIdeal.τ Cert.PwOneReferenceIdeal.sig) → Buf (Elt Ideal) ℓ) (g' : Dev Cert.PwOneReferenceIdeal.nD → PrngReg), Pre_PwOneIdeal m →
    (∀ c : Dev Cert.PwOneIdeal.nD,
      m' ((c.tc : Thread Cert.PwOneReferenceIdeal.nD Cert.PwOneReferenceIdeal.τ).loc Cert.PwOneReferenceIdeal.main_arg0) = m ((c.tc : Thread Cert.PwOneIdeal.nD Cert.PwOneIdeal.τ).loc Cert.PwOneIdeal.main_arg0)
      ∧ m' ((c.tc : Thread Cert.PwOneReferenceIdeal.nD Cert.PwOneReferenceIdeal.τ).loc Cert.PwOneReferenceIdeal.main_arg1) = m ((c.tc : Thread Cert.PwOneIdeal.nD Cert.PwOneIdeal.τ).loc Cert.PwOneIdeal.main_arg1)
      ∧ m' ((c.tc : Thread Cert.PwOneReferenceIdeal.nD Cert.PwOneReferenceIdeal.τ).loc Cert.PwOneReferenceIdeal.main_arg2) = m ((c.tc : Thread Cert.PwOneIdeal.nD Cert.PwOneIdeal.τ).loc Cert.PwOneIdeal.main_arg2)
      ∧ m' ((c.tc : Thread Cert.PwOneReferenceIdeal.nD Cert.PwOneReferenceIdeal.τ).loc Cert.PwOneReferenceIdeal.main_arg3) = m ((c.tc : Thread Cert.PwOneIdeal.nD Cert.PwOneIdeal.τ).loc Cert.PwOneIdeal.main_arg3)) →
    ∃ (v0 : (c : Dev Cert.PwOneIdeal.nD) → Buf (Elt Ideal) ((c.tc : Thread Cert.PwOneIdeal.nD Cert.PwOneIdeal.τ).loc Cert.PwOneIdeal.main_v0_0)) (v1 : (c : Dev Cert.PwOneIdeal.nD) → Buf (Elt Ideal) ((c.tc : Thread Cert.PwOneIdeal.nD Cert.PwOneIdeal.τ).loc Cert.PwOneIdeal.main_v0_1)) (v2 : (c : Dev Cert.PwOneIdeal.nD) → Buf (Elt Ideal) ((c.tc : Thread Cert.PwOneIdeal.nD Cert.PwOneIdeal.τ).loc Cert.PwOneIdeal.main_v0_2)) (v3 : (c : Dev Cert.PwOneIdeal.nD) → Buf (Elt Ideal) ((c.tc : Thread Cert.PwOneIdeal.nD Cert.PwOneIdeal.τ).loc Cert.PwOneIdeal.main_v0_3)),
      θ_run (Cert.PwOneIdeal.defs (F := Ideal)) (onTc (τ := Cert.PwOneIdeal.τ) (Cert.PwOneIdeal.main (F := Ideal))) ⟨m, fun _ => 0, g⟩ (fun r => ∀ c : Dev Cert.PwOneIdeal.nD,
          r.2.mem ((c.tc : Thread Cert.PwOneIdeal.nD Cert.PwOneIdeal.τ).loc Cert.PwOneIdeal.main_v0_0) = v0 c
          ∧ r.2.mem ((c.tc : Thread Cert.PwOneIdeal.nD Cert.PwOneIdeal.τ).loc Cert.PwOneIdeal.main_v0_1) = v1 c
          ∧ r.2.mem ((c.tc : Thread Cert.PwOneIdeal.nD Cert.PwOneIdeal.τ).loc Cert.PwOneIdeal.main_v0_2) = v2 c
          ∧ r.2.mem ((c.tc : Thread Cert.PwOneIdeal.nD Cert.PwOneIdeal.τ).loc Cert.PwOneIdeal.main_v0_3) = v3 c
          ∧ r.2.mem ((c.tc : Thread Cert.PwOneIdeal.nD Cert.PwOneIdeal.τ).loc Cert.PwOneIdeal.main_arg0) = m ((c.tc : Thread Cert.PwOneIdeal.nD Cert.PwOneIdeal.τ).loc Cert.PwOneIdeal.main_arg0)
          ∧ r.2.mem ((c.tc : Thread Cert.PwOneIdeal.nD Cert.PwOneIdeal.τ).loc Cert.PwOneIdeal.main_arg1) = m ((c.tc : Thread Cert.PwOneIdeal.nD Cert.PwOneIdeal.τ).loc Cert.PwOneIdeal.main_arg1)
          ∧ r.2.mem ((c.tc : Thread Cert.PwOneIdeal.nD Cert.PwOneIdeal.τ).loc Cert.PwOneIdeal.main_arg2) = m ((c.tc : Thread Cert.PwOneIdeal.nD Cert.PwOneIdeal.τ).loc Cert.PwOneIdeal.main_arg2)
          ∧ r.2.mem ((c.tc : Thread Cert.PwOneIdeal.nD Cert.PwOneIdeal.τ).loc Cert.PwOneIdeal.main_arg3) = m ((c.tc : Thread Cert.PwOneIdeal.nD Cert.PwOneIdeal.τ).loc Cert.PwOneIdeal.main_arg3))
      ∧ θ_run (Cert.PwOneReferenceIdeal.defs (F := Ideal)) (onTc (τ := Cert.PwOneReferenceIdeal.τ) (Cert.PwOneReferenceIdeal.main (F := Ideal))) ⟨m', fun _ => 0, g'⟩ (fun r => ∀ c : Dev Cert.PwOneReferenceIdeal.nD,
          r.2.mem ((c.tc : Thread Cert.PwOneReferenceIdeal.nD Cert.PwOneReferenceIdeal.τ).loc Cert.PwOneReferenceIdeal.main_v0) = v0 c
          ∧ r.2.mem ((c.tc : Thread Cert.PwOneReferenceIdeal.nD Cert.PwOneReferenceIdeal.τ).loc Cert.PwOneReferenceIdeal.main_v24) = v1 c
          ∧ r.2.mem ((c.tc : Thread Cert.PwOneReferenceIdeal.nD Cert.PwOneReferenceIdeal.τ).loc Cert.PwOneReferenceIdeal.main_v5) = v2 c
          ∧ r.2.mem ((c.tc : Thread Cert.PwOneReferenceIdeal.nD Cert.PwOneReferenceIdeal.τ).loc Cert.PwOneReferenceIdeal.main_v11) = v3 c
          ∧ r.2.mem ((c.tc : Thread Cert.PwOneReferenceIdeal.nD Cert.PwOneReferenceIdeal.τ).loc Cert.PwOneReferenceIdeal.main_arg0) = m' ((c.tc : Thread Cert.PwOneReferenceIdeal.nD Cert.PwOneReferenceIdeal.τ).loc Cert.PwOneReferenceIdeal.main_arg0)
          ∧ r.2.mem ((c.tc : Thread Cert.PwOneReferenceIdeal.nD Cert.PwOneReferenceIdeal.τ).loc Cert.PwOneReferenceIdeal.main_arg1) = m' ((c.tc : Thread Cert.PwOneReferenceIdeal.nD Cert.PwOneReferenceIdeal.τ).loc Cert.PwOneReferenceIdeal.main_arg1)
          ∧ r.2.mem ((c.tc : Thread Cert.PwOneReferenceIdeal.nD Cert.PwOneReferenceIdeal.τ).loc Cert.PwOneReferenceIdeal.main_arg2) = m' ((c.tc : Thread Cert.PwOneReferenceIdeal.nD Cert.PwOneReferenceIdeal.τ).loc Cert.PwOneReferenceIdeal.main_arg2)
          ∧ r.2.mem ((c.tc : Thread Cert.PwOneReferenceIdeal.nD Cert.PwOneReferenceIdeal.τ).loc Cert.PwOneReferenceIdeal.main_arg3) = m' ((c.tc : Thread Cert.PwOneReferenceIdeal.nD Cert.PwOneReferenceIdeal.τ).loc Cert.PwOneReferenceIdeal.main_arg3))

def preserves_PwTwo_PwTwoIdeal : Prop :=
  True

def algebraic_PwTwoIdeal_PwTwoReferenceIdeal [hPwTwoIdeal : Cert.PwTwoIdeal.Facts] [hPwTwoReferenceIdeal : Cert.PwTwoReferenceIdeal.Facts] : Prop :=
  ∀ (m : (ℓ : Loc Cert.PwTwoIdeal.nD Cert.PwTwoIdeal.τ Cert.PwTwoIdeal.sig) → Buf (Elt Ideal) ℓ) (g : Dev Cert.PwTwoIdeal.nD → PrngReg)
    (m' : (ℓ : Loc Cert.PwTwoReferenceIdeal.nD Cert.PwTwoReferenceIdeal.τ Cert.PwTwoReferenceIdeal.sig) → Buf (Elt Ideal) ℓ) (g' : Dev Cert.PwTwoReferenceIdeal.nD → PrngReg), Pre_PwTwoIdeal m →
    (∀ c : Dev Cert.PwTwoIdeal.nD,
      m' ((c.tc : Thread Cert.PwTwoReferenceIdeal.nD Cert.PwTwoReferenceIdeal.τ).loc Cert.PwTwoReferenceIdeal.main_arg0) = m ((c.tc : Thread Cert.PwTwoIdeal.nD Cert.PwTwoIdeal.τ).loc Cert.PwTwoIdeal.main_arg0)
      ∧ m' ((c.tc : Thread Cert.PwTwoReferenceIdeal.nD Cert.PwTwoReferenceIdeal.τ).loc Cert.PwTwoReferenceIdeal.main_arg1) = m ((c.tc : Thread Cert.PwTwoIdeal.nD Cert.PwTwoIdeal.τ).loc Cert.PwTwoIdeal.main_arg1)
      ∧ m' ((c.tc : Thread Cert.PwTwoReferenceIdeal.nD Cert.PwTwoReferenceIdeal.τ).loc Cert.PwTwoReferenceIdeal.main_arg2) = m ((c.tc : Thread Cert.PwTwoIdeal.nD Cert.PwTwoIdeal.τ).loc Cert.PwTwoIdeal.main_arg2)
      ∧ m' ((c.tc : Thread Cert.PwTwoReferenceIdeal.nD Cert.PwTwoReferenceIdeal.τ).loc Cert.PwTwoReferenceIdeal.main_arg3) = m ((c.tc : Thread Cert.PwTwoIdeal.nD Cert.PwTwoIdeal.τ).loc Cert.PwTwoIdeal.main_arg3)) →
    ∃ (v0 : (c : Dev Cert.PwTwoIdeal.nD) → Buf (Elt Ideal) ((c.tc : Thread Cert.PwTwoIdeal.nD Cert.PwTwoIdeal.τ).loc Cert.PwTwoIdeal.main_v0_0)) (v1 : (c : Dev Cert.PwTwoIdeal.nD) → Buf (Elt Ideal) ((c.tc : Thread Cert.PwTwoIdeal.nD Cert.PwTwoIdeal.τ).loc Cert.PwTwoIdeal.main_v0_1)) (v2 : (c : Dev Cert.PwTwoIdeal.nD) → Buf (Elt Ideal) ((c.tc : Thread Cert.PwTwoIdeal.nD Cert.PwTwoIdeal.τ).loc Cert.PwTwoIdeal.main_v0_2)) (v3 : (c : Dev Cert.PwTwoIdeal.nD) → Buf (Elt Ideal) ((c.tc : Thread Cert.PwTwoIdeal.nD Cert.PwTwoIdeal.τ).loc Cert.PwTwoIdeal.main_v0_3)),
      θ_run (Cert.PwTwoIdeal.defs (F := Ideal)) (onTc (τ := Cert.PwTwoIdeal.τ) (Cert.PwTwoIdeal.main (F := Ideal))) ⟨m, fun _ => 0, g⟩ (fun r => ∀ c : Dev Cert.PwTwoIdeal.nD,
          r.2.mem ((c.tc : Thread Cert.PwTwoIdeal.nD Cert.PwTwoIdeal.τ).loc Cert.PwTwoIdeal.main_v0_0) = v0 c
          ∧ r.2.mem ((c.tc : Thread Cert.PwTwoIdeal.nD Cert.PwTwoIdeal.τ).loc Cert.PwTwoIdeal.main_v0_1) = v1 c
          ∧ r.2.mem ((c.tc : Thread Cert.PwTwoIdeal.nD Cert.PwTwoIdeal.τ).loc Cert.PwTwoIdeal.main_v0_2) = v2 c
          ∧ r.2.mem ((c.tc : Thread Cert.PwTwoIdeal.nD Cert.PwTwoIdeal.τ).loc Cert.PwTwoIdeal.main_v0_3) = v3 c
          ∧ r.2.mem ((c.tc : Thread Cert.PwTwoIdeal.nD Cert.PwTwoIdeal.τ).loc Cert.PwTwoIdeal.main_arg0) = m ((c.tc : Thread Cert.PwTwoIdeal.nD Cert.PwTwoIdeal.τ).loc Cert.PwTwoIdeal.main_arg0)
          ∧ r.2.mem ((c.tc : Thread Cert.PwTwoIdeal.nD Cert.PwTwoIdeal.τ).loc Cert.PwTwoIdeal.main_arg1) = m ((c.tc : Thread Cert.PwTwoIdeal.nD Cert.PwTwoIdeal.τ).loc Cert.PwTwoIdeal.main_arg1)
          ∧ r.2.mem ((c.tc : Thread Cert.PwTwoIdeal.nD Cert.PwTwoIdeal.τ).loc Cert.PwTwoIdeal.main_arg2) = m ((c.tc : Thread Cert.PwTwoIdeal.nD Cert.PwTwoIdeal.τ).loc Cert.PwTwoIdeal.main_arg2)
          ∧ r.2.mem ((c.tc : Thread Cert.PwTwoIdeal.nD Cert.PwTwoIdeal.τ).loc Cert.PwTwoIdeal.main_arg3) = m ((c.tc : Thread Cert.PwTwoIdeal.nD Cert.PwTwoIdeal.τ).loc Cert.PwTwoIdeal.main_arg3))
      ∧ θ_run (Cert.PwTwoReferenceIdeal.defs (F := Ideal)) (onTc (τ := Cert.PwTwoReferenceIdeal.τ) (Cert.PwTwoReferenceIdeal.main (F := Ideal))) ⟨m', fun _ => 0, g'⟩ (fun r => ∀ c : Dev Cert.PwTwoReferenceIdeal.nD,
          r.2.mem ((c.tc : Thread Cert.PwTwoReferenceIdeal.nD Cert.PwTwoReferenceIdeal.τ).loc Cert.PwTwoReferenceIdeal.main_v0) = v0 c
          ∧ r.2.mem ((c.tc : Thread Cert.PwTwoReferenceIdeal.nD Cert.PwTwoReferenceIdeal.τ).loc Cert.PwTwoReferenceIdeal.main_v24) = v1 c
          ∧ r.2.mem ((c.tc : Thread Cert.PwTwoReferenceIdeal.nD Cert.PwTwoReferenceIdeal.τ).loc Cert.PwTwoReferenceIdeal.main_v5) = v2 c
          ∧ r.2.mem ((c.tc : Thread Cert.PwTwoReferenceIdeal.nD Cert.PwTwoReferenceIdeal.τ).loc Cert.PwTwoReferenceIdeal.main_v11) = v3 c
          ∧ r.2.mem ((c.tc : Thread Cert.PwTwoReferenceIdeal.nD Cert.PwTwoReferenceIdeal.τ).loc Cert.PwTwoReferenceIdeal.main_arg0) = m' ((c.tc : Thread Cert.PwTwoReferenceIdeal.nD Cert.PwTwoReferenceIdeal.τ).loc Cert.PwTwoReferenceIdeal.main_arg0)
          ∧ r.2.mem ((c.tc : Thread Cert.PwTwoReferenceIdeal.nD Cert.PwTwoReferenceIdeal.τ).loc Cert.PwTwoReferenceIdeal.main_arg1) = m' ((c.tc : Thread Cert.PwTwoReferenceIdeal.nD Cert.PwTwoReferenceIdeal.τ).loc Cert.PwTwoReferenceIdeal.main_arg1)
          ∧ r.2.mem ((c.tc : Thread Cert.PwTwoReferenceIdeal.nD Cert.PwTwoReferenceIdeal.τ).loc Cert.PwTwoReferenceIdeal.main_arg2) = m' ((c.tc : Thread Cert.PwTwoReferenceIdeal.nD Cert.PwTwoReferenceIdeal.τ).loc Cert.PwTwoReferenceIdeal.main_arg2)
          ∧ r.2.mem ((c.tc : Thread Cert.PwTwoReferenceIdeal.nD Cert.PwTwoReferenceIdeal.τ).loc Cert.PwTwoReferenceIdeal.main_arg3) = m' ((c.tc : Thread Cert.PwTwoReferenceIdeal.nD Cert.PwTwoReferenceIdeal.τ).loc Cert.PwTwoReferenceIdeal.main_arg3))

def preserves_RetIn_RetInIdeal : Prop :=
  True

def algebraic_RetInIdeal_RetInReferenceIdeal [hRetInIdeal : Cert.RetInIdeal.Facts] [hRetInReferenceIdeal : Cert.RetInReferenceIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInReferenceIdeal.nD Cert.RetInReferenceIdeal.τ Cert.RetInReferenceIdeal.sig) → Buf (Elt Ideal) ℓ) (g' : Dev Cert.RetInReferenceIdeal.nD → PrngReg), Pre_RetInIdeal m →
    (∀ c : Dev Cert.RetInIdeal.nD,
      m' ((c.tc : Thread Cert.RetInReferenceIdeal.nD Cert.RetInReferenceIdeal.τ).loc Cert.RetInReferenceIdeal.main_arg0) = m ((c.tc : Thread Cert.RetInIdeal.nD Cert.RetInIdeal.τ).loc Cert.RetInIdeal.main_arg0)
      ∧ m' ((c.tc : Thread Cert.RetInReferenceIdeal.nD Cert.RetInReferenceIdeal.τ).loc Cert.RetInReferenceIdeal.main_arg1) = m ((c.tc : Thread Cert.RetInIdeal.nD Cert.RetInIdeal.τ).loc Cert.RetInIdeal.main_arg1)
      ∧ m' ((c.tc : Thread Cert.RetInReferenceIdeal.nD Cert.RetInReferenceIdeal.τ).loc Cert.RetInReferenceIdeal.main_arg2) = m ((c.tc : Thread Cert.RetInIdeal.nD Cert.RetInIdeal.τ).loc Cert.RetInIdeal.main_arg2)
      ∧ m' ((c.tc : Thread Cert.RetInReferenceIdeal.nD Cert.RetInReferenceIdeal.τ).loc Cert.RetInReferenceIdeal.main_arg3) = m ((c.tc : Thread Cert.RetInIdeal.nD Cert.RetInIdeal.τ).loc Cert.RetInIdeal.main_arg3)) →
    ∃ (v0 : (c : Dev Cert.RetInIdeal.nD) → Buf (Elt Ideal) ((c.tc : Thread Cert.RetInIdeal.nD Cert.RetInIdeal.τ).loc Cert.RetInIdeal.main_v0_0)) (v1 : (c : Dev Cert.RetInIdeal.nD) → Buf (Elt Ideal) ((c.tc : Thread Cert.RetInIdeal.nD Cert.RetInIdeal.τ).loc Cert.RetInIdeal.main_v0_1)) (v2 : (c : Dev Cert.RetInIdeal.nD) → Buf (Elt Ideal) ((c.tc : Thread Cert.RetInIdeal.nD Cert.RetInIdeal.τ).loc Cert.RetInIdeal.main_v0_2)) (v3 : (c : Dev Cert.RetInIdeal.nD) → Buf (Elt Ideal) ((c.tc : Thread Cert.RetInIdeal.nD Cert.RetInIdeal.τ).loc Cert.RetInIdeal.main_v0_3)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v0_0) = v0 c
          ∧ r.2.mem ((c.tc : Thread Cert.RetInIdeal.nD Cert.RetInIdeal.τ).loc Cert.RetInIdeal.main_v0_1) = v1 c
          ∧ r.2.mem ((c.tc : Thread Cert.RetInIdeal.nD Cert.RetInIdeal.τ).loc Cert.RetInIdeal.main_v0_2) = v2 c
          ∧ r.2.mem ((c.tc : Thread Cert.RetInIdeal.nD Cert.RetInIdeal.τ).loc Cert.RetInIdeal.main_v0_3) = v3 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
          ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
          ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3))
      ∧ θ_run (Cert.RetInReferenceIdeal.defs (F := Ideal)) (onTc (τ := Cert.RetInReferenceIdeal.τ) (Cert.RetInReferenceIdeal.main (F := Ideal))) ⟨m', fun _ => 0, g'⟩ (fun r => ∀ c : Dev Cert.RetInReferenceIdeal.nD,
          r.2.mem ((c.tc : Thread Cert.RetInReferenceIdeal.nD Cert.RetInReferenceIdeal.τ).loc Cert.RetInReferenceIdeal.main_v0) = v0 c
          ∧ r.2.mem ((c.tc : Thread Cert.RetInReferenceIdeal.nD Cert.RetInReferenceIdeal.τ).loc Cert.RetInReferenceIdeal.main_v24) = v1 c
          ∧ r.2.mem ((c.tc : Thread Cert.RetInReferenceIdeal.nD Cert.RetInReferenceIdeal.τ).loc Cert.RetInReferenceIdeal.main_v5) = v2 c
          ∧ r.2.mem ((c.tc : Thread Cert.RetInReferenceIdeal.nD Cert.RetInReferenceIdeal.τ).loc Cert.RetInReferenceIdeal.main_v11) = v3 c
          ∧ r.2.mem ((c.tc : Thread Cert.RetInReferenceIdeal.nD Cert.RetInReferenceIdeal.τ).loc Cert.RetInReferenceIdeal.main_arg0) = m' ((c.tc : Thread Cert.RetInReferenceIdeal.nD Cert.RetInReferenceIdeal.τ).loc Cert.RetInReferenceIdeal.main_arg0)
          ∧ r.2.mem ((c.tc : Thread Cert.RetInReferenceIdeal.nD Cert.RetInReferenceIdeal.τ).loc Cert.RetInReferenceIdeal.main_arg1) = m' ((c.tc : Thread Cert.RetInReferenceIdeal.nD Cert.RetInReferenceIdeal.τ).loc Cert.RetInReferenceIdeal.main_arg1)
          ∧ r.2.mem ((c.tc : Thread Cert.RetInReferenceIdeal.nD Cert.RetInReferenceIdeal.τ).loc Cert.RetInReferenceIdeal.main_arg2) = m' ((c.tc : Thread Cert.RetInReferenceIdeal.nD Cert.RetInReferenceIdeal.τ).loc Cert.RetInReferenceIdeal.main_arg2)
          ∧ r.2.mem ((c.tc : Thread Cert.RetInReferenceIdeal.nD Cert.RetInReferenceIdeal.τ).loc Cert.RetInReferenceIdeal.main_arg3) = m' ((c.tc : Thread Cert.RetInReferenceIdeal.nD Cert.RetInReferenceIdeal.τ).loc Cert.RetInReferenceIdeal.main_arg3))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)
      ∧ m' ((c.tc : Thread Cert.RetOutReferenceIdeal.nD Cert.RetOutReferenceIdeal.τ).loc Cert.RetOutReferenceIdeal.main_arg2) = m ((c.tc : Thread Cert.RetOutIdeal.nD Cert.RetOutIdeal.τ).loc Cert.RetOutIdeal.main_arg2)
      ∧ m' ((c.tc : Thread Cert.RetOutReferenceIdeal.nD Cert.RetOutReferenceIdeal.τ).loc Cert.RetOutReferenceIdeal.main_arg3) = m ((c.tc : Thread Cert.RetOutIdeal.nD Cert.RetOutIdeal.τ).loc Cert.RetOutIdeal.main_arg3)) →
    ∃ (v0 : (c : Dev Cert.RetOutIdeal.nD) → Buf (Elt Ideal) ((c.tc : Thread Cert.RetOutIdeal.nD Cert.RetOutIdeal.τ).loc Cert.RetOutIdeal.main_v0_0)) (v1 : (c : Dev Cert.RetOutIdeal.nD) → Buf (Elt Ideal) ((c.tc : Thread Cert.RetOutIdeal.nD Cert.RetOutIdeal.τ).loc Cert.RetOutIdeal.main_v0_1)) (v2 : (c : Dev Cert.RetOutIdeal.nD) → Buf (Elt Ideal) ((c.tc : Thread Cert.RetOutIdeal.nD Cert.RetOutIdeal.τ).loc Cert.RetOutIdeal.main_v0_2)) (v3 : (c : Dev Cert.RetOutIdeal.nD) → Buf (Elt Ideal) ((c.tc : Thread Cert.RetOutIdeal.nD Cert.RetOutIdeal.τ).loc Cert.RetOutIdeal.main_v0_3)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v0_0) = v0 c
          ∧ r.2.mem ((c.tc : Thread Cert.RetOutIdeal.nD Cert.RetOutIdeal.τ).loc Cert.RetOutIdeal.main_v0_1) = v1 c
          ∧ r.2.mem ((c.tc : Thread Cert.RetOutIdeal.nD Cert.RetOutIdeal.τ).loc Cert.RetOutIdeal.main_v0_2) = v2 c
          ∧ r.2.mem ((c.tc : Thread Cert.RetOutIdeal.nD Cert.RetOutIdeal.τ).loc Cert.RetOutIdeal.main_v0_3) = v3 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v0) = v0 c
          ∧ r.2.mem ((c.tc : Thread Cert.RetOutReferenceIdeal.nD Cert.RetOutReferenceIdeal.τ).loc Cert.RetOutReferenceIdeal.main_v24) = v1 c
          ∧ r.2.mem ((c.tc : Thread Cert.RetOutReferenceIdeal.nD Cert.RetOutReferenceIdeal.τ).loc Cert.RetOutReferenceIdeal.main_v5) = v2 c
          ∧ r.2.mem ((c.tc : Thread Cert.RetOutReferenceIdeal.nD Cert.RetOutReferenceIdeal.τ).loc Cert.RetOutReferenceIdeal.main_v11) = v3 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1)
          ∧ r.2.mem ((c.tc : Thread Cert.RetOutReferenceIdeal.nD Cert.RetOutReferenceIdeal.τ).loc Cert.RetOutReferenceIdeal.main_arg2) = m' ((c.tc : Thread Cert.RetOutReferenceIdeal.nD Cert.RetOutReferenceIdeal.τ).loc Cert.RetOutReferenceIdeal.main_arg2)
          ∧ r.2.mem ((c.tc : Thread Cert.RetOutReferenceIdeal.nD Cert.RetOutReferenceIdeal.τ).loc Cert.RetOutReferenceIdeal.main_arg3) = m' ((c.tc : Thread Cert.RetOutReferenceIdeal.nD Cert.RetOutReferenceIdeal.τ).loc Cert.RetOutReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)) (v2 : (c : Dev Cert.MlpIdeal.nD) → Buf (Elt Ideal) ((c.tc : Thread Cert.MlpIdeal.nD Cert.MlpIdeal.τ).loc Cert.MlpIdeal.main_v0_2)) (v3 : (c : Dev Cert.MlpIdeal.nD) → Buf (Elt Ideal) ((c.tc : Thread Cert.MlpIdeal.nD Cert.MlpIdeal.τ).loc Cert.MlpIdeal.main_v0_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_v0_2) = v2 c
          ∧ r.2.mem ((c.tc : Thread Cert.MlpIdeal.nD Cert.MlpIdeal.τ).loc Cert.MlpIdeal.main_v0_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v0) = v0 c
          ∧ r.2.mem ((c.tc : Thread Cert.MlpReferenceIdeal.nD Cert.MlpReferenceIdeal.τ).loc Cert.MlpReferenceIdeal.main_v24) = v1 c
          ∧ r.2.mem ((c.tc : Thread Cert.MlpReferenceIdeal.nD Cert.MlpReferenceIdeal.τ).loc Cert.MlpReferenceIdeal.main_v5) = v2 c
          ∧ r.2.mem ((c.tc : Thread Cert.MlpReferenceIdeal.nD Cert.MlpReferenceIdeal.τ).loc Cert.MlpReferenceIdeal.main_v11) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)) (v2 : (c : Dev Cert.AdaIdeal.nD) → Buf (Elt Ideal) ((c.tc : Thread Cert.AdaIdeal.nD Cert.AdaIdeal.τ).loc Cert.AdaIdeal.main_v0_2)) (v3 : (c : Dev Cert.AdaIdeal.nD) → Buf (Elt Ideal) ((c.tc : Thread Cert.AdaIdeal.nD Cert.AdaIdeal.τ).loc Cert.AdaIdeal.main_v0_3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_v0_2) = v2 c
          ∧ r.2.mem ((c.tc : Thread Cert.AdaIdeal.nD Cert.AdaIdeal.τ).loc Cert.AdaIdeal.main_v0_3) = v3 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v0) = v0 c
          ∧ r.2.mem ((c.tc : Thread Cert.AdaReferenceIdeal.nD Cert.AdaReferenceIdeal.τ).loc Cert.AdaReferenceIdeal.main_v24) = v1 c
          ∧ r.2.mem ((c.tc : Thread Cert.AdaReferenceIdeal.nD Cert.AdaReferenceIdeal.τ).loc Cert.AdaReferenceIdeal.main_v5) = v2 c
          ∧ r.2.mem ((c.tc : Thread Cert.AdaReferenceIdeal.nD Cert.AdaReferenceIdeal.τ).loc Cert.AdaReferenceIdeal.main_v11) = v3 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)
      ∧ m' ((c.tc : Thread Cert.SmallReferenceIdeal.nD Cert.SmallReferenceIdeal.τ).loc Cert.SmallReferenceIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v0) = v0 c
          ∧ r.2.mem ((c.tc : Thread Cert.SmallReferenceIdeal.nD Cert.SmallReferenceIdeal.τ).loc Cert.SmallReferenceIdeal.main_v24) = v1 c
          ∧ r.2.mem ((c.tc : Thread Cert.SmallReferenceIdeal.nD Cert.SmallReferenceIdeal.τ).loc Cert.SmallReferenceIdeal.main_v5) = v2 c
          ∧ r.2.mem ((c.tc : Thread Cert.SmallReferenceIdeal.nD Cert.SmallReferenceIdeal.τ).loc Cert.SmallReferenceIdeal.main_v11) = v3 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3))

def preserves_Cond_CondIdeal : Prop :=
  True

def algebraic_CondIdeal_CondReferenceIdeal [hCondIdeal : Cert.CondIdeal.Facts] [hCondReferenceIdeal : Cert.CondReferenceIdeal.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondReferenceIdeal.nD Cert.CondReferenceIdeal.τ Cert.CondReferenceIdeal.sig) → Buf (Elt Ideal) ℓ) (g' : Dev Cert.CondReferenceIdeal.nD → PrngReg), Pre_CondIdeal m →
    (∀ c : Dev Cert.CondIdeal.nD,
      m ((c.tc : Thread Cert.CondIdeal.nD Cert.CondIdeal.τ).loc Cert.CondIdeal.main_arg0) = Layout.block ⟨2, ![8, 128]⟩ ⟨2, ![64, 128]⟩ 0 8 c (m' (((0 : Dev Cert.CondReferenceIdeal.nD).tc : Thread Cert.CondReferenceIdeal.nD Cert.CondReferenceIdeal.τ).loc Cert.CondReferenceIdeal.main_arg0))) →
    ∃ (v0 : Buf (Elt Ideal) (((0 : Dev Cert.CondReferenceIdeal.nD).tc : Thread Cert.CondReferenceIdeal.nD Cert.CondReferenceIdeal.τ).loc Cert.CondReferenceIdeal.main_v0)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v1) = v0
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0))
      ∧ θ_run (Cert.CondReferenceIdeal.defs (F := Ideal)) (onTc (τ := Cert.CondReferenceIdeal.τ) (Cert.CondReferenceIdeal.main (F := Ideal))) ⟨m', fun _ => 0, g'⟩ (fun r =>
          r.2.mem (((0 : Dev Cert.CondReferenceIdeal.nD).tc : Thread Cert.CondReferenceIdeal.nD Cert.CondReferenceIdeal.τ).loc Cert.CondReferenceIdeal.main_v0) = v0
          ∧ r.2.mem (((0 : Dev Cert.CondReferenceIdeal.nD).tc : Thread Cert.CondReferenceIdeal.nD Cert.CondReferenceIdeal.τ).loc Cert.CondReferenceIdeal.main_arg0) = m' (((0 : Dev Cert.CondReferenceIdeal.nD).tc : Thread Cert.CondReferenceIdeal.nD Cert.CondReferenceIdeal.τ).loc Cert.CondReferenceIdeal.main_arg0))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m ((c.tc : Thread Cert.ModIdeal.nD Cert.ModIdeal.τ).loc Cert.ModIdeal.main_arg0) = Layout.block ⟨2, ![8, 6144]⟩ ⟨2, ![64, 6144]⟩ 0 8 c (m' (((0 : Dev Cert.ModReferenceIdeal.nD).tc : Thread Cert.ModReferenceIdeal.nD Cert.ModReferenceIdeal.τ).loc Cert.ModReferenceIdeal.main_arg0))) →
    ∃ (v0 : Buf (Elt Ideal) (((0 : Dev Cert.ModReferenceIdeal.nD).tc : Thread Cert.ModReferenceIdeal.nD Cert.ModReferenceIdeal.τ).loc Cert.ModReferenceIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ θ_run (Cert.ModReferenceIdeal.defs (F := Ideal)) (onTc (τ := Cert.ModReferenceIdeal.τ) (Cert.ModReferenceIdeal.main (F := Ideal))) ⟨m', fun _ => 0, g'⟩ (fun r =>
          r.2.mem (((0 : Dev Cert.ModReferenceIdeal.nD).tc : Thread Cert.ModReferenceIdeal.nD Cert.ModReferenceIdeal.τ).loc Cert.ModReferenceIdeal.main_v0) = v0
          ∧ r.2.mem (((0 : Dev Cert.ModReferenceIdeal.nD).tc : Thread Cert.ModReferenceIdeal.nD Cert.ModReferenceIdeal.τ).loc Cert.ModReferenceIdeal.main_arg0) = m' (((0 : Dev Cert.ModReferenceIdeal.nD).tc : Thread Cert.ModReferenceIdeal.nD Cert.ModReferenceIdeal.τ).loc Cert.ModReferenceIdeal.main_arg0))

def preserves_Grads_GradsIdeal : Prop :=
  True

def algebraic_GradsIdeal_GradsReferenceIdeal [hGradsIdeal : Cert.GradsIdeal.Facts] [hGradsReferenceIdeal : Cert.GradsReferenceIdeal.Facts] : Prop :=
  ∀ (m : (ℓ : Loc Cert.GradsIdeal.nD Cert.GradsIdeal.τ Cert.GradsIdeal.sig) → Buf (Elt Ideal) ℓ) (g : Dev Cert.GradsIdeal.nD → PrngReg)
    (m' : (ℓ : Loc Cert.GradsReferenceIdeal.nD Cert.GradsReferenceIdeal.τ Cert.GradsReferenceIdeal.sig) → Buf (Elt Ideal) ℓ) (g' : Dev Cert.GradsReferenceIdeal.nD → PrngReg), Pre_GradsIdeal m →
    (∀ c : Dev Cert.GradsIdeal.nD,
      m ((c.tc : Thread Cert.GradsIdeal.nD Cert.GradsIdeal.τ).loc Cert.GradsIdeal.main_arg0) = Layout.block ⟨2, ![920, 128]⟩ ⟨2, ![7360, 128]⟩ 0 8 c (m' (((0 : Dev Cert.GradsReferenceIdeal.nD).tc : Thread Cert.GradsReferenceIdeal.nD Cert.GradsReferenceIdeal.τ).loc Cert.GradsReferenceIdeal.main_arg0))) →
    ∃ (v0 : Buf (Elt Ideal) (((0 : Dev Cert.GradsReferenceIdeal.nD).tc : Thread Cert.GradsReferenceIdeal.nD Cert.GradsReferenceIdeal.τ).loc Cert.GradsReferenceIdeal.main_v0)),
      θ_run (Cert.GradsIdeal.defs (F := Ideal)) (onTc (τ := Cert.GradsIdeal.τ) (Cert.GradsIdeal.main (F := Ideal))) ⟨m, fun _ => 0, g⟩ (fun r => ∀ c : Dev Cert.GradsIdeal.nD,
          r.2.mem ((c.tc : Thread Cert.GradsIdeal.nD Cert.GradsIdeal.τ).loc Cert.GradsIdeal.main_v1) = v0
          ∧ r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ θ_run (Cert.GradsReferenceIdeal.defs (F := Ideal)) (onTc (τ := Cert.GradsReferenceIdeal.τ) (Cert.GradsReferenceIdeal.main (F := Ideal))) ⟨m', fun _ => 0, g'⟩ (fun r =>
          r.2.mem (((0 : Dev Cert.GradsReferenceIdeal.nD).tc : Thread Cert.GradsReferenceIdeal.nD Cert.GradsReferenceIdeal.τ).loc Cert.GradsReferenceIdeal.main_v0) = v0
          ∧ r.2.mem (((0 : Dev Cert.GradsReferenceIdeal.nD).tc : Thread Cert.GradsReferenceIdeal.nD Cert.GradsReferenceIdeal.τ).loc Cert.GradsReferenceIdeal.main_arg0) = m' (((0 : Dev Cert.GradsReferenceIdeal.nD).tc : Thread Cert.GradsReferenceIdeal.nD Cert.GradsReferenceIdeal.τ).loc Cert.GradsReferenceIdeal.main_arg0))

def preserves_AddPwOne_AddPwOneIdeal : Prop :=
  True

def algebraic_AddPwOneIdeal_AddPwOneReferenceIdeal [hAddPwOneIdeal : Cert.AddPwOneIdeal.Facts] [hAddPwOneReferenceIdeal : Cert.AddPwOneReferenceIdeal.Facts] : Prop :=
  ∀ (m : (ℓ : Loc Cert.AddPwOneIdeal.nD Cert.AddPwOneIdeal.τ Cert.AddPwOneIdeal.sig) → Buf (Elt Ideal) ℓ) (g : Dev Cert.AddPwOneIdeal.nD → PrngReg)
    (m' : (ℓ : Loc Cert.AddPwOneReferenceIdeal.nD Cert.AddPwOneReferenceIdeal.τ Cert.AddPwOneReferenceIdeal.sig) → Buf (Elt Ideal) ℓ) (g' : Dev Cert.AddPwOneReferenceIdeal.nD → PrngReg), Pre_AddPwOneIdeal m →
    (∀ c : Dev Cert.AddPwOneIdeal.nD,
      m' ((c.tc : Thread Cert.AddPwOneReferenceIdeal.nD Cert.AddPwOneReferenceIdeal.τ).loc Cert.AddPwOneReferenceIdeal.main_arg0) = m ((c.tc : Thread Cert.AddPwOneIdeal.nD Cert.AddPwOneIdeal.τ).loc Cert.AddPwOneIdeal.main_arg0)
      ∧ m' ((c.tc : Thread Cert.AddPwOneReferenceIdeal.nD Cert.AddPwOneReferenceIdeal.τ).loc Cert.AddPwOneReferenceIdeal.main_arg1) = m ((c.tc : Thread Cert.AddPwOneIdeal.nD Cert.AddPwOneIdeal.τ).loc Cert.AddPwOneIdeal.main_arg1)) →
    ∃ (v0 : (c : Dev Cert.AddPwOneIdeal.nD) → Buf (Elt Ideal) ((c.tc : Thread Cert.AddPwOneIdeal.nD Cert.AddPwOneIdeal.τ).loc Cert.AddPwOneIdeal.main_v0)),
      θ_run (Cert.AddPwOneIdeal.defs (F := Ideal)) (onTc (τ := Cert.AddPwOneIdeal.τ) (Cert.AddPwOneIdeal.main (F := Ideal))) ⟨m, fun _ => 0, g⟩ (fun r => ∀ c : Dev Cert.AddPwOneIdeal.nD,
          r.2.mem ((c.tc : Thread Cert.AddPwOneIdeal.nD Cert.AddPwOneIdeal.τ).loc Cert.AddPwOneIdeal.main_v0) = v0 c
          ∧ r.2.mem ((c.tc : Thread Cert.AddPwOneIdeal.nD Cert.AddPwOneIdeal.τ).loc Cert.AddPwOneIdeal.main_arg0) = m ((c.tc : Thread Cert.AddPwOneIdeal.nD Cert.AddPwOneIdeal.τ).loc Cert.AddPwOneIdeal.main_arg0)
          ∧ r.2.mem ((c.tc : Thread Cert.AddPwOneIdeal.nD Cert.AddPwOneIdeal.τ).loc Cert.AddPwOneIdeal.main_arg1) = m ((c.tc : Thread Cert.AddPwOneIdeal.nD Cert.AddPwOneIdeal.τ).loc Cert.AddPwOneIdeal.main_arg1))
      ∧ θ_run (Cert.AddPwOneReferenceIdeal.defs (F := Ideal)) (onTc (τ := Cert.AddPwOneReferenceIdeal.τ) (Cert.AddPwOneReferenceIdeal.main (F := Ideal))) ⟨m', fun _ => 0, g'⟩ (fun r => ∀ c : Dev Cert.AddPwOneReferenceIdeal.nD,
          r.2.mem ((c.tc : Thread Cert.AddPwOneReferenceIdeal.nD Cert.AddPwOneReferenceIdeal.τ).loc Cert.AddPwOneReferenceIdeal.main_v0) = v0 c
          ∧ r.2.mem ((c.tc : Thread Cert.AddPwOneReferenceIdeal.nD Cert.AddPwOneReferenceIdeal.τ).loc Cert.AddPwOneReferenceIdeal.main_arg0) = m' ((c.tc : Thread Cert.AddPwOneReferenceIdeal.nD Cert.AddPwOneReferenceIdeal.τ).loc Cert.AddPwOneReferenceIdeal.main_arg0)
          ∧ r.2.mem ((c.tc : Thread Cert.AddPwOneReferenceIdeal.nD Cert.AddPwOneReferenceIdeal.τ).loc Cert.AddPwOneReferenceIdeal.main_arg1) = m' ((c.tc : Thread Cert.AddPwOneReferenceIdeal.nD Cert.AddPwOneReferenceIdeal.τ).loc Cert.AddPwOneReferenceIdeal.main_arg1))

def preserves_AddPwTwo_AddPwTwoIdeal : Prop :=
  True

def algebraic_AddPwTwoIdeal_AddPwTwoReferenceIdeal [hAddPwTwoIdeal : Cert.AddPwTwoIdeal.Facts] [hAddPwTwoReferenceIdeal : Cert.AddPwTwoReferenceIdeal.Facts] : Prop :=
  ∀ (m : (ℓ : Loc Cert.AddPwTwoIdeal.nD Cert.AddPwTwoIdeal.τ Cert.AddPwTwoIdeal.sig) → Buf (Elt Ideal) ℓ) (g : Dev Cert.AddPwTwoIdeal.nD → PrngReg)
    (m' : (ℓ : Loc Cert.AddPwTwoReferenceIdeal.nD Cert.AddPwTwoReferenceIdeal.τ Cert.AddPwTwoReferenceIdeal.sig) → Buf (Elt Ideal) ℓ) (g' : Dev Cert.AddPwTwoReferenceIdeal.nD → PrngReg), Pre_AddPwTwoIdeal m →
    (∀ c : Dev Cert.AddPwTwoIdeal.nD,
      m' ((c.tc : Thread Cert.AddPwTwoReferenceIdeal.nD Cert.AddPwTwoReferenceIdeal.τ).loc Cert.AddPwTwoReferenceIdeal.main_arg0) = m ((c.tc : Thread Cert.AddPwTwoIdeal.nD Cert.AddPwTwoIdeal.τ).loc Cert.AddPwTwoIdeal.main_arg0)
      ∧ m' ((c.tc : Thread Cert.AddPwTwoReferenceIdeal.nD Cert.AddPwTwoReferenceIdeal.τ).loc Cert.AddPwTwoReferenceIdeal.main_arg1) = m ((c.tc : Thread Cert.AddPwTwoIdeal.nD Cert.AddPwTwoIdeal.τ).loc Cert.AddPwTwoIdeal.main_arg1)) →
    ∃ (v0 : (c : Dev Cert.AddPwTwoIdeal.nD) → Buf (Elt Ideal) ((c.tc : Thread Cert.AddPwTwoIdeal.nD Cert.AddPwTwoIdeal.τ).loc Cert.AddPwTwoIdeal.main_v0)),
      θ_run (Cert.AddPwTwoIdeal.defs (F := Ideal)) (onTc (τ := Cert.AddPwTwoIdeal.τ) (Cert.AddPwTwoIdeal.main (F := Ideal))) ⟨m, fun _ => 0, g⟩ (fun r => ∀ c : Dev Cert.AddPwTwoIdeal.nD,
          r.2.mem ((c.tc : Thread Cert.AddPwTwoIdeal.nD Cert.AddPwTwoIdeal.τ).loc Cert.AddPwTwoIdeal.main_v0) = v0 c
          ∧ r.2.mem ((c.tc : Thread Cert.AddPwTwoIdeal.nD Cert.AddPwTwoIdeal.τ).loc Cert.AddPwTwoIdeal.main_arg0) = m ((c.tc : Thread Cert.AddPwTwoIdeal.nD Cert.AddPwTwoIdeal.τ).loc Cert.AddPwTwoIdeal.main_arg0)
          ∧ r.2.mem ((c.tc : Thread Cert.AddPwTwoIdeal.nD Cert.AddPwTwoIdeal.τ).loc Cert.AddPwTwoIdeal.main_arg1) = m ((c.tc : Thread Cert.AddPwTwoIdeal.nD Cert.AddPwTwoIdeal.τ).loc Cert.AddPwTwoIdeal.main_arg1))
      ∧ θ_run (Cert.AddPwTwoReferenceIdeal.defs (F := Ideal)) (onTc (τ := Cert.AddPwTwoReferenceIdeal.τ) (Cert.AddPwTwoReferenceIdeal.main (F := Ideal))) ⟨m', fun _ => 0, g'⟩ (fun r => ∀ c : Dev Cert.AddPwTwoReferenceIdeal.nD,
          r.2.mem ((c.tc : Thread Cert.AddPwTwoReferenceIdeal.nD Cert.AddPwTwoReferenceIdeal.τ).loc Cert.AddPwTwoReferenceIdeal.main_v0) = v0 c
          ∧ r.2.mem ((c.tc : Thread Cert.AddPwTwoReferenceIdeal.nD Cert.AddPwTwoReferenceIdeal.τ).loc Cert.AddPwTwoReferenceIdeal.main_arg0) = m' ((c.tc : Thread Cert.AddPwTwoReferenceIdeal.nD Cert.AddPwTwoReferenceIdeal.τ).loc Cert.AddPwTwoReferenceIdeal.main_arg0)
          ∧ r.2.mem ((c.tc : Thread Cert.AddPwTwoReferenceIdeal.nD Cert.AddPwTwoReferenceIdeal.τ).loc Cert.AddPwTwoReferenceIdeal.main_arg1) = m' ((c.tc : Thread Cert.AddPwTwoReferenceIdeal.nD Cert.AddPwTwoReferenceIdeal.τ).loc Cert.AddPwTwoReferenceIdeal.main_arg1))

def preserves_AddRetIn_AddRetInIdeal : Prop :=
  True

def algebraic_AddRetInIdeal_AddRetInReferenceIdeal [hAddRetInIdeal : Cert.AddRetInIdeal.Facts] [hAddRetInReferenceIdeal : Cert.AddRetInReferenceIdeal.Facts] : Prop :=
  ∀ (m : (ℓ : Loc Cert.AddRetInIdeal.nD Cert.AddRetInIdeal.τ Cert.AddRetInIdeal.sig) → Buf (Elt Ideal) ℓ) (g : Dev Cert.AddRetInIdeal.nD → PrngReg)
    (m' : (ℓ : Loc Cert.AddRetInReferenceIdeal.nD Cert.AddRetInReferenceIdeal.τ Cert.AddRetInReferenceIdeal.sig) → Buf (Elt Ideal) ℓ) (g' : Dev Cert.AddRetInReferenceIdeal.nD → PrngReg), Pre_AddRetInIdeal m →
    (∀ c : Dev Cert.AddRetInIdeal.nD,
      m' ((c.tc : Thread Cert.AddRetInReferenceIdeal.nD Cert.AddRetInReferenceIdeal.τ).loc Cert.AddRetInReferenceIdeal.main_arg0) = m ((c.tc : Thread Cert.AddRetInIdeal.nD Cert.AddRetInIdeal.τ).loc Cert.AddRetInIdeal.main_arg0)
      ∧ m' ((c.tc : Thread Cert.AddRetInReferenceIdeal.nD Cert.AddRetInReferenceIdeal.τ).loc Cert.AddRetInReferenceIdeal.main_arg1) = m ((c.tc : Thread Cert.AddRetInIdeal.nD Cert.AddRetInIdeal.τ).loc Cert.AddRetInIdeal.main_arg1)) →
    ∃ (v0 : (c : Dev Cert.AddRetInIdeal.nD) → Buf (Elt Ideal) ((c.tc : Thread Cert.AddRetInIdeal.nD Cert.AddRetInIdeal.τ).loc Cert.AddRetInIdeal.main_v0)),
      θ_run (Cert.AddRetInIdeal.defs (F := Ideal)) (onTc (τ := Cert.AddRetInIdeal.τ) (Cert.AddRetInIdeal.main (F := Ideal))) ⟨m, fun _ => 0, g⟩ (fun r => ∀ c : Dev Cert.AddRetInIdeal.nD,
          r.2.mem ((c.tc : Thread Cert.AddRetInIdeal.nD Cert.AddRetInIdeal.τ).loc Cert.AddRetInIdeal.main_v0) = v0 c
          ∧ r.2.mem ((c.tc : Thread Cert.AddRetInIdeal.nD Cert.AddRetInIdeal.τ).loc Cert.AddRetInIdeal.main_arg0) = m ((c.tc : Thread Cert.AddRetInIdeal.nD Cert.AddRetInIdeal.τ).loc Cert.AddRetInIdeal.main_arg0)
          ∧ r.2.mem ((c.tc : Thread Cert.AddRetInIdeal.nD Cert.AddRetInIdeal.τ).loc Cert.AddRetInIdeal.main_arg1) = m ((c.tc : Thread Cert.AddRetInIdeal.nD Cert.AddRetInIdeal.τ).loc Cert.AddRetInIdeal.main_arg1))
      ∧ θ_run (Cert.AddRetInReferenceIdeal.defs (F := Ideal)) (onTc (τ := Cert.AddRetInReferenceIdeal.τ) (Cert.AddRetInReferenceIdeal.main (F := Ideal))) ⟨m', fun _ => 0, g'⟩ (fun r => ∀ c : Dev Cert.AddRetInReferenceIdeal.nD,
          r.2.mem ((c.tc : Thread Cert.AddRetInReferenceIdeal.nD Cert.AddRetInReferenceIdeal.τ).loc Cert.AddRetInReferenceIdeal.main_v0) = v0 c
          ∧ r.2.mem ((c.tc : Thread Cert.AddRetInReferenceIdeal.nD Cert.AddRetInReferenceIdeal.τ).loc Cert.AddRetInReferenceIdeal.main_arg0) = m' ((c.tc : Thread Cert.AddRetInReferenceIdeal.nD Cert.AddRetInReferenceIdeal.τ).loc Cert.AddRetInReferenceIdeal.main_arg0)
          ∧ r.2.mem ((c.tc : Thread Cert.AddRetInReferenceIdeal.nD Cert.AddRetInReferenceIdeal.τ).loc Cert.AddRetInReferenceIdeal.main_arg1) = m' ((c.tc : Thread Cert.AddRetInReferenceIdeal.nD Cert.AddRetInReferenceIdeal.τ).loc Cert.AddRetInReferenceIdeal.main_arg1))

def preserves_AddRetOut_AddRetOutIdeal : Prop :=
  True

def algebraic_AddRetOutIdeal_AddRetOutReferenceIdeal [hAddRetOutIdeal : Cert.AddRetOutIdeal.Facts] [hAddRetOutReferenceIdeal : Cert.AddRetOutReferenceIdeal.Facts] : Prop :=
  ∀ (m : (ℓ : Loc Cert.AddRetOutIdeal.nD Cert.AddRetOutIdeal.τ Cert.AddRetOutIdeal.sig) → Buf (Elt Ideal) ℓ) (g : Dev Cert.AddRetOutIdeal.nD → PrngReg)
    (m' : (ℓ : Loc Cert.AddRetOutReferenceIdeal.nD Cert.AddRetOutReferenceIdeal.τ Cert.AddRetOutReferenceIdeal.sig) → Buf (Elt Ideal) ℓ) (g' : Dev Cert.AddRetOutReferenceIdeal.nD → PrngReg), Pre_AddRetOutIdeal m →
    (∀ c : Dev Cert.AddRetOutIdeal.nD,
      m' ((c.tc : Thread Cert.AddRetOutReferenceIdeal.nD Cert.AddRetOutReferenceIdeal.τ).loc Cert.AddRetOutReferenceIdeal.main_arg0) = m ((c.tc : Thread Cert.AddRetOutIdeal.nD Cert.AddRetOutIdeal.τ).loc Cert.AddRetOutIdeal.main_arg0)
      ∧ m' ((c.tc : Thread Cert.AddRetOutReferenceIdeal.nD Cert.AddRetOutReferenceIdeal.τ).loc Cert.AddRetOutReferenceIdeal.main_arg1) = m ((c.tc : Thread Cert.AddRetOutIdeal.nD Cert.AddRetOutIdeal.τ).loc Cert.AddRetOutIdeal.main_arg1)) →
    ∃ (v0 : (c : Dev Cert.AddRetOutIdeal.nD) → Buf (Elt Ideal) ((c.tc : Thread Cert.AddRetOutIdeal.nD Cert.AddRetOutIdeal.τ).loc Cert.AddRetOutIdeal.main_v0)),
      θ_run (Cert.AddRetOutIdeal.defs (F := Ideal)) (onTc (τ := Cert.AddRetOutIdeal.τ) (Cert.AddRetOutIdeal.main (F := Ideal))) ⟨m, fun _ => 0, g⟩ (fun r => ∀ c : Dev Cert.AddRetOutIdeal.nD,
          r.2.mem ((c.tc : Thread Cert.AddRetOutIdeal.nD Cert.AddRetOutIdeal.τ).loc Cert.AddRetOutIdeal.main_v0) = v0 c
          ∧ r.2.mem ((c.tc : Thread Cert.AddRetOutIdeal.nD Cert.AddRetOutIdeal.τ).loc Cert.AddRetOutIdeal.main_arg0) = m ((c.tc : Thread Cert.AddRetOutIdeal.nD Cert.AddRetOutIdeal.τ).loc Cert.AddRetOutIdeal.main_arg0)
          ∧ r.2.mem ((c.tc : Thread Cert.AddRetOutIdeal.nD Cert.AddRetOutIdeal.τ).loc Cert.AddRetOutIdeal.main_arg1) = m ((c.tc : Thread Cert.AddRetOutIdeal.nD Cert.AddRetOutIdeal.τ).loc Cert.AddRetOutIdeal.main_arg1))
      ∧ θ_run (Cert.AddRetOutReferenceIdeal.defs (F := Ideal)) (onTc (τ := Cert.AddRetOutReferenceIdeal.τ) (Cert.AddRetOutReferenceIdeal.main (F := Ideal))) ⟨m', fun _ => 0, g'⟩ (fun r => ∀ c : Dev Cert.AddRetOutReferenceIdeal.nD,
          r.2.mem ((c.tc : Thread Cert.AddRetOutReferenceIdeal.nD Cert.AddRetOutReferenceIdeal.τ).loc Cert.AddRetOutReferenceIdeal.main_v0) = v0 c
          ∧ r.2.mem ((c.tc : Thread Cert.AddRetOutReferenceIdeal.nD Cert.AddRetOutReferenceIdeal.τ).loc Cert.AddRetOutReferenceIdeal.main_arg0) = m' ((c.tc : Thread Cert.AddRetOutReferenceIdeal.nD Cert.AddRetOutReferenceIdeal.τ).loc Cert.AddRetOutReferenceIdeal.main_arg0)
          ∧ r.2.mem ((c.tc : Thread Cert.AddRetOutReferenceIdeal.nD Cert.AddRetOutReferenceIdeal.τ).loc Cert.AddRetOutReferenceIdeal.main_arg1) = m' ((c.tc : Thread Cert.AddRetOutReferenceIdeal.nD Cert.AddRetOutReferenceIdeal.τ).loc Cert.AddRetOutReferenceIdeal.main_arg1))

def preserves_AddMlp_AddMlpIdeal : Prop :=
  True

def algebraic_AddMlpIdeal_AddMlpReferenceIdeal [hAddMlpIdeal : Cert.AddMlpIdeal.Facts] [hAddMlpReferenceIdeal : Cert.AddMlpReferenceIdeal.Facts] : Prop :=
  ∀ (m : (ℓ : Loc Cert.AddMlpIdeal.nD Cert.AddMlpIdeal.τ Cert.AddMlpIdeal.sig) → Buf (Elt Ideal) ℓ) (g : Dev Cert.AddMlpIdeal.nD → PrngReg)
    (m' : (ℓ : Loc Cert.AddMlpReferenceIdeal.nD Cert.AddMlpReferenceIdeal.τ Cert.AddMlpReferenceIdeal.sig) → Buf (Elt Ideal) ℓ) (g' : Dev Cert.AddMlpReferenceIdeal.nD → PrngReg), Pre_AddMlpIdeal m →
    (∀ c : Dev Cert.AddMlpIdeal.nD,
      m' ((c.tc : Thread Cert.AddMlpReferenceIdeal.nD Cert.AddMlpReferenceIdeal.τ).loc Cert.AddMlpReferenceIdeal.main_arg0) = m ((c.tc : Thread Cert.AddMlpIdeal.nD Cert.AddMlpIdeal.τ).loc Cert.AddMlpIdeal.main_arg0)
      ∧ m' ((c.tc : Thread Cert.AddMlpReferenceIdeal.nD Cert.AddMlpReferenceIdeal.τ).loc Cert.AddMlpReferenceIdeal.main_arg1) = m ((c.tc : Thread Cert.AddMlpIdeal.nD Cert.AddMlpIdeal.τ).loc Cert.AddMlpIdeal.main_arg1)) →
    ∃ (v0 : (c : Dev Cert.AddMlpIdeal.nD) → Buf (Elt Ideal) ((c.tc : Thread Cert.AddMlpIdeal.nD Cert.AddMlpIdeal.τ).loc Cert.AddMlpIdeal.main_v0)),
      θ_run (Cert.AddMlpIdeal.defs (F := Ideal)) (onTc (τ := Cert.AddMlpIdeal.τ) (Cert.AddMlpIdeal.main (F := Ideal))) ⟨m, fun _ => 0, g⟩ (fun r => ∀ c : Dev Cert.AddMlpIdeal.nD,
          r.2.mem ((c.tc : Thread Cert.AddMlpIdeal.nD Cert.AddMlpIdeal.τ).loc Cert.AddMlpIdeal.main_v0) = v0 c
          ∧ r.2.mem ((c.tc : Thread Cert.AddMlpIdeal.nD Cert.AddMlpIdeal.τ).loc Cert.AddMlpIdeal.main_arg0) = m ((c.tc : Thread Cert.AddMlpIdeal.nD Cert.AddMlpIdeal.τ).loc Cert.AddMlpIdeal.main_arg0)
          ∧ r.2.mem ((c.tc : Thread Cert.AddMlpIdeal.nD Cert.AddMlpIdeal.τ).loc Cert.AddMlpIdeal.main_arg1) = m ((c.tc : Thread Cert.AddMlpIdeal.nD Cert.AddMlpIdeal.τ).loc Cert.AddMlpIdeal.main_arg1))
      ∧ θ_run (Cert.AddMlpReferenceIdeal.defs (F := Ideal)) (onTc (τ := Cert.AddMlpReferenceIdeal.τ) (Cert.AddMlpReferenceIdeal.main (F := Ideal))) ⟨m', fun _ => 0, g'⟩ (fun r => ∀ c : Dev Cert.AddMlpReferenceIdeal.nD,
          r.2.mem ((c.tc : Thread Cert.AddMlpReferenceIdeal.nD Cert.AddMlpReferenceIdeal.τ).loc Cert.AddMlpReferenceIdeal.main_v0) = v0 c
          ∧ r.2.mem ((c.tc : Thread Cert.AddMlpReferenceIdeal.nD Cert.AddMlpReferenceIdeal.τ).loc Cert.AddMlpReferenceIdeal.main_arg0) = m' ((c.tc : Thread Cert.AddMlpReferenceIdeal.nD Cert.AddMlpReferenceIdeal.τ).loc Cert.AddMlpReferenceIdeal.main_arg0)
          ∧ r.2.mem ((c.tc : Thread Cert.AddMlpReferenceIdeal.nD Cert.AddMlpReferenceIdeal.τ).loc Cert.AddMlpReferenceIdeal.main_arg1) = m' ((c.tc : Thread Cert.AddMlpReferenceIdeal.nD Cert.AddMlpReferenceIdeal.τ).loc Cert.AddMlpReferenceIdeal.main_arg1))

def preserves_Sum_SumIdeal : Prop :=
  True

def algebraic_SumIdeal_SumReferenceIdeal [hSumIdeal : Cert.SumIdeal.Facts] [hSumReferenceIdeal : Cert.SumReferenceIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumIdeal m →
    (∀ c : Dev Cert.SumIdeal.nD,
      m' ((c.tc : Thread Cert.SumReferenceIdeal.nD Cert.SumReferenceIdeal.τ).loc Cert.SumReferenceIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_RowFwd_RowFwdIdeal : Prop :=
  True

def algebraic_RowFwdIdeal_RowFwdReferenceIdeal [hRowFwdIdeal : Cert.RowFwdIdeal.Facts] [hRowFwdReferenceIdeal : Cert.RowFwdReferenceIdeal.Facts] : Prop :=
  ∀ (m : (ℓ : Loc Cert.RowFwdIdeal.nD Cert.RowFwdIdeal.τ Cert.RowFwdIdeal.sig) → Buf (Elt Ideal) ℓ) (g : Dev Cert.RowFwdIdeal.nD → PrngReg)
    (m' : (ℓ : Loc Cert.RowFwdReferenceIdeal.nD Cert.RowFwdReferenceIdeal.τ Cert.RowFwdReferenceIdeal.sig) → Buf (Elt Ideal) ℓ) (g' : Dev Cert.RowFwdReferenceIdeal.nD → PrngReg), Pre_RowFwdIdeal m →
    (∀ c : Dev Cert.RowFwdIdeal.nD,
      m' ((c.tc : Thread Cert.RowFwdReferenceIdeal.nD Cert.RowFwdReferenceIdeal.τ).loc Cert.RowFwdReferenceIdeal.main_arg0) = m ((c.tc : Thread Cert.RowFwdIdeal.nD Cert.RowFwdIdeal.τ).loc Cert.RowFwdIdeal.main_arg0)
      ∧ m' ((c.tc : Thread Cert.RowFwdReferenceIdeal.nD Cert.RowFwdReferenceIdeal.τ).loc Cert.RowFwdReferenceIdeal.main_arg1) = m ((c.tc : Thread Cert.RowFwdIdeal.nD Cert.RowFwdIdeal.τ).loc Cert.RowFwdIdeal.main_arg1)
      ∧ m' ((c.tc : Thread Cert.RowFwdReferenceIdeal.nD Cert.RowFwdReferenceIdeal.τ).loc Cert.RowFwdReferenceIdeal.main_arg2) = m ((c.tc : Thread Cert.RowFwdIdeal.nD Cert.RowFwdIdeal.τ).loc Cert.RowFwdIdeal.main_arg2)) →
    ∃ (v0 : (c : Dev Cert.RowFwdIdeal.nD) → Buf (Elt Ideal) ((c.tc : Thread Cert.RowFwdIdeal.nD Cert.RowFwdIdeal.τ).loc Cert.RowFwdIdeal.main_v0_0)) (v1 : (c : Dev Cert.RowFwdIdeal.nD) → Buf (Elt Ideal) ((c.tc : Thread Cert.RowFwdIdeal.nD Cert.RowFwdIdeal.τ).loc Cert.RowFwdIdeal.main_v0_1)),
      θ_run (Cert.RowFwdIdeal.defs (F := Ideal)) (onTc (τ := Cert.RowFwdIdeal.τ) (Cert.RowFwdIdeal.main (F := Ideal))) ⟨m, fun _ => 0, g⟩ (fun r => ∀ c : Dev Cert.RowFwdIdeal.nD,
          r.2.mem ((c.tc : Thread Cert.RowFwdIdeal.nD Cert.RowFwdIdeal.τ).loc Cert.RowFwdIdeal.main_v0_0) = v0 c
          ∧ r.2.mem ((c.tc : Thread Cert.RowFwdIdeal.nD Cert.RowFwdIdeal.τ).loc Cert.RowFwdIdeal.main_v0_1) = v1 c
          ∧ r.2.mem ((c.tc : Thread Cert.RowFwdIdeal.nD Cert.RowFwdIdeal.τ).loc Cert.RowFwdIdeal.main_arg0) = m ((c.tc : Thread Cert.RowFwdIdeal.nD Cert.RowFwdIdeal.τ).loc Cert.RowFwdIdeal.main_arg0)
          ∧ r.2.mem ((c.tc : Thread Cert.RowFwdIdeal.nD Cert.RowFwdIdeal.τ).loc Cert.RowFwdIdeal.main_arg1) = m ((c.tc : Thread Cert.RowFwdIdeal.nD Cert.RowFwdIdeal.τ).loc Cert.RowFwdIdeal.main_arg1)
          ∧ r.2.mem ((c.tc : Thread Cert.RowFwdIdeal.nD Cert.RowFwdIdeal.τ).loc Cert.RowFwdIdeal.main_arg2) = m ((c.tc : Thread Cert.RowFwdIdeal.nD Cert.RowFwdIdeal.τ).loc Cert.RowFwdIdeal.main_arg2))
      ∧ θ_run (Cert.RowFwdReferenceIdeal.defs (F := Ideal)) (onTc (τ := Cert.RowFwdReferenceIdeal.τ) (Cert.RowFwdReferenceIdeal.main (F := Ideal))) ⟨m', fun _ => 0, g'⟩ (fun r => ∀ c : Dev Cert.RowFwdReferenceIdeal.nD,
          r.2.mem ((c.tc : Thread Cert.RowFwdReferenceIdeal.nD Cert.RowFwdReferenceIdeal.τ).loc Cert.RowFwdReferenceIdeal.main_v11) = v0 c
          ∧ r.2.mem ((c.tc : Thread Cert.RowFwdReferenceIdeal.nD Cert.RowFwdReferenceIdeal.τ).loc Cert.RowFwdReferenceIdeal.main_v33) = v1 c
          ∧ r.2.mem ((c.tc : Thread Cert.RowFwdReferenceIdeal.nD Cert.RowFwdReferenceIdeal.τ).loc Cert.RowFwdReferenceIdeal.main_arg0) = m' ((c.tc : Thread Cert.RowFwdReferenceIdeal.nD Cert.RowFwdReferenceIdeal.τ).loc Cert.RowFwdReferenceIdeal.main_arg0)
          ∧ r.2.mem ((c.tc : Thread Cert.RowFwdReferenceIdeal.nD Cert.RowFwdReferenceIdeal.τ).loc Cert.RowFwdReferenceIdeal.main_arg1) = m' ((c.tc : Thread Cert.RowFwdReferenceIdeal.nD Cert.RowFwdReferenceIdeal.τ).loc Cert.RowFwdReferenceIdeal.main_arg1)
          ∧ r.2.mem ((c.tc : Thread Cert.RowFwdReferenceIdeal.nD Cert.RowFwdReferenceIdeal.τ).loc Cert.RowFwdReferenceIdeal.main_arg2) = m' ((c.tc : Thread Cert.RowFwdReferenceIdeal.nD Cert.RowFwdReferenceIdeal.τ).loc Cert.RowFwdReferenceIdeal.main_arg2))

def preserves_RowFirst_RowFirstIdeal : Prop :=
  True

def algebraic_RowFirstIdeal_RowFirstReferenceIdeal [hRowFirstIdeal : Cert.RowFirstIdeal.Facts] [hRowFirstReferenceIdeal : Cert.RowFirstReferenceIdeal.Facts] : Prop :=
  ∀ (m : (ℓ : Loc Cert.RowFirstIdeal.nD Cert.RowFirstIdeal.τ Cert.RowFirstIdeal.sig) → Buf (Elt Ideal) ℓ) (g : Dev Cert.RowFirstIdeal.nD → PrngReg)
    (m' : (ℓ : Loc Cert.RowFirstReferenceIdeal.nD Cert.RowFirstReferenceIdeal.τ Cert.RowFirstReferenceIdeal.sig) → Buf (Elt Ideal) ℓ) (g' : Dev Cert.RowFirstReferenceIdeal.nD → PrngReg), Pre_RowFirstIdeal m →
    (∀ c : Dev Cert.RowFirstIdeal.nD,
      m' ((c.tc : Thread Cert.RowFirstReferenceIdeal.nD Cert.RowFirstReferenceIdeal.τ).loc Cert.RowFirstReferenceIdeal.main_arg0) = m ((c.tc : Thread Cert.RowFirstIdeal.nD Cert.RowFirstIdeal.τ).loc Cert.RowFirstIdeal.main_arg0)
      ∧ m' ((c.tc : Thread Cert.RowFirstReferenceIdeal.nD Cert.RowFirstReferenceIdeal.τ).loc Cert.RowFirstReferenceIdeal.main_arg1) = m ((c.tc : Thread Cert.RowFirstIdeal.nD Cert.RowFirstIdeal.τ).loc Cert.RowFirstIdeal.main_arg1)) →
    ∃ (v0 : (c : Dev Cert.RowFirstIdeal.nD) → Buf (Elt Ideal) ((c.tc : Thread Cert.RowFirstIdeal.nD Cert.RowFirstIdeal.τ).loc Cert.RowFirstIdeal.main_v0)),
      θ_run (Cert.RowFirstIdeal.defs (F := Ideal)) (onTc (τ := Cert.RowFirstIdeal.τ) (Cert.RowFirstIdeal.main (F := Ideal))) ⟨m, fun _ => 0, g⟩ (fun r => ∀ c : Dev Cert.RowFirstIdeal.nD,
          r.2.mem ((c.tc : Thread Cert.RowFirstIdeal.nD Cert.RowFirstIdeal.τ).loc Cert.RowFirstIdeal.main_v0) = v0 c
          ∧ r.2.mem ((c.tc : Thread Cert.RowFirstIdeal.nD Cert.RowFirstIdeal.τ).loc Cert.RowFirstIdeal.main_arg0) = m ((c.tc : Thread Cert.RowFirstIdeal.nD Cert.RowFirstIdeal.τ).loc Cert.RowFirstIdeal.main_arg0)
          ∧ r.2.mem ((c.tc : Thread Cert.RowFirstIdeal.nD Cert.RowFirstIdeal.τ).loc Cert.RowFirstIdeal.main_arg1) = m ((c.tc : Thread Cert.RowFirstIdeal.nD Cert.RowFirstIdeal.τ).loc Cert.RowFirstIdeal.main_arg1))
      ∧ θ_run (Cert.RowFirstReferenceIdeal.defs (F := Ideal)) (onTc (τ := Cert.RowFirstReferenceIdeal.τ) (Cert.RowFirstReferenceIdeal.main (F := Ideal))) ⟨m', fun _ => 0, g'⟩ (fun r => ∀ c : Dev Cert.RowFirstReferenceIdeal.nD,
          r.2.mem ((c.tc : Thread Cert.RowFirstReferenceIdeal.nD Cert.RowFirstReferenceIdeal.τ).loc Cert.RowFirstReferenceIdeal.main_v27) = v0 c
          ∧ r.2.mem ((c.tc : Thread Cert.RowFirstReferenceIdeal.nD Cert.RowFirstReferenceIdeal.τ).loc Cert.RowFirstReferenceIdeal.main_arg0) = m' ((c.tc : Thread Cert.RowFirstReferenceIdeal.nD Cert.RowFirstReferenceIdeal.τ).loc Cert.RowFirstReferenceIdeal.main_arg0)
          ∧ r.2.mem ((c.tc : Thread Cert.RowFirstReferenceIdeal.nD Cert.RowFirstReferenceIdeal.τ).loc Cert.RowFirstReferenceIdeal.main_arg1) = m' ((c.tc : Thread Cert.RowFirstReferenceIdeal.nD Cert.RowFirstReferenceIdeal.τ).loc Cert.RowFirstReferenceIdeal.main_arg1))

def preserves_RowBwd_RowBwdIdeal : Prop :=
  True

def algebraic_RowBwdIdeal_RowBwdReferenceIdeal [hRowBwdIdeal : Cert.RowBwdIdeal.Facts] [hRowBwdReferenceIdeal : Cert.RowBwdReferenceIdeal.Facts] : Prop :=
  ∀ (m : (ℓ : Loc Cert.RowBwdIdeal.nD Cert.RowBwdIdeal.τ Cert.RowBwdIdeal.sig) → Buf (Elt Ideal) ℓ) (g : Dev Cert.RowBwdIdeal.nD → PrngReg)
    (m' : (ℓ : Loc Cert.RowBwdReferenceIdeal.nD Cert.RowBwdReferenceIdeal.τ Cert.RowBwdReferenceIdeal.sig) → Buf (Elt Ideal) ℓ) (g' : Dev Cert.RowBwdReferenceIdeal.nD → PrngReg), Pre_RowBwdIdeal m →
    (∀ c : Dev Cert.RowBwdIdeal.nD,
      m' ((c.tc : Thread Cert.RowBwdReferenceIdeal.nD Cert.RowBwdReferenceIdeal.τ).loc Cert.RowBwdReferenceIdeal.main_arg0) = m ((c.tc : Thread Cert.RowBwdIdeal.nD Cert.RowBwdIdeal.τ).loc Cert.RowBwdIdeal.main_arg0)
      ∧ m' ((c.tc : Thread Cert.RowBwdReferenceIdeal.nD Cert.RowBwdReferenceIdeal.τ).loc Cert.RowBwdReferenceIdeal.main_arg1) = m ((c.tc : Thread Cert.RowBwdIdeal.nD Cert.RowBwdIdeal.τ).loc Cert.RowBwdIdeal.main_arg1)
      ∧ m' ((c.tc : Thread Cert.RowBwdReferenceIdeal.nD Cert.RowBwdReferenceIdeal.τ).loc Cert.RowBwdReferenceIdeal.main_arg2) = m ((c.tc : Thread Cert.RowBwdIdeal.nD Cert.RowBwdIdeal.τ).loc Cert.RowBwdIdeal.main_arg2)
      ∧ m' ((c.tc : Thread Cert.RowBwdReferenceIdeal.nD Cert.RowBwdReferenceIdeal.τ).loc Cert.RowBwdReferenceIdeal.main_arg3) = m ((c.tc : Thread Cert.RowBwdIdeal.nD Cert.RowBwdIdeal.τ).loc Cert.RowBwdIdeal.main_arg3)
      ∧ m' ((c.tc : Thread Cert.RowBwdReferenceIdeal.nD Cert.RowBwdReferenceIdeal.τ).loc Cert.RowBwdReferenceIdeal.main_arg4) = m ((c.tc : Thread Cert.RowBwdIdeal.nD Cert.RowBwdIdeal.τ).loc Cert.RowBwdIdeal.main_arg4)) →
    ∃ (v0 : (c : Dev Cert.RowBwdIdeal.nD) → Buf (Elt Ideal) ((c.tc : Thread Cert.RowBwdIdeal.nD Cert.RowBwdIdeal.τ).loc Cert.RowBwdIdeal.main_v0_0)) (v1 : (c : Dev Cert.RowBwdIdeal.nD) → Buf (Elt Ideal) ((c.tc : Thread Cert.RowBwdIdeal.nD Cert.RowBwdIdeal.τ).loc Cert.RowBwdIdeal.main_v0_1)) (v2 : (c : Dev Cert.RowBwdIdeal.nD) → Buf (Elt Ideal) ((c.tc : Thread Cert.RowBwdIdeal.nD Cert.RowBwdIdeal.τ).loc Cert.RowBwdIdeal.main_v0_2)),
      θ_run (Cert.RowBwdIdeal.defs (F := Ideal)) (onTc (τ := Cert.RowBwdIdeal.τ) (Cert.RowBwdIdeal.main (F := Ideal))) ⟨m, fun _ => 0, g⟩ (fun r => ∀ c : Dev Cert.RowBwdIdeal.nD,
          r.2.mem ((c.tc : Thread Cert.RowBwdIdeal.nD Cert.RowBwdIdeal.τ).loc Cert.RowBwdIdeal.main_v0_0) = v0 c
          ∧ r.2.mem ((c.tc : Thread Cert.RowBwdIdeal.nD Cert.RowBwdIdeal.τ).loc Cert.RowBwdIdeal.main_v0_1) = v1 c
          ∧ r.2.mem ((c.tc : Thread Cert.RowBwdIdeal.nD Cert.RowBwdIdeal.τ).loc Cert.RowBwdIdeal.main_v0_2) = v2 c
          ∧ r.2.mem ((c.tc : Thread Cert.RowBwdIdeal.nD Cert.RowBwdIdeal.τ).loc Cert.RowBwdIdeal.main_arg0) = m ((c.tc : Thread Cert.RowBwdIdeal.nD Cert.RowBwdIdeal.τ).loc Cert.RowBwdIdeal.main_arg0)
          ∧ r.2.mem ((c.tc : Thread Cert.RowBwdIdeal.nD Cert.RowBwdIdeal.τ).loc Cert.RowBwdIdeal.main_arg1) = m ((c.tc : Thread Cert.RowBwdIdeal.nD Cert.RowBwdIdeal.τ).loc Cert.RowBwdIdeal.main_arg1)
          ∧ r.2.mem ((c.tc : Thread Cert.RowBwdIdeal.nD Cert.RowBwdIdeal.τ).loc Cert.RowBwdIdeal.main_arg2) = m ((c.tc : Thread Cert.RowBwdIdeal.nD Cert.RowBwdIdeal.τ).loc Cert.RowBwdIdeal.main_arg2)
          ∧ r.2.mem ((c.tc : Thread Cert.RowBwdIdeal.nD Cert.RowBwdIdeal.τ).loc Cert.RowBwdIdeal.main_arg3) = m ((c.tc : Thread Cert.RowBwdIdeal.nD Cert.RowBwdIdeal.τ).loc Cert.RowBwdIdeal.main_arg3)
          ∧ r.2.mem ((c.tc : Thread Cert.RowBwdIdeal.nD Cert.RowBwdIdeal.τ).loc Cert.RowBwdIdeal.main_arg4) = m ((c.tc : Thread Cert.RowBwdIdeal.nD Cert.RowBwdIdeal.τ).loc Cert.RowBwdIdeal.main_arg4))
      ∧ θ_run (Cert.RowBwdReferenceIdeal.defs (F := Ideal)) (onTc (τ := Cert.RowBwdReferenceIdeal.τ) (Cert.RowBwdReferenceIdeal.main (F := Ideal))) ⟨m', fun _ => 0, g'⟩ (fun r => ∀ c : Dev Cert.RowBwdReferenceIdeal.nD,
          r.2.mem ((c.tc : Thread Cert.RowBwdReferenceIdeal.nD Cert.RowBwdReferenceIdeal.τ).loc Cert.RowBwdReferenceIdeal.main_v62) = v0 c
          ∧ r.2.mem ((c.tc : Thread Cert.RowBwdReferenceIdeal.nD Cert.RowBwdReferenceIdeal.τ).loc Cert.RowBwdReferenceIdeal.main_v67) = v1 c
          ∧ r.2.mem ((c.tc : Thread Cert.RowBwdReferenceIdeal.nD Cert.RowBwdReferenceIdeal.τ).loc Cert.RowBwdReferenceIdeal.main_v79) = v2 c
          ∧ r.2.mem ((c.tc : Thread Cert.RowBwdReferenceIdeal.nD Cert.RowBwdReferenceIdeal.τ).loc Cert.RowBwdReferenceIdeal.main_arg0) = m' ((c.tc : Thread Cert.RowBwdReferenceIdeal.nD Cert.RowBwdReferenceIdeal.τ).loc Cert.RowBwdReferenceIdeal.main_arg0)
          ∧ r.2.mem ((c.tc : Thread Cert.RowBwdReferenceIdeal.nD Cert.RowBwdReferenceIdeal.τ).loc Cert.RowBwdReferenceIdeal.main_arg1) = m' ((c.tc : Thread Cert.RowBwdReferenceIdeal.nD Cert.RowBwdReferenceIdeal.τ).loc Cert.RowBwdReferenceIdeal.main_arg1)
          ∧ r.2.mem ((c.tc : Thread Cert.RowBwdReferenceIdeal.nD Cert.RowBwdReferenceIdeal.τ).loc Cert.RowBwdReferenceIdeal.main_arg2) = m' ((c.tc : Thread Cert.RowBwdReferenceIdeal.nD Cert.RowBwdReferenceIdeal.τ).loc Cert.RowBwdReferenceIdeal.main_arg2)
          ∧ r.2.mem ((c.tc : Thread Cert.RowBwdReferenceIdeal.nD Cert.RowBwdReferenceIdeal.τ).loc Cert.RowBwdReferenceIdeal.main_arg3) = m' ((c.tc : Thread Cert.RowBwdReferenceIdeal.nD Cert.RowBwdReferenceIdeal.τ).loc Cert.RowBwdReferenceIdeal.main_arg3)
          ∧ r.2.mem ((c.tc : Thread Cert.RowBwdReferenceIdeal.nD Cert.RowBwdReferenceIdeal.τ).loc Cert.RowBwdReferenceIdeal.main_arg4) = m' ((c.tc : Thread Cert.RowBwdReferenceIdeal.nD Cert.RowBwdReferenceIdeal.τ).loc Cert.RowBwdReferenceIdeal.main_arg4))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v58) = v0 c
          ∧ r.2.mem ((c.tc : Thread Cert.FinalReferenceIdeal.nD Cert.FinalReferenceIdeal.τ).loc Cert.FinalReferenceIdeal.main_v94) = v1 c
          ∧ r.2.mem ((c.tc : Thread Cert.FinalReferenceIdeal.nD Cert.FinalReferenceIdeal.τ).loc Cert.FinalReferenceIdeal.main_v103) = v2 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m ((c.tc : Thread Cert.LossIdeal.nD Cert.LossIdeal.τ).loc Cert.LossIdeal.main_arg0) = Layout.block ⟨2, ![8, 1024]⟩ ⟨2, ![64, 1024]⟩ 0 8 c (m' (((0 : Dev Cert.LossReferenceIdeal.nD).tc : Thread Cert.LossReferenceIdeal.nD Cert.LossReferenceIdeal.τ).loc Cert.LossReferenceIdeal.main_arg0))) →
    ∃ (v0 : Buf (Elt Ideal) (((0 : Dev Cert.LossReferenceIdeal.nD).tc : Thread Cert.LossReferenceIdeal.nD Cert.LossReferenceIdeal.τ).loc Cert.LossReferenceIdeal.main_v3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ θ_run (Cert.LossReferenceIdeal.defs (F := Ideal)) (onTc (τ := Cert.LossReferenceIdeal.τ) (Cert.LossReferenceIdeal.main (F := Ideal))) ⟨m', fun _ => 0, g'⟩ (fun r =>
          r.2.mem (((0 : Dev Cert.LossReferenceIdeal.nD).tc : Thread Cert.LossReferenceIdeal.nD Cert.LossReferenceIdeal.τ).loc Cert.LossReferenceIdeal.main_v3) = v0
          ∧ r.2.mem (((0 : Dev Cert.LossReferenceIdeal.nD).tc : Thread Cert.LossReferenceIdeal.nD Cert.LossReferenceIdeal.τ).loc Cert.LossReferenceIdeal.main_arg0) = m' (((0 : Dev Cert.LossReferenceIdeal.nD).tc : Thread Cert.LossReferenceIdeal.nD Cert.LossReferenceIdeal.τ).loc Cert.LossReferenceIdeal.main_arg0))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)
      ∧ m' ((c.tc : Thread Cert.ConvFwdReferenceIdeal.nD Cert.ConvFwdReferenceIdeal.τ).loc Cert.ConvFwdReferenceIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)) (v2 : (c : Dev Cert.ConvFwdIdeal.nD) → Buf (Elt Ideal) ((c.tc : Thread Cert.ConvFwdIdeal.nD Cert.ConvFwdIdeal.τ).loc Cert.ConvFwdIdeal.main_v0_2)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_v0_2) = v2 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v8) = v0 c
          ∧ r.2.mem ((c.tc : Thread Cert.ConvFwdReferenceIdeal.nD Cert.ConvFwdReferenceIdeal.τ).loc Cert.ConvFwdReferenceIdeal.main_v168) = v1 c
          ∧ r.2.mem ((c.tc : Thread Cert.ConvFwdReferenceIdeal.nD Cert.ConvFwdReferenceIdeal.τ).loc Cert.ConvFwdReferenceIdeal.main_v194) = v2 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1)
          ∧ r.2.mem ((c.tc : Thread Cert.ConvFwdReferenceIdeal.nD Cert.ConvFwdReferenceIdeal.τ).loc Cert.ConvFwdReferenceIdeal.main_arg2) = m' ((c.tc : Thread Cert.ConvFwdReferenceIdeal.nD Cert.ConvFwdReferenceIdeal.τ).loc Cert.ConvFwdReferenceIdeal.main_arg2))

def preserves_PwOneFwd_PwOneFwdIdeal : Prop :=
  True

def algebraic_PwOneFwdIdeal_PwOneFwdReferenceIdeal [hPwOneFwdIdeal : Cert.PwOneFwdIdeal.Facts] [hPwOneFwdReferenceIdeal : Cert.PwOneFwdReferenceIdeal.Facts] : Prop :=
  ∀ (m : (ℓ : Loc Cert.PwOneFwdIdeal.nD Cert.PwOneFwdIdeal.τ Cert.PwOneFwdIdeal.sig) → Buf (Elt Ideal) ℓ) (g : Dev Cert.PwOneFwdIdeal.nD → PrngReg)
    (m' : (ℓ : Loc Cert.PwOneFwdReferenceIdeal.nD Cert.PwOneFwdReferenceIdeal.τ Cert.PwOneFwdReferenceIdeal.sig) → Buf (Elt Ideal) ℓ) (g' : Dev Cert.PwOneFwdReferenceIdeal.nD → PrngReg), Pre_PwOneFwdIdeal m →
    (∀ c : Dev Cert.PwOneFwdIdeal.nD,
      m' ((c.tc : Thread Cert.PwOneFwdReferenceIdeal.nD Cert.PwOneFwdReferenceIdeal.τ).loc Cert.PwOneFwdReferenceIdeal.main_arg0) = m ((c.tc : Thread Cert.PwOneFwdIdeal.nD Cert.PwOneFwdIdeal.τ).loc Cert.PwOneFwdIdeal.main_arg0)
      ∧ m' ((c.tc : Thread Cert.PwOneFwdReferenceIdeal.nD Cert.PwOneFwdReferenceIdeal.τ).loc Cert.PwOneFwdReferenceIdeal.main_arg1) = m ((c.tc : Thread Cert.PwOneFwdIdeal.nD Cert.PwOneFwdIdeal.τ).loc Cert.PwOneFwdIdeal.main_arg1)
      ∧ m' ((c.tc : Thread Cert.PwOneFwdReferenceIdeal.nD Cert.PwOneFwdReferenceIdeal.τ).loc Cert.PwOneFwdReferenceIdeal.main_arg2) = m ((c.tc : Thread Cert.PwOneFwdIdeal.nD Cert.PwOneFwdIdeal.τ).loc Cert.PwOneFwdIdeal.main_arg2)) →
    ∃ (v0 : (c : Dev Cert.PwOneFwdIdeal.nD) → Buf (Elt Ideal) ((c.tc : Thread Cert.PwOneFwdIdeal.nD Cert.PwOneFwdIdeal.τ).loc Cert.PwOneFwdIdeal.main_v0)),
      θ_run (Cert.PwOneFwdIdeal.defs (F := Ideal)) (onTc (τ := Cert.PwOneFwdIdeal.τ) (Cert.PwOneFwdIdeal.main (F := Ideal))) ⟨m, fun _ => 0, g⟩ (fun r => ∀ c : Dev Cert.PwOneFwdIdeal.nD,
          r.2.mem ((c.tc : Thread Cert.PwOneFwdIdeal.nD Cert.PwOneFwdIdeal.τ).loc Cert.PwOneFwdIdeal.main_v0) = v0 c
          ∧ r.2.mem ((c.tc : Thread Cert.PwOneFwdIdeal.nD Cert.PwOneFwdIdeal.τ).loc Cert.PwOneFwdIdeal.main_arg0) = m ((c.tc : Thread Cert.PwOneFwdIdeal.nD Cert.PwOneFwdIdeal.τ).loc Cert.PwOneFwdIdeal.main_arg0)
          ∧ r.2.mem ((c.tc : Thread Cert.PwOneFwdIdeal.nD Cert.PwOneFwdIdeal.τ).loc Cert.PwOneFwdIdeal.main_arg1) = m ((c.tc : Thread Cert.PwOneFwdIdeal.nD Cert.PwOneFwdIdeal.τ).loc Cert.PwOneFwdIdeal.main_arg1)
          ∧ r.2.mem ((c.tc : Thread Cert.PwOneFwdIdeal.nD Cert.PwOneFwdIdeal.τ).loc Cert.PwOneFwdIdeal.main_arg2) = m ((c.tc : Thread Cert.PwOneFwdIdeal.nD Cert.PwOneFwdIdeal.τ).loc Cert.PwOneFwdIdeal.main_arg2))
      ∧ θ_run (Cert.PwOneFwdReferenceIdeal.defs (F := Ideal)) (onTc (τ := Cert.PwOneFwdReferenceIdeal.τ) (Cert.PwOneFwdReferenceIdeal.main (F := Ideal))) ⟨m', fun _ => 0, g'⟩ (fun r => ∀ c : Dev Cert.PwOneFwdReferenceIdeal.nD,
          r.2.mem ((c.tc : Thread Cert.PwOneFwdReferenceIdeal.nD Cert.PwOneFwdReferenceIdeal.τ).loc Cert.PwOneFwdReferenceIdeal.main_v4) = v0 c
          ∧ r.2.mem ((c.tc : Thread Cert.PwOneFwdReferenceIdeal.nD Cert.PwOneFwdReferenceIdeal.τ).loc Cert.PwOneFwdReferenceIdeal.main_arg0) = m' ((c.tc : Thread Cert.PwOneFwdReferenceIdeal.nD Cert.PwOneFwdReferenceIdeal.τ).loc Cert.PwOneFwdReferenceIdeal.main_arg0)
          ∧ r.2.mem ((c.tc : Thread Cert.PwOneFwdReferenceIdeal.nD Cert.PwOneFwdReferenceIdeal.τ).loc Cert.PwOneFwdReferenceIdeal.main_arg1) = m' ((c.tc : Thread Cert.PwOneFwdReferenceIdeal.nD Cert.PwOneFwdReferenceIdeal.τ).loc Cert.PwOneFwdReferenceIdeal.main_arg1)
          ∧ r.2.mem ((c.tc : Thread Cert.PwOneFwdReferenceIdeal.nD Cert.PwOneFwdReferenceIdeal.τ).loc Cert.PwOneFwdReferenceIdeal.main_arg2) = m' ((c.tc : Thread Cert.PwOneFwdReferenceIdeal.nD Cert.PwOneFwdReferenceIdeal.τ).loc Cert.PwOneFwdReferenceIdeal.main_arg2))

def preserves_PwTwoFwd_PwTwoFwdIdeal : Prop :=
  True

def algebraic_PwTwoFwdIdeal_PwTwoFwdReferenceIdeal [hPwTwoFwdIdeal : Cert.PwTwoFwdIdeal.Facts] [hPwTwoFwdReferenceIdeal : Cert.PwTwoFwdReferenceIdeal.Facts] : Prop :=
  ∀ (m : (ℓ : Loc Cert.PwTwoFwdIdeal.nD Cert.PwTwoFwdIdeal.τ Cert.PwTwoFwdIdeal.sig) → Buf (Elt Ideal) ℓ) (g : Dev Cert.PwTwoFwdIdeal.nD → PrngReg)
    (m' : (ℓ : Loc Cert.PwTwoFwdReferenceIdeal.nD Cert.PwTwoFwdReferenceIdeal.τ Cert.PwTwoFwdReferenceIdeal.sig) → Buf (Elt Ideal) ℓ) (g' : Dev Cert.PwTwoFwdReferenceIdeal.nD → PrngReg), Pre_PwTwoFwdIdeal m →
    (∀ c : Dev Cert.PwTwoFwdIdeal.nD,
      m' ((c.tc : Thread Cert.PwTwoFwdReferenceIdeal.nD Cert.PwTwoFwdReferenceIdeal.τ).loc Cert.PwTwoFwdReferenceIdeal.main_arg0) = m ((c.tc : Thread Cert.PwTwoFwdIdeal.nD Cert.PwTwoFwdIdeal.τ).loc Cert.PwTwoFwdIdeal.main_arg0)
      ∧ m' ((c.tc : Thread Cert.PwTwoFwdReferenceIdeal.nD Cert.PwTwoFwdReferenceIdeal.τ).loc Cert.PwTwoFwdReferenceIdeal.main_arg1) = m ((c.tc : Thread Cert.PwTwoFwdIdeal.nD Cert.PwTwoFwdIdeal.τ).loc Cert.PwTwoFwdIdeal.main_arg1)
      ∧ m' ((c.tc : Thread Cert.PwTwoFwdReferenceIdeal.nD Cert.PwTwoFwdReferenceIdeal.τ).loc Cert.PwTwoFwdReferenceIdeal.main_arg2) = m ((c.tc : Thread Cert.PwTwoFwdIdeal.nD Cert.PwTwoFwdIdeal.τ).loc Cert.PwTwoFwdIdeal.main_arg2)) →
    ∃ (v0 : (c : Dev Cert.PwTwoFwdIdeal.nD) → Buf (Elt Ideal) ((c.tc : Thread Cert.PwTwoFwdIdeal.nD Cert.PwTwoFwdIdeal.τ).loc Cert.PwTwoFwdIdeal.main_v0)),
      θ_run (Cert.PwTwoFwdIdeal.defs (F := Ideal)) (onTc (τ := Cert.PwTwoFwdIdeal.τ) (Cert.PwTwoFwdIdeal.main (F := Ideal))) ⟨m, fun _ => 0, g⟩ (fun r => ∀ c : Dev Cert.PwTwoFwdIdeal.nD,
          r.2.mem ((c.tc : Thread Cert.PwTwoFwdIdeal.nD Cert.PwTwoFwdIdeal.τ).loc Cert.PwTwoFwdIdeal.main_v0) = v0 c
          ∧ r.2.mem ((c.tc : Thread Cert.PwTwoFwdIdeal.nD Cert.PwTwoFwdIdeal.τ).loc Cert.PwTwoFwdIdeal.main_arg0) = m ((c.tc : Thread Cert.PwTwoFwdIdeal.nD Cert.PwTwoFwdIdeal.τ).loc Cert.PwTwoFwdIdeal.main_arg0)
          ∧ r.2.mem ((c.tc : Thread Cert.PwTwoFwdIdeal.nD Cert.PwTwoFwdIdeal.τ).loc Cert.PwTwoFwdIdeal.main_arg1) = m ((c.tc : Thread Cert.PwTwoFwdIdeal.nD Cert.PwTwoFwdIdeal.τ).loc Cert.PwTwoFwdIdeal.main_arg1)
          ∧ r.2.mem ((c.tc : Thread Cert.PwTwoFwdIdeal.nD Cert.PwTwoFwdIdeal.τ).loc Cert.PwTwoFwdIdeal.main_arg2) = m ((c.tc : Thread Cert.PwTwoFwdIdeal.nD Cert.PwTwoFwdIdeal.τ).loc Cert.PwTwoFwdIdeal.main_arg2))
      ∧ θ_run (Cert.PwTwoFwdReferenceIdeal.defs (F := Ideal)) (onTc (τ := Cert.PwTwoFwdReferenceIdeal.τ) (Cert.PwTwoFwdReferenceIdeal.main (F := Ideal))) ⟨m', fun _ => 0, g'⟩ (fun r => ∀ c : Dev Cert.PwTwoFwdReferenceIdeal.nD,
          r.2.mem ((c.tc : Thread Cert.PwTwoFwdReferenceIdeal.nD Cert.PwTwoFwdReferenceIdeal.τ).loc Cert.PwTwoFwdReferenceIdeal.main_v2) = v0 c
          ∧ r.2.mem ((c.tc : Thread Cert.PwTwoFwdReferenceIdeal.nD Cert.PwTwoFwdReferenceIdeal.τ).loc Cert.PwTwoFwdReferenceIdeal.main_arg0) = m' ((c.tc : Thread Cert.PwTwoFwdReferenceIdeal.nD Cert.PwTwoFwdReferenceIdeal.τ).loc Cert.PwTwoFwdReferenceIdeal.main_arg0)
          ∧ r.2.mem ((c.tc : Thread Cert.PwTwoFwdReferenceIdeal.nD Cert.PwTwoFwdReferenceIdeal.τ).loc Cert.PwTwoFwdReferenceIdeal.main_arg1) = m' ((c.tc : Thread Cert.PwTwoFwdReferenceIdeal.nD Cert.PwTwoFwdReferenceIdeal.τ).loc Cert.PwTwoFwdReferenceIdeal.main_arg1)
          ∧ r.2.mem ((c.tc : Thread Cert.PwTwoFwdReferenceIdeal.nD Cert.PwTwoFwdReferenceIdeal.τ).loc Cert.PwTwoFwdReferenceIdeal.main_arg2) = m' ((c.tc : Thread Cert.PwTwoFwdReferenceIdeal.nD Cert.PwTwoFwdReferenceIdeal.τ).loc Cert.PwTwoFwdReferenceIdeal.main_arg2))

def preserves_RetInFwd_RetInFwdIdeal : Prop :=
  True

def algebraic_RetInFwdIdeal_RetInFwdReferenceIdeal [hRetInFwdIdeal : Cert.RetInFwdIdeal.Facts] [hRetInFwdReferenceIdeal : Cert.RetInFwdReferenceIdeal.Facts] : Prop :=
  ∀ (m : (ℓ : Loc Cert.RetInFwdIdeal.nD Cert.RetInFwdIdeal.τ Cert.RetInFwdIdeal.sig) → Buf (Elt Ideal) ℓ) (g : Dev Cert.RetInFwdIdeal.nD → PrngReg)
    (m' : (ℓ : Loc Cert.RetInFwdReferenceIdeal.nD Cert.RetInFwdReferenceIdeal.τ Cert.RetInFwdReferenceIdeal.sig) → Buf (Elt Ideal) ℓ) (g' : Dev Cert.RetInFwdReferenceIdeal.nD → PrngReg), Pre_RetInFwdIdeal m →
    (∀ c : Dev Cert.RetInFwdIdeal.nD,
      m' ((c.tc : Thread Cert.RetInFwdReferenceIdeal.nD Cert.RetInFwdReferenceIdeal.τ).loc Cert.RetInFwdReferenceIdeal.main_arg0) = m ((c.tc : Thread Cert.RetInFwdIdeal.nD Cert.RetInFwdIdeal.τ).loc Cert.RetInFwdIdeal.main_arg0)
      ∧ m' ((c.tc : Thread Cert.RetInFwdReferenceIdeal.nD Cert.RetInFwdReferenceIdeal.τ).loc Cert.RetInFwdReferenceIdeal.main_arg1) = m ((c.tc : Thread Cert.RetInFwdIdeal.nD Cert.RetInFwdIdeal.τ).loc Cert.RetInFwdIdeal.main_arg1)) →
    ∃ (v0 : (c : Dev Cert.RetInFwdIdeal.nD) → Buf (Elt Ideal) ((c.tc : Thread Cert.RetInFwdIdeal.nD Cert.RetInFwdIdeal.τ).loc Cert.RetInFwdIdeal.main_v0)),
      θ_run (Cert.RetInFwdIdeal.defs (F := Ideal)) (onTc (τ := Cert.RetInFwdIdeal.τ) (Cert.RetInFwdIdeal.main (F := Ideal))) ⟨m, fun _ => 0, g⟩ (fun r => ∀ c : Dev Cert.RetInFwdIdeal.nD,
          r.2.mem ((c.tc : Thread Cert.RetInFwdIdeal.nD Cert.RetInFwdIdeal.τ).loc Cert.RetInFwdIdeal.main_v0) = v0 c
          ∧ r.2.mem ((c.tc : Thread Cert.RetInFwdIdeal.nD Cert.RetInFwdIdeal.τ).loc Cert.RetInFwdIdeal.main_arg0) = m ((c.tc : Thread Cert.RetInFwdIdeal.nD Cert.RetInFwdIdeal.τ).loc Cert.RetInFwdIdeal.main_arg0)
          ∧ r.2.mem ((c.tc : Thread Cert.RetInFwdIdeal.nD Cert.RetInFwdIdeal.τ).loc Cert.RetInFwdIdeal.main_arg1) = m ((c.tc : Thread Cert.RetInFwdIdeal.nD Cert.RetInFwdIdeal.τ).loc Cert.RetInFwdIdeal.main_arg1))
      ∧ θ_run (Cert.RetInFwdReferenceIdeal.defs (F := Ideal)) (onTc (τ := Cert.RetInFwdReferenceIdeal.τ) (Cert.RetInFwdReferenceIdeal.main (F := Ideal))) ⟨m', fun _ => 0, g'⟩ (fun r => ∀ c : Dev Cert.RetInFwdReferenceIdeal.nD,
          r.2.mem ((c.tc : Thread Cert.RetInFwdReferenceIdeal.nD Cert.RetInFwdReferenceIdeal.τ).loc Cert.RetInFwdReferenceIdeal.main_v3) = v0 c
          ∧ r.2.mem ((c.tc : Thread Cert.RetInFwdReferenceIdeal.nD Cert.RetInFwdReferenceIdeal.τ).loc Cert.RetInFwdReferenceIdeal.main_arg0) = m' ((c.tc : Thread Cert.RetInFwdReferenceIdeal.nD Cert.RetInFwdReferenceIdeal.τ).loc Cert.RetInFwdReferenceIdeal.main_arg0)
          ∧ r.2.mem ((c.tc : Thread Cert.RetInFwdReferenceIdeal.nD Cert.RetInFwdReferenceIdeal.τ).loc Cert.RetInFwdReferenceIdeal.main_arg1) = m' ((c.tc : Thread Cert.RetInFwdReferenceIdeal.nD Cert.RetInFwdReferenceIdeal.τ).loc Cert.RetInFwdReferenceIdeal.main_arg1))

def preserves_RetOutFwd_RetOutFwdIdeal : Prop :=
  True

def algebraic_RetOutFwdIdeal_RetOutFwdReferenceIdeal [hRetOutFwdIdeal : Cert.RetOutFwdIdeal.Facts] [hRetOutFwdReferenceIdeal : Cert.RetOutFwdReferenceIdeal.Facts] : Prop :=
  ∀ (m : (ℓ : Loc Cert.RetOutFwdIdeal.nD Cert.RetOutFwdIdeal.τ Cert.RetOutFwdIdeal.sig) → Buf (Elt Ideal) ℓ) (g : Dev Cert.RetOutFwdIdeal.nD → PrngReg)
    (m' : (ℓ : Loc Cert.RetOutFwdReferenceIdeal.nD Cert.RetOutFwdReferenceIdeal.τ Cert.RetOutFwdReferenceIdeal.sig) → Buf (Elt Ideal) ℓ) (g' : Dev Cert.RetOutFwdReferenceIdeal.nD → PrngReg), Pre_RetOutFwdIdeal m →
    (∀ c : Dev Cert.RetOutFwdIdeal.nD,
      m' ((c.tc : Thread Cert.RetOutFwdReferenceIdeal.nD Cert.RetOutFwdReferenceIdeal.τ).loc Cert.RetOutFwdReferenceIdeal.main_arg0) = m ((c.tc : Thread Cert.RetOutFwdIdeal.nD Cert.RetOutFwdIdeal.τ).loc Cert.RetOutFwdIdeal.main_arg0)
      ∧ m' ((c.tc : Thread Cert.RetOutFwdReferenceIdeal.nD Cert.RetOutFwdReferenceIdeal.τ).loc Cert.RetOutFwdReferenceIdeal.main_arg1) = m ((c.tc : Thread Cert.RetOutFwdIdeal.nD Cert.RetOutFwdIdeal.τ).loc Cert.RetOutFwdIdeal.main_arg1)) →
    ∃ (v0 : (c : Dev Cert.RetOutFwdIdeal.nD) → Buf (Elt Ideal) ((c.tc : Thread Cert.RetOutFwdIdeal.nD Cert.RetOutFwdIdeal.τ).loc Cert.RetOutFwdIdeal.main_v0)),
      θ_run (Cert.RetOutFwdIdeal.defs (F := Ideal)) (onTc (τ := Cert.RetOutFwdIdeal.τ) (Cert.RetOutFwdIdeal.main (F := Ideal))) ⟨m, fun _ => 0, g⟩ (fun r => ∀ c : Dev Cert.RetOutFwdIdeal.nD,
          r.2.mem ((c.tc : Thread Cert.RetOutFwdIdeal.nD Cert.RetOutFwdIdeal.τ).loc Cert.RetOutFwdIdeal.main_v0) = v0 c
          ∧ r.2.mem ((c.tc : Thread Cert.RetOutFwdIdeal.nD Cert.RetOutFwdIdeal.τ).loc Cert.RetOutFwdIdeal.main_arg0) = m ((c.tc : Thread Cert.RetOutFwdIdeal.nD Cert.RetOutFwdIdeal.τ).loc Cert.RetOutFwdIdeal.main_arg0)
          ∧ r.2.mem ((c.tc : Thread Cert.RetOutFwdIdeal.nD Cert.RetOutFwdIdeal.τ).loc Cert.RetOutFwdIdeal.main_arg1) = m ((c.tc : Thread Cert.RetOutFwdIdeal.nD Cert.RetOutFwdIdeal.τ).loc Cert.RetOutFwdIdeal.main_arg1))
      ∧ θ_run (Cert.RetOutFwdReferenceIdeal.defs (F := Ideal)) (onTc (τ := Cert.RetOutFwdReferenceIdeal.τ) (Cert.RetOutFwdReferenceIdeal.main (F := Ideal))) ⟨m', fun _ => 0, g'⟩ (fun r => ∀ c : Dev Cert.RetOutFwdReferenceIdeal.nD,
          r.2.mem ((c.tc : Thread Cert.RetOutFwdReferenceIdeal.nD Cert.RetOutFwdReferenceIdeal.τ).loc Cert.RetOutFwdReferenceIdeal.main_v0) = v0 c
          ∧ r.2.mem ((c.tc : Thread Cert.RetOutFwdReferenceIdeal.nD Cert.RetOutFwdReferenceIdeal.τ).loc Cert.RetOutFwdReferenceIdeal.main_arg0) = m' ((c.tc : Thread Cert.RetOutFwdReferenceIdeal.nD Cert.RetOutFwdReferenceIdeal.τ).loc Cert.RetOutFwdReferenceIdeal.main_arg0)
          ∧ r.2.mem ((c.tc : Thread Cert.RetOutFwdReferenceIdeal.nD Cert.RetOutFwdReferenceIdeal.τ).loc Cert.RetOutFwdReferenceIdeal.main_arg1) = m' ((c.tc : Thread Cert.RetOutFwdReferenceIdeal.nD Cert.RetOutFwdReferenceIdeal.τ).loc Cert.RetOutFwdReferenceIdeal.main_arg1))

def preserves_UpFwd_UpFwdIdeal : Prop :=
  True

def algebraic_UpFwdIdeal_UpFwdReferenceIdeal [hUpFwdIdeal : Cert.UpFwdIdeal.Facts] [hUpFwdReferenceIdeal : Cert.UpFwdReferenceIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdReferenceIdeal.nD Cert.UpFwdReferenceIdeal.τ Cert.UpFwdReferenceIdeal.sig) → Buf (Elt Ideal) ℓ) (g' : Dev Cert.UpFwdReferenceIdeal.nD → PrngReg), Pre_UpFwdIdeal m →
    (∀ c : Dev Cert.UpFwdIdeal.nD,
      m' ((c.tc : Thread Cert.UpFwdReferenceIdeal.nD Cert.UpFwdReferenceIdeal.τ).loc Cert.UpFwdReferenceIdeal.main_arg0) = m ((c.tc : Thread Cert.UpFwdIdeal.nD Cert.UpFwdIdeal.τ).loc Cert.UpFwdIdeal.main_arg0)
      ∧ m' ((c.tc : Thread Cert.UpFwdReferenceIdeal.nD Cert.UpFwdReferenceIdeal.τ).loc Cert.UpFwdReferenceIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdReferenceIdeal.defs (F := Ideal)) (onTc (τ := Cert.UpFwdReferenceIdeal.τ) (Cert.UpFwdReferenceIdeal.main (F := Ideal))) ⟨m', fun _ => 0, g'⟩ (fun r => ∀ c : Dev Cert.UpFwdReferenceIdeal.nD,
          r.2.mem ((c.tc : Thread Cert.UpFwdReferenceIdeal.nD Cert.UpFwdReferenceIdeal.τ).loc Cert.UpFwdReferenceIdeal.main_v4) = v0 c
          ∧ r.2.mem ((c.tc : Thread Cert.UpFwdReferenceIdeal.nD Cert.UpFwdReferenceIdeal.τ).loc Cert.UpFwdReferenceIdeal.main_v6) = v1 c
          ∧ r.2.mem ((c.tc : Thread Cert.UpFwdReferenceIdeal.nD Cert.UpFwdReferenceIdeal.τ).loc Cert.UpFwdReferenceIdeal.main_arg0) = m' ((c.tc : Thread Cert.UpFwdReferenceIdeal.nD Cert.UpFwdReferenceIdeal.τ).loc Cert.UpFwdReferenceIdeal.main_arg0)
          ∧ r.2.mem ((c.tc : Thread Cert.UpFwdReferenceIdeal.nD Cert.UpFwdReferenceIdeal.τ).loc Cert.UpFwdReferenceIdeal.main_arg1) = m' ((c.tc : Thread Cert.UpFwdReferenceIdeal.nD Cert.UpFwdReferenceIdeal.τ).loc Cert.UpFwdReferenceIdeal.main_arg1))

def preserves_DownFwd_DownFwdIdeal : Prop :=
  True

def algebraic_DownFwdIdeal_DownFwdReferenceIdeal [hDownFwdIdeal : Cert.DownFwdIdeal.Facts] [hDownFwdReferenceIdeal : Cert.DownFwdReferenceIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdReferenceIdeal.nD Cert.DownFwdReferenceIdeal.τ Cert.DownFwdReferenceIdeal.sig) → Buf (Elt Ideal) ℓ) (g' : Dev Cert.DownFwdReferenceIdeal.nD → PrngReg), Pre_DownFwdIdeal m →
    (∀ c : Dev Cert.DownFwdIdeal.nD,
      m' ((c.tc : Thread Cert.DownFwdReferenceIdeal.nD Cert.DownFwdReferenceIdeal.τ).loc Cert.DownFwdReferenceIdeal.main_arg0) = m ((c.tc : Thread Cert.DownFwdIdeal.nD Cert.DownFwdIdeal.τ).loc Cert.DownFwdIdeal.main_arg0)
      ∧ m' ((c.tc : Thread Cert.DownFwdReferenceIdeal.nD Cert.DownFwdReferenceIdeal.τ).loc Cert.DownFwdReferenceIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdReferenceIdeal.defs (F := Ideal)) (onTc (τ := Cert.DownFwdReferenceIdeal.τ) (Cert.DownFwdReferenceIdeal.main (F := Ideal))) ⟨m', fun _ => 0, g'⟩ (fun r => ∀ c : Dev Cert.DownFwdReferenceIdeal.nD,
          r.2.mem ((c.tc : Thread Cert.DownFwdReferenceIdeal.nD Cert.DownFwdReferenceIdeal.τ).loc Cert.DownFwdReferenceIdeal.main_v0) = v0 c
          ∧ r.2.mem ((c.tc : Thread Cert.DownFwdReferenceIdeal.nD Cert.DownFwdReferenceIdeal.τ).loc Cert.DownFwdReferenceIdeal.main_arg0) = m' ((c.tc : Thread Cert.DownFwdReferenceIdeal.nD Cert.DownFwdReferenceIdeal.τ).loc Cert.DownFwdReferenceIdeal.main_arg0)
          ∧ r.2.mem ((c.tc : Thread Cert.DownFwdReferenceIdeal.nD Cert.DownFwdReferenceIdeal.τ).loc Cert.DownFwdReferenceIdeal.main_arg1) = m' ((c.tc : Thread Cert.DownFwdReferenceIdeal.nD Cert.DownFwdReferenceIdeal.τ).loc Cert.DownFwdReferenceIdeal.main_arg1))

def preserves_AdaFwd_AdaFwdIdeal : Prop :=
  True

def algebraic_AdaFwdIdeal_AdaFwdReferenceIdeal [hAdaFwdIdeal : Cert.AdaFwdIdeal.Facts] [hAdaFwdReferenceIdeal : Cert.AdaFwdReferenceIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdReferenceIdeal.nD Cert.AdaFwdReferenceIdeal.τ Cert.AdaFwdReferenceIdeal.sig) → Buf (Elt Ideal) ℓ) (g' : Dev Cert.AdaFwdReferenceIdeal.nD → PrngReg), Pre_AdaFwdIdeal m →
    (∀ c : Dev Cert.AdaFwdIdeal.nD,
      m' ((c.tc : Thread Cert.AdaFwdReferenceIdeal.nD Cert.AdaFwdReferenceIdeal.τ).loc Cert.AdaFwdReferenceIdeal.main_arg0) = m ((c.tc : Thread Cert.AdaFwdIdeal.nD Cert.AdaFwdIdeal.τ).loc Cert.AdaFwdIdeal.main_arg0)
      ∧ m' ((c.tc : Thread Cert.AdaFwdReferenceIdeal.nD Cert.AdaFwdReferenceIdeal.τ).loc Cert.AdaFwdReferenceIdeal.main_arg1) = m ((c.tc : Thread Cert.AdaFwdIdeal.nD Cert.AdaFwdIdeal.τ).loc Cert.AdaFwdIdeal.main_arg1)
      ∧ m' ((c.tc : Thread Cert.AdaFwdReferenceIdeal.nD Cert.AdaFwdReferenceIdeal.τ).loc Cert.AdaFwdReferenceIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdReferenceIdeal.defs (F := Ideal)) (onTc (τ := Cert.AdaFwdReferenceIdeal.τ) (Cert.AdaFwdReferenceIdeal.main (F := Ideal))) ⟨m', fun _ => 0, g'⟩ (fun r => ∀ c : Dev Cert.AdaFwdReferenceIdeal.nD,
          r.2.mem ((c.tc : Thread Cert.AdaFwdReferenceIdeal.nD Cert.AdaFwdReferenceIdeal.τ).loc Cert.AdaFwdReferenceIdeal.main_v5) = v0 c
          ∧ r.2.mem ((c.tc : Thread Cert.AdaFwdReferenceIdeal.nD Cert.AdaFwdReferenceIdeal.τ).loc Cert.AdaFwdReferenceIdeal.main_arg0) = m' ((c.tc : Thread Cert.AdaFwdReferenceIdeal.nD Cert.AdaFwdReferenceIdeal.τ).loc Cert.AdaFwdReferenceIdeal.main_arg0)
          ∧ r.2.mem ((c.tc : Thread Cert.AdaFwdReferenceIdeal.nD Cert.AdaFwdReferenceIdeal.τ).loc Cert.AdaFwdReferenceIdeal.main_arg1) = m' ((c.tc : Thread Cert.AdaFwdReferenceIdeal.nD Cert.AdaFwdReferenceIdeal.τ).loc Cert.AdaFwdReferenceIdeal.main_arg1)
          ∧ r.2.mem ((c.tc : Thread Cert.AdaFwdReferenceIdeal.nD Cert.AdaFwdReferenceIdeal.τ).loc Cert.AdaFwdReferenceIdeal.main_arg2) = m' ((c.tc : Thread Cert.AdaFwdReferenceIdeal.nD Cert.AdaFwdReferenceIdeal.τ).loc Cert.AdaFwdReferenceIdeal.main_arg2))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v6) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v1) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v3) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v3) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_PwTwoDx_PwTwoDxIdeal : Prop :=
  True

def algebraic_PwTwoDxIdeal_PwTwoDxReferenceIdeal [hPwTwoDxIdeal : Cert.PwTwoDxIdeal.Facts] [hPwTwoDxReferenceIdeal : Cert.PwTwoDxReferenceIdeal.Facts] : Prop :=
  ∀ (m : (ℓ : Loc Cert.PwTwoDxIdeal.nD Cert.PwTwoDxIdeal.τ Cert.PwTwoDxIdeal.sig) → Buf (Elt Ideal) ℓ) (g : Dev Cert.PwTwoDxIdeal.nD → PrngReg)
    (m' : (ℓ : Loc Cert.PwTwoDxReferenceIdeal.nD Cert.PwTwoDxReferenceIdeal.τ Cert.PwTwoDxReferenceIdeal.sig) → Buf (Elt Ideal) ℓ) (g' : Dev Cert.PwTwoDxReferenceIdeal.nD → PrngReg), Pre_PwTwoDxIdeal m →
    (∀ c : Dev Cert.PwTwoDxIdeal.nD,
      m' ((c.tc : Thread Cert.PwTwoDxReferenceIdeal.nD Cert.PwTwoDxReferenceIdeal.τ).loc Cert.PwTwoDxReferenceIdeal.main_arg0) = m ((c.tc : Thread Cert.PwTwoDxIdeal.nD Cert.PwTwoDxIdeal.τ).loc Cert.PwTwoDxIdeal.main_arg0)
      ∧ m' ((c.tc : Thread Cert.PwTwoDxReferenceIdeal.nD Cert.PwTwoDxReferenceIdeal.τ).loc Cert.PwTwoDxReferenceIdeal.main_arg1) = m ((c.tc : Thread Cert.PwTwoDxIdeal.nD Cert.PwTwoDxIdeal.τ).loc Cert.PwTwoDxIdeal.main_arg1)) →
    ∃ (v0 : (c : Dev Cert.PwTwoDxIdeal.nD) → Buf (Elt Ideal) ((c.tc : Thread Cert.PwTwoDxIdeal.nD Cert.PwTwoDxIdeal.τ).loc Cert.PwTwoDxIdeal.main_v0)),
      θ_run (Cert.PwTwoDxIdeal.defs (F := Ideal)) (onTc (τ := Cert.PwTwoDxIdeal.τ) (Cert.PwTwoDxIdeal.main (F := Ideal))) ⟨m, fun _ => 0, g⟩ (fun r => ∀ c : Dev Cert.PwTwoDxIdeal.nD,
          r.2.mem ((c.tc : Thread Cert.PwTwoDxIdeal.nD Cert.PwTwoDxIdeal.τ).loc Cert.PwTwoDxIdeal.main_v0) = v0 c
          ∧ r.2.mem ((c.tc : Thread Cert.PwTwoDxIdeal.nD Cert.PwTwoDxIdeal.τ).loc Cert.PwTwoDxIdeal.main_arg0) = m ((c.tc : Thread Cert.PwTwoDxIdeal.nD Cert.PwTwoDxIdeal.τ).loc Cert.PwTwoDxIdeal.main_arg0)
          ∧ r.2.mem ((c.tc : Thread Cert.PwTwoDxIdeal.nD Cert.PwTwoDxIdeal.τ).loc Cert.PwTwoDxIdeal.main_arg1) = m ((c.tc : Thread Cert.PwTwoDxIdeal.nD Cert.PwTwoDxIdeal.τ).loc Cert.PwTwoDxIdeal.main_arg1))
      ∧ θ_run (Cert.PwTwoDxReferenceIdeal.defs (F := Ideal)) (onTc (τ := Cert.PwTwoDxReferenceIdeal.τ) (Cert.PwTwoDxReferenceIdeal.main (F := Ideal))) ⟨m', fun _ => 0, g'⟩ (fun r => ∀ c : Dev Cert.PwTwoDxReferenceIdeal.nD,
          r.2.mem ((c.tc : Thread Cert.PwTwoDxReferenceIdeal.nD Cert.PwTwoDxReferenceIdeal.τ).loc Cert.PwTwoDxReferenceIdeal.main_v1) = v0 c
          ∧ r.2.mem ((c.tc : Thread Cert.PwTwoDxReferenceIdeal.nD Cert.PwTwoDxReferenceIdeal.τ).loc Cert.PwTwoDxReferenceIdeal.main_arg0) = m' ((c.tc : Thread Cert.PwTwoDxReferenceIdeal.nD Cert.PwTwoDxReferenceIdeal.τ).loc Cert.PwTwoDxReferenceIdeal.main_arg0)
          ∧ r.2.mem ((c.tc : Thread Cert.PwTwoDxReferenceIdeal.nD Cert.PwTwoDxReferenceIdeal.τ).loc Cert.PwTwoDxReferenceIdeal.main_arg1) = m' ((c.tc : Thread Cert.PwTwoDxReferenceIdeal.nD Cert.PwTwoDxReferenceIdeal.τ).loc Cert.PwTwoDxReferenceIdeal.main_arg1))

def preserves_PwTwoDw_PwTwoDwIdeal : Prop :=
  True

def algebraic_PwTwoDwIdeal_PwTwoDwReferenceIdeal [hPwTwoDwIdeal : Cert.PwTwoDwIdeal.Facts] [hPwTwoDwReferenceIdeal : Cert.PwTwoDwReferenceIdeal.Facts] : Prop :=
  ∀ (m : (ℓ : Loc Cert.PwTwoDwIdeal.nD Cert.PwTwoDwIdeal.τ Cert.PwTwoDwIdeal.sig) → Buf (Elt Ideal) ℓ) (g : Dev Cert.PwTwoDwIdeal.nD → PrngReg)
    (m' : (ℓ : Loc Cert.PwTwoDwReferenceIdeal.nD Cert.PwTwoDwReferenceIdeal.τ Cert.PwTwoDwReferenceIdeal.sig) → Buf (Elt Ideal) ℓ) (g' : Dev Cert.PwTwoDwReferenceIdeal.nD → PrngReg), Pre_PwTwoDwIdeal m →
    (∀ c : Dev Cert.PwTwoDwIdeal.nD,
      m' ((c.tc : Thread Cert.PwTwoDwReferenceIdeal.nD Cert.PwTwoDwReferenceIdeal.τ).loc Cert.PwTwoDwReferenceIdeal.main_arg0) = m ((c.tc : Thread Cert.PwTwoDwIdeal.nD Cert.PwTwoDwIdeal.τ).loc Cert.PwTwoDwIdeal.main_arg0)
      ∧ m' ((c.tc : Thread Cert.PwTwoDwReferenceIdeal.nD Cert.PwTwoDwReferenceIdeal.τ).loc Cert.PwTwoDwReferenceIdeal.main_arg1) = m ((c.tc : Thread Cert.PwTwoDwIdeal.nD Cert.PwTwoDwIdeal.τ).loc Cert.PwTwoDwIdeal.main_arg1)) →
    ∃ (v0 : (c : Dev Cert.PwTwoDwIdeal.nD) → Buf (Elt Ideal) ((c.tc : Thread Cert.PwTwoDwIdeal.nD Cert.PwTwoDwIdeal.τ).loc Cert.PwTwoDwIdeal.main_v0)),
      θ_run (Cert.PwTwoDwIdeal.defs (F := Ideal)) (onTc (τ := Cert.PwTwoDwIdeal.τ) (Cert.PwTwoDwIdeal.main (F := Ideal))) ⟨m, fun _ => 0, g⟩ (fun r => ∀ c : Dev Cert.PwTwoDwIdeal.nD,
          r.2.mem ((c.tc : Thread Cert.PwTwoDwIdeal.nD Cert.PwTwoDwIdeal.τ).loc Cert.PwTwoDwIdeal.main_v0) = v0 c
          ∧ r.2.mem ((c.tc : Thread Cert.PwTwoDwIdeal.nD Cert.PwTwoDwIdeal.τ).loc Cert.PwTwoDwIdeal.main_arg0) = m ((c.tc : Thread Cert.PwTwoDwIdeal.nD Cert.PwTwoDwIdeal.τ).loc Cert.PwTwoDwIdeal.main_arg0)
          ∧ r.2.mem ((c.tc : Thread Cert.PwTwoDwIdeal.nD Cert.PwTwoDwIdeal.τ).loc Cert.PwTwoDwIdeal.main_arg1) = m ((c.tc : Thread Cert.PwTwoDwIdeal.nD Cert.PwTwoDwIdeal.τ).loc Cert.PwTwoDwIdeal.main_arg1))
      ∧ θ_run (Cert.PwTwoDwReferenceIdeal.defs (F := Ideal)) (onTc (τ := Cert.PwTwoDwReferenceIdeal.τ) (Cert.PwTwoDwReferenceIdeal.main (F := Ideal))) ⟨m', fun _ => 0, g'⟩ (fun r => ∀ c : Dev Cert.PwTwoDwReferenceIdeal.nD,
          r.2.mem ((c.tc : Thread Cert.PwTwoDwReferenceIdeal.nD Cert.PwTwoDwReferenceIdeal.τ).loc Cert.PwTwoDwReferenceIdeal.main_v1) = v0 c
          ∧ r.2.mem ((c.tc : Thread Cert.PwTwoDwReferenceIdeal.nD Cert.PwTwoDwReferenceIdeal.τ).loc Cert.PwTwoDwReferenceIdeal.main_arg0) = m' ((c.tc : Thread Cert.PwTwoDwReferenceIdeal.nD Cert.PwTwoDwReferenceIdeal.τ).loc Cert.PwTwoDwReferenceIdeal.main_arg0)
          ∧ r.2.mem ((c.tc : Thread Cert.PwTwoDwReferenceIdeal.nD Cert.PwTwoDwReferenceIdeal.τ).loc Cert.PwTwoDwReferenceIdeal.main_arg1) = m' ((c.tc : Thread Cert.PwTwoDwReferenceIdeal.nD Cert.PwTwoDwReferenceIdeal.τ).loc Cert.PwTwoDwReferenceIdeal.main_arg1))

def preserves_PwOneDw_PwOneDwIdeal : Prop :=
  True

def algebraic_PwOneDwIdeal_PwOneDwReferenceIdeal [hPwOneDwIdeal : Cert.PwOneDwIdeal.Facts] [hPwOneDwReferenceIdeal : Cert.PwOneDwReferenceIdeal.Facts] : Prop :=
  ∀ (m : (ℓ : Loc Cert.PwOneDwIdeal.nD Cert.PwOneDwIdeal.τ Cert.PwOneDwIdeal.sig) → Buf (Elt Ideal) ℓ) (g : Dev Cert.PwOneDwIdeal.nD → PrngReg)
    (m' : (ℓ : Loc Cert.PwOneDwReferenceIdeal.nD Cert.PwOneDwReferenceIdeal.τ Cert.PwOneDwReferenceIdeal.sig) → Buf (Elt Ideal) ℓ) (g' : Dev Cert.PwOneDwReferenceIdeal.nD → PrngReg), Pre_PwOneDwIdeal m →
    (∀ c : Dev Cert.PwOneDwIdeal.nD,
      m' ((c.tc : Thread Cert.PwOneDwReferenceIdeal.nD Cert.PwOneDwReferenceIdeal.τ).loc Cert.PwOneDwReferenceIdeal.main_arg0) = m ((c.tc : Thread Cert.PwOneDwIdeal.nD Cert.PwOneDwIdeal.τ).loc Cert.PwOneDwIdeal.main_arg0)
      ∧ m' ((c.tc : Thread Cert.PwOneDwReferenceIdeal.nD Cert.PwOneDwReferenceIdeal.τ).loc Cert.PwOneDwReferenceIdeal.main_arg1) = m ((c.tc : Thread Cert.PwOneDwIdeal.nD Cert.PwOneDwIdeal.τ).loc Cert.PwOneDwIdeal.main_arg1)) →
    ∃ (v0 : (c : Dev Cert.PwOneDwIdeal.nD) → Buf (Elt Ideal) ((c.tc : Thread Cert.PwOneDwIdeal.nD Cert.PwOneDwIdeal.τ).loc Cert.PwOneDwIdeal.main_v0)),
      θ_run (Cert.PwOneDwIdeal.defs (F := Ideal)) (onTc (τ := Cert.PwOneDwIdeal.τ) (Cert.PwOneDwIdeal.main (F := Ideal))) ⟨m, fun _ => 0, g⟩ (fun r => ∀ c : Dev Cert.PwOneDwIdeal.nD,
          r.2.mem ((c.tc : Thread Cert.PwOneDwIdeal.nD Cert.PwOneDwIdeal.τ).loc Cert.PwOneDwIdeal.main_v0) = v0 c
          ∧ r.2.mem ((c.tc : Thread Cert.PwOneDwIdeal.nD Cert.PwOneDwIdeal.τ).loc Cert.PwOneDwIdeal.main_arg0) = m ((c.tc : Thread Cert.PwOneDwIdeal.nD Cert.PwOneDwIdeal.τ).loc Cert.PwOneDwIdeal.main_arg0)
          ∧ r.2.mem ((c.tc : Thread Cert.PwOneDwIdeal.nD Cert.PwOneDwIdeal.τ).loc Cert.PwOneDwIdeal.main_arg1) = m ((c.tc : Thread Cert.PwOneDwIdeal.nD Cert.PwOneDwIdeal.τ).loc Cert.PwOneDwIdeal.main_arg1))
      ∧ θ_run (Cert.PwOneDwReferenceIdeal.defs (F := Ideal)) (onTc (τ := Cert.PwOneDwReferenceIdeal.τ) (Cert.PwOneDwReferenceIdeal.main (F := Ideal))) ⟨m', fun _ => 0, g'⟩ (fun r => ∀ c : Dev Cert.PwOneDwReferenceIdeal.nD,
          r.2.mem ((c.tc : Thread Cert.PwOneDwReferenceIdeal.nD Cert.PwOneDwReferenceIdeal.τ).loc Cert.PwOneDwReferenceIdeal.main_v3) = v0 c
          ∧ r.2.mem ((c.tc : Thread Cert.PwOneDwReferenceIdeal.nD Cert.PwOneDwReferenceIdeal.τ).loc Cert.PwOneDwReferenceIdeal.main_arg0) = m' ((c.tc : Thread Cert.PwOneDwReferenceIdeal.nD Cert.PwOneDwReferenceIdeal.τ).loc Cert.PwOneDwReferenceIdeal.main_arg0)
          ∧ r.2.mem ((c.tc : Thread Cert.PwOneDwReferenceIdeal.nD Cert.PwOneDwReferenceIdeal.τ).loc Cert.PwOneDwReferenceIdeal.main_arg1) = m' ((c.tc : Thread Cert.PwOneDwReferenceIdeal.nD Cert.PwOneDwReferenceIdeal.τ).loc Cert.PwOneDwReferenceIdeal.main_arg1))

def preserves_PwOneDx_PwOneDxIdeal : Prop :=
  True

def algebraic_PwOneDxIdeal_PwOneDxReferenceIdeal [hPwOneDxIdeal : Cert.PwOneDxIdeal.Facts] [hPwOneDxReferenceIdeal : Cert.PwOneDxReferenceIdeal.Facts] : Prop :=
  ∀ (m : (ℓ : Loc Cert.PwOneDxIdeal.nD Cert.PwOneDxIdeal.τ Cert.PwOneDxIdeal.sig) → Buf (Elt Ideal) ℓ) (g : Dev Cert.PwOneDxIdeal.nD → PrngReg)
    (m' : (ℓ : Loc Cert.PwOneDxReferenceIdeal.nD Cert.PwOneDxReferenceIdeal.τ Cert.PwOneDxReferenceIdeal.sig) → Buf (Elt Ideal) ℓ) (g' : Dev Cert.PwOneDxReferenceIdeal.nD → PrngReg), Pre_PwOneDxIdeal m →
    (∀ c : Dev Cert.PwOneDxIdeal.nD,
      m' ((c.tc : Thread Cert.PwOneDxReferenceIdeal.nD Cert.PwOneDxReferenceIdeal.τ).loc Cert.PwOneDxReferenceIdeal.main_arg0) = m ((c.tc : Thread Cert.PwOneDxIdeal.nD Cert.PwOneDxIdeal.τ).loc Cert.PwOneDxIdeal.main_arg0)
      ∧ m' ((c.tc : Thread Cert.PwOneDxReferenceIdeal.nD Cert.PwOneDxReferenceIdeal.τ).loc Cert.PwOneDxReferenceIdeal.main_arg1) = m ((c.tc : Thread Cert.PwOneDxIdeal.nD Cert.PwOneDxIdeal.τ).loc Cert.PwOneDxIdeal.main_arg1)) →
    ∃ (v0 : (c : Dev Cert.PwOneDxIdeal.nD) → Buf (Elt Ideal) ((c.tc : Thread Cert.PwOneDxIdeal.nD Cert.PwOneDxIdeal.τ).loc Cert.PwOneDxIdeal.main_v0)),
      θ_run (Cert.PwOneDxIdeal.defs (F := Ideal)) (onTc (τ := Cert.PwOneDxIdeal.τ) (Cert.PwOneDxIdeal.main (F := Ideal))) ⟨m, fun _ => 0, g⟩ (fun r => ∀ c : Dev Cert.PwOneDxIdeal.nD,
          r.2.mem ((c.tc : Thread Cert.PwOneDxIdeal.nD Cert.PwOneDxIdeal.τ).loc Cert.PwOneDxIdeal.main_v0) = v0 c
          ∧ r.2.mem ((c.tc : Thread Cert.PwOneDxIdeal.nD Cert.PwOneDxIdeal.τ).loc Cert.PwOneDxIdeal.main_arg0) = m ((c.tc : Thread Cert.PwOneDxIdeal.nD Cert.PwOneDxIdeal.τ).loc Cert.PwOneDxIdeal.main_arg0)
          ∧ r.2.mem ((c.tc : Thread Cert.PwOneDxIdeal.nD Cert.PwOneDxIdeal.τ).loc Cert.PwOneDxIdeal.main_arg1) = m ((c.tc : Thread Cert.PwOneDxIdeal.nD Cert.PwOneDxIdeal.τ).loc Cert.PwOneDxIdeal.main_arg1))
      ∧ θ_run (Cert.PwOneDxReferenceIdeal.defs (F := Ideal)) (onTc (τ := Cert.PwOneDxReferenceIdeal.τ) (Cert.PwOneDxReferenceIdeal.main (F := Ideal))) ⟨m', fun _ => 0, g'⟩ (fun r => ∀ c : Dev Cert.PwOneDxReferenceIdeal.nD,
          r.2.mem ((c.tc : Thread Cert.PwOneDxReferenceIdeal.nD Cert.PwOneDxReferenceIdeal.τ).loc Cert.PwOneDxReferenceIdeal.main_v3) = v0 c
          ∧ r.2.mem ((c.tc : Thread Cert.PwOneDxReferenceIdeal.nD Cert.PwOneDxReferenceIdeal.τ).loc Cert.PwOneDxReferenceIdeal.main_arg0) = m' ((c.tc : Thread Cert.PwOneDxReferenceIdeal.nD Cert.PwOneDxReferenceIdeal.τ).loc Cert.PwOneDxReferenceIdeal.main_arg0)
          ∧ r.2.mem ((c.tc : Thread Cert.PwOneDxReferenceIdeal.nD Cert.PwOneDxReferenceIdeal.τ).loc Cert.PwOneDxReferenceIdeal.main_arg1) = m' ((c.tc : Thread Cert.PwOneDxReferenceIdeal.nD Cert.PwOneDxReferenceIdeal.τ).loc Cert.PwOneDxReferenceIdeal.main_arg1))

def preserves_RetOutDx_RetOutDxIdeal : Prop :=
  True

def algebraic_RetOutDxIdeal_RetOutDxReferenceIdeal [hRetOutDxIdeal : Cert.RetOutDxIdeal.Facts] [hRetOutDxReferenceIdeal : Cert.RetOutDxReferenceIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg)
    (m' : (ℓ : Loc Cert.RetOutDxReferenceIdeal.nD Cert.RetOutDxReferenceIdeal.τ Cert.RetOutDxReferenceIdeal.sig) → Buf (Elt Ideal) ℓ) (g' : Dev Cert.RetOutDxReferenceIdeal.nD → PrngReg), Pre_RetOutDxIdeal m →
    (∀ c : Dev Cert.RetOutDxIdeal.nD,
      m' ((c.tc : Thread Cert.RetOutDxReferenceIdeal.nD Cert.RetOutDxReferenceIdeal.τ).loc Cert.RetOutDxReferenceIdeal.main_arg0) = m ((c.tc : Thread Cert.RetOutDxIdeal.nD Cert.RetOutDxIdeal.τ).loc Cert.RetOutDxIdeal.main_arg0)
      ∧ m' ((c.tc : Thread Cert.RetOutDxReferenceIdeal.nD Cert.RetOutDxReferenceIdeal.τ).loc Cert.RetOutDxReferenceIdeal.main_arg1) = m ((c.tc : Thread Cert.RetOutDxIdeal.nD Cert.RetOutDxIdeal.τ).loc Cert.RetOutDxIdeal.main_arg1)) →
    ∃ (v0 : (c : Dev Cert.RetOutDxIdeal.nD) → Buf (Elt Ideal) ((c.tc : Thread Cert.RetOutDxIdeal.nD Cert.RetOutDxIdeal.τ).loc Cert.RetOutDxIdeal.main_v0)),
      θ_run (Cert.RetOutDxIdeal.defs (F := Ideal)) (onTc (τ := Cert.RetOutDxIdeal.τ) (Cert.RetOutDxIdeal.main (F := Ideal))) ⟨m, fun _ => 0, g⟩ (fun r => ∀ c : Dev Cert.RetOutDxIdeal.nD,
          r.2.mem ((c.tc : Thread Cert.RetOutDxIdeal.nD Cert.RetOutDxIdeal.τ).loc Cert.RetOutDxIdeal.main_v0) = v0 c
          ∧ r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
          ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ θ_run (Cert.RetOutDxReferenceIdeal.defs (F := Ideal)) (onTc (τ := Cert.RetOutDxReferenceIdeal.τ) (Cert.RetOutDxReferenceIdeal.main (F := Ideal))) ⟨m', fun _ => 0, g'⟩ (fun r => ∀ c : Dev Cert.RetOutDxReferenceIdeal.nD,
          r.2.mem ((c.tc : Thread Cert.RetOutDxReferenceIdeal.nD Cert.RetOutDxReferenceIdeal.τ).loc Cert.RetOutDxReferenceIdeal.main_v1) = v0 c
          ∧ r.2.mem ((c.tc : Thread Cert.RetOutDxReferenceIdeal.nD Cert.RetOutDxReferenceIdeal.τ).loc Cert.RetOutDxReferenceIdeal.main_arg0) = m' ((c.tc : Thread Cert.RetOutDxReferenceIdeal.nD Cert.RetOutDxReferenceIdeal.τ).loc Cert.RetOutDxReferenceIdeal.main_arg0)
          ∧ r.2.mem ((c.tc : Thread Cert.RetOutDxReferenceIdeal.nD Cert.RetOutDxReferenceIdeal.τ).loc Cert.RetOutDxReferenceIdeal.main_arg1) = m' ((c.tc : Thread Cert.RetOutDxReferenceIdeal.nD Cert.RetOutDxReferenceIdeal.τ).loc Cert.RetOutDxReferenceIdeal.main_arg1))

def preserves_RetOutDw_RetOutDwIdeal : Prop :=
  True

def algebraic_RetOutDwIdeal_RetOutDwReferenceIdeal [hRetOutDwIdeal : Cert.RetOutDwIdeal.Facts] [hRetOutDwReferenceIdeal : Cert.RetOutDwReferenceIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg)
    (m' : (ℓ : Loc Cert.RetOutDwReferenceIdeal.nD Cert.RetOutDwReferenceIdeal.τ Cert.RetOutDwReferenceIdeal.sig) → Buf (Elt Ideal) ℓ) (g' : Dev Cert.RetOutDwReferenceIdeal.nD → PrngReg), Pre_RetOutDwIdeal m →
    (∀ c : Dev Cert.RetOutDwIdeal.nD,
      m' ((c.tc : Thread Cert.RetOutDwReferenceIdeal.nD Cert.RetOutDwReferenceIdeal.τ).loc Cert.RetOutDwReferenceIdeal.main_arg0) = m ((c.tc : Thread Cert.RetOutDwIdeal.nD Cert.RetOutDwIdeal.τ).loc Cert.RetOutDwIdeal.main_arg0)
      ∧ m' ((c.tc : Thread Cert.RetOutDwReferenceIdeal.nD Cert.RetOutDwReferenceIdeal.τ).loc Cert.RetOutDwReferenceIdeal.main_arg1) = m ((c.tc : Thread Cert.RetOutDwIdeal.nD Cert.RetOutDwIdeal.τ).loc Cert.RetOutDwIdeal.main_arg1)) →
    ∃ (v0 : (c : Dev Cert.RetOutDwIdeal.nD) → Buf (Elt Ideal) ((c.tc : Thread Cert.RetOutDwIdeal.nD Cert.RetOutDwIdeal.τ).loc Cert.RetOutDwIdeal.main_v0)),
      θ_run (Cert.RetOutDwIdeal.defs (F := Ideal)) (onTc (τ := Cert.RetOutDwIdeal.τ) (Cert.RetOutDwIdeal.main (F := Ideal))) ⟨m, fun _ => 0, g⟩ (fun r => ∀ c : Dev Cert.RetOutDwIdeal.nD,
          r.2.mem ((c.tc : Thread Cert.RetOutDwIdeal.nD Cert.RetOutDwIdeal.τ).loc Cert.RetOutDwIdeal.main_v0) = v0 c
          ∧ r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
          ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ θ_run (Cert.RetOutDwReferenceIdeal.defs (F := Ideal)) (onTc (τ := Cert.RetOutDwReferenceIdeal.τ) (Cert.RetOutDwReferenceIdeal.main (F := Ideal))) ⟨m', fun _ => 0, g'⟩ (fun r => ∀ c : Dev Cert.RetOutDwReferenceIdeal.nD,
          r.2.mem ((c.tc : Thread Cert.RetOutDwReferenceIdeal.nD Cert.RetOutDwReferenceIdeal.τ).loc Cert.RetOutDwReferenceIdeal.main_v1) = v0 c
          ∧ r.2.mem ((c.tc : Thread Cert.RetOutDwReferenceIdeal.nD Cert.RetOutDwReferenceIdeal.τ).loc Cert.RetOutDwReferenceIdeal.main_arg0) = m' ((c.tc : Thread Cert.RetOutDwReferenceIdeal.nD Cert.RetOutDwReferenceIdeal.τ).loc Cert.RetOutDwReferenceIdeal.main_arg0)
          ∧ r.2.mem ((c.tc : Thread Cert.RetOutDwReferenceIdeal.nD Cert.RetOutDwReferenceIdeal.τ).loc Cert.RetOutDwReferenceIdeal.main_arg1) = m' ((c.tc : Thread Cert.RetOutDwReferenceIdeal.nD Cert.RetOutDwReferenceIdeal.τ).loc Cert.RetOutDwReferenceIdeal.main_arg1))

def preserves_RetInDw_RetInDwIdeal : Prop :=
  True

def algebraic_RetInDwIdeal_RetInDwReferenceIdeal [hRetInDwIdeal : Cert.RetInDwIdeal.Facts] [hRetInDwReferenceIdeal : Cert.RetInDwReferenceIdeal.Facts] : Prop :=
  ∀ (m : (ℓ : Loc Cert.RetInDwIdeal.nD Cert.RetInDwIdeal.τ Cert.RetInDwIdeal.sig) → Buf (Elt Ideal) ℓ) (g : Dev Cert.RetInDwIdeal.nD → PrngReg)
    (m' : (ℓ : Loc Cert.RetInDwReferenceIdeal.nD Cert.RetInDwReferenceIdeal.τ Cert.RetInDwReferenceIdeal.sig) → Buf (Elt Ideal) ℓ) (g' : Dev Cert.RetInDwReferenceIdeal.nD → PrngReg), Pre_RetInDwIdeal m →
    (∀ c : Dev Cert.RetInDwIdeal.nD,
      m' ((c.tc : Thread Cert.RetInDwReferenceIdeal.nD Cert.RetInDwReferenceIdeal.τ).loc Cert.RetInDwReferenceIdeal.main_arg0) = m ((c.tc : Thread Cert.RetInDwIdeal.nD Cert.RetInDwIdeal.τ).loc Cert.RetInDwIdeal.main_arg0)
      ∧ m' ((c.tc : Thread Cert.RetInDwReferenceIdeal.nD Cert.RetInDwReferenceIdeal.τ).loc Cert.RetInDwReferenceIdeal.main_arg1) = m ((c.tc : Thread Cert.RetInDwIdeal.nD Cert.RetInDwIdeal.τ).loc Cert.RetInDwIdeal.main_arg1)) →
    ∃ (v0 : (c : Dev Cert.RetInDwIdeal.nD) → Buf (Elt Ideal) ((c.tc : Thread Cert.RetInDwIdeal.nD Cert.RetInDwIdeal.τ).loc Cert.RetInDwIdeal.main_v0)),
      θ_run (Cert.RetInDwIdeal.defs (F := Ideal)) (onTc (τ := Cert.RetInDwIdeal.τ) (Cert.RetInDwIdeal.main (F := Ideal))) ⟨m, fun _ => 0, g⟩ (fun r => ∀ c : Dev Cert.RetInDwIdeal.nD,
          r.2.mem ((c.tc : Thread Cert.RetInDwIdeal.nD Cert.RetInDwIdeal.τ).loc Cert.RetInDwIdeal.main_v0) = v0 c
          ∧ r.2.mem ((c.tc : Thread Cert.RetInDwIdeal.nD Cert.RetInDwIdeal.τ).loc Cert.RetInDwIdeal.main_arg0) = m ((c.tc : Thread Cert.RetInDwIdeal.nD Cert.RetInDwIdeal.τ).loc Cert.RetInDwIdeal.main_arg0)
          ∧ r.2.mem ((c.tc : Thread Cert.RetInDwIdeal.nD Cert.RetInDwIdeal.τ).loc Cert.RetInDwIdeal.main_arg1) = m ((c.tc : Thread Cert.RetInDwIdeal.nD Cert.RetInDwIdeal.τ).loc Cert.RetInDwIdeal.main_arg1))
      ∧ θ_run (Cert.RetInDwReferenceIdeal.defs (F := Ideal)) (onTc (τ := Cert.RetInDwReferenceIdeal.τ) (Cert.RetInDwReferenceIdeal.main (F := Ideal))) ⟨m', fun _ => 0, g'⟩ (fun r => ∀ c : Dev Cert.RetInDwReferenceIdeal.nD,
          r.2.mem ((c.tc : Thread Cert.RetInDwReferenceIdeal.nD Cert.RetInDwReferenceIdeal.τ).loc Cert.RetInDwReferenceIdeal.main_v3) = v0 c
          ∧ r.2.mem ((c.tc : Thread Cert.RetInDwReferenceIdeal.nD Cert.RetInDwReferenceIdeal.τ).loc Cert.RetInDwReferenceIdeal.main_arg0) = m' ((c.tc : Thread Cert.RetInDwReferenceIdeal.nD Cert.RetInDwReferenceIdeal.τ).loc Cert.RetInDwReferenceIdeal.main_arg0)
          ∧ r.2.mem ((c.tc : Thread Cert.RetInDwReferenceIdeal.nD Cert.RetInDwReferenceIdeal.τ).loc Cert.RetInDwReferenceIdeal.main_arg1) = m' ((c.tc : Thread Cert.RetInDwReferenceIdeal.nD Cert.RetInDwReferenceIdeal.τ).loc Cert.RetInDwReferenceIdeal.main_arg1))

def preserves_RetInDx_RetInDxIdeal : Prop :=
  True

def algebraic_RetInDxIdeal_RetInDxReferenceIdeal [hRetInDxIdeal : Cert.RetInDxIdeal.Facts] [hRetInDxReferenceIdeal : Cert.RetInDxReferenceIdeal.Facts] : Prop :=
  ∀ (m : (ℓ : Loc Cert.RetInDxIdeal.nD Cert.RetInDxIdeal.τ Cert.RetInDxIdeal.sig) → Buf (Elt Ideal) ℓ) (g : Dev Cert.RetInDxIdeal.nD → PrngReg)
    (m' : (ℓ : Loc Cert.RetInDxReferenceIdeal.nD Cert.RetInDxReferenceIdeal.τ Cert.RetInDxReferenceIdeal.sig) → Buf (Elt Ideal) ℓ) (g' : Dev Cert.RetInDxReferenceIdeal.nD → PrngReg), Pre_RetInDxIdeal m →
    (∀ c : Dev Cert.RetInDxIdeal.nD,
      m' ((c.tc : Thread Cert.RetInDxReferenceIdeal.nD Cert.RetInDxReferenceIdeal.τ).loc Cert.RetInDxReferenceIdeal.main_arg0) = m ((c.tc : Thread Cert.RetInDxIdeal.nD Cert.RetInDxIdeal.τ).loc Cert.RetInDxIdeal.main_arg0)
      ∧ m' ((c.tc : Thread Cert.RetInDxReferenceIdeal.nD Cert.RetInDxReferenceIdeal.τ).loc Cert.RetInDxReferenceIdeal.main_arg1) = m ((c.tc : Thread Cert.RetInDxIdeal.nD Cert.RetInDxIdeal.τ).loc Cert.RetInDxIdeal.main_arg1)) →
    ∃ (v0 : (c : Dev Cert.RetInDxIdeal.nD) → Buf (Elt Ideal) ((c.tc : Thread Cert.RetInDxIdeal.nD Cert.RetInDxIdeal.τ).loc Cert.RetInDxIdeal.main_v0)),
      θ_run (Cert.RetInDxIdeal.defs (F := Ideal)) (onTc (τ := Cert.RetInDxIdeal.τ) (Cert.RetInDxIdeal.main (F := Ideal))) ⟨m, fun _ => 0, g⟩ (fun r => ∀ c : Dev Cert.RetInDxIdeal.nD,
          r.2.mem ((c.tc : Thread Cert.RetInDxIdeal.nD Cert.RetInDxIdeal.τ).loc Cert.RetInDxIdeal.main_v0) = v0 c
          ∧ r.2.mem ((c.tc : Thread Cert.RetInDxIdeal.nD Cert.RetInDxIdeal.τ).loc Cert.RetInDxIdeal.main_arg0) = m ((c.tc : Thread Cert.RetInDxIdeal.nD Cert.RetInDxIdeal.τ).loc Cert.RetInDxIdeal.main_arg0)
          ∧ r.2.mem ((c.tc : Thread Cert.RetInDxIdeal.nD Cert.RetInDxIdeal.τ).loc Cert.RetInDxIdeal.main_arg1) = m ((c.tc : Thread Cert.RetInDxIdeal.nD Cert.RetInDxIdeal.τ).loc Cert.RetInDxIdeal.main_arg1))
      ∧ θ_run (Cert.RetInDxReferenceIdeal.defs (F := Ideal)) (onTc (τ := Cert.RetInDxReferenceIdeal.τ) (Cert.RetInDxReferenceIdeal.main (F := Ideal))) ⟨m', fun _ => 0, g'⟩ (fun r => ∀ c : Dev Cert.RetInDxReferenceIdeal.nD,
          r.2.mem ((c.tc : Thread Cert.RetInDxReferenceIdeal.nD Cert.RetInDxReferenceIdeal.τ).loc Cert.RetInDxReferenceIdeal.main_v3) = v0 c
          ∧ r.2.mem ((c.tc : Thread Cert.RetInDxReferenceIdeal.nD Cert.RetInDxReferenceIdeal.τ).loc Cert.RetInDxReferenceIdeal.main_arg0) = m' ((c.tc : Thread Cert.RetInDxReferenceIdeal.nD Cert.RetInDxReferenceIdeal.τ).loc Cert.RetInDxReferenceIdeal.main_arg0)
          ∧ r.2.mem ((c.tc : Thread Cert.RetInDxReferenceIdeal.nD Cert.RetInDxReferenceIdeal.τ).loc Cert.RetInDxReferenceIdeal.main_arg1) = m' ((c.tc : Thread Cert.RetInDxReferenceIdeal.nD Cert.RetInDxReferenceIdeal.τ).loc Cert.RetInDxReferenceIdeal.main_arg1))

def preserves_AdaDw_AdaDwIdeal : Prop :=
  True

def algebraic_AdaDwIdeal_AdaDwReferenceIdeal [hAdaDwIdeal : Cert.AdaDwIdeal.Facts] [hAdaDwReferenceIdeal : Cert.AdaDwReferenceIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwReferenceIdeal.nD Cert.AdaDwReferenceIdeal.τ Cert.AdaDwReferenceIdeal.sig) → Buf (Elt Ideal) ℓ) (g' : Dev Cert.AdaDwReferenceIdeal.nD → PrngReg), Pre_AdaDwIdeal m →
    (∀ c : Dev Cert.AdaDwIdeal.nD,
      m' ((c.tc : Thread Cert.AdaDwReferenceIdeal.nD Cert.AdaDwReferenceIdeal.τ).loc Cert.AdaDwReferenceIdeal.main_arg0) = m ((c.tc : Thread Cert.AdaDwIdeal.nD Cert.AdaDwIdeal.τ).loc Cert.AdaDwIdeal.main_arg0)
      ∧ m' ((c.tc : Thread Cert.AdaDwReferenceIdeal.nD Cert.AdaDwReferenceIdeal.τ).loc Cert.AdaDwReferenceIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwReferenceIdeal.defs (F := Ideal)) (onTc (τ := Cert.AdaDwReferenceIdeal.τ) (Cert.AdaDwReferenceIdeal.main (F := Ideal))) ⟨m', fun _ => 0, g'⟩ (fun r => ∀ c : Dev Cert.AdaDwReferenceIdeal.nD,
          r.2.mem ((c.tc : Thread Cert.AdaDwReferenceIdeal.nD Cert.AdaDwReferenceIdeal.τ).loc Cert.AdaDwReferenceIdeal.main_v3) = v0 c
          ∧ r.2.mem ((c.tc : Thread Cert.AdaDwReferenceIdeal.nD Cert.AdaDwReferenceIdeal.τ).loc Cert.AdaDwReferenceIdeal.main_arg0) = m' ((c.tc : Thread Cert.AdaDwReferenceIdeal.nD Cert.AdaDwReferenceIdeal.τ).loc Cert.AdaDwReferenceIdeal.main_arg0)
          ∧ r.2.mem ((c.tc : Thread Cert.AdaDwReferenceIdeal.nD Cert.AdaDwReferenceIdeal.τ).loc Cert.AdaDwReferenceIdeal.main_arg1) = m' ((c.tc : Thread Cert.AdaDwReferenceIdeal.nD Cert.AdaDwReferenceIdeal.τ).loc Cert.AdaDwReferenceIdeal.main_arg1))

def Claim : Prop :=
  ∃ (hKernel : Cert.Kernel.Facts) (hKernelIdeal : Cert.KernelIdeal.Facts) (hReferenceIdeal : Cert.ReferenceIdeal.Facts) (hScatter : Cert.Scatter.Facts) (hScatterIdeal : Cert.ScatterIdeal.Facts) (hScatterReferenceIdeal : Cert.ScatterReferenceIdeal.Facts) (hGather : Cert.Gather.Facts) (hGatherIdeal : Cert.GatherIdeal.Facts) (hGatherReferenceIdeal : Cert.GatherReferenceIdeal.Facts) (hPwOne : Cert.PwOne.Facts) (hPwOneIdeal : Cert.PwOneIdeal.Facts) (hPwOneReferenceIdeal : Cert.PwOneReferenceIdeal.Facts) (hPwTwo : Cert.PwTwo.Facts) (hPwTwoIdeal : Cert.PwTwoIdeal.Facts) (hPwTwoReferenceIdeal : Cert.PwTwoReferenceIdeal.Facts) (hRetIn : Cert.RetIn.Facts) (hRetInIdeal : Cert.RetInIdeal.Facts) (hRetInReferenceIdeal : Cert.RetInReferenceIdeal.Facts) (hRetOut : Cert.RetOut.Facts) (hRetOutIdeal : Cert.RetOutIdeal.Facts) (hRetOutReferenceIdeal : Cert.RetOutReferenceIdeal.Facts) (hMlp : Cert.Mlp.Facts) (hMlpIdeal : Cert.MlpIdeal.Facts) (hMlpReferenceIdeal : Cert.MlpReferenceIdeal.Facts) (hAda : Cert.Ada.Facts) (hAdaIdeal : Cert.AdaIdeal.Facts) (hAdaReferenceIdeal : Cert.AdaReferenceIdeal.Facts) (hSmall : Cert.Small.Facts) (hSmallIdeal : Cert.SmallIdeal.Facts) (hSmallReferenceIdeal : Cert.SmallReferenceIdeal.Facts) (hCond : Cert.Cond.Facts) (hCondIdeal : Cert.CondIdeal.Facts) (hCondReferenceIdeal : Cert.CondReferenceIdeal.Facts) (hMod : Cert.Mod.Facts) (hModIdeal : Cert.ModIdeal.Facts) (hModReferenceIdeal : Cert.ModReferenceIdeal.Facts) (hGrads : Cert.Grads.Facts) (hGradsIdeal : Cert.GradsIdeal.Facts) (hGradsReferenceIdeal : Cert.GradsReferenceIdeal.Facts) (hAddPwOne : Cert.AddPwOne.Facts) (hAddPwOneIdeal : Cert.AddPwOneIdeal.Facts) (hAddPwOneReferenceIdeal : Cert.AddPwOneReferenceIdeal.Facts) (hAddPwTwo : Cert.AddPwTwo.Facts) (hAddPwTwoIdeal : Cert.AddPwTwoIdeal.Facts) (hAddPwTwoReferenceIdeal : Cert.AddPwTwoReferenceIdeal.Facts) (hAddRetIn : Cert.AddRetIn.Facts) (hAddRetInIdeal : Cert.AddRetInIdeal.Facts) (hAddRetInReferenceIdeal : Cert.AddRetInReferenceIdeal.Facts) (hAddRetOut : Cert.AddRetOut.Facts) (hAddRetOutIdeal : Cert.AddRetOutIdeal.Facts) (hAddRetOutReferenceIdeal : Cert.AddRetOutReferenceIdeal.Facts) (hAddMlp : Cert.AddMlp.Facts) (hAddMlpIdeal : Cert.AddMlpIdeal.Facts) (hAddMlpReferenceIdeal : Cert.AddMlpReferenceIdeal.Facts) (hSum : Cert.Sum.Facts) (hSumIdeal : Cert.SumIdeal.Facts) (hSumReferenceIdeal : Cert.SumReferenceIdeal.Facts) (hRowFwd : Cert.RowFwd.Facts) (hRowFwdIdeal : Cert.RowFwdIdeal.Facts) (hRowFwdReferenceIdeal : Cert.RowFwdReferenceIdeal.Facts) (hRowFirst : Cert.RowFirst.Facts) (hRowFirstIdeal : Cert.RowFirstIdeal.Facts) (hRowFirstReferenceIdeal : Cert.RowFirstReferenceIdeal.Facts) (hRowBwd : Cert.RowBwd.Facts) (hRowBwdIdeal : Cert.RowBwdIdeal.Facts) (hRowBwdReferenceIdeal : Cert.RowBwdReferenceIdeal.Facts) (hFinal : Cert.Final.Facts) (hFinalIdeal : Cert.FinalIdeal.Facts) (hFinalReferenceIdeal : Cert.FinalReferenceIdeal.Facts) (hLoss : Cert.Loss.Facts) (hLossIdeal : Cert.LossIdeal.Facts) (hLossReferenceIdeal : Cert.LossReferenceIdeal.Facts) (hConvFwd : Cert.ConvFwd.Facts) (hConvFwdIdeal : Cert.ConvFwdIdeal.Facts) (hConvFwdReferenceIdeal : Cert.ConvFwdReferenceIdeal.Facts) (hPwOneFwd : Cert.PwOneFwd.Facts) (hPwOneFwdIdeal : Cert.PwOneFwdIdeal.Facts) (hPwOneFwdReferenceIdeal : Cert.PwOneFwdReferenceIdeal.Facts) (hPwTwoFwd : Cert.PwTwoFwd.Facts) (hPwTwoFwdIdeal : Cert.PwTwoFwdIdeal.Facts) (hPwTwoFwdReferenceIdeal : Cert.PwTwoFwdReferenceIdeal.Facts) (hRetInFwd : Cert.RetInFwd.Facts) (hRetInFwdIdeal : Cert.RetInFwdIdeal.Facts) (hRetInFwdReferenceIdeal : Cert.RetInFwdReferenceIdeal.Facts) (hRetOutFwd : Cert.RetOutFwd.Facts) (hRetOutFwdIdeal : Cert.RetOutFwdIdeal.Facts) (hRetOutFwdReferenceIdeal : Cert.RetOutFwdReferenceIdeal.Facts) (hUpFwd : Cert.UpFwd.Facts) (hUpFwdIdeal : Cert.UpFwdIdeal.Facts) (hUpFwdReferenceIdeal : Cert.UpFwdReferenceIdeal.Facts) (hDownFwd : Cert.DownFwd.Facts) (hDownFwdIdeal : Cert.DownFwdIdeal.Facts) (hDownFwdReferenceIdeal : Cert.DownFwdReferenceIdeal.Facts) (hAdaFwd : Cert.AdaFwd.Facts) (hAdaFwdIdeal : Cert.AdaFwdIdeal.Facts) (hAdaFwdReferenceIdeal : Cert.AdaFwdReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDw : Cert.UpDw.Facts) (hUpDwIdeal : Cert.UpDwIdeal.Facts) (hUpDwReferenceIdeal : Cert.UpDwReferenceIdeal.Facts) (hUpDx : Cert.UpDx.Facts) (hUpDxIdeal : Cert.UpDxIdeal.Facts) (hUpDxReferenceIdeal : Cert.UpDxReferenceIdeal.Facts) (hPwTwoDx : Cert.PwTwoDx.Facts) (hPwTwoDxIdeal : Cert.PwTwoDxIdeal.Facts) (hPwTwoDxReferenceIdeal : Cert.PwTwoDxReferenceIdeal.Facts) (hPwTwoDw : Cert.PwTwoDw.Facts) (hPwTwoDwIdeal : Cert.PwTwoDwIdeal.Facts) (hPwTwoDwReferenceIdeal : Cert.PwTwoDwReferenceIdeal.Facts) (hPwOneDw : Cert.PwOneDw.Facts) (hPwOneDwIdeal : Cert.PwOneDwIdeal.Facts) (hPwOneDwReferenceIdeal : Cert.PwOneDwReferenceIdeal.Facts) (hPwOneDx : Cert.PwOneDx.Facts) (hPwOneDxIdeal : Cert.PwOneDxIdeal.Facts) (hPwOneDxReferenceIdeal : Cert.PwOneDxReferenceIdeal.Facts) (hRetOutDx : Cert.RetOutDx.Facts) (hRetOutDxIdeal : Cert.RetOutDxIdeal.Facts) (hRetOutDxReferenceIdeal : Cert.RetOutDxReferenceIdeal.Facts) (hRetOutDw : Cert.RetOutDw.Facts) (hRetOutDwIdeal : Cert.RetOutDwIdeal.Facts) (hRetOutDwReferenceIdeal : Cert.RetOutDwReferenceIdeal.Facts) (hRetInDw : Cert.RetInDw.Facts) (hRetInDwIdeal : Cert.RetInDwIdeal.Facts) (hRetInDwReferenceIdeal : Cert.RetInDwReferenceIdeal.Facts) (hRetInDx : Cert.RetInDx.Facts) (hRetInDxIdeal : Cert.RetInDxIdeal.Facts) (hRetInDxReferenceIdeal : Cert.RetInDxReferenceIdeal.Facts) (hAdaDw : Cert.AdaDw.Facts) (hAdaDwIdeal : Cert.AdaDwIdeal.Facts) (hAdaDwReferenceIdeal : Cert.AdaDwReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Scatter (hScatter := hScatter)
    ∧ quiescent_ScatterIdeal (hScatterIdeal := hScatterIdeal)
    ∧ quiescent_ScatterReferenceIdeal (hScatterReferenceIdeal := hScatterReferenceIdeal)
    ∧ quiescent_Gather (hGather := hGather)
    ∧ quiescent_GatherIdeal (hGatherIdeal := hGatherIdeal)
    ∧ quiescent_GatherReferenceIdeal (hGatherReferenceIdeal := hGatherReferenceIdeal)
    ∧ quiescent_PwOne (hPwOne := hPwOne)
    ∧ quiescent_PwOneIdeal (hPwOneIdeal := hPwOneIdeal)
    ∧ quiescent_PwOneReferenceIdeal (hPwOneReferenceIdeal := hPwOneReferenceIdeal)
    ∧ quiescent_PwTwo (hPwTwo := hPwTwo)
    ∧ quiescent_PwTwoIdeal (hPwTwoIdeal := hPwTwoIdeal)
    ∧ quiescent_PwTwoReferenceIdeal (hPwTwoReferenceIdeal := hPwTwoReferenceIdeal)
    ∧ quiescent_RetIn (hRetIn := hRetIn)
    ∧ quiescent_RetInIdeal (hRetInIdeal := hRetInIdeal)
    ∧ quiescent_RetInReferenceIdeal (hRetInReferenceIdeal := hRetInReferenceIdeal)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Small (hSmall := hSmall)
    ∧ quiescent_SmallIdeal (hSmallIdeal := hSmallIdeal)
    ∧ quiescent_SmallReferenceIdeal (hSmallReferenceIdeal := hSmallReferenceIdeal)
    ∧ quiescent_Cond (hCond := hCond)
    ∧ quiescent_CondIdeal (hCondIdeal := hCondIdeal)
    ∧ quiescent_CondReferenceIdeal (hCondReferenceIdeal := hCondReferenceIdeal)
    ∧ quiescent_Mod (hMod := hMod)
    ∧ quiescent_ModIdeal (hModIdeal := hModIdeal)
    ∧ quiescent_ModReferenceIdeal (hModReferenceIdeal := hModReferenceIdeal)
    ∧ quiescent_Grads (hGrads := hGrads)
    ∧ quiescent_GradsIdeal (hGradsIdeal := hGradsIdeal)
    ∧ quiescent_GradsReferenceIdeal (hGradsReferenceIdeal := hGradsReferenceIdeal)
    ∧ quiescent_AddPwOne (hAddPwOne := hAddPwOne)
    ∧ quiescent_AddPwOneIdeal (hAddPwOneIdeal := hAddPwOneIdeal)
    ∧ quiescent_AddPwOneReferenceIdeal (hAddPwOneReferenceIdeal := hAddPwOneReferenceIdeal)
    ∧ quiescent_AddPwTwo (hAddPwTwo := hAddPwTwo)
    ∧ quiescent_AddPwTwoIdeal (hAddPwTwoIdeal := hAddPwTwoIdeal)
    ∧ quiescent_AddPwTwoReferenceIdeal (hAddPwTwoReferenceIdeal := hAddPwTwoReferenceIdeal)
    ∧ quiescent_AddRetIn (hAddRetIn := hAddRetIn)
    ∧ quiescent_AddRetInIdeal (hAddRetInIdeal := hAddRetInIdeal)
    ∧ quiescent_AddRetInReferenceIdeal (hAddRetInReferenceIdeal := hAddRetInReferenceIdeal)
    ∧ quiescent_AddRetOut (hAddRetOut := hAddRetOut)
    ∧ quiescent_AddRetOutIdeal (hAddRetOutIdeal := hAddRetOutIdeal)
    ∧ quiescent_AddRetOutReferenceIdeal (hAddRetOutReferenceIdeal := hAddRetOutReferenceIdeal)
    ∧ quiescent_AddMlp (hAddMlp := hAddMlp)
    ∧ quiescent_AddMlpIdeal (hAddMlpIdeal := hAddMlpIdeal)
    ∧ quiescent_AddMlpReferenceIdeal (hAddMlpReferenceIdeal := hAddMlpReferenceIdeal)
    ∧ quiescent_Sum (hSum := hSum)
    ∧ quiescent_SumIdeal (hSumIdeal := hSumIdeal)
    ∧ quiescent_SumReferenceIdeal (hSumReferenceIdeal := hSumReferenceIdeal)
    ∧ quiescent_RowFwd (hRowFwd := hRowFwd)
    ∧ quiescent_RowFwdIdeal (hRowFwdIdeal := hRowFwdIdeal)
    ∧ quiescent_RowFwdReferenceIdeal (hRowFwdReferenceIdeal := hRowFwdReferenceIdeal)
    ∧ quiescent_RowFirst (hRowFirst := hRowFirst)
    ∧ quiescent_RowFirstIdeal (hRowFirstIdeal := hRowFirstIdeal)
    ∧ quiescent_RowFirstReferenceIdeal (hRowFirstReferenceIdeal := hRowFirstReferenceIdeal)
    ∧ quiescent_RowBwd (hRowBwd := hRowBwd)
    ∧ quiescent_RowBwdIdeal (hRowBwdIdeal := hRowBwdIdeal)
    ∧ quiescent_RowBwdReferenceIdeal (hRowBwdReferenceIdeal := hRowBwdReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ quiescent_PwOneFwd (hPwOneFwd := hPwOneFwd)
    ∧ quiescent_PwOneFwdIdeal (hPwOneFwdIdeal := hPwOneFwdIdeal)
    ∧ quiescent_PwOneFwdReferenceIdeal (hPwOneFwdReferenceIdeal := hPwOneFwdReferenceIdeal)
    ∧ quiescent_PwTwoFwd (hPwTwoFwd := hPwTwoFwd)
    ∧ quiescent_PwTwoFwdIdeal (hPwTwoFwdIdeal := hPwTwoFwdIdeal)
    ∧ quiescent_PwTwoFwdReferenceIdeal (hPwTwoFwdReferenceIdeal := hPwTwoFwdReferenceIdeal)
    ∧ quiescent_RetInFwd (hRetInFwd := hRetInFwd)
    ∧ quiescent_RetInFwdIdeal (hRetInFwdIdeal := hRetInFwdIdeal)
    ∧ quiescent_RetInFwdReferenceIdeal (hRetInFwdReferenceIdeal := hRetInFwdReferenceIdeal)
    ∧ quiescent_RetOutFwd (hRetOutFwd := hRetOutFwd)
    ∧ quiescent_RetOutFwdIdeal (hRetOutFwdIdeal := hRetOutFwdIdeal)
    ∧ quiescent_RetOutFwdReferenceIdeal (hRetOutFwdReferenceIdeal := hRetOutFwdReferenceIdeal)
    ∧ quiescent_UpFwd (hUpFwd := hUpFwd)
    ∧ quiescent_UpFwdIdeal (hUpFwdIdeal := hUpFwdIdeal)
    ∧ quiescent_UpFwdReferenceIdeal (hUpFwdReferenceIdeal := hUpFwdReferenceIdeal)
    ∧ quiescent_DownFwd (hDownFwd := hDownFwd)
    ∧ quiescent_DownFwdIdeal (hDownFwdIdeal := hDownFwdIdeal)
    ∧ quiescent_DownFwdReferenceIdeal (hDownFwdReferenceIdeal := hDownFwdReferenceIdeal)
    ∧ quiescent_AdaFwd (hAdaFwd := hAdaFwd)
    ∧ quiescent_AdaFwdIdeal (hAdaFwdIdeal := hAdaFwdIdeal)
    ∧ quiescent_AdaFwdReferenceIdeal (hAdaFwdReferenceIdeal := hAdaFwdReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_PwTwoDx (hPwTwoDx := hPwTwoDx)
    ∧ quiescent_PwTwoDxIdeal (hPwTwoDxIdeal := hPwTwoDxIdeal)
    ∧ quiescent_PwTwoDxReferenceIdeal (hPwTwoDxReferenceIdeal := hPwTwoDxReferenceIdeal)
    ∧ quiescent_PwTwoDw (hPwTwoDw := hPwTwoDw)
    ∧ quiescent_PwTwoDwIdeal (hPwTwoDwIdeal := hPwTwoDwIdeal)
    ∧ quiescent_PwTwoDwReferenceIdeal (hPwTwoDwReferenceIdeal := hPwTwoDwReferenceIdeal)
    ∧ quiescent_PwOneDw (hPwOneDw := hPwOneDw)
    ∧ quiescent_PwOneDwIdeal (hPwOneDwIdeal := hPwOneDwIdeal)
    ∧ quiescent_PwOneDwReferenceIdeal (hPwOneDwReferenceIdeal := hPwOneDwReferenceIdeal)
    ∧ quiescent_PwOneDx (hPwOneDx := hPwOneDx)
    ∧ quiescent_PwOneDxIdeal (hPwOneDxIdeal := hPwOneDxIdeal)
    ∧ quiescent_PwOneDxReferenceIdeal (hPwOneDxReferenceIdeal := hPwOneDxReferenceIdeal)
    ∧ quiescent_RetOutDx (hRetOutDx := hRetOutDx)
    ∧ quiescent_RetOutDxIdeal (hRetOutDxIdeal := hRetOutDxIdeal)
    ∧ quiescent_RetOutDxReferenceIdeal (hRetOutDxReferenceIdeal := hRetOutDxReferenceIdeal)
    ∧ quiescent_RetOutDw (hRetOutDw := hRetOutDw)
    ∧ quiescent_RetOutDwIdeal (hRetOutDwIdeal := hRetOutDwIdeal)
    ∧ quiescent_RetOutDwReferenceIdeal (hRetOutDwReferenceIdeal := hRetOutDwReferenceIdeal)
    ∧ quiescent_RetInDw (hRetInDw := hRetInDw)
    ∧ quiescent_RetInDwIdeal (hRetInDwIdeal := hRetInDwIdeal)
    ∧ quiescent_RetInDwReferenceIdeal (hRetInDwReferenceIdeal := hRetInDwReferenceIdeal)
    ∧ quiescent_RetInDx (hRetInDx := hRetInDx)
    ∧ quiescent_RetInDxIdeal (hRetInDxIdeal := hRetInDxIdeal)
    ∧ quiescent_RetInDxReferenceIdeal (hRetInDxReferenceIdeal := hRetInDxReferenceIdeal)
    ∧ quiescent_AdaDw (hAdaDw := hAdaDw)
    ∧ quiescent_AdaDwIdeal (hAdaDwIdeal := hAdaDwIdeal)
    ∧ quiescent_AdaDwReferenceIdeal (hAdaDwReferenceIdeal := hAdaDwReferenceIdeal)
    ∧ preserves_Kernel_KernelIdeal
    ∧ algebraic_KernelIdeal_ReferenceIdeal (hKernelIdeal := hKernelIdeal) (hReferenceIdeal := hReferenceIdeal)
    ∧ preserves_Scatter_ScatterIdeal
    ∧ algebraic_ScatterIdeal_ScatterReferenceIdeal (hScatterIdeal := hScatterIdeal) (hScatterReferenceIdeal := hScatterReferenceIdeal)
    ∧ preserves_Gather_GatherIdeal
    ∧ algebraic_GatherIdeal_GatherReferenceIdeal (hGatherIdeal := hGatherIdeal) (hGatherReferenceIdeal := hGatherReferenceIdeal)
    ∧ preserves_PwOne_PwOneIdeal
    ∧ algebraic_PwOneIdeal_PwOneReferenceIdeal (hPwOneIdeal := hPwOneIdeal) (hPwOneReferenceIdeal := hPwOneReferenceIdeal)
    ∧ preserves_PwTwo_PwTwoIdeal
    ∧ algebraic_PwTwoIdeal_PwTwoReferenceIdeal (hPwTwoIdeal := hPwTwoIdeal) (hPwTwoReferenceIdeal := hPwTwoReferenceIdeal)
    ∧ preserves_RetIn_RetInIdeal
    ∧ algebraic_RetInIdeal_RetInReferenceIdeal (hRetInIdeal := hRetInIdeal) (hRetInReferenceIdeal := hRetInReferenceIdeal)
    ∧ preserves_RetOut_RetOutIdeal
    ∧ algebraic_RetOutIdeal_RetOutReferenceIdeal (hRetOutIdeal := hRetOutIdeal) (hRetOutReferenceIdeal := hRetOutReferenceIdeal)
    ∧ preserves_Mlp_MlpIdeal
    ∧ algebraic_MlpIdeal_MlpReferenceIdeal (hMlpIdeal := hMlpIdeal) (hMlpReferenceIdeal := hMlpReferenceIdeal)
    ∧ preserves_Ada_AdaIdeal
    ∧ algebraic_AdaIdeal_AdaReferenceIdeal (hAdaIdeal := hAdaIdeal) (hAdaReferenceIdeal := hAdaReferenceIdeal)
    ∧ preserves_Small_SmallIdeal
    ∧ algebraic_SmallIdeal_SmallReferenceIdeal (hSmallIdeal := hSmallIdeal) (hSmallReferenceIdeal := hSmallReferenceIdeal)
    ∧ preserves_Cond_CondIdeal
    ∧ algebraic_CondIdeal_CondReferenceIdeal (hCondIdeal := hCondIdeal) (hCondReferenceIdeal := hCondReferenceIdeal)
    ∧ preserves_Mod_ModIdeal
    ∧ algebraic_ModIdeal_ModReferenceIdeal (hModIdeal := hModIdeal) (hModReferenceIdeal := hModReferenceIdeal)
    ∧ preserves_Grads_GradsIdeal
    ∧ algebraic_GradsIdeal_GradsReferenceIdeal (hGradsIdeal := hGradsIdeal) (hGradsReferenceIdeal := hGradsReferenceIdeal)
    ∧ preserves_AddPwOne_AddPwOneIdeal
    ∧ algebraic_AddPwOneIdeal_AddPwOneReferenceIdeal (hAddPwOneIdeal := hAddPwOneIdeal) (hAddPwOneReferenceIdeal := hAddPwOneReferenceIdeal)
    ∧ preserves_AddPwTwo_AddPwTwoIdeal
    ∧ algebraic_AddPwTwoIdeal_AddPwTwoReferenceIdeal (hAddPwTwoIdeal := hAddPwTwoIdeal) (hAddPwTwoReferenceIdeal := hAddPwTwoReferenceIdeal)
    ∧ preserves_AddRetIn_AddRetInIdeal
    ∧ algebraic_AddRetInIdeal_AddRetInReferenceIdeal (hAddRetInIdeal := hAddRetInIdeal) (hAddRetInReferenceIdeal := hAddRetInReferenceIdeal)
    ∧ preserves_AddRetOut_AddRetOutIdeal
    ∧ algebraic_AddRetOutIdeal_AddRetOutReferenceIdeal (hAddRetOutIdeal := hAddRetOutIdeal) (hAddRetOutReferenceIdeal := hAddRetOutReferenceIdeal)
    ∧ preserves_AddMlp_AddMlpIdeal
    ∧ algebraic_AddMlpIdeal_AddMlpReferenceIdeal (hAddMlpIdeal := hAddMlpIdeal) (hAddMlpReferenceIdeal := hAddMlpReferenceIdeal)
    ∧ preserves_Sum_SumIdeal
    ∧ algebraic_SumIdeal_SumReferenceIdeal (hSumIdeal := hSumIdeal) (hSumReferenceIdeal := hSumReferenceIdeal)
    ∧ preserves_RowFwd_RowFwdIdeal
    ∧ algebraic_RowFwdIdeal_RowFwdReferenceIdeal (hRowFwdIdeal := hRowFwdIdeal) (hRowFwdReferenceIdeal := hRowFwdReferenceIdeal)
    ∧ preserves_RowFirst_RowFirstIdeal
    ∧ algebraic_RowFirstIdeal_RowFirstReferenceIdeal (hRowFirstIdeal := hRowFirstIdeal) (hRowFirstReferenceIdeal := hRowFirstReferenceIdeal)
    ∧ preserves_RowBwd_RowBwdIdeal
    ∧ algebraic_RowBwdIdeal_RowBwdReferenceIdeal (hRowBwdIdeal := hRowBwdIdeal) (hRowBwdReferenceIdeal := hRowBwdReferenceIdeal)
    ∧ preserves_Final_FinalIdeal
    ∧ algebraic_FinalIdeal_FinalReferenceIdeal (hFinalIdeal := hFinalIdeal) (hFinalReferenceIdeal := hFinalReferenceIdeal)
    ∧ preserves_Loss_LossIdeal
    ∧ algebraic_LossIdeal_LossReferenceIdeal (hLossIdeal := hLossIdeal) (hLossReferenceIdeal := hLossReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
    ∧ preserves_PwOneFwd_PwOneFwdIdeal
    ∧ algebraic_PwOneFwdIdeal_PwOneFwdReferenceIdeal (hPwOneFwdIdeal := hPwOneFwdIdeal) (hPwOneFwdReferenceIdeal := hPwOneFwdReferenceIdeal)
    ∧ preserves_PwTwoFwd_PwTwoFwdIdeal
    ∧ algebraic_PwTwoFwdIdeal_PwTwoFwdReferenceIdeal (hPwTwoFwdIdeal := hPwTwoFwdIdeal) (hPwTwoFwdReferenceIdeal := hPwTwoFwdReferenceIdeal)
    ∧ preserves_RetInFwd_RetInFwdIdeal
    ∧ algebraic_RetInFwdIdeal_RetInFwdReferenceIdeal (hRetInFwdIdeal := hRetInFwdIdeal) (hRetInFwdReferenceIdeal := hRetInFwdReferenceIdeal)
    ∧ preserves_RetOutFwd_RetOutFwdIdeal
    ∧ algebraic_RetOutFwdIdeal_RetOutFwdReferenceIdeal (hRetOutFwdIdeal := hRetOutFwdIdeal) (hRetOutFwdReferenceIdeal := hRetOutFwdReferenceIdeal)
    ∧ preserves_UpFwd_UpFwdIdeal
    ∧ algebraic_UpFwdIdeal_UpFwdReferenceIdeal (hUpFwdIdeal := hUpFwdIdeal) (hUpFwdReferenceIdeal := hUpFwdReferenceIdeal)
    ∧ preserves_DownFwd_DownFwdIdeal
    ∧ algebraic_DownFwdIdeal_DownFwdReferenceIdeal (hDownFwdIdeal := hDownFwdIdeal) (hDownFwdReferenceIdeal := hDownFwdReferenceIdeal)
    ∧ preserves_AdaFwd_AdaFwdIdeal
    ∧ algebraic_AdaFwdIdeal_AdaFwdReferenceIdeal (hAdaFwdIdeal := hAdaFwdIdeal) (hAdaFwdReferenceIdeal := hAdaFwdReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDw_UpDwIdeal
    ∧ algebraic_UpDwIdeal_UpDwReferenceIdeal (hUpDwIdeal := hUpDwIdeal) (hUpDwReferenceIdeal := hUpDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_PwTwoDx_PwTwoDxIdeal
    ∧ algebraic_PwTwoDxIdeal_PwTwoDxReferenceIdeal (hPwTwoDxIdeal := hPwTwoDxIdeal) (hPwTwoDxReferenceIdeal := hPwTwoDxReferenceIdeal)
    ∧ preserves_PwTwoDw_PwTwoDwIdeal
    ∧ algebraic_PwTwoDwIdeal_PwTwoDwReferenceIdeal (hPwTwoDwIdeal := hPwTwoDwIdeal) (hPwTwoDwReferenceIdeal := hPwTwoDwReferenceIdeal)
    ∧ preserves_PwOneDw_PwOneDwIdeal
    ∧ algebraic_PwOneDwIdeal_PwOneDwReferenceIdeal (hPwOneDwIdeal := hPwOneDwIdeal) (hPwOneDwReferenceIdeal := hPwOneDwReferenceIdeal)
    ∧ preserves_PwOneDx_PwOneDxIdeal
    ∧ algebraic_PwOneDxIdeal_PwOneDxReferenceIdeal (hPwOneDxIdeal := hPwOneDxIdeal) (hPwOneDxReferenceIdeal := hPwOneDxReferenceIdeal)
    ∧ preserves_RetOutDx_RetOutDxIdeal
    ∧ algebraic_RetOutDxIdeal_RetOutDxReferenceIdeal (hRetOutDxIdeal := hRetOutDxIdeal) (hRetOutDxReferenceIdeal := hRetOutDxReferenceIdeal)
    ∧ preserves_RetOutDw_RetOutDwIdeal
    ∧ algebraic_RetOutDwIdeal_RetOutDwReferenceIdeal (hRetOutDwIdeal := hRetOutDwIdeal) (hRetOutDwReferenceIdeal := hRetOutDwReferenceIdeal)
    ∧ preserves_RetInDw_RetInDwIdeal
    ∧ algebraic_RetInDwIdeal_RetInDwReferenceIdeal (hRetInDwIdeal := hRetInDwIdeal) (hRetInDwReferenceIdeal := hRetInDwReferenceIdeal)
    ∧ preserves_RetInDx_RetInDxIdeal
    ∧ algebraic_RetInDxIdeal_RetInDxReferenceIdeal (hRetInDxIdeal := hRetInDxIdeal) (hRetInDxReferenceIdeal := hRetInDxReferenceIdeal)
    ∧ preserves_AdaDw_AdaDwIdeal
    ∧ algebraic_AdaDwIdeal_AdaDwReferenceIdeal (hAdaDwIdeal := hAdaDwIdeal) (hAdaDwReferenceIdeal := hAdaDwReferenceIdeal)
-- ==== Kernel.lean ====
abbrev S4x1024x512 : Shape := ⟨3, ![4, 1024, 512]⟩
abbrev S4x256x1024 : Shape := ⟨3, ![4, 256, 1024]⟩
abbrev S4x1024x1536 : Shape := ⟨3, ![4, 1024, 1536]⟩
abbrev S4x512x1024 : Shape := ⟨3, ![4, 512, 1024]⟩
abbrev S4x1024x1024 : Shape := ⟨3, ![4, 1024, 1024]⟩
abbrev S16 : Shape := ⟨1, ![16]⟩
abbrev S1 : Shape := ⟨1, ![1]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x256x1024, .f32⟩
  | .hbm, ⟨3, _⟩ => ⟨S4x256x1024, .f32⟩
  | .hbm, ⟨4, _⟩ => ⟨S4x1024x1536, .f32⟩
  | .hbm, ⟨5, _⟩ => ⟨S4x1024x1536, .f32⟩
  | .hbm, ⟨6, _⟩ => ⟨S4x512x1024, .f32⟩
  | .hbm, ⟨7, _⟩ => ⟨S4x512x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S4x1024x1024, .f32⟩
  | .hbm, ⟨16, _⟩ => ⟨S4x1024x512, .f32⟩
  | .hbm, ⟨17, _⟩ => ⟨S4x1024x512, .f32⟩
  | .hbm, ⟨18, _⟩ => ⟨S4x256x1024, .f32⟩
  | .hbm, ⟨19, _⟩ => ⟨S4x256x1024, .f32⟩
  | .hbm, ⟨20, _⟩ => ⟨S4x1024x1536, .f32⟩
  | .hbm, ⟨21, _⟩ => ⟨S4x1024x1536, .f32⟩
  | .hbm, ⟨22, _⟩ => ⟨S4x512x1024, .f32⟩
  | .hbm, ⟨23, _⟩ => ⟨S4x512x1024, .f32⟩
  | .hbm, ⟨24, _⟩ => ⟨S4x1024x1024, .f32⟩
  | .hbm, ⟨25, _⟩ => ⟨S4x1024x1024, .f32⟩
  | .hbm, ⟨26, _⟩ => ⟨S4x1024x1024, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S4x1024x1024, .f32⟩
  | .hbm, ⟨31, _⟩ => ⟨S4x1024x1024, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v1_4 : Ref sig .tc := ⟨.hbm, 20, rfl⟩
abbrev main_v1_5 : Ref sig .tc := ⟨.hbm, 21, rfl⟩
abbrev main_v1_6 : Ref sig .tc := ⟨.hbm, 22, rfl⟩
abbrev main_v1_7 : Ref sig .tc := ⟨.hbm, 23, rfl⟩
abbrev main_v1_8 : Ref sig .tc := ⟨.hbm, 24, rfl⟩
abbrev main_v1_9 : Ref sig .tc := ⟨.hbm, 25, rfl⟩
abbrev main_v1_10 : Ref sig .tc := ⟨.hbm, 26, rfl⟩
abbrev main_v1_11 : Ref sig .tc := ⟨.hbm, 27, rfl⟩
abbrev main_v1_12 : Ref sig .tc := ⟨.hbm, 28, rfl⟩
abbrev main_v1_13 : Ref sig .tc := ⟨.hbm, 29, rfl⟩
abbrev main_v1_14 : Ref sig .tc := ⟨.hbm, 30, rfl⟩
abbrev main_v1_15 : Ref sig .tc := ⟨.hbm, 31, rfl⟩

abbrev nD : Nat := 8
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v25 : BitVec 32 := Scalar.muli v2 c4_i32_20
  let v26 : BitVec 32 := Scalar.addi c0_i32_21 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v27 : BitVec 32 := Scalar.muli v5 c2_i32_22
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_23 : BitVec 32 := 1#32
  let v29 : BitVec 32 := Scalar.muli v9 c1_i32_23
  let v30 : BitVec 32 := Scalar.addi v28 v29
  v30.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v35 : BitVec 32 := Scalar.muli v2 c4_i32_26
  let v36 : BitVec 32 := Scalar.addi c0_i32_27 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v37 : BitVec 32 := Scalar.muli v5 c2_i32_28
  let v38 : BitVec 32 := Scalar.addi v36 v37
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_29 : BitVec 32 := 1#32
  let v39 : BitVec 32 := Scalar.muli v10 c1_i32_29
  let v40 : BitVec 32 := Scalar.addi v38 v39
  v40.toNat
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v45 : BitVec 32 := Scalar.muli v2 c4_i32_32
  let v46 : BitVec 32 := Scalar.addi c0_i32_33 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v47 : BitVec 32 := Scalar.muli v5 c2_i32_34
  let v48 : BitVec 32 := Scalar.addi v46 v47
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_35 : BitVec 32 := 1#32
  let v49 : BitVec 32 := Scalar.muli v11 c1_i32_35
  let v50 : BitVec 32 := Scalar.addi v48 v49
  v50.toNat
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v55 : BitVec 32 := Scalar.muli v2 c4_i32_37
  let v56 : BitVec 32 := Scalar.addi c0_i32_38 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v57 : BitVec 32 := Scalar.muli v5 c2_i32_39
  let v58 : BitVec 32 := Scalar.addi v56 v57
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_40 : BitVec 32 := 1#32
  let v59 : BitVec 32 := Scalar.muli v12 c1_i32_40
  let v60 : BitVec 32 := Scalar.addi v58 v59
  v60.toNat
def k0_dev5 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v65 : BitVec 32 := Scalar.muli v2 c4_i32_43
  let v66 : BitVec 32 := Scalar.addi c0_i32_44 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v67 : BitVec 32 := Scalar.muli v5 c2_i32_45
  let v68 : BitVec 32 := Scalar.addi v66 v67
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_46 : BitVec 32 := 1#32
  let v69 : BitVec 32 := Scalar.muli v13 c1_i32_46
  let v70 : BitVec 32 := Scalar.addi v68 v69
  v70.toNat
def k0_dev6 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v75 : BitVec 32 := Scalar.muli v2 c4_i32_48
  let v76 : BitVec 32 := Scalar.addi c0_i32_49 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v77 : BitVec 32 := Scalar.muli v5 c2_i32_50
  let v78 : BitVec 32 := Scalar.addi v76 v77
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_51 : BitVec 32 := 1#32
  let v79 : BitVec 32 := Scalar.muli v14 c1_i32_51
  let v80 : BitVec 32 := Scalar.addi v78 v79
  v80.toNat
def k0_dev7 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v85 : BitVec 32 := Scalar.muli v2 c4_i32_53
  let v86 : BitVec 32 := Scalar.addi c0_i32_54 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v87 : BitVec 32 := Scalar.muli v5 c2_i32_55
  let v88 : BitVec 32 := Scalar.addi v86 v87
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_56 : BitVec 32 := 1#32
  let v89 : BitVec 32 := Scalar.muli v15 c1_i32_56
  let v90 : BitVec 32 := Scalar.addi v88 v89
  v90.toNat
def k0_dev8 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v95 : BitVec 32 := Scalar.muli v2 c4_i32_58
  let v96 : BitVec 32 := Scalar.addi c0_i32_59 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v97 : BitVec 32 := Scalar.muli v5 c2_i32_60
  let v98 : BitVec 32 := Scalar.addi v96 v97
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_61 : BitVec 32 := 1#32
  let v99 : BitVec 32 := Scalar.muli v16 c1_i32_61
  let v100 : BitVec 32 := Scalar.addi v98 v99
  v100.toNat
def k0_dev9 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v105 : BitVec 32 := Scalar.muli v2 c4_i32_63
  let v106 : BitVec 32 := Scalar.addi c0_i32_64 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v107 : BitVec 32 := Scalar.muli v5 c2_i32_65
  let v108 : BitVec 32 := Scalar.addi v106 v107
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c1_i32_66 : BitVec 32 := 1#32
  let v109 : BitVec 32 := Scalar.muli v17 c1_i32_66
  let v110 : BitVec 32 := Scalar.addi v108 v109
  v110.toNat
def k0_dev10 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v115 : BitVec 32 := Scalar.muli v2 c4_i32_68
  let v116 : BitVec 32 := Scalar.addi c0_i32_69 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v117 : BitVec 32 := Scalar.muli v5 c2_i32_70
  let v118 : BitVec 32 := Scalar.addi v116 v117
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_12 v8
  let c1_i32_71 : BitVec 32 := 1#32
  let v119 : BitVec 32 := Scalar.muli v18 c1_i32_71
  let v120 : BitVec 32 := Scalar.addi v118 v119
  v120.toNat
def k0_dev11 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v125 : BitVec 32 := Scalar.muli v2 c4_i32_73
  let v126 : BitVec 32 := Scalar.addi c0_i32_74 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v127 : BitVec 32 := Scalar.muli v5 c2_i32_75
  let v128 : BitVec 32 := Scalar.addi v126 v127
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_13 v8
  let c1_i32_76 : BitVec 32 := 1#32
  let v129 : BitVec 32 := Scalar.muli v19 c1_i32_76
  let v130 : BitVec 32 := Scalar.addi v128 v129
  v130.toNat
def k0_dev12 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v135 : BitVec 32 := Scalar.muli v2 c4_i32_78
  let v136 : BitVec 32 := Scalar.addi c0_i32_79 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v137 : BitVec 32 := Scalar.muli v5 c2_i32_80
  let v138 : BitVec 32 := Scalar.addi v136 v137
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_81 : BitVec 32 := 1#32
  let v139 : BitVec 32 := Scalar.muli v20 c1_i32_81
  let v140 : BitVec 32 := Scalar.addi v138 v139
  v140.toNat
def k0_dev13 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v145 : BitVec 32 := Scalar.muli v2 c4_i32_83
  let v146 : BitVec 32 := Scalar.addi c0_i32_84 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v147 : BitVec 32 := Scalar.muli v5 c2_i32_85
  let v148 : BitVec 32 := Scalar.addi v146 v147
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_15 v8
  let c1_i32_86 : BitVec 32 := 1#32
  let v149 : BitVec 32 := Scalar.muli v21 c1_i32_86
  let v150 : BitVec 32 := Scalar.addi v148 v149
  v150.toNat
def k0_dev14 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v155 : BitVec 32 := Scalar.muli v2 c4_i32_88
  let v156 : BitVec 32 := Scalar.addi c0_i32_89 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v157 : BitVec 32 := Scalar.muli v5 c2_i32_90
  let v158 : BitVec 32 := Scalar.addi v156 v157
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_16 v8
  let c1_i32_91 : BitVec 32 := 1#32
  let v159 : BitVec 32 := Scalar.muli v22 c1_i32_91
  let v160 : BitVec 32 := Scalar.addi v158 v159
  v160.toNat
def k0_dev15 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v165 : BitVec 32 := Scalar.muli v2 c4_i32_93
  let v166 : BitVec 32 := Scalar.addi c0_i32_94 v165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v167 : BitVec 32 := Scalar.muli v5 c2_i32_95
  let v168 : BitVec 32 := Scalar.addi v166 v167
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_17 v8
  let c1_i32_96 : BitVec 32 := 1#32
  let v169 : BitVec 32 := Scalar.muli v23 c1_i32_96
  let v170 : BitVec 32 := Scalar.addi v168 v169
  v170.toNat
def k0_dev16 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v175 : BitVec 32 := Scalar.muli v2 c4_i32_98
  let v176 : BitVec 32 := Scalar.addi c0_i32_99 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v177 : BitVec 32 := Scalar.muli v5 c2_i32_100
  let v178 : BitVec 32 := Scalar.addi v176 v177
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_18 v8
  let c1_i32_101 : BitVec 32 := 1#32
  let v179 : BitVec 32 := Scalar.muli v24 c1_i32_101
  let v180 : BitVec 32 := Scalar.addi v178 v179
  v180.toNat
-- ==== ReferenceIdeal.lean ====
abbrev S32x1024x512 : Shape := ⟨3, ![32, 1024, 512]⟩
abbrev S32x256x1024 : Shape := ⟨3, ![32, 256, 1024]⟩
abbrev S32x1024x1536 : Shape := ⟨3, ![32, 1024, 1536]⟩
abbrev S32x512x1024 : Shape := ⟨3, ![32, 512, 1024]⟩
abbrev S32x1024x1024 : Shape := ⟨3, ![32, 1024, 1024]⟩
abbrev S4x2x4x1024x512 : Shape := ⟨5, ![4, 2, 4, 1024, 512]⟩
abbrev S4x2x4x256x1024 : Shape := ⟨5, ![4, 2, 4, 256, 1024]⟩
abbrev S4x2x4x1024x1536 : Shape := ⟨5, ![4, 2, 4, 1024, 1536]⟩
abbrev S4x2x4x512x1024 : Shape := ⟨5, ![4, 2, 4, 512, 1024]⟩
abbrev S4x2x4x1024x1024 : Shape := ⟨5, ![4, 2, 4, 1024, 1024]⟩

abbrev nBuf : Space → Nat
  | .hbm => 64
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S32x256x1024, .f32⟩
  | .hbm, ⟨3, _⟩ => ⟨S32x256x1024, .f32⟩
  | .hbm, ⟨4, _⟩ => ⟨S32x1024x1536, .f32⟩
  | .hbm, ⟨5, _⟩ => ⟨S32x1024x1536, .f32⟩
  | .hbm, ⟨6, _⟩ => ⟨S32x512x1024, .f32⟩
  | .hbm, ⟨7, _⟩ => ⟨S32x512x1024, .f32⟩
  | .hbm, ⟨8, _⟩ => ⟨S32x1024x1024, .f32⟩
  | .hbm, ⟨9, _⟩ => ⟨S32x1024x1024, .f32⟩
  | .hbm, ⟨10, _⟩ => ⟨S32x1024x1024, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S4x2x4x1024x512, .f32⟩
  | .hbm, ⟨17, _⟩ => ⟨S4x2x4x1024x512, .f32⟩
  | .hbm, ⟨18, _⟩ => ⟨S32x1024x512, .f32⟩
  | .hbm, ⟨19, _⟩ => ⟨S4x2x4x1024x512, .f32⟩
  | .hbm, ⟨20, _⟩ => ⟨S4x2x4x1024x512, .f32⟩
  | .hbm, ⟨21, _⟩ => ⟨S32x1024x512, .f32⟩
  | .hbm, ⟨22, _⟩ => ⟨S4x2x4x256x1024, .f32⟩
  | .hbm, ⟨23, _⟩ => ⟨S4x2x4x256x1024, .f32⟩
  | .hbm, ⟨24, _⟩ => ⟨S32x256x1024, .f32⟩
  | .hbm, ⟨25, _⟩ => ⟨S4x2x4x256x1024, .f32⟩
  | .hbm, ⟨26, _⟩ => ⟨S4x2x4x256x1024, .f32⟩
  | .hbm, ⟨27, _⟩ => ⟨S32x256x1024, .f32⟩
  | .hbm, ⟨28, _⟩ => ⟨S4x2x4x1024x1536, .f32⟩
  | .hbm, ⟨29, _⟩ => ⟨S4x2x4x1024x1536, .f32⟩
  | .hbm, ⟨30, _⟩ => ⟨S32x1024x1536, .f32⟩
  | .hbm, ⟨31, _⟩ => ⟨S4x2x4x1024x1536, .f32⟩
  | .hbm, ⟨32, _⟩ => ⟨S4x2x4x1024x1536, .f32⟩
  | .hbm, ⟨33, _⟩ => ⟨S32x1024x1536, .f32⟩
  | .hbm, ⟨34, _⟩ => ⟨S4x2x4x512x1024, .f32⟩
  | .hbm, ⟨35, _⟩ => ⟨S4x2x4x512x1024, .f32⟩
  | .hbm, ⟨36, _⟩ => ⟨S32x512x1024, .f32⟩
  | .hbm, ⟨37, _⟩ => ⟨S4x2x4x512x1024, .f32⟩
  | .hbm, ⟨38, _⟩ => ⟨S4x2x4x512x1024, .f32⟩
  | .hbm, ⟨39, _⟩ => ⟨S32x512x1024, .f32⟩
  | .hbm, ⟨40, _⟩ => ⟨S4x2x4x1024x1024, .f32⟩
  | .hbm, ⟨41, _⟩ => ⟨S4x2x4x1024x1024, .f32⟩
  | .hbm, ⟨42, _⟩ => ⟨S32x1024x1024, .f32⟩
  | .hbm, ⟨43, _⟩ => ⟨S4x2x4x1024x1024, .f32⟩
  | .hbm, ⟨44, _⟩ => ⟨S4x2x4x1024x1024, .f32⟩
  | .hbm, ⟨45, _⟩ => ⟨S32x1024x1024, .f32⟩
  | .hbm, ⟨46, _⟩ => ⟨S4x2x4x1024x1024, .f32⟩
  | .hbm, ⟨47, _⟩ => ⟨S4x2x4x1024x1024, .f32⟩
  | .hbm, ⟨48, _⟩ => ⟨S32x1024x1024, .f32⟩
  | .hbm, ⟨49, _⟩ => ⟨S4x2x4x1024x1024, .f32⟩
  | .hbm, ⟨50, _⟩ => ⟨S4x2x4x1024x1024, .f32⟩
  | .hbm, ⟨51, _⟩ => ⟨S32x1024x1024, .f32⟩
  | .hbm, ⟨52, _⟩ => ⟨S4x2x4x1024x1024, .f32⟩
  | .hbm, ⟨53, _⟩ => ⟨S4x2x4x1024x1024, .f32⟩
  | .hbm, ⟨54, _⟩ => ⟨S32x1024x1024, .f32⟩
  | .hbm, ⟨55, _⟩ => ⟨S4x2x4x1024x1024, .f32⟩
  | .hbm, ⟨56, _⟩ => ⟨S4x2x4x1024x1024, .f32⟩
  | .hbm, ⟨57, _⟩ => ⟨S32x1024x1024, .f32⟩
  | .hbm, ⟨58, _⟩ => ⟨S4x2x4x1024x1024, .f32⟩
  | .hbm, ⟨59, _⟩ => ⟨S4x2x4x1024x1024, .f32⟩
  | .hbm, ⟨60, _⟩ => ⟨S32x1024x1024, .f32⟩
  | .hbm, ⟨61, _⟩ => ⟨S4x2x4x1024x1024, .f32⟩
  | .hbm, ⟨62, _⟩ => ⟨S4x2x4x1024x1024, .f32⟩
  | .hbm, ⟨63, _⟩ => ⟨S32x1024x1024, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Scatter.lean ====
abbrev S4x1024x512 : Shape := ⟨3, ![4, 1024, 512]⟩
abbrev S4x256x1024 : Shape := ⟨3, ![4, 256, 1024]⟩
abbrev S4x1024x1536 : Shape := ⟨3, ![4, 1024, 1536]⟩
abbrev S4x512x1024 : Shape := ⟨3, ![4, 512, 1024]⟩
abbrev S4x1024x1024 : Shape := ⟨3, ![4, 1024, 1024]⟩
abbrev S2x4x1024x512 : Shape := ⟨4, ![2, 4, 1024, 512]⟩
abbrev S2x4x256x1024 : Shape := ⟨4, ![2, 4, 256, 1024]⟩
abbrev S2x4x1024x1536 : Shape := ⟨4, ![2, 4, 1024, 1536]⟩
abbrev S2x4x512x1024 : Shape := ⟨4, ![2, 4, 512, 1024]⟩
abbrev S4x4x1024x1024 : Shape := ⟨4, ![4, 4, 1024, 1024]⟩
abbrev S16x3 : Shape := ⟨2, ![16, 3]⟩
abbrev S16 : Shape := ⟨1, ![16]⟩
abbrev S1 : Shape := ⟨1, ![1]⟩
abbrev S_ : Shape := ⟨0, ![]⟩
abbrev S1x1x1024x512 : Shape := ⟨4, ![1, 1, 1024, 512]⟩
abbrev S1024x512 : Shape := ⟨2, ![1024, 512]⟩
abbrev S1x1024x512 : Shape := ⟨3, ![1, 1024, 512]⟩
abbrev S1x1x256x1024 : Shape := ⟨4, ![1, 1, 256, 1024]⟩
abbrev S256x1024 : Shape := ⟨2, ![256, 1024]⟩
abbrev S1x256x1024 : Shape := ⟨3, ![1, 256, 1024]⟩
abbrev S1x1x1024x1536 : Shape := ⟨4, ![1, 1, 1024, 1536]⟩
abbrev S1024x1536 : Shape := ⟨2, ![1024, 1536]⟩
abbrev S1x1024x1536 : Shape := ⟨3, ![1, 1024, 1536]⟩
abbrev S1x1x512x1024 : Shape := ⟨4, ![1, 1, 512, 1024]⟩
abbrev S512x1024 : Shape := ⟨2, ![512, 1024]⟩
abbrev S1x512x1024 : Shape := ⟨3, ![1, 512, 1024]⟩
abbrev S1x1x1024x1024 : Shape := ⟨4, ![1, 1, 1024, 1024]⟩
abbrev S1024x1024 : Shape := ⟨2, ![1024, 1024]⟩
abbrev S1x1024x1024 : Shape := ⟨3, ![1, 1024, 1024]⟩
abbrev S1x1 : Shape := ⟨2, ![1, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x256x1024, .f32⟩
  | .hbm, ⟨3, _⟩ => ⟨S4x256x1024, .f32⟩
  | .hbm, ⟨4, _⟩ => ⟨S4x1024x1536, .f32⟩
  | .hbm, ⟨5, _⟩ => ⟨S4x1024x1536, .f32⟩
  | .hbm, ⟨6, _⟩ => ⟨S4x512x1024, .f32⟩
  | .hbm, ⟨7, _⟩ => ⟨S4x512x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S4x1024x1024, .f32⟩
  | .hbm, ⟨16, _⟩ => ⟨S2x4x1024x512, .f32⟩
  | .hbm, ⟨17, _⟩ => ⟨S2x4x256x1024, .f32⟩
  | .hbm, ⟨18, _⟩ => ⟨S2x4x1024x1536, .f32⟩
  | .hbm, ⟨19, _⟩ => ⟨S2x4x512x1024, .f32⟩
  | .hbm, ⟨20, _⟩ => ⟨S4x4x1024x1024, .f32⟩
  | .hbm, ⟨21, _⟩ => ⟨S4x4x1024x1024, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v1_4 : Ref sig .tc := ⟨.hbm, 20, rfl⟩
abbrev main_v1_5 : Ref sig .tc := ⟨.hbm, 21, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_117 : BitVec 32 := 0#32
  let c0_i32_118 : BitVec 32 := 0#32
  ![0, v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_119 : BitVec 32 := 0#32
  let c0_i32_120 : BitVec 32 := 0#32
  ![v10.toNat, 0, 0]
def k0_off3 (d0 : Dev nD) : Fin 4 → Nat :=
  let c1_i32_121 : BitVec 32 := 1#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_123 : BitVec 32 := 0#32
  let c0_i32_124 : BitVec 32 := 0#32
  ![1, v10.toNat, 0, 0]
def k0_off4 (d0 : Dev nD) : Fin 4 → Nat :=
  let c0_i32_127 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_129 : BitVec 32 := 0#32
  let c0_i32_130 : BitVec 32 := 0#32
  ![0, v10.toNat, 0, 0]
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_131 : BitVec 32 := 0#32
  let c0_i32_132 : BitVec 32 := 0#32
  ![v10.toNat, 0, 0]
def k0_off6 (d0 : Dev nD) : Fin 4 → Nat :=
  let c1_i32_133 : BitVec 32 := 1#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_134 : BitVec 32 := 0#32
  let c0_i32_135 : BitVec 32 := 0#32
  ![1, v10.toNat, 0, 0]
def k0_off7 (d0 : Dev nD) : Fin 4 → Nat :=
  let c0_i32_138 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_140 : BitVec 32 := 0#32
  let c0_i32_141 : BitVec 32 := 0#32
  ![0, v10.toNat, 0, 0]
def k0_off8 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_142 : BitVec 32 := 0#32
  let c0_i32_143 : BitVec 32 := 0#32
  ![v10.toNat, 0, 0]
def k0_off9 (d0 : Dev nD) : Fin 4 → Nat :=
  let c1_i32_144 : BitVec 32 := 1#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_145 : BitVec 32 := 0#32
  let c0_i32_146 : BitVec 32 := 0#32
  ![1, v10.toNat, 0, 0]
def k0_off10 (d0 : Dev nD) : Fin 4 → Nat :=
  let c0_i32_149 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_150 : BitVec 32 := 0#32
  let c0_i32_151 : BitVec 32 := 0#32
  ![0, v10.toNat, 0, 0]
def k0_off11 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_152 : BitVec 32 := 0#32
  let c0_i32_153 : BitVec 32 := 0#32
  ![v10.toNat, 0, 0]
def k0_off12 (d0 : Dev nD) : Fin 4 → Nat :=
  let c1_i32_154 : BitVec 32 := 1#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_155 : BitVec 32 := 0#32
  let c0_i32_156 : BitVec 32 := 0#32
  ![1, v10.toNat, 0, 0]
def k0_off13 (d0 : Dev nD) : Fin 4 → Nat :=
  let c0_i32_159 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_160 : BitVec 32 := 0#32
  let c0_i32_161 : BitVec 32 := 0#32
  ![0, v10.toNat, 0, 0]
def k0_off14 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_162 : BitVec 32 := 0#32
  let c0_i32_163 : BitVec 32 := 0#32
  ![v10.toNat, 0, 0]
def k0_off15 (d0 : Dev nD) : Fin 4 → Nat :=
  let c1_i32_164 : BitVec 32 := 1#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_165 : BitVec 32 := 0#32
  let c0_i32_166 : BitVec 32 := 0#32
  ![1, v10.toNat, 0, 0]
def k0_off16 (d0 : Dev nD) : Fin 4 → Nat :=
  let c2_i32_169 : BitVec 32 := 2#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_170 : BitVec 32 := 0#32
  let c0_i32_171 : BitVec 32 := 0#32
  ![2, v10.toNat, 0, 0]
def k0_off17 (d0 : Dev nD) : Fin 4 → Nat :=
  let c3_i32_174 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_175 : BitVec 32 := 0#32
  let c0_i32_176 : BitVec 32 := 0#32
  ![3, v10.toNat, 0, 0]
def k0_off18 (d0 : Dev nD) : Fin 3 → Nat :=
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_5 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let v13 : BitVec 32 := Scalar.addi v12 v11
  let c0_i32_210 : BitVec 32 := 0#32
  let c0_i32_211 : BitVec 32 := 0#32
  ![v13.toNat, 0, 0]
def k0_dev1 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v267 : BitVec 32 := Scalar.muli v2 c4_i32_204
  let v268 : BitVec 32 := Scalar.addi c0_i32_205 v267
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_206 : BitVec 32 := 2#32
  let v269 : BitVec 32 := Scalar.muli v11 c2_i32_206
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v271 : BitVec 32 := Scalar.muli v8 c1_i32_207
  let v272 : BitVec 32 := Scalar.addi v270 v271
  v272.toNat
def k0_off19 (d0 : Dev nD) : Fin 3 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_223 : BitVec 32 := 0#32
  let c0_i32_224 : BitVec 32 := 0#32
  ![v16.toNat, 0, 0]
def k0_dev2 (d0 : Dev nD) : Nat :=
  let c0_i32_218 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_217 : BitVec 32 := 4#32
  let v281 : BitVec 32 := Scalar.muli v14 c4_i32_217
  let v282 : BitVec 32 := Scalar.addi c0_i32_218 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v283 : BitVec 32 := Scalar.muli v5 c2_i32_219
  let v284 : BitVec 32 := Scalar.addi v282 v283
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v285 : BitVec 32 := Scalar.muli v8 c1_i32_220
  let v286 : BitVec 32 := Scalar.addi v284 v285
  v286.toNat
def k0_off20 (d0 : Dev nD) : Fin 3 → Nat :=
  let c2_i32_10 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v19 : BitVec 32 := Scalar.muli c2_i32_10 v17
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let v20 : BitVec 32 := Scalar.addi v19 v18
  let c0_i32_236 : BitVec 32 := 0#32
  let c0_i32_237 : BitVec 32 := 0#32
  ![v20.toNat, 0, 0]
def k0_dev3 (d0 : Dev nD) : Nat :=
  let c0_i32_231 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_230 : BitVec 32 := 4#32
  let v295 : BitVec 32 := Scalar.muli v17 c4_i32_230
  let v296 : BitVec 32 := Scalar.addi c0_i32_231 v295
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_232 : BitVec 32 := 2#32
  let v297 : BitVec 32 := Scalar.muli v18 c2_i32_232
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v299 : BitVec 32 := Scalar.muli v8 c1_i32_233
  let v300 : BitVec 32 := Scalar.addi v298 v299
  v300.toNat
def k0_dev4 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v309 : BitVec 32 := Scalar.muli v2 c4_i32_243
  let v310 : BitVec 32 := Scalar.addi c0_i32_244 v309
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_245 : BitVec 32 := 2#32
  let v311 : BitVec 32 := Scalar.muli v21 c2_i32_245
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v313 : BitVec 32 := Scalar.muli v8 c1_i32_246
  let v314 : BitVec 32 := Scalar.addi v312 v313
  v314.toNat
def k0_dev5 (d0 : Dev nD) : Nat :=
  let c0_i32_257 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_256 : BitVec 32 := 4#32
  let v323 : BitVec 32 := Scalar.muli v24 c4_i32_256
  let v324 : BitVec 32 := Scalar.addi c0_i32_257 v323
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v325 : BitVec 32 := Scalar.muli v5 c2_i32_258
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v327 : BitVec 32 := Scalar.muli v8 c1_i32_259
  let v328 : BitVec 32 := Scalar.addi v326 v327
  v328.toNat
def k0_dev6 (d0 : Dev nD) : Nat :=
  let c0_i32_270 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4_i32_269 : BitVec 32 := 4#32
  let v337 : BitVec 32 := Scalar.muli v27 c4_i32_269
  let v338 : BitVec 32 := Scalar.addi c0_i32_270 v337
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_16 v5
  let c2_i32_271 : BitVec 32 := 2#32
  let v339 : BitVec 32 := Scalar.muli v28 c2_i32_271
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v341 : BitVec 32 := Scalar.muli v8 c1_i32_272
  let v342 : BitVec 32 := Scalar.addi v340 v341
  v342.toNat
def k0_off21 (d0 : Dev nD) : Fin 3 → Nat :=
  let c2_i32_19 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.muli c2_i32_19 v2
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_18 v5
  let v33 : BitVec 32 := Scalar.addi v32 v31
  let c0_i32_288 : BitVec 32 := 0#32
  let c0_i32_289 : BitVec 32 := 0#32
  ![v33.toNat, 0, 0]
def k0_dev7 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v351 : BitVec 32 := Scalar.muli v2 c4_i32_282
  let v352 : BitVec 32 := Scalar.addi c0_i32_283 v351
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_18 v5
  let c2_i32_284 : BitVec 32 := 2#32
  let v353 : BitVec 32 := Scalar.muli v31 c2_i32_284
  let v354 : BitVec 32 := Scalar.addi v352 v353
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v355 : BitVec 32 := Scalar.muli v8 c1_i32_285
  let v356 : BitVec 32 := Scalar.addi v354 v355
  v356.toNat
def k0_off22 (d0 : Dev nD) : Fin 3 → Nat :=
  let c2_i32_21 : BitVec 32 := 2#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_20 v2
  let v35 : BitVec 32 := Scalar.muli c2_i32_21 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.addi v35 v5
  let c0_i32_301 : BitVec 32 := 0#32
  let c0_i32_302 : BitVec 32 := 0#32
  ![v36.toNat, 0, 0]
def k0_dev8 (d0 : Dev nD) : Nat :=
  let c0_i32_296 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_20 v2
  let c4_i32_295 : BitVec 32 := 4#32
  let v365 : BitVec 32 := Scalar.muli v34 c4_i32_295
  let v366 : BitVec 32 := Scalar.addi c0_i32_296 v365
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_297 : BitVec 32 := 2#32
  let v367 : BitVec 32 := Scalar.muli v5 c2_i32_297
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_298 : BitVec 32 := 1#32
  let v369 : BitVec 32 := Scalar.muli v8 c1_i32_298
  let v370 : BitVec 32 := Scalar.addi v368 v369
  v370.toNat
def k0_off23 (d0 : Dev nD) : Fin 3 → Nat :=
  let c2_i32_24 : BitVec 32 := 2#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_22 v2
  let v39 : BitVec 32 := Scalar.muli c2_i32_24 v37
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_23 v5
  let v40 : BitVec 32 := Scalar.addi v39 v38
  let c0_i32_314 : BitVec 32 := 0#32
  let c0_i32_315 : BitVec 32 := 0#32
  ![v40.toNat, 0, 0]
def k0_dev9 (d0 : Dev nD) : Nat :=
  let c0_i32_309 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_22 v2
  let c4_i32_308 : BitVec 32 := 4#32
  let v379 : BitVec 32 := Scalar.muli v37 c4_i32_308
  let v380 : BitVec 32 := Scalar.addi c0_i32_309 v379
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_23 v5
  let c2_i32_310 : BitVec 32 := 2#32
  let v381 : BitVec 32 := Scalar.muli v38 c2_i32_310
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_311 : BitVec 32 := 1#32
  let v383 : BitVec 32 := Scalar.muli v8 c1_i32_311
  let v384 : BitVec 32 := Scalar.addi v382 v383
  v384.toNat
def k0_dev10 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_321 : BitVec 32 := 4#32
  let v393 : BitVec 32 := Scalar.muli v2 c4_i32_321
  let v394 : BitVec 32 := Scalar.addi c0_i32_322 v393
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_25 v5
  let c2_i32_323 : BitVec 32 := 2#32
  let v395 : BitVec 32 := Scalar.muli v41 c2_i32_323
  let v396 : BitVec 32 := Scalar.addi v394 v395
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_324 : BitVec 32 := 1#32
  let v397 : BitVec 32 := Scalar.muli v8 c1_i32_324
  let v398 : BitVec 32 := Scalar.addi v396 v397
  v398.toNat
def k0_dev11 (d0 : Dev nD) : Nat :=
  let c0_i32_335 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_27 v2
  let c4_i32_334 : BitVec 32 := 4#32
  let v407 : BitVec 32 := Scalar.muli v44 c4_i32_334
  let v408 : BitVec 32 := Scalar.addi c0_i32_335 v407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v409 : BitVec 32 := Scalar.muli v5 c2_i32_336
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v411 : BitVec 32 := Scalar.muli v8 c1_i32_337
  let v412 : BitVec 32 := Scalar.addi v410 v411
  v412.toNat
def k0_dev12 (d0 : Dev nD) : Nat :=
  let c0_i32_348 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_29 v2
  let c4_i32_347 : BitVec 32 := 4#32
  let v421 : BitVec 32 := Scalar.muli v47 c4_i32_347
  let v422 : BitVec 32 := Scalar.addi c0_i32_348 v421
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_30 v5
  let c2_i32_349 : BitVec 32 := 2#32
  let v423 : BitVec 32 := Scalar.muli v48 c2_i32_349
  let v424 : BitVec 32 := Scalar.addi v422 v423
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v425 : BitVec 32 := Scalar.muli v8 c1_i32_350
  let v426 : BitVec 32 := Scalar.addi v424 v425
  v426.toNat
def k0_off24 (d0 : Dev nD) : Fin 3 → Nat :=
  let c2_i32_33 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v52 : BitVec 32 := Scalar.muli c2_i32_33 v2
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_32 v5
  let v53 : BitVec 32 := Scalar.addi v52 v51
  let c0_i32_366 : BitVec 32 := 0#32
  let c0_i32_367 : BitVec 32 := 0#32
  ![v53.toNat, 0, 0]
def k0_dev13 (d0 : Dev nD) : Nat :=
  let c0_i32_361 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_360 : BitVec 32 := 4#32
  let v435 : BitVec 32 := Scalar.muli v2 c4_i32_360
  let v436 : BitVec 32 := Scalar.addi c0_i32_361 v435
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_32 v5
  let c2_i32_362 : BitVec 32 := 2#32
  let v437 : BitVec 32 := Scalar.muli v51 c2_i32_362
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_363 : BitVec 32 := 1#32
  let v439 : BitVec 32 := Scalar.muli v8 c1_i32_363
  let v440 : BitVec 32 := Scalar.addi v438 v439
  v440.toNat
def k0_off25 (d0 : Dev nD) : Fin 3 → Nat :=
  let c2_i32_35 : BitVec 32 := 2#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v54 : BitVec 32 := Scalar.subi c1_i32_34 v2
  let v55 : BitVec 32 := Scalar.muli c2_i32_35 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.addi v55 v5
  let c0_i32_379 : BitVec 32 := 0#32
  let c0_i32_380 : BitVec 32 := 0#32
  ![v56.toNat, 0, 0]
def k0_dev14 (d0 : Dev nD) : Nat :=
  let c0_i32_374 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v54 : BitVec 32 := Scalar.subi c1_i32_34 v2
  let c4_i32_373 : BitVec 32 := 4#32
  let v449 : BitVec 32 := Scalar.muli v54 c4_i32_373
  let v450 : BitVec 32 := Scalar.addi c0_i32_374 v449
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_375 : BitVec 32 := 2#32
  let v451 : BitVec 32 := Scalar.muli v5 c2_i32_375
  let v452 : BitVec 32 := Scalar.addi v450 v451
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_376 : BitVec 32 := 1#32
  let v453 : BitVec 32 := Scalar.muli v8 c1_i32_376
  let v454 : BitVec 32 := Scalar.addi v452 v453
  v454.toNat
def k0_off26 (d0 : Dev nD) : Fin 3 → Nat :=
  let c2_i32_38 : BitVec 32 := 2#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_36 v2
  let v59 : BitVec 32 := Scalar.muli c2_i32_38 v57
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_37 v5
  let v60 : BitVec 32 := Scalar.addi v59 v58
  let c0_i32_392 : BitVec 32 := 0#32
  let c0_i32_393 : BitVec 32 := 0#32
  ![v60.toNat, 0, 0]
def k0_dev15 (d0 : Dev nD) : Nat :=
  let c0_i32_387 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_36 v2
  let c4_i32_386 : BitVec 32 := 4#32
  let v463 : BitVec 32 := Scalar.muli v57 c4_i32_386
  let v464 : BitVec 32 := Scalar.addi c0_i32_387 v463
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_37 v5
  let c2_i32_388 : BitVec 32 := 2#32
  let v465 : BitVec 32 := Scalar.muli v58 c2_i32_388
  let v466 : BitVec 32 := Scalar.addi v464 v465
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_389 : BitVec 32 := 1#32
  let v467 : BitVec 32 := Scalar.muli v8 c1_i32_389
  let v468 : BitVec 32 := Scalar.addi v466 v467
  v468.toNat
def k0_dev16 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v477 : BitVec 32 := Scalar.muli v2 c4_i32_399
  let v478 : BitVec 32 := Scalar.addi c0_i32_400 v477
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.subi c1_i32_39 v5
  let c2_i32_401 : BitVec 32 := 2#32
  let v479 : BitVec 32 := Scalar.muli v61 c2_i32_401
  let v480 : BitVec 32 := Scalar.addi v478 v479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_402 : BitVec 32 := 1#32
  let v481 : BitVec 32 := Scalar.muli v8 c1_i32_402
  let v482 : BitVec 32 := Scalar.addi v480 v481
  v482.toNat
def k0_dev17 (d0 : Dev nD) : Nat :=
  let c0_i32_413 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_412 : BitVec 32 := 4#32
  let v491 : BitVec 32 := Scalar.muli v64 c4_i32_412
  let v492 : BitVec 32 := Scalar.addi c0_i32_413 v491
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_414 : BitVec 32 := 2#32
  let v493 : BitVec 32 := Scalar.muli v5 c2_i32_414
  let v494 : BitVec 32 := Scalar.addi v492 v493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_415 : BitVec 32 := 1#32
  let v495 : BitVec 32 := Scalar.muli v8 c1_i32_415
  let v496 : BitVec 32 := Scalar.addi v494 v495
  v496.toNat
def k0_dev18 (d0 : Dev nD) : Nat :=
  let c0_i32_426 : BitVec 32 := 0#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v67 : BitVec 32 := Scalar.subi c1_i32_43 v2
  let c4_i32_425 : BitVec 32 := 4#32
  let v505 : BitVec 32 := Scalar.muli v67 c4_i32_425
  let v506 : BitVec 32 := Scalar.addi c0_i32_426 v505
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v68 : BitVec 32 := Scalar.subi c1_i32_44 v5
  let c2_i32_427 : BitVec 32 := 2#32
  let v507 : BitVec 32 := Scalar.muli v68 c2_i32_427
  let v508 : BitVec 32 := Scalar.addi v506 v507
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_428 : BitVec 32 := 1#32
  let v509 : BitVec 32 := Scalar.muli v8 c1_i32_428
  let v510 : BitVec 32 := Scalar.addi v508 v509
  v510.toNat
def k0_off27 (d0 : Dev nD) : Fin 3 → Nat :=
  let c2_i32_47 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.muli c2_i32_47 v2
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.addi v72 v71
  let c0_i32_444 : BitVec 32 := 0#32
  let c0_i32_445 : BitVec 32 := 0#32
  ![v73.toNat, 0, 0]
def k0_dev19 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v519 : BitVec 32 := Scalar.muli v2 c4_i32_438
  let v520 : BitVec 32 := Scalar.addi c0_i32_439 v519
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_440 : BitVec 32 := 2#32
  let v521 : BitVec 32 := Scalar.muli v71 c2_i32_440
  let v522 : BitVec 32 := Scalar.addi v520 v521
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_441 : BitVec 32 := 1#32
  let v523 : BitVec 32 := Scalar.muli v8 c1_i32_441
  let v524 : BitVec 32 := Scalar.addi v522 v523
  v524.toNat
def k0_off28 (d0 : Dev nD) : Fin 3 → Nat :=
  let c2_i32_49 : BitVec 32 := 2#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v74 : BitVec 32 := Scalar.subi c1_i32_48 v2
  let v75 : BitVec 32 := Scalar.muli c2_i32_49 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.addi v75 v5
  let c0_i32_457 : BitVec 32 := 0#32
  let c0_i32_458 : BitVec 32 := 0#32
  ![v76.toNat, 0, 0]
def k0_dev20 (d0 : Dev nD) : Nat :=
  let c0_i32_452 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v74 : BitVec 32 := Scalar.subi c1_i32_48 v2
  let c4_i32_451 : BitVec 32 := 4#32
  let v533 : BitVec 32 := Scalar.muli v74 c4_i32_451
  let v534 : BitVec 32 := Scalar.addi c0_i32_452 v533
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_453 : BitVec 32 := 2#32
  let v535 : BitVec 32 := Scalar.muli v5 c2_i32_453
  let v536 : BitVec 32 := Scalar.addi v534 v535
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v537 : BitVec 32 := Scalar.muli v8 c1_i32_454
  let v538 : BitVec 32 := Scalar.addi v536 v537
  v538.toNat
def k0_off29 (d0 : Dev nD) : Fin 3 → Nat :=
  let c2_i32_52 : BitVec 32 := 2#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_50 v2
  let v79 : BitVec 32 := Scalar.muli c2_i32_52 v77
  let c1_i32_51 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_51 v5
  let v80 : BitVec 32 := Scalar.addi v79 v78
  let c0_i32_470 : BitVec 32 := 0#32
  let c0_i32_471 : BitVec 32 := 0#32
  ![v80.toNat, 0, 0]
def k0_dev21 (d0 : Dev nD) : Nat :=
  let c0_i32_465 : BitVec 32 := 0#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_50 v2
  let c4_i32_464 : BitVec 32 := 4#32
  let v547 : BitVec 32 := Scalar.muli v77 c4_i32_464
  let v548 : BitVec 32 := Scalar.addi c0_i32_465 v547
  let c1_i32_51 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_51 v5
  let c2_i32_466 : BitVec 32 := 2#32
  let v549 : BitVec 32 := Scalar.muli v78 c2_i32_466
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_467 : BitVec 32 := 1#32
  let v551 : BitVec 32 := Scalar.muli v8 c1_i32_467
  let v552 : BitVec 32 := Scalar.addi v550 v551
  v552.toNat
def k0_dev22 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_477 : BitVec 32 := 4#32
  let v561 : BitVec 32 := Scalar.muli v2 c4_i32_477
  let v562 : BitVec 32 := Scalar.addi c0_i32_478 v561
  let c1_i32_53 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v81 : BitVec 32 := Scalar.subi c1_i32_53 v5
  let c2_i32_479 : BitVec 32 := 2#32
  let v563 : BitVec 32 := Scalar.muli v81 c2_i32_479
  let v564 : BitVec 32 := Scalar.addi v562 v563
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_480 : BitVec 32 := 1#32
  let v565 : BitVec 32 := Scalar.muli v8 c1_i32_480
  let v566 : BitVec 32 := Scalar.addi v564 v565
  v566.toNat
def k0_dev23 (d0 : Dev nD) : Nat :=
  let c0_i32_491 : BitVec 32 := 0#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v84 : BitVec 32 := Scalar.subi c1_i32_55 v2
  let c4_i32_490 : BitVec 32 := 4#32
  let v575 : BitVec 32 := Scalar.muli v84 c4_i32_490
  let v576 : BitVec 32 := Scalar.addi c0_i32_491 v575
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_492 : BitVec 32 := 2#32
  let v577 : BitVec 32 := Scalar.muli v5 c2_i32_492
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_493 : BitVec 32 := 1#32
  let v579 : BitVec 32 := Scalar.muli v8 c1_i32_493
  let v580 : BitVec 32 := Scalar.addi v578 v579
  v580.toNat
def k0_dev24 (d0 : Dev nD) : Nat :=
  let c0_i32_504 : BitVec 32 := 0#32
  let c1_i32_57 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v87 : BitVec 32 := Scalar.subi c1_i32_57 v2
  let c4_i32_503 : BitVec 32 := 4#32
  let v589 : BitVec 32 := Scalar.muli v87 c4_i32_503
  let v590 : BitVec 32 := Scalar.addi c0_i32_504 v589
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v88 : BitVec 32 := Scalar.subi c1_i32_58 v5
  let c2_i32_505 : BitVec 32 := 2#32
  let v591 : BitVec 32 := Scalar.muli v88 c2_i32_505
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_506 : BitVec 32 := 1#32
  let v593 : BitVec 32 := Scalar.muli v8 c1_i32_506
  let v594 : BitVec 32 := Scalar.addi v592 v593
  v594.toNat
def k0_off30 (d0 : Dev nD) : Fin 3 → Nat :=
  let c2_i32_61 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.muli c2_i32_61 v2
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_60 v5
  let v93 : BitVec 32 := Scalar.addi v92 v91
  let c0_i32_522 : BitVec 32 := 0#32
  let c0_i32_523 : BitVec 32 := 0#32
  ![v93.toNat, 0, 0]
def k0_dev25 (d0 : Dev nD) : Nat :=
  let c0_i32_517 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_516 : BitVec 32 := 4#32
  let v603 : BitVec 32 := Scalar.muli v2 c4_i32_516
  let v604 : BitVec 32 := Scalar.addi c0_i32_517 v603
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_60 v5
  let c2_i32_518 : BitVec 32 := 2#32
  let v605 : BitVec 32 := Scalar.muli v91 c2_i32_518
  let v606 : BitVec 32 := Scalar.addi v604 v605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_519 : BitVec 32 := 1#32
  let v607 : BitVec 32 := Scalar.muli v8 c1_i32_519
  let v608 : BitVec 32 := Scalar.addi v606 v607
  v608.toNat
def k0_off31 (d0 : Dev nD) : Fin 3 → Nat :=
  let c2_i32_63 : BitVec 32 := 2#32
  let c1_i32_62 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_62 v2
  let v95 : BitVec 32 := Scalar.muli c2_i32_63 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v96 : BitVec 32 := Scalar.addi v95 v5
  let c0_i32_535 : BitVec 32 := 0#32
  let c0_i32_536 : BitVec 32 := 0#32
  ![v96.toNat, 0, 0]
def k0_dev26 (d0 : Dev nD) : Nat :=
  let c0_i32_530 : BitVec 32 := 0#32
  let c1_i32_62 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_62 v2
  let c4_i32_529 : BitVec 32 := 4#32
  let v617 : BitVec 32 := Scalar.muli v94 c4_i32_529
  let v618 : BitVec 32 := Scalar.addi c0_i32_530 v617
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_531 : BitVec 32 := 2#32
  let v619 : BitVec 32 := Scalar.muli v5 c2_i32_531
  let v620 : BitVec 32 := Scalar.addi v618 v619
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_532 : BitVec 32 := 1#32
  let v621 : BitVec 32 := Scalar.muli v8 c1_i32_532
  let v622 : BitVec 32 := Scalar.addi v620 v621
  v622.toNat
def k0_off32 (d0 : Dev nD) : Fin 3 → Nat :=
  let c2_i32_66 : BitVec 32 := 2#32
  let c1_i32_64 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_64 v2
  let v99 : BitVec 32 := Scalar.muli c2_i32_66 v97
  let c1_i32_65 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_65 v5
  let v100 : BitVec 32 := Scalar.addi v99 v98
  let c0_i32_548 : BitVec 32 := 0#32
  let c0_i32_549 : BitVec 32 := 0#32
  ![v100.toNat, 0, 0]
def k0_dev27 (d0 : Dev nD) : Nat :=
  let c0_i32_543 : BitVec 32 := 0#32
  let c1_i32_64 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_64 v2
  let c4_i32_542 : BitVec 32 := 4#32
  let v631 : BitVec 32 := Scalar.muli v97 c4_i32_542
  let v632 : BitVec 32 := Scalar.addi c0_i32_543 v631
  let c1_i32_65 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_65 v5
  let c2_i32_544 : BitVec 32 := 2#32
  let v633 : BitVec 32 := Scalar.muli v98 c2_i32_544
  let v634 : BitVec 32 := Scalar.addi v632 v633
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_545 : BitVec 32 := 1#32
  let v635 : BitVec 32 := Scalar.muli v8 c1_i32_545
  let v636 : BitVec 32 := Scalar.addi v634 v635
  v636.toNat
def k0_dev28 (d0 : Dev nD) : Nat :=
  let c0_i32_556 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_555 : BitVec 32 := 4#32
  let v645 : BitVec 32 := Scalar.muli v2 c4_i32_555
  let v646 : BitVec 32 := Scalar.addi c0_i32_556 v645
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v101 : BitVec 32 := Scalar.subi c1_i32_67 v5
  let c2_i32_557 : BitVec 32 := 2#32
  let v647 : BitVec 32 := Scalar.muli v101 c2_i32_557
  let v648 : BitVec 32 := Scalar.addi v646 v647
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_558 : BitVec 32 := 1#32
  let v649 : BitVec 32 := Scalar.muli v8 c1_i32_558
  let v650 : BitVec 32 := Scalar.addi v648 v649
  v650.toNat
def k0_dev29 (d0 : Dev nD) : Nat :=
  let c0_i32_569 : BitVec 32 := 0#32
  let c1_i32_69 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_69 v2
  let c4_i32_568 : BitVec 32 := 4#32
  let v659 : BitVec 32 := Scalar.muli v104 c4_i32_568
  let v660 : BitVec 32 := Scalar.addi c0_i32_569 v659
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_570 : BitVec 32 := 2#32
  let v661 : BitVec 32 := Scalar.muli v5 c2_i32_570
  let v662 : BitVec 32 := Scalar.addi v660 v661
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_571 : BitVec 32 := 1#32
  let v663 : BitVec 32 := Scalar.muli v8 c1_i32_571
  let v664 : BitVec 32 := Scalar.addi v662 v663
  v664.toNat
def k0_dev30 (d0 : Dev nD) : Nat :=
  let c0_i32_582 : BitVec 32 := 0#32
  let c1_i32_71 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v107 : BitVec 32 := Scalar.subi c1_i32_71 v2
  let c4_i32_581 : BitVec 32 := 4#32
  let v673 : BitVec 32 := Scalar.muli v107 c4_i32_581
  let v674 : BitVec 32 := Scalar.addi c0_i32_582 v673
  let c1_i32_72 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v108 : BitVec 32 := Scalar.subi c1_i32_72 v5
  let c2_i32_583 : BitVec 32 := 2#32
  let v675 : BitVec 32 := Scalar.muli v108 c2_i32_583
  let v676 : BitVec 32 := Scalar.addi v674 v675
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_584 : BitVec 32 := 1#32
  let v677 : BitVec 32 := Scalar.muli v8 c1_i32_584
  let v678 : BitVec 32 := Scalar.addi v676 v677
  v678.toNat
def k0_dev31 (d0 : Dev nD) : Nat :=
  let c0_i32_595 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_594 : BitVec 32 := 4#32
  let v687 : BitVec 32 := Scalar.muli v2 c4_i32_594
  let v688 : BitVec 32 := Scalar.addi c0_i32_595 v687
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_74 v5
  let c2_i32_596 : BitVec 32 := 2#32
  let v689 : BitVec 32 := Scalar.muli v111 c2_i32_596
  let v690 : BitVec 32 := Scalar.addi v688 v689
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_597 : BitVec 32 := 1#32
  let v691 : BitVec 32 := Scalar.muli v8 c1_i32_597
  let v692 : BitVec 32 := Scalar.addi v690 v691
  v692.toNat
def k0_dev32 (d0 : Dev nD) : Nat :=
  let c0_i32_608 : BitVec 32 := 0#32
  let c1_i32_76 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_76 v2
  let c4_i32_607 : BitVec 32 := 4#32
  let v701 : BitVec 32 := Scalar.muli v114 c4_i32_607
  let v702 : BitVec 32 := Scalar.addi c0_i32_608 v701
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_609 : BitVec 32 := 2#32
  let v703 : BitVec 32 := Scalar.muli v5 c2_i32_609
  let v704 : BitVec 32 := Scalar.addi v702 v703
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_610 : BitVec 32 := 1#32
  let v705 : BitVec 32 := Scalar.muli v8 c1_i32_610
  let v706 : BitVec 32 := Scalar.addi v704 v705
  v706.toNat
def k0_dev33 (d0 : Dev nD) : Nat :=
  let c0_i32_621 : BitVec 32 := 0#32
  let c1_i32_78 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v117 : BitVec 32 := Scalar.subi c1_i32_78 v2
  let c4_i32_620 : BitVec 32 := 4#32
  let v715 : BitVec 32 := Scalar.muli v117 c4_i32_620
  let v716 : BitVec 32 := Scalar.addi c0_i32_621 v715
  let c1_i32_79 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v118 : BitVec 32 := Scalar.subi c1_i32_79 v5
  let c2_i32_622 : BitVec 32 := 2#32
  let v717 : BitVec 32 := Scalar.muli v118 c2_i32_622
  let v718 : BitVec 32 := Scalar.addi v716 v717
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_623 : BitVec 32 := 1#32
  let v719 : BitVec 32 := Scalar.muli v8 c1_i32_623
  let v720 : BitVec 32 := Scalar.addi v718 v719
  v720.toNat
def k0_dev34 (d0 : Dev nD) : Nat :=
  let c0_i32_634 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_633 : BitVec 32 := 4#32
  let v729 : BitVec 32 := Scalar.muli v2 c4_i32_633
  let v730 : BitVec 32 := Scalar.addi c0_i32_634 v729
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_81 v5
  let c2_i32_635 : BitVec 32 := 2#32
  let v731 : BitVec 32 := Scalar.muli v121 c2_i32_635
  let v732 : BitVec 32 := Scalar.addi v730 v731
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_636 : BitVec 32 := 1#32
  let v733 : BitVec 32 := Scalar.muli v8 c1_i32_636
  let v734 : BitVec 32 := Scalar.addi v732 v733
  v734.toNat
def k0_dev35 (d0 : Dev nD) : Nat :=
  let c0_i32_647 : BitVec 32 := 0#32
  let c1_i32_83 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v124 : BitVec 32 := Scalar.subi c1_i32_83 v2
  let c4_i32_646 : BitVec 32 := 4#32
  let v743 : BitVec 32 := Scalar.muli v124 c4_i32_646
  let v744 : BitVec 32 := Scalar.addi c0_i32_647 v743
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_648 : BitVec 32 := 2#32
  let v745 : BitVec 32 := Scalar.muli v5 c2_i32_648
  let v746 : BitVec 32 := Scalar.addi v744 v745
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_649 : BitVec 32 := 1#32
  let v747 : BitVec 32 := Scalar.muli v8 c1_i32_649
  let v748 : BitVec 32 := Scalar.addi v746 v747
  v748.toNat
def k0_dev36 (d0 : Dev nD) : Nat :=
  let c0_i32_660 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v127 : BitVec 32 := Scalar.subi c1_i32_85 v2
  let c4_i32_659 : BitVec 32 := 4#32
  let v757 : BitVec 32 := Scalar.muli v127 c4_i32_659
  let v758 : BitVec 32 := Scalar.addi c0_i32_660 v757
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v128 : BitVec 32 := Scalar.subi c1_i32_86 v5
  let c2_i32_661 : BitVec 32 := 2#32
  let v759 : BitVec 32 := Scalar.muli v128 c2_i32_661
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_662 : BitVec 32 := 1#32
  let v761 : BitVec 32 := Scalar.muli v8 c1_i32_662
  let v762 : BitVec 32 := Scalar.addi v760 v761
  v762.toNat
def k0_dev37 (d0 : Dev nD) : Nat :=
  let c0_i32_673 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_672 : BitVec 32 := 4#32
  let v771 : BitVec 32 := Scalar.muli v2 c4_i32_672
  let v772 : BitVec 32 := Scalar.addi c0_i32_673 v771
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v131 : BitVec 32 := Scalar.subi c1_i32_88 v5
  let c2_i32_674 : BitVec 32 := 2#32
  let v773 : BitVec 32 := Scalar.muli v131 c2_i32_674
  let v774 : BitVec 32 := Scalar.addi v772 v773
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_675 : BitVec 32 := 1#32
  let v775 : BitVec 32 := Scalar.muli v8 c1_i32_675
  let v776 : BitVec 32 := Scalar.addi v774 v775
  v776.toNat
def k0_dev38 (d0 : Dev nD) : Nat :=
  let c0_i32_686 : BitVec 32 := 0#32
  let c1_i32_90 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_90 v2
  let c4_i32_685 : BitVec 32 := 4#32
  let v785 : BitVec 32 := Scalar.muli v134 c4_i32_685
  let v786 : BitVec 32 := Scalar.addi c0_i32_686 v785
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_687 : BitVec 32 := 2#32
  let v787 : BitVec 32 := Scalar.muli v5 c2_i32_687
  let v788 : BitVec 32 := Scalar.addi v786 v787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_688 : BitVec 32 := 1#32
  let v789 : BitVec 32 := Scalar.muli v8 c1_i32_688
  let v790 : BitVec 32 := Scalar.addi v788 v789
  v790.toNat
def k0_dev39 (d0 : Dev nD) : Nat :=
  let c0_i32_699 : BitVec 32 := 0#32
  let c1_i32_92 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v137 : BitVec 32 := Scalar.subi c1_i32_92 v2
  let c4_i32_698 : BitVec 32 := 4#32
  let v799 : BitVec 32 := Scalar.muli v137 c4_i32_698
  let v800 : BitVec 32 := Scalar.addi c0_i32_699 v799
  let c1_i32_93 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_93 v5
  let c2_i32_700 : BitVec 32 := 2#32
  let v801 : BitVec 32 := Scalar.muli v138 c2_i32_700
  let v802 : BitVec 32 := Scalar.addi v800 v801
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_701 : BitVec 32 := 1#32
  let v803 : BitVec 32 := Scalar.muli v8 c1_i32_701
  let v804 : BitVec 32 := Scalar.addi v802 v803
  v804.toNat
def k0_dev40 (d0 : Dev nD) : Nat :=
  let c0_i32_712 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_711 : BitVec 32 := 4#32
  let v813 : BitVec 32 := Scalar.muli v2 c4_i32_711
  let v814 : BitVec 32 := Scalar.addi c0_i32_712 v813
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v141 : BitVec 32 := Scalar.subi c1_i32_95 v5
  let c2_i32_713 : BitVec 32 := 2#32
  let v815 : BitVec 32 := Scalar.muli v141 c2_i32_713
  let v816 : BitVec 32 := Scalar.addi v814 v815
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_714 : BitVec 32 := 1#32
  let v817 : BitVec 32 := Scalar.muli v8 c1_i32_714
  let v818 : BitVec 32 := Scalar.addi v816 v817
  v818.toNat
def k0_dev41 (d0 : Dev nD) : Nat :=
  let c0_i32_725 : BitVec 32 := 0#32
  let c1_i32_97 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v144 : BitVec 32 := Scalar.subi c1_i32_97 v2
  let c4_i32_724 : BitVec 32 := 4#32
  let v827 : BitVec 32 := Scalar.muli v144 c4_i32_724
  let v828 : BitVec 32 := Scalar.addi c0_i32_725 v827
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_726 : BitVec 32 := 2#32
  let v829 : BitVec 32 := Scalar.muli v5 c2_i32_726
  let v830 : BitVec 32 := Scalar.addi v828 v829
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_727 : BitVec 32 := 1#32
  let v831 : BitVec 32 := Scalar.muli v8 c1_i32_727
  let v832 : BitVec 32 := Scalar.addi v830 v831
  v832.toNat
def k0_dev42 (d0 : Dev nD) : Nat :=
  let c0_i32_738 : BitVec 32 := 0#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v147 : BitVec 32 := Scalar.subi c1_i32_99 v2
  let c4_i32_737 : BitVec 32 := 4#32
  let v841 : BitVec 32 := Scalar.muli v147 c4_i32_737
  let v842 : BitVec 32 := Scalar.addi c0_i32_738 v841
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v148 : BitVec 32 := Scalar.subi c1_i32_100 v5
  let c2_i32_739 : BitVec 32 := 2#32
  let v843 : BitVec 32 := Scalar.muli v148 c2_i32_739
  let v844 : BitVec 32 := Scalar.addi v842 v843
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_740 : BitVec 32 := 1#32
  let v845 : BitVec 32 := Scalar.muli v8 c1_i32_740
  let v846 : BitVec 32 := Scalar.addi v844 v845
  v846.toNat
def k0_dev43 (d0 : Dev nD) : Nat :=
  let c0_i32_751 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_750 : BitVec 32 := 4#32
  let v855 : BitVec 32 := Scalar.muli v2 c4_i32_750
  let v856 : BitVec 32 := Scalar.addi c0_i32_751 v855
  let c1_i32_102 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v151 : BitVec 32 := Scalar.subi c1_i32_102 v5
  let c2_i32_752 : BitVec 32 := 2#32
  let v857 : BitVec 32 := Scalar.muli v151 c2_i32_752
  let v858 : BitVec 32 := Scalar.addi v856 v857
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_753 : BitVec 32 := 1#32
  let v859 : BitVec 32 := Scalar.muli v8 c1_i32_753
  let v860 : BitVec 32 := Scalar.addi v858 v859
  v860.toNat
def k0_dev44 (d0 : Dev nD) : Nat :=
  let c0_i32_764 : BitVec 32 := 0#32
  let c1_i32_104 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v154 : BitVec 32 := Scalar.subi c1_i32_104 v2
  let c4_i32_763 : BitVec 32 := 4#32
  let v869 : BitVec 32 := Scalar.muli v154 c4_i32_763
  let v870 : BitVec 32 := Scalar.addi c0_i32_764 v869
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_765 : BitVec 32 := 2#32
  let v871 : BitVec 32 := Scalar.muli v5 c2_i32_765
  let v872 : BitVec 32 := Scalar.addi v870 v871
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_766 : BitVec 32 := 1#32
  let v873 : BitVec 32 := Scalar.muli v8 c1_i32_766
  let v874 : BitVec 32 := Scalar.addi v872 v873
  v874.toNat
def k0_dev45 (d0 : Dev nD) : Nat :=
  let c0_i32_777 : BitVec 32 := 0#32
  let c1_i32_106 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v157 : BitVec 32 := Scalar.subi c1_i32_106 v2
  let c4_i32_776 : BitVec 32 := 4#32
  let v883 : BitVec 32 := Scalar.muli v157 c4_i32_776
  let v884 : BitVec 32 := Scalar.addi c0_i32_777 v883
  let c1_i32_107 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v158 : BitVec 32 := Scalar.subi c1_i32_107 v5
  let c2_i32_778 : BitVec 32 := 2#32
  let v885 : BitVec 32 := Scalar.muli v158 c2_i32_778
  let v886 : BitVec 32 := Scalar.addi v884 v885
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_779 : BitVec 32 := 1#32
  let v887 : BitVec 32 := Scalar.muli v8 c1_i32_779
  let v888 : BitVec 32 := Scalar.addi v886 v887
  v888.toNat
def k0_dev46 (d0 : Dev nD) : Nat :=
  let c0_i32_790 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_789 : BitVec 32 := 4#32
  let v897 : BitVec 32 := Scalar.muli v2 c4_i32_789
  let v898 : BitVec 32 := Scalar.addi c0_i32_790 v897
  let c1_i32_109 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.subi c1_i32_109 v5
  let c2_i32_791 : BitVec 32 := 2#32
  let v899 : BitVec 32 := Scalar.muli v161 c2_i32_791
  let v900 : BitVec 32 := Scalar.addi v898 v899
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_792 : BitVec 32 := 1#32
  let v901 : BitVec 32 := Scalar.muli v8 c1_i32_792
  let v902 : BitVec 32 := Scalar.addi v900 v901
  v902.toNat
def k0_dev47 (d0 : Dev nD) : Nat :=
  let c0_i32_803 : BitVec 32 := 0#32
  let c1_i32_111 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v164 : BitVec 32 := Scalar.subi c1_i32_111 v2
  let c4_i32_802 : BitVec 32 := 4#32
  let v911 : BitVec 32 := Scalar.muli v164 c4_i32_802
  let v912 : BitVec 32 := Scalar.addi c0_i32_803 v911
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_804 : BitVec 32 := 2#32
  let v913 : BitVec 32 := Scalar.muli v5 c2_i32_804
  let v914 : BitVec 32 := Scalar.addi v912 v913
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_805 : BitVec 32 := 1#32
  let v915 : BitVec 32 := Scalar.muli v8 c1_i32_805
  let v916 : BitVec 32 := Scalar.addi v914 v915
  v916.toNat
def k0_dev48 (d0 : Dev nD) : Nat :=
  let c0_i32_816 : BitVec 32 := 0#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v167 : BitVec 32 := Scalar.subi c1_i32_113 v2
  let c4_i32_815 : BitVec 32 := 4#32
  let v925 : BitVec 32 := Scalar.muli v167 c4_i32_815
  let v926 : BitVec 32 := Scalar.addi c0_i32_816 v925
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v168 : BitVec 32 := Scalar.subi c1_i32_114 v5
  let c2_i32_817 : BitVec 32 := 2#32
  let v927 : BitVec 32 := Scalar.muli v168 c2_i32_817
  let v928 : BitVec 32 := Scalar.addi v926 v927
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_818 : BitVec 32 := 1#32
  let v929 : BitVec 32 := Scalar.muli v8 c1_i32_818
  let v930 : BitVec 32 := Scalar.addi v928 v929
  v930.toNat
def k0_off33 (d0 : Dev nD) : Fin 4 → Nat :=
  let c0_i32_823 : BitVec 32 := 0#32
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_5 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let v13 : BitVec 32 := Scalar.addi v12 v11
  let c0_i32_832 : BitVec 32 := 0#32
  let c0_i32_833 : BitVec 32 := 0#32
  ![0, v13.toNat, 0, 0]
def k0_off34 (d0 : Dev nD) : Fin 4 → Nat :=
  let c0_i32_836 : BitVec 32 := 0#32
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_845 : BitVec 32 := 0#32
  let c0_i32_846 : BitVec 32 := 0#32
  ![0, v16.toNat, 0, 0]
def k0_off35 (d0 : Dev nD) : Fin 4 → Nat :=
  let c0_i32_849 : BitVec 32 := 0#32
  let c2_i32_10 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v19 : BitVec 32 := Scalar.muli c2_i32_10 v17
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let v20 : BitVec 32 := Scalar.addi v19 v18
  let c0_i32_858 : BitVec 32 := 0#32
  let c0_i32_859 : BitVec 32 := 0#32
  ![0, v20.toNat, 0, 0]
def k0_off36 (d0 : Dev nD) : Fin 4 → Nat :=
  let c1_i32_862 : BitVec 32 := 1#32
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c2_i32_12 v2
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let v23 : BitVec 32 := Scalar.addi v22 v21
  let c0_i32_871 : BitVec 32 := 0#32
  let c0_i32_872 : BitVec 32 := 0#32
  ![1, v23.toNat, 0, 0]
def k0_off37 (d0 : Dev nD) : Fin 4 → Nat :=
  let c1_i32_875 : BitVec 32 := 1#32
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let v25 : BitVec 32 := Scalar.muli c2_i32_14 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.addi v25 v5
  let c0_i32_884 : BitVec 32 := 0#32
  let c0_i32_885 : BitVec 32 := 0#32
  ![1, v26.toNat, 0, 0]
def k0_off38 (d0 : Dev nD) : Fin 4 → Nat :=
  let c1_i32_888 : BitVec 32 := 1#32
  let c2_i32_17 : BitVec 32 := 2#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let v29 : BitVec 32 := Scalar.muli c2_i32_17 v27
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_16 v5
  let v30 : BitVec 32 := Scalar.addi v29 v28
  let c0_i32_897 : BitVec 32 := 0#32
  let c0_i32_898 : BitVec 32 := 0#32
  ![1, v30.toNat, 0, 0]
def k0_off39 (d0 : Dev nD) : Fin 4 → Nat :=
  let c0_i32_901 : BitVec 32 := 0#32
  let c2_i32_19 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.muli c2_i32_19 v2
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_18 v5
  let v33 : BitVec 32 := Scalar.addi v32 v31
  let c0_i32_910 : BitVec 32 := 0#32
  let c0_i32_911 : BitVec 32 := 0#32
  ![0, v33.toNat, 0, 0]
def k0_off40 (d0 : Dev nD) : Fin 4 → Nat :=
  let c0_i32_914 : BitVec 32 := 0#32
  let c2_i32_21 : BitVec 32 := 2#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_20 v2
  let v35 : BitVec 32 := Scalar.muli c2_i32_21 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.addi v35 v5
  let c0_i32_923 : BitVec 32 := 0#32
  let c0_i32_924 : BitVec 32 := 0#32
  ![0, v36.toNat, 0, 0]
def k0_off41 (d0 : Dev nD) : Fin 4 → Nat :=
  let c0_i32_927 : BitVec 32 := 0#32
  let c2_i32_24 : BitVec 32 := 2#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_22 v2
  let v39 : BitVec 32 := Scalar.muli c2_i32_24 v37
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_23 v5
  let v40 : BitVec 32 := Scalar.addi v39 v38
  let c0_i32_936 : BitVec 32 := 0#32
  let c0_i32_937 : BitVec 32 := 0#32
  ![0, v40.toNat, 0, 0]
def k0_off42 (d0 : Dev nD) : Fin 4 → Nat :=
  let c1_i32_940 : BitVec 32 := 1#32
  let c2_i32_26 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.muli c2_i32_26 v2
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_25 v5
  let v43 : BitVec 32 := Scalar.addi v42 v41
  let c0_i32_949 : BitVec 32 := 0#32
  let c0_i32_950 : BitVec 32 := 0#32
  ![1, v43.toNat, 0, 0]
def k0_off43 (d0 : Dev nD) : Fin 4 → Nat :=
  let c1_i32_953 : BitVec 32 := 1#32
  let c2_i32_28 : BitVec 32 := 2#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_27 v2
  let v45 : BitVec 32 := Scalar.muli c2_i32_28 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.addi v45 v5
  let c0_i32_962 : BitVec 32 := 0#32
  let c0_i32_963 : BitVec 32 := 0#32
  ![1, v46.toNat, 0, 0]
def k0_off44 (d0 : Dev nD) : Fin 4 → Nat :=
  let c1_i32_966 : BitVec 32 := 1#32
  let c2_i32_31 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_29 v2
  let v49 : BitVec 32 := Scalar.muli c2_i32_31 v47
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_30 v5
  let v50 : BitVec 32 := Scalar.addi v49 v48
  let c0_i32_975 : BitVec 32 := 0#32
  let c0_i32_976 : BitVec 32 := 0#32
  ![1, v50.toNat, 0, 0]
def k0_off45 (d0 : Dev nD) : Fin 4 → Nat :=
  let c0_i32_979 : BitVec 32 := 0#32
  let c2_i32_33 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v52 : BitVec 32 := Scalar.muli c2_i32_33 v2
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_32 v5
  let v53 : BitVec 32 := Scalar.addi v52 v51
  let c0_i32_988 : BitVec 32 := 0#32
  let c0_i32_989 : BitVec 32 := 0#32
  ![0, v53.toNat, 0, 0]
def k0_off46 (d0 : Dev nD) : Fin 4 → Nat :=
  let c0_i32_992 : BitVec 32 := 0#32
  let c2_i32_35 : BitVec 32 := 2#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v54 : BitVec 32 := Scalar.subi c1_i32_34 v2
  let v55 : BitVec 32 := Scalar.muli c2_i32_35 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.addi v55 v5
  let c0_i32_1001 : BitVec 32 := 0#32
  let c0_i32_1002 : BitVec 32 := 0#32
  ![0, v56.toNat, 0, 0]
def k0_off47 (d0 : Dev nD) : Fin 4 → Nat :=
  let c0_i32_1005 : BitVec 32 := 0#32
  let c2_i32_38 : BitVec 32 := 2#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_36 v2
  let v59 : BitVec 32 := Scalar.muli c2_i32_38 v57
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_37 v5
  let v60 : BitVec 32 := Scalar.addi v59 v58
  let c0_i32_1014 : BitVec 32 := 0#32
  let c0_i32_1015 : BitVec 32 := 0#32
  ![0, v60.toNat, 0, 0]
def k0_off48 (d0 : Dev nD) : Fin 4 → Nat :=
  let c1_i32_1018 : BitVec 32 := 1#32
  let c2_i32_40 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.muli c2_i32_40 v2
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.subi c1_i32_39 v5
  let v63 : BitVec 32 := Scalar.addi v62 v61
  let c0_i32_1027 : BitVec 32 := 0#32
  let c0_i32_1028 : BitVec 32 := 0#32
  ![1, v63.toNat, 0, 0]
def k0_off49 (d0 : Dev nD) : Fin 4 → Nat :=
  let c1_i32_1031 : BitVec 32 := 1#32
  let c2_i32_42 : BitVec 32 := 2#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let v65 : BitVec 32 := Scalar.muli c2_i32_42 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.addi v65 v5
  let c0_i32_1040 : BitVec 32 := 0#32
  let c0_i32_1041 : BitVec 32 := 0#32
  ![1, v66.toNat, 0, 0]
def k0_off50 (d0 : Dev nD) : Fin 4 → Nat :=
  let c1_i32_1044 : BitVec 32 := 1#32
  let c2_i32_45 : BitVec 32 := 2#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v67 : BitVec 32 := Scalar.subi c1_i32_43 v2
  let v69 : BitVec 32 := Scalar.muli c2_i32_45 v67
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v68 : BitVec 32 := Scalar.subi c1_i32_44 v5
  let v70 : BitVec 32 := Scalar.addi v69 v68
  let c0_i32_1053 : BitVec 32 := 0#32
  let c0_i32_1054 : BitVec 32 := 0#32
  ![1, v70.toNat, 0, 0]
def k0_off51 (d0 : Dev nD) : Fin 4 → Nat :=
  let c0_i32_1057 : BitVec 32 := 0#32
  let c2_i32_47 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.muli c2_i32_47 v2
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.addi v72 v71
  let c0_i32_1066 : BitVec 32 := 0#32
  let c0_i32_1067 : BitVec 32 := 0#32
  ![0, v73.toNat, 0, 0]
def k0_off52 (d0 : Dev nD) : Fin 4 → Nat :=
  let c0_i32_1070 : BitVec 32 := 0#32
  let c2_i32_49 : BitVec 32 := 2#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v74 : BitVec 32 := Scalar.subi c1_i32_48 v2
  let v75 : BitVec 32 := Scalar.muli c2_i32_49 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.addi v75 v5
  let c0_i32_1079 : BitVec 32 := 0#32
  let c0_i32_1080 : BitVec 32 := 0#32
  ![0, v76.toNat, 0, 0]
def k0_off53 (d0 : Dev nD) : Fin 4 → Nat :=
  let c0_i32_1083 : BitVec 32 := 0#32
  let c2_i32_52 : BitVec 32 := 2#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_50 v2
  let v79 : BitVec 32 := Scalar.muli c2_i32_52 v77
  let c1_i32_51 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_51 v5
  let v80 : BitVec 32 := Scalar.addi v79 v78
  let c0_i32_1092 : BitVec 32 := 0#32
  let c0_i32_1093 : BitVec 32 := 0#32
  ![0, v80.toNat, 0, 0]
def k0_off54 (d0 : Dev nD) : Fin 4 → Nat :=
  let c1_i32_1096 : BitVec 32 := 1#32
  let c2_i32_54 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v82 : BitVec 32 := Scalar.muli c2_i32_54 v2
  let c1_i32_53 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v81 : BitVec 32 := Scalar.subi c1_i32_53 v5
  let v83 : BitVec 32 := Scalar.addi v82 v81
  let c0_i32_1105 : BitVec 32 := 0#32
  let c0_i32_1106 : BitVec 32 := 0#32
  ![1, v83.toNat, 0, 0]
def k0_off55 (d0 : Dev nD) : Fin 4 → Nat :=
  let c1_i32_1109 : BitVec 32 := 1#32
  let c2_i32_56 : BitVec 32 := 2#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v84 : BitVec 32 := Scalar.subi c1_i32_55 v2
  let v85 : BitVec 32 := Scalar.muli c2_i32_56 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v86 : BitVec 32 := Scalar.addi v85 v5
  let c0_i32_1118 : BitVec 32 := 0#32
  let c0_i32_1119 : BitVec 32 := 0#32
  ![1, v86.toNat, 0, 0]
def k0_off56 (d0 : Dev nD) : Fin 4 → Nat :=
  let c1_i32_1122 : BitVec 32 := 1#32
  let c2_i32_59 : BitVec 32 := 2#32
  let c1_i32_57 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v87 : BitVec 32 := Scalar.subi c1_i32_57 v2
  let v89 : BitVec 32 := Scalar.muli c2_i32_59 v87
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v88 : BitVec 32 := Scalar.subi c1_i32_58 v5
  let v90 : BitVec 32 := Scalar.addi v89 v88
  let c0_i32_1131 : BitVec 32 := 0#32
  let c0_i32_1132 : BitVec 32 := 0#32
  ![1, v90.toNat, 0, 0]
def k0_off57 (d0 : Dev nD) : Fin 4 → Nat :=
  let c0_i32_1135 : BitVec 32 := 0#32
  let c2_i32_61 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.muli c2_i32_61 v2
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_60 v5
  let v93 : BitVec 32 := Scalar.addi v92 v91
  let c0_i32_1144 : BitVec 32 := 0#32
  let c0_i32_1145 : BitVec 32 := 0#32
  ![0, v93.toNat, 0, 0]
def k0_off58 (d0 : Dev nD) : Fin 4 → Nat :=
  let c0_i32_1148 : BitVec 32 := 0#32
  let c2_i32_63 : BitVec 32 := 2#32
  let c1_i32_62 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_62 v2
  let v95 : BitVec 32 := Scalar.muli c2_i32_63 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v96 : BitVec 32 := Scalar.addi v95 v5
  let c0_i32_1157 : BitVec 32 := 0#32
  let c0_i32_1158 : BitVec 32 := 0#32
  ![0, v96.toNat, 0, 0]
def k0_off59 (d0 : Dev nD) : Fin 4 → Nat :=
  let c0_i32_1161 : BitVec 32 := 0#32
  let c2_i32_66 : BitVec 32 := 2#32
  let c1_i32_64 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_64 v2
  let v99 : BitVec 32 := Scalar.muli c2_i32_66 v97
  let c1_i32_65 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_65 v5
  let v100 : BitVec 32 := Scalar.addi v99 v98
  let c0_i32_1170 : BitVec 32 := 0#32
  let c0_i32_1171 : BitVec 32 := 0#32
  ![0, v100.toNat, 0, 0]
def k0_off60 (d0 : Dev nD) : Fin 4 → Nat :=
  let c1_i32_1174 : BitVec 32 := 1#32
  let c2_i32_68 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v102 : BitVec 32 := Scalar.muli c2_i32_68 v2
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v101 : BitVec 32 := Scalar.subi c1_i32_67 v5
  let v103 : BitVec 32 := Scalar.addi v102 v101
  let c0_i32_1183 : BitVec 32 := 0#32
  let c0_i32_1184 : BitVec 32 := 0#32
  ![1, v103.toNat, 0, 0]
def k0_off61 (d0 : Dev nD) : Fin 4 → Nat :=
  let c1_i32_1187 : BitVec 32 := 1#32
  let c2_i32_70 : BitVec 32 := 2#32
  let c1_i32_69 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_69 v2
  let v105 : BitVec 32 := Scalar.muli c2_i32_70 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v106 : BitVec 32 := Scalar.addi v105 v5
  let c0_i32_1196 : BitVec 32 := 0#32
  let c0_i32_1197 : BitVec 32 := 0#32
  ![1, v106.toNat, 0, 0]
def k0_off62 (d0 : Dev nD) : Fin 4 → Nat :=
  let c1_i32_1200 : BitVec 32 := 1#32
  let c2_i32_73 : BitVec 32 := 2#32
  let c1_i32_71 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v107 : BitVec 32 := Scalar.subi c1_i32_71 v2
  let v109 : BitVec 32 := Scalar.muli c2_i32_73 v107
  let c1_i32_72 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v108 : BitVec 32 := Scalar.subi c1_i32_72 v5
  let v110 : BitVec 32 := Scalar.addi v109 v108
  let c0_i32_1209 : BitVec 32 := 0#32
  let c0_i32_1210 : BitVec 32 := 0#32
  ![1, v110.toNat, 0, 0]
def k0_off63 (d0 : Dev nD) : Fin 4 → Nat :=
  let c2_i32_1213 : BitVec 32 := 2#32
  let c2_i32_75 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v112 : BitVec 32 := Scalar.muli c2_i32_75 v2
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_74 v5
  let v113 : BitVec 32 := Scalar.addi v112 v111
  let c0_i32_1222 : BitVec 32 := 0#32
  let c0_i32_1223 : BitVec 32 := 0#32
  ![2, v113.toNat, 0, 0]
def k0_off64 (d0 : Dev nD) : Fin 4 → Nat :=
  let c2_i32_1226 : BitVec 32 := 2#32
  let c2_i32_77 : BitVec 32 := 2#32
  let c1_i32_76 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_76 v2
  let v115 : BitVec 32 := Scalar.muli c2_i32_77 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v116 : BitVec 32 := Scalar.addi v115 v5
  let c0_i32_1235 : BitVec 32 := 0#32
  let c0_i32_1236 : BitVec 32 := 0#32
  ![2, v116.toNat, 0, 0]
def k0_off65 (d0 : Dev nD) : Fin 4 → Nat :=
  let c2_i32_1239 : BitVec 32 := 2#32
  let c2_i32_80 : BitVec 32 := 2#32
  let c1_i32_78 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v117 : BitVec 32 := Scalar.subi c1_i32_78 v2
  let v119 : BitVec 32 := Scalar.muli c2_i32_80 v117
  let c1_i32_79 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v118 : BitVec 32 := Scalar.subi c1_i32_79 v5
  let v120 : BitVec 32 := Scalar.addi v119 v118
  let c0_i32_1248 : BitVec 32 := 0#32
  let c0_i32_1249 : BitVec 32 := 0#32
  ![2, v120.toNat, 0, 0]
def k0_off66 (d0 : Dev nD) : Fin 4 → Nat :=
  let c3_i32_1252 : BitVec 32 := 3#32
  let c2_i32_82 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v122 : BitVec 32 := Scalar.muli c2_i32_82 v2
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_81 v5
  let v123 : BitVec 32 := Scalar.addi v122 v121
  let c0_i32_1261 : BitVec 32 := 0#32
  let c0_i32_1262 : BitVec 32 := 0#32
  ![3, v123.toNat, 0, 0]
def k0_off67 (d0 : Dev nD) : Fin 4 → Nat :=
  let c3_i32_1265 : BitVec 32 := 3#32
  let c2_i32_84 : BitVec 32 := 2#32
  let c1_i32_83 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v124 : BitVec 32 := Scalar.subi c1_i32_83 v2
  let v125 : BitVec 32 := Scalar.muli c2_i32_84 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v126 : BitVec 32 := Scalar.addi v125 v5
  let c0_i32_1274 : BitVec 32 := 0#32
  let c0_i32_1275 : BitVec 32 := 0#32
  ![3, v126.toNat, 0, 0]
def k0_off68 (d0 : Dev nD) : Fin 4 → Nat :=
  let c3_i32_1278 : BitVec 32 := 3#32
  let c2_i32_87 : BitVec 32 := 2#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v127 : BitVec 32 := Scalar.subi c1_i32_85 v2
  let v129 : BitVec 32 := Scalar.muli c2_i32_87 v127
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v128 : BitVec 32 := Scalar.subi c1_i32_86 v5
  let v130 : BitVec 32 := Scalar.addi v129 v128
  let c0_i32_1287 : BitVec 32 := 0#32
  let c0_i32_1288 : BitVec 32 := 0#32
  ![3, v130.toNat, 0, 0]
-- ==== ScatterReferenceIdeal.lean ====
abbrev S32x1024x512 : Shape := ⟨3, ![32, 1024, 512]⟩
abbrev S32x256x1024 : Shape := ⟨3, ![32, 256, 1024]⟩
abbrev S32x1024x1536 : Shape := ⟨3, ![32, 1024, 1536]⟩
abbrev S32x512x1024 : Shape := ⟨3, ![32, 512, 1024]⟩
abbrev S32x1024x1024 : Shape := ⟨3, ![32, 1024, 1024]⟩
abbrev S4x2x4x1024x512 : Shape := ⟨5, ![4, 2, 4, 1024, 512]⟩
abbrev S1x32x1024x512 : Shape := ⟨4, ![1, 32, 1024, 512]⟩
abbrev S2x32x1024x512 : Shape := ⟨4, ![2, 32, 1024, 512]⟩
abbrev S4x2x4x256x1024 : Shape := ⟨5, ![4, 2, 4, 256, 1024]⟩
abbrev S1x32x256x1024 : Shape := ⟨4, ![1, 32, 256, 1024]⟩
abbrev S2x32x256x1024 : Shape := ⟨4, ![2, 32, 256, 1024]⟩
abbrev S4x2x4x1024x1536 : Shape := ⟨5, ![4, 2, 4, 1024, 1536]⟩
abbrev S1x32x1024x1536 : Shape := ⟨4, ![1, 32, 1024, 1536]⟩
abbrev S2x32x1024x1536 : Shape := ⟨4, ![2, 32, 1024, 1536]⟩
abbrev S4x2x4x512x1024 : Shape := ⟨5, ![4, 2, 4, 512, 1024]⟩
abbrev S1x32x512x1024 : Shape := ⟨4, ![1, 32, 512, 1024]⟩
abbrev S2x32x512x1024 : Shape := ⟨4, ![2, 32, 512, 1024]⟩
abbrev S4x2x4x1024x1024 : Shape := ⟨5, ![4, 2, 4, 1024, 1024]⟩
abbrev S1x32x1024x1024 : Shape := ⟨4, ![1, 32, 1024, 1024]⟩
abbrev S4x32x1024x1024 : Shape := ⟨4, ![4, 32, 1024, 1024]⟩

abbrev nBuf : Space → Nat
  | .hbm => 86
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S32x256x1024, .f32⟩
  | .hbm, ⟨3, _⟩ => ⟨S32x256x1024, .f32⟩
  | .hbm, ⟨4, _⟩ => ⟨S32x1024x1536, .f32⟩
  | .hbm, ⟨5, _⟩ => ⟨S32x1024x1536, .f32⟩
  | .hbm, ⟨6, _⟩ => ⟨S32x512x1024, .f32⟩
  | .hbm, ⟨7, _⟩ => ⟨S32x512x1024, .f32⟩
  | .hbm, ⟨8, _⟩ => ⟨S32x1024x1024, .f32⟩
  | .hbm, ⟨9, _⟩ => ⟨S32x1024x1024, .f32⟩
  | .hbm, ⟨10, _⟩ => ⟨S32x1024x1024, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S4x2x4x1024x512, .f32⟩
  | .hbm, ⟨17, _⟩ => ⟨S4x2x4x1024x512, .f32⟩
  | .hbm, ⟨18, _⟩ => ⟨S32x1024x512, .f32⟩
  | .hbm, ⟨19, _⟩ => ⟨S4x2x4x1024x512, .f32⟩
  | .hbm, ⟨20, _⟩ => ⟨S4x2x4x1024x512, .f32⟩
  | .hbm, ⟨21, _⟩ => ⟨S32x1024x512, .f32⟩
  | .hbm, ⟨22, _⟩ => ⟨S1x32x1024x512, .f32⟩
  | .hbm, ⟨23, _⟩ => ⟨S1x32x1024x512, .f32⟩
  | .hbm, ⟨24, _⟩ => ⟨S2x32x1024x512, .f32⟩
  | .hbm, ⟨25, _⟩ => ⟨S4x2x4x256x1024, .f32⟩
  | .hbm, ⟨26, _⟩ => ⟨S4x2x4x256x1024, .f32⟩
  | .hbm, ⟨27, _⟩ => ⟨S32x256x1024, .f32⟩
  | .hbm, ⟨28, _⟩ => ⟨S4x2x4x256x1024, .f32⟩
  | .hbm, ⟨29, _⟩ => ⟨S4x2x4x256x1024, .f32⟩
  | .hbm, ⟨30, _⟩ => ⟨S32x256x1024, .f32⟩
  | .hbm, ⟨31, _⟩ => ⟨S1x32x256x1024, .f32⟩
  | .hbm, ⟨32, _⟩ => ⟨S1x32x256x1024, .f32⟩
  | .hbm, ⟨33, _⟩ => ⟨S2x32x256x1024, .f32⟩
  | .hbm, ⟨34, _⟩ => ⟨S4x2x4x1024x1536, .f32⟩
  | .hbm, ⟨35, _⟩ => ⟨S4x2x4x1024x1536, .f32⟩
  | .hbm, ⟨36, _⟩ => ⟨S32x1024x1536, .f32⟩
  | .hbm, ⟨37, _⟩ => ⟨S4x2x4x1024x1536, .f32⟩
  | .hbm, ⟨38, _⟩ => ⟨S4x2x4x1024x1536, .f32⟩
  | .hbm, ⟨39, _⟩ => ⟨S32x1024x1536, .f32⟩
  | .hbm, ⟨40, _⟩ => ⟨S1x32x1024x1536, .f32⟩
  | .hbm, ⟨41, _⟩ => ⟨S1x32x1024x1536, .f32⟩
  | .hbm, ⟨42, _⟩ => ⟨S2x32x1024x1536, .f32⟩
  | .hbm, ⟨43, _⟩ => ⟨S4x2x4x512x1024, .f32⟩
  | .hbm, ⟨44, _⟩ => ⟨S4x2x4x512x1024, .f32⟩
  | .hbm, ⟨45, _⟩ => ⟨S32x512x1024, .f32⟩
  | .hbm, ⟨46, _⟩ => ⟨S4x2x4x512x1024, .f32⟩
  | .hbm, ⟨47, _⟩ => ⟨S4x2x4x512x1024, .f32⟩
  | .hbm, ⟨48, _⟩ => ⟨S32x512x1024, .f32⟩
  | .hbm, ⟨49, _⟩ => ⟨S1x32x512x1024, .f32⟩
  | .hbm, ⟨50, _⟩ => ⟨S1x32x512x1024, .f32⟩
  | .hbm, ⟨51, _⟩ => ⟨S2x32x512x1024, .f32⟩
  | .hbm, ⟨52, _⟩ => ⟨S4x2x4x1024x1024, .f32⟩
  | .hbm, ⟨53, _⟩ => ⟨S4x2x4x1024x1024, .f32⟩
  | .hbm, ⟨54, _⟩ => ⟨S32x1024x1024, .f32⟩
  | .hbm, ⟨55, _⟩ => ⟨S4x2x4x1024x1024, .f32⟩
  | .hbm, ⟨56, _⟩ => ⟨S4x2x4x1024x1024, .f32⟩
  | .hbm, ⟨57, _⟩ => ⟨S32x1024x1024, .f32⟩
  | .hbm, ⟨58, _⟩ => ⟨S4x2x4x1024x1024, .f32⟩
  | .hbm, ⟨59, _⟩ => ⟨S4x2x4x1024x1024, .f32⟩
  | .hbm, ⟨60, _⟩ => ⟨S32x1024x1024, .f32⟩
  | .hbm, ⟨61, _⟩ => ⟨S4x2x4x1024x1024, .f32⟩
  | .hbm, ⟨62, _⟩ => ⟨S4x2x4x1024x1024, .f32⟩
  | .hbm, ⟨63, _⟩ => ⟨S32x1024x1024, .f32⟩
  | .hbm, ⟨64, _⟩ => ⟨S1x32x1024x1024, .f32⟩
  | .hbm, ⟨65, _⟩ => ⟨S1x32x1024x1024, .f32⟩
  | .hbm, ⟨66, _⟩ => ⟨S1x32x1024x1024, .f32⟩
  | .hbm, ⟨67, _⟩ => ⟨S1x32x1024x1024, .f32⟩
  | .hbm, ⟨68, _⟩ => ⟨S4x32x1024x1024, .f32⟩
  | .hbm, ⟨69, _⟩ => ⟨S4x2x4x1024x1024, .f32⟩
  | .hbm, ⟨70, _⟩ => ⟨S4x2x4x1024x1024, .f32⟩
  | .hbm, ⟨71, _⟩ => ⟨S32x1024x1024, .f32⟩
  | .hbm, ⟨72, _⟩ => ⟨S4x2x4x1024x1024, .f32⟩
  | .hbm, ⟨73, _⟩ => ⟨S4x2x4x1024x1024, .f32⟩
  | .hbm, ⟨74, _⟩ => ⟨S32x1024x1024, .f32⟩
  | .hbm, ⟨75, _⟩ => ⟨S4x2x4x1024x1024, .f32⟩
  | .hbm, ⟨76, _⟩ => ⟨S4x2x4x1024x1024, .f32⟩
  | .hbm, ⟨77, _⟩ => ⟨S32x1024x1024, .f32⟩
  | .hbm, ⟨78, _⟩ => ⟨S4x2x4x1024x1024, .f32⟩
  | .hbm, ⟨79, _⟩ => ⟨S4x2x4x1024x1024, .f32⟩
  | .hbm, ⟨80, _⟩ => ⟨S32x1024x1024, .f32⟩
  | .hbm, ⟨81, _⟩ => ⟨S1x32x1024x1024, .f32⟩
  | .hbm, ⟨82, _⟩ => ⟨S1x32x1024x1024, .f32⟩
  | .hbm, ⟨83, _⟩ => ⟨S1x32x1024x1024, .f32⟩
  | .hbm, ⟨84, _⟩ => ⟨S1x32x1024x1024, .f32⟩
  | .hbm, ⟨85, _⟩ => ⟨S4x32x1024x1024, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Gather.lean ====
abbrev S1024x512 : Shape := ⟨2, ![1024, 512]⟩
abbrev S256x1024 : Shape := ⟨2, ![256, 1024]⟩
abbrev S1024x1536 : Shape := ⟨2, ![1024, 1536]⟩
abbrev S512x1024 : Shape := ⟨2, ![512, 1024]⟩
abbrev S1024x1024 : Shape := ⟨2, ![1024, 1024]⟩
abbrev S2x31x256 : Shape := ⟨3, ![2, 31, 256]⟩
abbrev S2x4x128 : Shape := ⟨3, ![2, 4, 128]⟩
abbrev S4x1024x512 : Shape := ⟨3, ![4, 1024, 512]⟩
abbrev S4x256x1024 : Shape := ⟨3, ![4, 256, 1024]⟩
abbrev S4x1024x1536 : Shape := ⟨3, ![4, 1024, 1536]⟩
abbrev S4x512x1024 : Shape := ⟨3, ![4, 512, 1024]⟩
abbrev S4x1024x1024 : Shape := ⟨3, ![4, 1024, 1024]⟩
abbrev S4x2x31x256 : Shape := ⟨4, ![4, 2, 31, 256]⟩
abbrev S4x2x4x128 : Shape := ⟨4, ![4, 2, 4, 128]⟩
abbrev S19x3 : Shape := ⟨2, ![19, 3]⟩
abbrev S19 : Shape := ⟨1, ![19]⟩
abbrev S1 : Shape := ⟨1, ![1]⟩
abbrev S_ : Shape := ⟨0, ![]⟩
abbrev S1x1024x512 : Shape := ⟨3, ![1, 1024, 512]⟩
abbrev S1x256x1024 : Shape := ⟨3, ![1, 256, 1024]⟩
abbrev S1x1024x1536 : Shape := ⟨3, ![1, 1024, 1536]⟩
abbrev S1x512x1024 : Shape := ⟨3, ![1, 512, 1024]⟩
abbrev S1x1024x1024 : Shape := ⟨3, ![1, 1024, 1024]⟩
abbrev S1x2x31x256 : Shape := ⟨4, ![1, 2, 31, 256]⟩
abbrev S1x2x4x128 : Shape := ⟨4, ![1, 2, 4, 128]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S256x1024, .bf16⟩
  | .hbm, ⟨3, _⟩ => ⟨S256x1024, .bf16⟩
  | .hbm, ⟨4, _⟩ => ⟨S1024x1536, .bf16⟩
  | .hbm, ⟨5, _⟩ => ⟨S1024x1536, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S2x31x256, .f32⟩
  | .hbm, ⟨17, _⟩ => ⟨S2x4x128, .f32⟩
  | .hbm, ⟨18, _⟩ => ⟨S2x4x128, .f32⟩
  | .hbm, ⟨19, _⟩ => ⟨S4x1024x512, .bf16⟩
  | .hbm, ⟨20, _⟩ => ⟨S4x1024x512, .bf16⟩
  | .hbm, ⟨21, _⟩ => ⟨S4x256x1024, .bf16⟩
  | .hbm, ⟨22, _⟩ => ⟨S4x256x1024, .bf16⟩
  | .hbm, ⟨23, _⟩ => ⟨S4x1024x1536, .bf16⟩
  | .hbm, ⟨24, _⟩ => ⟨S4x1024x1536, .bf16⟩
  | .hbm, ⟨25, _⟩ => ⟨S4x512x1024, .bf16⟩
  | .hbm, ⟨26, _⟩ => ⟨S4x512x1024, .bf16⟩
  | .hbm, ⟨27, _⟩ => ⟨S4x1024x1024, .bf16⟩
  | .hbm, ⟨28, _⟩ => ⟨S4x1024x1024, .bf16⟩
  | .hbm, ⟨29, _⟩ => ⟨S4x1024x1024, .bf16⟩
  | .hbm, ⟨30, _⟩ => ⟨S4x1024x1024, .bf16⟩
  | .hbm, ⟨31, _⟩ => ⟨S4x1024x1024, .bf16⟩
  | .hbm, ⟨32, _⟩ => ⟨S4x1024x1024, .bf16⟩
  | .hbm, ⟨33, _⟩ => ⟨S4x1024x1024, .bf16⟩
  | .hbm, ⟨34, _⟩ => ⟨S4x1024x1024, .bf16⟩
  | .hbm, ⟨35, _⟩ => ⟨S4x2x31x256, .f32⟩
  | .hbm, ⟨36, _⟩ => ⟨S4x2x4x128, .f32⟩
  | .hbm, ⟨37, _⟩ => ⟨S4x2x4x128, .f32⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 133 → Bool
  | ⟨i, _⟩ => dmaSemScopedAt i

abbrev sig : RefSig :=
  ofTc nBuf bufTy 0 133 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v1_0 : Ref sig .tc := ⟨.hbm, 19, rfl⟩
abbrev main_v1_1 : Ref sig .tc := ⟨.hbm, 20, rfl⟩
abbrev main_v1_2 : Ref sig .tc := ⟨.hbm, 21, rfl⟩
abbrev main_v1_3 : Ref sig .tc := ⟨.hbm, 22, rfl⟩
abbrev main_v1_4 : Ref sig .tc := ⟨.hbm, 23, rfl⟩
abbrev main_v1_5 : Ref sig .tc := ⟨.hbm, 24, rfl⟩
abbrev main_v1_6 : Ref sig .tc := ⟨.hbm, 25, rfl⟩
abbrev main_v1_7 : Ref sig .tc := ⟨.hbm, 26, rfl⟩
abbrev main_v1_8 : Ref sig .tc := ⟨.hbm, 27, rfl⟩
abbrev main_v1_9 : Ref sig .tc := ⟨.hbm, 28, rfl⟩
abbrev main_v1_10 : Ref sig .tc := ⟨.hbm, 29, rfl⟩
abbrev main_v1_11 : Ref sig .tc := ⟨.hbm, 30, rfl⟩
abbrev main_v1_12 : Ref sig .tc := ⟨.hbm, 31, rfl⟩
abbrev main_v1_13 : Ref sig .tc := ⟨.hbm, 32, rfl⟩
abbrev main_v1_14 : Ref sig .tc := ⟨.hbm, 33, rfl⟩
abbrev main_v1_15 : Ref sig .tc := ⟨.hbm, 34, rfl⟩
abbrev main_v1_16 : Ref sig .tc := ⟨.hbm, 35, rfl⟩
abbrev main_v1_17 : Ref sig .tc := ⟨.hbm, 36, rfl⟩
abbrev main_v1_18 : Ref sig .tc := ⟨.hbm, 37, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_137 : BitVec 32 := 0#32
  let c0_i32_138 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_143 : BitVec 32 := 0#32
  let c0_i32_144 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_148 : BitVec 32 := 0#32
  let c0_i32_149 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_152 : BitVec 32 := 0#32
  let c0_i32_153 : BitVec 32 := 0#32
  ![v10.toNat, 0, 0]
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_156 : BitVec 32 := 0#32
  let c0_i32_157 : BitVec 32 := 0#32
  ![v10.toNat, 0, 0]
def k0_off6 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_172 : BitVec 32 := 0#32
  let c0_i32_173 : BitVec 32 := 0#32
  let c0_i32_174 : BitVec 32 := 0#32
  ![v10.toNat, 0, 0, 0]
def k0_off7 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_175 : BitVec 32 := 0#32
  let c0_i32_176 : BitVec 32 := 0#32
  let c0_i32_177 : BitVec 32 := 0#32
  ![v10.toNat, 0, 0, 0]
def k0_dev1 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v277 : BitVec 32 := Scalar.muli v2 c4_i32_185
  let v278 : BitVec 32 := Scalar.addi c0_i32_186 v277
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_187 : BitVec 32 := 2#32
  let v279 : BitVec 32 := Scalar.muli v11 c2_i32_187
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v281 : BitVec 32 := Scalar.muli v8 c1_i32_188
  let v282 : BitVec 32 := Scalar.addi v280 v281
  v282.toNat
def k0_dev2 (d0 : Dev nD) : Nat :=
  let c0_i32_196 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_195 : BitVec 32 := 4#32
  let v289 : BitVec 32 := Scalar.muli v14 c4_i32_195
  let v290 : BitVec 32 := Scalar.addi c0_i32_196 v289
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v291 : BitVec 32 := Scalar.muli v5 c2_i32_197
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v293 : BitVec 32 := Scalar.muli v8 c1_i32_198
  let v294 : BitVec 32 := Scalar.addi v292 v293
  v294.toNat
def k0_dev3 (d0 : Dev nD) : Nat :=
  let c0_i32_206 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_205 : BitVec 32 := 4#32
  let v301 : BitVec 32 := Scalar.muli v17 c4_i32_205
  let v302 : BitVec 32 := Scalar.addi c0_i32_206 v301
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_207 : BitVec 32 := 2#32
  let v303 : BitVec 32 := Scalar.muli v18 c2_i32_207
  let v304 : BitVec 32 := Scalar.addi v302 v303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_208 : BitVec 32 := 1#32
  let v305 : BitVec 32 := Scalar.muli v8 c1_i32_208
  let v306 : BitVec 32 := Scalar.addi v304 v305
  v306.toNat
def k0_dev4 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v313 : BitVec 32 := Scalar.muli v2 c4_i32_215
  let v314 : BitVec 32 := Scalar.addi c0_i32_216 v313
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_217 : BitVec 32 := 2#32
  let v315 : BitVec 32 := Scalar.muli v21 c2_i32_217
  let v316 : BitVec 32 := Scalar.addi v314 v315
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v317 : BitVec 32 := Scalar.muli v8 c1_i32_218
  let v318 : BitVec 32 := Scalar.addi v316 v317
  v318.toNat
def k0_dev5 (d0 : Dev nD) : Nat :=
  let c0_i32_226 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_225 : BitVec 32 := 4#32
  let v325 : BitVec 32 := Scalar.muli v24 c4_i32_225
  let v326 : BitVec 32 := Scalar.addi c0_i32_226 v325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_227 : BitVec 32 := 2#32
  let v327 : BitVec 32 := Scalar.muli v5 c2_i32_227
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v329 : BitVec 32 := Scalar.muli v8 c1_i32_228
  let v330 : BitVec 32 := Scalar.addi v328 v329
  v330.toNat
def k0_dev6 (d0 : Dev nD) : Nat :=
  let c0_i32_236 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4_i32_235 : BitVec 32 := 4#32
  let v337 : BitVec 32 := Scalar.muli v27 c4_i32_235
  let v338 : BitVec 32 := Scalar.addi c0_i32_236 v337
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_16 v5
  let c2_i32_237 : BitVec 32 := 2#32
  let v339 : BitVec 32 := Scalar.muli v28 c2_i32_237
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v341 : BitVec 32 := Scalar.muli v8 c1_i32_238
  let v342 : BitVec 32 := Scalar.addi v340 v341
  v342.toNat
def k0_dev7 (d0 : Dev nD) : Nat :=
  let c0_i32_246 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_245 : BitVec 32 := 4#32
  let v349 : BitVec 32 := Scalar.muli v2 c4_i32_245
  let v350 : BitVec 32 := Scalar.addi c0_i32_246 v349
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_18 v5
  let c2_i32_247 : BitVec 32 := 2#32
  let v351 : BitVec 32 := Scalar.muli v31 c2_i32_247
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_248 : BitVec 32 := 1#32
  let v353 : BitVec 32 := Scalar.muli v8 c1_i32_248
  let v354 : BitVec 32 := Scalar.addi v352 v353
  v354.toNat
def k0_dev8 (d0 : Dev nD) : Nat :=
  let c0_i32_256 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_20 v2
  let c4_i32_255 : BitVec 32 := 4#32
  let v361 : BitVec 32 := Scalar.muli v34 c4_i32_255
  let v362 : BitVec 32 := Scalar.addi c0_i32_256 v361
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v363 : BitVec 32 := Scalar.muli v5 c2_i32_257
  let v364 : BitVec 32 := Scalar.addi v362 v363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v365 : BitVec 32 := Scalar.muli v8 c1_i32_258
  let v366 : BitVec 32 := Scalar.addi v364 v365
  v366.toNat
def k0_dev9 (d0 : Dev nD) : Nat :=
  let c0_i32_266 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_22 v2
  let c4_i32_265 : BitVec 32 := 4#32
  let v373 : BitVec 32 := Scalar.muli v37 c4_i32_265
  let v374 : BitVec 32 := Scalar.addi c0_i32_266 v373
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_23 v5
  let c2_i32_267 : BitVec 32 := 2#32
  let v375 : BitVec 32 := Scalar.muli v38 c2_i32_267
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v377 : BitVec 32 := Scalar.muli v8 c1_i32_268
  let v378 : BitVec 32 := Scalar.addi v376 v377
  v378.toNat
def k0_dev10 (d0 : Dev nD) : Nat :=
  let c0_i32_276 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_275 : BitVec 32 := 4#32
  let v385 : BitVec 32 := Scalar.muli v2 c4_i32_275
  let v386 : BitVec 32 := Scalar.addi c0_i32_276 v385
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_25 v5
  let c2_i32_277 : BitVec 32 := 2#32
  let v387 : BitVec 32 := Scalar.muli v41 c2_i32_277
  let v388 : BitVec 32 := Scalar.addi v386 v387
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_278 : BitVec 32 := 1#32
  let v389 : BitVec 32 := Scalar.muli v8 c1_i32_278
  let v390 : BitVec 32 := Scalar.addi v388 v389
  v390.toNat
def k0_dev11 (d0 : Dev nD) : Nat :=
  let c0_i32_286 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_27 v2
  let c4_i32_285 : BitVec 32 := 4#32
  let v397 : BitVec 32 := Scalar.muli v44 c4_i32_285
  let v398 : BitVec 32 := Scalar.addi c0_i32_286 v397
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_287 : BitVec 32 := 2#32
  let v399 : BitVec 32 := Scalar.muli v5 c2_i32_287
  let v400 : BitVec 32 := Scalar.addi v398 v399
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_288 : BitVec 32 := 1#32
  let v401 : BitVec 32 := Scalar.muli v8 c1_i32_288
  let v402 : BitVec 32 := Scalar.addi v400 v401
  v402.toNat
def k0_dev12 (d0 : Dev nD) : Nat :=
  let c0_i32_296 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_29 v2
  let c4_i32_295 : BitVec 32 := 4#32
  let v409 : BitVec 32 := Scalar.muli v47 c4_i32_295
  let v410 : BitVec 32 := Scalar.addi c0_i32_296 v409
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_30 v5
  let c2_i32_297 : BitVec 32 := 2#32
  let v411 : BitVec 32 := Scalar.muli v48 c2_i32_297
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_298 : BitVec 32 := 1#32
  let v413 : BitVec 32 := Scalar.muli v8 c1_i32_298
  let v414 : BitVec 32 := Scalar.addi v412 v413
  v414.toNat
def k0_dev13 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v421 : BitVec 32 := Scalar.muli v2 c4_i32_305
  let v422 : BitVec 32 := Scalar.addi c0_i32_306 v421
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_32 v5
  let c2_i32_307 : BitVec 32 := 2#32
  let v423 : BitVec 32 := Scalar.muli v51 c2_i32_307
  let v424 : BitVec 32 := Scalar.addi v422 v423
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v425 : BitVec 32 := Scalar.muli v8 c1_i32_308
  let v426 : BitVec 32 := Scalar.addi v424 v425
  v426.toNat
def k0_dev14 (d0 : Dev nD) : Nat :=
  let c0_i32_316 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v54 : BitVec 32 := Scalar.subi c1_i32_34 v2
  let c4_i32_315 : BitVec 32 := 4#32
  let v433 : BitVec 32 := Scalar.muli v54 c4_i32_315
  let v434 : BitVec 32 := Scalar.addi c0_i32_316 v433
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_317 : BitVec 32 := 2#32
  let v435 : BitVec 32 := Scalar.muli v5 c2_i32_317
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_318 : BitVec 32 := 1#32
  let v437 : BitVec 32 := Scalar.muli v8 c1_i32_318
  let v438 : BitVec 32 := Scalar.addi v436 v437
  v438.toNat
def k0_dev15 (d0 : Dev nD) : Nat :=
  let c0_i32_326 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_36 v2
  let c4_i32_325 : BitVec 32 := 4#32
  let v445 : BitVec 32 := Scalar.muli v57 c4_i32_325
  let v446 : BitVec 32 := Scalar.addi c0_i32_326 v445
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_37 v5
  let c2_i32_327 : BitVec 32 := 2#32
  let v447 : BitVec 32 := Scalar.muli v58 c2_i32_327
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_328 : BitVec 32 := 1#32
  let v449 : BitVec 32 := Scalar.muli v8 c1_i32_328
  let v450 : BitVec 32 := Scalar.addi v448 v449
  v450.toNat
def k0_dev16 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v457 : BitVec 32 := Scalar.muli v2 c4_i32_335
  let v458 : BitVec 32 := Scalar.addi c0_i32_336 v457
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.subi c1_i32_39 v5
  let c2_i32_337 : BitVec 32 := 2#32
  let v459 : BitVec 32 := Scalar.muli v61 c2_i32_337
  let v460 : BitVec 32 := Scalar.addi v458 v459
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_338 : BitVec 32 := 1#32
  let v461 : BitVec 32 := Scalar.muli v8 c1_i32_338
  let v462 : BitVec 32 := Scalar.addi v460 v461
  v462.toNat
def k0_dev17 (d0 : Dev nD) : Nat :=
  let c0_i32_346 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_345 : BitVec 32 := 4#32
  let v469 : BitVec 32 := Scalar.muli v64 c4_i32_345
  let v470 : BitVec 32 := Scalar.addi c0_i32_346 v469
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_347 : BitVec 32 := 2#32
  let v471 : BitVec 32 := Scalar.muli v5 c2_i32_347
  let v472 : BitVec 32 := Scalar.addi v470 v471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_348 : BitVec 32 := 1#32
  let v473 : BitVec 32 := Scalar.muli v8 c1_i32_348
  let v474 : BitVec 32 := Scalar.addi v472 v473
  v474.toNat
def k0_dev18 (d0 : Dev nD) : Nat :=
  let c0_i32_356 : BitVec 32 := 0#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v67 : BitVec 32 := Scalar.subi c1_i32_43 v2
  let c4_i32_355 : BitVec 32 := 4#32
  let v481 : BitVec 32 := Scalar.muli v67 c4_i32_355
  let v482 : BitVec 32 := Scalar.addi c0_i32_356 v481
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v68 : BitVec 32 := Scalar.subi c1_i32_44 v5
  let c2_i32_357 : BitVec 32 := 2#32
  let v483 : BitVec 32 := Scalar.muli v68 c2_i32_357
  let v484 : BitVec 32 := Scalar.addi v482 v483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_358 : BitVec 32 := 1#32
  let v485 : BitVec 32 := Scalar.muli v8 c1_i32_358
  let v486 : BitVec 32 := Scalar.addi v484 v485
  v486.toNat
def k0_dev19 (d0 : Dev nD) : Nat :=
  let c0_i32_366 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_365 : BitVec 32 := 4#32
  let v493 : BitVec 32 := Scalar.muli v2 c4_i32_365
  let v494 : BitVec 32 := Scalar.addi c0_i32_366 v493
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_367 : BitVec 32 := 2#32
  let v495 : BitVec 32 := Scalar.muli v71 c2_i32_367
  let v496 : BitVec 32 := Scalar.addi v494 v495
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_368 : BitVec 32 := 1#32
  let v497 : BitVec 32 := Scalar.muli v8 c1_i32_368
  let v498 : BitVec 32 := Scalar.addi v496 v497
  v498.toNat
def k0_dev20 (d0 : Dev nD) : Nat :=
  let c0_i32_376 : BitVec 32 := 0#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v74 : BitVec 32 := Scalar.subi c1_i32_48 v2
  let c4_i32_375 : BitVec 32 := 4#32
  let v505 : BitVec 32 := Scalar.muli v74 c4_i32_375
  let v506 : BitVec 32 := Scalar.addi c0_i32_376 v505
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v507 : BitVec 32 := Scalar.muli v5 c2_i32_377
  let v508 : BitVec 32 := Scalar.addi v506 v507
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v509 : BitVec 32 := Scalar.muli v8 c1_i32_378
  let v510 : BitVec 32 := Scalar.addi v508 v509
  v510.toNat
def k0_dev21 (d0 : Dev nD) : Nat :=
  let c0_i32_386 : BitVec 32 := 0#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_50 v2
  let c4_i32_385 : BitVec 32 := 4#32
  let v517 : BitVec 32 := Scalar.muli v77 c4_i32_385
  let v518 : BitVec 32 := Scalar.addi c0_i32_386 v517
  let c1_i32_51 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_51 v5
  let c2_i32_387 : BitVec 32 := 2#32
  let v519 : BitVec 32 := Scalar.muli v78 c2_i32_387
  let v520 : BitVec 32 := Scalar.addi v518 v519
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_388 : BitVec 32 := 1#32
  let v521 : BitVec 32 := Scalar.muli v8 c1_i32_388
  let v522 : BitVec 32 := Scalar.addi v520 v521
  v522.toNat
def k0_dev22 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v529 : BitVec 32 := Scalar.muli v2 c4_i32_395
  let v530 : BitVec 32 := Scalar.addi c0_i32_396 v529
  let c1_i32_53 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v81 : BitVec 32 := Scalar.subi c1_i32_53 v5
  let c2_i32_397 : BitVec 32 := 2#32
  let v531 : BitVec 32 := Scalar.muli v81 c2_i32_397
  let v532 : BitVec 32 := Scalar.addi v530 v531
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_398 : BitVec 32 := 1#32
  let v533 : BitVec 32 := Scalar.muli v8 c1_i32_398
  let v534 : BitVec 32 := Scalar.addi v532 v533
  v534.toNat
def k0_dev23 (d0 : Dev nD) : Nat :=
  let c0_i32_406 : BitVec 32 := 0#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v84 : BitVec 32 := Scalar.subi c1_i32_55 v2
  let c4_i32_405 : BitVec 32 := 4#32
  let v541 : BitVec 32 := Scalar.muli v84 c4_i32_405
  let v542 : BitVec 32 := Scalar.addi c0_i32_406 v541
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_407 : BitVec 32 := 2#32
  let v543 : BitVec 32 := Scalar.muli v5 c2_i32_407
  let v544 : BitVec 32 := Scalar.addi v542 v543
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_408 : BitVec 32 := 1#32
  let v545 : BitVec 32 := Scalar.muli v8 c1_i32_408
  let v546 : BitVec 32 := Scalar.addi v544 v545
  v546.toNat
def k0_dev24 (d0 : Dev nD) : Nat :=
  let c0_i32_416 : BitVec 32 := 0#32
  let c1_i32_57 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v87 : BitVec 32 := Scalar.subi c1_i32_57 v2
  let c4_i32_415 : BitVec 32 := 4#32
  let v553 : BitVec 32 := Scalar.muli v87 c4_i32_415
  let v554 : BitVec 32 := Scalar.addi c0_i32_416 v553
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v88 : BitVec 32 := Scalar.subi c1_i32_58 v5
  let c2_i32_417 : BitVec 32 := 2#32
  let v555 : BitVec 32 := Scalar.muli v88 c2_i32_417
  let v556 : BitVec 32 := Scalar.addi v554 v555
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_418 : BitVec 32 := 1#32
  let v557 : BitVec 32 := Scalar.muli v8 c1_i32_418
  let v558 : BitVec 32 := Scalar.addi v556 v557
  v558.toNat
def k0_dev25 (d0 : Dev nD) : Nat :=
  let c0_i32_426 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_425 : BitVec 32 := 4#32
  let v565 : BitVec 32 := Scalar.muli v2 c4_i32_425
  let v566 : BitVec 32 := Scalar.addi c0_i32_426 v565
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_60 v5
  let c2_i32_427 : BitVec 32 := 2#32
  let v567 : BitVec 32 := Scalar.muli v91 c2_i32_427
  let v568 : BitVec 32 := Scalar.addi v566 v567
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_428 : BitVec 32 := 1#32
  let v569 : BitVec 32 := Scalar.muli v8 c1_i32_428
  let v570 : BitVec 32 := Scalar.addi v568 v569
  v570.toNat
def k0_dev26 (d0 : Dev nD) : Nat :=
  let c0_i32_436 : BitVec 32 := 0#32
  let c1_i32_62 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_62 v2
  let c4_i32_435 : BitVec 32 := 4#32
  let v577 : BitVec 32 := Scalar.muli v94 c4_i32_435
  let v578 : BitVec 32 := Scalar.addi c0_i32_436 v577
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_437 : BitVec 32 := 2#32
  let v579 : BitVec 32 := Scalar.muli v5 c2_i32_437
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v581 : BitVec 32 := Scalar.muli v8 c1_i32_438
  let v582 : BitVec 32 := Scalar.addi v580 v581
  v582.toNat
def k0_dev27 (d0 : Dev nD) : Nat :=
  let c0_i32_446 : BitVec 32 := 0#32
  let c1_i32_64 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_64 v2
  let c4_i32_445 : BitVec 32 := 4#32
  let v589 : BitVec 32 := Scalar.muli v97 c4_i32_445
  let v590 : BitVec 32 := Scalar.addi c0_i32_446 v589
  let c1_i32_65 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_65 v5
  let c2_i32_447 : BitVec 32 := 2#32
  let v591 : BitVec 32 := Scalar.muli v98 c2_i32_447
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_448 : BitVec 32 := 1#32
  let v593 : BitVec 32 := Scalar.muli v8 c1_i32_448
  let v594 : BitVec 32 := Scalar.addi v592 v593
  v594.toNat
def k0_dev28 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v601 : BitVec 32 := Scalar.muli v2 c4_i32_455
  let v602 : BitVec 32 := Scalar.addi c0_i32_456 v601
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v101 : BitVec 32 := Scalar.subi c1_i32_67 v5
  let c2_i32_457 : BitVec 32 := 2#32
  let v603 : BitVec 32 := Scalar.muli v101 c2_i32_457
  let v604 : BitVec 32 := Scalar.addi v602 v603
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_458 : BitVec 32 := 1#32
  let v605 : BitVec 32 := Scalar.muli v8 c1_i32_458
  let v606 : BitVec 32 := Scalar.addi v604 v605
  v606.toNat
def k0_dev29 (d0 : Dev nD) : Nat :=
  let c0_i32_466 : BitVec 32 := 0#32
  let c1_i32_69 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_69 v2
  let c4_i32_465 : BitVec 32 := 4#32
  let v613 : BitVec 32 := Scalar.muli v104 c4_i32_465
  let v614 : BitVec 32 := Scalar.addi c0_i32_466 v613
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_467 : BitVec 32 := 2#32
  let v615 : BitVec 32 := Scalar.muli v5 c2_i32_467
  let v616 : BitVec 32 := Scalar.addi v614 v615
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_468 : BitVec 32 := 1#32
  let v617 : BitVec 32 := Scalar.muli v8 c1_i32_468
  let v618 : BitVec 32 := Scalar.addi v616 v617
  v618.toNat
def k0_dev30 (d0 : Dev nD) : Nat :=
  let c0_i32_476 : BitVec 32 := 0#32
  let c1_i32_71 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v107 : BitVec 32 := Scalar.subi c1_i32_71 v2
  let c4_i32_475 : BitVec 32 := 4#32
  let v625 : BitVec 32 := Scalar.muli v107 c4_i32_475
  let v626 : BitVec 32 := Scalar.addi c0_i32_476 v625
  let c1_i32_72 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v108 : BitVec 32 := Scalar.subi c1_i32_72 v5
  let c2_i32_477 : BitVec 32 := 2#32
  let v627 : BitVec 32 := Scalar.muli v108 c2_i32_477
  let v628 : BitVec 32 := Scalar.addi v626 v627
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v629 : BitVec 32 := Scalar.muli v8 c1_i32_478
  let v630 : BitVec 32 := Scalar.addi v628 v629
  v630.toNat
def k0_dev31 (d0 : Dev nD) : Nat :=
  let c0_i32_486 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_485 : BitVec 32 := 4#32
  let v637 : BitVec 32 := Scalar.muli v2 c4_i32_485
  let v638 : BitVec 32 := Scalar.addi c0_i32_486 v637
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_74 v5
  let c2_i32_487 : BitVec 32 := 2#32
  let v639 : BitVec 32 := Scalar.muli v111 c2_i32_487
  let v640 : BitVec 32 := Scalar.addi v638 v639
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_488 : BitVec 32 := 1#32
  let v641 : BitVec 32 := Scalar.muli v8 c1_i32_488
  let v642 : BitVec 32 := Scalar.addi v640 v641
  v642.toNat
def k0_dev32 (d0 : Dev nD) : Nat :=
  let c0_i32_496 : BitVec 32 := 0#32
  let c1_i32_76 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_76 v2
  let c4_i32_495 : BitVec 32 := 4#32
  let v649 : BitVec 32 := Scalar.muli v114 c4_i32_495
  let v650 : BitVec 32 := Scalar.addi c0_i32_496 v649
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_497 : BitVec 32 := 2#32
  let v651 : BitVec 32 := Scalar.muli v5 c2_i32_497
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_498 : BitVec 32 := 1#32
  let v653 : BitVec 32 := Scalar.muli v8 c1_i32_498
  let v654 : BitVec 32 := Scalar.addi v652 v653
  v654.toNat
def k0_dev33 (d0 : Dev nD) : Nat :=
  let c0_i32_506 : BitVec 32 := 0#32
  let c1_i32_78 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v117 : BitVec 32 := Scalar.subi c1_i32_78 v2
  let c4_i32_505 : BitVec 32 := 4#32
  let v661 : BitVec 32 := Scalar.muli v117 c4_i32_505
  let v662 : BitVec 32 := Scalar.addi c0_i32_506 v661
  let c1_i32_79 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v118 : BitVec 32 := Scalar.subi c1_i32_79 v5
  let c2_i32_507 : BitVec 32 := 2#32
  let v663 : BitVec 32 := Scalar.muli v118 c2_i32_507
  let v664 : BitVec 32 := Scalar.addi v662 v663
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_508 : BitVec 32 := 1#32
  let v665 : BitVec 32 := Scalar.muli v8 c1_i32_508
  let v666 : BitVec 32 := Scalar.addi v664 v665
  v666.toNat
def k0_dev34 (d0 : Dev nD) : Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_515 : BitVec 32 := 4#32
  let v673 : BitVec 32 := Scalar.muli v2 c4_i32_515
  let v674 : BitVec 32 := Scalar.addi c0_i32_516 v673
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_81 v5
  let c2_i32_517 : BitVec 32 := 2#32
  let v675 : BitVec 32 := Scalar.muli v121 c2_i32_517
  let v676 : BitVec 32 := Scalar.addi v674 v675
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_518 : BitVec 32 := 1#32
  let v677 : BitVec 32 := Scalar.muli v8 c1_i32_518
  let v678 : BitVec 32 := Scalar.addi v676 v677
  v678.toNat
def k0_dev35 (d0 : Dev nD) : Nat :=
  let c0_i32_526 : BitVec 32 := 0#32
  let c1_i32_83 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v124 : BitVec 32 := Scalar.subi c1_i32_83 v2
  let c4_i32_525 : BitVec 32 := 4#32
  let v685 : BitVec 32 := Scalar.muli v124 c4_i32_525
  let v686 : BitVec 32 := Scalar.addi c0_i32_526 v685
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_527 : BitVec 32 := 2#32
  let v687 : BitVec 32 := Scalar.muli v5 c2_i32_527
  let v688 : BitVec 32 := Scalar.addi v686 v687
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_528 : BitVec 32 := 1#32
  let v689 : BitVec 32 := Scalar.muli v8 c1_i32_528
  let v690 : BitVec 32 := Scalar.addi v688 v689
  v690.toNat
def k0_dev36 (d0 : Dev nD) : Nat :=
  let c0_i32_536 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v127 : BitVec 32 := Scalar.subi c1_i32_85 v2
  let c4_i32_535 : BitVec 32 := 4#32
  let v697 : BitVec 32 := Scalar.muli v127 c4_i32_535
  let v698 : BitVec 32 := Scalar.addi c0_i32_536 v697
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v128 : BitVec 32 := Scalar.subi c1_i32_86 v5
  let c2_i32_537 : BitVec 32 := 2#32
  let v699 : BitVec 32 := Scalar.muli v128 c2_i32_537
  let v700 : BitVec 32 := Scalar.addi v698 v699
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_538 : BitVec 32 := 1#32
  let v701 : BitVec 32 := Scalar.muli v8 c1_i32_538
  let v702 : BitVec 32 := Scalar.addi v700 v701
  v702.toNat
def k0_dev37 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v709 : BitVec 32 := Scalar.muli v2 c4_i32_545
  let v710 : BitVec 32 := Scalar.addi c0_i32_546 v709
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v131 : BitVec 32 := Scalar.subi c1_i32_88 v5
  let c2_i32_547 : BitVec 32 := 2#32
  let v711 : BitVec 32 := Scalar.muli v131 c2_i32_547
  let v712 : BitVec 32 := Scalar.addi v710 v711
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_548 : BitVec 32 := 1#32
  let v713 : BitVec 32 := Scalar.muli v8 c1_i32_548
  let v714 : BitVec 32 := Scalar.addi v712 v713
  v714.toNat
def k0_dev38 (d0 : Dev nD) : Nat :=
  let c0_i32_556 : BitVec 32 := 0#32
  let c1_i32_90 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_90 v2
  let c4_i32_555 : BitVec 32 := 4#32
  let v721 : BitVec 32 := Scalar.muli v134 c4_i32_555
  let v722 : BitVec 32 := Scalar.addi c0_i32_556 v721
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_557 : BitVec 32 := 2#32
  let v723 : BitVec 32 := Scalar.muli v5 c2_i32_557
  let v724 : BitVec 32 := Scalar.addi v722 v723
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_558 : BitVec 32 := 1#32
  let v725 : BitVec 32 := Scalar.muli v8 c1_i32_558
  let v726 : BitVec 32 := Scalar.addi v724 v725
  v726.toNat
def k0_dev39 (d0 : Dev nD) : Nat :=
  let c0_i32_566 : BitVec 32 := 0#32
  let c1_i32_92 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v137 : BitVec 32 := Scalar.subi c1_i32_92 v2
  let c4_i32_565 : BitVec 32 := 4#32
  let v733 : BitVec 32 := Scalar.muli v137 c4_i32_565
  let v734 : BitVec 32 := Scalar.addi c0_i32_566 v733
  let c1_i32_93 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.subi c1_i32_93 v5
  let c2_i32_567 : BitVec 32 := 2#32
  let v735 : BitVec 32 := Scalar.muli v138 c2_i32_567
  let v736 : BitVec 32 := Scalar.addi v734 v735
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_568 : BitVec 32 := 1#32
  let v737 : BitVec 32 := Scalar.muli v8 c1_i32_568
  let v738 : BitVec 32 := Scalar.addi v736 v737
  v738.toNat
def k0_dev40 (d0 : Dev nD) : Nat :=
  let c0_i32_576 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_575 : BitVec 32 := 4#32
  let v745 : BitVec 32 := Scalar.muli v2 c4_i32_575
  let v746 : BitVec 32 := Scalar.addi c0_i32_576 v745
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v141 : BitVec 32 := Scalar.subi c1_i32_95 v5
  let c2_i32_577 : BitVec 32 := 2#32
  let v747 : BitVec 32 := Scalar.muli v141 c2_i32_577
  let v748 : BitVec 32 := Scalar.addi v746 v747
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_578 : BitVec 32 := 1#32
  let v749 : BitVec 32 := Scalar.muli v8 c1_i32_578
  let v750 : BitVec 32 := Scalar.addi v748 v749
  v750.toNat
def k0_dev41 (d0 : Dev nD) : Nat :=
  let c0_i32_586 : BitVec 32 := 0#32
  let c1_i32_97 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v144 : BitVec 32 := Scalar.subi c1_i32_97 v2
  let c4_i32_585 : BitVec 32 := 4#32
  let v757 : BitVec 32 := Scalar.muli v144 c4_i32_585
  let v758 : BitVec 32 := Scalar.addi c0_i32_586 v757
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_587 : BitVec 32 := 2#32
  let v759 : BitVec 32 := Scalar.muli v5 c2_i32_587
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_588 : BitVec 32 := 1#32
  let v761 : BitVec 32 := Scalar.muli v8 c1_i32_588
  let v762 : BitVec 32 := Scalar.addi v760 v761
  v762.toNat
def k0_dev42 (d0 : Dev nD) : Nat :=
  let c0_i32_596 : BitVec 32 := 0#32
  let c1_i32_99 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v147 : BitVec 32 := Scalar.subi c1_i32_99 v2
  let c4_i32_595 : BitVec 32 := 4#32
  let v769 : BitVec 32 := Scalar.muli v147 c4_i32_595
  let v770 : BitVec 32 := Scalar.addi c0_i32_596 v769
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v148 : BitVec 32 := Scalar.subi c1_i32_100 v5
  let c2_i32_597 : BitVec 32 := 2#32
  let v771 : BitVec 32 := Scalar.muli v148 c2_i32_597
  let v772 : BitVec 32 := Scalar.addi v770 v771
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_598 : BitVec 32 := 1#32
  let v773 : BitVec 32 := Scalar.muli v8 c1_i32_598
  let v774 : BitVec 32 := Scalar.addi v772 v773
  v774.toNat
def k0_dev43 (d0 : Dev nD) : Nat :=
  let c0_i32_606 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_605 : BitVec 32 := 4#32
  let v781 : BitVec 32 := Scalar.muli v2 c4_i32_605
  let v782 : BitVec 32 := Scalar.addi c0_i32_606 v781
  let c1_i32_102 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v151 : BitVec 32 := Scalar.subi c1_i32_102 v5
  let c2_i32_607 : BitVec 32 := 2#32
  let v783 : BitVec 32 := Scalar.muli v151 c2_i32_607
  let v784 : BitVec 32 := Scalar.addi v782 v783
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_608 : BitVec 32 := 1#32
  let v785 : BitVec 32 := Scalar.muli v8 c1_i32_608
  let v786 : BitVec 32 := Scalar.addi v784 v785
  v786.toNat
def k0_dev44 (d0 : Dev nD) : Nat :=
  let c0_i32_616 : BitVec 32 := 0#32
  let c1_i32_104 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v154 : BitVec 32 := Scalar.subi c1_i32_104 v2
  let c4_i32_615 : BitVec 32 := 4#32
  let v793 : BitVec 32 := Scalar.muli v154 c4_i32_615
  let v794 : BitVec 32 := Scalar.addi c0_i32_616 v793
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_617 : BitVec 32 := 2#32
  let v795 : BitVec 32 := Scalar.muli v5 c2_i32_617
  let v796 : BitVec 32 := Scalar.addi v794 v795
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_618 : BitVec 32 := 1#32
  let v797 : BitVec 32 := Scalar.muli v8 c1_i32_618
  let v798 : BitVec 32 := Scalar.addi v796 v797
  v798.toNat
def k0_dev45 (d0 : Dev nD) : Nat :=
  let c0_i32_626 : BitVec 32 := 0#32
  let c1_i32_106 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v157 : BitVec 32 := Scalar.subi c1_i32_106 v2
  let c4_i32_625 : BitVec 32 := 4#32
  let v805 : BitVec 32 := Scalar.muli v157 c4_i32_625
  let v806 : BitVec 32 := Scalar.addi c0_i32_626 v805
  let c1_i32_107 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v158 : BitVec 32 := Scalar.subi c1_i32_107 v5
  let c2_i32_627 : BitVec 32 := 2#32
  let v807 : BitVec 32 := Scalar.muli v158 c2_i32_627
  let v808 : BitVec 32 := Scalar.addi v806 v807
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_628 : BitVec 32 := 1#32
  let v809 : BitVec 32 := Scalar.muli v8 c1_i32_628
  let v810 : BitVec 32 := Scalar.addi v808 v809
  v810.toNat
def k0_dev46 (d0 : Dev nD) : Nat :=
  let c0_i32_636 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_635 : BitVec 32 := 4#32
  let v817 : BitVec 32 := Scalar.muli v2 c4_i32_635
  let v818 : BitVec 32 := Scalar.addi c0_i32_636 v817
  let c1_i32_109 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.subi c1_i32_109 v5
  let c2_i32_637 : BitVec 32 := 2#32
  let v819 : BitVec 32 := Scalar.muli v161 c2_i32_637
  let v820 : BitVec 32 := Scalar.addi v818 v819
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_638 : BitVec 32 := 1#32
  let v821 : BitVec 32 := Scalar.muli v8 c1_i32_638
  let v822 : BitVec 32 := Scalar.addi v820 v821
  v822.toNat
def k0_dev47 (d0 : Dev nD) : Nat :=
  let c0_i32_646 : BitVec 32 := 0#32
  let c1_i32_111 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v164 : BitVec 32 := Scalar.subi c1_i32_111 v2
  let c4_i32_645 : BitVec 32 := 4#32
  let v829 : BitVec 32 := Scalar.muli v164 c4_i32_645
  let v830 : BitVec 32 := Scalar.addi c0_i32_646 v829
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_647 : BitVec 32 := 2#32
  let v831 : BitVec 32 := Scalar.muli v5 c2_i32_647
  let v832 : BitVec 32 := Scalar.addi v830 v831
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_648 : BitVec 32 := 1#32
  let v833 : BitVec 32 := Scalar.muli v8 c1_i32_648
  let v834 : BitVec 32 := Scalar.addi v832 v833
  v834.toNat
def k0_dev48 (d0 : Dev nD) : Nat :=
  let c0_i32_656 : BitVec 32 := 0#32
  let c1_i32_113 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v167 : BitVec 32 := Scalar.subi c1_i32_113 v2
  let c4_i32_655 : BitVec 32 := 4#32
  let v841 : BitVec 32 := Scalar.muli v167 c4_i32_655
  let v842 : BitVec 32 := Scalar.addi c0_i32_656 v841
  let c1_i32_114 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v168 : BitVec 32 := Scalar.subi c1_i32_114 v5
  let c2_i32_657 : BitVec 32 := 2#32
  let v843 : BitVec 32 := Scalar.muli v168 c2_i32_657
  let v844 : BitVec 32 := Scalar.addi v842 v843
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_658 : BitVec 32 := 1#32
  let v845 : BitVec 32 := Scalar.muli v8 c1_i32_658
  let v846 : BitVec 32 := Scalar.addi v844 v845
  v846.toNat
def k0_dev49 (d0 : Dev nD) : Nat :=
  let c0_i32_666 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_665 : BitVec 32 := 4#32
  let v853 : BitVec 32 := Scalar.muli v2 c4_i32_665
  let v854 : BitVec 32 := Scalar.addi c0_i32_666 v853
  let c1_i32_116 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v171 : BitVec 32 := Scalar.subi c1_i32_116 v5
  let c2_i32_667 : BitVec 32 := 2#32
  let v855 : BitVec 32 := Scalar.muli v171 c2_i32_667
  let v856 : BitVec 32 := Scalar.addi v854 v855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_668 : BitVec 32 := 1#32
  let v857 : BitVec 32 := Scalar.muli v8 c1_i32_668
  let v858 : BitVec 32 := Scalar.addi v856 v857
  v858.toNat
def k0_dev50 (d0 : Dev nD) : Nat :=
  let c0_i32_677 : BitVec 32 := 0#32
  let c1_i32_118 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.subi c1_i32_118 v2
  let c4_i32_676 : BitVec 32 := 4#32
  let v865 : BitVec 32 := Scalar.muli v174 c4_i32_676
  let v866 : BitVec 32 := Scalar.addi c0_i32_677 v865
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_678 : BitVec 32 := 2#32
  let v867 : BitVec 32 := Scalar.muli v5 c2_i32_678
  let v868 : BitVec 32 := Scalar.addi v866 v867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_679 : BitVec 32 := 1#32
  let v869 : BitVec 32 := Scalar.muli v8 c1_i32_679
  let v870 : BitVec 32 := Scalar.addi v868 v869
  v870.toNat
def k0_dev51 (d0 : Dev nD) : Nat :=
  let c0_i32_688 : BitVec 32 := 0#32
  let c1_i32_120 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v177 : BitVec 32 := Scalar.subi c1_i32_120 v2
  let c4_i32_687 : BitVec 32 := 4#32
  let v877 : BitVec 32 := Scalar.muli v177 c4_i32_687
  let v878 : BitVec 32 := Scalar.addi c0_i32_688 v877
  let c1_i32_121 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v178 : BitVec 32 := Scalar.subi c1_i32_121 v5
  let c2_i32_689 : BitVec 32 := 2#32
  let v879 : BitVec 32 := Scalar.muli v178 c2_i32_689
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_690 : BitVec 32 := 1#32
  let v881 : BitVec 32 := Scalar.muli v8 c1_i32_690
  let v882 : BitVec 32 := Scalar.addi v880 v881
  v882.toNat
def k0_dev52 (d0 : Dev nD) : Nat :=
  let c0_i32_699 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_698 : BitVec 32 := 4#32
  let v889 : BitVec 32 := Scalar.muli v2 c4_i32_698
  let v890 : BitVec 32 := Scalar.addi c0_i32_699 v889
  let c1_i32_123 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v181 : BitVec 32 := Scalar.subi c1_i32_123 v5
  let c2_i32_700 : BitVec 32 := 2#32
  let v891 : BitVec 32 := Scalar.muli v181 c2_i32_700
  let v892 : BitVec 32 := Scalar.addi v890 v891
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_701 : BitVec 32 := 1#32
  let v893 : BitVec 32 := Scalar.muli v8 c1_i32_701
  let v894 : BitVec 32 := Scalar.addi v892 v893
  v894.toNat
def k0_dev53 (d0 : Dev nD) : Nat :=
  let c0_i32_710 : BitVec 32 := 0#32
  let c1_i32_125 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v184 : BitVec 32 := Scalar.subi c1_i32_125 v2
  let c4_i32_709 : BitVec 32 := 4#32
  let v901 : BitVec 32 := Scalar.muli v184 c4_i32_709
  let v902 : BitVec 32 := Scalar.addi c0_i32_710 v901
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_711 : BitVec 32 := 2#32
  let v903 : BitVec 32 := Scalar.muli v5 c2_i32_711
  let v904 : BitVec 32 := Scalar.addi v902 v903
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_712 : BitVec 32 := 1#32
  let v905 : BitVec 32 := Scalar.muli v8 c1_i32_712
  let v906 : BitVec 32 := Scalar.addi v904 v905
  v906.toNat
def k0_dev54 (d0 : Dev nD) : Nat :=
  let c0_i32_721 : BitVec 32 := 0#32
  let c1_i32_127 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v187 : BitVec 32 := Scalar.subi c1_i32_127 v2
  let c4_i32_720 : BitVec 32 := 4#32
  let v913 : BitVec 32 := Scalar.muli v187 c4_i32_720
  let v914 : BitVec 32 := Scalar.addi c0_i32_721 v913
  let c1_i32_128 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v188 : BitVec 32 := Scalar.subi c1_i32_128 v5
  let c2_i32_722 : BitVec 32 := 2#32
  let v915 : BitVec 32 := Scalar.muli v188 c2_i32_722
  let v916 : BitVec 32 := Scalar.addi v914 v915
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_723 : BitVec 32 := 1#32
  let v917 : BitVec 32 := Scalar.muli v8 c1_i32_723
  let v918 : BitVec 32 := Scalar.addi v916 v917
  v918.toNat
def k0_dev55 (d0 : Dev nD) : Nat :=
  let c0_i32_732 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_731 : BitVec 32 := 4#32
  let v925 : BitVec 32 := Scalar.muli v2 c4_i32_731
  let v926 : BitVec 32 := Scalar.addi c0_i32_732 v925
  let c1_i32_130 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v191 : BitVec 32 := Scalar.subi c1_i32_130 v5
  let c2_i32_733 : BitVec 32 := 2#32
  let v927 : BitVec 32 := Scalar.muli v191 c2_i32_733
  let v928 : BitVec 32 := Scalar.addi v926 v927
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_734 : BitVec 32 := 1#32
  let v929 : BitVec 32 := Scalar.muli v8 c1_i32_734
  let v930 : BitVec 32 := Scalar.addi v928 v929
  v930.toNat
def k0_dev56 (d0 : Dev nD) : Nat :=
  let c0_i32_743 : BitVec 32 := 0#32
  let c1_i32_132 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v194 : BitVec 32 := Scalar.subi c1_i32_132 v2
  let c4_i32_742 : BitVec 32 := 4#32
  let v937 : BitVec 32 := Scalar.muli v194 c4_i32_742
  let v938 : BitVec 32 := Scalar.addi c0_i32_743 v937
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_744 : BitVec 32 := 2#32
  let v939 : BitVec 32 := Scalar.muli v5 c2_i32_744
  let v940 : BitVec 32 := Scalar.addi v938 v939
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_745 : BitVec 32 := 1#32
  let v941 : BitVec 32 := Scalar.muli v8 c1_i32_745
  let v942 : BitVec 32 := Scalar.addi v940 v941
  v942.toNat
def k0_dev57 (d0 : Dev nD) : Nat :=
  let c0_i32_754 : BitVec 32 := 0#32
  let c1_i32_134 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v197 : BitVec 32 := Scalar.subi c1_i32_134 v2
  let c4_i32_753 : BitVec 32 := 4#32
  let v949 : BitVec 32 := Scalar.muli v197 c4_i32_753
  let v950 : BitVec 32 := Scalar.addi c0_i32_754 v949
  let c1_i32_135 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v198 : BitVec 32 := Scalar.subi c1_i32_135 v5
  let c2_i32_755 : BitVec 32 := 2#32
  let v951 : BitVec 32 := Scalar.muli v198 c2_i32_755
  let v952 : BitVec 32 := Scalar.addi v950 v951
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_756 : BitVec 32 := 1#32
  let v953 : BitVec 32 := Scalar.muli v8 c1_i32_756
  let v954 : BitVec 32 := Scalar.addi v952 v953
  v954.toNat
def k0_off8 (d0 : Dev nD) : Fin 3 → Nat :=
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_5 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let v13 : BitVec 32 := Scalar.addi v12 v11
  let c0_i32_768 : BitVec 32 := 0#32
  let c0_i32_769 : BitVec 32 := 0#32
  ![v13.toNat, 0, 0]
def k0_off9 (d0 : Dev nD) : Fin 3 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_778 : BitVec 32 := 0#32
  let c0_i32_779 : BitVec 32 := 0#32
  ![v16.toNat, 0, 0]
def k0_off10 (d0 : Dev nD) : Fin 3 → Nat :=
  let c2_i32_10 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v19 : BitVec 32 := Scalar.muli c2_i32_10 v17
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let v20 : BitVec 32 := Scalar.addi v19 v18
  let c0_i32_788 : BitVec 32 := 0#32
  let c0_i32_789 : BitVec 32 := 0#32
  ![v20.toNat, 0, 0]
def k0_off11 (d0 : Dev nD) : Fin 3 → Nat :=
  let c2_i32_19 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.muli c2_i32_19 v2
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_18 v5
  let v33 : BitVec 32 := Scalar.addi v32 v31
  let c0_i32_828 : BitVec 32 := 0#32
  let c0_i32_829 : BitVec 32 := 0#32
  ![v33.toNat, 0, 0]
def k0_off12 (d0 : Dev nD) : Fin 3 → Nat :=
  let c2_i32_21 : BitVec 32 := 2#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_20 v2
  let v35 : BitVec 32 := Scalar.muli c2_i32_21 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.addi v35 v5
  let c0_i32_838 : BitVec 32 := 0#32
  let c0_i32_839 : BitVec 32 := 0#32
  ![v36.toNat, 0, 0]
def k0_off13 (d0 : Dev nD) : Fin 3 → Nat :=
  let c2_i32_24 : BitVec 32 := 2#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_22 v2
  let v39 : BitVec 32 := Scalar.muli c2_i32_24 v37
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_23 v5
  let v40 : BitVec 32 := Scalar.addi v39 v38
  let c0_i32_848 : BitVec 32 := 0#32
  let c0_i32_849 : BitVec 32 := 0#32
  ![v40.toNat, 0, 0]
def k0_off14 (d0 : Dev nD) : Fin 3 → Nat :=
  let c2_i32_33 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v52 : BitVec 32 := Scalar.muli c2_i32_33 v2
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_32 v5
  let v53 : BitVec 32 := Scalar.addi v52 v51
  let c0_i32_888 : BitVec 32 := 0#32
  let c0_i32_889 : BitVec 32 := 0#32
  ![v53.toNat, 0, 0]
def k0_off15 (d0 : Dev nD) : Fin 3 → Nat :=
  let c2_i32_35 : BitVec 32 := 2#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v54 : BitVec 32 := Scalar.subi c1_i32_34 v2
  let v55 : BitVec 32 := Scalar.muli c2_i32_35 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.addi v55 v5
  let c0_i32_898 : BitVec 32 := 0#32
  let c0_i32_899 : BitVec 32 := 0#32
  ![v56.toNat, 0, 0]
def k0_off16 (d0 : Dev nD) : Fin 3 → Nat :=
  let c2_i32_38 : BitVec 32 := 2#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_36 v2
  let v59 : BitVec 32 := Scalar.muli c2_i32_38 v57
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_37 v5
  let v60 : BitVec 32 := Scalar.addi v59 v58
  let c0_i32_908 : BitVec 32 := 0#32
  let c0_i32_909 : BitVec 32 := 0#32
  ![v60.toNat, 0, 0]
def k0_off17 (d0 : Dev nD) : Fin 3 → Nat :=
  let c2_i32_47 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.muli c2_i32_47 v2
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.addi v72 v71
  let c0_i32_948 : BitVec 32 := 0#32
  let c0_i32_949 : BitVec 32 := 0#32
  ![v73.toNat, 0, 0]
def k0_off18 (d0 : Dev nD) : Fin 3 → Nat :=
  let c2_i32_49 : BitVec 32 := 2#32
  let c1_i32_48 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v74 : BitVec 32 := Scalar.subi c1_i32_48 v2
  let v75 : BitVec 32 := Scalar.muli c2_i32_49 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.addi v75 v5
  let c0_i32_958 : BitVec 32 := 0#32
  let c0_i32_959 : BitVec 32 := 0#32
  ![v76.toNat, 0, 0]
def k0_off19 (d0 : Dev nD) : Fin 3 → Nat :=
  let c2_i32_52 : BitVec 32 := 2#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_50 v2
  let v79 : BitVec 32 := Scalar.muli c2_i32_52 v77
  let c1_i32_51 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v78 : BitVec 32 := Scalar.subi c1_i32_51 v5
  let v80 : BitVec 32 := Scalar.addi v79 v78
  let c0_i32_968 : BitVec 32 := 0#32
  let c0_i32_969 : BitVec 32 := 0#32
  ![v80.toNat, 0, 0]
def k0_off20 (d0 : Dev nD) : Fin 3 → Nat :=
  let c2_i32_61 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.muli c2_i32_61 v2
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.subi c1_i32_60 v5
  let v93 : BitVec 32 := Scalar.addi v92 v91
  let c0_i32_1008 : BitVec 32 := 0#32
  let c0_i32_1009 : BitVec 32 := 0#32
  ![v93.toNat, 0, 0]
def k0_off21 (d0 : Dev nD) : Fin 3 → Nat :=
  let c2_i32_63 : BitVec 32 := 2#32
  let c1_i32_62 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_62 v2
  let v95 : BitVec 32 := Scalar.muli c2_i32_63 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v96 : BitVec 32 := Scalar.addi v95 v5
  let c0_i32_1018 : BitVec 32 := 0#32
  let c0_i32_1019 : BitVec 32 := 0#32
  ![v96.toNat, 0, 0]
def k0_off22 (d0 : Dev nD) : Fin 3 → Nat :=
  let c2_i32_66 : BitVec 32 := 2#32
  let c1_i32_64 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_64 v2
  let v99 : BitVec 32 := Scalar.muli c2_i32_66 v97
  let c1_i32_65 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_65 v5
  let v100 : BitVec 32 := Scalar.addi v99 v98
  let c0_i32_1028 : BitVec 32 := 0#32
  let c0_i32_1029 : BitVec 32 := 0#32
  ![v100.toNat, 0, 0]
def k0_off23 (d0 : Dev nD) : Fin 4 → Nat :=
  let c2_i32_117 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v172 : BitVec 32 := Scalar.muli c2_i32_117 v2
  let c1_i32_116 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v171 : BitVec 32 := Scalar.subi c1_i32_116 v5
  let v173 : BitVec 32 := Scalar.addi v172 v171
  let c0_i32_1248 : BitVec 32 := 0#32
  let c0_i32_1249 : BitVec 32 := 0#32
  let c0_i32_1250 : BitVec 32 := 0#32
  ![v173.toNat, 0, 0, 0]
def k0_off24 (d0 : Dev nD) : Fin 4 → Nat :=
  let c2_i32_119 : BitVec 32 := 2#32
  let c1_i32_118 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.subi c1_i32_118 v2
  let v175 : BitVec 32 := Scalar.muli c2_i32_119 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v176 : BitVec 32 := Scalar.addi v175 v5
  let c0_i32_1259 : BitVec 32 := 0#32
  let c0_i32_1260 : BitVec 32 := 0#32
  let c0_i32_1261 : BitVec 32 := 0#32
  ![v176.toNat, 0, 0, 0]
def k0_off25 (d0 : Dev nD) : Fin 4 → Nat :=
  let c2_i32_122 : BitVec 32 := 2#32
  let c1_i32_120 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v177 : BitVec 32 := Scalar.subi c1_i32_120 v2
  let v179 : BitVec 32 := Scalar.muli c2_i32_122 v177
  let c1_i32_121 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v178 : BitVec 32 := Scalar.subi c1_i32_121 v5
  let v180 : BitVec 32 := Scalar.addi v179 v178
  let c0_i32_1270 : BitVec 32 := 0#32
  let c0_i32_1271 : BitVec 32 := 0#32
  let c0_i32_1272 : BitVec 32 := 0#32
  ![v180.toNat, 0, 0, 0]
def k0_off26 (d0 : Dev nD) : Fin 4 → Nat :=
  let c2_i32_124 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v182 : BitVec 32 := Scalar.muli c2_i32_124 v2
  let c1_i32_123 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v181 : BitVec 32 := Scalar.subi c1_i32_123 v5
  let v183 : BitVec 32 := Scalar.addi v182 v181
  let c0_i32_1281 : BitVec 32 := 0#32
  let c0_i32_1282 : BitVec 32 := 0#32
  let c0_i32_1283 : BitVec 32 := 0#32
  ![v183.toNat, 0, 0, 0]
def k0_off27 (d0 : Dev nD) : Fin 4 → Nat :=
  let c2_i32_126 : BitVec 32 := 2#32
  let c1_i32_125 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v184 : BitVec 32 := Scalar.subi c1_i32_125 v2
  let v185 : BitVec 32 := Scalar.muli c2_i32_126 v184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v186 : BitVec 32 := Scalar.addi v185 v5
  let c0_i32_1292 : BitVec 32 := 0#32
  let c0_i32_1293 : BitVec 32 := 0#32
  let c0_i32_1294 : BitVec 32 := 0#32
  ![v186.toNat, 0, 0, 0]
def k0_off28 (d0 : Dev nD) : Fin 4 → Nat :=
  let c2_i32_129 : BitVec 32 := 2#32
  let c1_i32_127 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v187 : BitVec 32 := Scalar.subi c1_i32_127 v2
  let v189 : BitVec 32 := Scalar.muli c2_i32_129 v187
  let c1_i32_128 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v188 : BitVec 32 := Scalar.subi c1_i32_128 v5
  let v190 : BitVec 32 := Scalar.addi v189 v188
  let c0_i32_1303 : BitVec 32 := 0#32
  let c0_i32_1304 : BitVec 32 := 0#32
  let c0_i32_1305 : BitVec 32 := 0#32
  ![v190.toNat, 0, 0, 0]
-- ==== GatherReferenceIdeal.lean ====
abbrev S1024x2048 : Shape := ⟨2, ![1024, 2048]⟩
abbrev S1024x1024 : Shape := ⟨2, ![1024, 1024]⟩
abbrev S1024x6144 : Shape := ⟨2, ![1024, 6144]⟩
abbrev S2048x1024 : Shape := ⟨2, ![2048, 1024]⟩
abbrev S1024x4096 : Shape := ⟨2, ![1024, 4096]⟩
abbrev S4096x1024 : Shape := ⟨2, ![4096, 1024]⟩
abbrev S2x31x1024 : Shape := ⟨3, ![2, 31, 1024]⟩
abbrev S2x4x512 : Shape := ⟨3, ![2, 4, 512]⟩
abbrev S1024x4x512 : Shape := ⟨3, ![1024, 4, 512]⟩
abbrev S4x1024x512 : Shape := ⟨3, ![4, 1024, 512]⟩
abbrev S4x256x1024 : Shape := ⟨3, ![4, 256, 1024]⟩
abbrev S1024x4x1536 : Shape := ⟨3, ![1024, 4, 1536]⟩
abbrev S4x1024x1536 : Shape := ⟨3, ![4, 1024, 1536]⟩
abbrev S4x512x1024 : Shape := ⟨3, ![4, 512, 1024]⟩
abbrev S1024x4x1024 : Shape := ⟨3, ![1024, 4, 1024]⟩
abbrev S4x1024x1024 : Shape := ⟨3, ![4, 1024, 1024]⟩
abbrev S2x31x4x256 : Shape := ⟨4, ![2, 31, 4, 256]⟩
abbrev S4x2x31x256 : Shape := ⟨4, ![4, 2, 31, 256]⟩
abbrev S2x4x4x128 : Shape := ⟨4, ![2, 4, 4, 128]⟩
abbrev S4x2x4x128 : Shape := ⟨4, ![4, 2, 4, 128]⟩

abbrev nBuf : Space → Nat
  | .hbm => 49
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x1024, .bf16⟩
  | .hbm, ⟨3, _⟩ => ⟨S1024x1024, .bf16⟩
  | .hbm, ⟨4, _⟩ => ⟨S1024x6144, .bf16⟩
  | .hbm, ⟨5, _⟩ => ⟨S1024x6144, .bf16⟩
  | .hbm, ⟨6, _⟩ => ⟨S2048x1024, .bf16⟩
  | .hbm, ⟨7, _⟩ => ⟨S2048x1024, .bf16⟩
  | .hbm, ⟨8, _⟩ => ⟨S1024x4096, .bf16⟩
  | .hbm, ⟨9, _⟩ => ⟨S1024x4096, .bf16⟩
  | .hbm, ⟨10, _⟩ => ⟨S1024x4096, .bf16⟩
  | .hbm, ⟨11, _⟩ => ⟨S1024x4096, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S2x31x1024, .f32⟩
  | .hbm, ⟨17, _⟩ => ⟨S2x4x512, .f32⟩
  | .hbm, ⟨18, _⟩ => ⟨S2x4x512, .f32⟩
  | .hbm, ⟨19, _⟩ => ⟨S1024x4x512, .bf16⟩
  | .hbm, ⟨20, _⟩ => ⟨S4x1024x512, .bf16⟩
  | .hbm, ⟨21, _⟩ => ⟨S1024x4x512, .bf16⟩
  | .hbm, ⟨22, _⟩ => ⟨S4x1024x512, .bf16⟩
  | .hbm, ⟨23, _⟩ => ⟨S4x256x1024, .bf16⟩
  | .hbm, ⟨24, _⟩ => ⟨S4x256x1024, .bf16⟩
  | .hbm, ⟨25, _⟩ => ⟨S1024x4x1536, .bf16⟩
  | .hbm, ⟨26, _⟩ => ⟨S4x1024x1536, .bf16⟩
  | .hbm, ⟨27, _⟩ => ⟨S1024x4x1536, .bf16⟩
  | .hbm, ⟨28, _⟩ => ⟨S4x1024x1536, .bf16⟩
  | .hbm, ⟨29, _⟩ => ⟨S4x512x1024, .bf16⟩
  | .hbm, ⟨30, _⟩ => ⟨S4x512x1024, .bf16⟩
  | .hbm, ⟨31, _⟩ => ⟨S1024x4x1024, .bf16⟩
  | .hbm, ⟨32, _⟩ => ⟨S4x1024x1024, .bf16⟩
  | .hbm, ⟨33, _⟩ => ⟨S1024x4x1024, .bf16⟩
  | .hbm, ⟨34, _⟩ => ⟨S4x1024x1024, .bf16⟩
  | .hbm, ⟨35, _⟩ => ⟨S1024x4x1024, .bf16⟩
  | .hbm, ⟨36, _⟩ => ⟨S4x1024x1024, .bf16⟩
  | .hbm, ⟨37, _⟩ => ⟨S1024x4x1024, .bf16⟩
  | .hbm, ⟨38, _⟩ => ⟨S4x1024x1024, .bf16⟩
  | .hbm, ⟨39, _⟩ => ⟨S4x1024x1024, .bf16⟩
  | .hbm, ⟨40, _⟩ => ⟨S4x1024x1024, .bf16⟩
  | .hbm, ⟨41, _⟩ => ⟨S4x1024x1024, .bf16⟩
  | .hbm, ⟨42, _⟩ => ⟨S4x1024x1024, .bf16⟩
  | .hbm, ⟨43, _⟩ => ⟨S2x31x4x256, .f32⟩
  | .hbm, ⟨44, _⟩ => ⟨S4x2x31x256, .f32⟩
  | .hbm, ⟨45, _⟩ => ⟨S2x4x4x128, .f32⟩
  | .hbm, ⟨46, _⟩ => ⟨S4x2x4x128, .f32⟩
  | .hbm, ⟨47, _⟩ => ⟨S2x4x4x128, .f32⟩
  | .hbm, ⟨48, _⟩ => ⟨S4x2x4x128, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== PwOne.lean ====
abbrev S2x4x1024x512 : Shape := ⟨4, ![2, 4, 1024, 512]⟩
abbrev S2x1024x512 : Shape := ⟨3, ![2, 1024, 512]⟩
abbrev S1x4x256x512 : Shape := ⟨4, ![1, 4, 256, 512]⟩
abbrev S1x256x512 : Shape := ⟨3, ![1, 256, 512]⟩
abbrev S1x1x256x512 : Shape := ⟨4, ![1, 1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2x4x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .local _ .vmem, ⟨0, _⟩ => ⟨S1x4x256x512, .f32⟩
  | .local _ .vmem, ⟨1, _⟩ => ⟨S1x4x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S2x4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PwOneIdeal.lean ====
abbrev S2x4x1024x512 : Shape := ⟨4, ![2, 4, 1024, 512]⟩
abbrev S2x1024x512 : Shape := ⟨3, ![2, 1024, 512]⟩
abbrev S1x4x256x512 : Shape := ⟨4, ![1, 4, 256, 512]⟩
abbrev S1x256x512 : Shape := ⟨3, ![1, 256, 512]⟩
abbrev S1x1x256x512 : Shape := ⟨4, ![1, 1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2x4x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .local _ .vmem, ⟨0, _⟩ => ⟨S1x4x256x512, .f32⟩
  | .local _ .vmem, ⟨1, _⟩ => ⟨S1x4x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S2x4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PwOneReferenceIdeal.lean ====
abbrev S2x4x1024x512 : Shape := ⟨4, ![2, 4, 1024, 512]⟩
abbrev S2x1024x512 : Shape := ⟨3, ![2, 1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x4x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S_, .f32⟩
  | .hbm, ⟨7, _⟩ => ⟨S2x1024x512, .f32⟩
  | .hbm, ⟨8, _⟩ => ⟨S2x1024x512, .f32⟩
  | .hbm, ⟨9, _⟩ => ⟨S_, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S_, .f32⟩
  | .hbm, ⟨14, _⟩ => ⟨S2x1024x512, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S_, .f32⟩
  | .hbm, ⟨25, _⟩ => ⟨S2x1024x512, .f32⟩
  | .hbm, ⟨26, _⟩ => ⟨S2x1024x512, .f32⟩
  | .hbm, ⟨27, _⟩ => ⟨S2x1024x512, .f32⟩
  | .hbm, ⟨28, _⟩ => ⟨S_, .f32⟩
  | .hbm, ⟨29, _⟩ => ⟨S2x1024x512, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | _, _ => ⟨S2x4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== PwTwo.lean ====
abbrev S2x4x256x1024 : Shape := ⟨4, ![2, 4, 256, 1024]⟩
abbrev S2x256x1024 : Shape := ⟨3, ![2, 256, 1024]⟩
abbrev S1x4x128x1024 : Shape := ⟨4, ![1, 4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x4x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x4x128x1024, .f32⟩
  | .local _ .vmem, ⟨1, _⟩ => ⟨S1x4x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S2x4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PwTwoIdeal.lean ====
abbrev S2x4x256x1024 : Shape := ⟨4, ![2, 4, 256, 1024]⟩
abbrev S2x256x1024 : Shape := ⟨3, ![2, 256, 1024]⟩
abbrev S1x4x128x1024 : Shape := ⟨4, ![1, 4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x4x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x4x128x1024, .f32⟩
  | .local _ .vmem, ⟨1, _⟩ => ⟨S1x4x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S2x4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PwTwoReferenceIdeal.lean ====
abbrev S2x4x256x1024 : Shape := ⟨4, ![2, 4, 256, 1024]⟩
abbrev S2x256x1024 : Shape := ⟨3, ![2, 256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x4x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | _, _ => ⟨S2x4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== RetIn.lean ====
abbrev S2x4x1024x1536 : Shape := ⟨4, ![2, 4, 1024, 1536]⟩
abbrev S2x1024x1536 : Shape := ⟨3, ![2, 1024, 1536]⟩
abbrev S1x4x64x1536 : Shape := ⟨4, ![1, 4, 64, 1536]⟩
abbrev S1x64x1536 : Shape := ⟨3, ![1, 64, 1536]⟩
abbrev S1x1x64x1536 : Shape := ⟨4, ![1, 1, 64, 1536]⟩
abbrev S64x1536 : Shape := ⟨2, ![64, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2x4x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .hbm, ⟨7, _⟩ => ⟨S2x1024x1536, .f32⟩
  | .local _ .vmem, ⟨0, _⟩ => ⟨S1x4x64x1536, .f32⟩
  | .local _ .vmem, ⟨1, _⟩ => ⟨S1x4x64x1536, .f32⟩
  | .local _ .vmem, ⟨2, _⟩ => ⟨S1x64x1536, .f32⟩
  | .local _ .vmem, ⟨3, _⟩ => ⟨S1x64x1536, .f32⟩
  | .local _ .vmem, ⟨4, _⟩ => ⟨S1x64x1536, .f32⟩
  | .local _ .vmem, ⟨5, _⟩ => ⟨S1x64x1536, .f32⟩
  | .local _ .vmem, ⟨6, _⟩ => ⟨S1x64x1536, .f32⟩
  | .local _ .vmem, ⟨7, _⟩ => ⟨S1x64x1536, .f32⟩
  | .local _ .vmem, ⟨8, _⟩ => ⟨S1x64x1536, .f32⟩
  | .local _ .vmem, ⟨9, _⟩ => ⟨S1x64x1536, .f32⟩
  | .local _ .vmem, ⟨10, _⟩ => ⟨S1x64x1536, .f32⟩
  | .local _ .vmem, ⟨11, _⟩ => ⟨S1x64x1536, .f32⟩
  | .local _ .vmem, ⟨12, _⟩ => ⟨S1x64x1536, .f32⟩
  | .local _ .vmem, ⟨13, _⟩ => ⟨S1x64x1536, .f32⟩
  | .local _ .vmem, ⟨14, _⟩ => ⟨S1x64x1536, .f32⟩
  | .local _ .vmem, ⟨15, _⟩ => ⟨S1x64x1536, .f32⟩
  | _, _ => ⟨S2x4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetInIdeal.lean ====
abbrev S2x4x1024x1536 : Shape := ⟨4, ![2, 4, 1024, 1536]⟩
abbrev S2x1024x1536 : Shape := ⟨3, ![2, 1024, 1536]⟩
abbrev S1x4x64x1536 : Shape := ⟨4, ![1, 4, 64, 1536]⟩
abbrev S1x64x1536 : Shape := ⟨3, ![1, 64, 1536]⟩
abbrev S1x1x64x1536 : Shape := ⟨4, ![1, 1, 64, 1536]⟩
abbrev S64x1536 : Shape := ⟨2, ![64, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2x4x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .hbm, ⟨7, _⟩ => ⟨S2x1024x1536, .f32⟩
  | .local _ .vmem, ⟨0, _⟩ => ⟨S1x4x64x1536, .f32⟩
  | .local _ .vmem, ⟨1, _⟩ => ⟨S1x4x64x1536, .f32⟩
  | .local _ .vmem, ⟨2, _⟩ => ⟨S1x64x1536, .f32⟩
  | .local _ .vmem, ⟨3, _⟩ => ⟨S1x64x1536, .f32⟩
  | .local _ .vmem, ⟨4, _⟩ => ⟨S1x64x1536, .f32⟩
  | .local _ .vmem, ⟨5, _⟩ => ⟨S1x64x1536, .f32⟩
  | .local _ .vmem, ⟨6, _⟩ => ⟨S1x64x1536, .f32⟩
  | .local _ .vmem, ⟨7, _⟩ => ⟨S1x64x1536, .f32⟩
  | .local _ .vmem, ⟨8, _⟩ => ⟨S1x64x1536, .f32⟩
  | .local _ .vmem, ⟨9, _⟩ => ⟨S1x64x1536, .f32⟩
  | .local _ .vmem, ⟨10, _⟩ => ⟨S1x64x1536, .f32⟩
  | .local _ .vmem, ⟨11, _⟩ => ⟨S1x64x1536, .f32⟩
  | .local _ .vmem, ⟨12, _⟩ => ⟨S1x64x1536, .f32⟩
  | .local _ .vmem, ⟨13, _⟩ => ⟨S1x64x1536, .f32⟩
  | .local _ .vmem, ⟨14, _⟩ => ⟨S1x64x1536, .f32⟩
  | .local _ .vmem, ⟨15, _⟩ => ⟨S1x64x1536, .f32⟩
  | _, _ => ⟨S2x4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetInReferenceIdeal.lean ====
abbrev S2x4x1024x1536 : Shape := ⟨4, ![2, 4, 1024, 1536]⟩
abbrev S2x1024x1536 : Shape := ⟨3, ![2, 1024, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x4x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S_, .f32⟩
  | .hbm, ⟨7, _⟩ => ⟨S2x1024x1536, .f32⟩
  | .hbm, ⟨8, _⟩ => ⟨S2x1024x1536, .f32⟩
  | .hbm, ⟨9, _⟩ => ⟨S_, .f32⟩
  | .hbm, ⟨10, _⟩ => ⟨S2x1024x1536, .f32⟩
  | .hbm, ⟨11, _⟩ => ⟨S2x1024x1536, .f32⟩
  | .hbm, ⟨12, _⟩ => ⟨S2x1024x1536, .f32⟩
  | .hbm, ⟨13, _⟩ => ⟨S_, .f32⟩
  | .hbm, ⟨14, _⟩ => ⟨S2x1024x1536, .f32⟩
  | .hbm, ⟨15, _⟩ => ⟨S2x1024x1536, .f32⟩
  | .hbm, ⟨16, _⟩ => ⟨S2x1024x1536, .f32⟩
  | .hbm, ⟨17, _⟩ => ⟨S_, .f32⟩
  | .hbm, ⟨18, _⟩ => ⟨S2x1024x1536, .f32⟩
  | .hbm, ⟨19, _⟩ => ⟨S2x1024x1536, .f32⟩
  | .hbm, ⟨20, _⟩ => ⟨S2x1024x1536, .f32⟩
  | .hbm, ⟨21, _⟩ => ⟨S_, .f32⟩
  | .hbm, ⟨22, _⟩ => ⟨S2x1024x1536, .f32⟩
  | .hbm, ⟨23, _⟩ => ⟨S2x1024x1536, .f32⟩
  | .hbm, ⟨24, _⟩ => ⟨S_, .f32⟩
  | .hbm, ⟨25, _⟩ => ⟨S2x1024x1536, .f32⟩
  | .hbm, ⟨26, _⟩ => ⟨S2x1024x1536, .f32⟩
  | .hbm, ⟨27, _⟩ => ⟨S2x1024x1536, .f32⟩
  | .hbm, ⟨28, _⟩ => ⟨S_, .f32⟩
  | .hbm, ⟨29, _⟩ => ⟨S2x1024x1536, .f32⟩
  | .hbm, ⟨30, _⟩ => ⟨S2x1024x1536, .f32⟩
  | .hbm, ⟨31, _⟩ => ⟨S2x1024x1536, .f32⟩
  | .hbm, ⟨32, _⟩ => ⟨S_, .f32⟩
  | .hbm, ⟨33, _⟩ => ⟨S2x1024x1536, .f32⟩
  | .hbm, ⟨34, _⟩ => ⟨S2x1024x1536, .f32⟩
  | .hbm, ⟨35, _⟩ => ⟨S2x1024x1536, .f32⟩
  | .hbm, ⟨36, _⟩ => ⟨S_, .f32⟩
  | .hbm, ⟨37, _⟩ => ⟨S2x1024x1536, .f32⟩
  | .hbm, ⟨38, _⟩ => ⟨S2x1024x1536, .f32⟩
  | _, _ => ⟨S2x4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== RetOut.lean ====
abbrev S2x4x512x1024 : Shape := ⟨4, ![2, 4, 512, 1024]⟩
abbrev S2x512x1024 : Shape := ⟨3, ![2, 512, 1024]⟩
abbrev S1x4x128x1024 : Shape := ⟨4, ![1, 4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x4x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .local _ .vmem, ⟨0, _⟩ => ⟨S1x4x128x1024, .f32⟩
  | .local _ .vmem, ⟨1, _⟩ => ⟨S1x4x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S2x4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetOutIdeal.lean ====
abbrev S2x4x512x1024 : Shape := ⟨4, ![2, 4, 512, 1024]⟩
abbrev S2x512x1024 : Shape := ⟨3, ![2, 512, 1024]⟩
abbrev S1x4x128x1024 : Shape := ⟨4, ![1, 4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x4x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .local _ .vmem, ⟨0, _⟩ => ⟨S1x4x128x1024, .f32⟩
  | .local _ .vmem, ⟨1, _⟩ => ⟨S1x4x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S2x4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetOutReferenceIdeal.lean ====
abbrev S2x4x512x1024 : Shape := ⟨4, ![2, 4, 512, 1024]⟩
abbrev S2x512x1024 : Shape := ⟨3, ![2, 512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x4x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S_, .f32⟩
  | .hbm, ⟨7, _⟩ => ⟨S2x512x1024, .f32⟩
  | .hbm, ⟨8, _⟩ => ⟨S2x512x1024, .f32⟩
  | .hbm, ⟨9, _⟩ => ⟨S_, .f32⟩
  | .hbm, ⟨10, _⟩ => ⟨S2x512x1024, .f32⟩
  | .hbm, ⟨11, _⟩ => ⟨S2x512x1024, .f32⟩
  | .hbm, ⟨12, _⟩ => ⟨S2x512x1024, .f32⟩
  | .hbm, ⟨13, _⟩ => ⟨S_, .f32⟩
  | .hbm, ⟨14, _⟩ => ⟨S2x512x1024, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S_, .f32⟩
  | .hbm, ⟨25, _⟩ => ⟨S2x512x1024, .f32⟩
  | .hbm, ⟨26, _⟩ => ⟨S2x512x1024, .f32⟩
  | .hbm, ⟨27, _⟩ => ⟨S2x512x1024, .f32⟩
  | .hbm, ⟨28, _⟩ => ⟨S_, .f32⟩
  | .hbm, ⟨29, _⟩ => ⟨S2x512x1024, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | _, _ => ⟨S2x4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Mlp.lean ====
abbrev S4x4x1024x1024 : Shape := ⟨4, ![4, 4, 1024, 1024]⟩
abbrev S4x1024x1024 : Shape := ⟨3, ![4, 1024, 1024]⟩
abbrev S1x4x128x1024 : Shape := ⟨4, ![1, 4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .local _ .vmem, ⟨0, _⟩ => ⟨S1x4x128x1024, .f32⟩
  | .local _ .vmem, ⟨1, _⟩ => ⟨S1x4x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlpIdeal.lean ====
abbrev S4x4x1024x1024 : Shape := ⟨4, ![4, 4, 1024, 1024]⟩
abbrev S4x1024x1024 : Shape := ⟨3, ![4, 1024, 1024]⟩
abbrev S1x4x128x1024 : Shape := ⟨4, ![1, 4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .local _ .vmem, ⟨0, _⟩ => ⟨S1x4x128x1024, .f32⟩
  | .local _ .vmem, ⟨1, _⟩ => ⟨S1x4x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlpReferenceIdeal.lean ====
abbrev S4x4x1024x1024 : Shape := ⟨4, ![4, 4, 1024, 1024]⟩
abbrev S4x1024x1024 : Shape := ⟨3, ![4, 1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S_, .f32⟩
  | .hbm, ⟨7, _⟩ => ⟨S4x1024x1024, .f32⟩
  | .hbm, ⟨8, _⟩ => ⟨S4x1024x1024, .f32⟩
  | .hbm, ⟨9, _⟩ => ⟨S_, .f32⟩
  | .hbm, ⟨10, _⟩ => ⟨S4x1024x1024, .f32⟩
  | .hbm, ⟨11, _⟩ => ⟨S4x1024x1024, .f32⟩
  | .hbm, ⟨12, _⟩ => ⟨S4x1024x1024, .f32⟩
  | .hbm, ⟨13, _⟩ => ⟨S_, .f32⟩
  | .hbm, ⟨14, _⟩ => ⟨S4x1024x1024, .f32⟩
  | .hbm, ⟨15, _⟩ => ⟨S4x1024x1024, .f32⟩
  | .hbm, ⟨16, _⟩ => ⟨S4x1024x1024, .f32⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S_, .f32⟩
  | .hbm, ⟨22, _⟩ => ⟨S4x1024x1024, .f32⟩
  | .hbm, ⟨23, _⟩ => ⟨S4x1024x1024, .f32⟩
  | .hbm, ⟨24, _⟩ => ⟨S_, .f32⟩
  | .hbm, ⟨25, _⟩ => ⟨S4x1024x1024, .f32⟩
  | .hbm, ⟨26, _⟩ => ⟨S4x1024x1024, .f32⟩
  | .hbm, ⟨27, _⟩ => ⟨S4x1024x1024, .f32⟩
  | .hbm, ⟨28, _⟩ => ⟨S_, .f32⟩
  | .hbm, ⟨29, _⟩ => ⟨S4x1024x1024, .f32⟩
  | .hbm, ⟨30, _⟩ => ⟨S4x1024x1024, .f32⟩
  | .hbm, ⟨31, _⟩ => ⟨S4x1024x1024, .f32⟩
  | .hbm, ⟨32, _⟩ => ⟨S_, .f32⟩
  | .hbm, ⟨33, _⟩ => ⟨S4x1024x1024, .f32⟩
  | .hbm, ⟨34, _⟩ => ⟨S4x1024x1024, .f32⟩
  | .hbm, ⟨35, _⟩ => ⟨S4x1024x1024, .f32⟩
  | .hbm, ⟨36, _⟩ => ⟨S_, .f32⟩
  | .hbm, ⟨37, _⟩ => ⟨S4x1024x1024, .f32⟩
  | .hbm, ⟨38, _⟩ => ⟨S4x1024x1024, .f32⟩
  | _, _ => ⟨S4x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Ada.lean ====
abbrev S4x1x1024x1536 : Shape := ⟨4, ![4, 1, 1024, 1536]⟩
abbrev S4x1024x1536 : Shape := ⟨3, ![4, 1024, 1536]⟩
abbrev S1x1x128x1536 : Shape := ⟨4, ![1, 1, 128, 1536]⟩
abbrev S1x128x1536 : Shape := ⟨3, ![1, 128, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4x1x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .local _ .vmem, ⟨0, _⟩ => ⟨S1x1x128x1536, .f32⟩
  | .local _ .vmem, ⟨1, _⟩ => ⟨S1x1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | _, _ => ⟨S4x1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdaIdeal.lean ====
abbrev S4x1x1024x1536 : Shape := ⟨4, ![4, 1, 1024, 1536]⟩
abbrev S4x1024x1536 : Shape := ⟨3, ![4, 1024, 1536]⟩
abbrev S1x1x128x1536 : Shape := ⟨4, ![1, 1, 128, 1536]⟩
abbrev S1x128x1536 : Shape := ⟨3, ![1, 128, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4x1x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .local _ .vmem, ⟨0, _⟩ => ⟨S1x1x128x1536, .f32⟩
  | .local _ .vmem, ⟨1, _⟩ => ⟨S1x1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | _, _ => ⟨S4x1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdaReferenceIdeal.lean ====
abbrev S4x1x1024x1536 : Shape := ⟨4, ![4, 1, 1024, 1536]⟩
abbrev S4x1024x1536 : Shape := ⟨3, ![4, 1024, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S_, .f32⟩
  | .hbm, ⟨7, _⟩ => ⟨S4x1024x1536, .f32⟩
  | .hbm, ⟨8, _⟩ => ⟨S4x1024x1536, .f32⟩
  | .hbm, ⟨9, _⟩ => ⟨S_, .f32⟩
  | .hbm, ⟨10, _⟩ => ⟨S4x1024x1536, .f32⟩
  | .hbm, ⟨11, _⟩ => ⟨S4x1024x1536, .f32⟩
  | .hbm, ⟨12, _⟩ => ⟨S4x1024x1536, .f32⟩
  | .hbm, ⟨13, _⟩ => ⟨S_, .f32⟩
  | .hbm, ⟨14, _⟩ => ⟨S4x1024x1536, .f32⟩
  | .hbm, ⟨15, _⟩ => ⟨S4x1024x1536, .f32⟩
  | .hbm, ⟨16, _⟩ => ⟨S4x1024x1536, .f32⟩
  | .hbm, ⟨17, _⟩ => ⟨S_, .f32⟩
  | .hbm, ⟨18, _⟩ => ⟨S4x1024x1536, .f32⟩
  | .hbm, ⟨19, _⟩ => ⟨S4x1024x1536, .f32⟩
  | .hbm, ⟨20, _⟩ => ⟨S4x1024x1536, .f32⟩
  | .hbm, ⟨21, _⟩ => ⟨S_, .f32⟩
  | .hbm, ⟨22, _⟩ => ⟨S4x1024x1536, .f32⟩
  | .hbm, ⟨23, _⟩ => ⟨S4x1024x1536, .f32⟩
  | .hbm, ⟨24, _⟩ => ⟨S_, .f32⟩
  | .hbm, ⟨25, _⟩ => ⟨S4x1024x1536, .f32⟩
  | .hbm, ⟨26, _⟩ => ⟨S4x1024x1536, .f32⟩
  | .hbm, ⟨27, _⟩ => ⟨S4x1024x1536, .f32⟩
  | .hbm, ⟨28, _⟩ => ⟨S_, .f32⟩
  | .hbm, ⟨29, _⟩ => ⟨S4x1024x1536, .f32⟩
  | .hbm, ⟨30, _⟩ => ⟨S4x1024x1536, .f32⟩
  | .hbm, ⟨31, _⟩ => ⟨S4x1024x1536, .f32⟩
  | .hbm, ⟨32, _⟩ => ⟨S_, .f32⟩
  | .hbm, ⟨33, _⟩ => ⟨S4x1024x1536, .f32⟩
  | .hbm, ⟨34, _⟩ => ⟨S4x1024x1536, .f32⟩
  | .hbm, ⟨35, _⟩ => ⟨S4x1024x1536, .f32⟩
  | .hbm, ⟨36, _⟩ => ⟨S_, .f32⟩
  | .hbm, ⟨37, _⟩ => ⟨S4x1024x1536, .f32⟩
  | .hbm, ⟨38, _⟩ => ⟨S4x1024x1536, .f32⟩
  | _, _ => ⟨S4x1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Small.lean ====
abbrev S1x1x504x128 : Shape := ⟨4, ![1, 1, 504, 128]⟩
abbrev S1x504x128 : Shape := ⟨3, ![1, 504, 128]⟩
abbrev S504x128 : Shape := ⟨2, ![504, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x1x504x128, .f32⟩
  | .hbm, ⟨1, _⟩ => ⟨S1x504x128, .f32⟩
  | .hbm, ⟨2, _⟩ => ⟨S1x504x128, .f32⟩
  | .hbm, ⟨3, _⟩ => ⟨S1x504x128, .f32⟩
  | .hbm, ⟨4, _⟩ => ⟨S1x504x128, .f32⟩
  | .hbm, ⟨5, _⟩ => ⟨S1x504x128, .f32⟩
  | .hbm, ⟨6, _⟩ => ⟨S1x504x128, .f32⟩
  | .hbm, ⟨7, _⟩ => ⟨S1x504x128, .f32⟩
  | .local _ .vmem, ⟨0, _⟩ => ⟨S1x1x504x128, .f32⟩
  | .local _ .vmem, ⟨1, _⟩ => ⟨S1x504x128, .f32⟩
  | .local _ .vmem, ⟨2, _⟩ => ⟨S1x504x128, .f32⟩
  | .local _ .vmem, ⟨3, _⟩ => ⟨S1x504x128, .f32⟩
  | .local _ .vmem, ⟨4, _⟩ => ⟨S1x504x128, .f32⟩
  | .local _ .vmem, ⟨5, _⟩ => ⟨S1x504x128, .f32⟩
  | .local _ .vmem, ⟨6, _⟩ => ⟨S1x504x128, .f32⟩
  | .local _ .vmem, ⟨7, _⟩ => ⟨S1x504x128, .f32⟩
  | _, _ => ⟨S1x1x504x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x504x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x504x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x504x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x504x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x504x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x504x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x504x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x504x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== SmallReferenceIdeal.lean ====
abbrev S1x1x504x128 : Shape := ⟨4, ![1, 1, 504, 128]⟩
abbrev S1x504x128 : Shape := ⟨3, ![1, 504, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1x504x128, .f32⟩
  | .hbm, ⟨1, _⟩ => ⟨S1x504x128, .f32⟩
  | .hbm, ⟨2, _⟩ => ⟨S1x504x128, .f32⟩
  | .hbm, ⟨3, _⟩ => ⟨S1x504x128, .f32⟩
  | .hbm, ⟨4, _⟩ => ⟨S_, .f32⟩
  | .hbm, ⟨5, _⟩ => ⟨S1x504x128, .f32⟩
  | .hbm, ⟨6, _⟩ => ⟨S_, .f32⟩
  | .hbm, ⟨7, _⟩ => ⟨S1x504x128, .f32⟩
  | .hbm, ⟨8, _⟩ => ⟨S1x504x128, .f32⟩
  | .hbm, ⟨9, _⟩ => ⟨S_, .f32⟩
  | .hbm, ⟨10, _⟩ => ⟨S1x504x128, .f32⟩
  | .hbm, ⟨11, _⟩ => ⟨S1x504x128, .f32⟩
  | .hbm, ⟨12, _⟩ => ⟨S1x504x128, .f32⟩
  | .hbm, ⟨13, _⟩ => ⟨S_, .f32⟩
  | .hbm, ⟨14, _⟩ => ⟨S1x504x128, .f32⟩
  | .hbm, ⟨15, _⟩ => ⟨S1x504x128, .f32⟩
  | .hbm, ⟨16, _⟩ => ⟨S1x504x128, .f32⟩
  | .hbm, ⟨17, _⟩ => ⟨S_, .f32⟩
  | .hbm, ⟨18, _⟩ => ⟨S1x504x128, .f32⟩
  | .hbm, ⟨19, _⟩ => ⟨S1x504x128, .f32⟩
  | .hbm, ⟨20, _⟩ => ⟨S1x504x128, .f32⟩
  | .hbm, ⟨21, _⟩ => ⟨S_, .f32⟩
  | .hbm, ⟨22, _⟩ => ⟨S1x504x128, .f32⟩
  | .hbm, ⟨23, _⟩ => ⟨S1x504x128, .f32⟩
  | .hbm, ⟨24, _⟩ => ⟨S_, .f32⟩
  | .hbm, ⟨25, _⟩ => ⟨S1x504x128, .f32⟩
  | .hbm, ⟨26, _⟩ => ⟨S1x504x128, .f32⟩
  | .hbm, ⟨27, _⟩ => ⟨S1x504x128, .f32⟩
  | .hbm, ⟨28, _⟩ => ⟨S_, .f32⟩
  | .hbm, ⟨29, _⟩ => ⟨S1x504x128, .f32⟩
  | .hbm, ⟨30, _⟩ => ⟨S1x504x128, .f32⟩
  | .hbm, ⟨31, _⟩ => ⟨S1x504x128, .f32⟩
  | .hbm, ⟨32, _⟩ => ⟨S_, .f32⟩
  | .hbm, ⟨33, _⟩ => ⟨S1x504x128, .f32⟩
  | .hbm, ⟨34, _⟩ => ⟨S1x504x128, .f32⟩
  | .hbm, ⟨35, _⟩ => ⟨S1x504x128, .f32⟩
  | .hbm, ⟨36, _⟩ => ⟨S_, .f32⟩
  | .hbm, ⟨37, _⟩ => ⟨S1x504x128, .f32⟩
  | .hbm, ⟨38, _⟩ => ⟨S1x504x128, .f32⟩
  | _, _ => ⟨S1x1x504x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Cond.lean ====
abbrev S8x128 : Shape := ⟨2, ![8, 128]⟩
abbrev S8x8x128 : Shape := ⟨3, ![8, 8, 128]⟩
abbrev S7 : Shape := ⟨1, ![7]⟩
abbrev S_ : Shape := ⟨0, ![]⟩
abbrev S1x8x128 : Shape := ⟨3, ![1, 8, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_37 : BitVec 32 := 1#32
  let v59 : BitVec 32 := Scalar.muli v15 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let c2_i32_44 : BitVec 32 := 2#32
  let v69 : BitVec 32 := Scalar.muli v20 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let c2_i32_52 : BitVec 32 := 2#32
  let v81 : BitVec 32 := Scalar.muli v25 c2_i32_52
  let v82 : BitVec 32 := Scalar.addi v80 v81
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let c1_i32_53 : BitVec 32 := 1#32
  let v83 : BitVec 32 := Scalar.muli v26 c1_i32_53
  let v84 : BitVec 32 := Scalar.addi v82 v83
  v84.toNat
def k0_dev4 (d0 : Dev nD) : Nat :=
  let c0_i32_58 : BitVec 32 := 0#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let c4_i32_57 : BitVec 32 := 4#32
  let v91 : BitVec 32 := Scalar.muli v31 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let c4_i32_65 : BitVec 32 := 4#32
  let v103 : BitVec 32 := Scalar.muli v36 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_68 : BitVec 32 := 1#32
  let v107 : BitVec 32 := Scalar.muli v37 c1_i32_68
  let v108 : BitVec 32 := Scalar.addi v106 v107
  v108.toNat
def k0_dev6 (d0 : Dev nD) : Nat :=
  let c0_i32_73 : BitVec 32 := 0#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let c4_i32_72 : BitVec 32 := 4#32
  let v115 : BitVec 32 := Scalar.muli v42 c4_i32_72
  let v116 : BitVec 32 := Scalar.addi c0_i32_73 v115
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let c2_i32_74 : BitVec 32 := 2#32
  let v117 : BitVec 32 := Scalar.muli v43 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let c4_i32_79 : BitVec 32 := 4#32
  let v127 : BitVec 32 := Scalar.muli v48 c4_i32_79
  let v128 : BitVec 32 := Scalar.addi c0_i32_80 v127
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let c2_i32_81 : BitVec 32 := 2#32
  let v129 : BitVec 32 := Scalar.muli v49 c2_i32_81
  let v130 : BitVec 32 := Scalar.addi v128 v129
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let c1_i32_82 : BitVec 32 := 1#32
  let v131 : BitVec 32 := Scalar.muli v50 c1_i32_82
  let v132 : BitVec 32 := Scalar.addi v130 v131
  v132.toNat
def k0_off2 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_7 v2
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_8 v5
  let v18 : BitVec 32 := Scalar.addi v16 v17
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let v19 : BitVec 32 := Scalar.addi v18 v15
  let c0_i32_91 : BitVec 32 := 0#32
  let c0_i32_92 : BitVec 32 := 0#32
  ![v19.toNat, 0, 0]
def k0_off3 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_10 v2
  let c2_i32_11 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let v22 : BitVec 32 := Scalar.muli c2_i32_11 v20
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_99 : BitVec 32 := 0#32
  let c0_i32_100 : BitVec 32 := 0#32
  ![v24.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.muli c4_i32_14 v2
  let c2_i32_15 : BitVec 32 := 2#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let v28 : BitVec 32 := Scalar.muli c2_i32_15 v25
  let v29 : BitVec 32 := Scalar.addi v27 v28
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let v30 : BitVec 32 := Scalar.addi v29 v26
  let c0_i32_107 : BitVec 32 := 0#32
  let c0_i32_108 : BitVec 32 := 0#32
  ![v30.toNat, 0, 0]
def k0_off5 (d0 : Dev nD) : Fin 3 → Nat :=
  let c4_i32_17 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let v32 : BitVec 32 := Scalar.muli c4_i32_17 v31
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_18 v5
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c0_i32_115 : BitVec 32 := 0#32
  let c0_i32_116 : BitVec 32 := 0#32
  ![v35.toNat, 0, 0]
def k0_off6 (d0 : Dev nD) : Fin 3 → Nat :=
  let c4_i32_21 : BitVec 32 := 4#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let v38 : BitVec 32 := Scalar.muli c4_i32_21 v36
  let c2_i32_22 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_22 v5
  let v40 : BitVec 32 := Scalar.addi v38 v39
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let v41 : BitVec 32 := Scalar.addi v40 v37
  let c0_i32_123 : BitVec 32 := 0#32
  let c0_i32_124 : BitVec 32 := 0#32
  ![v41.toNat, 0, 0]
def k0_off7 (d0 : Dev nD) : Fin 3 → Nat :=
  let c4_i32_25 : BitVec 32 := 4#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let v44 : BitVec 32 := Scalar.muli c4_i32_25 v42
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let v45 : BitVec 32 := Scalar.muli c2_i32_26 v43
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.addi v46 v8
  let c0_i32_131 : BitVec 32 := 0#32
  let c0_i32_132 : BitVec 32 := 0#32
  ![v47.toNat, 0, 0]
def k0_off8 (d0 : Dev nD) : Fin 3 → Nat :=
  let c4_i32_30 : BitVec 32 := 4#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let v51 : BitVec 32 := Scalar.muli c4_i32_30 v48
  let c2_i32_31 : BitVec 32 := 2#32
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let v52 : BitVec 32 := Scalar.muli c2_i32_31 v49
  let v53 : BitVec 32 := Scalar.addi v51 v52
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let v54 : BitVec 32 := Scalar.addi v53 v50
  let c0_i32_139 : BitVec 32 := 0#32
  let c0_i32_140 : BitVec 32 := 0#32
  ![v54.toNat, 0, 0]
-- ==== CondIdeal.lean ====
abbrev S8x128 : Shape := ⟨2, ![8, 128]⟩
abbrev S8x8x128 : Shape := ⟨3, ![8, 8, 128]⟩
abbrev S7 : Shape := ⟨1, ![7]⟩
abbrev S_ : Shape := ⟨0, ![]⟩
abbrev S1x8x128 : Shape := ⟨3, ![1, 8, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_37 : BitVec 32 := 1#32
  let v59 : BitVec 32 := Scalar.muli v15 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let c2_i32_44 : BitVec 32 := 2#32
  let v69 : BitVec 32 := Scalar.muli v20 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let c2_i32_52 : BitVec 32 := 2#32
  let v81 : BitVec 32 := Scalar.muli v25 c2_i32_52
  let v82 : BitVec 32 := Scalar.addi v80 v81
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let c1_i32_53 : BitVec 32 := 1#32
  let v83 : BitVec 32 := Scalar.muli v26 c1_i32_53
  let v84 : BitVec 32 := Scalar.addi v82 v83
  v84.toNat
def k0_dev4 (d0 : Dev nD) : Nat :=
  let c0_i32_58 : BitVec 32 := 0#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let c4_i32_57 : BitVec 32 := 4#32
  let v91 : BitVec 32 := Scalar.muli v31 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let c4_i32_65 : BitVec 32 := 4#32
  let v103 : BitVec 32 := Scalar.muli v36 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_68 : BitVec 32 := 1#32
  let v107 : BitVec 32 := Scalar.muli v37 c1_i32_68
  let v108 : BitVec 32 := Scalar.addi v106 v107
  v108.toNat
def k0_dev6 (d0 : Dev nD) : Nat :=
  let c0_i32_73 : BitVec 32 := 0#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let c4_i32_72 : BitVec 32 := 4#32
  let v115 : BitVec 32 := Scalar.muli v42 c4_i32_72
  let v116 : BitVec 32 := Scalar.addi c0_i32_73 v115
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let c2_i32_74 : BitVec 32 := 2#32
  let v117 : BitVec 32 := Scalar.muli v43 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let c4_i32_79 : BitVec 32 := 4#32
  let v127 : BitVec 32 := Scalar.muli v48 c4_i32_79
  let v128 : BitVec 32 := Scalar.addi c0_i32_80 v127
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let c2_i32_81 : BitVec 32 := 2#32
  let v129 : BitVec 32 := Scalar.muli v49 c2_i32_81
  let v130 : BitVec 32 := Scalar.addi v128 v129
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let c1_i32_82 : BitVec 32 := 1#32
  let v131 : BitVec 32 := Scalar.muli v50 c1_i32_82
  let v132 : BitVec 32 := Scalar.addi v130 v131
  v132.toNat
def k0_off2 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_7 v2
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_8 v5
  let v18 : BitVec 32 := Scalar.addi v16 v17
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let v19 : BitVec 32 := Scalar.addi v18 v15
  let c0_i32_91 : BitVec 32 := 0#32
  let c0_i32_92 : BitVec 32 := 0#32
  ![v19.toNat, 0, 0]
def k0_off3 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_10 v2
  let c2_i32_11 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let v22 : BitVec 32 := Scalar.muli c2_i32_11 v20
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_99 : BitVec 32 := 0#32
  let c0_i32_100 : BitVec 32 := 0#32
  ![v24.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.muli c4_i32_14 v2
  let c2_i32_15 : BitVec 32 := 2#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let v28 : BitVec 32 := Scalar.muli c2_i32_15 v25
  let v29 : BitVec 32 := Scalar.addi v27 v28
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let v30 : BitVec 32 := Scalar.addi v29 v26
  let c0_i32_107 : BitVec 32 := 0#32
  let c0_i32_108 : BitVec 32 := 0#32
  ![v30.toNat, 0, 0]
def k0_off5 (d0 : Dev nD) : Fin 3 → Nat :=
  let c4_i32_17 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let v32 : BitVec 32 := Scalar.muli c4_i32_17 v31
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_18 v5
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c0_i32_115 : BitVec 32 := 0#32
  let c0_i32_116 : BitVec 32 := 0#32
  ![v35.toNat, 0, 0]
def k0_off6 (d0 : Dev nD) : Fin 3 → Nat :=
  let c4_i32_21 : BitVec 32 := 4#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let v38 : BitVec 32 := Scalar.muli c4_i32_21 v36
  let c2_i32_22 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_22 v5
  let v40 : BitVec 32 := Scalar.addi v38 v39
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let v41 : BitVec 32 := Scalar.addi v40 v37
  let c0_i32_123 : BitVec 32 := 0#32
  let c0_i32_124 : BitVec 32 := 0#32
  ![v41.toNat, 0, 0]
def k0_off7 (d0 : Dev nD) : Fin 3 → Nat :=
  let c4_i32_25 : BitVec 32 := 4#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let v44 : BitVec 32 := Scalar.muli c4_i32_25 v42
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let v45 : BitVec 32 := Scalar.muli c2_i32_26 v43
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.addi v46 v8
  let c0_i32_131 : BitVec 32 := 0#32
  let c0_i32_132 : BitVec 32 := 0#32
  ![v47.toNat, 0, 0]
def k0_off8 (d0 : Dev nD) : Fin 3 → Nat :=
  let c4_i32_30 : BitVec 32 := 4#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let v51 : BitVec 32 := Scalar.muli c4_i32_30 v48
  let c2_i32_31 : BitVec 32 := 2#32
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let v52 : BitVec 32 := Scalar.muli c2_i32_31 v49
  let v53 : BitVec 32 := Scalar.addi v51 v52
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let v54 : BitVec 32 := Scalar.addi v53 v50
  let c0_i32_139 : BitVec 32 := 0#32
  let c0_i32_140 : BitVec 32 := 0#32
  ![v54.toNat, 0, 0]
-- ==== CondReferenceIdeal.lean ====
abbrev S64x128 : Shape := ⟨2, ![64, 128]⟩
abbrev S8x8x128 : Shape := ⟨3, ![8, 8, 128]⟩

abbrev nBuf : Space → Nat
  | .hbm => 2
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x8x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Mod.lean ====
abbrev S8x6144 : Shape := ⟨2, ![8, 6144]⟩
abbrev S8x8x6144 : Shape := ⟨3, ![8, 8, 6144]⟩
abbrev S7 : Shape := ⟨1, ![7]⟩
abbrev S_ : Shape := ⟨0, ![]⟩
abbrev S1x8x6144 : Shape := ⟨3, ![1, 8, 6144]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x6144, .f32⟩
  | .hbm, ⟨1, _⟩ => ⟨S8x8x6144, .f32⟩
  | _, _ => ⟨S8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_37 : BitVec 32 := 1#32
  let v59 : BitVec 32 := Scalar.muli v15 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let c2_i32_44 : BitVec 32 := 2#32
  let v69 : BitVec 32 := Scalar.muli v20 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let c2_i32_52 : BitVec 32 := 2#32
  let v81 : BitVec 32 := Scalar.muli v25 c2_i32_52
  let v82 : BitVec 32 := Scalar.addi v80 v81
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let c1_i32_53 : BitVec 32 := 1#32
  let v83 : BitVec 32 := Scalar.muli v26 c1_i32_53
  let v84 : BitVec 32 := Scalar.addi v82 v83
  v84.toNat
def k0_dev4 (d0 : Dev nD) : Nat :=
  let c0_i32_58 : BitVec 32 := 0#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let c4_i32_57 : BitVec 32 := 4#32
  let v91 : BitVec 32 := Scalar.muli v31 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let c4_i32_65 : BitVec 32 := 4#32
  let v103 : BitVec 32 := Scalar.muli v36 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_68 : BitVec 32 := 1#32
  let v107 : BitVec 32 := Scalar.muli v37 c1_i32_68
  let v108 : BitVec 32 := Scalar.addi v106 v107
  v108.toNat
def k0_dev6 (d0 : Dev nD) : Nat :=
  let c0_i32_73 : BitVec 32 := 0#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let c4_i32_72 : BitVec 32 := 4#32
  let v115 : BitVec 32 := Scalar.muli v42 c4_i32_72
  let v116 : BitVec 32 := Scalar.addi c0_i32_73 v115
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let c2_i32_74 : BitVec 32 := 2#32
  let v117 : BitVec 32 := Scalar.muli v43 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let c4_i32_79 : BitVec 32 := 4#32
  let v127 : BitVec 32 := Scalar.muli v48 c4_i32_79
  let v128 : BitVec 32 := Scalar.addi c0_i32_80 v127
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let c2_i32_81 : BitVec 32 := 2#32
  let v129 : BitVec 32 := Scalar.muli v49 c2_i32_81
  let v130 : BitVec 32 := Scalar.addi v128 v129
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let c1_i32_82 : BitVec 32 := 1#32
  let v131 : BitVec 32 := Scalar.muli v50 c1_i32_82
  let v132 : BitVec 32 := Scalar.addi v130 v131
  v132.toNat
def k0_off2 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_7 v2
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_8 v5
  let v18 : BitVec 32 := Scalar.addi v16 v17
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let v19 : BitVec 32 := Scalar.addi v18 v15
  let c0_i32_91 : BitVec 32 := 0#32
  let c0_i32_92 : BitVec 32 := 0#32
  ![v19.toNat, 0, 0]
def k0_off3 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_10 v2
  let c2_i32_11 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let v22 : BitVec 32 := Scalar.muli c2_i32_11 v20
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_99 : BitVec 32 := 0#32
  let c0_i32_100 : BitVec 32 := 0#32
  ![v24.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.muli c4_i32_14 v2
  let c2_i32_15 : BitVec 32 := 2#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let v28 : BitVec 32 := Scalar.muli c2_i32_15 v25
  let v29 : BitVec 32 := Scalar.addi v27 v28
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let v30 : BitVec 32 := Scalar.addi v29 v26
  let c0_i32_107 : BitVec 32 := 0#32
  let c0_i32_108 : BitVec 32 := 0#32
  ![v30.toNat, 0, 0]
def k0_off5 (d0 : Dev nD) : Fin 3 → Nat :=
  let c4_i32_17 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let v32 : BitVec 32 := Scalar.muli c4_i32_17 v31
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_18 v5
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c0_i32_115 : BitVec 32 := 0#32
  let c0_i32_116 : BitVec 32 := 0#32
  ![v35.toNat, 0, 0]
def k0_off6 (d0 : Dev nD) : Fin 3 → Nat :=
  let c4_i32_21 : BitVec 32 := 4#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let v38 : BitVec 32 := Scalar.muli c4_i32_21 v36
  let c2_i32_22 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_22 v5
  let v40 : BitVec 32 := Scalar.addi v38 v39
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let v41 : BitVec 32 := Scalar.addi v40 v37
  let c0_i32_123 : BitVec 32 := 0#32
  let c0_i32_124 : BitVec 32 := 0#32
  ![v41.toNat, 0, 0]
def k0_off7 (d0 : Dev nD) : Fin 3 → Nat :=
  let c4_i32_25 : BitVec 32 := 4#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let v44 : BitVec 32 := Scalar.muli c4_i32_25 v42
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let v45 : BitVec 32 := Scalar.muli c2_i32_26 v43
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.addi v46 v8
  let c0_i32_131 : BitVec 32 := 0#32
  let c0_i32_132 : BitVec 32 := 0#32
  ![v47.toNat, 0, 0]
def k0_off8 (d0 : Dev nD) : Fin 3 → Nat :=
  let c4_i32_30 : BitVec 32 := 4#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let v51 : BitVec 32 := Scalar.muli c4_i32_30 v48
  let c2_i32_31 : BitVec 32 := 2#32
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let v52 : BitVec 32 := Scalar.muli c2_i32_31 v49
  let v53 : BitVec 32 := Scalar.addi v51 v52
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let v54 : BitVec 32 := Scalar.addi v53 v50
  let c0_i32_139 : BitVec 32 := 0#32
  let c0_i32_140 : BitVec 32 := 0#32
  ![v54.toNat, 0, 0]
-- ==== ModIdeal.lean ====
abbrev S8x6144 : Shape := ⟨2, ![8, 6144]⟩
abbrev S8x8x6144 : Shape := ⟨3, ![8, 8, 6144]⟩
abbrev S7 : Shape := ⟨1, ![7]⟩
abbrev S_ : Shape := ⟨0, ![]⟩
abbrev S1x8x6144 : Shape := ⟨3, ![1, 8, 6144]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x6144, .f32⟩
  | .hbm, ⟨1, _⟩ => ⟨S8x8x6144, .f32⟩
  | _, _ => ⟨S8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_37 : BitVec 32 := 1#32
  let v59 : BitVec 32 := Scalar.muli v15 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let c2_i32_44 : BitVec 32 := 2#32
  let v69 : BitVec 32 := Scalar.muli v20 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let c2_i32_52 : BitVec 32 := 2#32
  let v81 : BitVec 32 := Scalar.muli v25 c2_i32_52
  let v82 : BitVec 32 := Scalar.addi v80 v81
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let c1_i32_53 : BitVec 32 := 1#32
  let v83 : BitVec 32 := Scalar.muli v26 c1_i32_53
  let v84 : BitVec 32 := Scalar.addi v82 v83
  v84.toNat
def k0_dev4 (d0 : Dev nD) : Nat :=
  let c0_i32_58 : BitVec 32 := 0#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let c4_i32_57 : BitVec 32 := 4#32
  let v91 : BitVec 32 := Scalar.muli v31 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let c4_i32_65 : BitVec 32 := 4#32
  let v103 : BitVec 32 := Scalar.muli v36 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_68 : BitVec 32 := 1#32
  let v107 : BitVec 32 := Scalar.muli v37 c1_i32_68
  let v108 : BitVec 32 := Scalar.addi v106 v107
  v108.toNat
def k0_dev6 (d0 : Dev nD) : Nat :=
  let c0_i32_73 : BitVec 32 := 0#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let c4_i32_72 : BitVec 32 := 4#32
  let v115 : BitVec 32 := Scalar.muli v42 c4_i32_72
  let v116 : BitVec 32 := Scalar.addi c0_i32_73 v115
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let c2_i32_74 : BitVec 32 := 2#32
  let v117 : BitVec 32 := Scalar.muli v43 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let c4_i32_79 : BitVec 32 := 4#32
  let v127 : BitVec 32 := Scalar.muli v48 c4_i32_79
  let v128 : BitVec 32 := Scalar.addi c0_i32_80 v127
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let c2_i32_81 : BitVec 32 := 2#32
  let v129 : BitVec 32 := Scalar.muli v49 c2_i32_81
  let v130 : BitVec 32 := Scalar.addi v128 v129
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let c1_i32_82 : BitVec 32 := 1#32
  let v131 : BitVec 32 := Scalar.muli v50 c1_i32_82
  let v132 : BitVec 32 := Scalar.addi v130 v131
  v132.toNat
def k0_off2 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_7 v2
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_8 v5
  let v18 : BitVec 32 := Scalar.addi v16 v17
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let v19 : BitVec 32 := Scalar.addi v18 v15
  let c0_i32_91 : BitVec 32 := 0#32
  let c0_i32_92 : BitVec 32 := 0#32
  ![v19.toNat, 0, 0]
def k0_off3 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_10 v2
  let c2_i32_11 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let v22 : BitVec 32 := Scalar.muli c2_i32_11 v20
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_99 : BitVec 32 := 0#32
  let c0_i32_100 : BitVec 32 := 0#32
  ![v24.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.muli c4_i32_14 v2
  let c2_i32_15 : BitVec 32 := 2#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let v28 : BitVec 32 := Scalar.muli c2_i32_15 v25
  let v29 : BitVec 32 := Scalar.addi v27 v28
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let v30 : BitVec 32 := Scalar.addi v29 v26
  let c0_i32_107 : BitVec 32 := 0#32
  let c0_i32_108 : BitVec 32 := 0#32
  ![v30.toNat, 0, 0]
def k0_off5 (d0 : Dev nD) : Fin 3 → Nat :=
  let c4_i32_17 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let v32 : BitVec 32 := Scalar.muli c4_i32_17 v31
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_18 v5
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c0_i32_115 : BitVec 32 := 0#32
  let c0_i32_116 : BitVec 32 := 0#32
  ![v35.toNat, 0, 0]
def k0_off6 (d0 : Dev nD) : Fin 3 → Nat :=
  let c4_i32_21 : BitVec 32 := 4#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let v38 : BitVec 32 := Scalar.muli c4_i32_21 v36
  let c2_i32_22 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_22 v5
  let v40 : BitVec 32 := Scalar.addi v38 v39
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let v41 : BitVec 32 := Scalar.addi v40 v37
  let c0_i32_123 : BitVec 32 := 0#32
  let c0_i32_124 : BitVec 32 := 0#32
  ![v41.toNat, 0, 0]
def k0_off7 (d0 : Dev nD) : Fin 3 → Nat :=
  let c4_i32_25 : BitVec 32 := 4#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let v44 : BitVec 32 := Scalar.muli c4_i32_25 v42
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let v45 : BitVec 32 := Scalar.muli c2_i32_26 v43
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.addi v46 v8
  let c0_i32_131 : BitVec 32 := 0#32
  let c0_i32_132 : BitVec 32 := 0#32
  ![v47.toNat, 0, 0]
def k0_off8 (d0 : Dev nD) : Fin 3 → Nat :=
  let c4_i32_30 : BitVec 32 := 4#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let v51 : BitVec 32 := Scalar.muli c4_i32_30 v48
  let c2_i32_31 : BitVec 32 := 2#32
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let v52 : BitVec 32 := Scalar.muli c2_i32_31 v49
  let v53 : BitVec 32 := Scalar.addi v51 v52
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let v54 : BitVec 32 := Scalar.addi v53 v50
  let c0_i32_139 : BitVec 32 := 0#32
  let c0_i32_140 : BitVec 32 := 0#32
  ![v54.toNat, 0, 0]
-- ==== ModReferenceIdeal.lean ====
abbrev S64x6144 : Shape := ⟨2, ![64, 6144]⟩
abbrev S8x8x6144 : Shape := ⟨3, ![8, 8, 6144]⟩

abbrev nBuf : Space → Nat
  | .hbm => 2
  | .vmem => 0
  | .smem => 0
  | _ => 0

abbrev bufTy : (tb : Table) → Fin (tcTables nBuf tb) → BufTy
  | .hbm, ⟨0, _⟩ => ⟨S64x6144, .f32⟩
  | .hbm, ⟨1, _⟩ => ⟨S8x8x6144, .f32⟩
  | _, _ => ⟨S64x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Grads.lean ====
abbrev S920x128 : Shape := ⟨2, ![920, 128]⟩
abbrev S8x920x128 : Shape := ⟨3, ![8, 920, 128]⟩
abbrev S7 : Shape := ⟨1, ![7]⟩
abbrev S_ : Shape := ⟨0, ![]⟩
abbrev S1x920x128 : Shape := ⟨3, ![1, 920, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S920x128, .f32⟩
  | .hbm, ⟨1, _⟩ => ⟨S8x920x128, .f32⟩
  | _, _ => ⟨S920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_37 : BitVec 32 := 1#32
  let v59 : BitVec 32 := Scalar.muli v15 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let c2_i32_44 : BitVec 32 := 2#32
  let v69 : BitVec 32 := Scalar.muli v20 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let c2_i32_52 : BitVec 32 := 2#32
  let v81 : BitVec 32 := Scalar.muli v25 c2_i32_52
  let v82 : BitVec 32 := Scalar.addi v80 v81
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let c1_i32_53 : BitVec 32 := 1#32
  let v83 : BitVec 32 := Scalar.muli v26 c1_i32_53
  let v84 : BitVec 32 := Scalar.addi v82 v83
  v84.toNat
def k0_dev4 (d0 : Dev nD) : Nat :=
  let c0_i32_58 : BitVec 32 := 0#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let c4_i32_57 : BitVec 32 := 4#32
  let v91 : BitVec 32 := Scalar.muli v31 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let c4_i32_65 : BitVec 32 := 4#32
  let v103 : BitVec 32 := Scalar.muli v36 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_68 : BitVec 32 := 1#32
  let v107 : BitVec 32 := Scalar.muli v37 c1_i32_68
  let v108 : BitVec 32 := Scalar.addi v106 v107
  v108.toNat
def k0_dev6 (d0 : Dev nD) : Nat :=
  let c0_i32_73 : BitVec 32 := 0#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let c4_i32_72 : BitVec 32 := 4#32
  let v115 : BitVec 32 := Scalar.muli v42 c4_i32_72
  let v116 : BitVec 32 := Scalar.addi c0_i32_73 v115
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let c2_i32_74 : BitVec 32 := 2#32
  let v117 : BitVec 32 := Scalar.muli v43 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let c4_i32_79 : BitVec 32 := 4#32
  let v127 : BitVec 32 := Scalar.muli v48 c4_i32_79
  let v128 : BitVec 32 := Scalar.addi c0_i32_80 v127
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let c2_i32_81 : BitVec 32 := 2#32
  let v129 : BitVec 32 := Scalar.muli v49 c2_i32_81
  let v130 : BitVec 32 := Scalar.addi v128 v129
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let c1_i32_82 : BitVec 32 := 1#32
  let v131 : BitVec 32 := Scalar.muli v50 c1_i32_82
  let v132 : BitVec 32 := Scalar.addi v130 v131
  v132.toNat
def k0_off2 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_7 v2
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_8 v5
  let v18 : BitVec 32 := Scalar.addi v16 v17
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let v19 : BitVec 32 := Scalar.addi v18 v15
  let c0_i32_91 : BitVec 32 := 0#32
  let c0_i32_92 : BitVec 32 := 0#32
  ![v19.toNat, 0, 0]
def k0_off3 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_10 v2
  let c2_i32_11 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_9 v5
  let v22 : BitVec 32 := Scalar.muli c2_i32_11 v20
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_99 : BitVec 32 := 0#32
  let c0_i32_100 : BitVec 32 := 0#32
  ![v24.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.muli c4_i32_14 v2
  let c2_i32_15 : BitVec 32 := 2#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_12 v5
  let v28 : BitVec 32 := Scalar.muli c2_i32_15 v25
  let v29 : BitVec 32 := Scalar.addi v27 v28
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_13 v8
  let v30 : BitVec 32 := Scalar.addi v29 v26
  let c0_i32_107 : BitVec 32 := 0#32
  let c0_i32_108 : BitVec 32 := 0#32
  ![v30.toNat, 0, 0]
def k0_off5 (d0 : Dev nD) : Fin 3 → Nat :=
  let c4_i32_17 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_16 v2
  let v32 : BitVec 32 := Scalar.muli c4_i32_17 v31
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_18 v5
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c0_i32_115 : BitVec 32 := 0#32
  let c0_i32_116 : BitVec 32 := 0#32
  ![v35.toNat, 0, 0]
def k0_off6 (d0 : Dev nD) : Fin 3 → Nat :=
  let c4_i32_21 : BitVec 32 := 4#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_19 v2
  let v38 : BitVec 32 := Scalar.muli c4_i32_21 v36
  let c2_i32_22 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.muli c2_i32_22 v5
  let v40 : BitVec 32 := Scalar.addi v38 v39
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let v41 : BitVec 32 := Scalar.addi v40 v37
  let c0_i32_123 : BitVec 32 := 0#32
  let c0_i32_124 : BitVec 32 := 0#32
  ![v41.toNat, 0, 0]
def k0_off7 (d0 : Dev nD) : Fin 3 → Nat :=
  let c4_i32_25 : BitVec 32 := 4#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_23 v2
  let v44 : BitVec 32 := Scalar.muli c4_i32_25 v42
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let v45 : BitVec 32 := Scalar.muli c2_i32_26 v43
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.addi v46 v8
  let c0_i32_131 : BitVec 32 := 0#32
  let c0_i32_132 : BitVec 32 := 0#32
  ![v47.toNat, 0, 0]
def k0_off8 (d0 : Dev nD) : Fin 3 → Nat :=
  let c4_i32_30 : BitVec 32 := 4#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let v51 : BitVec 32 := Scalar.muli c4_i32_30 v48
  let c2_i32_31 : BitVec 32 := 2#32
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let v52 : BitVec 32 := Scalar.muli c2_i32_31 v49
  let v53 : BitVec 32 := Scalar.addi v51 v52
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let v54 : BitVec 32 := Scalar.addi v53 v50
  let c0_i32_139 : BitVec 32 := 0#32
  let c0_i32_140 : BitVec 32 := 0#32
  ![v54.toNat, 0, 0]
-- ==== GradsReferenceIdeal.lean ====
abbrev S7360x128 : Shape := ⟨2, ![7360, 128]⟩
abbrev S8x920x128 : Shape := ⟨3, ![8, 920, 128]⟩

abbrev nBuf : Space → Nat
  | .hbm => 2
  | .vmem => 0
  | .smem => 0
  | _ => 0

abbrev bufTy : (tb : Table) → Fin (tcTables nBuf tb) → BufTy
  | .hbm, ⟨0, _⟩ => ⟨S7360x128, .f32⟩
  | .hbm, ⟨1, _⟩ => ⟨S8x920x128, .f32⟩
  | _, _ => ⟨S7360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AddPwOne.lean ====
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddPwOneIdeal.lean ====
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddPwOneReferenceIdeal.lean ====
abbrev S4096x512 : Shape := ⟨2, ![4096, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddPwTwo.lean ====
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddPwTwoIdeal.lean ====
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddPwTwoReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddRetIn.lean ====
abbrev S4096x1536 : Shape := ⟨2, ![4096, 1536]⟩
abbrev S256x1536 : Shape := ⟨2, ![256, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddRetInIdeal.lean ====
abbrev S4096x1536 : Shape := ⟨2, ![4096, 1536]⟩
abbrev S256x1536 : Shape := ⟨2, ![256, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddRetInReferenceIdeal.lean ====
abbrev S4096x1536 : Shape := ⟨2, ![4096, 1536]⟩

abbrev nBuf : Space → Nat
  | .hbm => 3
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddRetOut.lean ====
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddRetOutIdeal.lean ====
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddRetOutReferenceIdeal.lean ====
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddMlp.lean ====
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddMlpReferenceIdeal.lean ====
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Sum.lean ====
abbrev S8x920x128 : Shape := ⟨3, ![8, 920, 128]⟩
abbrev S920x128 : Shape := ⟨2, ![920, 128]⟩
abbrev S1x920x128 : Shape := ⟨3, ![1, 920, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x920x128, .f32⟩
  | .hbm, ⟨1, _⟩ => ⟨S920x128, .f32⟩
  | .local _ .vmem, ⟨0, _⟩ => ⟨S8x920x128, .f32⟩
  | .local _ .vmem, ⟨1, _⟩ => ⟨S920x128, .f32⟩
  | _, _ => ⟨S8x920x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x920x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumReferenceIdeal.lean ====
abbrev S8x920x128 : Shape := ⟨3, ![8, 920, 128]⟩
abbrev S_ : Shape := ⟨0, ![]⟩
abbrev S920x128 : Shape := ⟨2, ![920, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x920x128, .f32⟩
  | .hbm, ⟨1, _⟩ => ⟨S_, .f32⟩
  | .hbm, ⟨2, _⟩ => ⟨S920x128, .f32⟩
  | _, _ => ⟨S8x920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RowFwd.lean ====
abbrev S8192x1024 : Shape := ⟨2, ![8192, 1024]⟩
abbrev S8x1024 : Shape := ⟨2, ![8, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x1024, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowFwdReferenceIdeal.lean ====
abbrev S8192x1024 : Shape := ⟨2, ![8192, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== RowFirst.lean ====
abbrev S8192x1024 : Shape := ⟨2, ![8192, 1024]⟩
abbrev S8x1024 : Shape := ⟨2, ![8, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowFirstReferenceIdeal.lean ====
abbrev S8192x1024 : Shape := ⟨2, ![8192, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== RowBwd.lean ====
abbrev S8192x1024 : Shape := ⟨2, ![8192, 1024]⟩
abbrev S8x1024 : Shape := ⟨2, ![8, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RowBwdReferenceIdeal.lean ====
abbrev S8192x1024 : Shape := ⟨2, ![8192, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S8192x1024, .bf16⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Final.lean ====
abbrev S8192x1024 : Shape := ⟨2, ![8192, 1024]⟩
abbrev S8x1024 : Shape := ⟨2, ![8, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x1024, .f32⟩
  | .hbm, ⟨4, _⟩ => ⟨S8192x1024, .f32⟩
  | .hbm, ⟨5, _⟩ => ⟨S8192x1024, .bf16⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalReferenceIdeal.lean ====
abbrev S8192x1024 : Shape := ⟨2, ![8192, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8x1024, .f32⟩
  | 4 => ⟨S1x1024, .f32⟩
  | 5 => ⟨S1024, .f32⟩
  | 6 => ⟨S1x1024, .f32⟩
  | 7 => ⟨S1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192, .f32⟩
  | 39 => ⟨S_, .f32⟩
  | 40 => ⟨S8192, .f32⟩
  | 41 => ⟨S8192, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S8192, .f32⟩
  | 50 => ⟨S_, .f32⟩
  | 51 => ⟨S8192, .f32⟩
  | 52 => ⟨S8192, .f32⟩
  | 53 => ⟨S8192x1024, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S8192x1024, .f32⟩
  | 60 => ⟨S8192x1024, .f32⟩
  | 61 => ⟨S_, .f32⟩
  | 62 => ⟨S1024, .f32⟩
  | 63 => ⟨S8192x1024, .f32⟩
  | 64 => ⟨S_, .f32⟩
  | 65 => ⟨S8192, .f32⟩
  | 66 => ⟨S8192x1, .f32⟩
  | 67 => ⟨S8192x1024, .f32⟩
  | 68 => ⟨S8192x1024, .f32⟩
  | 69 => ⟨S8192x1, .f32⟩
  | 70 => ⟨S_, .f32⟩
  | 71 => ⟨S8192x1, .f32⟩
  | 72 => ⟨S8192x1, .f32⟩
  | 73 => ⟨S_, .f32⟩
  | 74 => ⟨S8192, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S1x1024, .f32⟩
  | 89 => ⟨S1024, .f32⟩
  | 90 => ⟨S1x1024, .f32⟩
  | 91 => ⟨S1024, .f32⟩
  | 92 => ⟨S1x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x1, .f32⟩
  | 107 => ⟨S8192x1024, .f32⟩
  | 108 => ⟨S8192x1024, .f32⟩
  | 109 => ⟨S1x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S_, .f32⟩
  | 118 => ⟨S1024, .f32⟩
  | 119 => ⟨S_, .f32⟩
  | 120 => ⟨S1024, .f32⟩
  | 121 => ⟨S1024, .f32⟩
  | 122 => ⟨S_, .f32⟩
  | 123 => ⟨S1024, .f32⟩
  | 124 => ⟨S8192x1024, .bf16⟩
  | 125 => ⟨S1x1024, .f32⟩
  | 126 => ⟨S1x1024, .f32⟩
  | 127 => ⟨S1x1024, .f32⟩
  | _ => ⟨S8192x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_v63 : Ref sig .tc := ⟨.hbm, 85, rfl⟩
abbrev main_cst_17 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_18 : Ref sig .tc := ⟨.hbm, 97, rfl⟩
abbrev main_v74 : Ref sig .tc := ⟨.hbm, 98, rfl⟩
abbrev main_v75 : Ref sig .tc := ⟨.hbm, 99, rfl⟩
abbrev main_cst_19 : Ref sig .tc := ⟨.hbm, 100, rfl⟩
abbrev main_v76 : Ref sig .tc := ⟨.hbm, 101, rfl⟩
abbrev main_v77 : Ref sig .tc := ⟨.hbm, 102, rfl⟩
abbrev main_cst_20 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_21 : Ref sig .tc := ⟨.hbm, 114, rfl⟩
abbrev main_v88 : Ref sig .tc := ⟨.hbm, 115, rfl⟩
abbrev main_v89 : Ref sig .tc := ⟨.hbm, 116, rfl⟩
abbrev main_cst_22 : Ref sig .tc := ⟨.hbm, 117, rfl⟩
abbrev main_v90 : Ref sig .tc := ⟨.hbm, 118, rfl⟩
abbrev main_cst_23 : Ref sig .tc := ⟨.hbm, 119, rfl⟩
abbrev main_v91 : Ref sig .tc := ⟨.hbm, 120, rfl⟩
abbrev main_v92 : Ref sig .tc := ⟨.hbm, 121, rfl⟩
abbrev main_cst_24 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]
-- ==== Loss.lean ====
abbrev S8x1024 : Shape := ⟨2, ![8, 1024]⟩
abbrev S1x1024 : Shape := ⟨2, ![1, 1024]⟩
abbrev S1024 : Shape := ⟨1, ![1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S8x1024, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_cst : Ref sig .tc := ⟨.hbm, 3, rfl⟩
abbrev main_v3 : Ref sig .tc := ⟨.hbm, 4, rfl⟩
abbrev main_v4 : Ref sig .tc := ⟨.hbm, 5, rfl⟩
abbrev main_v4_s0 : Ref sig .tc := ⟨.hbm, 6, rfl⟩
abbrev main_v4_s1 : Ref sig .tc := ⟨.hbm, 7, rfl⟩
abbrev main_v4_s2 : Ref sig .tc := ⟨.hbm, 8, rfl⟩
abbrev main_v4_s3 : Ref sig .tc := ⟨.hbm, 9, rfl⟩
abbrev main_v4_s4 : Ref sig .tc := ⟨.hbm, 10, rfl⟩
abbrev main_v4_s5 : Ref sig .tc := ⟨.hbm, 11, rfl⟩
abbrev main_v4_s6 : Ref sig .tc := ⟨.hbm, 12, rfl⟩
abbrev main_v4_s7 : Ref sig .tc := ⟨.hbm, 13, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))
-- ==== LossReferenceIdeal.lean ====
abbrev S64x1024 : Shape := ⟨2, ![64, 1024]⟩
abbrev S8x8x1024 : Shape := ⟨3, ![8, 8, 1024]⟩
abbrev S8x1x1024 : Shape := ⟨3, ![8, 1, 1024]⟩
abbrev S8x1024 : Shape := ⟨2, ![8, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S8x8x1024, .f32⟩
  | .hbm, ⟨2, _⟩ => ⟨S8x1x1024, .f32⟩
  | .hbm, ⟨3, _⟩ => ⟨S8x1024, .f32⟩
  | .hbm, ⟨4, _⟩ => ⟨S_, .f32⟩
  | .hbm, ⟨5, _⟩ => ⟨S_, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvFwd.lean ====
abbrev S8192x2048 : Shape := ⟨2, ![8192, 2048]⟩
abbrev S32x1024 : Shape := ⟨2, ![32, 1024]⟩
abbrev S8x1024 : Shape := ⟨2, ![8, 1024]⟩
abbrev S8192x1024 : Shape := ⟨2, ![8192, 1024]⟩
abbrev S256x2048 : Shape := ⟨2, ![256, 2048]⟩
abbrev S256x1024 : Shape := ⟨2, ![256, 1024]⟩
abbrev S288x1024 : Shape := ⟨2, ![288, 1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S32x1024, .f32⟩
  | .hbm, ⟨2, _⟩ => ⟨S8x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .local _ .vmem, ⟨0, _⟩ => ⟨S256x2048, .f32⟩
  | .local _ .vmem, ⟨1, _⟩ => ⟨S256x2048, .f32⟩
  | .local _ .vmem, ⟨2, _⟩ => ⟨S32x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S288x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFwdReferenceIdeal.lean ====
abbrev S8192x2048 : Shape := ⟨2, ![8192, 2048]⟩
abbrev S32x1024 : Shape := ⟨2, ![32, 1024]⟩
abbrev S8x1024 : Shape := ⟨2, ![8, 1024]⟩
abbrev S8192x1024 : Shape := ⟨2, ![8192, 1024]⟩
abbrev S_ : Shape := ⟨0, ![]⟩
abbrev S8222x1024 : Shape := ⟨2, ![8222, 1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 216
  | .vmem => 0
  | .smem => 0
  | _ => 0

abbrev hbmTy0_0 (i : Nat) : BufTy := match i % 128 with
  | 0 => ⟨S8192x2048, .f32⟩
  | 1 => ⟨S32x1024, .f32⟩
  | 2 => ⟨S8x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S8192x1024, .f32⟩
  | 14 => ⟨S_, .i32⟩
  | 15 => ⟨S_, .f32⟩
  | 16 => ⟨S8222x1024, .f32⟩
  | 17 => ⟨S8192x1024, .f32⟩
  | 18 => ⟨S1x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S1x1024, .f32⟩
  | 71 => ⟨S8192x1024, .f32⟩
  | 72 => ⟨S8192x1024, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S1x1024, .f32⟩
  | 81 => ⟨S8192x1024, .f32⟩
  | 82 => ⟨S8192x1024, .f32⟩
  | 83 => ⟨S8192x1024, .f32⟩
  | 84 => ⟨S8192x1024, .f32⟩
  | 85 => ⟨S1x1024, .f32⟩
  | 86 => ⟨S8192x1024, .f32⟩
  | 87 => ⟨S8192x1024, .f32⟩
  | 88 => ⟨S8192x1024, .f32⟩
  | 89 => ⟨S8192x1024, .f32⟩
  | 90 => ⟨S1x1024, .f32⟩
  | 91 => ⟨S8192x1024, .f32⟩
  | 92 => ⟨S8192x1024, .f32⟩
  | 93 => ⟨S8192x1024, .f32⟩
  | 94 => ⟨S8192x1024, .f32⟩
  | 95 => ⟨S1x1024, .f32⟩
  | 96 => ⟨S8192x1024, .f32⟩
  | 97 => ⟨S8192x1024, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x1024, .f32⟩
  | 104 => ⟨S8192x1024, .f32⟩
  | 105 => ⟨S1x1024, .f32⟩
  | 106 => ⟨S8192x1024, .f32⟩
  | 107 => ⟨S8192x1024, .f32⟩
  | 108 => ⟨S8192x1024, .f32⟩
  | 109 => ⟨S8192x1024, .f32⟩
  | 110 => ⟨S1x1024, .f32⟩
  | 111 => ⟨S8192x1024, .f32⟩
  | 112 => ⟨S8192x1024, .f32⟩
  | 113 => ⟨S8192x1024, .f32⟩
  | 114 => ⟨S8192x1024, .f32⟩
  | 115 => ⟨S1x1024, .f32⟩
  | 116 => ⟨S8192x1024, .f32⟩
  | 117 => ⟨S8192x1024, .f32⟩
  | 118 => ⟨S8192x1024, .f32⟩
  | 119 => ⟨S8192x1024, .f32⟩
  | 120 => ⟨S1x1024, .f32⟩
  | 121 => ⟨S8192x1024, .f32⟩
  | 122 => ⟨S8192x1024, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x2048, .f32⟩

abbrev hbmTy0_1 (i : Nat) : BufTy := match i % 128 with
  | 0 => ⟨S8192x1024, .f32⟩
  | 1 => ⟨S8192x1024, .f32⟩
  | 2 => ⟨S1x1024, .f32⟩
  | 3 => ⟨S8192x1024, .f32⟩
  | 4 => ⟨S8192x1024, .f32⟩
  | 5 => ⟨S8192x1024, .f32⟩
  | 6 => ⟨S8192x1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S8192x1024, .f32⟩
  | 16 => ⟨S8192x1024, .f32⟩
  | 17 => ⟨S1x1024, .f32⟩
  | 18 => ⟨S8192x1024, .f32⟩
  | 19 => ⟨S8192x1024, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x1024, .f32⟩
  | 65 => ⟨S8192x1024, .f32⟩
  | 66 => ⟨S_, .f32⟩
  | 67 => ⟨S8192x1, .f32⟩
  | 68 => ⟨S8192x1, .f32⟩
  | 69 => ⟨S8192x1, .f32⟩
  | 70 => ⟨S8192x1024, .f32⟩
  | 71 => ⟨S8192x1024, .f32⟩
  | 72 => ⟨S1x1024, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S8192x1024, .f32⟩
  | 87 => ⟨S8192x1024, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_cst_2 : Ref sig .tc := ⟨.hbm, 177, rfl⟩
abbrev main_v169 : Ref sig .tc := ⟨.hbm, 178, rfl⟩
abbrev main_v170 : Ref sig .tc := ⟨.hbm, 179, rfl⟩
abbrev main_cst_3 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_cst_4 : Ref sig .tc := ⟨.hbm, 186, rfl⟩
abbrev main_v176 : Ref sig .tc := ⟨.hbm, 187, rfl⟩
abbrev main_v177 : Ref sig .tc := ⟨.hbm, 188, rfl⟩
abbrev main_cst_5 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_cst_6 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_call1_v0 : Ref sig .tc := ⟨.hbm, 206, rfl⟩
abbrev main_call1_v1 : Ref sig .tc := ⟨.hbm, 207, rfl⟩
abbrev main_call1_cst : Ref sig .tc := ⟨.hbm, 208, rfl⟩
abbrev main_call1_v2 : Ref sig .tc := ⟨.hbm, 209, rfl⟩
abbrev main_call1_v3 : Ref sig .tc := ⟨.hbm, 210, rfl⟩
abbrev main_call1_cst_0 : Ref sig .tc := ⟨.hbm, 211, rfl⟩
abbrev main_call1_v4 : Ref sig .tc := ⟨.hbm, 212, rfl⟩
abbrev main_call1_v5 : Ref sig .tc := ⟨.hbm, 213, rfl⟩
abbrev main_v193 : Ref sig .tc := ⟨.hbm, 214, rfl⟩
abbrev main_v194 : Ref sig .tc := ⟨.hbm, 215, rfl⟩

abbrev nD : Nat := 1
abbrev τ : Topo := Topo.v7x

variable {F : FTy → Type} [FloatOps F]
-- ==== PwOneFwd.lean ====
abbrev S8192x1024 : Shape := ⟨2, ![8192, 1024]⟩
abbrev S4x1024x512 : Shape := ⟨3, ![4, 1024, 512]⟩
abbrev S1x2048 : Shape := ⟨2, ![1, 2048]⟩
abbrev S8192x2048 : Shape := ⟨2, ![8192, 2048]⟩
abbrev S1024x1024 : Shape := ⟨2, ![1024, 1024]⟩
abbrev S1x1024x512 : Shape := ⟨3, ![1, 1024, 512]⟩
abbrev S1x512 : Shape := ⟨2, ![1, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S1x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PwOneFwdIdeal.lean ====
abbrev S8192x1024 : Shape := ⟨2, ![8192, 1024]⟩
abbrev S4x1024x512 : Shape := ⟨3, ![4, 1024, 512]⟩
abbrev S1x2048 : Shape := ⟨2, ![1, 2048]⟩
abbrev S8192x2048 : Shape := ⟨2, ![8192, 2048]⟩
abbrev S1024x1024 : Shape := ⟨2, ![1024, 1024]⟩
abbrev S1x1024x512 : Shape := ⟨3, ![1, 1024, 512]⟩
abbrev S1x512 : Shape := ⟨2, ![1, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S1x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PwOneFwdReferenceIdeal.lean ====
abbrev S8192x1024 : Shape := ⟨2, ![8192, 1024]⟩
abbrev S4x1024x512 : Shape := ⟨3, ![4, 1024, 512]⟩
abbrev S1x2048 : Shape := ⟨2, ![1, 2048]⟩
abbrev S1024x4x512 : Shape := ⟨3, ![1024, 4, 512]⟩
abbrev S1024x2048 : Shape := ⟨2, ![1024, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S1x2048, .f32⟩
  | .hbm, ⟨3, _⟩ => ⟨S1024x4x512, .bf16⟩
  | .hbm, ⟨4, _⟩ => ⟨S1024x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PwTwoFwd.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PwTwoFwdIdeal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PwTwoFwdReferenceIdeal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== RetInFwd.lean ====
abbrev S8192x1024 : Shape := ⟨2, ![8192, 1024]⟩
abbrev S4x1024x1536 : Shape := ⟨3, ![4, 1024, 1536]⟩
abbrev S8192x6144 : Shape := ⟨2, ![8192, 6144]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInFwdIdeal.lean ====
abbrev S8192x1024 : Shape := ⟨2, ![8192, 1024]⟩
abbrev S4x1024x1536 : Shape := ⟨3, ![4, 1024, 1536]⟩
abbrev S8192x6144 : Shape := ⟨2, ![8192, 6144]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInFwdReferenceIdeal.lean ====
abbrev S8192x1024 : Shape := ⟨2, ![8192, 1024]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S1024x4x1536, .bf16⟩
  | .hbm, ⟨3, _⟩ => ⟨S1024x6144, .bf16⟩
  | .hbm, ⟨4, _⟩ => ⟨S8192x6144, .f32⟩
  | .hbm, ⟨5, _⟩ => ⟨S8192x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RetOutFwd.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutFwdIdeal.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutFwdReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpFwd.lean ====
abbrev S8192x1024 : Shape := ⟨2, ![8192, 1024]⟩
abbrev S4x1024x1024 : Shape := ⟨3, ![4, 1024, 1024]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFwdIdeal.lean ====
abbrev S8192x1024 : Shape := ⟨2, ![8192, 1024]⟩
abbrev S4x1024x1024 : Shape := ⟨3, ![4, 1024, 1024]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFwdReferenceIdeal.lean ====
abbrev S8192x1024 : Shape := ⟨2, ![8192, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S1024x4x1024, .bf16⟩
  | .hbm, ⟨3, _⟩ => ⟨S1024x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DownFwd.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdIdeal.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdReferenceIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdaFwd.lean ====
abbrev S8x1024 : Shape := ⟨2, ![8, 1024]⟩
abbrev S4x1024x1536 : Shape := ⟨3, ![4, 1024, 1536]⟩
abbrev S1x6144 : Shape := ⟨2, ![1, 6144]⟩
abbrev S8x6144 : Shape := ⟨2, ![8, 6144]⟩
abbrev S1x1024x1536 : Shape := ⟨3, ![1, 1024, 1536]⟩
abbrev S1x1536 : Shape := ⟨2, ![1, 1536]⟩
abbrev S8x1536 : Shape := ⟨2, ![8, 1536]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S1x6144, .f32⟩
  | .hbm, ⟨3, _⟩ => ⟨S8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AdaFwdIdeal.lean ====
abbrev S8x1024 : Shape := ⟨2, ![8, 1024]⟩
abbrev S4x1024x1536 : Shape := ⟨3, ![4, 1024, 1536]⟩
abbrev S1x6144 : Shape := ⟨2, ![1, 6144]⟩
abbrev S8x6144 : Shape := ⟨2, ![8, 6144]⟩
abbrev S1x1024x1536 : Shape := ⟨3, ![1, 1024, 1536]⟩
abbrev S1x1536 : Shape := ⟨2, ![1, 1536]⟩
abbrev S8x1536 : Shape := ⟨2, ![8, 1536]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S1x6144, .f32⟩
  | .hbm, ⟨3, _⟩ => ⟨S8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AdaFwdReferenceIdeal.lean ====
abbrev S8x1024 : Shape := ⟨2, ![8, 1024]⟩
abbrev S4x1024x1536 : Shape := ⟨3, ![4, 1024, 1536]⟩
abbrev S1x6144 : Shape := ⟨2, ![1, 6144]⟩
abbrev S_ : Shape := ⟨0, ![]⟩
abbrev S1024x4x1536 : Shape := ⟨3, ![1024, 4, 1536]⟩
abbrev S1024x6144 : Shape := ⟨2, ![1024, 6144]⟩
abbrev S8x6144 : Shape := ⟨2, ![8, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x4x1536, .f32⟩
  | .hbm, ⟨13, _⟩ => ⟨S1024x6144, .f32⟩
  | .hbm, ⟨14, _⟩ => ⟨S8x6144, .f32⟩
  | .hbm, ⟨15, _⟩ => ⟨S8x6144, .f32⟩
  | .hbm, ⟨16, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== DownDx.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxIdeal.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxReferenceIdeal.lean ====
abbrev S8192x1024 : Shape := ⟨2, ![8192, 1024]⟩
abbrev S4096x1024 : Shape := ⟨2, ![4096, 1024]⟩
abbrev S8192x4096 : Shape := ⟨2, ![8192, 4096]⟩
abbrev S1024x4096 : Shape := ⟨2, ![1024, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S1024x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DownDw.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x4096 : Shape := ⟨2, ![8192, 4096]⟩
abbrev S8192x1024 : Shape := ⟨2, ![8192, 1024]⟩
abbrev S4096x8192 : Shape := ⟨2, ![4096, 8192]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x8192, .bf16⟩
  | .hbm, ⟨3, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDw.lean ====
abbrev S8192x1024 : Shape := ⟨2, ![8192, 1024]⟩
abbrev S8192x4096 : Shape := ⟨2, ![8192, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8192x1024 : Shape := ⟨2, ![8192, 1024]⟩
abbrev S8192x4096 : Shape := ⟨2, ![8192, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x8192, .bf16⟩
  | .hbm, ⟨3, _⟩ => ⟨S1024x4096, .f32⟩
  | .hbm, ⟨4, _⟩ => ⟨S1024x4x1024, .f32⟩
  | .hbm, ⟨5, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDx.lean ====
abbrev S8192x4096 : Shape := ⟨2, ![8192, 4096]⟩
abbrev S4x1024x1024 : Shape := ⟨3, ![4, 1024, 1024]⟩
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S8192x4096 : Shape := ⟨2, ![8192, 4096]⟩
abbrev S4x1024x1024 : Shape := ⟨3, ![4, 1024, 1024]⟩
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S8192x4096 : Shape := ⟨2, ![8192, 4096]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x1024x1024, .bf16⟩
  | .hbm, ⟨2, _⟩ => ⟨S1024x4x1024, .bf16⟩
  | .hbm, ⟨3, _⟩ => ⟨S1024x4096, .bf16⟩
  | .hbm, ⟨4, _⟩ => ⟨S4096x1024, .bf16⟩
  | .hbm, ⟨5, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PwTwoDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwTwoDxIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwTwoDxReferenceIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PwTwoDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PwTwoDwIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PwTwoDwReferenceIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x8192, .bf16⟩
  | .hbm, ⟨3, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PwOneDw.lean ====
abbrev S8192x1024 : Shape := ⟨2, ![8192, 1024]⟩
abbrev S8192x2048 : Shape := ⟨2, ![8192, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwOneDwIdeal.lean ====
abbrev S8192x1024 : Shape := ⟨2, ![8192, 1024]⟩
abbrev S8192x2048 : Shape := ⟨2, ![8192, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwOneDwReferenceIdeal.lean ====
abbrev S8192x1024 : Shape := ⟨2, ![8192, 1024]⟩
abbrev S8192x2048 : Shape := ⟨2, ![8192, 2048]⟩
abbrev S1024x8192 : Shape := ⟨2, ![1024, 8192]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x8192, .bf16⟩
  | .hbm, ⟨3, _⟩ => ⟨S1024x2048, .f32⟩
  | .hbm, ⟨4, _⟩ => ⟨S1024x4x512, .f32⟩
  | .hbm, ⟨5, _⟩ => ⟨S4x1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PwOneDx.lean ====
abbrev S8192x2048 : Shape := ⟨2, ![8192, 2048]⟩
abbrev S4x1024x512 : Shape := ⟨3, ![4, 1024, 512]⟩
abbrev S8192x1024 : Shape := ⟨2, ![8192, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwOneDxIdeal.lean ====
abbrev S8192x2048 : Shape := ⟨2, ![8192, 2048]⟩
abbrev S4x1024x512 : Shape := ⟨3, ![4, 1024, 512]⟩
abbrev S8192x1024 : Shape := ⟨2, ![8192, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwOneDxReferenceIdeal.lean ====
abbrev S8192x2048 : Shape := ⟨2, ![8192, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S2048x1024, .bf16⟩
  | .hbm, ⟨5, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RetOutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutDxIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutDxReferenceIdeal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S1024x2048, .bf16⟩
  | .hbm, ⟨3, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RetOutDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutDwIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutDwReferenceIdeal.lean ====
abbrev S8192x2048 : Shape := ⟨2, ![8192, 2048]⟩
abbrev S8192x1024 : Shape := ⟨2, ![8192, 1024]⟩
abbrev S2048x8192 : Shape := ⟨2, ![2048, 8192]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x8192, .bf16⟩
  | .hbm, ⟨3, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RetInDw.lean ====
abbrev S8192x1024 : Shape := ⟨2, ![8192, 1024]⟩
abbrev S8192x6144 : Shape := ⟨2, ![8192, 6144]⟩
abbrev S4x1024x1536 : Shape := ⟨3, ![4, 1024, 1536]⟩
abbrev S1024x1024 : Shape := ⟨2, ![1024, 1024]⟩
abbrev S1024x1536 : Shape := ⟨2, ![1024, 1536]⟩
abbrev S1x1024x1536 : Shape := ⟨3, ![1, 1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S4x1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInDwIdeal.lean ====
abbrev S8192x1024 : Shape := ⟨2, ![8192, 1024]⟩
abbrev S8192x6144 : Shape := ⟨2, ![8192, 6144]⟩
abbrev S4x1024x1536 : Shape := ⟨3, ![4, 1024, 1536]⟩
abbrev S1024x1024 : Shape := ⟨2, ![1024, 1024]⟩
abbrev S1024x1536 : Shape := ⟨2, ![1024, 1536]⟩
abbrev S1x1024x1536 : Shape := ⟨3, ![1, 1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S4x1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInDwReferenceIdeal.lean ====
abbrev S8192x1024 : Shape := ⟨2, ![8192, 1024]⟩
abbrev S8192x6144 : Shape := ⟨2, ![8192, 6144]⟩
abbrev S1024x8192 : Shape := ⟨2, ![1024, 8192]⟩
abbrev S1024x6144 : Shape := ⟨2, ![1024, 6144]⟩
abbrev S1024x4x1536 : Shape := ⟨3, ![1024, 4, 1536]⟩
abbrev S4x1024x1536 : Shape := ⟨3, ![4, 1024, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S1024x8192, .bf16⟩
  | .hbm, ⟨3, _⟩ => ⟨S1024x6144, .f32⟩
  | .hbm, ⟨4, _⟩ => ⟨S1024x4x1536, .f32⟩
  | .hbm, ⟨5, _⟩ => ⟨S4x1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RetInDx.lean ====
abbrev S8192x6144 : Shape := ⟨2, ![8192, 6144]⟩
abbrev S4x1024x1536 : Shape := ⟨3, ![4, 1024, 1536]⟩
abbrev S8192x1024 : Shape := ⟨2, ![8192, 1024]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S4x1024x1536, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInDxIdeal.lean ====
abbrev S8192x6144 : Shape := ⟨2, ![8192, 6144]⟩
abbrev S4x1024x1536 : Shape := ⟨3, ![4, 1024, 1536]⟩
abbrev S8192x1024 : Shape := ⟨2, ![8192, 1024]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S4x1024x1536, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInDxReferenceIdeal.lean ====
abbrev S8192x6144 : Shape := ⟨2, ![8192, 6144]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S6144x1024 : Shape := ⟨2, ![6144, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x1024x1536, .bf16⟩
  | .hbm, ⟨2, _⟩ => ⟨S1024x4x1536, .bf16⟩
  | .hbm, ⟨3, _⟩ => ⟨S1024x6144, .bf16⟩
  | .hbm, ⟨4, _⟩ => ⟨S6144x1024, .bf16⟩
  | .hbm, ⟨5, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdaDw.lean ====
abbrev S1024x128 : Shape := ⟨2, ![1024, 128]⟩
abbrev S128x6144 : Shape := ⟨2, ![128, 6144]⟩
abbrev S4x1024x1536 : Shape := ⟨3, ![4, 1024, 1536]⟩
abbrev S128x1536 : Shape := ⟨2, ![128, 1536]⟩
abbrev S1x1024x1536 : Shape := ⟨3, ![1, 1024, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S1024x128, .f32⟩
  | .hbm, ⟨1, _⟩ => ⟨S128x6144, .f32⟩
  | .hbm, ⟨2, _⟩ => ⟨S4x1024x1536, .f32⟩
  | .local _ .vmem, ⟨0, _⟩ => ⟨S1024x128, .f32⟩
  | .local _ .vmem, ⟨1, _⟩ => ⟨S128x1536, .f32⟩
  | .local _ .vmem, ⟨2, _⟩ => ⟨S128x1536, .f32⟩
  | .local _ .vmem, ⟨3, _⟩ => ⟨S1x1024x1536, .f32⟩
  | .local _ .vmem, ⟨4, _⟩ => ⟨S1x1024x1536, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwReferenceIdeal.lean ====
abbrev S1024x128 : Shape := ⟨2, ![1024, 128]⟩
abbrev S128x6144 : Shape := ⟨2, ![128, 6144]⟩
abbrev S_ : Shape := ⟨0, ![]⟩
abbrev S1024x6144 : Shape := ⟨2, ![1024, 6144]⟩
abbrev S1024x4x1536 : Shape := ⟨3, ![1024, 4, 1536]⟩
abbrev S4x1024x1536 : Shape := ⟨3, ![4, 1024, 1536]⟩

abbrev nBuf : Space → Nat
  | .hbm => 14
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x6144, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x6144, .f32⟩
  | .hbm, ⟨12, _⟩ => ⟨S1024x4x1536, .f32⟩
  | .hbm, ⟨13, _⟩ => ⟨S4x1024x1536, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Proof.Start.lean ====
/-
# Starting a program that is one kernel without windows, its devices' memory dealt together

A kernel that addresses other devices' arrays outright, with no handshake before its first transfer, needs at
its start what lies on other devices: the receiving buffers of its peers. So the launch here hands every core's
unscoped buffers, its own semaphores at zero and its launch credit to ONE step over all the cores, which deals
each core what its body starts from.
-/
module

public import Idealize.ShloMosaic.Lib.Pipeline.Launch
public import Idealize.ShloMosaic.Lib.Pipeline.Kit
public import Idealize.ShloMosaic.Lib.Tactic

@[expose] public section

set_option Elab.async false

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Val : EltTy → Type}

/-- The ghost state: the pipeline library's copy of the rounds algebra, and the kernel's own. -/
abbrev UU (sig : RefSig) (nD : Nat) (τ : Topo) : Type := UR sig nD τ × UR sig nD τ

local notation "𝕄" => MT nD τ sig Unit Val ℕ (UU sig nD τ) ℕ

abbrev EP : Emb (UR sig nD τ) 𝕄 := embL
abbrev ER : Emb (UR sig nD τ) 𝕄 := embR

section Lone

variable {Λ₀ : Labels} {P : Type} [Fintype P] [DecidableEq P]
variable (cfgs : P → Cfg sig Λ₀) (p : P)

/-- Proof data of a pipeline without windows: only what the body holds and owes before and after the one point. -/
def bare [∀ q, IsEmpty (Fin (cfgs q).W)] (O₀ : Dev nD → CellTallies nD τ sig Unit) (X Y : Dev nD → sProp 𝕄) (c : Dev nD) :
    Dat τ Val Unit ℕ (UU sig nD τ) ℕ (cfgs p) c where
  A w := isEmptyElim w
  after w := isEmptyElim w
  Φ t := if t.val = 0 then X c else Y c
  q w := isEmptyElim w
  owed t := if t.val = 0 then O₀ c else 0

theorem bare_first [∀ q, IsEmpty (Fin (cfgs q).W)] {O₀ : Dev nD → CellTallies nD τ sig Unit} {X Y : Dev nD → sProp 𝕄} {c : Dev nD}
    {t : Fin ((cfgs p).N + 1)} (h : t.val = 0) : (bare cfgs p O₀ X Y c).Φ t = X c := if_pos h
theorem bare_later [∀ q, IsEmpty (Fin (cfgs q).W)] {O₀ : Dev nD → CellTallies nD τ sig Unit} {X Y : Dev nD → sProp 𝕄} {c : Dev nD}
    {t : Fin ((cfgs p).N + 1)} (h : t.val ≠ 0) : (bare cfgs p O₀ X Y c).Φ t = Y c := if_neg h
theorem bare_owes [∀ q, IsEmpty (Fin (cfgs q).W)] {O₀ : Dev nD → CellTallies nD τ sig Unit} {X Y : Dev nD → sProp 𝕄} {c : Dev nD}
    {t : Fin ((cfgs p).N + 1)} (h : t.val = 0) : (bare cfgs p O₀ X Y c).owed t = O₀ c := if_pos h
theorem bare_done [∀ q, IsEmpty (Fin (cfgs q).W)] {O₀ : Dev nD → CellTallies nD τ sig Unit} {X Y : Dev nD → sProp 𝕄} {c : Dev nD}
    {t : Fin ((cfgs p).N + 1)} (h : t.val ≠ 0) : (bare cfgs p O₀ X Y c).owed t = 0 := if_neg h

variable {K : Type} [Fintype K] {osem : K → SemLoc sig}
variable (defs₀ : Defs nD τ sig Val Λ₀) (𝒱₀ : Variants)

/-- The body table of the whole program: the kernels' bodies under the pipelines. -/
abbrev tableOf : Defs nD τ sig Val (Pipeline.Sig Λ₀ P fun q => ((cfgs q).toPCfg (Val := Val)).Adm) :=
  Pipeline.defs (fun q => (cfgs q).toPCfg (Val := Val)) defs₀

/-- From the body's triple on each core and the one global dealing step to the run of @main. -/
theorem run_lone [∀ e, Nonempty (Val e)] [∀ q, IsEmpty (Fin (cfgs q).W)]
    (hinj : Function.Injective (cellOf (nD := nD) (τ := τ) cfgs))
    (hw : Pipeline.WinFacts₀ (cfgs p).spec) (ho : Pipeline.OwnSemFacts (cfgs p).spec osem)
    (hrest : ∀ c : Dev nD, (Pipeline.scopedRest (Ix := Unit) (Name := ℕ) (U := UU sig nD τ) (Lvl := ℕ) (Val := Val) (cfgs p).spec c : sProp 𝕄) = iprop(emp))
    (hN : (cfgs p).N = 1)
    (m : (ℓ : Loc nD τ sig) → Buf Val ℓ) (g : Dev nD → PrngReg)
    (main : Dev nD → Prog (TpuEff nD τ sig Val (Pipeline.Sig Λ₀ P fun q => ((cfgs q).toPCfg (Val := Val)).Adm) .tc) PUnit)
    (hmain : ∀ c, main c = .op (.customCall (Pipeline.entry p) ()) fun _ => .ret ⟨⟩)
    (O₀ : Dev nD → CellTallies nD τ sig Unit)
    (v₀ : UR sig nD τ) (G X Y : Dev nD → sProp 𝕄)
    (hfund : (BI.own (ER v₀) : sProp 𝕄) ⊢ |==> bigSep Finset.univ G)
    (hdeal : (bigSep Finset.univ fun c : Dev nD => iprop(Pipeline.ownSems0 osem c ∗ unscopedBufs c (fun b => m ((c.tc : Thread nD τ).loc b))
          ∗ Pipeline.launchCred O₀ c ∗ G c) : sProp 𝕄)
      ⊢ |={Set.univ}=> bigSep Finset.univ X)
    (hbody : ∀ (c : Dev nD) (t : Fin (cfgs p).N) (W : Waits sig Unit), iprop(X c ∗ owes (c.tc : Thread nD τ) (O₀ c) W)
      ⊢ wp frame (wpE defs₀ 𝒱₀ (c.tc : Thread nD τ) none) Set.univ (defs₀ .tc (cfgs p).body ((cfgs p).bodyArgs t ((cfgs p).slots t)))
          fun _ => iprop((Y c ∗ Pipeline.ownSems0 osem c) ∗ ∃ W', owes (c.tc : Thread nD τ) 0 W'))
    (QY : Dev nD → MemSt nD τ sig Val → Prop)
    (hY : ∀ c (s' : Phys nD τ sig Val), iprop(Y c ∗ SI s') ⊢ |={Set.univ}=> iprop(⌜QY c s'.mem⌝ ∗ SI s')) :
    θ_run (tableOf cfgs defs₀) (onTc main) ⟨m, fun _ => 0, g⟩ (fun r => (∀ c, QY c r.2) ∧
      ∀ g' : GSem nD τ sig, (g'.1.2 ≠ .tc ∨ g'.2.isScoped .tc = true) → r.2.sem g' = 0) := by
  classical
  have hss := fun c : Dev nD => Pipeline.scopedSems0_split cfgs hinj p hw ho (Ix := Unit) (Val := Val) (Name := ℕ) (U := UU sig nD τ) (Lvl := ℕ) c
  have hsb := fun c : Dev nD => Pipeline.scopedBufs_split cfgs p hw.stage_scoped hw.stage_inj (fun w => isEmptyElim w)
    (τ := τ) (Ix := Unit) (Val := Val) (Name := ℕ) (U := UU sig nD τ) (Lvl := ℕ) c
  let Y' : Dev nD → sProp 𝕄 := fun c => iprop(Y c ∗ Pipeline.ownSems0 osem c)
  let dats : (q : P) → (c : Dev nD) → Dat τ Val Unit ℕ (UU sig nD τ) ℕ (cfgs q) c := fun q c => bare cfgs q O₀ X Y' c
  let pre : Dev nD → sProp 𝕄 := fun c => iprop(scopedBufs (c.tc : Thread nD τ) ∗ Pipeline.cellsSems0 cfgs p c ∗ Pipeline.idleSems0 cfgs hinj p ho c
    ∗ owes (c.tc : Thread nD τ) (O₀ c) ∅ ∗ Pipeline.cellsGhost cfgs EP p c ∗ Pipeline.toksInit cfgs EP p c ∗ X c)
  let fin : Dev nD → sProp 𝕄 := fun c => iprop(Y c ∗ scopedSems0 (c.tc : Thread nD τ))
  have hbd (c : Dev nD) : (boundary (c.tc : Thread nD τ) : sProp 𝕄)
      ⊢ iprop((scopedBufs (c.tc : Thread nD τ) ∗ Pipeline.cellsSems0 cfgs p c ∗ Pipeline.idleSems0 cfgs hinj p ho c) ∗ Pipeline.ownSems0 osem c) := by
    unfold boundary
    rw [hss c]
    iintro ⟨Hb, ⟨⟨Hcells, Hown⟩, Hidle⟩, -⟩
    isplitr [Hown]
    · isplitl [Hb]; · iexact Hb
      isplitl [Hcells] <;> iassumption
    · iexact Hown
  have hcore (c : Dev nD) :
      coreInit (Ix := Unit) (Name := ℕ) (U := UU sig nD τ) (Lvl := ℕ) (Pipeline.owing O₀) 0 (⟨m, fun _ => 0, g⟩ : MemSt nD τ sig Val) (c.tc : Thread nD τ)
        ⊢ iprop(iprop(scopedBufs (c.tc : Thread nD τ) ∗ Pipeline.cellsSems0 cfgs p c ∗ Pipeline.idleSems0 cfgs hinj p ho c)
          ∗ owes (c.tc : Thread nD τ) (O₀ c) ∅
          ∗ Pipeline.ownSems0 osem c ∗ unscopedBufs c (fun b => m ((c.tc : Thread nD τ).loc b)) ∗ Pipeline.launchCred O₀ c) :=
    (Pipeline.coreInit_boundary_owing O₀ m g c).trans (by
      iintro ⟨Hb, Hub, -, HO, -, -, Hcr⟩
      ihave H := (hbd c) $$ Hb
      icases H with ⟨H1, Hown⟩
      isplitl [H1]; · iexact H1
      isplitl [HO]; · iexact HO
      isplitl [Hown]; · iexact Hown
      isplitl [Hub] <;> iassumption)
  have hcores : (bigSep Finset.univ fun c : Dev nD => (
        coreInit (Ix := Unit) (Name := ℕ) (U := UU sig nD τ) (Lvl := ℕ) (Pipeline.owing O₀) 0 (⟨m, fun _ => 0, g⟩ : MemSt nD τ sig Val) (c.tc : Thread nD τ) : sProp 𝕄))
      ⊢ iprop((bigSep Finset.univ fun c : Dev nD => iprop(scopedBufs (c.tc : Thread nD τ) ∗ Pipeline.cellsSems0 cfgs p c ∗ Pipeline.idleSems0 cfgs hinj p ho c))
        ∗ (bigSep Finset.univ fun c : Dev nD => owes (c.tc : Thread nD τ) (O₀ c) ∅)
        ∗ bigSep Finset.univ fun c : Dev nD => iprop(Pipeline.ownSems0 osem c ∗ unscopedBufs c (fun b => m ((c.tc : Thread nD τ).loc b))
          ∗ Pipeline.launchCred (Name := ℕ) (U := UU sig nD τ) (Lvl := ℕ) (Val := Val) O₀ c) : sProp 𝕄) := by
    refine (bigSep_mono (M := 𝕄) fun c _ => hcore c).trans ?_
    simp only [bigSep_sep']
    exact BI.Entails.refl _
  have hpick (Φ : P → Dev nD → sProp 𝕄) :
      (bigSep Finset.univ fun c : Dev nD => bigSep Finset.univ fun q => Φ q c) ⊢ bigSep Finset.univ fun c : Dev nD => Φ p c :=
    bigSep_mono fun c _ => BI.bigSep_elim (Finset.mem_univ p)
  refine (θ_run (tableOf cfgs defs₀) _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩)
    (adequate_tpu (tableOf cfgs defs₀) _ _ _
      (reflect_intro_fupd_tc_sems (X := Unit) (Variants.lift 𝒱₀) (Pipeline.owing O₀) 0 (noBookings fun _ => le_rfl) (Pipeline.owing_of_ne O₀)
        ((initOf (Pipeline.cells cfgs hinj) (Pipeline.launchToks cfgs hinj), v₀) : UU sig nD τ)
        (fun _ => pre) (fun _ => fin) (fun _ => iprop(emp)) Set.univ ?_ (fun _ c => ?_) fun _ => ?_))
  · -- the launch
    iintro ⟨Hcores, Hu⟩
    ihave Hc := hcores $$ Hcores
    icases Hc with ⟨Hb, HO, Hrest⟩
    ihave H := (ownU_pair _ _) $$ Hu
    icases H with ⟨HP, HX⟩
    imod hfund $$ HX with HG
    imod (Pipeline.fund_ghost cfgs EP hinj) $$ HP with ⟨Hg, Ht⟩
    imod hdeal $$ [Hrest HG] with HX
    · simp only [bigSep_sep']
      icases Hrest with ⟨H1, H2, H3⟩
      isplitl [H1]; · iexact H1
      isplitl [H2]; · iexact H2
      isplitl [H3] <;> iassumption
    imodintro
    iexists ()
    isplitr []
    · simp only [pre, bigSep_sep']
      icases Hb with ⟨Hsc, Hcells, Hidle⟩
      isplitl [Hsc]; · iexact Hsc
      isplitl [Hcells]; · iexact Hcells
      isplitl [Hidle]; · iexact Hidle
      isplitl [HO]; · iexact HO
      isplitl [Hg]; · iapply (hpick fun q c => Pipeline.cellsGhost cfgs EP q c); iexact Hg
      isplitl [Ht]; · iapply (hpick fun q c => Pipeline.toksInit cfgs EP q c); iexact Ht
      iexact HX
    · iempintro
  · -- each core's run of @main
    have h0 (t : Fin (cfgs p).N) : t.val = 0 := by have := t.isLt; omega
    have hobl : BodyObligation (dats p c) defs₀ 𝒱₀ () Set.univ := fun t => by
      rw [Finset.univ_eq_empty, BI.bigSep_empty, BI.bigSep_empty]
      have hc : ((dats p c).Φ t.castSucc) = X c := bare_first cfgs p (h0 t)
      have hs : ((dats p c).Φ t.succ) = Y' c := bare_later cfgs p (Nat.succ_ne_zero _)
      have hoc : ((dats p c).owed t.castSucc) = O₀ c := bare_owes cfgs p (h0 t)
      have hos : ((dats p c).owed t.succ) = 0 := bare_done cfgs p (Nat.succ_ne_zero _)
      unfold Dat.owesAt Pipeline.owesWithin
      rw [hc, hs, hoc, hos]
      iintro ⟨HX, ⟨%W, -, HO⟩, -⟩
      ihave H := ((hbody c t W).trans (wp_mono _ _ _ (Q' := fun _ => iprop(Y' c ∗ (∃ W' : Waits sig Unit, ⌜(W' : Set (SemLoc sig × Unit)) ⊆ (dats p c).bound () t.succ⌝
          ∗ owes (c.tc : Thread nD τ) 0 W') ∗ emp)) fun _ => by
        iintro ⟨HY, ⟨%W', HO⟩⟩
        isplitl [HY]; · iexact HY
        isplitl [HO]
        · iexists W'
          isplitr; · ipureintro; exact fun _ _ => Or.inl trivial
          iexact HO
        · iempintro)) $$ [HX HO]
      · isplitl [HX] <;> iassumption
      iexact H
    have hout : iprop((dats p c).Φ (Fin.last (cfgs p).N) ∗ Pipeline.cellsSems0 cfgs p c ∗ Dat.staging (cfgs p) c ∗ Pipeline.idleSems0 cfgs hinj p ho c)
        ⊢ iprop(Y c ∗ scopedSems0 (c.tc : Thread nD τ) ∗ scopedBufs (c.tc : Thread nD τ)) := by
      rw [hss c, hsb c, hrest c, show (dats p c).Φ (Fin.last (cfgs p).N) = Y' c from bare_later cfgs p (by rw [Fin.val_last, hN]; exact Nat.one_ne_zero)]
      simp only [Y']
      iintro ⟨⟨HY, Hown⟩, Hcells, Hst, Hidle⟩
      isplitl [HY]; · iexact HY
      isplitl [Hcells Hown Hidle]
      · isplitl [Hcells Hown]; · isplitl [Hcells] <;> iassumption
        iexact Hidle
      isplitl [Hst]; · iexact Hst
      iempintro
    have hin : iprop(X c ∗ Pipeline.prefHeld ((cfgs p).toPCfg (Val := Val)).pre c (fun _ => fullShare.right) ((cfgs p).toPCfg_adm (Val := Val)).1 ∗ iprop(emp))
        ⊢ (dats p c).Φ 0 := by
      rw [show (dats p c).Φ 0 = X c from bare_first cfgs p rfl]
      iintro ⟨HX, -⟩
      iexact HX
    simp only [pre]
    rw [hmain c]
    iintro ⟨Hsc, Hcells, Hidle, HO, Hg, Ht, HX⟩
    iapply (fupd_wp frame (wpE (tableOf cfgs defs₀) (Variants.lift 𝒱₀) (c.tc : Thread nD τ) none) Set.univ _ _)
    imod (Pipeline.cellsInit_alloc cfgs dats EP hinj p c) $$ [Hcells Hg] with ⟨%κ, -, Hinit⟩
    · isplitl [Hcells] <;> iassumption
    imodintro
    iapply (Pipeline.wp_customCall_entry_frame (fun q => (cfgs q).toPCfg (Val := Val)) (fun q => (cfgs q).toPCfg_adm) dats () EP κ hinj p defs₀ 𝒱₀
        (fun _ => fullShare.right) c Set.univ (fun _ _ => Set.mem_univ _) hobl.loose (fun w => isEmptyElim w) none (fun u h => nomatch h)
        (X := X c) (Y := Y c) (R := iprop(emp)) (I := Pipeline.idleSems0 cfgs hinj p ho c) (Entails.of_eq (by rw [hsb c, hrest c])) hin hout
        (k := fun _ => .ret ⟨⟩) (Q := fun _ => post (liftTc fin BI.emp) (c.tc : Thread nD τ))) $$ [HO Hinit Ht HX Hidle Hsc]
    · isplitl [HO Hinit Ht]
      · unfold Pipeline.EntryPre Pipeline.PerCore.EntryPre Dat.owesAt Pipeline.owesWithin
        rw [show (dats p c).owed 0 = O₀ c from bare_owes cfgs p rfl]
        isplitr; · unfold Dat.arrays; rw [Finset.univ_eq_empty, BI.bigSep_empty]; iempintro
        isplitl [HO]
        · iexists ∅; isplitr; · ipureintro; rw [Finset.coe_empty]; exact Set.empty_subset _
          iexact HO
        isplitr; · iapply (Pipeline.cellsWaits_intro cfgs dats () p c (R := iprop(emp)) fun w => isEmptyElim w); iempintro
        isplitl [Hinit] <;> iassumption
      isplitr; · unfold Pipeline.prefHeld; rw [Finset.univ_eq_empty, BI.bigSep_empty]; iempintro
      isplitl [HX]; · iexact HX
      isplitl [Hidle] <;> iassumption
    iintro ⟨Hpost, HY, Hz, -⟩
    unfold Pipeline.EntryPost Pipeline.PerCore.EntryPost Dat.owesAt Pipeline.owesWithin
    rw [show (dats p c).owed (Fin.last (cfgs p).N) = 0 from bare_done cfgs p (by rw [Fin.val_last, hN]; exact Nat.one_ne_zero)]
    icases Hpost with ⟨-, ⟨%W, -, HO⟩⟩
    rw [wp_ret]; imodintro
    unfold post; simp only [liftTc_tc, fin]
    isplitr [HO]
    · isplitl [HY] <;> iassumption
    · iexists W; iexact HO
  · -- the posts, read against a final state
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hz⟩, HSI⟩
      ihave %hz := (tcScoped_read_pers c s') $$ [Hz HSI]
      · isplitl [Hz] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Lone

end Exchange

end
-- ==== Proof.Exchange.lean ====
/-
# An exchange of arrays between devices by direct copies

Each device starts a family of copies into its own arrays and a family into those of its peers, then waits for
the ones that land on it, for its own sends to have left and for its local copies. A peer map is its own
inverse, so what lands on a device is what its peer sends at the same place of the family. One schedule of one
round covers every semaphore; this file proves the body once for all such families.
-/
module

public import proofs.«01_k».proof.Proof.Start

@[expose] public section

set_option Elab.async false

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Val : EltTy → Type}

/-- The two ends of one copy. -/
structure Flight (sig : RefSig) where
  sp : Space
  sp' : Space
  s : Shape
  e : EltTy
  src : Memref sig .tc sp s e
  dst : Memref sig .tc sp' s e

/-- The copies of an exchange: for each `j`, the one every device sends to its peer, and for each `i`, the one it
makes for itself; with their semaphores and the units each brings. -/
structure Plan (nD : Nat) (sig : RefSig) (J I : Type) where
  peer : J → Dev nD → Dev nD
  back : ∀ j c, peer j (peer j c) = c
  out : J → Dev nD → Flight sig
  own : I → Dev nD → Flight sig
  sS : J → SemLoc sig
  rS : J → SemLoc sig
  lS : I → SemLoc sig
  N : J → ℕ
  M : I → ℕ
  amt : ∀ j c, (out j c).dst.view.amount (rS j) = N j
  amtOwn : ∀ i c, (own i c).dst.view.amount (lS i) = M i
  pos : ∀ j, 0 < N j
  posOwn : ∀ i, 0 < M i
  q : J → PosShare TreeShare
  qOwn : I → PosShare TreeShare

section Theory

variable {J I : Type} [Fintype J] [DecidableEq J] [Fintype I] [DecidableEq I]
variable (P : Plan nD sig J I)

/-- A device's semaphores: one per send, one per arrival, one per copy of its own. -/
def Plan.sem : J ⊕ J ⊕ I → SemLoc sig := Sum.elim P.sS (Sum.elim P.rS P.lS)
def Plan.cell (ck : Dev nD × (J ⊕ J ⊕ I)) : GSem nD τ sig := ((ck.1.tc : Thread nD τ), P.sem ck.2)

theorem Plan.cell_inj (h : Function.Injective P.sem) : Function.Injective (P.cell (τ := τ)) := by
  rintro ⟨c, k⟩ ⟨c', k'⟩ e
  have h1 : c = c' := congrArg (fun g : GSem nD τ sig => g.1.1) e
  have h2 : k = k' := h (congrArg (fun g : GSem nD τ sig => g.2) e)
  rw [h1, h2]

local notation "𝕄" => MT nD τ sig Unit Val ℕ (UU sig nD τ) ℕ

variable (m : (ℓ : Loc nD τ sig) → Buf Val ℓ)

/-- The source of copy `j` of device `c`, as the launch has it. -/
def Plan.srcPt (j : J) (c : Dev nD) : sProp 𝕄 :=
  (P.out j c).src.view.loc (c.tc : Thread nD τ) ↦[(P.out j c).src.view.set]{P.q j} m ((P.out j c).src.view.loc (c.tc : Thread nD τ))
/-- The destination of copy `j` of device `d`, on device `c`, as the launch has it. -/
def Plan.dstPt (j : J) (d c : Dev nD) : sProp 𝕄 :=
  (P.out j d).dst.view.loc (c.tc : Thread nD τ) ↦[(P.out j d).dst.view.set]{fullShare} m ((P.out j d).dst.view.loc (c.tc : Thread nD τ))
/-- What copy `j` of device `d` leaves on device `c`. -/
def Plan.landed (j : J) (d c : Dev nD) : Buf Val ((P.out j d).dst.view.loc (c.tc : Thread nD τ)) :=
  (P.out j d).dst.view.write Val (m ((P.out j d).dst.view.loc (c.tc : Thread nD τ)))
    ((P.out j d).src.view.read Val (m ((P.out j d).src.view.loc (d.tc : Thread nD τ)))) Finset.univ
def Plan.landPt (j : J) (d c : Dev nD) : sProp 𝕄 :=
  (P.out j d).dst.view.loc (c.tc : Thread nD τ) ↦[(P.out j d).dst.view.set]{fullShare} P.landed m j d c
def Plan.ownSrc (i : I) (c : Dev nD) : sProp 𝕄 :=
  (P.own i c).src.view.loc (c.tc : Thread nD τ) ↦[(P.own i c).src.view.set]{P.qOwn i} m ((P.own i c).src.view.loc (c.tc : Thread nD τ))
def Plan.ownDst (i : I) (c : Dev nD) : sProp 𝕄 :=
  (P.own i c).dst.view.loc (c.tc : Thread nD τ) ↦[(P.own i c).dst.view.set]{fullShare} m ((P.own i c).dst.view.loc (c.tc : Thread nD τ))
def Plan.ownNew (i : I) (c : Dev nD) : Buf Val ((P.own i c).dst.view.loc (c.tc : Thread nD τ)) :=
  (P.own i c).dst.view.write Val (m ((P.own i c).dst.view.loc (c.tc : Thread nD τ)))
    ((P.own i c).src.view.read Val (m ((P.own i c).src.view.loc (c.tc : Thread nD τ)))) Finset.univ
def Plan.ownLand (i : I) (c : Dev nD) : sProp 𝕄 :=
  (P.own i c).dst.view.loc (c.tc : Thread nD τ) ↦[(P.own i c).dst.view.set]{fullShare} P.ownNew m i c

/-- What a cell's one duty hands over: the source back, the landed array, or both. -/
def Plan.pay : Dev nD × (J ⊕ J ⊕ I) → sProp 𝕄
  | (c, .inl j) => P.srcPt m j c
  | (c, .inr (.inl j)) => P.landPt m j (P.peer j c) c
  | (c, .inr (.inr i)) => iprop(P.ownLand m i c ∗ P.ownSrc m i c)

instance Plan.pay_storable (ck : Dev nD × (J ⊕ J ⊕ I)) : BI.Storable (upEmb : UEmb _ 𝕄) (P.pay m ck) := by
  obtain ⟨c, j | j | i⟩ := ck
  · dsimp only [Plan.pay]; unfold Plan.srcPt; infer_instance
  · dsimp only [Plan.pay]; unfold Plan.landPt; infer_instance
  · dsimp only [Plan.pay]; unfold Plan.ownLand Plan.ownSrc; infer_instance

def Plan.units : Dev nD × (J ⊕ J ⊕ I) → ℕ := fun ck => Sum.elim P.N (Sum.elim P.N P.M) ck.2

theorem Plan.units_pos (ck) : 0 < P.units ck := by
  obtain ⟨c, j | j | i⟩ := ck
  exacts [P.pos j, P.pos j, P.posOwn i]

open Classical in
/-- One round: every cell of the plan has one duty, no other cell has any. -/
def Plan.rounds : Rounds.Schedule (GSem nD τ sig) Unit 𝕄 where
  duties g r := if r = 0 ∧ ∃ ck, P.cell ck = g then {()} else ∅
  amount g _ _ := Function.extend P.cell P.units (fun _ => 1) g
  payload g _ _ := Function.extend P.cell (P.pay m) (fun _ => iprop(emp)) g
  unitless _ := False
  amount_pos g r d hd := by
    by_cases h : ∃ ck, P.cell (τ := τ) ck = g
    · rw [Function.extend_def, dif_pos h]; exact P.units_pos _
    · rw [Function.extend_def, dif_neg h]; exact Nat.one_pos

instance Plan.payload_storable (g : GSem nD τ sig) (r : ℕ) (d : Unit) : BI.Storable (upEmb : UEmb _ 𝕄) ((P.rounds m).payload g r d) := by
  classical
  show BI.Storable upEmb (Function.extend P.cell (P.pay m) (fun _ => iprop(emp)) g)
  rw [Function.extend_def]
  split <;> infer_instance

theorem Plan.duties_cell (ck) : (P.rounds m).duties (P.cell (τ := τ) ck) 0 = {()} := by
  dsimp only [Plan.rounds]; exact if_pos ⟨rfl, ck, rfl⟩
theorem Plan.duties_later (g : GSem nD τ sig) (r : ℕ) (h : 1 ≤ r) : (P.rounds m).duties g r = ∅ := by
  dsimp only [Plan.rounds]; exact if_neg fun hh => by omega
theorem Plan.amount_cell (h : Function.Injective P.sem) (ck) (u : Unit) : (P.rounds m).amount (P.cell (τ := τ) ck) 0 u = P.units ck := by
  dsimp only [Plan.rounds]; exact (P.cell_inj h).extend_apply _ _ _
theorem Plan.payload_cell (h : Function.Injective P.sem) (ck) (u : Unit) : (P.rounds m).payload (P.cell (τ := τ) ck) 0 u = P.pay m ck := by
  dsimp only [Plan.rounds]; exact (P.cell_inj h).extend_apply _ _ _
theorem Plan.expect_cell (h : Function.Injective P.sem) (ck) : (P.rounds m).expect (P.cell (τ := τ) ck) 0 = P.units ck := by
  unfold Rounds.Schedule.expect Rounds.Schedule.amountOf
  rw [P.duties_cell, Finset.sum_singleton, P.amount_cell m h]
theorem Plan.rest_cell (h : Function.Injective P.sem) (ck) :
    bigSep ((P.rounds m).duties (P.cell (τ := τ) ck) 0 \ ∅) (fun u => (P.rounds m).payload (P.cell (τ := τ) ck) 0 u) = P.pay m ck := by
  rw [P.duties_cell, Finset.sdiff_empty, bigSep_singleton, P.payload_cell m h]

/-! ## The steps of the body -/

/-- The invariants of all cells, and that each has reached its round. -/
def Plan.records (Kn : Dev nD × (J ⊕ J ⊕ I) → ℕ) : sProp 𝕄 :=
  iprop((bigSep Finset.univ fun ck => cellInv ER (P.rounds m) (Kn ck) (P.cell ck)) ∗ bigSep Finset.univ fun ck => reached ER (P.cell ck) 0)
instance Plan.records_persistent (Kn) : BI.Persistent (P.records (τ := τ) m Kn) := by unfold Plan.records; infer_instance

theorem Plan.records_at (Kn) (ck) : P.records m Kn ⊢ iprop(cellInv ER (P.rounds m) (Kn ck) (P.cell ck) ∗ reached ER (P.cell (τ := τ) ck) 0) := by
  unfold Plan.records
  exact BI.sep_mono (bigSep_elim (Finset.mem_univ ck)) (bigSep_elim (Finset.mem_univ ck))

abbrev Plan.sendC (j : J) (c : Dev nD) : GSem nD τ sig := P.cell (c, .inl j)
abbrev Plan.recvC (j : J) (c : Dev nD) : GSem nD τ sig := P.cell (c, .inr (.inl j))
abbrev Plan.ownC (i : I) (c : Dev nD) : GSem nD τ sig := P.cell (c, .inr (.inr i))

variable {Λ₀ : Labels} (defs₀ : Defs nD τ sig Val Λ₀) (𝒱₀ : Variants)
variable {α : Type}

/-- The first copy of the family is started: its arrays and tokens go, the units owed at the arrival cell with them. -/
theorem Plan.send (hinj : Function.Injective P.sem) (hr : ∀ c c' : Dev nD, τ.routes (c.tc : Thread nD τ) (c'.tc : Thread nD τ) = true)
    (Kn) (j : J) (c n : Dev nD) (hn : n = P.peer j c)
    {hsc : (P.out j c).dst.view.ref.isScScratch = false} {hsrc : (P.out j c).src.view.WordExact} {hdst : (P.out j c).dst.view.WordExact}
    {hsem : DmaTarget.Typed (P.out j c).sp (P.rS j) (.remote (n.tc : Thread nD τ) (P.out j c).dst (P.sS j) hsc)}
    {Q : α → sProp 𝕄} {k : PUnit → Prog (TpuEff nD τ sig Val Λ₀ .tc) α} (O : CellTallies nD τ sig Unit) (W : Waits sig Unit) :
    iprop(P.records m Kn ∗ P.srcPt m j c ∗ P.dstPt m j c (P.peer j c) ∗ dutyTok ER (P.sendC (τ := τ) j c) 0 () ∗ dutyTok ER (P.recvC (τ := τ) j (P.peer j c)) 0 ()
        ∗ owes (c.tc : Thread nD τ) (tallyAt (P.recvC j (P.peer j c)) () (P.N j) + O) W)
      ⊢ iprop(((cred (tallyAt (P.sendC j c) () (P.N j)) ∗ owes (c.tc : Thread nD τ) O W) -∗ wp frame (wpE defs₀ 𝒱₀ (c.tc : Thread nD τ) none) Set.univ (k ⟨⟩) Q)
          -∗ wp frame (wpE defs₀ 𝒱₀ (c.tc : Thread nD τ) none) Set.univ
            (.op (.enqueueDma (P.out j c).src (.remote (n.tc : Thread nD τ) (P.out j c).dst (P.sS j) hsc) (P.rS j) hsrc hdst hsem) k) Q) := by
  subst hn
  have key := Rounds.wp_send_pointsTo 𝒱₀ ER (P.rounds m) (c.tc : Thread nD τ) none (defs := defs₀) (Γ := []) (Q := Q) (k := k)
    (c' := ((P.peer j c).tc : Thread nD τ)) (sS := P.sS j) (sem := P.rS j) (hsc := hsc) (hsrc := hsrc) (hdst := hdst) (hsem := hsem)
    (κ₁ := Kn (c, .inl j)) (κ₂ := Kn (P.peer j c, .inr (.inl j))) (r₁ := 0) (r₂ := 0) (d₁ := ()) (d₂ := ()) (q := P.q j)
    (fs := m ((P.out j c).src.view.loc (c.tc : Thread nD τ))) (fd := m ((P.out j c).dst.view.loc ((P.peer j c).tc : Thread nD τ)))
    (by have := P.duties_cell (τ := τ) m (c, .inl j); exact this ▸ Finset.mem_singleton_self _)
    (by have := P.duties_cell (τ := τ) m (P.peer j c, .inr (.inl j)); exact this ▸ Finset.mem_singleton_self _)
    () () (P.N j) (P.amt j c) (P.amount_cell m hinj (c, .inl j) ()) (P.amount_cell m hinj (P.peer j c, .inr (.inl j)) ()) O
    (O₀ := tallyAt (P.recvC j (P.peer j c)) () (P.N j) + O) (add_comm _ _) (W := W)
    (Entails.of_eq (P.payload_cell m hinj (c, .inl j) ()).symm)
    (Entails.of_eq (by
      refine Eq.trans ?_ (P.payload_cell m hinj (P.peer j c, .inr (.inl j)) ()).symm
      dsimp only [Plan.pay]
      rw [P.back j c]; rfl)) (Es := Set.univ) (hr c (P.peer j c))
  refine (show _ ⊢ (_ : sProp 𝕄) from ?_).trans key
  unfold Plan.srcPt Plan.dstPt
  iintro ⟨#HR, Hs, Hd, Ht1, Ht2, HO⟩
  ihave H1 := (P.records_at m Kn (c, .inl j)) $$ HR
  ihave H2 := (P.records_at m Kn (P.peer j c, .inr (.inl j))) $$ HR
  icases H1 with ⟨Hi1, Hr1⟩
  icases H2 with ⟨Hi2, Hr2⟩
  isplitl [Hi1]; · iexact Hi1
  isplitl [Hi2]; · iexact Hi2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

/-- A copy of the device's own is started. -/
theorem Plan.copy (hinj : Function.Injective P.sem) (Kn) (i : I) (c : Dev nD)
    {hsrc : (P.own i c).src.view.WordExact} {hdst : (P.own i c).dst.view.WordExact}
    {hsem : DmaTarget.Typed (nD := nD) (τ := τ) (p := .tc) (P.own i c).sp (P.lS i) (.here (P.own i c).dst)}
    {Q : α → sProp 𝕄} {k : PUnit → Prog (TpuEff nD τ sig Val Λ₀ .tc) α} :
    iprop(P.records m Kn ∗ P.ownSrc m i c ∗ P.ownDst m i c ∗ dutyTok ER (P.ownC (τ := τ) i c) 0 ())
      ⊢ iprop((cred (tallyAt (P.ownC i c) () (P.M i)) -∗ wp frame (wpE defs₀ 𝒱₀ (c.tc : Thread nD τ) none) Set.univ (k ⟨⟩) Q)
          -∗ wp frame (wpE defs₀ 𝒱₀ (c.tc : Thread nD τ) none) Set.univ
            (.op (.enqueueDma (P.own i c).src (.here (P.own i c).dst) (P.lS i) hsrc hdst hsem) k) Q) := by
  have key := Rounds.wp_copy_pointsTo 𝒱₀ ER (P.rounds m) (c.tc : Thread nD τ) none (defs := defs₀) (Γ := []) (Q := Q) (k := k)
    (sem := P.lS i) (hsrc := hsrc) (hdst := hdst) (hsem := hsem)
    (κ := Kn (c, .inr (.inr i))) (r := 0) (d := ()) (q := P.qOwn i)
    (fs := m ((P.own i c).src.view.loc (c.tc : Thread nD τ))) (fd := m ((P.own i c).dst.view.loc (c.tc : Thread nD τ)))
    (by have := P.duties_cell (τ := τ) m (c, .inr (.inr i)); exact this ▸ Finset.mem_singleton_self _)
    () (P.M i) (P.amtOwn i c) (P.amount_cell m hinj (c, .inr (.inr i)) ())
    (Entails.of_eq (P.payload_cell m hinj (c, .inr (.inr i)) ()).symm) (Es := Set.univ)
  refine (show _ ⊢ (_ : sProp 𝕄) from ?_).trans key
  unfold Plan.ownSrc Plan.ownDst
  iintro ⟨#HR, Hs, Hd, Ht⟩
  ihave H1 := (P.records_at m Kn (c, .inr (.inr i))) $$ HR
  icases H1 with ⟨Hi1, Hr1⟩
  isplitl [Hi1]; · iexact Hi1
  isplitl [Hs]; · iexact Hs
  isplitl [Hd]; · iexact Hd
  isplitl [Ht]; · iexact Ht
  iexact Hr1

/-- A wait for one of the device's cells, nothing being owed any more: the cell's payload comes out. -/
theorem Plan.await (hinj : Function.Injective P.sem) (Kn) (c : Dev nD) (k : J ⊕ J ⊕ I)
    {w : TpuEff nD τ sig Val Λ₀ .tc PUnit}
    (hw : ∀ K : PUnit → sProp 𝕄, wpE defs₀ 𝒱₀ (c.tc : Thread nD τ) none Set.univ w K = waitSpec (c.tc : Thread nD τ) Set.univ (P.sem k) (P.units (c, k)) K)
    {Q : α → sProp 𝕄} {kk : PUnit → Prog (TpuEff nD τ sig Val Λ₀ .tc) α} :
    iprop(P.records m Kn ∗ cred (tallyAt (P.cell (τ := τ) (c, k)) () (P.units (c, k))) ∗ atPos ER (P.cell (τ := τ) (c, k)) 0 ∅ 0 ∗ ∃ W, owes (c.tc : Thread nD τ) 0 W)
      ⊢ iprop(((P.pay m (c, k) ∗ atPos ER (P.cell (τ := τ) (c, k)) 1 ∅ 0 ∗ ∃ W, owes (c.tc : Thread nD τ) 0 W) -∗ wp frame (wpE defs₀ 𝒱₀ (c.tc : Thread nD τ) none) Set.univ (kk ⟨⟩) Q)
          -∗ wp frame (wpE defs₀ 𝒱₀ (c.tc : Thread nD τ) none) Set.univ (.op w kk) Q) := by
  iintro ⟨#HR, Hc, Ha, %W, HO⟩ Hk
  have key := Rounds.wp_wait_rest_token 𝒱₀ ER (P.rounds m) (c.tc : Thread nD τ) none (defs := defs₀) (Γ := []) (Q := Q) (k := kk)
    (κ := Kn (c, k)) hw (Set.mem_univ _) () (O := 0) (W := W) (R := 0) (m := 0) (T := ∅)
    (by rw [Nat.zero_add]; exact (P.expect_cell m hinj (c, k)).symm)
  rw [MayWait_zero] at key
  ihave H1 := (P.records_at m Kn (c, k)) $$ HR
  icases H1 with ⟨Hi, -⟩
  iapply key $$ [Hi Hc HO Ha]
  · isplitl [Hi]; · iexact Hi
    isplitl [Hc]; · iexact Hc
    isplitl [HO]; · iexact HO
    isplitr
    · iempintro
    · iexact Ha
  iintro ⟨HO, Ha, -, Hp⟩
  iapply Hk
  isplitl [Hp]
  · iapply (Entails.of_eq (P.rest_cell m hinj (c, k))); iexact Hp
  isplitl [Ha]; · iexact Ha
  iexists _; iexact HO

/-! ## Families of steps -/

/-- The operations of a family, one after the other, and then the rest. -/
def chain {β γ : Type} {E : Type → Type} (l : List β) (f : β → E PUnit) (k : Prog E γ) : Prog E γ := l.foldr (fun a p => .op (f a) fun _ => p) k

/-- A family whose every step turns `A a` into `B a` and moves the threaded `T` on. -/
theorem wp_chain {β : Type} (c : Dev nD) (f : β → TpuEff nD τ sig Val Λ₀ .tc PUnit) (R : sProp 𝕄) [BI.Persistent R] (A B : β → sProp 𝕄) (T : List β → sProp 𝕄)
    {Q : α → sProp 𝕄}
    (step : ∀ a l (k : PUnit → Prog (TpuEff nD τ sig Val Λ₀ .tc) α), iprop(R ∗ A a ∗ T (a :: l)) ⊢ iprop(((B a ∗ T l) -∗ wp frame (wpE defs₀ 𝒱₀ (c.tc : Thread nD τ) none) Set.univ (k ⟨⟩) Q)
      -∗ wp frame (wpE defs₀ 𝒱₀ (c.tc : Thread nD τ) none) Set.univ (.op (f a) k) Q))
    (l : List β) (k : Prog (TpuEff nD τ sig Val Λ₀ .tc) α) :
    iprop(R ∗ bigSepL l A ∗ T l) ⊢ iprop(((bigSepL l B ∗ T []) -∗ wp frame (wpE defs₀ 𝒱₀ (c.tc : Thread nD τ) none) Set.univ k Q)
      -∗ wp frame (wpE defs₀ 𝒱₀ (c.tc : Thread nD τ) none) Set.univ (chain l f k) Q) := by
  induction l with
  | nil =>
    iintro ⟨-, Ha, HT⟩ Hk
    iapply Hk
    isplitl [Ha]; · iexact Ha
    iexact HT
  | cons a l ih =>
    rw [show bigSepL (a :: l) A = iprop(A a ∗ bigSepL l A) from bigSepL_cons a l A, show bigSepL (a :: l) B = iprop(B a ∗ bigSepL l B) from bigSepL_cons a l B]
    iintro ⟨#HR, ⟨Ha, Hl⟩, HT⟩ Hk
    iapply (step a l fun _ => chain l f k) $$ [Ha HT]
    · isplitr; · iexact HR
      isplitl [Ha] <;> iassumption
    iintro ⟨Hb, HT⟩
    iapply ih $$ [Hl HT]
    · isplitr; · iexact HR
      isplitl [Hl] <;> iassumption
    iintro ⟨Hl, HT⟩
    iapply Hk
    isplitr [HT]
    · isplitl [Hb] <;> iassumption
    · iexact HT

/-! ## The body -/

/-- What a device owes at its start: the units of all its sends, at its peers' cells. -/
def Plan.due (l : List J) (c : Dev nD) : CellTallies nD τ sig Unit := (l.map fun j => tallyAt (P.recvC j (P.peer j c)) () (P.N j)).sum

/-- What copy `j` of a device goes off with. -/
def Plan.give (j : J) (c : Dev nD) : sProp 𝕄 :=
  iprop(P.srcPt m j c ∗ P.dstPt m j c (P.peer j c) ∗ dutyTok ER (P.sendC (τ := τ) j c) 0 () ∗ dutyTok ER (P.recvC (τ := τ) j (P.peer j c)) 0 ())
def Plan.giveOwn (i : I) (c : Dev nD) : sProp 𝕄 := iprop(P.ownSrc m i c ∗ P.ownDst m i c ∗ dutyTok ER (P.ownC (τ := τ) i c) 0 ())

/-- What the body starts from. -/
def Plan.start (c : Dev nD) : sProp 𝕄 :=
  iprop(∃ Kn, P.records m Kn ∗ (bigSep Finset.univ fun j => P.give m j c) ∗ (bigSep Finset.univ fun i => P.giveOwn m i c)
    ∗ (bigSep Finset.univ fun j => cred (tallyAt (P.recvC (τ := τ) j c) () (P.N j)))
    ∗ bigSep Finset.univ fun k => atPos ER (P.cell (τ := τ) (c, k)) 0 ∅ 0)
/-- What the body ends with: everything landed, the sources back. -/
def Plan.done (c : Dev nD) : sProp 𝕄 :=
  iprop((bigSep Finset.univ fun j => P.landPt m j (P.peer j c) c) ∗ (bigSep Finset.univ fun j => P.srcPt m j c)
    ∗ bigSep Finset.univ fun i => iprop(P.ownLand m i c ∗ P.ownSrc m i c))

/-- The body of such an exchange, its five families listed: own copies, sends, arrivals, sends left, own copies made. -/
def wholeBody (lI : List I) (lJ : List J) (cp : I → TpuEff nD τ sig Val Λ₀ .tc PUnit) (sd rv sw : J → TpuEff nD τ sig Val Λ₀ .tc PUnit)
    (cw : I → TpuEff nD τ sig Val Λ₀ .tc PUnit) : Prog (TpuEff nD τ sig Val Λ₀ .tc) PUnit :=
  chain lI cp (chain lJ sd (chain lJ rv (chain lJ sw (chain lI cw (.ret ⟨⟩)))))

/-- A send is of the plan. -/
def Plan.Sends (c : Dev nD) (sd : J → TpuEff nD τ sig Val Λ₀ .tc PUnit) : Prop :=
  ∀ j, ∃ (n : Dev nD) (_ : n = P.peer j c) (hsc : (P.out j c).dst.view.ref.isScScratch = false) (hsrc : (P.out j c).src.view.WordExact)
    (hdst : (P.out j c).dst.view.WordExact) (hsem : DmaTarget.Typed (P.out j c).sp (P.rS j) (.remote (n.tc : Thread nD τ) (P.out j c).dst (P.sS j) hsc)),
    sd j = .enqueueDma (P.out j c).src (.remote (n.tc : Thread nD τ) (P.out j c).dst (P.sS j) hsc) (P.rS j) hsrc hdst hsem
/-- A copy of the device's own is of the plan. -/
def Plan.Copies (c : Dev nD) (cp : I → TpuEff nD τ sig Val Λ₀ .tc PUnit) : Prop :=
  ∀ i, ∃ (hsrc : (P.own i c).src.view.WordExact) (hdst : (P.own i c).dst.view.WordExact)
    (hsem : DmaTarget.Typed (nD := nD) (τ := τ) (p := .tc) (P.own i c).sp (P.lS i) (.here (P.own i c).dst)),
    cp i = .enqueueDma (P.own i c).src (.here (P.own i c).dst) (P.lS i) hsrc hdst hsem
/-- An operation waits for a cell of the plan. -/
def Plan.Awaits (c : Dev nD) (k : J ⊕ J ⊕ I) (w : TpuEff nD τ sig Val Λ₀ .tc PUnit) : Prop :=
  ∀ K : PUnit → sProp 𝕄, wpE defs₀ 𝒱₀ (c.tc : Thread nD τ) none Set.univ w K = waitSpec (c.tc : Thread nD τ) Set.univ (P.sem k) (P.units (c, k)) K

theorem Plan.close (Kn) (ck : Dev nD × (J ⊕ J ⊕ I)) :
    iprop(P.records m Kn ∗ atPos ER (P.cell (τ := τ) ck) 1 ∅ 0) ⊢ (|={Set.univ}=> semVal (P.cell ck) 0 : sProp 𝕄) := by
  iintro ⟨#HR, Ha⟩
  ihave H := (P.records_at m Kn ck) $$ HR
  icases H with ⟨Hi, -⟩
  iapply (Rounds.cell_close ER (P.rounds m) (Set.mem_univ (Kn ck)) (fun h => h) (P.duties_later m (P.cell ck)))
  isplitl [Hi] <;> iassumption

theorem Plan.run (hinj : Function.Injective P.sem) (hr : ∀ c c' : Dev nD, τ.routes (c.tc : Thread nD τ) (c'.tc : Thread nD τ) = true)
    (lI : List I) (hI : Finset.univ = lI.toFinset) (hIn : lI.Nodup) (lJ : List J) (hJ : Finset.univ = lJ.toFinset) (hJn : lJ.Nodup)
    (c : Dev nD) (cp : I → TpuEff nD τ sig Val Λ₀ .tc PUnit) (sd rv sw : J → TpuEff nD τ sig Val Λ₀ .tc PUnit) (cw : I → TpuEff nD τ sig Val Λ₀ .tc PUnit)
    (hcp : P.Copies c cp) (hsd : P.Sends c sd) (hrv : ∀ j, P.Awaits defs₀ 𝒱₀ c (.inr (.inl j)) (rv j))
    (hsw : ∀ j, P.Awaits defs₀ 𝒱₀ c (.inl j) (sw j)) (hcw : ∀ i, P.Awaits defs₀ 𝒱₀ c (.inr (.inr i)) (cw i)) (W : Waits sig Unit) :
    iprop(P.start m c ∗ owes (c.tc : Thread nD τ) (P.due lJ c) W)
      ⊢ wp frame (wpE defs₀ 𝒱₀ (c.tc : Thread nD τ) none) Set.univ (wholeBody lI lJ cp sd rv sw cw)
          fun _ => iprop((P.done m c ∗ Pipeline.ownSems0 P.sem c) ∗ ∃ W', owes (c.tc : Thread nD τ) 0 W') := by
  have eI (Φ : I → sProp 𝕄) : bigSep Finset.univ Φ = bigSepL lI Φ := bigSep_univ_eq_bigSepL lI hI hIn Φ
  have eJ (Φ : J → sProp 𝕄) : bigSep Finset.univ Φ = bigSepL lJ Φ := bigSep_univ_eq_bigSepL lJ hJ hJn Φ
  have sI (Φ Ψ : I → sProp 𝕄) : bigSepL lI (fun i => iprop(Φ i ∗ Ψ i)) = iprop(bigSepL lI Φ ∗ bigSepL lI Ψ) := by
    rw [← eI, ← eI, ← eI, bigSep_sep']
  have sJ (Φ Ψ : J → sProp 𝕄) : bigSepL lJ (fun j => iprop(Φ j ∗ Ψ j)) = iprop(bigSepL lJ Φ ∗ bigSepL lJ Ψ) := by
    rw [← eJ, ← eJ, ← eJ, bigSep_sep']
  have eK (Φ : J ⊕ J ⊕ I → sProp 𝕄) : bigSep Finset.univ Φ
      = iprop((bigSepL lJ fun j => Φ (.inl j)) ∗ (bigSepL lJ fun j => Φ (.inr (.inl j))) ∗ bigSepL lI fun i => Φ (.inr (.inr i))) := by
    rw [bigSep_univ_sum, bigSep_univ_sum, eJ, eJ, eI]; rfl
  have hclose (Kn) : iprop(P.records m Kn ∗ bigSep Finset.univ fun k => atPos ER (P.cell (τ := τ) (c, k)) 1 ∅ 0)
      ⊢ (|={Set.univ}=> Pipeline.ownSems0 P.sem c : sProp 𝕄) :=
    (bigSep_with_persistent fun k _ => P.close m Kn (c, k)).trans (bigSep_fupd _ _)
  unfold Plan.start Plan.done wholeBody
  simp only [eK, eI, eJ] at hclose ⊢
  iintro ⟨⟨%Kn, #HR, HG, HGo, HC, HAs, HAr, HAo⟩, HO⟩
  iapply (wp_chain defs₀ 𝒱₀ c cp (P.records m Kn) (fun i => P.giveOwn m i c) (fun i => cred (tallyAt (P.ownC i c) () (P.M i))) (fun _ => iprop(emp))
    (fun i l k => by
      obtain ⟨h1, h2, h3, e⟩ := hcp i
      rw [e]
      unfold Plan.giveOwn
      iintro ⟨#HR, ⟨Ha, Hb, Hc⟩, -⟩ Hk
      iapply (P.copy m defs₀ 𝒱₀ hinj Kn i c) $$ [Ha Hb Hc]
      · isplitr; · iexact HR
        isplitl [Ha]; · iexact Ha
        isplitl [Hb] <;> iassumption
      iintro H
      iapply Hk
      isplitl [H]; · iexact H
      iempintro) lI _) $$ [HGo]
  · isplitr; · iexact HR
    isplitl [HGo]; · iexact HGo
    iempintro
  iintro ⟨HCo, -⟩
  iapply (wp_chain defs₀ 𝒱₀ c sd (P.records m Kn) (fun j => P.give m j c) (fun j => cred (tallyAt (P.sendC j c) () (P.N j)))
    (fun l => owes (c.tc : Thread nD τ) (P.due l c) W)
    (fun j l k => by
      obtain ⟨n, hn, h1, h2, h3, h4, e⟩ := hsd j
      rw [e]
      unfold Plan.give
      iintro ⟨#HR, ⟨Ha, Hb, Hc, Hd⟩, HO⟩ Hk
      iapply (P.send m defs₀ 𝒱₀ hinj hr Kn j c n hn (P.due l c) W) $$ [Ha Hb Hc Hd HO]
      · isplitr; · iexact HR
        isplitl [Ha]; · iexact Ha
        isplitl [Hb]; · iexact Hb
        isplitl [Hc]; · iexact Hc
        isplitl [Hd]; · iexact Hd
        iexact HO
      iexact Hk) lJ _) $$ [HG HO]
  · isplitr; · iexact HR
    isplitl [HG] <;> iassumption
  iintro ⟨HCs, HO⟩
  iapply (wp_chain defs₀ 𝒱₀ c rv (P.records m Kn) (fun j => iprop(cred (tallyAt (P.recvC j c) () (P.N j)) ∗ atPos ER (P.recvC (τ := τ) j c) 0 ∅ 0))
    (fun j => iprop(P.landPt m j (P.peer j c) c ∗ atPos ER (P.recvC (τ := τ) j c) 1 ∅ 0))
    (fun _ => iprop(∃ W, owes (c.tc : Thread nD τ) 0 W))
    (fun j l k => by
      iintro ⟨#HR, ⟨Ha, Hb⟩, HO⟩ Hk
      iapply (P.await m defs₀ 𝒱₀ hinj Kn c (.inr (.inl j)) (hrv j)) $$ [Ha Hb HO]
      · isplitr; · iexact HR
        isplitl [Ha]; · iexact Ha
        isplitl [Hb] <;> iassumption
      dsimp only [Plan.pay]
      iintro ⟨H1, H2, H3⟩
      iapply Hk
      isplitr [H3]
      · isplitl [H1]; · iexact H1
        iexact H2
      · iexact H3) lJ _) $$ [HC HAr HO]
  · isplitr; · iexact HR
    rw [sJ]
    isplitr [HO]
    · isplitl [HC]; · iexact HC
      iexact HAr
    · iexists W; iexact HO
  rw [sJ]
  iintro ⟨⟨HL, HAr⟩, HO⟩
  iapply (wp_chain defs₀ 𝒱₀ c sw (P.records m Kn) (fun j => iprop(cred (tallyAt (P.sendC j c) () (P.N j)) ∗ atPos ER (P.sendC (τ := τ) j c) 0 ∅ 0))
    (fun j => iprop(P.srcPt m j c ∗ atPos ER (P.sendC (τ := τ) j c) 1 ∅ 0))
    (fun _ => iprop(∃ W, owes (c.tc : Thread nD τ) 0 W))
    (fun j l k => by
      iintro ⟨#HR, ⟨Ha, Hb⟩, HO⟩ Hk
      iapply (P.await m defs₀ 𝒱₀ hinj Kn c (.inl j) (hsw j)) $$ [Ha Hb HO]
      · isplitr; · iexact HR
        isplitl [Ha]; · iexact Ha
        isplitl [Hb] <;> iassumption
      dsimp only [Plan.pay]
      iintro ⟨H1, H2, H3⟩
      iapply Hk
      isplitr [H3]
      · isplitl [H1] <;> iassumption
      · iexact H3) lJ _) $$ [HCs HAs HO]
  · isplitr; · iexact HR
    rw [sJ]
    isplitr [HO]
    · isplitl [HCs]; · iexact HCs
      iexact HAs
    · iexact HO
  rw [sJ]
  iintro ⟨⟨HS, HAs⟩, HO⟩
  iapply (wp_chain defs₀ 𝒱₀ c cw (P.records m Kn) (fun i => iprop(cred (tallyAt (P.ownC i c) () (P.M i)) ∗ atPos ER (P.ownC (τ := τ) i c) 0 ∅ 0))
    (fun i => iprop(iprop(P.ownLand m i c ∗ P.ownSrc m i c) ∗ atPos ER (P.ownC (τ := τ) i c) 1 ∅ 0))
    (fun _ => iprop(∃ W, owes (c.tc : Thread nD τ) 0 W))
    (fun j l k => by
      iintro ⟨#HR, ⟨Ha, Hb⟩, HO⟩ Hk
      iapply (P.await m defs₀ 𝒱₀ hinj Kn c (.inr (.inr j)) (hcw j)) $$ [Ha Hb HO]
      · isplitr; · iexact HR
        isplitl [Ha]; · iexact Ha
        isplitl [Hb] <;> iassumption
      dsimp only [Plan.pay]
      iintro ⟨H1, H2, H3⟩
      iapply Hk
      isplitr [H3]
      · isplitl [H1] <;> iassumption
      · iexact H3) lI _) $$ [HCo HAo HO]
  · isplitr; · iexact HR
    rw [sI]
    isplitr [HO]
    · isplitl [HCo]; · iexact HCo
      iexact HAo
    · iexact HO
  rw [sI]
  iintro ⟨⟨HLo, HAo⟩, HO⟩
  imod (hclose Kn) $$ [HAs HAr HAo] with Hz
  · isplitr; · iexact HR
    isplitl [HAs]; · iexact HAs
    isplitl [HAr] <;> iassumption
  rw [wp_ret]
  imodintro
  isplitr [HO]
  · isplitr [Hz]
    · isplitl [HL]; · iexact HL
      isplitl [HS] <;> iassumption
    · iexact Hz
  · iexact HO

end Theory

end Exchange
-- ==== Proof.Deal.lean ====
/-
# Dealing an exchange's start, reading its end, and running it

The one global step before the bodies: the cells' invariants, the tokens and the receiving arrays go to the
devices that use them, which for an exchange with peers means along the peer map. After the bodies, what landed
is read off the memory.
-/
module

public import proofs.«01_k».proof.Proof.Exchange

@[expose] public section

set_option Elab.async false

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Val : EltTy → Type}
variable {J I : Type} [Fintype J] [DecidableEq J] [Fintype I] [DecidableEq I]
variable (P : Plan nD sig J I)

local notation "𝕄" => MT nD τ sig Unit Val ℕ (UU sig nD τ) ℕ

variable (m : (ℓ : Loc nD τ sig) → Buf Val ℓ)

def Plan.swapAt (j : J) : Dev nD ≃ Dev nD := ⟨P.peer j, P.peer j, P.back j, P.back j⟩

/-- The cells and the tokens of the plan, as the ghost state is funded for them. -/
def Plan.cells (h : Function.Injective P.sem) : Finset (GSem nD τ sig) := Finset.univ.map ⟨P.cell, P.cell_inj h⟩
def Plan.toks (h : Function.Injective P.sem) : Finset (GSem nD τ sig × ℕ × Unit) :=
  Finset.univ.map ⟨fun ck => (P.cell ck, 0, ()), fun _ _ e => P.cell_inj h (congrArg Prod.fst e)⟩

/-- What a device is funded with. -/
def Plan.fundOf (c : Dev nD) : sProp 𝕄 :=
  iprop((bigSep Finset.univ fun k => roundState ER (P.rounds m) (P.cell (c, k)) 0) ∗ (bigSep Finset.univ fun k => reached ER (P.cell (c, k)) 0)
    ∗ (bigSep Finset.univ fun k => atPos ER (P.cell (c, k)) 0 ∅ 0) ∗ bigSep Finset.univ fun k => dutyTok ER (P.cell (c, k)) 0 ())

theorem Plan.fund (h : Function.Injective P.sem) : (BI.own (ER (initOf (P.cells h) (P.toks h))) : sProp 𝕄) ⊢ |==> bigSep Finset.univ (P.fundOf m) := by
  have hX (Φ : GSem nD τ sig → sProp 𝕄) : bigSep (P.cells h) Φ = bigSep Finset.univ fun c : Dev nD => bigSep Finset.univ fun k => Φ (P.cell (c, k)) := by
    unfold Plan.cells; rw [bigSep_map, bigSep_univ_prod]; rfl
  have hT : bigSep (P.toks h) (fun x => (dutyTok ER x.1 x.2.1 x.2.2 : sProp 𝕄))
      = bigSep Finset.univ fun c : Dev nD => bigSep Finset.univ fun k => dutyTok ER (P.cell (c, k)) 0 () := by
    unfold Plan.toks; rw [bigSep_map, bigSep_univ_prod]; rfl
  have key := Rounds.fund (ER (Val := Val) (nD := nD) (τ := τ)) (P.rounds m) (P.cells h) (P.toks h)
  rw [hX, hX, hX, hT] at key
  refine key.trans (BI.bupd_mono ?_)
  unfold Plan.fundOf
  simp only [bigSep_sep']
  exact BI.Entails.refl _

/-- One device's cells are put under invariants. -/
theorem Plan.alloc (c : Dev nD) :
    iprop(Pipeline.ownSems0 P.sem c ∗ P.fundOf m c)
      ⊢ (|={Set.univ}=> iprop((bigSep Finset.univ fun k => iprop(∃ κ : ℕ, cellInv ER (P.rounds m) κ (P.cell (c, k))))
          ∗ (bigSep Finset.univ fun k => reached ER (P.cell (c, k)) 0)
          ∗ (bigSep Finset.univ fun k => atPos ER (P.cell (c, k)) 0 ∅ 0) ∗ bigSep Finset.univ fun k => dutyTok ER (P.cell (c, k)) 0 ()) : sProp 𝕄) := by
  unfold Plan.fundOf
  have key : iprop(Pipeline.ownSems0 P.sem c ∗ bigSep Finset.univ fun k => roundState ER (P.rounds m) (P.cell (c, k)) 0)
      ⊢ (|={Set.univ}=> bigSep Finset.univ fun k => iprop(∃ κ : ℕ, cellInv ER (P.rounds m) κ (P.cell (c, k))) : sProp 𝕄) := by
    unfold Pipeline.ownSems0
    rw [← bigSep_sep']
    exact (bigSep_mono fun k _ => (Rounds.body_intro ER (P.rounds m) (P.cell (c, k))).trans inv_alloc).trans (bigSep_fupd _ _)
  iintro ⟨Hv, Hst, Hr, Ha, Ht⟩
  imod key $$ [Hv Hst] with Hinv
  · isplitl [Hv] <;> iassumption
  imodintro
  isplitl [Hinv]; · iexact Hinv
  isplitl [Hr]; · iexact Hr
  isplitl [Ha] <;> iassumption

theorem sum_tally_ne {β : Type} (s : Finset β) (f : β → GSem nD τ sig) (n : β → ℕ) (c : Dev nD) (hf : ∀ b, (f b).1 = (c.tc : Thread nD τ)) (g : GSem nD τ sig)
    (h : (∑ b ∈ s, (tallyAt (f b) () (n b) : CellTallies nD τ sig Unit)) g ≠ 0) : g.1 = (c.tc : Thread nD τ) := by
  by_contra hg
  refine h ?_
  rw [Finset.sum_apply]
  refine Finset.sum_eq_zero fun b _ => Finsupp.ext fun u => ?_
  rw [tallyAt_apply, if_neg (fun hh => hg (by rw [hh.1]; exact hf b))]; rfl

theorem cred_sum_fin {β : Type} [DecidableEq β] (s : Finset β) (T : β → CellTallies nD τ sig Unit) :
    (cred (∑ b ∈ s, T b) : sProp 𝕄) = bigSep s fun b => cred (T b) := by
  induction s using Finset.induction_on with
  | empty => rw [Finset.sum_empty, cred_zero, bigSep_empty]; rfl
  | insert b s hb ih =>
    rw [Finset.sum_insert hb, bigSep_insert hb, ← ih]
    exact BI.Entails.antisymm (cred_add _ _).1 (cred_add _ _).2

/-- The launch credit of a device: the units its peers owe at its arrival cells. -/
theorem Plan.credit (lJ : List J) (hJ : Finset.univ = lJ.toFinset) (hJn : lJ.Nodup) (c : Dev nD) :
    (Pipeline.launchCred (P.due lJ) c : sProp 𝕄) = bigSep Finset.univ fun j => cred (tallyAt (P.recvC j c) () (P.N j)) := by
  have hdue (d : Dev nD) : P.due (τ := τ) lJ d = ∑ j, tallyAt (P.recvC j (P.peer j d)) () (P.N j) := by
    unfold Plan.due; rw [hJ, List.sum_toFinset _ hJn]
  rw [Pipeline.launchCred_of_sum (P.due lJ) (fun d => ∑ j, tallyAt (P.recvC j d) () (P.N j)) ?_ ?_ c, cred_sum_fin]
  · simp only [hdue]
    rw [Finset.sum_comm]
    rw [Finset.sum_comm (f := fun (d : Dev nD) (j : J) => (tallyAt (P.recvC j d) () (P.N j) : CellTallies nD τ sig Unit))]
    exact Finset.sum_congr rfl fun j _ => Equiv.sum_comp (P.swapAt j) fun d => (tallyAt (P.recvC j d) () (P.N j) : CellTallies nD τ sig Unit)
  · exact fun d g hg => sum_tally_ne Finset.univ (fun j => P.recvC j d) P.N d (fun j => rfl) g hg

theorem Plan.assemble (Kn) (c : Dev nD) :
    iprop(P.records m Kn ∗ ((bigSep Finset.univ fun j => P.srcPt m j c) ∗ (bigSep Finset.univ fun j => P.dstPt m j c (P.peer j c))
        ∗ (bigSep Finset.univ fun j => dutyTok ER (P.sendC (τ := τ) j c) 0 ()) ∗ (bigSep Finset.univ fun j => dutyTok ER (P.recvC (τ := τ) j (P.peer j c)) 0 ()))
        ∗ ((bigSep Finset.univ fun i => iprop(P.ownSrc m i c ∗ P.ownDst m i c)) ∗ (bigSep Finset.univ fun i => dutyTok ER (P.ownC (τ := τ) i c) 0 ()))
        ∗ (bigSep Finset.univ fun j => cred (tallyAt (P.recvC (τ := τ) j c) () (P.N j)))
        ∗ bigSep Finset.univ fun k => atPos ER (P.cell (τ := τ) (c, k)) 0 ∅ 0) ⊢ P.start m c := by
  unfold Plan.start Plan.give Plan.giveOwn
  simp only [bigSep_sep']
  iintro ⟨HR, HJ, ⟨⟨Ha, Hb⟩, Hc⟩, HC, HA⟩
  iexists Kn
  isplitl [HR]; · iexact HR
  isplitl [HJ]; · iexact HJ
  isplitl [Ha Hb Hc]
  · isplitl [Ha]; · iexact Ha
    isplitl [Hb] <;> iassumption
  isplitl [HC] <;> iassumption

/-- What a device has once its cells are under invariants, before anything is passed on. -/
def Plan.mid (c : Dev nD) : sProp 𝕄 :=
  iprop(((bigSep Finset.univ fun j => P.srcPt m j c) ∗ (bigSep Finset.univ fun j => P.dstPt m j (P.peer j c) c)
      ∗ bigSep Finset.univ fun i => iprop(P.ownSrc m i c ∗ P.ownDst m i c))
    ∗ (bigSep Finset.univ fun j => cred (tallyAt (P.recvC (τ := τ) j c) () (P.N j)))
    ∗ (bigSep Finset.univ fun k => iprop(∃ κ : ℕ, cellInv ER (P.rounds m) κ (P.cell (c, k))))
    ∗ (bigSep Finset.univ fun k => reached ER (P.cell (c, k)) 0)
    ∗ (bigSep Finset.univ fun k => atPos ER (P.cell (c, k)) 0 ∅ 0)
    ∗ (bigSep Finset.univ fun j => dutyTok ER (P.sendC (τ := τ) j c) 0 ()) ∗ (bigSep Finset.univ fun j => dutyTok ER (P.recvC (τ := τ) j c) 0 ())
    ∗ (bigSep Finset.univ fun i => dutyTok ER (P.ownC (τ := τ) i c) 0 ()))

/-- The dealing step. -/
theorem Plan.deal (lJ : List J) (hJ : Finset.univ = lJ.toFinset) (hJn : lJ.Nodup)
    (hsplit : ∀ c : Dev nD, (unscopedBufs c (fun b => m ((c.tc : Thread nD τ).loc b)) : sProp 𝕄)
      ⊢ iprop((bigSep Finset.univ fun j => P.srcPt m j c) ∗ (bigSep Finset.univ fun j => P.dstPt m j (P.peer j c) c)
        ∗ bigSep Finset.univ fun i => iprop(P.ownSrc m i c ∗ P.ownDst m i c))) :
    (bigSep Finset.univ fun c : Dev nD => iprop(Pipeline.ownSems0 P.sem c ∗ unscopedBufs c (fun b => m ((c.tc : Thread nD τ).loc b))
          ∗ Pipeline.launchCred (P.due lJ) c ∗ P.fundOf m c) : sProp 𝕄)
      ⊢ |={Set.univ}=> bigSep Finset.univ (P.start m) := by
  have hturn (j : J) (Φ : Dev nD → sProp 𝕄) : bigSep Finset.univ Φ = bigSep Finset.univ fun c => Φ (P.peer j c) := bigSep_univ_equiv (P.swapAt j) Φ
  have hdst : (bigSep Finset.univ fun c : Dev nD => bigSep Finset.univ fun j => P.dstPt m j (P.peer j c) c)
      = (bigSep Finset.univ fun c : Dev nD => bigSep Finset.univ fun j => P.dstPt m j c (P.peer j c) : sProp 𝕄) := by
    rw [bigSep_univ_comm, bigSep_univ_comm (fun (c : Dev nD) (j : J) => P.dstPt m j c (P.peer j c))]
    exact bigSep_congr fun j _ => by
      rw [hturn j]
      exact bigSep_congr fun c _ => by rw [P.back]
  have htok : (bigSep Finset.univ fun c : Dev nD => bigSep Finset.univ fun j => dutyTok ER (P.recvC (τ := τ) j c) 0 ())
      = (bigSep Finset.univ fun c : Dev nD => bigSep Finset.univ fun j => dutyTok ER (P.recvC (τ := τ) j (P.peer j c)) 0 () : sProp 𝕄) := by
    rw [bigSep_univ_comm, bigSep_univ_comm (fun (c : Dev nD) (j : J) => (dutyTok ER (P.recvC (τ := τ) j (P.peer j c)) 0 () : sProp 𝕄))]
    exact bigSep_congr fun j _ => hturn j _
  have hone (c : Dev nD) : iprop(Pipeline.ownSems0 P.sem c ∗ unscopedBufs c (fun b => m ((c.tc : Thread nD τ).loc b))
          ∗ Pipeline.launchCred (P.due lJ) c ∗ P.fundOf m c)
      ⊢ (|={Set.univ}=> P.mid m c : sProp 𝕄) := by
    rw [P.credit lJ hJ hJn c]
    have ht : (bigSep Finset.univ fun k => dutyTok ER (P.cell (τ := τ) (c, k)) 0 ())
        = (iprop((bigSep Finset.univ fun j => dutyTok ER (P.sendC (τ := τ) j c) 0 ()) ∗ (bigSep Finset.univ fun j => dutyTok ER (P.recvC (τ := τ) j c) 0 ())
          ∗ (bigSep Finset.univ fun i => dutyTok ER (P.ownC (τ := τ) i c) 0 ())) : sProp 𝕄) := by
      rw [bigSep_univ_sum, bigSep_univ_sum]; rfl
    have ha := P.alloc (τ := τ) m c
    rw [ht] at ha
    iintro ⟨Hv, Hu, Hc, Hf⟩
    imod ha $$ [Hv Hf] with ⟨H1, H2, H3, H4⟩
    · isplitl [Hv] <;> iassumption
    ihave Hu' := (hsplit c) $$ Hu
    imodintro
    unfold Plan.mid
    isplitl [Hu']; · iexact Hu'
    isplitl [Hc]; · iexact Hc
    isplitl [H1]; · iexact H1
    isplitl [H2]; · iexact H2
    isplitl [H3] <;> iassumption
  suffices hmid : bigSep Finset.univ (P.mid m) ⊢ (bigSep Finset.univ (P.start m) : sProp 𝕄) from
    ((bigSep_mono fun c _ => hone c).trans (bigSep_fupd _ _)).trans (BI.fupd_mono hmid)
  unfold Plan.mid
  simp only [bigSep_sep']
  rw [hdst, htok, ← bigSep_univ_prod (fun ck : Dev nD × (J ⊕ J ⊕ I) => iprop(∃ κ : ℕ, cellInv ER (P.rounds m) κ (P.cell ck))),
    ← bigSep_univ_prod (fun ck : Dev nD × (J ⊕ J ⊕ I) => (reached ER (P.cell ck) 0 : sProp 𝕄))]
  have hstart (Kn) := bigSep_with_persistent (S := Finset.univ) (R := P.records m Kn) fun c _ => P.assemble (τ := τ) m Kn c
  simp only [bigSep_sep'] at hstart
  iintro ⟨⟨Hs, Hd, Hos, Hod⟩, Hc, HI, #HR, Ha, Ht1, Ht2, Ht3⟩
  ihave HK := (BI.bigSep_exists_pi Finset.univ (fun (ck : Dev nD × (J ⊕ J ⊕ I)) (κ : ℕ) => (cellInv ER (P.rounds m) κ (P.cell ck) : sProp 𝕄))) $$ HI
  icases HK with ⟨%Kn, #HI⟩
  iapply (hstart Kn)
  isplitr
  · unfold Plan.records
    isplitl; · iexact HI
    iexact HR
  isplitl [Hs Hd Ht1 Ht2]
  · isplitl [Hs]; · iexact Hs
    isplitl [Hd]; · iexact Hd
    isplitl [Ht1] <;> iassumption
  isplitl [Hos Hod Ht3]
  · isplitl [Hos Hod]
    · isplitl [Hos] <;> iassumption
    · iexact Ht3
  isplitl [Hc] <;> iassumption

/-! ## Reading the end -/

theorem read_each {β : Type} [Fintype β] [DecidableEq β] (Φ : β → sProp 𝕄) (φ : β → Prop) (s : Phys nD τ sig Val)
    (h : ∀ b, iprop(Φ b ∗ SI s) ⊢ (⌜φ b⌝ : sProp 𝕄)) : iprop(bigSep Finset.univ Φ ∗ SI s) ⊢ (⌜∀ b, φ b⌝ : sProp 𝕄) :=
  (forall_intro fun b => (BI.sep_mono_l (bigSep_elim (Finset.mem_univ b))).trans (h b)).trans (pure_forall (PROP := sProp 𝕄)).2

/-- What holds of the memory of device `c` in the end: what landed, and the sources as they were. -/
structure Plan.After (c : Dev nD) (s : MemSt nD τ sig Val) : Prop where
  landed : ∀ j, ∀ i ∈ (P.out j (P.peer j c)).dst.view.set, s.mem ((P.out j (P.peer j c)).dst.view.loc (c.tc : Thread nD τ)) i = P.landed m j (P.peer j c) c i
  src : ∀ j, ∀ i ∈ (P.out j c).src.view.set, s.mem ((P.out j c).src.view.loc (c.tc : Thread nD τ)) i = m ((P.out j c).src.view.loc (c.tc : Thread nD τ)) i
  ownLand : ∀ k, ∀ i ∈ (P.own k c).dst.view.set, s.mem ((P.own k c).dst.view.loc (c.tc : Thread nD τ)) i = P.ownNew m k c i
  ownSrc : ∀ k, ∀ i ∈ (P.own k c).src.view.set, s.mem ((P.own k c).src.view.loc (c.tc : Thread nD τ)) i = m ((P.own k c).src.view.loc (c.tc : Thread nD τ)) i

/-- What landed, read through the destination's view, is what the sender's source held. -/
theorem Plan.After.got {m : (ℓ : Loc nD τ sig) → Buf Val ℓ} {P : Plan nD sig J I} {c : Dev nD} {s : MemSt nD τ sig Val} (h : P.After m c s) (j : J) :
    (P.out j (P.peer j c)).dst.view.read Val (s.mem ((P.out j (P.peer j c)).dst.view.loc (c.tc : Thread nD τ)))
      = (P.out j (P.peer j c)).src.view.read Val (m ((P.out j (P.peer j c)).src.view.loc ((P.peer j c).tc : Thread nD τ))) :=
  (View.read_congr (h.landed j)).trans (View.read_write_univ _ _)
/-- A source read through its view holds what it held. -/
theorem Plan.After.kept {m : (ℓ : Loc nD τ sig) → Buf Val ℓ} {P : Plan nD sig J I} {c : Dev nD} {s : MemSt nD τ sig Val} (h : P.After m c s) (j : J) :
    (P.out j c).src.view.read Val (s.mem ((P.out j c).src.view.loc (c.tc : Thread nD τ)))
      = (P.out j c).src.view.read Val (m ((P.out j c).src.view.loc (c.tc : Thread nD τ))) :=
  View.read_congr (h.src j)
/-- So do a device's copies of its own. -/
theorem Plan.After.ownGot {m : (ℓ : Loc nD τ sig) → Buf Val ℓ} {P : Plan nD sig J I} {c : Dev nD} {s : MemSt nD τ sig Val} (h : P.After m c s) (i : I) :
    (P.own i c).dst.view.read Val (s.mem ((P.own i c).dst.view.loc (c.tc : Thread nD τ)))
      = (P.own i c).src.view.read Val (m ((P.own i c).src.view.loc (c.tc : Thread nD τ))) :=
  (View.read_congr (h.ownLand i)).trans (View.read_write_univ _ _)
theorem Plan.After.ownKept {m : (ℓ : Loc nD τ sig) → Buf Val ℓ} {P : Plan nD sig J I} {c : Dev nD} {s : MemSt nD τ sig Val} (h : P.After m c s) (i : I) :
    (P.own i c).src.view.read Val (s.mem ((P.own i c).src.view.loc (c.tc : Thread nD τ)))
      = (P.own i c).src.view.read Val (m ((P.own i c).src.view.loc (c.tc : Thread nD τ))) :=
  View.read_congr (h.ownSrc i)

theorem Plan.read (c : Dev nD) (s : Phys nD τ sig Val) : iprop(P.done m c ∗ SI s) ⊢ (|={Set.univ}=> iprop(⌜P.After m c s.mem⌝ ∗ SI s) : sProp 𝕄) := by
  have h1 := read_each (τ := τ) (fun j => P.landPt m j (P.peer j c) c) _ s fun j => by
    unfold Plan.landPt
    iintro ⟨H, HS⟩
    icombine HS H gives %h
    ipureintro; exact h
  have h2 := read_each (τ := τ) (fun j => P.srcPt m j c) _ s fun j => by
    unfold Plan.srcPt
    iintro ⟨H, HS⟩
    icombine HS H gives %h
    ipureintro; exact h
  have h3 := read_each (τ := τ) (fun i => P.ownLand m i c) _ s fun j => by
    unfold Plan.ownLand
    iintro ⟨H, HS⟩
    icombine HS H gives %h
    ipureintro; exact h
  have h4 := read_each (τ := τ) (fun i => P.ownSrc m i c) _ s fun j => by
    unfold Plan.ownSrc
    iintro ⟨H, HS⟩
    icombine HS H gives %h
    ipureintro; exact h
  unfold Plan.done
  rw [bigSep_sep']
  iintro ⟨⟨HL, HS, HLo, HSo⟩, HI⟩
  ihave H1 := (persistent_entails_right h1) $$ [HL HI]
  · isplitl [HL] <;> iassumption
  icases H1 with ⟨%g1, HL, HI⟩
  ihave H2 := (persistent_entails_right h2) $$ [HS HI]
  · isplitl [HS] <;> iassumption
  icases H2 with ⟨%g2, HS, HI⟩
  ihave H3 := (persistent_entails_right h3) $$ [HLo HI]
  · isplitl [HLo] <;> iassumption
  icases H3 with ⟨%g3, HLo, HI⟩
  ihave H4 := (persistent_entails_right h4) $$ [HSo HI]
  · isplitl [HSo] <;> iassumption
  icases H4 with ⟨%g4, HSo, HI⟩
  imodintro
  isplitr [HI]
  · ipureintro; exact ⟨g1, g2, g3, g4⟩
  · iexact HI

/-! ## The run -/

section Run

variable {Λ₀ : Labels} {Pq : Type} [Fintype Pq] [DecidableEq Pq]
variable (cfgs : Pq → Cfg sig Λ₀) (p : Pq) (defs₀ : Defs nD τ sig Val Λ₀)

/-- A program that is one exchange runs, and leaves every device with what was sent to it. -/
theorem Plan.runs [∀ e, Nonempty (Val e)] [∀ q, IsEmpty (Fin (cfgs q).W)]
    (hinj : Function.Injective (cellOf (nD := nD) (τ := τ) cfgs))
    (hw : Pipeline.WinFacts₀ (cfgs p).spec) (ho : Pipeline.OwnSemFacts (cfgs p).spec P.sem)
    (hrest : ∀ c : Dev nD, (Pipeline.scopedRest (Ix := Unit) (Name := ℕ) (U := UU sig nD τ) (Lvl := ℕ) (Val := Val) (cfgs p).spec c : sProp 𝕄) = iprop(emp))
    (hN : (cfgs p).N = 1) (g : Dev nD → PrngReg)
    (main : Dev nD → Prog (TpuEff nD τ sig Val (Pipeline.Sig Λ₀ Pq fun q => ((cfgs q).toPCfg (Val := Val)).Adm) .tc) PUnit)
    (hmain : ∀ c, main c = .op (.customCall (Pipeline.entry p) ()) fun _ => .ret ⟨⟩)
    (hr : ∀ c c' : Dev nD, τ.routes (c.tc : Thread nD τ) (c'.tc : Thread nD τ) = true)
    (lI : List I) (hI : Finset.univ = lI.toFinset) (hIn : lI.Nodup) (lJ : List J) (hJ : Finset.univ = lJ.toFinset) (hJn : lJ.Nodup)
    (cp : Dev nD → I → TpuEff nD τ sig Val Λ₀ .tc PUnit) (sd rv sw : Dev nD → J → TpuEff nD τ sig Val Λ₀ .tc PUnit) (cw : Dev nD → I → TpuEff nD τ sig Val Λ₀ .tc PUnit)
    (hbody : ∀ (c : Dev nD) (t : Fin (cfgs p).N) (Q : sProp 𝕄),
      (wp frame (wpE defs₀ Variants.none (c.tc : Thread nD τ) none) Set.univ (.op .deviceId fun d => wholeBody lI lJ (cp d) (sd d) (rv d) (sw d) (cw d)) fun _ => Q)
        ⊢ wp frame (wpE defs₀ Variants.none (c.tc : Thread nD τ) none) Set.univ (defs₀ .tc (cfgs p).body ((cfgs p).bodyArgs t ((cfgs p).slots t))) fun _ => Q)
    (hcp : ∀ c, P.Copies c (cp c)) (hsd : ∀ c, P.Sends c (sd c)) (hrv : ∀ c j, P.Awaits defs₀ Variants.none c (.inr (.inl j)) (rv c j))
    (hsw : ∀ c j, P.Awaits defs₀ Variants.none c (.inl j) (sw c j)) (hcw : ∀ c i, P.Awaits defs₀ Variants.none c (.inr (.inr i)) (cw c i))
    (hsplit : ∀ c : Dev nD, (unscopedBufs c (fun b => m ((c.tc : Thread nD τ).loc b)) : sProp 𝕄)
      ⊢ iprop((bigSep Finset.univ fun j => P.srcPt m j c) ∗ (bigSep Finset.univ fun j => P.dstPt m j (P.peer j c) c)
        ∗ bigSep Finset.univ fun i => iprop(P.ownSrc m i c ∗ P.ownDst m i c))) :
    θ_run (tableOf cfgs defs₀) (onTc main) ⟨m, fun _ => 0, g⟩ (fun r => (∀ c, P.After m c r.2) ∧
      ∀ g' : GSem nD τ sig, (g'.1.2 ≠ .tc ∨ g'.2.isScoped .tc = true) → r.2.sem g' = 0) :=
  run_lone cfgs p defs₀ Variants.none hinj hw ho hrest hN m g main hmain (P.due lJ) (initOf (P.cells ho.inj) (P.toks ho.inj)) (P.fundOf m)
    (P.start m) (P.done m) (P.fund m ho.inj) (P.deal m lJ hJ hJn hsplit)
    (fun c t W => by
      refine (show _ ⊢ (_ : sProp 𝕄) from ?_).trans (hbody c t _)
      rw [wp_deviceId]
      exact P.run m defs₀ Variants.none ho.inj hr lI hI hIn lJ hJ hJn c (cp c) (sd c) (rv c) (sw c) (cw c) (hcp c) (hsd c) (hrv c) (hsw c) (hcw c) W)
    (P.After m) (P.read m)

end Run

end Exchange
-- ==== Proof.Swap.lean ====
/-
# The siblings' exchange of the gradients

Every device sends each of its sixteen arrays whole to its sibling, the device differing in the last coordinate,
and takes the sibling's into the arrays the call returns. The run is proved once, over any float values.
-/
module

public import proofs.«01_k».proof.Proof.Deal
public import proofs.«01_k».proof.Proof.Gen.KernelIdeal.Launch

@[expose] public section

set_option Elab.async false

noncomputable section

namespace Swap

open Idealize.ShloMosaic Exchange
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

local notation "𝕄" => MT nD τ sig Unit (Elt F) ℕ (UU sig nD τ) ℕ

/-- The sibling of a device. -/
def sib (d : Dev nD) : Dev nD := ⟨d.val ^^^ 1, (by decide : ∀ d : Fin 8, d.val ^^^ 1 < 8) d⟩
theorem sib_sib : ∀ d : Dev nD, sib (sib d) = d := by decide

/-- The two ends of each copy. -/
def shp (j : Fin 16) : Shape := match j with
  | ⟨0, _⟩ => S4x1024x512
  | ⟨1, _⟩ => S4x1024x512
  | ⟨2, _⟩ => S4x256x1024
  | ⟨3, _⟩ => S4x256x1024
  | ⟨4, _⟩ => S4x1024x1536
  | ⟨5, _⟩ => S4x1024x1536
  | ⟨6, _⟩ => S4x512x1024
  | ⟨7, _⟩ => S4x512x1024
  | ⟨8, _⟩ => S4x1024x1024
  | ⟨9, _⟩ => S4x1024x1024
  | ⟨10, _⟩ => S4x1024x1024
  | ⟨11, _⟩ => S4x1024x1024
  | ⟨12, _⟩ => S4x1024x1024
  | ⟨13, _⟩ => S4x1024x1024
  | ⟨14, _⟩ => S4x1024x1024
  | ⟨_ + 15, _⟩ => S4x1024x1024
def src (j : Fin 16) : Memref sig .tc .hbm (shp j) .f32 := match j with
  | ⟨0, _⟩ => Memref.whole main_arg0
  | ⟨1, _⟩ => Memref.whole main_arg1
  | ⟨2, _⟩ => Memref.whole main_arg2
  | ⟨3, _⟩ => Memref.whole main_arg3
  | ⟨4, _⟩ => Memref.whole main_arg4
  | ⟨5, _⟩ => Memref.whole main_arg5
  | ⟨6, _⟩ => Memref.whole main_arg6
  | ⟨7, _⟩ => Memref.whole main_arg7
  | ⟨8, _⟩ => Memref.whole main_arg8
  | ⟨9, _⟩ => Memref.whole main_arg9
  | ⟨10, _⟩ => Memref.whole main_arg10
  | ⟨11, _⟩ => Memref.whole main_arg11
  | ⟨12, _⟩ => Memref.whole main_arg12
  | ⟨13, _⟩ => Memref.whole main_arg13
  | ⟨14, _⟩ => Memref.whole main_arg14
  | ⟨_ + 15, _⟩ => Memref.whole main_arg15
def dst (j : Fin 16) : Memref sig .tc .hbm (shp j) .f32 := match j with
  | ⟨0, _⟩ => Memref.whole main_v1_0
  | ⟨1, _⟩ => Memref.whole main_v1_1
  | ⟨2, _⟩ => Memref.whole main_v1_2
  | ⟨3, _⟩ => Memref.whole main_v1_3
  | ⟨4, _⟩ => Memref.whole main_v1_4
  | ⟨5, _⟩ => Memref.whole main_v1_5
  | ⟨6, _⟩ => Memref.whole main_v1_6
  | ⟨7, _⟩ => Memref.whole main_v1_7
  | ⟨8, _⟩ => Memref.whole main_v1_8
  | ⟨9, _⟩ => Memref.whole main_v1_9
  | ⟨10, _⟩ => Memref.whole main_v1_10
  | ⟨11, _⟩ => Memref.whole main_v1_11
  | ⟨12, _⟩ => Memref.whole main_v1_12
  | ⟨13, _⟩ => Memref.whole main_v1_13
  | ⟨14, _⟩ => Memref.whole main_v1_14
  | ⟨_ + 15, _⟩ => Memref.whole main_v1_15
abbrev flight (j : Fin 16) : Flight sig := ⟨.hbm, .hbm, shp j, .f32, src j, dst j⟩
/-- The device each send names, as the program computes it. -/
def toDev (j : Fin 16) (d : Dev nD) : Dev nD := match j with
  | ⟨0, _⟩ => ⟨k0_dev1 d, k0_dev1_lt d⟩
  | ⟨1, _⟩ => ⟨k0_dev2 d, k0_dev2_lt d⟩
  | ⟨2, _⟩ => ⟨k0_dev3 d, k0_dev3_lt d⟩
  | ⟨3, _⟩ => ⟨k0_dev4 d, k0_dev4_lt d⟩
  | ⟨4, _⟩ => ⟨k0_dev5 d, k0_dev5_lt d⟩
  | ⟨5, _⟩ => ⟨k0_dev6 d, k0_dev6_lt d⟩
  | ⟨6, _⟩ => ⟨k0_dev7 d, k0_dev7_lt d⟩
  | ⟨7, _⟩ => ⟨k0_dev8 d, k0_dev8_lt d⟩
  | ⟨8, _⟩ => ⟨k0_dev9 d, k0_dev9_lt d⟩
  | ⟨9, _⟩ => ⟨k0_dev10 d, k0_dev10_lt d⟩
  | ⟨10, _⟩ => ⟨k0_dev11 d, k0_dev11_lt d⟩
  | ⟨11, _⟩ => ⟨k0_dev12 d, k0_dev12_lt d⟩
  | ⟨12, _⟩ => ⟨k0_dev13 d, k0_dev13_lt d⟩
  | ⟨13, _⟩ => ⟨k0_dev14 d, k0_dev14_lt d⟩
  | ⟨14, _⟩ => ⟨k0_dev15 d, k0_dev15_lt d⟩
  | ⟨_ + 15, _⟩ => ⟨k0_dev16 d, k0_dev16_lt d⟩
theorem toDev_eq : ∀ (j : Fin 16) (d : Dev nD), toDev j d = sib d := by decide +kernel

def left (j : Fin 16) : DmaSem sig := match j with
  | ⟨0, _⟩ => ((cc0_scratch0.slice (Rect.unit (s := S16) ![0] S1.size inb_S16_S1_0)).squeeze S_ squeezes_S1_S_).sem
  | ⟨1, _⟩ => ((cc0_scratch0.slice (Rect.unit (s := S16) ![1] S1.size inb_S16_S1_1)).squeeze S_ squeezes_S1_S_).sem
  | ⟨2, _⟩ => ((cc0_scratch0.slice (Rect.unit (s := S16) ![2] S1.size inb_S16_S1_2)).squeeze S_ squeezes_S1_S_).sem
  | ⟨3, _⟩ => ((cc0_scratch0.slice (Rect.unit (s := S16) ![3] S1.size inb_S16_S1_3)).squeeze S_ squeezes_S1_S_).sem
  | ⟨4, _⟩ => ((cc0_scratch0.slice (Rect.unit (s := S16) ![4] S1.size inb_S16_S1_4)).squeeze S_ squeezes_S1_S_).sem
  | ⟨5, _⟩ => ((cc0_scratch0.slice (Rect.unit (s := S16) ![5] S1.size inb_S16_S1_5)).squeeze S_ squeezes_S1_S_).sem
  | ⟨6, _⟩ => ((cc0_scratch0.slice (Rect.unit (s := S16) ![6] S1.size inb_S16_S1_6)).squeeze S_ squeezes_S1_S_).sem
  | ⟨7, _⟩ => ((cc0_scratch0.slice (Rect.unit (s := S16) ![7] S1.size inb_S16_S1_7)).squeeze S_ squeezes_S1_S_).sem
  | ⟨8, _⟩ => ((cc0_scratch0.slice (Rect.unit (s := S16) ![8] S1.size inb_S16_S1_8)).squeeze S_ squeezes_S1_S_).sem
  | ⟨9, _⟩ => ((cc0_scratch0.slice (Rect.unit (s := S16) ![9] S1.size inb_S16_S1_9)).squeeze S_ squeezes_S1_S_).sem
  | ⟨10, _⟩ => ((cc0_scratch0.slice (Rect.unit (s := S16) ![10] S1.size inb_S16_S1_10)).squeeze S_ squeezes_S1_S_).sem
  | ⟨11, _⟩ => ((cc0_scratch0.slice (Rect.unit (s := S16) ![11] S1.size inb_S16_S1_11)).squeeze S_ squeezes_S1_S_).sem
  | ⟨12, _⟩ => ((cc0_scratch0.slice (Rect.unit (s := S16) ![12] S1.size inb_S16_S1_12)).squeeze S_ squeezes_S1_S_).sem
  | ⟨13, _⟩ => ((cc0_scratch0.slice (Rect.unit (s := S16) ![13] S1.size inb_S16_S1_13)).squeeze S_ squeezes_S1_S_).sem
  | ⟨14, _⟩ => ((cc0_scratch0.slice (Rect.unit (s := S16) ![14] S1.size inb_S16_S1_14)).squeeze S_ squeezes_S1_S_).sem
  | ⟨_ + 15, _⟩ => ((cc0_scratch0.slice (Rect.unit (s := S16) ![15] S1.size inb_S16_S1_15)).squeeze S_ squeezes_S1_S_).sem
def came (j : Fin 16) : DmaSem sig := match j with
  | ⟨0, _⟩ => ((cc0_scratch1.slice (Rect.unit (s := S16) ![0] S1.size inb_S16_S1_0)).squeeze S_ squeezes_S1_S_).sem
  | ⟨1, _⟩ => ((cc0_scratch1.slice (Rect.unit (s := S16) ![1] S1.size inb_S16_S1_1)).squeeze S_ squeezes_S1_S_).sem
  | ⟨2, _⟩ => ((cc0_scratch1.slice (Rect.unit (s := S16) ![2] S1.size inb_S16_S1_2)).squeeze S_ squeezes_S1_S_).sem
  | ⟨3, _⟩ => ((cc0_scratch1.slice (Rect.unit (s := S16) ![3] S1.size inb_S16_S1_3)).squeeze S_ squeezes_S1_S_).sem
  | ⟨4, _⟩ => ((cc0_scratch1.slice (Rect.unit (s := S16) ![4] S1.size inb_S16_S1_4)).squeeze S_ squeezes_S1_S_).sem
  | ⟨5, _⟩ => ((cc0_scratch1.slice (Rect.unit (s := S16) ![5] S1.size inb_S16_S1_5)).squeeze S_ squeezes_S1_S_).sem
  | ⟨6, _⟩ => ((cc0_scratch1.slice (Rect.unit (s := S16) ![6] S1.size inb_S16_S1_6)).squeeze S_ squeezes_S1_S_).sem
  | ⟨7, _⟩ => ((cc0_scratch1.slice (Rect.unit (s := S16) ![7] S1.size inb_S16_S1_7)).squeeze S_ squeezes_S1_S_).sem
  | ⟨8, _⟩ => ((cc0_scratch1.slice (Rect.unit (s := S16) ![8] S1.size inb_S16_S1_8)).squeeze S_ squeezes_S1_S_).sem
  | ⟨9, _⟩ => ((cc0_scratch1.slice (Rect.unit (s := S16) ![9] S1.size inb_S16_S1_9)).squeeze S_ squeezes_S1_S_).sem
  | ⟨10, _⟩ => ((cc0_scratch1.slice (Rect.unit (s := S16) ![10] S1.size inb_S16_S1_10)).squeeze S_ squeezes_S1_S_).sem
  | ⟨11, _⟩ => ((cc0_scratch1.slice (Rect.unit (s := S16) ![11] S1.size inb_S16_S1_11)).squeeze S_ squeezes_S1_S_).sem
  | ⟨12, _⟩ => ((cc0_scratch1.slice (Rect.unit (s := S16) ![12] S1.size inb_S16_S1_12)).squeeze S_ squeezes_S1_S_).sem
  | ⟨13, _⟩ => ((cc0_scratch1.slice (Rect.unit (s := S16) ![13] S1.size inb_S16_S1_13)).squeeze S_ squeezes_S1_S_).sem
  | ⟨14, _⟩ => ((cc0_scratch1.slice (Rect.unit (s := S16) ![14] S1.size inb_S16_S1_14)).squeeze S_ squeezes_S1_S_).sem
  | ⟨_ + 15, _⟩ => ((cc0_scratch1.slice (Rect.unit (s := S16) ![15] S1.size inb_S16_S1_15)).squeeze S_ squeezes_S1_S_).sem
theorem left_eq : ∀ j, left j = (⟨j.val, by omega⟩ : Fin 32) := by decide +kernel
theorem came_eq : ∀ j, came j = (⟨16 + j.val, by omega⟩ : Fin 32) := by decide +kernel

theorem sameCredit (j : Fin 16) : (flight j).src.view.dmaCredit = (flight j).dst.view.dmaCredit := by
  fin_cases j <;> rfl

abbrev plan : Plan nD sig (Fin 16) Empty where
  peer _ := sib
  back _ := sib_sib
  out j _ := flight j
  own i := i.elim
  sS j := .dma (left j)
  rS j := .dma (came j)
  lS i := i.elim
  N j := (flight j).dst.view.dmaCredit
  M i := i.elim
  amt _ _ := rfl
  amtOwn i := i.elim
  pos j := by fin_cases j <;> exact View.dmaCredit_pos _ (by decide)
  posOwn i := i.elim
  q _ := fullShare
  qOwn i := i.elim

theorem ownSems : Pipeline.OwnSemFacts cfg0.spec plan.sem := by
  refine ⟨?_, ?_, fun k w => w.elim0⟩
  · rintro (j | j | i)
    · show (SemLoc.dma (left j) : SemLoc sig).isScoped .tc = true
      rw [left_eq]; revert j; decide
    · show (SemLoc.dma (came j) : SemLoc sig).isScoped .tc = true
      rw [came_eq]; revert j; decide
    · exact i.elim
  · have hl (j) : plan.sem (.inl j) = .dma (⟨j.val, by omega⟩ : Fin 32) := congrArg SemLoc.dma (left_eq j)
    have hc (j) : plan.sem (.inr (.inl j)) = .dma (⟨16 + j.val, by omega⟩ : Fin 32) := congrArg SemLoc.dma (came_eq j)
    rintro (j | j | i) (j' | j' | i') e
    all_goals first | exact i.elim | exact i'.elim | skip
    all_goals (first | rw [hl] at e | rw [hc] at e); (first | rw [hl] at e | rw [hc] at e)
    all_goals (injection e with e; have e' := congrArg Fin.val e; dsimp only at e')
    · exact congrArg _ (Fin.ext e')
    · omega
    · omega
    · exact congrArg (fun j => Sum.inr (Sum.inl j)) (Fin.ext (by omega))

theorem wordExact_src (j : Fin 16) : (flight j).src.view.WordExact := by
  fin_cases j <;> exact (Memref.isWhole_whole _).wordExact
theorem wordExact_dst (j : Fin 16) : (flight j).dst.view.WordExact := by
  fin_cases j <;> exact (Memref.isWhole_whole _).wordExact
theorem notScratch (j : Fin 16) : (flight j).dst.view.ref.isScScratch = false := by
  fin_cases j <;> rfl
theorem typed (j : Fin 16) (n : Dev nD) : DmaTarget.Typed (nD := nD) (τ := τ) (p := .tc) (flight j).sp (.dma (came j)) (.remote (n.tc : Thread nD τ) (flight j).dst (.dma (left j)) (notScratch j)) := ⟨⟨rfl, Or.inl rfl⟩, trivial⟩

/-- The operations of the body. -/
def sendOp (d : Dev nD) (j : Fin 16) : TpuEff nD τ sig (Elt F) Λ₀ .tc PUnit :=
  .enqueueDma (flight j).src (.remote ((toDev j d).tc : Thread nD τ) (flight j).dst (.dma (left j)) (notScratch j)) (.dma (came j))
    (wordExact_src j) (wordExact_dst j) (typed j _)
def cameOp (j : Fin 16) : TpuEff nD τ sig (Elt F) Λ₀ .tc PUnit :=
  .waitDma2 (came j) (flight j).src (flight j).dst (wordExact_src j) (wordExact_dst j)
def leftOp (j : Fin 16) : TpuEff nD τ sig (Elt F) Λ₀ .tc PUnit :=
  .waitDma2 (left j) (flight j).dst (flight j).src (wordExact_dst j) (wordExact_src j)

def all : List (Fin 16) := [0, 1, 2, 3, 4, 5, 6, 7, 8, 9, 10, 11, 12, 13, 14, 15]

theorem body_eq (t : Fin cfg0.N) (s) : (defs₀ (F := F)) .tc 0 (t, s)
    = .op .deviceId fun d => wholeBody [] all Empty.elim (sendOp d) cameOp leftOp Empty.elim := by
  chain_rfl

/-! ## The arrays of a device -/

def inRef (j : Fin 16) : Ref sig .tc := ⟨.hbm, ⟨j.val, by show j.val < 32; omega⟩, rfl⟩
def outRef (j : Fin 16) : Ref sig .tc := ⟨.hbm, ⟨16 + j.val, by show 16 + j.val < 32; omega⟩, rfl⟩

theorem whole_eq (r : Ref sig .tc) (c : Dev nD) (f : Buf (Elt F) ((c.tc : Thread nD τ).loc r)) :
    ((Memref.whole r).view.loc (c.tc : Thread nD τ) ↦[(Memref.whole r).view.set]{fullShare} f : sProp 𝕄) = ((c.tc : Thread nD τ).loc r ↦{fullShare} f) := by
  show (_ ↦[(View.whole r).set]{fullShare} f : sProp 𝕄) = _
  rw [View.set_whole]

theorem src_eq (m : (ℓ : Loc nD τ sig) → Buf (Elt F) ℓ) (j : Fin 16) (c : Dev nD) :
    (plan.srcPt m j c : sProp 𝕄) = ((c.tc : Thread nD τ).loc (inRef j) ↦{fullShare} m ((c.tc : Thread nD τ).loc (inRef j))) := by
  fin_cases j <;> exact whole_eq _ c _
theorem dst_eq (m : (ℓ : Loc nD τ sig) → Buf (Elt F) ℓ) (j : Fin 16) (d c : Dev nD) :
    (plan.dstPt m j d c : sProp 𝕄) = ((c.tc : Thread nD τ).loc (outRef j) ↦{fullShare} m ((c.tc : Thread nD τ).loc (outRef j))) := by
  fin_cases j <;> exact whole_eq _ c _

def refOf : Fin 16 ⊕ Fin 16 ↪ Ref sig .tc := ⟨Sum.elim inRef outRef, by decide⟩
theorem refs_eq : (Finset.univ.filter fun b : Ref sig .tc => ¬ b.isScoped) = Finset.univ.map refOf := by decide

theorem split (m : (ℓ : Loc nD τ sig) → Buf (Elt F) ℓ) (c : Dev nD) :
    (unscopedBufs c (fun b => m ((c.tc : Thread nD τ).loc b)) : sProp 𝕄)
      ⊢ iprop((bigSep Finset.univ fun j => plan.srcPt m j c) ∗ (bigSep Finset.univ fun j => plan.dstPt m j (plan.peer j c) c)
        ∗ bigSep Finset.univ fun i => iprop(plan.ownSrc m i c ∗ plan.ownDst m i c)) := by
  simp only [src_eq, dst_eq]
  unfold unscopedBufs
  rw [refs_eq, bigSep_map, bigSep_univ_sum, show (Finset.univ : Finset Empty) = ∅ from rfl, bigSep_empty]
  exact BI.sep_mono (BI.Entails.refl _) BI.sep_emp.2

/-! ## The run -/

theorem runs (m : (ℓ : Loc nD τ sig) → Buf (Elt F) ℓ) (g : Dev nD → PrngReg) :
    θ_run (defs (F := F)) (onTc (main (F := F))) ⟨m, fun _ => 0, g⟩ (fun r => (∀ c, plan.After m c r.2) ∧ r.2.sem = fun _ => 0) := by
  have : ∀ q : Fin 1, IsEmpty (Fin (cfgs q).W) := fun _ => (inferInstance : IsEmpty (Fin 0))
  refine (θ_run _ _ _).mono (fun r h => ⟨h.1, sem_eq_zero_of_scoped (by decide) h.2⟩)
    (plan.runs m cfgs 0 defs₀ Gen.cellOf_inj Gen.winFacts0.to₀ ownSems Gen.scopedRest0_eq Gen.N_0 g main (fun _ => rfl)
      (fun _ _ => Topo.routes_tc _ _) [] rfl List.nodup_nil all (by decide) (by decide) (fun _ => Empty.elim) sendOp (fun _ => cameOp) (fun _ => leftOp) (fun _ => Empty.elim)
      (fun c t Q => ?_) (fun _ i => i.elim) (fun c j => ⟨toDev j c, toDev_eq j c, notScratch j, wordExact_src j, wordExact_dst j, typed j _, rfl⟩)
      (fun c j K => rfl) (fun c j K => ?_) (fun _ i => i.elim) (split m))
  · rw [show (defs₀ (F := F)) .tc (cfgs 0).body ((cfgs 0).bodyArgs t ((cfgs 0).slots t)) = _ from body_eq t _]
  · show waitSpec _ _ (.dma (left j)) (flight j).src.view.dmaCredit K = _
    rw [sameCredit]; rfl

end Swap
-- ==== Proof.SwapClaims.lean ====
/-
# The siblings' exchange against reversing the order of siblings

The reference reads the whole arrays as chips, siblings and each device's own blocks, and reverses the siblings.
Block by block that is what the exchange leaves.
-/
module

public import proofs.«01_k».proof.Defs
public import proofs.«01_k».proof.Proof.Swap
public import proofs.«01_k».proof.Proof.Gen.Kernel
public import proofs.«01_k».proof.Proof.Gen.ReferenceIdeal.Run
public import Idealize.ShloMosaic.Lib.Pipeline.Value

@[expose] public section

set_option Elab.async false

noncomputable section

namespace Swap

open Idealize.ShloMosaic Exchange
open Idealize.ShloMosaic.TcCoe
open Idealize.SL.Sem

/-- A block of the array with its siblings reversed is the sibling's block. -/
theorem flip_block {α : Type} {a b : ℕ} (x : (⟨3, ![32, a, b]⟩ : Shape).Idx → α)
    (h1 : (⟨3, ![32, a, b]⟩ : Shape).ShapeCasts ⟨5, ![4, 2, 4, a, b]⟩) (h2 : (⟨5, ![4, 2, 4, a, b]⟩ : Shape).ShapeCasts ⟨3, ![32, a, b]⟩)
    (hT : Layout.Tiles ⟨3, ![4, a, b]⟩ ⟨3, ![32, a, b]⟩ 0 8) (c : Fin 8) :
    Layout.block ⟨3, ![4, a, b]⟩ ⟨3, ![32, a, b]⟩ 0 8 (sib c) x hT
      = Layout.block ⟨3, ![4, a, b]⟩ ⟨3, ![32, a, b]⟩ 0 8 c (shapeCast ⟨3, ![32, a, b]⟩ (Host.reverse [1] (shapeCast ⟨5, ![4, 2, 4, a, b]⟩ x h1)) h2) hT := by
  funext i
  rw [Layout.block_apply, Layout.block_apply]
  have h0 : (i 0).val < 4 := (i 0).isLt
  let k (c : Fin 8) : (⟨5, ![4, 2, 4, a, b]⟩ : Shape).Idx := fun
    | ⟨0, _⟩ => ⟨c.val / 2, by show _ < 4; omega⟩
    | ⟨1, _⟩ => ⟨c.val % 2, by show _ < 2; omega⟩
    | ⟨2, _⟩ => i 0
    | ⟨3, _⟩ => i 1
    | ⟨4, _⟩ => i 2
  have hk (c : Fin 8) : ((⟨5, ![4, 2, 4, a, b]⟩ : Shape).rowMajor (k c)).val = ((⟨3, ![32, a, b]⟩ : Shape).rowMajor (hT.idx c i)).val := by
    rw [Shape.rowMajor_val_five, Shape.rowMajor_val_three]
    show (((c.val / 2 * 2 + c.val % 2) * 4 + (i 0).val) * a + (i 1).val) * b + (i 2).val = ((c.val * 4 + (i 0).val) * a + (i 1).val) * b + (i 2).val
    rw [Nat.div_add_mod']
  rw [shapeCast_apply _ h2 (hT.idx c i) (k c) (hk c)]
  have hr : (fun a_1 => if a_1 ∈ [(1 : Fin 5)] then (k c a_1).rev else k c a_1) = k (sib c) := by
    funext p
    fin_cases p
    · show k c 0 = _
      exact Fin.ext ((by decide : ∀ c : Fin 8, c.val / 2 = (sib c).val / 2) c)
    · show (k c 1).rev = _
      exact Fin.ext ((by decide : ∀ c : Fin 8, 2 - (c.val % 2 + 1) = (sib c).val % 2) c)
    all_goals rfl
  show _ = shapeCast _ x h1 (fun a_1 => if a_1 ∈ [(1 : Fin 5)] then (k c a_1).rev else k c a_1)
  rw [hr, shapeCast_apply x h1 (k (sib c)) (hT.idx (sib c) i) (hk (sib c)).symm]

theorem frameP : Cert.quiescent_Kernel := fun m g _ =>
  (θ_run Cert.KernelIdeal.defs _ _).mono (fun r h => ⟨fun c => ⟨(h.1 c).kept 0, (h.1 c).kept 1, (h.1 c).kept 2, (h.1 c).kept 3, (h.1 c).kept 4, (h.1 c).kept 5, (h.1 c).kept 6, (h.1 c).kept 7, (h.1 c).kept 8, (h.1 c).kept 9, (h.1 c).kept 10, (h.1 c).kept 11, (h.1 c).kept 12, (h.1 c).kept 13, (h.1 c).kept 14, (h.1 c).kept 15⟩, h.2⟩) (runs (F := Bits) m g)
theorem framePI : Cert.quiescent_KernelIdeal := fun m g _ =>
  (θ_run Cert.KernelIdeal.defs _ _).mono (fun r h => ⟨fun c => ⟨(h.1 c).kept 0, (h.1 c).kept 1, (h.1 c).kept 2, (h.1 c).kept 3, (h.1 c).kept 4, (h.1 c).kept 5, (h.1 c).kept 6, (h.1 c).kept 7, (h.1 c).kept 8, (h.1 c).kept 9, (h.1 c).kept 10, (h.1 c).kept 11, (h.1 c).kept 12, (h.1 c).kept 13, (h.1 c).kept 14, (h.1 c).kept 15⟩, h.2⟩) (runs (F := Ideal) m g)
theorem frameRI : Cert.quiescent_ReferenceIdeal := fun m g _ =>
  (θ_run Cert.ReferenceIdeal.defs _ _).mono (fun r h => ⟨fun c => (h c).2.2.2.2.2.2.2.2.2.2.2.2.2.2.2.2, sem_eq_zero_of_no_sems (by decide) r.2⟩)
    (Cert.ReferenceIdeal.Value.run (F := Ideal) m g)

theorem value : Cert.algebraic_KernelIdeal_ReferenceIdeal := by
  intro m g m' g' _ hagree
  refine ⟨_, _, _, _, _, _, _, _, _, _, _, _, _, _, _, _, (θ_run Cert.KernelIdeal.defs _ _).mono (fun r h c => ?_) (runs (F := Ideal) m g),
    (θ_run Cert.ReferenceIdeal.defs _ _).mono (fun _ h => h 0) (Cert.ReferenceIdeal.Value.run (F := Ideal) m' g')⟩
  obtain ⟨a0, a1, a2, a3, a4, a5, a6, a7, a8, a9, a10, a11, a12, a13, a14, a15⟩ := hagree (sib c)
  exact ⟨((h.1 c).got 0).trans (a0.trans (flip_block _ _ _ _ c)), ((h.1 c).got 1).trans (a1.trans (flip_block _ _ _ _ c)), ((h.1 c).got 2).trans (a2.trans (flip_block _ _ _ _ c)), ((h.1 c).got 3).trans (a3.trans (flip_block _ _ _ _ c)), ((h.1 c).got 4).trans (a4.trans (flip_block _ _ _ _ c)), ((h.1 c).got 5).trans (a5.trans (flip_block _ _ _ _ c)), ((h.1 c).got 6).trans (a6.trans (flip_block _ _ _ _ c)), ((h.1 c).got 7).trans (a7.trans (flip_block _ _ _ _ c)), ((h.1 c).got 8).trans (a8.trans (flip_block _ _ _ _ c)), ((h.1 c).got 9).trans (a9.trans (flip_block _ _ _ _ c)), ((h.1 c).got 10).trans (a10.trans (flip_block _ _ _ _ c)), ((h.1 c).got 11).trans (a11.trans (flip_block _ _ _ _ c)), ((h.1 c).got 12).trans (a12.trans (flip_block _ _ _ _ c)), ((h.1 c).got 13).trans (a13.trans (flip_block _ _ _ _ c)), ((h.1 c).got 14).trans (a14.trans (flip_block _ _ _ _ c)), ((h.1 c).got 15).trans (a15.trans (flip_block _ _ _ _ c)),
    (h.1 c).kept 0, (h.1 c).kept 1, (h.1 c).kept 2, (h.1 c).kept 3, (h.1 c).kept 4, (h.1 c).kept 5, (h.1 c).kept 6, (h.1 c).kept 7, (h.1 c).kept 8, (h.1 c).kept 9, (h.1 c).kept 10, (h.1 c).kept 11, (h.1 c).kept 12, (h.1 c).kept 13, (h.1 c).kept 14, (h.1 c).kept 15⟩

end Swap
-- ==== Proof.Slab.lean ====
/-
# An array as the slabs along its leading axes

A whole array splits into the slabs that the copies of an exchange read or write one by one, and a slab of a
memref, its unit axes dropped, reads the memref at the slab's place.
-/
module

public import proofs.«01_k».proof.Proof.Start
public import Idealize.ShloMosaic.Lib.Pipeline.Value

@[expose] public section

set_option Elab.async false

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UU sig nD τ) ℕ

/-- Sets that partition a set of a view's indices partition what is held of it. -/
theorem split_set {sp : Space} {s : Shape} {e : EltTy} (v : View sig .tc sp s e) {T : Type} [Fintype T] [DecidableEq T]
    (c : Dev nD) (S : Finset s.Idx) (K : T → Finset s.Idx) (hd : ∀ t t', t ≠ t' → Disjoint (K t) (K t')) (hc : ∀ i, i ∈ S ↔ ∃ t, i ∈ K t) (q : PosShare TreeShare)
    (f : Buf Val (v.loc (c.tc : Thread nD τ))) :
    (v.loc (c.tc : Thread nD τ) ↦[S.map v.emb]{q} f : sProp 𝕄) = bigSep Finset.univ fun t => v.loc (c.tc : Thread nD τ) ↦[(K t).map v.emb]{q} f := by
  let ℓ := v.loc (c.tc : Thread nD τ)
  have key := pointsTo_biUnion (nD := nD) (τ := τ) (sig := sig) (Val := Val) (U := UU sig nD τ) (Ix := Unit) (Name := ℕ) (Lvl := ℕ) (ℓ := ℓ) (q := q) (f := f) Finset.univ (fun t => ((K t).map v.emb : Finset (Idx ℓ)))
    fun t _ t' _ h => (Finset.disjoint_map v.emb).2 (hd t t' h)
  refine Eq.trans (congrArg (fun S : Finset (Idx ℓ) => (ℓ ↦[S]{q} f : sProp 𝕄)) ?_) key
  ext i
  simp only [Finset.mem_map, Finset.mem_biUnion, Finset.mem_univ, true_and, hc]
  exact ⟨fun ⟨x, ⟨t, ht⟩, hx⟩ => ⟨t, x, ht, hx⟩, fun ⟨t, x, ht, hx⟩ => ⟨x, ⟨t, ht⟩, hx⟩⟩

/-- Sets that partition a view's index space partition what is held of it. -/
theorem split_view {sp : Space} {s : Shape} {e : EltTy} (v : View sig .tc sp s e) {T : Type} [Fintype T] [DecidableEq T]
    (c : Dev nD) (K : T → Finset s.Idx) (hd : ∀ t t', t ≠ t' → Disjoint (K t) (K t')) (hc : ∀ i, ∃ t, i ∈ K t) (q : PosShare TreeShare)
    (f : Buf Val (v.loc (c.tc : Thread nD τ))) :
    (v.loc (c.tc : Thread nD τ) ↦[v.set]{q} f : sProp 𝕄) = bigSep Finset.univ fun t => v.loc (c.tc : Thread nD τ) ↦[(K t).map v.emb]{q} f :=
  split_set v c Finset.univ K hd (fun i => ⟨fun _ => hc i, fun _ => Finset.mem_univ i⟩) q f

/-- A family over one more than `n` members, the first apart. -/
theorem bigSep_first {M : Type} [URA M] {n : ℕ} (Φ : Fin (n + 1) → sProp M) :
    bigSep Finset.univ Φ = iprop(Φ 0 ∗ bigSep Finset.univ fun k : Fin n => Φ k.succ) := by
  rw [Fin.univ_succ, Finset.cons_eq_insert, BI.bigSep_insert (by simp), bigSep_map]; rfl

section Slab

variable {sp : Space} {n p a b : ℕ} {e : EltTy}

/-- Slab `r` of an array of matrices. -/
abbrev cut3 (M : Memref sig .tc sp ⟨3, ![n, a, b]⟩ e) (off : Fin 3 → ℕ) (h : ∀ x, off x + (![1, a, b] : Fin 3 → ℕ) x ≤ (⟨3, ![n, a, b]⟩ : Shape).size x)
    (hq : (⟨3, ![1, a, b]⟩ : Shape).Squeezes ⟨2, ![a, b]⟩) : Memref sig .tc sp ⟨2, ![a, b]⟩ e :=
  (M.slice (Rect.unit (s := ⟨3, ![n, a, b]⟩) off ![1, a, b] h) (fun _ => rfl)).squeeze ⟨2, ![a, b]⟩ hq
/-- Slab `l`, `r` of an array of arrays of matrices. -/
abbrev cut4 (M : Memref sig .tc sp ⟨4, ![p, n, a, b]⟩ e) (off : Fin 4 → ℕ) (h : ∀ x, off x + (![1, 1, a, b] : Fin 4 → ℕ) x ≤ (⟨4, ![p, n, a, b]⟩ : Shape).size x)
    (hq : (⟨4, ![1, 1, a, b]⟩ : Shape).Squeezes ⟨2, ![a, b]⟩) : Memref sig .tc sp ⟨2, ![a, b]⟩ e :=
  (M.slice (Rect.unit (s := ⟨4, ![p, n, a, b]⟩) off ![1, 1, a, b] h) (fun _ => rfl)).squeeze ⟨2, ![a, b]⟩ hq

def at3 (r : Fin n) (y : (⟨2, ![a, b]⟩ : Shape).Idx) : (⟨3, ![n, a, b]⟩ : Shape).Idx := fun
  | ⟨0, _⟩ => r | ⟨1, _⟩ => y 0 | ⟨2, _⟩ => y 1
def at4 (l : Fin p) (r : Fin n) (y : (⟨2, ![a, b]⟩ : Shape).Idx) : (⟨4, ![p, n, a, b]⟩ : Shape).Idx := fun
  | ⟨0, _⟩ => l | ⟨1, _⟩ => r | ⟨2, _⟩ => y 0 | ⟨3, _⟩ => y 1

/-- An index is its leading coordinates and its place in their slab. -/
def tail3 (i : (⟨3, ![n, a, b]⟩ : Shape).Idx) : (⟨2, ![a, b]⟩ : Shape).Idx := fun | ⟨0, _⟩ => i 1 | ⟨1, _⟩ => i 2
def tail4 (i : (⟨4, ![p, n, a, b]⟩ : Shape).Idx) : (⟨2, ![a, b]⟩ : Shape).Idx := fun | ⟨0, _⟩ => i 2 | ⟨1, _⟩ => i 3
theorem at3_self (i : (⟨3, ![n, a, b]⟩ : Shape).Idx) : at3 (i 0) (tail3 i) = i := by
  funext x; match x with | ⟨0, _⟩ => rfl | ⟨1, _⟩ => rfl | ⟨2, _⟩ => rfl
theorem at4_self (i : (⟨4, ![p, n, a, b]⟩ : Shape).Idx) : at4 (i 0) (i 1) (tail4 i) = i := by
  funext x; match x with | ⟨0, _⟩ => rfl | ⟨1, _⟩ => rfl | ⟨2, _⟩ => rfl | ⟨3, _⟩ => rfl
theorem ext3 {α : Type} {f g : (⟨3, ![n, a, b]⟩ : Shape).Idx → α} (H : ∀ r y, f (at3 r y) = g (at3 r y)) : f = g := funext fun i =>
  (congrArg f (at3_self i)).symm.trans ((H (i 0) (tail3 i)).trans (congrArg g (at3_self i)))
theorem ext4 {α : Type} {f g : (⟨4, ![p, n, a, b]⟩ : Shape).Idx → α} (H : ∀ l r y, f (at4 l r y) = g (at4 l r y)) : f = g := funext fun i =>
  (congrArg f (at4_self i)).symm.trans ((H (i 0) (i 1) (tail4 i)).trans (congrArg g (at4_self i)))

theorem read_cut3 (M : Memref sig .tc sp ⟨3, ![n, a, b]⟩ e) (off h hq) (r : Fin n) (ho : off = ![r.val, 0, 0]) (f : M.view.ty.Contents Val) (y) :
    (cut3 M off h hq).view.read Val f y = M.view.read Val f (at3 r y) := by
  subst ho
  rw [Memref.read_squeeze_slice M _ (fun _ => rfl) hq hq.numel_eq]
  rw [shapeCast_apply _ _ y (fun | ⟨0, _⟩ => ⟨0, Nat.one_pos⟩ | ⟨1, _⟩ => y 0 | ⟨2, _⟩ => y 1) (by
    rw [Shape.rowMajor_val_three, Shape.rowMajor_val_two]
    show (0 * a + (y 0).val) * b + (y 1).val = (y 0).val * b + (y 1).val
    rw [Nat.zero_mul, Nat.zero_add])]
  refine congrArg (M.view.read Val f) (funext fun x => Fin.ext ?_)
  match x with
  | ⟨0, _⟩ => rfl
  | ⟨1, _⟩ => show 0 + 1 * (y 0).val = (y 0).val; omega
  | ⟨2, _⟩ => show 0 + 1 * (y 1).val = (y 1).val; omega

theorem read_cut4 (M : Memref sig .tc sp ⟨4, ![p, n, a, b]⟩ e) (off h hq) (l : Fin p) (r : Fin n) (ho : off = ![l.val, r.val, 0, 0]) (f : M.view.ty.Contents Val) (y) :
    (cut4 M off h hq).view.read Val f y = M.view.read Val f (at4 l r y) := by
  subst ho
  rw [Memref.read_squeeze_slice M _ (fun _ => rfl) hq hq.numel_eq]
  rw [shapeCast_apply _ _ y (fun | ⟨0, _⟩ => ⟨0, Nat.one_pos⟩ | ⟨1, _⟩ => ⟨0, Nat.one_pos⟩ | ⟨2, _⟩ => y 0 | ⟨3, _⟩ => y 1) (by
    rw [Shape.rowMajor_val_four, Shape.rowMajor_val_two]
    show ((0 * 1 + 0) * a + (y 0).val) * b + (y 1).val = (y 0).val * b + (y 1).val
    simp only [Nat.zero_mul, Nat.zero_add])]
  refine congrArg (M.view.read Val f) (funext fun x => Fin.ext ?_)
  match x with
  | ⟨0, _⟩ => rfl
  | ⟨1, _⟩ => rfl
  | ⟨2, _⟩ => show 0 + 1 * (y 0).val = (y 0).val; omega
  | ⟨3, _⟩ => show 0 + 1 * (y 1).val = (y 1).val; omega

theorem set_cut3 (M : Memref sig .tc sp ⟨3, ![n, a, b]⟩ e) (off h hq) :
    (cut3 M off h hq).view.set = (Rect.unit (s := ⟨3, ![n, a, b]⟩) off ![1, a, b] h).set.map M.view.emb :=
  (View.set_reshape _ _).trans (View.set_slice _ _)
theorem set_cut4 (M : Memref sig .tc sp ⟨4, ![p, n, a, b]⟩ e) (off h hq) :
    (cut4 M off h hq).view.set = (Rect.unit (s := ⟨4, ![p, n, a, b]⟩) off ![1, 1, a, b] h).set.map M.view.emb :=
  (View.set_reshape _ _).trans (View.set_slice _ _)

theorem mem_cut3 {off : Fin 3 → ℕ} {h : ∀ x, off x + (![1, a, b] : Fin 3 → ℕ) x ≤ (⟨3, ![n, a, b]⟩ : Shape).size x} {r : ℕ} (ho : off = ![r, 0, 0])
    {i : (⟨3, ![n, a, b]⟩ : Shape).Idx} : i ∈ (Rect.unit (s := ⟨3, ![n, a, b]⟩) off ![1, a, b] h).set ↔ (i 0).val = r := by
  subst ho
  rw [Rect.mem_set_unit]
  have h1 : (i 1).val < a := (i 1).isLt
  have h2 : (i 2).val < b := (i 2).isLt
  refine ⟨fun hh => ?_, fun hh x => ?_⟩
  · have := hh 0
    change r ≤ (i 0).val ∧ (i 0).val < r + 1 at this
    omega
  · match x with
    | ⟨0, _⟩ => show r ≤ (i 0).val ∧ (i 0).val < r + 1; omega
    | ⟨1, _⟩ => show 0 ≤ (i 1).val ∧ (i 1).val < 0 + a; omega
    | ⟨2, _⟩ => show 0 ≤ (i 2).val ∧ (i 2).val < 0 + b; omega
theorem mem_cut4 {off : Fin 4 → ℕ} {h : ∀ x, off x + (![1, 1, a, b] : Fin 4 → ℕ) x ≤ (⟨4, ![p, n, a, b]⟩ : Shape).size x} {l r : ℕ} (ho : off = ![l, r, 0, 0])
    {i : (⟨4, ![p, n, a, b]⟩ : Shape).Idx} : i ∈ (Rect.unit (s := ⟨4, ![p, n, a, b]⟩) off ![1, 1, a, b] h).set ↔ (i 0).val = l ∧ (i 1).val = r := by
  subst ho
  rw [Rect.mem_set_unit]
  have h1 : (i 2).val < a := (i 2).isLt
  have h2 : (i 3).val < b := (i 3).isLt
  refine ⟨fun hh => ?_, fun hh x => ?_⟩
  · have h0 := hh 0
    have h1 := hh 1
    change l ≤ (i 0).val ∧ (i 0).val < l + 1 at h0
    change r ≤ (i 1).val ∧ (i 1).val < r + 1 at h1
    omega
  · match x with
    | ⟨0, _⟩ => show l ≤ (i 0).val ∧ (i 0).val < l + 1; omega
    | ⟨1, _⟩ => show r ≤ (i 1).val ∧ (i 1).val < r + 1; omega
    | ⟨2, _⟩ => show 0 ≤ (i 2).val ∧ (i 2).val < 0 + a; omega
    | ⟨3, _⟩ => show 0 ≤ (i 3).val ∧ (i 3).val < 0 + b; omega

theorem inb_cut3 {off : Fin 3 → ℕ} {r : ℕ} (ho : off = ![r, 0, 0]) (hr : r < n) :
    ∀ x, off x + (![1, a, b] : Fin 3 → ℕ) x ≤ (⟨3, ![n, a, b]⟩ : Shape).size x := by
  subst ho
  intro x
  match x with
  | ⟨0, _⟩ => show r + 1 ≤ n; omega
  | ⟨1, _⟩ => show 0 + a ≤ a; omega
  | ⟨2, _⟩ => show 0 + b ≤ b; omega
theorem inb_cut4 {off : Fin 4 → ℕ} {l r : ℕ} (ho : off = ![l, r, 0, 0]) (hl : l < p) (hr : r < n) :
    ∀ x, off x + (![1, 1, a, b] : Fin 4 → ℕ) x ≤ (⟨4, ![p, n, a, b]⟩ : Shape).size x := by
  subst ho
  intro x
  match x with
  | ⟨0, _⟩ => show l + 1 ≤ p; omega
  | ⟨1, _⟩ => show r + 1 ≤ n; omega
  | ⟨2, _⟩ => show 0 + a ≤ a; omega
  | ⟨3, _⟩ => show 0 + b ≤ b; omega

end Slab

end Exchange
-- ==== Proof.ScatterRun.lean ====
/-
# The chips' exchange of the gradients

Every device cuts each of its sixteen arrays into four slabs, one per chip. It keeps the slab of its own chip and
sends the others to the devices of the other chips that have its place on them; what lands goes to the slab of the
sender's chip in the result. The run is proved once, over any float values.
-/
module

public import proofs.«01_k».proof.Proof.Deal
public import proofs.«01_k».proof.Proof.Slab
public import proofs.«01_k».proof.Proof.Gen.ScatterIdeal.Launch

@[expose] public section

set_option Elab.async false

noncomputable section

namespace Scatter

open Idealize.ShloMosaic Exchange
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ScatterIdeal Cert.ScatterIdeal.Facts₀ Cert.ScatterIdeal.Facts

variable {F : FTy → Type} [FloatOps F]

local notation "𝕄" => MT nD τ sig Unit (Elt F) ℕ (UU sig nD τ) ℕ

/-- A device's chip, and the device at its place on the chip `k` away. -/
def chip (d : Dev nD) : Fin 4 := ⟨d.val / 2, (by decide : ∀ d : Fin 8, d.val / 2 < 4) d⟩
def far (k : Fin 4) (d : Dev nD) : Dev nD := ⟨d.val ^^^ (2 * k.val), (by decide : ∀ (k : Fin 4) (d : Fin 8), d.val ^^^ (2 * k.val) < 8) k d⟩
theorem far_far : ∀ (k : Fin 4) (d : Dev nD), far k (far k d) = d := by decide
theorem far_zero : ∀ d : Dev nD, far 0 d = d := by decide
theorem chip_inj : ∀ (d : Dev nD) (k k' : Fin 4), chip (far k d) = chip (far k' d) → k = k' := by decide
theorem chip_surj : ∀ (d : Dev nD) (r : Fin 4), ∃ k, chip (far k d) = r := by decide

/-- The matrices of the sixteen arrays. -/
def rows (a : Fin 16) : ℕ := match a with
  | ⟨0, _⟩ => 1024
  | ⟨1, _⟩ => 1024
  | ⟨2, _⟩ => 256
  | ⟨3, _⟩ => 256
  | ⟨4, _⟩ => 1024
  | ⟨5, _⟩ => 1024
  | ⟨6, _⟩ => 512
  | ⟨7, _⟩ => 512
  | ⟨8, _⟩ => 1024
  | ⟨9, _⟩ => 1024
  | ⟨10, _⟩ => 1024
  | ⟨11, _⟩ => 1024
  | ⟨12, _⟩ => 1024
  | ⟨13, _⟩ => 1024
  | ⟨14, _⟩ => 1024
  | ⟨_ + 15, _⟩ => 1024
def cols (a : Fin 16) : ℕ := match a with
  | ⟨0, _⟩ => 512
  | ⟨1, _⟩ => 512
  | ⟨2, _⟩ => 1024
  | ⟨3, _⟩ => 1024
  | ⟨4, _⟩ => 1536
  | ⟨5, _⟩ => 1536
  | ⟨6, _⟩ => 1024
  | ⟨7, _⟩ => 1024
  | ⟨8, _⟩ => 1024
  | ⟨9, _⟩ => 1024
  | ⟨10, _⟩ => 1024
  | ⟨11, _⟩ => 1024
  | ⟨12, _⟩ => 1024
  | ⟨13, _⟩ => 1024
  | ⟨14, _⟩ => 1024
  | ⟨_ + 15, _⟩ => 1024
/-- The result an array goes into, how many arrays go there, and its place among them. -/
def deep (a : Fin 16) : ℕ := match a with
  | ⟨0, _⟩ => 2
  | ⟨1, _⟩ => 2
  | ⟨2, _⟩ => 2
  | ⟨3, _⟩ => 2
  | ⟨4, _⟩ => 2
  | ⟨5, _⟩ => 2
  | ⟨6, _⟩ => 2
  | ⟨7, _⟩ => 2
  | ⟨8, _⟩ => 4
  | ⟨9, _⟩ => 4
  | ⟨10, _⟩ => 4
  | ⟨11, _⟩ => 4
  | ⟨12, _⟩ => 4
  | ⟨13, _⟩ => 4
  | ⟨14, _⟩ => 4
  | ⟨_ + 15, _⟩ => 4
def lane (a : Fin 16) : ℕ := match a with
  | ⟨0, _⟩ => 0
  | ⟨1, _⟩ => 1
  | ⟨2, _⟩ => 0
  | ⟨3, _⟩ => 1
  | ⟨4, _⟩ => 0
  | ⟨5, _⟩ => 1
  | ⟨6, _⟩ => 0
  | ⟨7, _⟩ => 1
  | ⟨8, _⟩ => 0
  | ⟨9, _⟩ => 1
  | ⟨10, _⟩ => 2
  | ⟨11, _⟩ => 3
  | ⟨12, _⟩ => 0
  | ⟨13, _⟩ => 1
  | ⟨14, _⟩ => 2
  | ⟨_ + 15, _⟩ => 3
def src (a : Fin 16) : Memref sig .tc .hbm ⟨3, ![4, rows a, cols a]⟩ .f32 := match a with
  | ⟨0, _⟩ => Memref.whole main_arg0
  | ⟨1, _⟩ => Memref.whole main_arg1
  | ⟨2, _⟩ => Memref.whole main_arg2
  | ⟨3, _⟩ => Memref.whole main_arg3
  | ⟨4, _⟩ => Memref.whole main_arg4
  | ⟨5, _⟩ => Memref.whole main_arg5
  | ⟨6, _⟩ => Memref.whole main_arg6
  | ⟨7, _⟩ => Memref.whole main_arg7
  | ⟨8, _⟩ => Memref.whole main_arg8
  | ⟨9, _⟩ => Memref.whole main_arg9
  | ⟨10, _⟩ => Memref.whole main_arg10
  | ⟨11, _⟩ => Memref.whole main_arg11
  | ⟨12, _⟩ => Memref.whole main_arg12
  | ⟨13, _⟩ => Memref.whole main_arg13
  | ⟨14, _⟩ => Memref.whole main_arg14
  | ⟨_ + 15, _⟩ => Memref.whole main_arg15
def out (a : Fin 16) : Memref sig .tc .hbm ⟨4, ![deep a, 4, rows a, cols a]⟩ .f32 := match a with
  | ⟨0, _⟩ => Memref.whole main_v1_0
  | ⟨1, _⟩ => Memref.whole main_v1_0
  | ⟨2, _⟩ => Memref.whole main_v1_1
  | ⟨3, _⟩ => Memref.whole main_v1_1
  | ⟨4, _⟩ => Memref.whole main_v1_2
  | ⟨5, _⟩ => Memref.whole main_v1_2
  | ⟨6, _⟩ => Memref.whole main_v1_3
  | ⟨7, _⟩ => Memref.whole main_v1_3
  | ⟨8, _⟩ => Memref.whole main_v1_4
  | ⟨9, _⟩ => Memref.whole main_v1_4
  | ⟨10, _⟩ => Memref.whole main_v1_4
  | ⟨11, _⟩ => Memref.whole main_v1_4
  | ⟨12, _⟩ => Memref.whole main_v1_5
  | ⟨13, _⟩ => Memref.whole main_v1_5
  | ⟨14, _⟩ => Memref.whole main_v1_5
  | ⟨_ + 15, _⟩ => Memref.whole main_v1_5
/-- Three choices by the copy's place. -/
def three {α : Type} (x y z : α) (k : Fin 3) : α := match k with
  | ⟨0, _⟩ => x
  | ⟨1, _⟩ => y
  | ⟨_ + 2, _⟩ => z
/-- The offsets and devices as the program computes them: of a device's own slab, of its peers' slabs, of the places they land at. -/
def meOff (a : Fin 16) (d : Dev nD) : Fin 3 → ℕ := match a with
  | ⟨0, _⟩ => k0_off2 d
  | ⟨1, _⟩ => k0_off2 d
  | ⟨2, _⟩ => k0_off5 d
  | ⟨3, _⟩ => k0_off5 d
  | ⟨4, _⟩ => k0_off8 d
  | ⟨5, _⟩ => k0_off8 d
  | ⟨6, _⟩ => k0_off11 d
  | ⟨7, _⟩ => k0_off11 d
  | ⟨8, _⟩ => k0_off14 d
  | ⟨9, _⟩ => k0_off14 d
  | ⟨10, _⟩ => k0_off14 d
  | ⟨11, _⟩ => k0_off14 d
  | ⟨12, _⟩ => k0_off14 d
  | ⟨13, _⟩ => k0_off14 d
  | ⟨14, _⟩ => k0_off14 d
  | ⟨_ + 15, _⟩ => k0_off14 d
def toOff (a : Fin 16) (k : Fin 3) (d : Dev nD) : Fin 3 → ℕ := match a with
  | ⟨0, _⟩ => three (k0_off18 d) (k0_off19 d) (k0_off20 d) k
  | ⟨1, _⟩ => three (k0_off18 d) (k0_off19 d) (k0_off20 d) k
  | ⟨2, _⟩ => three (k0_off21 d) (k0_off22 d) (k0_off23 d) k
  | ⟨3, _⟩ => three (k0_off21 d) (k0_off22 d) (k0_off23 d) k
  | ⟨4, _⟩ => three (k0_off24 d) (k0_off25 d) (k0_off26 d) k
  | ⟨5, _⟩ => three (k0_off24 d) (k0_off25 d) (k0_off26 d) k
  | ⟨6, _⟩ => three (k0_off27 d) (k0_off28 d) (k0_off29 d) k
  | ⟨7, _⟩ => three (k0_off27 d) (k0_off28 d) (k0_off29 d) k
  | ⟨8, _⟩ => three (k0_off30 d) (k0_off31 d) (k0_off32 d) k
  | ⟨9, _⟩ => three (k0_off30 d) (k0_off31 d) (k0_off32 d) k
  | ⟨10, _⟩ => three (k0_off30 d) (k0_off31 d) (k0_off32 d) k
  | ⟨11, _⟩ => three (k0_off30 d) (k0_off31 d) (k0_off32 d) k
  | ⟨12, _⟩ => three (k0_off30 d) (k0_off31 d) (k0_off32 d) k
  | ⟨13, _⟩ => three (k0_off30 d) (k0_off31 d) (k0_off32 d) k
  | ⟨14, _⟩ => three (k0_off30 d) (k0_off31 d) (k0_off32 d) k
  | ⟨_ + 15, _⟩ => three (k0_off30 d) (k0_off31 d) (k0_off32 d) k
def putOff (a : Fin 16) (d : Dev nD) : Fin 4 → ℕ := match a with
  | ⟨0, _⟩ => k0_off1 d
  | ⟨1, _⟩ => k0_off3 d
  | ⟨2, _⟩ => k0_off4 d
  | ⟨3, _⟩ => k0_off6 d
  | ⟨4, _⟩ => k0_off7 d
  | ⟨5, _⟩ => k0_off9 d
  | ⟨6, _⟩ => k0_off10 d
  | ⟨7, _⟩ => k0_off12 d
  | ⟨8, _⟩ => k0_off13 d
  | ⟨9, _⟩ => k0_off15 d
  | ⟨10, _⟩ => k0_off16 d
  | ⟨11, _⟩ => k0_off17 d
  | ⟨12, _⟩ => k0_off13 d
  | ⟨13, _⟩ => k0_off15 d
  | ⟨14, _⟩ => k0_off16 d
  | ⟨_ + 15, _⟩ => k0_off17 d
def recOff (a : Fin 16) (k : Fin 3) (d : Dev nD) : Fin 4 → ℕ := match a with
  | ⟨0, _⟩ => three (k0_off33 d) (k0_off34 d) (k0_off35 d) k
  | ⟨1, _⟩ => three (k0_off36 d) (k0_off37 d) (k0_off38 d) k
  | ⟨2, _⟩ => three (k0_off39 d) (k0_off40 d) (k0_off41 d) k
  | ⟨3, _⟩ => three (k0_off42 d) (k0_off43 d) (k0_off44 d) k
  | ⟨4, _⟩ => three (k0_off45 d) (k0_off46 d) (k0_off47 d) k
  | ⟨5, _⟩ => three (k0_off48 d) (k0_off49 d) (k0_off50 d) k
  | ⟨6, _⟩ => three (k0_off51 d) (k0_off52 d) (k0_off53 d) k
  | ⟨7, _⟩ => three (k0_off54 d) (k0_off55 d) (k0_off56 d) k
  | ⟨8, _⟩ => three (k0_off57 d) (k0_off58 d) (k0_off59 d) k
  | ⟨9, _⟩ => three (k0_off60 d) (k0_off61 d) (k0_off62 d) k
  | ⟨10, _⟩ => three (k0_off63 d) (k0_off64 d) (k0_off65 d) k
  | ⟨11, _⟩ => three (k0_off66 d) (k0_off67 d) (k0_off68 d) k
  | ⟨12, _⟩ => three (k0_off57 d) (k0_off58 d) (k0_off59 d) k
  | ⟨13, _⟩ => three (k0_off60 d) (k0_off61 d) (k0_off62 d) k
  | ⟨14, _⟩ => three (k0_off63 d) (k0_off64 d) (k0_off65 d) k
  | ⟨_ + 15, _⟩ => three (k0_off66 d) (k0_off67 d) (k0_off68 d) k
def toDev (a : Fin 16) (k : Fin 3) (d : Dev nD) : Dev nD := match a with
  | ⟨0, _⟩ => three ⟨k0_dev1 d, k0_dev1_lt d⟩ ⟨k0_dev2 d, k0_dev2_lt d⟩ ⟨k0_dev3 d, k0_dev3_lt d⟩ k
  | ⟨1, _⟩ => three ⟨k0_dev4 d, k0_dev4_lt d⟩ ⟨k0_dev5 d, k0_dev5_lt d⟩ ⟨k0_dev6 d, k0_dev6_lt d⟩ k
  | ⟨2, _⟩ => three ⟨k0_dev7 d, k0_dev7_lt d⟩ ⟨k0_dev8 d, k0_dev8_lt d⟩ ⟨k0_dev9 d, k0_dev9_lt d⟩ k
  | ⟨3, _⟩ => three ⟨k0_dev10 d, k0_dev10_lt d⟩ ⟨k0_dev11 d, k0_dev11_lt d⟩ ⟨k0_dev12 d, k0_dev12_lt d⟩ k
  | ⟨4, _⟩ => three ⟨k0_dev13 d, k0_dev13_lt d⟩ ⟨k0_dev14 d, k0_dev14_lt d⟩ ⟨k0_dev15 d, k0_dev15_lt d⟩ k
  | ⟨5, _⟩ => three ⟨k0_dev16 d, k0_dev16_lt d⟩ ⟨k0_dev17 d, k0_dev17_lt d⟩ ⟨k0_dev18 d, k0_dev18_lt d⟩ k
  | ⟨6, _⟩ => three ⟨k0_dev19 d, k0_dev19_lt d⟩ ⟨k0_dev20 d, k0_dev20_lt d⟩ ⟨k0_dev21 d, k0_dev21_lt d⟩ k
  | ⟨7, _⟩ => three ⟨k0_dev22 d, k0_dev22_lt d⟩ ⟨k0_dev23 d, k0_dev23_lt d⟩ ⟨k0_dev24 d, k0_dev24_lt d⟩ k
  | ⟨8, _⟩ => three ⟨k0_dev25 d, k0_dev25_lt d⟩ ⟨k0_dev26 d, k0_dev26_lt d⟩ ⟨k0_dev27 d, k0_dev27_lt d⟩ k
  | ⟨9, _⟩ => three ⟨k0_dev28 d, k0_dev28_lt d⟩ ⟨k0_dev29 d, k0_dev29_lt d⟩ ⟨k0_dev30 d, k0_dev30_lt d⟩ k
  | ⟨10, _⟩ => three ⟨k0_dev31 d, k0_dev31_lt d⟩ ⟨k0_dev32 d, k0_dev32_lt d⟩ ⟨k0_dev33 d, k0_dev33_lt d⟩ k
  | ⟨11, _⟩ => three ⟨k0_dev34 d, k0_dev34_lt d⟩ ⟨k0_dev35 d, k0_dev35_lt d⟩ ⟨k0_dev36 d, k0_dev36_lt d⟩ k
  | ⟨12, _⟩ => three ⟨k0_dev37 d, k0_dev37_lt d⟩ ⟨k0_dev38 d, k0_dev38_lt d⟩ ⟨k0_dev39 d, k0_dev39_lt d⟩ k
  | ⟨13, _⟩ => three ⟨k0_dev40 d, k0_dev40_lt d⟩ ⟨k0_dev41 d, k0_dev41_lt d⟩ ⟨k0_dev42 d, k0_dev42_lt d⟩ k
  | ⟨14, _⟩ => three ⟨k0_dev43 d, k0_dev43_lt d⟩ ⟨k0_dev44 d, k0_dev44_lt d⟩ ⟨k0_dev45 d, k0_dev45_lt d⟩ k
  | ⟨_ + 15, _⟩ => three ⟨k0_dev46 d, k0_dev46_lt d⟩ ⟨k0_dev47 d, k0_dev47_lt d⟩ ⟨k0_dev48 d, k0_dev48_lt d⟩ k

theorem meOff_eq : ∀ a d, meOff a d = ![(chip d).val, 0, 0] := by decide +kernel
theorem toOff_eq : ∀ a k d, toOff a k d = ![(chip (far k.succ d)).val, 0, 0] := by decide +kernel
theorem putOff_eq : ∀ a d, putOff a d = ![lane a, (chip d).val, 0, 0] := by decide +kernel
theorem recOff_eq : ∀ a k d, recOff a k d = ![lane a, (chip (far k.succ d)).val, 0, 0] := by decide +kernel
theorem toDev_eq : ∀ a k d, toDev a k d = far k.succ d := by decide +kernel
theorem lane_lt : ∀ a, lane a < deep a := by decide
theorem sq3 (a : Fin 16) : (⟨3, ![1, rows a, cols a]⟩ : Shape).Squeezes ⟨2, ![rows a, cols a]⟩ := by revert a; decide
theorem sq4 (a : Fin 16) : (⟨4, ![1, 1, rows a, cols a]⟩ : Shape).Squeezes ⟨2, ![rows a, cols a]⟩ := by revert a; decide

abbrev Mat (a : Fin 16) : Shape := ⟨2, ![rows a, cols a]⟩
/-- The slabs of the copies: a device's own, those for its peers, and the places of its own and of its peers' slabs. -/
abbrev meCut (a : Fin 16) (d : Dev nD) : Memref sig .tc .hbm (Mat a) .f32 := cut3 (src a) (meOff a d) (inb_cut3 (meOff_eq a d) (chip d).isLt) (sq3 a)
abbrev toCut (a : Fin 16) (k : Fin 3) (d : Dev nD) : Memref sig .tc .hbm (Mat a) .f32 :=
  cut3 (src a) (toOff a k d) (inb_cut3 (toOff_eq a k d) (chip _).isLt) (sq3 a)
abbrev putCut (a : Fin 16) (d : Dev nD) : Memref sig .tc .hbm (Mat a) .f32 :=
  cut4 (out a) (putOff a d) (inb_cut4 (putOff_eq a d) (lane_lt a) (chip d).isLt) (sq4 a)
abbrev recCut (a : Fin 16) (k : Fin 3) (d : Dev nD) : Memref sig .tc .hbm (Mat a) .f32 :=
  cut4 (out a) (recOff a k d) (inb_cut4 (recOff_eq a k d) (lane_lt a) (chip _).isLt) (sq4 a)

abbrev flight (j : Fin 16 × Fin 3) (d : Dev nD) : Flight sig := ⟨.hbm, .hbm, Mat j.1, .f32, toCut j.1 j.2 d, putCut j.1 d⟩
abbrev own (a : Fin 16) (d : Dev nD) : Flight sig := ⟨.hbm, .hbm, Mat a, .f32, meCut a d, putCut a d⟩

theorem inb_sem (a : Fin 16) (k : Fin 3) : ∀ x, (![a.val, k.val] : Fin 2 → ℕ) x + S1x1.size x ≤ S16x3.size x := by revert a k; decide
theorem inb_sem1 (a : Fin 16) : ∀ x, (![a.val] : Fin 1 → ℕ) x + S1.size x ≤ S16.size x := by revert a; decide
def left (j : Fin 16 × Fin 3) : DmaSem sig :=
  ((cc0_scratch0.slice (Rect.unit (s := S16x3) ![j.1.val, j.2.val] S1x1.size (inb_sem j.1 j.2))).squeeze S_ squeezes_S1x1_S_).sem
def came (j : Fin 16 × Fin 3) : DmaSem sig :=
  ((cc0_scratch1.slice (Rect.unit (s := S16x3) ![j.1.val, j.2.val] S1x1.size (inb_sem j.1 j.2))).squeeze S_ squeezes_S1x1_S_).sem
def made (a : Fin 16) : DmaSem sig :=
  ((cc0_scratch2.slice (Rect.unit (s := S16) ![a.val] S1.size (inb_sem1 a))).squeeze S_ squeezes_S1_S_).sem
theorem left_eq : ∀ j, left j = (⟨3 * j.1.val + j.2.val, by omega⟩ : Fin 112) := by decide +kernel
theorem came_eq : ∀ j, came j = (⟨48 + (3 * j.1.val + j.2.val), by omega⟩ : Fin 112) := by decide +kernel
theorem made_eq : ∀ a, made a = (⟨96 + a.val, by omega⟩ : Fin 112) := by decide +kernel

/-- The units a slab brings. -/
def unit (a : Fin 16) : ℕ := (meCut a 0).view.dmaCredit
theorem unit_toCut (a k d) : (toCut a k d).view.dmaCredit = unit a := by fin_cases a <;> rfl
theorem unit_putCut (a d) : (putCut a d).view.dmaCredit = unit a := by fin_cases a <;> rfl
theorem unit_recCut (a k d) : (recCut a k d).view.dmaCredit = unit a := by fin_cases a <;> rfl
theorem unit_pos (a) : 0 < unit a := by fin_cases a <;> exact View.dmaCredit_pos _ (by decide)

abbrev plan : Plan nD sig (Fin 16 × Fin 3) (Fin 16) where
  peer j := far j.2.succ
  back j := far_far j.2.succ
  out := flight
  own := own
  sS j := .dma (left j)
  rS j := .dma (came j)
  lS a := .dma (made a)
  N j := unit j.1
  M a := unit a
  amt j c := unit_putCut j.1 c
  amtOwn a c := unit_putCut a c
  pos j := unit_pos j.1
  posOwn a := unit_pos a
  q _ := fullShare
  qOwn _ := fullShare

theorem ownSems : Pipeline.OwnSemFacts cfg0.spec plan.sem := by
  have hl (j) : plan.sem (.inl j) = .dma (⟨3 * j.1.val + j.2.val, by omega⟩ : Fin 112) := congrArg SemLoc.dma (left_eq j)
  have hc (j) : plan.sem (.inr (.inl j)) = .dma (⟨48 + (3 * j.1.val + j.2.val), by omega⟩ : Fin 112) := congrArg SemLoc.dma (came_eq j)
  have hm (a) : plan.sem (.inr (.inr a)) = .dma (⟨96 + a.val, by omega⟩ : Fin 112) := congrArg SemLoc.dma (made_eq a)
  have hj (j j' : Fin 16 × Fin 3) (h : 3 * j.1.val + j.2.val = 3 * j'.1.val + j'.2.val) : j = j' := by
    refine Prod.ext (Fin.ext ?_) (Fin.ext ?_) <;> omega
  have hs : ∀ x : Fin 112, (SemLoc.dma x : SemLoc sig).isScoped .tc = true := by decide
  refine ⟨?_, ?_, fun k w => w.elim0⟩
  · rintro (j | j | i)
    · rw [hl]; exact hs _
    · rw [hc]; exact hs _
    · rw [hm]; exact hs _
  · rintro (j | j | i) (j' | j' | i') e
    all_goals (first | rw [hl] at e | rw [hc] at e | rw [hm] at e); (first | rw [hl] at e | rw [hc] at e | rw [hm] at e)
    all_goals (injection e with e; have e' := congrArg Fin.val e; dsimp only at e')
    · exact congrArg _ (hj _ _ e')
    · omega
    · omega
    · omega
    · exact congrArg (fun j => Sum.inr (Sum.inl j)) (hj _ _ (by omega))
    · omega
    · omega
    · omega
    · exact congrArg (fun j => Sum.inr (Sum.inr j)) (Fin.ext (by omega))

theorem notScratch (a d) : (putCut a d).view.ref.isScScratch = false := by fin_cases a <;> rfl
theorem exact3 (a : Fin 16) (off h) : (cut3 (src a) off h (sq3 a)).view.WordExact := (View.wordExact_bits rfl).reshape _ _
theorem exact4 (a : Fin 16) (off h) : (cut4 (out a) off h (sq4 a)).view.WordExact := (View.wordExact_bits rfl).reshape _ _
theorem typed (j : Fin 16 × Fin 3) (d n : Dev nD) : DmaTarget.Typed (nD := nD) (τ := τ) (p := .tc) Space.hbm (.dma (came j))
    (.remote (n.tc : Thread nD τ) (putCut j.1 d) (.dma (left j)) (notScratch j.1 d)) := ⟨⟨rfl, Or.inl rfl⟩, trivial⟩

/-- The operations of the body. -/
def copyOp (d : Dev nD) (a : Fin 16) : TpuEff nD τ sig (Elt F) Λ₀ .tc PUnit :=
  .enqueueDma (meCut a d) (.here (putCut a d)) (.dma (made a)) (exact3 a _ _) (exact4 a _ _) ⟨Or.inl rfl, trivial⟩
def sendOp (d : Dev nD) (j : Fin 16 × Fin 3) : TpuEff nD τ sig (Elt F) Λ₀ .tc PUnit :=
  .enqueueDma (toCut j.1 j.2 d) (.remote ((toDev j.1 j.2 d).tc : Thread nD τ) (putCut j.1 d) (.dma (left j)) (notScratch j.1 d)) (.dma (came j))
    (exact3 _ _ _) (exact4 _ _ _) (typed j d _)
def cameOp (d : Dev nD) (j : Fin 16 × Fin 3) : TpuEff nD τ sig (Elt F) Λ₀ .tc PUnit :=
  .waitDma2 (came j) (toCut j.1 j.2 d) (recCut j.1 j.2 d) (exact3 _ _ _) (exact4 _ _ _)
def leftOp (d : Dev nD) (j : Fin 16 × Fin 3) : TpuEff nD τ sig (Elt F) Λ₀ .tc PUnit :=
  .waitDma2 (left j) (putCut j.1 d) (toCut j.1 j.2 d) (exact4 _ _ _) (exact3 _ _ _)
def madeOp (d : Dev nD) (a : Fin 16) : TpuEff nD τ sig (Elt F) Λ₀ .tc PUnit :=
  .waitDma2 (made a) (meCut a d) (putCut a d) (exact3 _ _ _) (exact4 _ _ _)

def every : List (Fin 16) := [0, 1, 2, 3, 4, 5, 6, 7, 8, 9, 10, 11, 12, 13, 14, 15]
def all : List (Fin 16 × Fin 3) := [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2), (8, 0), (8, 1), (8, 2), (9, 0), (9, 1), (9, 2), (10, 0), (10, 1), (10, 2), (11, 0), (11, 1), (11, 2), (12, 0), (12, 1), (12, 2), (13, 0), (13, 1), (13, 2), (14, 0), (14, 1), (14, 2), (15, 0), (15, 1), (15, 2)]

theorem body_eq (t : Fin cfg0.N) (s) : (defs₀ (F := F)) .tc 0 (t, s)
    = .op .deviceId fun d => wholeBody every all (copyOp d) (sendOp d) (cameOp d) (leftOp d) (madeOp d) := by
  chain_rfl

/-! ## The arrays of a device -/

def inRef (a : Fin 16) : Ref sig .tc := ⟨.hbm, ⟨a.val, by show a.val < 22; omega⟩, rfl⟩
def outRef (g : Fin 6) : Ref sig .tc := ⟨.hbm, ⟨16 + g.val, by show 16 + g.val < 22; omega⟩, rfl⟩
def refOf : Fin 16 ⊕ Fin 6 ↪ Ref sig .tc := ⟨Sum.elim inRef outRef, by decide⟩
theorem refs_eq : (Finset.univ.filter fun b : Ref sig .tc => ¬ b.isScoped) = Finset.univ.map refOf := by decide

theorem whole_eq (r : Ref sig .tc) (c : Dev nD) (f : Buf (Elt F) ((c.tc : Thread nD τ).loc r)) :
    ((Memref.whole r).view.loc (c.tc : Thread nD τ) ↦[(Memref.whole r).view.set]{fullShare} f : sProp 𝕄) = ((c.tc : Thread nD τ).loc r ↦{fullShare} f) := by
  show (_ ↦[(View.whole r).set]{fullShare} f : sProp 𝕄) = _
  rw [View.set_whole]

variable (m : (ℓ : Loc nD τ sig) → Buf (Elt F) ℓ)

/-- What a device holds of an array's four slabs: its own chip's and its peers'. -/
theorem in_split (a : Fin 16) (c : Dev nD) :
    ((c.tc : Thread nD τ).loc (inRef a) ↦{fullShare} m ((c.tc : Thread nD τ).loc (inRef a)) : sProp 𝕄)
      = iprop(plan.ownSrc m a c ∗ bigSep Finset.univ fun k : Fin 3 => plan.srcPt m (a, k) c) := by
  have hw : ((c.tc : Thread nD τ).loc (inRef a) ↦{fullShare} m ((c.tc : Thread nD τ).loc (inRef a)) : sProp 𝕄)
      = ((src a).view.loc (c.tc : Thread nD τ) ↦[(src a).view.set]{fullShare} m ((src a).view.loc (c.tc : Thread nD τ))) := by
    fin_cases a <;> exact (whole_eq _ c _).symm
  let K : Fin 4 → Finset (⟨3, ![4, rows a, cols a]⟩ : Shape).Idx := Fin.cases
    (Rect.unit (s := ⟨3, ![4, rows a, cols a]⟩) (meOff a c) ![1, rows a, cols a] (inb_cut3 (meOff_eq a c) (chip c).isLt)).set
    (fun k => (Rect.unit (s := ⟨3, ![4, rows a, cols a]⟩) (toOff a k c) ![1, rows a, cols a] (inb_cut3 (toOff_eq a k c) (chip _).isLt)).set)
  have hK : ∀ k i, i ∈ K k ↔ (i 0).val = (chip (far k c)).val := by
    intro k i
    refine Fin.cases ?_ (fun k => ?_) k
    · rw [far_zero]; exact mem_cut3 (meOff_eq a c)
    · exact mem_cut3 (toOff_eq a k c)
  rw [hw, split_view (src a).view c K
    (fun t t' h => Finset.disjoint_left.2 fun i hi hi' => h (chip_inj c t t' (Fin.ext (((hK t i).1 hi).symm.trans ((hK t' i).1 hi')))))
    (fun i => (chip_surj c ⟨(i 0).val, (i 0).isLt⟩).imp fun k hk => (hK k i).2 (congrArg Fin.val hk).symm), bigSep_first]
  have h0 : ((src a).view.loc (c.tc : Thread nD τ) ↦[(K 0).map (src a).view.emb]{fullShare} m ((src a).view.loc (c.tc : Thread nD τ)) : sProp 𝕄) = plan.ownSrc m a c :=
    congrArg (fun S : Finset (Idx ((src a).view.loc (c.tc : Thread nD τ))) => ((src a).view.loc (c.tc : Thread nD τ) ↦[S]{fullShare} m ((src a).view.loc (c.tc : Thread nD τ)) : sProp 𝕄))
      (set_cut3 (src a) (meOff a c) _ (sq3 a)).symm
  have hk (k : Fin 3) : ((src a).view.loc (c.tc : Thread nD τ) ↦[(K k.succ).map (src a).view.emb]{fullShare} m ((src a).view.loc (c.tc : Thread nD τ)) : sProp 𝕄) = plan.srcPt m (a, k) c :=
    congrArg (fun S : Finset (Idx ((src a).view.loc (c.tc : Thread nD τ))) => ((src a).view.loc (c.tc : Thread nD τ) ↦[S]{fullShare} m ((src a).view.loc (c.tc : Thread nD τ)) : sProp 𝕄))
      (set_cut3 (src a) (toOff a k c) _ (sq3 a)).symm
  rw [h0, bigSep_congr fun k _ => hk k]

/-- The places of an array in its result. -/
def laneSet {p n a b : ℕ} (l : ℕ) : Finset (⟨4, ![p, n, a, b]⟩ : Shape).Idx := Finset.univ.filter fun i => (i 0).val = l
theorem mem_laneSet {p n a b : ℕ} {l : ℕ} {i : (⟨4, ![p, n, a, b]⟩ : Shape).Idx} : i ∈ laneSet l ↔ (i 0).val = l := by
  unfold laneSet; rw [Finset.mem_filter]; exact and_iff_right (Finset.mem_univ i)
def lanePt (a : Fin 16) (c : Dev nD) : sProp 𝕄 :=
  (out a).view.loc (c.tc : Thread nD τ) ↦[(laneSet (lane a)).map (out a).view.emb]{fullShare} m ((out a).view.loc (c.tc : Thread nD τ))

theorem lane_split (a : Fin 16) (c : Dev nD) :
    (lanePt m a c : sProp 𝕄) = iprop(plan.ownDst m a c ∗ bigSep Finset.univ fun k : Fin 3 => plan.dstPt m (a, k) (far k.succ c) c) := by
  let K : Fin 4 → Finset (⟨4, ![deep a, 4, rows a, cols a]⟩ : Shape).Idx := fun k =>
    (Rect.unit (s := ⟨4, ![deep a, 4, rows a, cols a]⟩) (putOff a (far k c)) ![1, 1, rows a, cols a] (inb_cut4 (putOff_eq a (far k c)) (lane_lt a) (chip _).isLt)).set
  have hK : ∀ k i, i ∈ K k ↔ (i 0).val = lane a ∧ (i 1).val = (chip (far k c)).val := fun k i => mem_cut4 (putOff_eq a (far k c))
  unfold lanePt
  rw [split_set (out a).view c (laneSet (lane a)) K
    (fun t t' h => Finset.disjoint_left.2 fun i hi hi' => h (chip_inj c t t' (Fin.ext (((hK t i).1 hi).2.symm.trans ((hK t' i).1 hi').2))))
    (fun i => mem_laneSet.trans ⟨fun hl => (chip_surj c ⟨(i 1).val, (i 1).isLt⟩).imp fun k hk => (hK k i).2 ⟨hl, (congrArg Fin.val hk).symm⟩,
      fun ⟨k, hk⟩ => ((hK k i).1 hk).1⟩), bigSep_first]
  have hk (k : Fin 4) : ((out a).view.loc (c.tc : Thread nD τ) ↦[(K k).map (out a).view.emb]{fullShare} m ((out a).view.loc (c.tc : Thread nD τ)) : sProp 𝕄)
      = ((putCut a (far k c)).view.loc (c.tc : Thread nD τ) ↦[(putCut a (far k c)).view.set]{fullShare} m ((putCut a (far k c)).view.loc (c.tc : Thread nD τ))) :=
    congrArg (fun S : Finset (Idx ((out a).view.loc (c.tc : Thread nD τ))) => ((out a).view.loc (c.tc : Thread nD τ) ↦[S]{fullShare} m ((out a).view.loc (c.tc : Thread nD τ)) : sProp 𝕄))
      (set_cut4 (out a) (putOff a (far k c)) _ (sq4 a)).symm
  rw [hk 0, bigSep_congr fun k _ => hk (Fin.succ k), far_zero]
  rfl

/-- The lanes of a result. -/
theorem lanes {p n a b : ℕ} (M : Memref sig .tc .hbm ⟨4, ![p, n, a, b]⟩ .f32) (c : Dev nD) (f : Buf (Elt F) (M.view.loc (c.tc : Thread nD τ))) :
    (M.view.loc (c.tc : Thread nD τ) ↦[M.view.set]{fullShare} f : sProp 𝕄)
      = bigSep Finset.univ fun l : Fin p => M.view.loc (c.tc : Thread nD τ) ↦[(laneSet l.val).map M.view.emb]{fullShare} f :=
  split_view M.view c (fun l : Fin p => laneSet l.val)
    (fun t t' h => Finset.disjoint_left.2 fun i hi hi' => h (Fin.ext ((mem_laneSet.1 hi).symm.trans (mem_laneSet.1 hi'))))
    (fun i => ⟨⟨(i 0).val, (i 0).isLt⟩, mem_laneSet.2 rfl⟩) fullShare f

/-- The result an array goes into. -/
def grp (a : Fin 16) : Fin 6 := match a with
  | ⟨0, _⟩ => 0 | ⟨1, _⟩ => 0 | ⟨2, _⟩ => 1 | ⟨3, _⟩ => 1 | ⟨4, _⟩ => 2 | ⟨5, _⟩ => 2 | ⟨6, _⟩ => 3 | ⟨7, _⟩ => 3
  | ⟨8, _⟩ => 4 | ⟨9, _⟩ => 4 | ⟨10, _⟩ => 4 | ⟨11, _⟩ => 4 | ⟨_ + 12, _⟩ => 5
def pair (x : Fin 16) (h : x.val < 15) : Fin 2 ↪ Fin 16 := ⟨fun l => ⟨x.val + l.val, by omega⟩, fun l l' e => by have := congrArg Fin.val e; dsimp only at this; omega⟩
def four (x : Fin 16) (h : x.val < 13) : Fin 4 ↪ Fin 16 := ⟨fun l => ⟨x.val + l.val, by omega⟩, fun l l' e => by have := congrArg Fin.val e; dsimp only at this; omega⟩

theorem lanes_of {n : ℕ} (e : Fin n ↪ Fin 16) (g : Fin 6) (h : (Finset.univ.filter fun a => grp a = g) = Finset.univ.map e) (c : Dev nD) :
    (bigSep (Finset.univ.filter fun a => grp a = g) fun a => lanePt m a c : sProp 𝕄) = bigSep Finset.univ fun l => lanePt m (e l) c := by
  rw [h, bigSep_map]
theorem group_split (g : Fin 6) (c : Dev nD) :
    ((c.tc : Thread nD τ).loc (outRef g) ↦{fullShare} m ((c.tc : Thread nD τ).loc (outRef g)) : sProp 𝕄)
      = bigSep (Finset.univ.filter fun a => grp a = g) fun a => lanePt m a c := by
  fin_cases g
  · refine ((whole_eq _ c _).symm.trans (lanes (Memref.whole main_v1_0) c _)).trans (Eq.trans ?_ (lanes_of m (pair 0 (by decide)) 0 (by decide) c).symm)
    exact bigSep_congr fun l _ => by fin_cases l <;> rfl
  · refine ((whole_eq _ c _).symm.trans (lanes (Memref.whole main_v1_1) c _)).trans (Eq.trans ?_ (lanes_of m (pair 2 (by decide)) 1 (by decide) c).symm)
    exact bigSep_congr fun l _ => by fin_cases l <;> rfl
  · refine ((whole_eq _ c _).symm.trans (lanes (Memref.whole main_v1_2) c _)).trans (Eq.trans ?_ (lanes_of m (pair 4 (by decide)) 2 (by decide) c).symm)
    exact bigSep_congr fun l _ => by fin_cases l <;> rfl
  · refine ((whole_eq _ c _).symm.trans (lanes (Memref.whole main_v1_3) c _)).trans (Eq.trans ?_ (lanes_of m (pair 6 (by decide)) 3 (by decide) c).symm)
    exact bigSep_congr fun l _ => by fin_cases l <;> rfl
  · refine ((whole_eq _ c _).symm.trans (lanes (Memref.whole main_v1_4) c _)).trans (Eq.trans ?_ (lanes_of m (four 8 (by decide)) 4 (by decide) c).symm)
    exact bigSep_congr fun l _ => by fin_cases l <;> rfl
  · refine ((whole_eq _ c _).symm.trans (lanes (Memref.whole main_v1_5) c _)).trans (Eq.trans ?_ (lanes_of m (four 12 (by decide)) 5 (by decide) c).symm)
    exact bigSep_congr fun l _ => by fin_cases l <;> rfl

theorem deal_out (A B C D : sProp 𝕄) : iprop((A ∗ B) ∗ C ∗ D) ⊢ iprop(B ∗ D ∗ A ∗ C) := by
  iintro ⟨⟨H1, H2⟩, H3, H4⟩
  isplitl [H2]; · iexact H2
  isplitl [H4]; · iexact H4
  isplitl [H1]; · iexact H1
  iexact H3

theorem split (c : Dev nD) :
    (unscopedBufs c (fun b => m ((c.tc : Thread nD τ).loc b)) : sProp 𝕄)
      ⊢ iprop((bigSep Finset.univ fun j => plan.srcPt m j c) ∗ (bigSep Finset.univ fun j => plan.dstPt m j (plan.peer j c) c)
        ∗ bigSep Finset.univ fun i => iprop(plan.ownSrc m i c ∗ plan.ownDst m i c)) := by
  have hout : (bigSep Finset.univ fun g => ((c.tc : Thread nD τ).loc (outRef g) ↦{fullShare} m ((c.tc : Thread nD τ).loc (outRef g)) : sProp 𝕄))
      ⊢ bigSep Finset.univ fun a => iprop(plan.ownDst m a c ∗ bigSep Finset.univ fun k : Fin 3 => plan.dstPt m (a, k) (far k.succ c) c) := by
    rw [bigSep_congr fun g _ => group_split m g c, ← bigSep_congr fun a _ => lane_split m a c]
    have h := bigSep_biUnion (Finset.univ : Finset (Fin 6)) (fun g => Finset.univ.filter fun a => grp a = g) (Φ := fun a => lanePt m a c)
    rwa [show (Finset.univ.biUnion fun g => Finset.univ.filter fun a => grp a = g) = Finset.univ by decide] at h
  unfold unscopedBufs
  rw [refs_eq, bigSep_map, bigSep_univ_sum]
  show iprop((bigSep Finset.univ fun a => ((c.tc : Thread nD τ).loc (inRef a) ↦{fullShare} m ((c.tc : Thread nD τ).loc (inRef a)) : sProp 𝕄))
    ∗ bigSep Finset.univ fun g => ((c.tc : Thread nD τ).loc (outRef g) ↦{fullShare} m ((c.tc : Thread nD τ).loc (outRef g)) : sProp 𝕄)) ⊢ _
  refine BI.Entails.trans (BI.sep_mono (BI.Entails.refl _) hout) ?_
  rw [bigSep_congr fun a _ => in_split m a c, bigSep_sep', bigSep_sep', bigSep_sep', bigSep_univ_prod, bigSep_univ_prod]
  exact deal_out _ _ _ _

/-! ## The run -/

theorem runs (g : Dev nD → PrngReg) :
    θ_run (defs (F := F)) (onTc (main (F := F))) ⟨m, fun _ => 0, g⟩ (fun r => (∀ c, plan.After m c r.2) ∧ r.2.sem = fun _ => 0) := by
  have : ∀ q : Fin 1, IsEmpty (Fin (cfgs q).W) := fun _ => (inferInstance : IsEmpty (Fin 0))
  refine (θ_run _ _ _).mono (fun r h => ⟨h.1, sem_eq_zero_of_scoped (by decide) h.2⟩)
    (plan.runs m cfgs 0 defs₀ Gen.cellOf_inj Gen.winFacts0.to₀ ownSems Gen.scopedRest0_eq Gen.N_0 g main (fun _ => rfl)
      (fun _ _ => Topo.routes_tc _ _) every (by decide) (by decide) all (by decide) (by decide) copyOp sendOp cameOp leftOp madeOp
      (fun c t Q => ?_) (fun c a => ⟨exact3 a _ _, exact4 a _ _, ⟨Or.inl rfl, trivial⟩, rfl⟩)
      (fun c j => ⟨toDev j.1 j.2 c, toDev_eq j.1 j.2 c, notScratch j.1 c, exact3 _ _ _, exact4 _ _ _, typed j c _, rfl⟩)
      (fun c j K => ?_) (fun c j K => ?_) (fun c a K => ?_) (split m))
  · rw [show (defs₀ (F := F)) .tc (cfgs 0).body ((cfgs 0).bodyArgs t ((cfgs 0).slots t)) = _ from body_eq t _]
  · show waitSpec _ _ (.dma (came j)) (recCut j.1 j.2 c).view.dmaCredit K = _
    rw [unit_recCut]; rfl
  · show waitSpec _ _ (.dma (left j)) (toCut j.1 j.2 c).view.dmaCredit K = _
    rw [unit_toCut]; rfl
  · show waitSpec _ _ (.dma (made a)) (putCut a c).view.dmaCredit K = _
    rw [unit_putCut]; rfl

end Scatter
-- ==== Proof.ScatterClaims.lean ====
/-
# The chips' exchange against transposing chips and slabs

The reference reads the whole arrays as chips, siblings and slabs, exchanges chips with slabs, and stacks the arrays
of a result. Block by block that is what the exchange leaves.
-/
module

public import proofs.«01_k».proof.Defs
public import proofs.«01_k».proof.Proof.ScatterRun
public import proofs.«01_k».proof.Proof.Gen.Scatter
public import proofs.«01_k».proof.Proof.Gen.ScatterReferenceIdeal.Run

@[expose] public section

set_option Elab.async false

noncomputable section

namespace Scatter

open Idealize.ShloMosaic Exchange
open Idealize.ShloMosaic.TcCoe
open Idealize.SL.Sem

/-! ## What the exchange leaves -/

section Lands

open Cert.ScatterIdeal

variable {F : FTy → Type} [FloatOps F] {m : (ℓ : Loc nD τ sig) → Buf (Elt F) ℓ} {c : Dev nD} {s : MemSt nD τ sig (Elt F)}

/-- The device at the place of `c` on chip `r`. -/
def on (r : Fin 4) (c : Dev nD) : Dev nD := ⟨2 * r.val + c.val % 2, (by decide : ∀ (r : Fin 4) (c : Fin 8), 2 * r.val + c.val % 2 < 8) r c⟩
theorem far_on : ∀ (k : Fin 4) (c : Dev nD), far k c = on (chip (far k c)) c := by decide

/-- Slab `r` of a result is the device's slab of the array on chip `r`. -/
theorem lands (h : plan.After m c s) (a : Fin 16) (r : Fin 4) (y : (Mat a).Idx) :
    (out a).view.read (Elt F) (s.mem ((out a).view.loc (c.tc : Thread nD τ))) (at4 ⟨lane a, lane_lt a⟩ r y)
      = (src a).view.read (Elt F) (m ((src a).view.loc ((on r c).tc : Thread nD τ))) (at3 (chip c) y) := by
  obtain ⟨k, rfl⟩ := chip_surj c r
  rw [← far_on]
  refine Fin.cases ?_ (fun k => ?_) k
  · rw [far_zero]
    exact (read_cut4 (out a) (putOff a c) _ (sq4 a) ⟨lane a, lane_lt a⟩ (chip c) (putOff_eq a c) _ y).symm.trans
      ((congrFun (h.ownGot a) y).trans (read_cut3 (src a) (meOff a c) _ (sq3 a) (chip c) (meOff_eq a c) _ y))
  · exact (read_cut4 (out a) (putOff a (far k.succ c)) _ (sq4 a) ⟨lane a, lane_lt a⟩ (chip (far k.succ c)) (putOff_eq a _) _ y).symm.trans
      ((congrFun (h.got (a, k)) y).trans (read_cut3 (src a) (toOff a k (far k.succ c)) _ (sq3 a) (chip c)
        ((toOff_eq a k _).trans (by rw [far_far])) _ y))

theorem kept_all (h : plan.After m c s) (a : Fin 16) :
    (src a).view.read (Elt F) (s.mem ((src a).view.loc (c.tc : Thread nD τ))) = (src a).view.read (Elt F) (m ((src a).view.loc (c.tc : Thread nD τ))) := by
  refine ext3 fun r y => ?_
  obtain ⟨k, rfl⟩ := chip_surj c r
  refine Fin.cases ?_ (fun k => ?_) k
  · rw [far_zero]
    exact (read_cut3 (src a) (meOff a c) _ (sq3 a) (chip c) (meOff_eq a c) _ y).symm.trans
      ((congrFun (h.ownKept a) y).trans (read_cut3 (src a) (meOff a c) _ (sq3 a) (chip c) (meOff_eq a c) _ y))
  · exact (read_cut3 (src a) (toOff a k c) _ (sq3 a) (chip (far k.succ c)) (toOff_eq a k c) _ y).symm.trans
      ((congrFun (h.kept (a, k)) y).trans (read_cut3 (src a) (toOff a k c) _ (sq3 a) (chip (far k.succ c)) (toOff_eq a k c) _ y))

end Lands

/-! ## What the reference computes -/

section Turn

variable {α : Type} {a b : ℕ}

/-- A row of a block is a row of the whole. -/
theorem block_at3 (x : (⟨3, ![32, a, b]⟩ : Shape).Idx → α) (hT : Layout.Tiles ⟨3, ![4, a, b]⟩ ⟨3, ![32, a, b]⟩ 0 8) (c : Fin 8) (r : Fin 4) (y) :
    Layout.block ⟨3, ![4, a, b]⟩ ⟨3, ![32, a, b]⟩ 0 8 c x hT (at3 r y) = x (at3 ⟨c.val * 4 + r.val, by omega⟩ y) := by
  rw [Layout.block_apply]
  refine congrArg x (funext fun p => Fin.ext ?_)
  fin_cases p <;> rfl
theorem block_at4 {p : ℕ} (x : (⟨4, ![p, 32, a, b]⟩ : Shape).Idx → α) (hT : Layout.Tiles ⟨4, ![p, 4, a, b]⟩ ⟨4, ![p, 32, a, b]⟩ 1 8) (c : Fin 8) (l : Fin p) (r : Fin 4) (y) :
    Layout.block ⟨4, ![p, 4, a, b]⟩ ⟨4, ![p, 32, a, b]⟩ 1 8 c x hT (at4 l r y) = x (at4 l ⟨c.val * 4 + r.val, by omega⟩ y) := by
  rw [Layout.block_apply]
  refine congrArg x (funext fun p => Fin.ext ?_)
  fin_cases p <;> rfl

def at5 (i : Fin 4) (j : Fin 2) (k : Fin 4) (y : (⟨2, ![a, b]⟩ : Shape).Idx) : (⟨5, ![4, 2, 4, a, b]⟩ : Shape).Idx := fun
  | ⟨0, _⟩ => i | ⟨1, _⟩ => j | ⟨2, _⟩ => k | ⟨3, _⟩ => y 0 | ⟨4, _⟩ => y 1

theorem at5_at3 (c : Fin 8) (k : Fin 4) (y : (⟨2, ![a, b]⟩ : Shape).Idx) :
    ((⟨5, ![4, 2, 4, a, b]⟩ : Shape).rowMajor (at5 ⟨c.val / 2, by omega⟩ ⟨c.val % 2, by omega⟩ k y)).val
      = ((⟨3, ![32, a, b]⟩ : Shape).rowMajor (at3 ⟨c.val * 4 + k.val, by omega⟩ y)).val := by
  rw [Shape.rowMajor_val_five, Shape.rowMajor_val_three]
  show (((c.val / 2 * 2 + c.val % 2) * 4 + k.val) * a + (y 0).val) * b + (y 1).val = ((c.val * 4 + k.val) * a + (y 0).val) * b + (y 1).val
  rw [Nat.div_add_mod']

/-- An array with chips and slabs exchanged, as one of a stack. -/
abbrev layer (x : (⟨3, ![32, a, b]⟩ : Shape).Idx → α) (h1 : (⟨3, ![32, a, b]⟩ : Shape).ShapeCasts ⟨5, ![4, 2, 4, a, b]⟩)
    (ht : (⟨5, ![4, 2, 4, a, b]⟩ : Shape).Transposes [2, 1, 0, 3, 4] ⟨5, ![4, 2, 4, a, b]⟩)
    (h2 : (⟨5, ![4, 2, 4, a, b]⟩ : Shape).ShapeCasts ⟨3, ![32, a, b]⟩)
    (hb : (⟨3, ![32, a, b]⟩ : Shape).BroadcastsInDim ⟨4, ![1, 32, a, b]⟩ ![1, 2, 3]) : (⟨4, ![1, 32, a, b]⟩ : Shape).Idx → α :=
  broadcastInDim ⟨4, ![1, 32, a, b]⟩ ![1, 2, 3] hb (shapeCast ⟨3, ![32, a, b]⟩ (transpose ⟨5, ![4, 2, 4, a, b]⟩ [2, 1, 0, 3, 4] (shapeCast ⟨5, ![4, 2, 4, a, b]⟩ x h1) ht) h2)

theorem row_lt : ∀ (r : Fin 4) (c : Fin 8), (on r c).val * 4 + (chip c).val < 32 := by decide
theorem layer_apply (x : (⟨3, ![32, a, b]⟩ : Shape).Idx → α) (h1 ht h2 hb) (c : Fin 8) (r : Fin 4) (y) :
    layer x h1 ht h2 hb (at4 0 ⟨c.val * 4 + r.val, by omega⟩ y) = x (at3 ⟨(on r c).val * 4 + (chip c).val, row_lt r c⟩ y) := by
  unfold layer
  have h0 : (y 0).val < a := (y 0).isLt
  have h1' : (y 1).val < b := (y 1).isLt
  rw [broadcastInDim_apply _ hb _ _ (at3 ⟨c.val * 4 + r.val, by omega⟩ y) (by
    intro p
    match p with
    | ⟨0, _⟩ => rfl
    | ⟨1, _⟩ => show (y 0).val = if a = 1 then 0 else (y 0).val; split <;> omega
    | ⟨2, _⟩ => show (y 1).val = if b = 1 then 0 else (y 1).val; split <;> omega)]
  rw [shapeCast_apply _ h2 _ _ (at5_at3 c r y), transpose_apply _ _ ht _ (at5 r ⟨c.val % 2, by omega⟩ ⟨c.val / 2, by omega⟩ y) (by
    intro p; fin_cases p <;> rfl)]
  refine shapeCast_apply x h1 _ _ ((at5_at3 (on r c) (chip c) y).symm.trans (congrArg (fun j => (Shape.rowMajor _ j).val) ?_))
  funext p
  match p with
  | ⟨0, _⟩ => exact Fin.ext ((by decide : ∀ (r : Fin 4) (c : Fin 8), (on r c).val / 2 = r.val) r c)
  | ⟨1, _⟩ => exact Fin.ext ((by decide : ∀ (r : Fin 4) (c : Fin 8), (on r c).val % 2 = c.val % 2) r c)
  | ⟨2, _⟩ => rfl
  | ⟨3, _⟩ => rfl
  | ⟨4, _⟩ => rfl

/-- A stack read in layer `l`. -/
theorem stack_apply {p : ℕ} (xs : List ((s : Shape) × (s.Idx → α))) (h : Shape.Concatenates (xs.map (·.1)) ⟨4, ![p, 32, a, b]⟩ 0)
    (l : Fin p) (hl : l.val < xs.length) (x : (⟨4, ![1, 32, a, b]⟩ : Shape).Idx → α) (hx : xs[l.val] = ⟨⟨4, ![1, 32, a, b]⟩, x⟩)
    (hpre : (((xs.take l.val).map (·.1)).map fun s => if h : s.rank = 4 then s.size ((0 : Fin 4).cast h.symm) else 0).sum = l.val) (R : Fin 32) (y) :
    concatenate ⟨4, ![p, 32, a, b]⟩ 0 xs h (at4 l R y) = x (at4 0 R y) :=
  concatenate_apply_piece 0 xs h (at4 l R y) l.val hl _ x hx rfl l.val hpre (at4 0 R y)
    (fun q hq => by
      match q with
      | ⟨0, _⟩ => exact absurd rfl hq
      | ⟨1, _⟩ => rfl
      | ⟨2, _⟩ => rfl
      | ⟨3, _⟩ => rfl)
    rfl

/-- A block of a stack of exchanged arrays, from its slabs. -/
theorem pair_block (f : (⟨4, ![2, 4, a, b]⟩ : Shape).Idx → α) (x0 x1 : (⟨3, ![32, a, b]⟩ : Shape).Idx → α) (h1 ht h2 hb h hT hS) (c : Fin 8)
    (H0 : ∀ r y, f (at4 0 r y) = Layout.block ⟨3, ![4, a, b]⟩ ⟨3, ![32, a, b]⟩ 0 8 (on r c) x0 hS (at3 (chip c) y))
    (H1 : ∀ r y, f (at4 1 r y) = Layout.block ⟨3, ![4, a, b]⟩ ⟨3, ![32, a, b]⟩ 0 8 (on r c) x1 hS (at3 (chip c) y)) :
    f = Layout.block ⟨4, ![2, 4, a, b]⟩ ⟨4, ![2, 32, a, b]⟩ 1 8 c
      (concatenate ⟨4, ![2, 32, a, b]⟩ 0 [⟨⟨4, ![1, 32, a, b]⟩, layer x0 h1 ht h2 hb⟩, ⟨⟨4, ![1, 32, a, b]⟩, layer x1 h1 ht h2 hb⟩] h) hT := by
  refine ext4 fun l r y => ?_
  rw [block_at4]
  fin_cases l
  · exact ((H0 r y).trans (block_at3 _ _ _ _ _)).trans ((stack_apply _ h 0 (by simp) _ rfl rfl _ y).trans (layer_apply x0 _ _ _ _ c r y)).symm
  · exact ((H1 r y).trans (block_at3 _ _ _ _ _)).trans ((stack_apply _ h 1 (by simp) _ rfl rfl _ y).trans (layer_apply x1 _ _ _ _ c r y)).symm

theorem four_block (f : (⟨4, ![4, 4, a, b]⟩ : Shape).Idx → α) (x0 x1 x2 x3 : (⟨3, ![32, a, b]⟩ : Shape).Idx → α) (h1 ht h2 hb h hT hS) (c : Fin 8)
    (H0 : ∀ r y, f (at4 0 r y) = Layout.block ⟨3, ![4, a, b]⟩ ⟨3, ![32, a, b]⟩ 0 8 (on r c) x0 hS (at3 (chip c) y))
    (H1 : ∀ r y, f (at4 1 r y) = Layout.block ⟨3, ![4, a, b]⟩ ⟨3, ![32, a, b]⟩ 0 8 (on r c) x1 hS (at3 (chip c) y))
    (H2 : ∀ r y, f (at4 2 r y) = Layout.block ⟨3, ![4, a, b]⟩ ⟨3, ![32, a, b]⟩ 0 8 (on r c) x2 hS (at3 (chip c) y))
    (H3 : ∀ r y, f (at4 3 r y) = Layout.block ⟨3, ![4, a, b]⟩ ⟨3, ![32, a, b]⟩ 0 8 (on r c) x3 hS (at3 (chip c) y)) :
    f = Layout.block ⟨4, ![4, 4, a, b]⟩ ⟨4, ![4, 32, a, b]⟩ 1 8 c
      (concatenate ⟨4, ![4, 32, a, b]⟩ 0 [⟨⟨4, ![1, 32, a, b]⟩, layer x0 h1 ht h2 hb⟩, ⟨⟨4, ![1, 32, a, b]⟩, layer x1 h1 ht h2 hb⟩,
        ⟨⟨4, ![1, 32, a, b]⟩, layer x2 h1 ht h2 hb⟩, ⟨⟨4, ![1, 32, a, b]⟩, layer x3 h1 ht h2 hb⟩] h) hT := by
  refine ext4 fun l r y => ?_
  rw [block_at4]
  fin_cases l
  · exact ((H0 r y).trans (block_at3 _ _ _ _ _)).trans ((stack_apply _ h 0 (by simp) _ rfl rfl _ y).trans (layer_apply x0 _ _ _ _ c r y)).symm
  · exact ((H1 r y).trans (block_at3 _ _ _ _ _)).trans ((stack_apply _ h 1 (by simp) _ rfl rfl _ y).trans (layer_apply x1 _ _ _ _ c r y)).symm
  · exact ((H2 r y).trans (block_at3 _ _ _ _ _)).trans ((stack_apply _ h 2 (by simp) _ rfl rfl _ y).trans (layer_apply x2 _ _ _ _ c r y)).symm
  · exact ((H3 r y).trans (block_at3 _ _ _ _ _)).trans ((stack_apply _ h 3 (by simp) _ rfl rfl _ y).trans (layer_apply x3 _ _ _ _ c r y)).symm

end Turn

/-! ## The claims -/

theorem frameP : Cert.quiescent_Scatter := fun m g _ =>
  (θ_run Cert.ScatterIdeal.defs _ _).mono (fun r h => ⟨fun c => by have k := kept_all (h.1 c); exact ⟨k 0, k 1, k 2, k 3, k 4, k 5, k 6, k 7, k 8, k 9, k 10, k 11, k 12, k 13, k 14, k 15⟩, h.2⟩) (runs (F := Bits) m g)
theorem framePI : Cert.quiescent_ScatterIdeal := fun m g _ =>
  (θ_run Cert.ScatterIdeal.defs _ _).mono (fun r h => ⟨fun c => by have k := kept_all (h.1 c); exact ⟨k 0, k 1, k 2, k 3, k 4, k 5, k 6, k 7, k 8, k 9, k 10, k 11, k 12, k 13, k 14, k 15⟩, h.2⟩) (runs (F := Ideal) m g)
theorem frameRI : Cert.quiescent_ScatterReferenceIdeal := fun m g _ =>
  (θ_run Cert.ScatterReferenceIdeal.defs _ _).mono (fun r h => ⟨fun c => (h c).2.2.2.2.2.2, sem_eq_zero_of_no_sems (by decide) r.2⟩)
    (Cert.ScatterReferenceIdeal.Value.run (F := Ideal) m g)

theorem value : Cert.algebraic_ScatterIdeal_ScatterReferenceIdeal := by
  intro m g m' g' _ hagree
  refine ⟨_, _, _, _, _, _, (θ_run Cert.ScatterIdeal.defs _ _).mono (fun r h c => ?_) (runs (F := Ideal) m g),
    (θ_run Cert.ScatterReferenceIdeal.defs _ _).mono (fun _ h => h 0) (Cert.ScatterReferenceIdeal.Value.run (F := Ideal) m' g')⟩
  have k := kept_all (h.1 c)
  have l := lands (h.1 c)
  exact ⟨pair_block _ _ _ _ _ _ _ _ _ _ c (fun r y => (l 0 r y).trans (congrFun (hagree (on r c)).1 _)) (fun r y => (l 1 r y).trans (congrFun (hagree (on r c)).2.1 _)),
    pair_block _ _ _ _ _ _ _ _ _ _ c (fun r y => (l 2 r y).trans (congrFun (hagree (on r c)).2.2.1 _)) (fun r y => (l 3 r y).trans (congrFun (hagree (on r c)).2.2.2.1 _)),
    pair_block _ _ _ _ _ _ _ _ _ _ c (fun r y => (l 4 r y).trans (congrFun (hagree (on r c)).2.2.2.2.1 _)) (fun r y => (l 5 r y).trans (congrFun (hagree (on r c)).2.2.2.2.2.1 _)),
    pair_block _ _ _ _ _ _ _ _ _ _ c (fun r y => (l 6 r y).trans (congrFun (hagree (on r c)).2.2.2.2.2.2.1 _)) (fun r y => (l 7 r y).trans (congrFun (hagree (on r c)).2.2.2.2.2.2.2.1 _)),
    four_block _ _ _ _ _ _ _ _ _ _ _ _ c (fun r y => (l 8 r y).trans (congrFun (hagree (on r c)).2.2.2.2.2.2.2.2.1 _)) (fun r y => (l 9 r y).trans (congrFun (hagree (on r c)).2.2.2.2.2.2.2.2.2.1 _)) (fun r y => (l 10 r y).trans (congrFun (hagree (on r c)).2.2.2.2.2.2.2.2.2.2.1 _)) (fun r y => (l 11 r y).trans (congrFun (hagree (on r c)).2.2.2.2.2.2.2.2.2.2.2.1 _)),
    four_block _ _ _ _ _ _ _ _ _ _ _ _ c (fun r y => (l 12 r y).trans (congrFun (hagree (on r c)).2.2.2.2.2.2.2.2.2.2.2.2.1 _)) (fun r y => (l 13 r y).trans (congrFun (hagree (on r c)).2.2.2.2.2.2.2.2.2.2.2.2.2.1 _)) (fun r y => (l 14 r y).trans (congrFun (hagree (on r c)).2.2.2.2.2.2.2.2.2.2.2.2.2.2.1 _)) (fun r y => (l 15 r y).trans (congrFun (hagree (on r c)).2.2.2.2.2.2.2.2.2.2.2.2.2.2.2 _)),
    k 0, k 1, k 2, k 3, k 4, k 5, k 6, k 7, k 8, k 9, k 10, k 11, k 12, k 13, k 14, k 15⟩

end Scatter
-- ==== Proof.Lead.lean ====
/-
# An array as the slabs along its first axis, of any rank

A slab of a memref along its first axis, that axis dropped, reads the memref at the slab's place, and an index
is its place along that axis and its place in the slab.
-/
module

public import proofs.«01_k».proof.Proof.Slab

@[expose] public section

set_option Elab.async false

noncomputable section

namespace Exchange

open Idealize.ShloMosaic
open Idealize.ShloMosaic.TcCoe

variable {sig : RefSig} {Val : EltTy → Type} {sp : Space} {n : ℕ} {s : Shape} {e : EltTy}

/-- `n` arrays of a shape, along a new first axis. -/
abbrev Lead (n : ℕ) (s : Shape) : Shape := ⟨s.rank + 1, Matrix.vecCons n s.size⟩
/-- The offsets of slab `r`. -/
abbrev lead (s : Shape) (r : ℕ) : Fin (s.rank + 1) → ℕ := Matrix.vecCons r fun _ => 0
abbrev cutL (M : Memref sig .tc sp (Lead n s) e) (off : Fin (s.rank + 1) → ℕ) (h : ∀ x, off x + (Lead 1 s).size x ≤ (Lead n s).size x)
    (hq : (Lead 1 s).Squeezes s) : Memref sig .tc sp s e :=
  (M.slice (Rect.unit (s := Lead n s) off (Lead 1 s).size h) (fun _ => rfl)).squeeze s hq
def atL (r : Fin n) (y : s.Idx) : (Lead n s).Idx := Fin.cons r y
def tailL (i : (Lead n s).Idx) : s.Idx := fun x => i x.succ
theorem atL_self (i : (Lead n s).Idx) : atL (i 0) (tailL i) = i := by
  funext x; exact Fin.cases rfl (fun x => rfl) x
theorem extL {α : Type} {f g : (Lead n s).Idx → α} (H : ∀ r y, f (atL r y) = g (atL r y)) : f = g := funext fun i =>
  (congrArg f (atL_self i)).symm.trans ((H (i 0) (tailL i)).trans (congrArg g (atL_self i)))

/-- A place in row-major order, the first axis apart. -/
theorem rowMajor_atL (r : Fin n) (y : s.Idx) : ((Lead n s).rowMajor (atL r y)).val = r.val * s.numel + (s.rowMajor y).val :=
  Shape.rowMajor_val_succ _

theorem read_cutL (M : Memref sig .tc sp (Lead n s) e) (off h hq) (r : Fin n) (ho : off = lead s r.val) (f : M.view.ty.Contents Val) (y) :
    (cutL M off h hq).view.read Val f y = M.view.read Val f (atL r y) := by
  subst ho
  rw [Memref.read_squeeze_slice M _ (fun _ => rfl) hq hq.numel_eq]
  rw [shapeCast_apply _ _ y (atL (0 : Fin 1) y) (by rw [rowMajor_atL]; show 0 * _ + _ = _; rw [Nat.zero_mul, Nat.zero_add])]
  refine congrArg (M.view.read Val f) (funext fun x => Fin.ext ?_)
  refine Fin.cases ?_ (fun x => ?_) x
  · rfl
  · show 0 + 1 * (y x).val = (y x).val; omega

theorem set_cutL (M : Memref sig .tc sp (Lead n s) e) (off h hq) :
    (cutL M off h hq).view.set = (Rect.unit (s := Lead n s) off (Lead 1 s).size h).set.map M.view.emb :=
  (View.set_reshape _ _).trans (View.set_slice _ _)

theorem mem_cutL {off : Fin (s.rank + 1) → ℕ} {h : ∀ x, off x + (Lead 1 s).size x ≤ (Lead n s).size x} {r : ℕ} (ho : off = lead s r)
    {i : (Lead n s).Idx} : i ∈ (Rect.unit (s := Lead n s) off (Lead 1 s).size h).set ↔ (i 0).val = r := by
  subst ho
  rw [Rect.mem_set_unit]
  refine ⟨fun hh => ?_, fun hh x => ?_⟩
  · have := hh 0
    change r ≤ (i 0).val ∧ (i 0).val < r + 1 at this
    omega
  · refine Fin.cases ?_ (fun x => ?_) x
    · show r ≤ (i 0).val ∧ (i 0).val < r + 1; omega
    · have h1 : (i x.succ).val < s.size x := (i x.succ).isLt
      show 0 ≤ (i x.succ).val ∧ (i x.succ).val < 0 + s.size x; omega

theorem inb_cutL {off : Fin (s.rank + 1) → ℕ} {r : ℕ} (ho : off = lead s r) (hr : r < n) :
    ∀ x, off x + (Lead 1 s).size x ≤ (Lead n s).size x := by
  subst ho
  refine fun x => Fin.cases ?_ (fun x => ?_) x
  · show r + 1 ≤ n; omega
  · show 0 + s.size x ≤ s.size x; omega

/-- A slab along the first of at least three axes holds whole words. -/
theorem exact_cutL (M : Memref sig .tc .hbm (Lead n s) e) (hM : M.IsWhole) (hs : 2 ≤ s.rank) (off h hq) (r : ℕ) (ho : off = lead s r) :
    (cutL M off h hq).view.WordExact := by
  subst ho
  have hx : (Lead n s).rowAx (Nat.le_succ_of_le hs) = Fin.succ (⟨s.rank - 2, by omega⟩ : Fin s.rank) := Fin.ext (by
    show s.rank + 1 - 2 = s.rank - 2 + 1; omega)
  refine (hM.wordExact_slice rfl _ (.inr ⟨Nat.le_succ_of_le hs, rfl, ?_, ?_⟩)).reshape _ _
  · rw [hx]; rfl
  · rw [hx]; rfl

end Exchange
-- ==== Proof.GatherRun.lean ====
/-
# The chips' gathering of the weights

Every device holds nineteen slabs of weights. It copies each into its own chip's place of the result and sends it
whole to the same place on the devices of the other chips that have its place on them. Four copies read a slab at
once, so each holds it at a share of its own. The run is proved once, over any float values.
-/
module

public import proofs.«01_k».proof.Proof.Deal
public import proofs.«01_k».proof.Proof.Lead
public import proofs.«01_k».proof.Proof.Gen.GatherIdeal.Launch
public import Idealize.ShloMosaic.Lib.SparseCore.Stream

@[expose] public section

set_option Elab.async false

noncomputable section

namespace Gather

open Idealize.ShloMosaic Exchange
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.GatherIdeal Cert.GatherIdeal.Facts₀ Cert.GatherIdeal.Facts

variable {F : FTy → Type} [FloatOps F]

local notation "𝕄" => MT nD τ sig Unit (Elt F) ℕ (UU sig nD τ) ℕ

/-- A device's chip, and the device at its place on the chip `k` away. -/
def chip (d : Dev nD) : Fin 4 := ⟨d.val / 2, (by decide : ∀ d : Fin 8, d.val / 2 < 4) d⟩
def far (k : Fin 4) (d : Dev nD) : Dev nD := ⟨d.val ^^^ (2 * k.val), (by decide : ∀ (k : Fin 4) (d : Fin 8), d.val ^^^ (2 * k.val) < 8) k d⟩
theorem far_far : ∀ (k : Fin 4) (d : Dev nD), far k (far k d) = d := by decide
theorem far_zero : ∀ d : Dev nD, far 0 d = d := by decide
theorem chip_inj : ∀ (d : Dev nD) (k k' : Fin 4), chip (far k d) = chip (far k' d) → k = k' := by decide
theorem chip_surj : ∀ (d : Dev nD) (r : Fin 4), ∃ k, chip (far k d) = r := by decide

/-- The shapes and element types of the nineteen weights on a device. -/
def shp (a : Fin 19) : Shape := match a with
  | ⟨0, _⟩ => ⟨2, ![1024, 512]⟩
  | ⟨1, _⟩ => ⟨2, ![1024, 512]⟩
  | ⟨2, _⟩ => ⟨2, ![256, 1024]⟩
  | ⟨3, _⟩ => ⟨2, ![256, 1024]⟩
  | ⟨4, _⟩ => ⟨2, ![1024, 1536]⟩
  | ⟨5, _⟩ => ⟨2, ![1024, 1536]⟩
  | ⟨6, _⟩ => ⟨2, ![512, 1024]⟩
  | ⟨7, _⟩ => ⟨2, ![512, 1024]⟩
  | ⟨8, _⟩ => ⟨2, ![1024, 1024]⟩
  | ⟨9, _⟩ => ⟨2, ![1024, 1024]⟩
  | ⟨10, _⟩ => ⟨2, ![1024, 1024]⟩
  | ⟨11, _⟩ => ⟨2, ![1024, 1024]⟩
  | ⟨12, _⟩ => ⟨2, ![1024, 1024]⟩
  | ⟨13, _⟩ => ⟨2, ![1024, 1024]⟩
  | ⟨14, _⟩ => ⟨2, ![1024, 1024]⟩
  | ⟨15, _⟩ => ⟨2, ![1024, 1024]⟩
  | ⟨16, _⟩ => ⟨3, ![2, 31, 256]⟩
  | ⟨17, _⟩ => ⟨3, ![2, 4, 128]⟩
  | ⟨_ + 18, _⟩ => ⟨3, ![2, 4, 128]⟩
def ety (a : Fin 19) : EltTy := match a with
  | ⟨0, _⟩ => .bf16
  | ⟨1, _⟩ => .bf16
  | ⟨2, _⟩ => .bf16
  | ⟨3, _⟩ => .bf16
  | ⟨4, _⟩ => .bf16
  | ⟨5, _⟩ => .bf16
  | ⟨6, _⟩ => .bf16
  | ⟨7, _⟩ => .bf16
  | ⟨8, _⟩ => .bf16
  | ⟨9, _⟩ => .bf16
  | ⟨10, _⟩ => .bf16
  | ⟨11, _⟩ => .bf16
  | ⟨12, _⟩ => .bf16
  | ⟨13, _⟩ => .bf16
  | ⟨14, _⟩ => .bf16
  | ⟨15, _⟩ => .bf16
  | ⟨16, _⟩ => .f32
  | ⟨17, _⟩ => .f32
  | ⟨_ + 18, _⟩ => .f32
def src (a : Fin 19) : Memref sig .tc .hbm (shp a) (ety a) := match a with
  | ⟨0, _⟩ => Memref.whole main_arg0
  | ⟨1, _⟩ => Memref.whole main_arg1
  | ⟨2, _⟩ => Memref.whole main_arg2
  | ⟨3, _⟩ => Memref.whole main_arg3
  | ⟨4, _⟩ => Memref.whole main_arg4
  | ⟨5, _⟩ => Memref.whole main_arg5
  | ⟨6, _⟩ => Memref.whole main_arg6
  | ⟨7, _⟩ => Memref.whole main_arg7
  | ⟨8, _⟩ => Memref.whole main_arg8
  | ⟨9, _⟩ => Memref.whole main_arg9
  | ⟨10, _⟩ => Memref.whole main_arg10
  | ⟨11, _⟩ => Memref.whole main_arg11
  | ⟨12, _⟩ => Memref.whole main_arg12
  | ⟨13, _⟩ => Memref.whole main_arg13
  | ⟨14, _⟩ => Memref.whole main_arg14
  | ⟨15, _⟩ => Memref.whole main_arg15
  | ⟨16, _⟩ => Memref.whole main_arg16
  | ⟨17, _⟩ => Memref.whole main_arg17
  | ⟨_ + 18, _⟩ => Memref.whole main_arg18
def out (a : Fin 19) : Memref sig .tc .hbm (Lead 4 (shp a)) (ety a) := match a with
  | ⟨0, _⟩ => Memref.whole main_v1_0
  | ⟨1, _⟩ => Memref.whole main_v1_1
  | ⟨2, _⟩ => Memref.whole main_v1_2
  | ⟨3, _⟩ => Memref.whole main_v1_3
  | ⟨4, _⟩ => Memref.whole main_v1_4
  | ⟨5, _⟩ => Memref.whole main_v1_5
  | ⟨6, _⟩ => Memref.whole main_v1_6
  | ⟨7, _⟩ => Memref.whole main_v1_7
  | ⟨8, _⟩ => Memref.whole main_v1_8
  | ⟨9, _⟩ => Memref.whole main_v1_9
  | ⟨10, _⟩ => Memref.whole main_v1_10
  | ⟨11, _⟩ => Memref.whole main_v1_11
  | ⟨12, _⟩ => Memref.whole main_v1_12
  | ⟨13, _⟩ => Memref.whole main_v1_13
  | ⟨14, _⟩ => Memref.whole main_v1_14
  | ⟨15, _⟩ => Memref.whole main_v1_15
  | ⟨16, _⟩ => Memref.whole main_v1_16
  | ⟨17, _⟩ => Memref.whole main_v1_17
  | ⟨_ + 18, _⟩ => Memref.whole main_v1_18
/-- Three choices by the copy's place. -/
def three {α : Type} (x y z : α) (k : Fin 3) : α := match k with
  | ⟨0, _⟩ => x
  | ⟨1, _⟩ => y
  | ⟨_ + 2, _⟩ => z
/-- The offsets and devices as the program computes them: of a device's own place, of its peers' places, and its peers. -/
def putOff (a : Fin 19) (d : Dev nD) : Fin ((shp a).rank + 1) → ℕ := match a with
  | ⟨0, _⟩ => k0_off1 d
  | ⟨1, _⟩ => k0_off1 d
  | ⟨2, _⟩ => k0_off2 d
  | ⟨3, _⟩ => k0_off2 d
  | ⟨4, _⟩ => k0_off3 d
  | ⟨5, _⟩ => k0_off3 d
  | ⟨6, _⟩ => k0_off4 d
  | ⟨7, _⟩ => k0_off4 d
  | ⟨8, _⟩ => k0_off5 d
  | ⟨9, _⟩ => k0_off5 d
  | ⟨10, _⟩ => k0_off5 d
  | ⟨11, _⟩ => k0_off5 d
  | ⟨12, _⟩ => k0_off5 d
  | ⟨13, _⟩ => k0_off5 d
  | ⟨14, _⟩ => k0_off5 d
  | ⟨15, _⟩ => k0_off5 d
  | ⟨16, _⟩ => k0_off6 d
  | ⟨17, _⟩ => k0_off7 d
  | ⟨_ + 18, _⟩ => k0_off7 d
def recOff (a : Fin 19) (k : Fin 3) (d : Dev nD) : Fin ((shp a).rank + 1) → ℕ := match a with
  | ⟨0, _⟩ => three (k0_off8 d) (k0_off9 d) (k0_off10 d) k
  | ⟨1, _⟩ => three (k0_off8 d) (k0_off9 d) (k0_off10 d) k
  | ⟨2, _⟩ => three (k0_off11 d) (k0_off12 d) (k0_off13 d) k
  | ⟨3, _⟩ => three (k0_off11 d) (k0_off12 d) (k0_off13 d) k
  | ⟨4, _⟩ => three (k0_off14 d) (k0_off15 d) (k0_off16 d) k
  | ⟨5, _⟩ => three (k0_off14 d) (k0_off15 d) (k0_off16 d) k
  | ⟨6, _⟩ => three (k0_off17 d) (k0_off18 d) (k0_off19 d) k
  | ⟨7, _⟩ => three (k0_off17 d) (k0_off18 d) (k0_off19 d) k
  | ⟨8, _⟩ => three (k0_off20 d) (k0_off21 d) (k0_off22 d) k
  | ⟨9, _⟩ => three (k0_off20 d) (k0_off21 d) (k0_off22 d) k
  | ⟨10, _⟩ => three (k0_off20 d) (k0_off21 d) (k0_off22 d) k
  | ⟨11, _⟩ => three (k0_off20 d) (k0_off21 d) (k0_off22 d) k
  | ⟨12, _⟩ => three (k0_off20 d) (k0_off21 d) (k0_off22 d) k
  | ⟨13, _⟩ => three (k0_off20 d) (k0_off21 d) (k0_off22 d) k
  | ⟨14, _⟩ => three (k0_off20 d) (k0_off21 d) (k0_off22 d) k
  | ⟨15, _⟩ => three (k0_off20 d) (k0_off21 d) (k0_off22 d) k
  | ⟨16, _⟩ => three (k0_off23 d) (k0_off24 d) (k0_off25 d) k
  | ⟨17, _⟩ => three (k0_off26 d) (k0_off27 d) (k0_off28 d) k
  | ⟨_ + 18, _⟩ => three (k0_off26 d) (k0_off27 d) (k0_off28 d) k
def toDev (a : Fin 19) (k : Fin 3) (d : Dev nD) : Dev nD := match a with
  | ⟨0, _⟩ => three ⟨k0_dev1 d, k0_dev1_lt d⟩ ⟨k0_dev2 d, k0_dev2_lt d⟩ ⟨k0_dev3 d, k0_dev3_lt d⟩ k
  | ⟨1, _⟩ => three ⟨k0_dev4 d, k0_dev4_lt d⟩ ⟨k0_dev5 d, k0_dev5_lt d⟩ ⟨k0_dev6 d, k0_dev6_lt d⟩ k
  | ⟨2, _⟩ => three ⟨k0_dev7 d, k0_dev7_lt d⟩ ⟨k0_dev8 d, k0_dev8_lt d⟩ ⟨k0_dev9 d, k0_dev9_lt d⟩ k
  | ⟨3, _⟩ => three ⟨k0_dev10 d, k0_dev10_lt d⟩ ⟨k0_dev11 d, k0_dev11_lt d⟩ ⟨k0_dev12 d, k0_dev12_lt d⟩ k
  | ⟨4, _⟩ => three ⟨k0_dev13 d, k0_dev13_lt d⟩ ⟨k0_dev14 d, k0_dev14_lt d⟩ ⟨k0_dev15 d, k0_dev15_lt d⟩ k
  | ⟨5, _⟩ => three ⟨k0_dev16 d, k0_dev16_lt d⟩ ⟨k0_dev17 d, k0_dev17_lt d⟩ ⟨k0_dev18 d, k0_dev18_lt d⟩ k
  | ⟨6, _⟩ => three ⟨k0_dev19 d, k0_dev19_lt d⟩ ⟨k0_dev20 d, k0_dev20_lt d⟩ ⟨k0_dev21 d, k0_dev21_lt d⟩ k
  | ⟨7, _⟩ => three ⟨k0_dev22 d, k0_dev22_lt d⟩ ⟨k0_dev23 d, k0_dev23_lt d⟩ ⟨k0_dev24 d, k0_dev24_lt d⟩ k
  | ⟨8, _⟩ => three ⟨k0_dev25 d, k0_dev25_lt d⟩ ⟨k0_dev26 d, k0_dev26_lt d⟩ ⟨k0_dev27 d, k0_dev27_lt d⟩ k
  | ⟨9, _⟩ => three ⟨k0_dev28 d, k0_dev28_lt d⟩ ⟨k0_dev29 d, k0_dev29_lt d⟩ ⟨k0_dev30 d, k0_dev30_lt d⟩ k
  | ⟨10, _⟩ => three ⟨k0_dev31 d, k0_dev31_lt d⟩ ⟨k0_dev32 d, k0_dev32_lt d⟩ ⟨k0_dev33 d, k0_dev33_lt d⟩ k
  | ⟨11, _⟩ => three ⟨k0_dev34 d, k0_dev34_lt d⟩ ⟨k0_dev35 d, k0_dev35_lt d⟩ ⟨k0_dev36 d, k0_dev36_lt d⟩ k
  | ⟨12, _⟩ => three ⟨k0_dev37 d, k0_dev37_lt d⟩ ⟨k0_dev38 d, k0_dev38_lt d⟩ ⟨k0_dev39 d, k0_dev39_lt d⟩ k
  | ⟨13, _⟩ => three ⟨k0_dev40 d, k0_dev40_lt d⟩ ⟨k0_dev41 d, k0_dev41_lt d⟩ ⟨k0_dev42 d, k0_dev42_lt d⟩ k
  | ⟨14, _⟩ => three ⟨k0_dev43 d, k0_dev43_lt d⟩ ⟨k0_dev44 d, k0_dev44_lt d⟩ ⟨k0_dev45 d, k0_dev45_lt d⟩ k
  | ⟨15, _⟩ => three ⟨k0_dev46 d, k0_dev46_lt d⟩ ⟨k0_dev47 d, k0_dev47_lt d⟩ ⟨k0_dev48 d, k0_dev48_lt d⟩ k
  | ⟨16, _⟩ => three ⟨k0_dev49 d, k0_dev49_lt d⟩ ⟨k0_dev50 d, k0_dev50_lt d⟩ ⟨k0_dev51 d, k0_dev51_lt d⟩ k
  | ⟨17, _⟩ => three ⟨k0_dev52 d, k0_dev52_lt d⟩ ⟨k0_dev53 d, k0_dev53_lt d⟩ ⟨k0_dev54 d, k0_dev54_lt d⟩ k
  | ⟨_ + 18, _⟩ => three ⟨k0_dev55 d, k0_dev55_lt d⟩ ⟨k0_dev56 d, k0_dev56_lt d⟩ ⟨k0_dev57 d, k0_dev57_lt d⟩ k

theorem putOff_eq : ∀ a d, putOff a d = lead (shp a) (chip d).val := by decide +kernel
theorem recOff_eq : ∀ a k d, recOff a k d = lead (shp a) (chip (far k.succ d)).val := by decide +kernel
theorem toDev_eq : ∀ a k d, toDev a k d = far k.succ d := by decide +kernel
theorem sqL (a : Fin 19) : (Lead 1 (shp a)).Squeezes (shp a) := by revert a; decide
theorem two_axes : ∀ a, 2 ≤ (shp a).rank := by decide

/-- The places of the copies in the results: of a device's own slabs and of its peers'. -/
abbrev putCut (a : Fin 19) (d : Dev nD) : Memref sig .tc .hbm (shp a) (ety a) :=
  cutL (out a) (putOff a d) (inb_cutL (putOff_eq a d) (chip d).isLt) (sqL a)
abbrev recCut (a : Fin 19) (k : Fin 3) (d : Dev nD) : Memref sig .tc .hbm (shp a) (ety a) :=
  cutL (out a) (recOff a k d) (inb_cutL (recOff_eq a k d) (chip _).isLt) (sqL a)

abbrev flight (j : Fin 19 × Fin 3) (d : Dev nD) : Flight sig := ⟨.hbm, .hbm, shp j.1, ety j.1, src j.1, putCut j.1 d⟩
abbrev own (a : Fin 19) (d : Dev nD) : Flight sig := ⟨.hbm, .hbm, shp a, ety a, src a, putCut a d⟩

theorem inb_sem (a : Fin 19) (k : Fin 3) : ∀ x, (![a.val, k.val] : Fin 2 → ℕ) x + S1x1.size x ≤ S19x3.size x := by revert a k; decide
theorem inb_sem1 (a : Fin 19) : ∀ x, (![a.val] : Fin 1 → ℕ) x + S1.size x ≤ S19.size x := by revert a; decide
def left (j : Fin 19 × Fin 3) : DmaSem sig :=
  ((cc0_scratch0.slice (Rect.unit (s := S19x3) ![j.1.val, j.2.val] S1x1.size (inb_sem j.1 j.2))).squeeze S_ squeezes_S1x1_S_).sem
def came (j : Fin 19 × Fin 3) : DmaSem sig :=
  ((cc0_scratch1.slice (Rect.unit (s := S19x3) ![j.1.val, j.2.val] S1x1.size (inb_sem j.1 j.2))).squeeze S_ squeezes_S1x1_S_).sem
def made (a : Fin 19) : DmaSem sig :=
  ((cc0_scratch2.slice (Rect.unit (s := S19) ![a.val] S1.size (inb_sem1 a))).squeeze S_ squeezes_S1_S_).sem
theorem left_eq : ∀ j, left j = (⟨3 * j.1.val + j.2.val, by omega⟩ : Fin 133) := by decide +kernel
theorem came_eq : ∀ j, came j = (⟨57 + (3 * j.1.val + j.2.val), by omega⟩ : Fin 133) := by decide +kernel
theorem made_eq : ∀ a, made a = (⟨114 + a.val, by omega⟩ : Fin 133) := by decide +kernel

/-- The units a slab brings. -/
def unit (a : Fin 19) : ℕ := (src a).view.dmaCredit
theorem unit_putCut (a d) : (putCut a d).view.dmaCredit = unit a := by fin_cases a <;> rfl
theorem unit_recCut (a k d) : (recCut a k d).view.dmaCredit = unit a := by fin_cases a <;> rfl
theorem unit_pos (a) : 0 < unit a := by fin_cases a <;> exact View.dmaCredit_pos _ (by decide)

/-- The shares of the four copies of a slab. -/
abbrev part (k : Fin 4) : PosShare TreeShare := piece fullShare 3 k

abbrev plan : Plan nD sig (Fin 19 × Fin 3) (Fin 19) where
  peer j := far j.2.succ
  back j := far_far j.2.succ
  out := flight
  own := own
  sS j := .dma (left j)
  rS j := .dma (came j)
  lS a := .dma (made a)
  N j := unit j.1
  M a := unit a
  amt j c := unit_putCut j.1 c
  amtOwn a c := unit_putCut a c
  pos j := unit_pos j.1
  posOwn a := unit_pos a
  q j := part j.2.succ
  qOwn _ := part 0

theorem ownSems : Pipeline.OwnSemFacts cfg0.spec plan.sem := by
  have hl (j) : plan.sem (.inl j) = .dma (⟨3 * j.1.val + j.2.val, by omega⟩ : Fin 133) := congrArg SemLoc.dma (left_eq j)
  have hc (j) : plan.sem (.inr (.inl j)) = .dma (⟨57 + (3 * j.1.val + j.2.val), by omega⟩ : Fin 133) := congrArg SemLoc.dma (came_eq j)
  have hm (a) : plan.sem (.inr (.inr a)) = .dma (⟨114 + a.val, by omega⟩ : Fin 133) := congrArg SemLoc.dma (made_eq a)
  have hj (j j' : Fin 19 × Fin 3) (h : 3 * j.1.val + j.2.val = 3 * j'.1.val + j'.2.val) : j = j' := by
    refine Prod.ext (Fin.ext ?_) (Fin.ext ?_) <;> omega
  have hs : ∀ x : Fin 133, (SemLoc.dma x : SemLoc sig).isScoped .tc = true := by decide
  refine ⟨?_, ?_, fun k w => w.elim0⟩
  · rintro (j | j | i)
    · rw [hl]; exact hs _
    · rw [hc]; exact hs _
    · rw [hm]; exact hs _
  · rintro (j | j | i) (j' | j' | i') e
    all_goals (first | rw [hl] at e | rw [hc] at e | rw [hm] at e); (first | rw [hl] at e | rw [hc] at e | rw [hm] at e)
    all_goals (injection e with e; have e' := congrArg Fin.val e; dsimp only at e')
    · exact congrArg _ (hj _ _ e')
    · omega
    · omega
    · omega
    · exact congrArg (fun j => Sum.inr (Sum.inl j)) (hj _ _ (by omega))
    · omega
    · omega
    · omega
    · exact congrArg (fun j => Sum.inr (Sum.inr j)) (Fin.ext (by omega))

theorem out_whole (a) : (out a).IsWhole := by fin_cases a <;> exact Memref.isWhole_whole _
theorem src_whole (a) : (src a).IsWhole := by fin_cases a <;> exact Memref.isWhole_whole _
theorem notScratch (a d) : (putCut a d).view.ref.isScScratch = false := by fin_cases a <;> rfl
theorem exactS (a : Fin 19) : (src a).view.WordExact := (src_whole a).wordExact
theorem exactP (a : Fin 19) (d) : (putCut a d).view.WordExact := exact_cutL (out a) (out_whole a) (two_axes a) _ _ _ _ (putOff_eq a d)
theorem exactR (a : Fin 19) (k d) : (recCut a k d).view.WordExact := exact_cutL (out a) (out_whole a) (two_axes a) _ _ _ _ (recOff_eq a k d)
theorem typed (j : Fin 19 × Fin 3) (d n : Dev nD) : DmaTarget.Typed (nD := nD) (τ := τ) (p := .tc) Space.hbm (.dma (came j))
    (.remote (n.tc : Thread nD τ) (putCut j.1 d) (.dma (left j)) (notScratch j.1 d)) := ⟨⟨rfl, Or.inl rfl⟩, trivial⟩

/-- The operations of the body. -/
def copyOp (d : Dev nD) (a : Fin 19) : TpuEff nD τ sig (Elt F) Λ₀ .tc PUnit :=
  .enqueueDma (src a) (.here (putCut a d)) (.dma (made a)) (exactS a) (exactP a d) ⟨Or.inl rfl, trivial⟩
def sendOp (d : Dev nD) (j : Fin 19 × Fin 3) : TpuEff nD τ sig (Elt F) Λ₀ .tc PUnit :=
  .enqueueDma (src j.1) (.remote ((toDev j.1 j.2 d).tc : Thread nD τ) (putCut j.1 d) (.dma (left j)) (notScratch j.1 d)) (.dma (came j))
    (exactS _) (exactP _ _) (typed j d _)
def cameOp (d : Dev nD) (j : Fin 19 × Fin 3) : TpuEff nD τ sig (Elt F) Λ₀ .tc PUnit :=
  .waitDma2 (came j) (src j.1) (recCut j.1 j.2 d) (exactS _) (exactR _ _ _)
def leftOp (d : Dev nD) (j : Fin 19 × Fin 3) : TpuEff nD τ sig (Elt F) Λ₀ .tc PUnit :=
  .waitDma2 (left j) (putCut j.1 d) (src j.1) (exactP _ _) (exactS _)
def madeOp (d : Dev nD) (a : Fin 19) : TpuEff nD τ sig (Elt F) Λ₀ .tc PUnit :=
  .waitDma2 (made a) (src a) (putCut a d) (exactS _) (exactP _ _)

def every : List (Fin 19) := [0, 1, 2, 3, 4, 5, 6, 7, 8, 9, 10, 11, 12, 13, 14, 15, 16, 17, 18]
def all : List (Fin 19 × Fin 3) := [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2), (8, 0), (8, 1), (8, 2), (9, 0), (9, 1), (9, 2), (10, 0), (10, 1), (10, 2), (11, 0), (11, 1), (11, 2), (12, 0), (12, 1), (12, 2), (13, 0), (13, 1), (13, 2), (14, 0), (14, 1), (14, 2), (15, 0), (15, 1), (15, 2), (16, 0), (16, 1), (16, 2), (17, 0), (17, 1), (17, 2), (18, 0), (18, 1), (18, 2)]

theorem body_eq (t : Fin cfg0.N) (s) : (defs₀ (F := F)) .tc 0 (t, s)
    = .op .deviceId fun d => wholeBody every all (copyOp d) (sendOp d) (cameOp d) (leftOp d) (madeOp d) := by
  chain_rfl

/-! ## The arrays of a device -/

def inRef (a : Fin 19) : Ref sig .tc := ⟨.hbm, ⟨a.val, by show a.val < 38; omega⟩, rfl⟩
def outRef (a : Fin 19) : Ref sig .tc := ⟨.hbm, ⟨19 + a.val, by show 19 + a.val < 38; omega⟩, rfl⟩
def refOf : Fin 19 ⊕ Fin 19 ↪ Ref sig .tc := ⟨Sum.elim inRef outRef, by decide⟩
theorem refs_eq : (Finset.univ.filter fun b : Ref sig .tc => ¬ b.isScoped) = Finset.univ.map refOf := by decide

theorem whole_eq (r : Ref sig .tc) (c : Dev nD) (f : Buf (Elt F) ((c.tc : Thread nD τ).loc r)) :
    ((Memref.whole r).view.loc (c.tc : Thread nD τ) ↦[(Memref.whole r).view.set]{fullShare} f : sProp 𝕄) = ((c.tc : Thread nD τ).loc r ↦{fullShare} f) := by
  show (_ ↦[(View.whole r).set]{fullShare} f : sProp 𝕄) = _
  rw [View.set_whole]

variable (m : (ℓ : Loc nD τ sig) → Buf (Elt F) ℓ)

/-- What a device holds of a slab: a share for each of its four copies. -/
theorem in_split (a : Fin 19) (c : Dev nD) :
    ((c.tc : Thread nD τ).loc (inRef a) ↦{fullShare} m ((c.tc : Thread nD τ).loc (inRef a)) : sProp 𝕄)
      = iprop(plan.ownSrc m a c ∗ bigSep Finset.univ fun k : Fin 3 => plan.srcPt m (a, k) c) := by
  have hw : ((c.tc : Thread nD τ).loc (inRef a) ↦{fullShare} m ((c.tc : Thread nD τ).loc (inRef a)) : sProp 𝕄)
      = ((src a).view.loc (c.tc : Thread nD τ) ↦[(src a).view.set]{fullShare} m ((src a).view.loc (c.tc : Thread nD τ))) := by
    fin_cases a <;> exact (whole_eq _ c _).symm
  rw [hw, pointsTo_pieces _ _ 3 fullShare, bigSep_first]
  rfl

/-- What a device holds of a result: its own place and its peers'. -/
theorem out_split (a : Fin 19) (c : Dev nD) :
    ((c.tc : Thread nD τ).loc (outRef a) ↦{fullShare} m ((c.tc : Thread nD τ).loc (outRef a)) : sProp 𝕄)
      = iprop(plan.ownDst m a c ∗ bigSep Finset.univ fun k : Fin 3 => plan.dstPt m (a, k) (far k.succ c) c) := by
  have hw : ((c.tc : Thread nD τ).loc (outRef a) ↦{fullShare} m ((c.tc : Thread nD τ).loc (outRef a)) : sProp 𝕄)
      = ((out a).view.loc (c.tc : Thread nD τ) ↦[(out a).view.set]{fullShare} m ((out a).view.loc (c.tc : Thread nD τ))) := by
    fin_cases a <;> exact (whole_eq _ c _).symm
  let K : Fin 4 → Finset (Lead 4 (shp a)).Idx := fun k =>
    (Rect.unit (s := Lead 4 (shp a)) (putOff a (far k c)) (Lead 1 (shp a)).size (inb_cutL (putOff_eq a (far k c)) (chip _).isLt)).set
  have hK : ∀ k i, i ∈ K k ↔ (i 0).val = (chip (far k c)).val := fun k i => mem_cutL (putOff_eq a (far k c))
  rw [hw, split_view (out a).view c K
    (fun t t' h => Finset.disjoint_left.2 fun i hi hi' => h (chip_inj c t t' (Fin.ext (((hK t i).1 hi).symm.trans ((hK t' i).1 hi')))))
    (fun i => (chip_surj c ⟨(i 0).val, (i 0).isLt⟩).imp fun k hk => (hK k i).2 (congrArg Fin.val hk).symm), bigSep_first]
  have hk (k : Fin 4) : ((out a).view.loc (c.tc : Thread nD τ) ↦[(K k).map (out a).view.emb]{fullShare} m ((out a).view.loc (c.tc : Thread nD τ)) : sProp 𝕄)
      = ((putCut a (far k c)).view.loc (c.tc : Thread nD τ) ↦[(putCut a (far k c)).view.set]{fullShare} m ((putCut a (far k c)).view.loc (c.tc : Thread nD τ))) :=
    congrArg (fun S : Finset (Idx ((out a).view.loc (c.tc : Thread nD τ))) => ((out a).view.loc (c.tc : Thread nD τ) ↦[S]{fullShare} m ((out a).view.loc (c.tc : Thread nD τ)) : sProp 𝕄))
      (set_cutL (out a) (putOff a (far k c)) _ (sqL a)).symm
  rw [hk 0, bigSep_congr fun k _ => hk (Fin.succ k), far_zero]
  rfl

theorem deal_out (A B C D : sProp 𝕄) : iprop((A ∗ B) ∗ C ∗ D) ⊢ iprop(B ∗ D ∗ A ∗ C) := by
  iintro ⟨⟨H1, H2⟩, H3, H4⟩
  isplitl [H2]; · iexact H2
  isplitl [H4]; · iexact H4
  isplitl [H1]; · iexact H1
  iexact H3

theorem split (c : Dev nD) :
    (unscopedBufs c (fun b => m ((c.tc : Thread nD τ).loc b)) : sProp 𝕄)
      ⊢ iprop((bigSep Finset.univ fun j => plan.srcPt m j c) ∗ (bigSep Finset.univ fun j => plan.dstPt m j (plan.peer j c) c)
        ∗ bigSep Finset.univ fun i => iprop(plan.ownSrc m i c ∗ plan.ownDst m i c)) := by
  unfold unscopedBufs
  rw [refs_eq, bigSep_map, bigSep_univ_sum]
  show iprop((bigSep Finset.univ fun a => ((c.tc : Thread nD τ).loc (inRef a) ↦{fullShare} m ((c.tc : Thread nD τ).loc (inRef a)) : sProp 𝕄))
    ∗ bigSep Finset.univ fun a => ((c.tc : Thread nD τ).loc (outRef a) ↦{fullShare} m ((c.tc : Thread nD τ).loc (outRef a)) : sProp 𝕄)) ⊢ _
  rw [bigSep_congr fun a _ => in_split m a c, bigSep_congr fun a _ => out_split m a c, bigSep_sep', bigSep_sep', bigSep_sep', bigSep_univ_prod, bigSep_univ_prod]
  exact deal_out _ _ _ _

/-! ## The run -/

theorem runs (g : Dev nD → PrngReg) :
    θ_run (defs (F := F)) (onTc (main (F := F))) ⟨m, fun _ => 0, g⟩ (fun r => (∀ c, plan.After m c r.2) ∧ r.2.sem = fun _ => 0) := by
  have : ∀ q : Fin 1, IsEmpty (Fin (cfgs q).W) := fun _ => (inferInstance : IsEmpty (Fin 0))
  refine (θ_run _ _ _).mono (fun r h => ⟨h.1, sem_eq_zero_of_scoped (by decide) h.2⟩)
    (plan.runs m cfgs 0 defs₀ Gen.cellOf_inj Gen.winFacts0.to₀ ownSems Gen.scopedRest0_eq Gen.N_0 g main (fun _ => rfl)
      (fun _ _ => Topo.routes_tc _ _) every (by decide) (by decide) all (by decide) (by decide) copyOp sendOp cameOp leftOp madeOp
      (fun c t Q => ?_) (fun c a => ⟨exactS a, exactP a c, ⟨Or.inl rfl, trivial⟩, rfl⟩)
      (fun c j => ⟨toDev j.1 j.2 c, toDev_eq j.1 j.2 c, notScratch j.1 c, exactS _, exactP _ _, typed j c _, rfl⟩)
      (fun c j K => ?_) (fun c j K => ?_) (fun c a K => ?_) (split m))
  · rw [show (defs₀ (F := F)) .tc (cfgs 0).body ((cfgs 0).bodyArgs t ((cfgs 0).slots t)) = _ from body_eq t _]
  · show waitSpec _ _ (.dma (came j)) (recCut j.1 j.2 c).view.dmaCredit K = _
    rw [unit_recCut]; rfl
  · rfl
  · show waitSpec _ _ (.dma (made a)) (putCut a c).view.dmaCredit K = _
    rw [unit_putCut]; rfl

end Gather
-- ==== Proof.GatherClaims.lean ====
/-
# The chips' gathering against cutting the weights for the chips

The reference cuts each whole weight into four slabs, along its columns or its rows, and puts the slabs along a new
first axis. Slab by slab that is what the gathering leaves, the same on every device.
-/
module

public import proofs.«01_k».proof.Defs
public import proofs.«01_k».proof.Proof.GatherRun
public import proofs.«01_k».proof.Proof.Gen.Gather
public import proofs.«01_k».proof.Proof.Gen.GatherReferenceIdeal.Run

@[expose] public section

set_option Elab.async false

noncomputable section

namespace Gather

open Idealize.ShloMosaic Exchange
open Idealize.ShloMosaic.TcCoe
open Idealize.SL.Sem

/-! ## What the gathering leaves -/

section Lands

open Cert.GatherIdeal

variable {F : FTy → Type} [FloatOps F] {m : (ℓ : Loc nD τ sig) → Buf (Elt F) ℓ} {c : Dev nD} {s : MemSt nD τ sig (Elt F)}

/-- The device at the place of `c` on chip `r`. -/
def on (r : Fin 4) (c : Dev nD) : Dev nD := ⟨2 * r.val + c.val % 2, (by decide : ∀ (r : Fin 4) (c : Fin 8), 2 * r.val + c.val % 2 < 8) r c⟩
theorem far_on : ∀ (k : Fin 4) (c : Dev nD), far k c = on (chip (far k c)) c := by decide

/-- Slab `r` of a result is the slab that the device's counterpart on chip `r` holds. -/
theorem lands (h : plan.After m c s) (a : Fin 19) (r : Fin 4) (y : (shp a).Idx) :
    (out a).view.read (Elt F) (s.mem ((out a).view.loc (c.tc : Thread nD τ))) (atL r y)
      = (src a).view.read (Elt F) (m ((src a).view.loc ((on r c).tc : Thread nD τ))) y := by
  obtain ⟨k, rfl⟩ := chip_surj c r
  rw [← far_on]
  refine Fin.cases ?_ (fun k => ?_) k
  · rw [far_zero]
    exact (read_cutL (out a) (putOff a c) _ (sqL a) (chip c) (putOff_eq a c) _ y).symm.trans (congrFun (h.ownGot a) y)
  · exact (read_cutL (out a) (putOff a (far k.succ c)) _ (sqL a) (chip (far k.succ c)) (putOff_eq a _) _ y).symm.trans
      (congrFun (h.got (a, k)) y)

theorem kept_all (h : plan.After m c s) (a : Fin 19) :
    (src a).view.read (Elt F) (s.mem ((src a).view.loc (c.tc : Thread nD τ))) = (src a).view.read (Elt F) (m ((src a).view.loc (c.tc : Thread nD τ))) :=
  h.ownKept a

end Lands

/-! ## What the reference computes -/

section Cut

variable {α : Type} {p a b n : ℕ}

/-- The devices of chip `r` hold block `r` of a weight. -/
theorem lin_on : ∀ (r : Fin 4) (c : Fin 8), Layout.meshLin [2, 2, 2] (on r c).val [0, 1] = r.val := by decide

/-- A weight cut along its columns: its slabs gathered are its columns' blocks along a new first axis. -/
theorem col_gathered (f : (⟨3, ![4, a, b]⟩ : Shape).Idx → α) (x : (⟨2, ![a, n]⟩ : Shape).Idx → α) (hs : (⟨2, ![a, n]⟩ : Shape).ShapeCasts ⟨3, ![a, 4, b]⟩)
    (ht : (⟨3, ![a, 4, b]⟩ : Shape).Transposes [1, 0, 2] ⟨3, ![4, a, b]⟩)
    (hT : Layout.TilesN ⟨2, ![a, b]⟩ ⟨2, ![a, n]⟩ fun i => Layout.cutSize [2, 2, 2] ((![[], [0, 1]] : Fin 2 → List ℕ) i)) (c : Fin 8)
    (H : ∀ r y, f (atL (s := ⟨2, ![a, b]⟩) r y) = Layout.blockN ⟨2, ![a, b]⟩ ⟨2, ![a, n]⟩ (Layout.meshBlock [2, 2, 2] ![[], [0, 1]] (on r c)) x hT y) :
    f = transpose ⟨3, ![4, a, b]⟩ [1, 0, 2] (shapeCast ⟨3, ![a, 4, b]⟩ x hs) ht := by
  have hn : n = 4 * b := hT.2 1
  refine extL (s := ⟨2, ![a, b]⟩) fun r y => (H r y).trans ?_
  rw [transpose_apply _ _ ht _ (fun | ⟨0, _⟩ => y 0 | ⟨1, _⟩ => r | ⟨2, _⟩ => y 1) (by intro q; fin_cases q <;> rfl)]
  refine (shapeCast_apply x hs _ _ ?_).symm
  rw [Shape.rowMajor_val_three, Shape.rowMajor_val_two]
  show (0 * a + (y 0).val) * n + (Layout.meshLin [2, 2, 2] (on r c).val [0, 1] * b + (y 1).val) = ((y 0).val * 4 + r.val) * b + (y 1).val
  rw [lin_on, hn]; ring

/-- A weight cut along its rows: its slabs gathered are its rows' blocks. -/
theorem row_gathered (f : (⟨3, ![4, a, b]⟩ : Shape).Idx → α) (x : (⟨2, ![n, b]⟩ : Shape).Idx → α) (hs : (⟨2, ![n, b]⟩ : Shape).ShapeCasts ⟨3, ![4, a, b]⟩)
    (hT : Layout.TilesN ⟨2, ![a, b]⟩ ⟨2, ![n, b]⟩ fun i => Layout.cutSize [2, 2, 2] ((![[0, 1], []] : Fin 2 → List ℕ) i)) (c : Fin 8)
    (H : ∀ r y, f (atL (s := ⟨2, ![a, b]⟩) r y) = Layout.blockN ⟨2, ![a, b]⟩ ⟨2, ![n, b]⟩ (Layout.meshBlock [2, 2, 2] ![[0, 1], []] (on r c)) x hT y) :
    f = shapeCast ⟨3, ![4, a, b]⟩ x hs := by
  refine extL (s := ⟨2, ![a, b]⟩) fun r y => (H r y).trans ?_
  refine (shapeCast_apply x hs _ _ ?_).symm
  rw [Shape.rowMajor_val_three, Shape.rowMajor_val_two]
  show (Layout.meshLin [2, 2, 2] (on r c).val [0, 1] * a + (y 0).val) * b + (0 * b + (y 1).val) = (r.val * a + (y 0).val) * b + (y 1).val
  rw [lin_on]; ring

/-- An array of matrices cut along its columns. -/
theorem deep_gathered (f : (⟨4, ![4, p, a, b]⟩ : Shape).Idx → α) (x : (⟨3, ![p, a, n]⟩ : Shape).Idx → α) (hs : (⟨3, ![p, a, n]⟩ : Shape).ShapeCasts ⟨4, ![p, a, 4, b]⟩)
    (ht : (⟨4, ![p, a, 4, b]⟩ : Shape).Transposes [2, 0, 1, 3] ⟨4, ![4, p, a, b]⟩)
    (hT : Layout.TilesN ⟨3, ![p, a, b]⟩ ⟨3, ![p, a, n]⟩ fun i => Layout.cutSize [2, 2, 2] ((![[], [], [0, 1]] : Fin 3 → List ℕ) i)) (c : Fin 8)
    (H : ∀ r y, f (atL (s := ⟨3, ![p, a, b]⟩) r y) = Layout.blockN ⟨3, ![p, a, b]⟩ ⟨3, ![p, a, n]⟩ (Layout.meshBlock [2, 2, 2] ![[], [], [0, 1]] (on r c)) x hT y) :
    f = transpose ⟨4, ![4, p, a, b]⟩ [2, 0, 1, 3] (shapeCast ⟨4, ![p, a, 4, b]⟩ x hs) ht := by
  have hn : n = 4 * b := hT.2 2
  refine extL (s := ⟨3, ![p, a, b]⟩) fun r y => (H r y).trans ?_
  rw [transpose_apply _ _ ht _ (fun | ⟨0, _⟩ => y 0 | ⟨1, _⟩ => y 1 | ⟨2, _⟩ => r | ⟨3, _⟩ => y 2) (by intro q; fin_cases q <;> rfl)]
  refine (shapeCast_apply x hs _ _ ?_).symm
  rw [Shape.rowMajor_val_four, Shape.rowMajor_val_three]
  show ((0 * p + (y 0).val) * a + (0 * a + (y 1).val)) * n + (Layout.meshLin [2, 2, 2] (on r c).val [0, 1] * b + (y 2).val)
    = (((y 0).val * a + (y 1).val) * 4 + r.val) * b + (y 2).val
  rw [lin_on, hn]; ring

end Cut

/-! ## The claims -/

theorem frameP : Cert.quiescent_Gather := fun m g _ =>
  (θ_run Cert.GatherIdeal.defs _ _).mono (fun r h => ⟨fun c => by have k := kept_all (h.1 c); exact ⟨k 0, k 1, k 2, k 3, k 4, k 5, k 6, k 7, k 8, k 9, k 10, k 11, k 12, k 13, k 14, k 15, k 16, k 17, k 18⟩, h.2⟩) (runs (F := Bits) m g)
theorem framePI : Cert.quiescent_GatherIdeal := fun m g _ =>
  (θ_run Cert.GatherIdeal.defs _ _).mono (fun r h => ⟨fun c => by have k := kept_all (h.1 c); exact ⟨k 0, k 1, k 2, k 3, k 4, k 5, k 6, k 7, k 8, k 9, k 10, k 11, k 12, k 13, k 14, k 15, k 16, k 17, k 18⟩, h.2⟩) (runs (F := Ideal) m g)
theorem frameRI : Cert.quiescent_GatherReferenceIdeal := fun m g _ =>
  (θ_run Cert.GatherReferenceIdeal.defs _ _).mono (fun r h => ⟨fun c => (h c).2.2.2.2.2.2.2.2.2.2.2.2.2.2.2.2.2.2.2, sem_eq_zero_of_no_sems (by decide) r.2⟩)
    (Cert.GatherReferenceIdeal.Value.run (F := Ideal) m g)

theorem value : Cert.algebraic_GatherIdeal_GatherReferenceIdeal := by
  intro m g m' g' _ hagree
  refine ⟨_, _, _, _, _, _, _, _, _, _, _, _, _, _, _, _, _, _, _, (θ_run Cert.GatherIdeal.defs _ _).mono (fun r h c => ?_) (runs (F := Ideal) m g),
    (θ_run Cert.GatherReferenceIdeal.defs _ _).mono (fun _ h => h 0) (Cert.GatherReferenceIdeal.Value.run (F := Ideal) m' g')⟩
  have k := kept_all (h.1 c)
  have l := lands (h.1 c)
  exact ⟨col_gathered _ _ _ _ _ c (fun r y => (l 0 r y).trans (congrFun (hagree (on r c)).1 y)),
    col_gathered _ _ _ _ _ c (fun r y => (l 1 r y).trans (congrFun (hagree (on r c)).2.1 y)),
    row_gathered _ _ _ _ c (fun r y => (l 2 r y).trans (congrFun (hagree (on r c)).2.2.1 y)),
    row_gathered _ _ _ _ c (fun r y => (l 3 r y).trans (congrFun (hagree (on r c)).2.2.2.1 y)),
    col_gathered _ _ _ _ _ c (fun r y => (l 4 r y).trans (congrFun (hagree (on r c)).2.2.2.2.1 y)),
    col_gathered _ _ _ _ _ c (fun r y => (l 5 r y).trans (congrFun (hagree (on r c)).2.2.2.2.2.1 y)),
    row_gathered _ _ _ _ c (fun r y => (l 6 r y).trans (congrFun (hagree (on r c)).2.2.2.2.2.2.1 y)),
    row_gathered _ _ _ _ c (fun r y => (l 7 r y).trans (congrFun (hagree (on r c)).2.2.2.2.2.2.2.1 y)),
    col_gathered _ _ _ _ _ c (fun r y => (l 8 r y).trans (congrFun (hagree (on r c)).2.2.2.2.2.2.2.2.1 y)),
    col_gathered _ _ _ _ _ c (fun r y => (l 9 r y).trans (congrFun (hagree (on r c)).2.2.2.2.2.2.2.2.2.1 y)),
    col_gathered _ _ _ _ _ c (fun r y => (l 10 r y).trans (congrFun (hagree (on r c)).2.2.2.2.2.2.2.2.2.2.1 y)),
    col_gathered _ _ _ _ _ c (fun r y => (l 11 r y).trans (congrFun (hagree (on r c)).2.2.2.2.2.2.2.2.2.2.2.1 y)),
    row_gathered _ _ _ _ c (fun r y => (l 12 r y).trans (congrFun (hagree (on r c)).2.2.2.2.2.2.2.2.2.2.2.2.1 y)),
    row_gathered _ _ _ _ c (fun r y => (l 13 r y).trans (congrFun (hagree (on r c)).2.2.2.2.2.2.2.2.2.2.2.2.2.1 y)),
    row_gathered _ _ _ _ c (fun r y => (l 14 r y).trans (congrFun (hagree (on r c)).2.2.2.2.2.2.2.2.2.2.2.2.2.2.1 y)),
    row_gathered _ _ _ _ c (fun r y => (l 15 r y).trans (congrFun (hagree (on r c)).2.2.2.2.2.2.2.2.2.2.2.2.2.2.2.1 y)),
    deep_gathered _ _ _ _ _ c (fun r y => (l 16 r y).trans (congrFun (hagree (on r c)).2.2.2.2.2.2.2.2.2.2.2.2.2.2.2.2.1 y)),
    deep_gathered _ _ _ _ _ c (fun r y => (l 17 r y).trans (congrFun (hagree (on r c)).2.2.2.2.2.2.2.2.2.2.2.2.2.2.2.2.2.1 y)),
    deep_gathered _ _ _ _ _ c (fun r y => (l 18 r y).trans (congrFun (hagree (on r c)).2.2.2.2.2.2.2.2.2.2.2.2.2.2.2.2.2.2 y)),
    k 0, k 1, k 2, k 3, k 4, k 5, k 6, k 7, k 8, k 9, k 10, k 11, k 12, k 13, k 14, k 15, k 16, k 17, k 18⟩

end Gather
-- ==== Proof.Adam.lean ====
/- The weights' step as functions of whole arrays over the extended reals: the gradient is the sum of its slots, the
   two moments and the step follow from it element by element. What the plain formulas compute is put in this form, for
   any sizes. -/
module

public import Idealize.ShloMosaic.Lib.Pipeline.ValueKit
public import Idealize.ShloMosaic.Lib.IdealHost

@[expose] public section

noncomputable section

namespace Adam

open Idealize.ShloMosaic

variable {L N R C : Nat}

/-- An array of `L` matrices. -/
abbrev Mats (L R C : Nat) : Type := FVec Ideal ⟨3, ![L, R, C]⟩ .f32
/-- An array of `L` matrices for each of `N` slots. -/
abbrev Slots (L N R C : Nat) : Type := FVec Ideal ⟨4, ![L, N, R, C]⟩ .f32

/-- One slot of the gradients. -/
def slot (s : Slots L N R C) (k : Fin N) : Mats L R C := fun i => s (ix4 (i 0) k (i 1) (i 2))

/-- The gradient from four slots. -/
def four (s : Slots L 4 R C) : Mats L R C := fun i => slot s 0 i + slot s 1 i + slot s 2 i + slot s 3 i

/-- The new first moment. -/
def first (g m : Mats L R C) : Mats L R C := fun i =>
  FloatOps.addf (FloatOps.mulf (Scalar.ofBits .f32 0x3F666666#32) (m i)) (FloatOps.mulf (Scalar.ofBits .f32 0x3DCCCCCD#32) (g i))

/-- The new second moment. -/
def second (g v : Mats L R C) : Mats L R C := fun i =>
  FloatOps.addf (FloatOps.mulf (Scalar.ofBits .f32 0x3F7FBE77#32) (v i))
    (FloatOps.mulf (Scalar.ofBits .f32 0x3A83126F#32) (FloatOps.mulf (g i) (g i)))

/-- The step a weight takes. -/
def step (g w m v : Mats L R C) : Mats L R C := fun i =>
  FloatOps.mulf (Scalar.ofBits .f32 0xBA83126F#32)
    (FloatOps.addf
      (FloatOps.divf (FloatOps.divf (first g m i) (Scalar.ofBits .f32 0x3F26BD02#32))
        (FloatOps.addf (FloatOps.sqrt (FloatOps.divf (second g v i) (Scalar.ofBits .f32 0x3C231ACC#32)))
          (Scalar.ofBits .f32 0x322BCC77#32)))
      (FloatOps.mulf (Scalar.ofBits .f32 0x3C23D70A#32) (w i)))

/-! ## The plain formulas -/

/-- A sum over the slots is the sum of the slots. -/
theorem sum_slots (s : Slots L N R C) (h : (⟨4, ![L, N, R, C]⟩ : Shape).ReducesTo [1] ⟨3, ![L, R, C]⟩)
    (hu : 0 < (⟨0, ![]⟩ : Shape).numel) (i) :
    Host.reduceAdd s (constant ⟨0, ![]⟩ .f32 0x00000000#32) h hu i = ∑ k : Fin N, slot s k i := by
  rw [ValueIdx.hostReduceAdd_apply, Ideal.hostReduceAdd_r4_a1]
  refine Eq.trans (congrArg (· + _) (Ideal.ofBits_zero .f32)) ((zero_add _).trans ?_)
  rfl

/-- A sum over four slots is the gradient from four slots. -/
theorem sum_four (s : Slots L 4 R C) (h : (⟨4, ![L, 4, R, C]⟩ : Shape).ReducesTo [1] ⟨3, ![L, R, C]⟩)
    (hu : 0 < (⟨0, ![]⟩ : Shape).numel) :
    Host.reduceAdd s (constant ⟨0, ![]⟩ .f32 0x00000000#32) h hu = four s := by
  funext i
  exact (sum_slots s h hu i).trans (Fin.sum_univ_four _)

/-- A sum over a single slot is that slot. -/
theorem sum_one (s : Slots L 1 R C) (h : (⟨4, ![L, 1, R, C]⟩ : Shape).ReducesTo [1] ⟨3, ![L, R, C]⟩)
    (hu : 0 < (⟨0, ![]⟩ : Shape).numel) :
    Host.reduceAdd s (constant ⟨0, ![]⟩ .f32 0x00000000#32) h hu = slot s 0 := by
  funext i
  exact (sum_slots s h hu i).trans (Fin.sum_univ_one _)

end Adam

end
-- ==== Proof.PwOneClaims.lean ====
/- The step of the weight `conv_w_pw1`: what each grid point leaves in its blocks, put together to whole
   arrays, is the plain formula. -/
module

public import proofs.«01_k».proof.Defs
public import proofs.«01_k».proof.Proof.Adam
public import proofs.«01_k».proof.Proof.Gen.PwOne.Frame
public import proofs.«01_k».proof.Proof.Gen.PwOneIdeal.Value
public import proofs.«01_k».proof.Proof.Gen.PwOneReferenceIdeal.Run

@[expose] public section

noncomputable section

namespace Adam.PwOne

open Cert.PwOneIdeal Cert.PwOneIdeal.Gen Idealize.ShloMosaic Idealize.ShloMosaic.TcCoe Idealize.SL.Sem

variable (m : (ℓ : Loc nD τ sig) → Buf (Elt Ideal) ℓ) (c : Dev nD)

/-- Every window's block at a point: the matrix and the group of rows the point is for. -/
theorem idx : ∀ t : Fin cfg0.N, win0_0.index t = ![(grid0.coords t 0).val, 0, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- The first result is the gradient. -/
theorem grad_out : (dats m 0 c).arrAt 4 cfg0.N = four (m ((c : Thread nD τ).loc main_arg0)) := by
  refine (dats m 0 c).arrAt_eq_of_covers 4 _ (by decide +kernel) fun t _ y => ?_
  blk_simp
  rw [after0_4]; frame_out
  pointwise [k0_pay1, k0_pay5, four, slot]
  blk_point [iblk, V, idx t]

/-- The second result is the step of the weight. -/
theorem step_out : (dats m 0 c).arrAt 5 cfg0.N = step (four (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay2, k0_pay8, k0_pay9, k0_pay6, k0_pay7, k0_pay5, step, first, second, four, slot]
  blk_point [iblk, V, idx t]

/-- The third result is the new first moment. -/
theorem first_out : (dats m 0 c).arrAt 6 cfg0.N = first (four (m ((c : Thread nD τ).loc main_arg0)))
    (m ((c : Thread nD τ).loc main_arg2)) := by
  refine (dats m 0 c).arrAt_eq_of_covers 6 _ (by decide +kernel) fun t _ y => ?_
  blk_simp
  rw [after0_6]; frame_out
  pointwise [k0_pay3, k0_pay6, k0_pay5, first, four, slot]
  blk_point [iblk, V, idx t]

/-- The fourth result is the new second moment. -/
theorem second_out : (dats m 0 c).arrAt 7 cfg0.N = second (four (m ((c : Thread nD τ).loc main_arg0)))
    (m ((c : Thread nD τ).loc main_arg3)) := by
  refine (dats m 0 c).arrAt_eq_of_covers 7 _ (by decide +kernel) fun t _ y => ?_
  blk_simp
  rw [after0_7]; frame_out
  pointwise [k0_pay4, k0_pay7, k0_pay5, second, four, slot]
  blk_point [iblk, V, idx t]

/-- The call in floating point always ends, faults nowhere and leaves its arguments and semaphores as they were. -/
theorem frameP : Cert.quiescent_PwOne := fun m g _ => Cert.PwOne.Gen.frame m g
/-- The same over the extended reals. -/
theorem framePI : Cert.quiescent_PwOneIdeal := fun m g _ => Cert.PwOneIdeal.Gen.frame (F := Ideal) m g
/-- The plain formula over the extended reals always ends and leaves its arguments and semaphores as they were. -/
theorem frameRI : Cert.quiescent_PwOneReferenceIdeal := fun m g _ =>
  (θ_run Cert.PwOneReferenceIdeal.defs _ _).mono (fun r h => ⟨fun c => (h c).2.2.2.2, sem_eq_zero_of_no_sems (by decide) r.2⟩)
    (Cert.PwOneReferenceIdeal.Value.run (F := Ideal) m g)

/-- Over the extended reals, the call and the plain formula give the same four results. -/
theorem value : Cert.algebraic_PwOneIdeal_PwOneReferenceIdeal := by
  intro m g m' g' _ hagree
  refine ⟨_, _, _, _, (θ_run Cert.PwOneIdeal.defs _ _).mono (fun r h c =>
      ⟨(h c).1.trans (grad_out m c), (h c).2.1.trans (step_out m c), (h c).2.2.1.trans (first_out m c),
        (h c).2.2.2.1.trans (second_out m c), (h c).2.2.2.2⟩) (Cert.PwOneIdeal.Value.run_blocks m g),
    (θ_run Cert.PwOneReferenceIdeal.defs _ _).mono (fun r h c => ?_) (Cert.PwOneReferenceIdeal.Value.run (F := Ideal) m' g')⟩
  obtain ⟨a0, a1, a2, a3⟩ := hagree c
  obtain ⟨h0, h1, h2, h3, kept⟩ := h c
  rw [sum_four, a0] at h0
  rw [sum_four, a0, a1, a2, a3] at h1
  rw [sum_four, a0, a2] at h2
  rw [sum_four, a0, a3] at h3
  exact ⟨h0, h1, h2, h3, kept⟩

end Adam.PwOne

end
-- ==== Proof.PwTwoClaims.lean ====
/- The step of the weight `conv_w_pw2`: what each grid point leaves in its blocks, put together to whole
   arrays, is the plain formula. -/
module

public import proofs.«01_k».proof.Defs
public import proofs.«01_k».proof.Proof.Adam
public import proofs.«01_k».proof.Proof.Gen.PwTwo.Frame
public import proofs.«01_k».proof.Proof.Gen.PwTwoIdeal.Value
public import proofs.«01_k».proof.Proof.Gen.PwTwoReferenceIdeal.Run

@[expose] public section

noncomputable section

namespace Adam.PwTwo

open Cert.PwTwoIdeal Cert.PwTwoIdeal.Gen Idealize.ShloMosaic Idealize.ShloMosaic.TcCoe Idealize.SL.Sem

variable (m : (ℓ : Loc nD τ sig) → Buf (Elt Ideal) ℓ) (c : Dev nD)

/-- Every window's block at a point: the matrix and the group of rows the point is for. -/
theorem idx : ∀ t : Fin cfg0.N, win0_0.index t = ![(grid0.coords t 0).val, 0, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- The first result is the gradient. -/
theorem grad_out : (dats m 0 c).arrAt 4 cfg0.N = four (m ((c : Thread nD τ).loc main_arg0)) := by
  refine (dats m 0 c).arrAt_eq_of_covers 4 _ (by decide +kernel) fun t _ y => ?_
  blk_simp
  rw [after0_4]; frame_out
  pointwise [k0_pay1, k0_pay5, four, slot]
  blk_point [iblk, V, idx t]

/-- The second result is the step of the weight. -/
theorem step_out : (dats m 0 c).arrAt 5 cfg0.N = step (four (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay2, k0_pay8, k0_pay9, k0_pay6, k0_pay7, k0_pay5, step, first, second, four, slot]
  blk_point [iblk, V, idx t]

/-- The third result is the new first moment. -/
theorem first_out : (dats m 0 c).arrAt 6 cfg0.N = first (four (m ((c : Thread nD τ).loc main_arg0)))
    (m ((c : Thread nD τ).loc main_arg2)) := by
  refine (dats m 0 c).arrAt_eq_of_covers 6 _ (by decide +kernel) fun t _ y => ?_
  blk_simp
  rw [after0_6]; frame_out
  pointwise [k0_pay3, k0_pay6, k0_pay5, first, four, slot]
  blk_point [iblk, V, idx t]

/-- The fourth result is the new second moment. -/
theorem second_out : (dats m 0 c).arrAt 7 cfg0.N = second (four (m ((c : Thread nD τ).loc main_arg0)))
    (m ((c : Thread nD τ).loc main_arg3)) := by
  refine (dats m 0 c).arrAt_eq_of_covers 7 _ (by decide +kernel) fun t _ y => ?_
  blk_simp
  rw [after0_7]; frame_out
  pointwise [k0_pay4, k0_pay7, k0_pay5, second, four, slot]
  blk_point [iblk, V, idx t]

/-- The call in floating point always ends, faults nowhere and leaves its arguments and semaphores as they were. -/
theorem frameP : Cert.quiescent_PwTwo := fun m g _ => Cert.PwTwo.Gen.frame m g
/-- The same over the extended reals. -/
theorem framePI : Cert.quiescent_PwTwoIdeal := fun m g _ => Cert.PwTwoIdeal.Gen.frame (F := Ideal) m g
/-- The plain formula over the extended reals always ends and leaves its arguments and semaphores as they were. -/
theorem frameRI : Cert.quiescent_PwTwoReferenceIdeal := fun m g _ =>
  (θ_run Cert.PwTwoReferenceIdeal.defs _ _).mono (fun r h => ⟨fun c => (h c).2.2.2.2, sem_eq_zero_of_no_sems (by decide) r.2⟩)
    (Cert.PwTwoReferenceIdeal.Value.run (F := Ideal) m g)

/-- Over the extended reals, the call and the plain formula give the same four results. -/
theorem value : Cert.algebraic_PwTwoIdeal_PwTwoReferenceIdeal := by
  intro m g m' g' _ hagree
  refine ⟨_, _, _, _, (θ_run Cert.PwTwoIdeal.defs _ _).mono (fun r h c =>
      ⟨(h c).1.trans (grad_out m c), (h c).2.1.trans (step_out m c), (h c).2.2.1.trans (first_out m c),
        (h c).2.2.2.1.trans (second_out m c), (h c).2.2.2.2⟩) (Cert.PwTwoIdeal.Value.run_blocks m g),
    (θ_run Cert.PwTwoReferenceIdeal.defs _ _).mono (fun r h c => ?_) (Cert.PwTwoReferenceIdeal.Value.run (F := Ideal) m' g')⟩
  obtain ⟨a0, a1, a2, a3⟩ := hagree c
  obtain ⟨h0, h1, h2, h3, kept⟩ := h c
  rw [sum_four, a0] at h0
  rw [sum_four, a0, a1, a2, a3] at h1
  rw [sum_four, a0, a2] at h2
  rw [sum_four, a0, a3] at h3
  exact ⟨h0, h1, h2, h3, kept⟩

end Adam.PwTwo

end
-- ==== Proof.RetInClaims.lean ====
/- The step of the weight `ret_w_in`: what each grid point leaves in its blocks, put together to whole
   arrays, is the plain formula. -/
module

public import proofs.«01_k».proof.Defs
public import proofs.«01_k».proof.Proof.Adam
public import proofs.«01_k».proof.Proof.Gen.RetIn.Frame
public import proofs.«01_k».proof.Proof.Gen.RetInIdeal.Value
public import proofs.«01_k».proof.Proof.Gen.RetInReferenceIdeal.Run

@[expose] public section

noncomputable section

namespace Adam.RetIn

open Cert.RetInIdeal Cert.RetInIdeal.Gen Idealize.ShloMosaic Idealize.ShloMosaic.TcCoe Idealize.SL.Sem

variable (m : (ℓ : Loc nD τ sig) → Buf (Elt Ideal) ℓ) (c : Dev nD)

/-- Every window's block at a point: the matrix and the group of rows the point is for. -/
theorem idx : ∀ t : Fin cfg0.N, win0_0.index t = ![(grid0.coords t 0).val, 0, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- The first result is the gradient. -/
theorem grad_out : (dats m 0 c).arrAt 4 cfg0.N = four (m ((c : Thread nD τ).loc main_arg0)) := by
  refine (dats m 0 c).arrAt_eq_of_covers 4 _ (by decide +kernel) fun t _ y => ?_
  blk_simp
  rw [after0_4]; frame_out
  pointwise [k0_pay1, k0_pay5, four, slot]
  blk_point [iblk, V, idx t]

/-- The second result is the step of the weight. -/
theorem step_out : (dats m 0 c).arrAt 5 cfg0.N = step (four (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay2, k0_pay8, k0_pay9, k0_pay6, k0_pay7, k0_pay5, step, first, second, four, slot]
  blk_point [iblk, V, idx t]

/-- The third result is the new first moment. -/
theorem first_out : (dats m 0 c).arrAt 6 cfg0.N = first (four (m ((c : Thread nD τ).loc main_arg0)))
    (m ((c : Thread nD τ).loc main_arg2)) := by
  refine (dats m 0 c).arrAt_eq_of_covers 6 _ (by decide +kernel) fun t _ y => ?_
  blk_simp
  rw [after0_6]; frame_out
  pointwise [k0_pay3, k0_pay6, k0_pay5, first, four, slot]
  blk_point [iblk, V, idx t]

/-- The fourth result is the new second moment. -/
theorem second_out : (dats m 0 c).arrAt 7 cfg0.N = second (four (m ((c : Thread nD τ).loc main_arg0)))
    (m ((c : Thread nD τ).loc main_arg3)) := by
  refine (dats m 0 c).arrAt_eq_of_covers 7 _ (by decide +kernel) fun t _ y => ?_
  blk_simp
  rw [after0_7]; frame_out
  pointwise [k0_pay4, k0_pay7, k0_pay5, second, four, slot]
  blk_point [iblk, V, idx t]

/-- The call in floating point always ends, faults nowhere and leaves its arguments and semaphores as they were. -/
theorem frameP : Cert.quiescent_RetIn := fun m g _ => Cert.RetIn.Gen.frame m g
/-- The same over the extended reals. -/
theorem framePI : Cert.quiescent_RetInIdeal := fun m g _ => Cert.RetInIdeal.Gen.frame (F := Ideal) m g
/-- The plain formula over the extended reals always ends and leaves its arguments and semaphores as they were. -/
theorem frameRI : Cert.quiescent_RetInReferenceIdeal := fun m g _ =>
  (θ_run Cert.RetInReferenceIdeal.defs _ _).mono (fun r h => ⟨fun c => (h c).2.2.2.2, sem_eq_zero_of_no_sems (by decide) r.2⟩)
    (Cert.RetInReferenceIdeal.Value.run (F := Ideal) m g)

/-- Over the extended reals, the call and the plain formula give the same four results. -/
theorem value : Cert.algebraic_RetInIdeal_RetInReferenceIdeal := by
  intro m g m' g' _ hagree
  refine ⟨_, _, _, _, (θ_run Cert.RetInIdeal.defs _ _).mono (fun r h c =>
      ⟨(h c).1.trans (grad_out m c), (h c).2.1.trans (step_out m c), (h c).2.2.1.trans (first_out m c),
        (h c).2.2.2.1.trans (second_out m c), (h c).2.2.2.2⟩) (Cert.RetInIdeal.Value.run_blocks m g),
    (θ_run Cert.RetInReferenceIdeal.defs _ _).mono (fun r h c => ?_) (Cert.RetInReferenceIdeal.Value.run (F := Ideal) m' g')⟩
  obtain ⟨a0, a1, a2, a3⟩ := hagree c
  obtain ⟨h0, h1, h2, h3, kept⟩ := h c
  rw [sum_four, a0] at h0
  rw [sum_four, a0, a1, a2, a3] at h1
  rw [sum_four, a0, a2] at h2
  rw [sum_four, a0, a3] at h3
  exact ⟨h0, h1, h2, h3, kept⟩

end Adam.RetIn

end
-- ==== Proof.RetOutClaims.lean ====
/- The step of the weight `ret_w_out`: what each grid point leaves in its blocks, put together to whole
   arrays, is the plain formula. -/
module

public import proofs.«01_k».proof.Defs
public import proofs.«01_k».proof.Proof.Adam
public import proofs.«01_k».proof.Proof.Gen.RetOut.Frame
public import proofs.«01_k».proof.Proof.Gen.RetOutIdeal.Value
public import proofs.«01_k».proof.Proof.Gen.RetOutReferenceIdeal.Run

@[expose] public section

noncomputable section

namespace Adam.RetOut

open Cert.RetOutIdeal Cert.RetOutIdeal.Gen Idealize.ShloMosaic Idealize.ShloMosaic.TcCoe Idealize.SL.Sem

variable (m : (ℓ : Loc nD τ sig) → Buf (Elt Ideal) ℓ) (c : Dev nD)

/-- Every window's block at a point: the matrix and the group of rows the point is for. -/
theorem idx : ∀ t : Fin cfg0.N, win0_0.index t = ![(grid0.coords t 0).val, 0, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- The first result is the gradient. -/
theorem grad_out : (dats m 0 c).arrAt 4 cfg0.N = four (m ((c : Thread nD τ).loc main_arg0)) := by
  refine (dats m 0 c).arrAt_eq_of_covers 4 _ (by decide +kernel) fun t _ y => ?_
  blk_simp
  rw [after0_4]; frame_out
  pointwise [k0_pay1, k0_pay5, four, slot]
  blk_point [iblk, V, idx t]

/-- The second result is the step of the weight. -/
theorem step_out : (dats m 0 c).arrAt 5 cfg0.N = step (four (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay2, k0_pay8, k0_pay9, k0_pay6, k0_pay7, k0_pay5, step, first, second, four, slot]
  blk_point [iblk, V, idx t]

/-- The third result is the new first moment. -/
theorem first_out : (dats m 0 c).arrAt 6 cfg0.N = first (four (m ((c : Thread nD τ).loc main_arg0)))
    (m ((c : Thread nD τ).loc main_arg2)) := by
  refine (dats m 0 c).arrAt_eq_of_covers 6 _ (by decide +kernel) fun t _ y => ?_
  blk_simp
  rw [after0_6]; frame_out
  pointwise [k0_pay3, k0_pay6, k0_pay5, first, four, slot]
  blk_point [iblk, V, idx t]

/-- The fourth result is the new second moment. -/
theorem second_out : (dats m 0 c).arrAt 7 cfg0.N = second (four (m ((c : Thread nD τ).loc main_arg0)))
    (m ((c : Thread nD τ).loc main_arg3)) := by
  refine (dats m 0 c).arrAt_eq_of_covers 7 _ (by decide +kernel) fun t _ y => ?_
  blk_simp
  rw [after0_7]; frame_out
  pointwise [k0_pay4, k0_pay7, k0_pay5, second, four, slot]
  blk_point [iblk, V, idx t]

/-- The call in floating point always ends, faults nowhere and leaves its arguments and semaphores as they were. -/
theorem frameP : Cert.quiescent_RetOut := fun m g _ => Cert.RetOut.Gen.frame m g
/-- The same over the extended reals. -/
theorem framePI : Cert.quiescent_RetOutIdeal := fun m g _ => Cert.RetOutIdeal.Gen.frame (F := Ideal) m g
/-- The plain formula over the extended reals always ends and leaves its arguments and semaphores as they were. -/
theorem frameRI : Cert.quiescent_RetOutReferenceIdeal := fun m g _ =>
  (θ_run Cert.RetOutReferenceIdeal.defs _ _).mono (fun r h => ⟨fun c => (h c).2.2.2.2, sem_eq_zero_of_no_sems (by decide) r.2⟩)
    (Cert.RetOutReferenceIdeal.Value.run (F := Ideal) m g)

/-- Over the extended reals, the call and the plain formula give the same four results. -/
theorem value : Cert.algebraic_RetOutIdeal_RetOutReferenceIdeal := by
  intro m g m' g' _ hagree
  refine ⟨_, _, _, _, (θ_run Cert.RetOutIdeal.defs _ _).mono (fun r h c =>
      ⟨(h c).1.trans (grad_out m c), (h c).2.1.trans (step_out m c), (h c).2.2.1.trans (first_out m c),
        (h c).2.2.2.1.trans (second_out m c), (h c).2.2.2.2⟩) (Cert.RetOutIdeal.Value.run_blocks m g),
    (θ_run Cert.RetOutReferenceIdeal.defs _ _).mono (fun r h c => ?_) (Cert.RetOutReferenceIdeal.Value.run (F := Ideal) m' g')⟩
  obtain ⟨a0, a1, a2, a3⟩ := hagree c
  obtain ⟨h0, h1, h2, h3, kept⟩ := h c
  rw [sum_four, a0] at h0
  rw [sum_four, a0, a1, a2, a3] at h1
  rw [sum_four, a0, a2] at h2
  rw [sum_four, a0, a3] at h3
  exact ⟨h0, h1, h2, h3, kept⟩

end Adam.RetOut

end
-- ==== Proof.MlpClaims.lean ====
/- The step of the weights `mlp_w1` and `mlp_w2`: what each grid point leaves in its blocks, put together to whole
   arrays, is the plain formula. -/
module

public import proofs.«01_k».proof.Defs
public import proofs.«01_k».proof.Proof.Adam
public import proofs.«01_k».proof.Proof.Gen.Mlp.Frame
public import proofs.«01_k».proof.Proof.Gen.MlpIdeal.Value
public import proofs.«01_k».proof.Proof.Gen.MlpReferenceIdeal.Run

@[expose] public section

noncomputable section

namespace Adam.Mlp

open Cert.MlpIdeal Cert.MlpIdeal.Gen Idealize.ShloMosaic Idealize.ShloMosaic.TcCoe Idealize.SL.Sem

variable (m : (ℓ : Loc nD τ sig) → Buf (Elt Ideal) ℓ) (c : Dev nD)

/-- Every window's block at a point: the matrix and the group of rows the point is for. -/
theorem idx : ∀ t : Fin cfg0.N, win0_0.index t = ![(grid0.coords t 0).val, 0, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- The first result is the gradient. -/
theorem grad_out : (dats m 0 c).arrAt 4 cfg0.N = four (m ((c : Thread nD τ).loc main_arg0)) := by
  refine (dats m 0 c).arrAt_eq_of_covers 4 _ (by decide +kernel) fun t _ y => ?_
  blk_simp
  rw [after0_4]; frame_out
  pointwise [k0_pay1, k0_pay5, four, slot]
  blk_point [iblk, V, idx t]

/-- The second result is the step of the weight. -/
theorem step_out : (dats m 0 c).arrAt 5 cfg0.N = step (four (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay2, k0_pay8, k0_pay9, k0_pay6, k0_pay7, k0_pay5, step, first, second, four, slot]
  blk_point [iblk, V, idx t]

/-- The third result is the new first moment. -/
theorem first_out : (dats m 0 c).arrAt 6 cfg0.N = first (four (m ((c : Thread nD τ).loc main_arg0)))
    (m ((c : Thread nD τ).loc main_arg2)) := by
  refine (dats m 0 c).arrAt_eq_of_covers 6 _ (by decide +kernel) fun t _ y => ?_
  blk_simp
  rw [after0_6]; frame_out
  pointwise [k0_pay3, k0_pay6, k0_pay5, first, four, slot]
  blk_point [iblk, V, idx t]

/-- The fourth result is the new second moment. -/
theorem second_out : (dats m 0 c).arrAt 7 cfg0.N = second (four (m ((c : Thread nD τ).loc main_arg0)))
    (m ((c : Thread nD τ).loc main_arg3)) := by
  refine (dats m 0 c).arrAt_eq_of_covers 7 _ (by decide +kernel) fun t _ y => ?_
  blk_simp
  rw [after0_7]; frame_out
  pointwise [k0_pay4, k0_pay7, k0_pay5, second, four, slot]
  blk_point [iblk, V, idx t]

/-- The call in floating point always ends, faults nowhere and leaves its arguments and semaphores as they were. -/
theorem frameP : Cert.quiescent_Mlp := fun m g _ => Cert.Mlp.Gen.frame m g
/-- The same over the extended reals. -/
theorem framePI : Cert.quiescent_MlpIdeal := fun m g _ => Cert.MlpIdeal.Gen.frame (F := Ideal) m g
/-- The plain formula over the extended reals always ends and leaves its arguments and semaphores as they were. -/
theorem frameRI : Cert.quiescent_MlpReferenceIdeal := fun m g _ =>
  (θ_run Cert.MlpReferenceIdeal.defs _ _).mono (fun r h => ⟨fun c => (h c).2.2.2.2, sem_eq_zero_of_no_sems (by decide) r.2⟩)
    (Cert.MlpReferenceIdeal.Value.run (F := Ideal) m g)

/-- Over the extended reals, the call and the plain formula give the same four results. -/
theorem value : Cert.algebraic_MlpIdeal_MlpReferenceIdeal := by
  intro m g m' g' _ hagree
  refine ⟨_, _, _, _, (θ_run Cert.MlpIdeal.defs _ _).mono (fun r h c =>
      ⟨(h c).1.trans (grad_out m c), (h c).2.1.trans (step_out m c), (h c).2.2.1.trans (first_out m c),
        (h c).2.2.2.1.trans (second_out m c), (h c).2.2.2.2⟩) (Cert.MlpIdeal.Value.run_blocks m g),
    (θ_run Cert.MlpReferenceIdeal.defs _ _).mono (fun r h c => ?_) (Cert.MlpReferenceIdeal.Value.run (F := Ideal) m' g')⟩
  obtain ⟨a0, a1, a2, a3⟩ := hagree c
  obtain ⟨h0, h1, h2, h3, kept⟩ := h c
  rw [sum_four, a0] at h0
  rw [sum_four, a0, a1, a2, a3] at h1
  rw [sum_four, a0, a2] at h2
  rw [sum_four, a0, a3] at h3
  exact ⟨h0, h1, h2, h3, kept⟩

end Adam.Mlp

end
-- ==== Proof.AdaClaims.lean ====
/- The step of the weight `ada_w`: what each grid point leaves in its blocks, put together to whole
   arrays, is the plain formula. -/
module

public import proofs.«01_k».proof.Defs
public import proofs.«01_k».proof.Proof.Adam
public import proofs.«01_k».proof.Proof.Gen.Ada.Frame
public import proofs.«01_k».proof.Proof.Gen.AdaIdeal.Value
public import proofs.«01_k».proof.Proof.Gen.AdaReferenceIdeal.Run

@[expose] public section

noncomputable section

namespace Adam.Ada

open Cert.AdaIdeal Cert.AdaIdeal.Gen Idealize.ShloMosaic Idealize.ShloMosaic.TcCoe Idealize.SL.Sem

variable (m : (ℓ : Loc nD τ sig) → Buf (Elt Ideal) ℓ) (c : Dev nD)

/-- Every window's block at a point: the matrix and the group of rows the point is for. -/
theorem idx : ∀ t : Fin cfg0.N, win0_0.index t = ![(grid0.coords t 0).val, 0, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- The first result is the gradient. -/
theorem grad_out : (dats m 0 c).arrAt 4 cfg0.N = slot (N := 1) (m ((c : Thread nD τ).loc main_arg0)) 0 := by
  refine (dats m 0 c).arrAt_eq_of_covers 4 _ (by decide +kernel) fun t _ y => ?_
  blk_simp
  rw [after0_4]; frame_out
  pointwise [k0_pay7, k0_pay4, slot]
  blk_point [iblk, V, idx t]

/-- The second result is the step of the weight. -/
theorem step_out : (dats m 0 c).arrAt 5 cfg0.N = step (slot (N := 1) (m ((c : Thread nD τ).loc main_arg0)) 0)
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay8, k0_pay5, k0_pay6, k0_pay4, step, first, second, slot]
  blk_point [iblk, V, idx t]

/-- The third result is the new first moment. -/
theorem first_out : (dats m 0 c).arrAt 6 cfg0.N = first (slot (N := 1) (m ((c : Thread nD τ).loc main_arg0)) 0)
    (m ((c : Thread nD τ).loc main_arg2)) := by
  refine (dats m 0 c).arrAt_eq_of_covers 6 _ (by decide +kernel) fun t _ y => ?_
  blk_simp
  rw [after0_6]; frame_out
  pointwise [k0_pay2, k0_pay5, k0_pay4, first, slot]
  blk_point [iblk, V, idx t]

/-- The fourth result is the new second moment. -/
theorem second_out : (dats m 0 c).arrAt 7 cfg0.N = second (slot (N := 1) (m ((c : Thread nD τ).loc main_arg0)) 0)
    (m ((c : Thread nD τ).loc main_arg3)) := by
  refine (dats m 0 c).arrAt_eq_of_covers 7 _ (by decide +kernel) fun t _ y => ?_
  blk_simp
  rw [after0_7]; frame_out
  pointwise [k0_pay3, k0_pay6, k0_pay4, second, slot]
  blk_point [iblk, V, idx t]

/-- The call in floating point always ends, faults nowhere and leaves its arguments and semaphores as they were. -/
theorem frameP : Cert.quiescent_Ada := fun m g _ => Cert.Ada.Gen.frame m g
/-- The same over the extended reals. -/
theorem framePI : Cert.quiescent_AdaIdeal := fun m g _ => Cert.AdaIdeal.Gen.frame (F := Ideal) m g
/-- The plain formula over the extended reals always ends and leaves its arguments and semaphores as they were. -/
theorem frameRI : Cert.quiescent_AdaReferenceIdeal := fun m g _ =>
  (θ_run Cert.AdaReferenceIdeal.defs _ _).mono (fun r h => ⟨fun c => (h c).2.2.2.2, sem_eq_zero_of_no_sems (by decide) r.2⟩)
    (Cert.AdaReferenceIdeal.Value.run (F := Ideal) m g)

/-- Over the extended reals, the call and the plain formula give the same four results. -/
theorem value : Cert.algebraic_AdaIdeal_AdaReferenceIdeal := by
  intro m g m' g' _ hagree
  refine ⟨_, _, _, _, (θ_run Cert.AdaIdeal.defs _ _).mono (fun r h c =>
      ⟨(h c).1.trans (grad_out m c), (h c).2.1.trans (step_out m c), (h c).2.2.1.trans (first_out m c),
        (h c).2.2.2.1.trans (second_out m c), (h c).2.2.2.2⟩) (Cert.AdaIdeal.Value.run_blocks m g),
    (θ_run Cert.AdaReferenceIdeal.defs _ _).mono (fun r h c => ?_) (Cert.AdaReferenceIdeal.Value.run (F := Ideal) m' g')⟩
  obtain ⟨a0, a1, a2, a3⟩ := hagree c
  obtain ⟨h0, h1, h2, h3, kept⟩ := h c
  rw [sum_one, a0] at h0
  rw [sum_one, a0, a1, a2, a3] at h1
  rw [sum_one, a0, a2] at h2
  rw [sum_one, a0, a3] at h3
  exact ⟨h0, h1, h2, h3, kept⟩

end Adam.Ada

end
-- ==== Proof.SmallClaims.lean ====
/- The step of the small weights, which lie packed in one array: what each grid point leaves in its blocks, put together to whole
   arrays, is the plain formula. -/
module

public import proofs.«01_k».proof.Defs
public import proofs.«01_k».proof.Proof.Adam
public import proofs.«01_k».proof.Proof.Gen.Small.Frame
public import proofs.«01_k».proof.Proof.Gen.SmallIdeal.Value
public import proofs.«01_k».proof.Proof.Gen.SmallReferenceIdeal.Run

@[expose] public section

noncomputable section

namespace Adam.Small

open Cert.SmallIdeal Cert.SmallIdeal.Gen Idealize.ShloMosaic Idealize.ShloMosaic.TcCoe Idealize.SL.Sem

variable (m : (ℓ : Loc nD τ sig) → Buf (Elt Ideal) ℓ) (c : Dev nD)

/-- Every window's block at a point: the matrix and the group of rows the point is for. -/
theorem idx : ∀ t : Fin cfg0.N, win0_0.index t = ![(grid0.coords t 0).val, 0, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- The first result is the gradient. -/
theorem grad_out : (dats m 0 c).arrAt 4 cfg0.N = slot (N := 1) (m ((c : Thread nD τ).loc main_arg0)) 0 := by
  refine (dats m 0 c).arrAt_eq_of_covers 4 _ (by decide +kernel) fun t _ y => ?_
  blk_simp
  rw [after0_4]; frame_out
  pointwise [k0_pay7, k0_pay4, slot]
  blk_point [iblk, V, idx t]

/-- The second result is the step of the weight. -/
theorem step_out : (dats m 0 c).arrAt 5 cfg0.N = step (slot (N := 1) (m ((c : Thread nD τ).loc main_arg0)) 0)
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay8, k0_pay5, k0_pay6, k0_pay4, step, first, second, slot]
  blk_point [iblk, V, idx t]

/-- The third result is the new first moment. -/
theorem first_out : (dats m 0 c).arrAt 6 cfg0.N = first (slot (N := 1) (m ((c : Thread nD τ).loc main_arg0)) 0)
    (m ((c : Thread nD τ).loc main_arg2)) := by
  refine (dats m 0 c).arrAt_eq_of_covers 6 _ (by decide +kernel) fun t _ y => ?_
  blk_simp
  rw [after0_6]; frame_out
  pointwise [k0_pay2, k0_pay5, k0_pay4, first, slot]
  blk_point [iblk, V, idx t]

/-- The fourth result is the new second moment. -/
theorem second_out : (dats m 0 c).arrAt 7 cfg0.N = second (slot (N := 1) (m ((c : Thread nD τ).loc main_arg0)) 0)
    (m ((c : Thread nD τ).loc main_arg3)) := by
  refine (dats m 0 c).arrAt_eq_of_covers 7 _ (by decide +kernel) fun t _ y => ?_
  blk_simp
  rw [after0_7]; frame_out
  pointwise [k0_pay3, k0_pay6, k0_pay4, second, slot]
  blk_point [iblk, V, idx t]

/-- The call in floating point always ends, faults nowhere and leaves its arguments and semaphores as they were. -/
theorem frameP : Cert.quiescent_Small := fun m g _ => Cert.Small.Gen.frame m g
/-- The same over the extended reals. -/
theorem framePI : Cert.quiescent_SmallIdeal := fun m g _ => Cert.SmallIdeal.Gen.frame (F := Ideal) m g
/-- The plain formula over the extended reals always ends and leaves its arguments and semaphores as they were. -/
theorem frameRI : Cert.quiescent_SmallReferenceIdeal := fun m g _ =>
  (θ_run Cert.SmallReferenceIdeal.defs _ _).mono (fun r h => ⟨fun c => (h c).2.2.2.2, sem_eq_zero_of_no_sems (by decide) r.2⟩)
    (Cert.SmallReferenceIdeal.Value.run (F := Ideal) m g)

/-- Over the extended reals, the call and the plain formula give the same four results. -/
theorem value : Cert.algebraic_SmallIdeal_SmallReferenceIdeal := by
  intro m g m' g' _ hagree
  refine ⟨_, _, _, _, (θ_run Cert.SmallIdeal.defs _ _).mono (fun r h c =>
      ⟨(h c).1.trans (grad_out m c), (h c).2.1.trans (step_out m c), (h c).2.2.1.trans (first_out m c),
        (h c).2.2.2.1.trans (second_out m c), (h c).2.2.2.2⟩) (Cert.SmallIdeal.Value.run_blocks m g),
    (θ_run Cert.SmallReferenceIdeal.defs _ _).mono (fun r h c => ?_) (Cert.SmallReferenceIdeal.Value.run (F := Ideal) m' g')⟩
  obtain ⟨a0, a1, a2, a3⟩ := hagree c
  obtain ⟨h0, h1, h2, h3, kept⟩ := h c
  rw [sum_one, a0] at h0
  rw [sum_one, a0, a1, a2, a3] at h1
  rw [sum_one, a0, a2] at h2
  rw [sum_one, a0, a3] at h3
  exact ⟨h0, h1, h2, h3, kept⟩

end Adam.Small

end
-- ==== Proof.Eight.lean ====
/-
# Gathering one array from all eight devices

Every device copies its array into its own place of the result and sends it to the same place on the other seven.
Eight copies read the array at once, so each holds it at a share of its own. The run is proved once for any such
call: an instance says which memrefs, semaphores, offsets and devices its text names, and that its body is these
operations.
-/
module

public import proofs.«01_k».proof.Proof.Deal
public import proofs.«01_k».proof.Proof.Lead
public import Idealize.ShloMosaic.Lib.SparseCore.Stream

@[expose] public section

set_option Elab.async false

noncomputable section

namespace Eight

open Idealize.ShloMosaic Exchange
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Cfg cellOf)

/-- The device `k` away. -/
def far (k d : Fin 8) : Fin 8 := ⟨d.val ^^^ k.val, (by decide : ∀ k d : Fin 8, d.val ^^^ k.val < 8) k d⟩
theorem far_far : ∀ k d, far k (far k d) = d := by decide
theorem far_zero : ∀ d, far 0 d = d := by decide
theorem far_inj : ∀ d k k', far k d = far k' d → k = k' := by decide
theorem far_surj : ∀ d r, ∃ k, far k d = r := by decide

/-- Seven choices by the copy's place. -/
def seven {α : Type} (x₁ x₂ x₃ x₄ x₅ x₆ x₇ : α) (k : Fin 7) : α := match k with
  | ⟨0, _⟩ => x₁
  | ⟨1, _⟩ => x₂
  | ⟨2, _⟩ => x₃
  | ⟨3, _⟩ => x₄
  | ⟨4, _⟩ => x₅
  | ⟨5, _⟩ => x₆
  | ⟨_ + 6, _⟩ => x₇

/-- What a call's text names: the array and the result, the offsets of a device's own place and of its peers' places,
its peers, and the semaphores. -/
structure Call (sig : RefSig) where
  s : Shape
  e : EltTy
  src : Memref sig .tc .hbm s e
  out : Memref sig .tc .hbm (Lead 8 s) e
  src_whole : src.IsWhole
  out_whole : out.IsWhole
  axes : 2 ≤ s.rank
  full : 0 < s.numel
  sq : (Lead 1 s).Squeezes s
  put : Fin 8 → Fin (s.rank + 1) → ℕ
  come : Fin 7 → Fin 8 → Fin (s.rank + 1) → ℕ
  dev : Fin 7 → Fin 8 → Fin 8
  put_eq : ∀ d, put d = lead s d.val
  come_eq : ∀ k d, come k d = lead s (far k.succ d).val
  dev_eq : ∀ k d, dev k d = far k.succ d
  left : Fin 7 → DmaSem sig
  came : Fin 7 → DmaSem sig
  made : DmaSem sig
  unit_eq : ∀ off h, (cutL out off h sq).view.dmaCredit = src.view.dmaCredit
  core : ∀ off h, (cutL out off h sq).view.ref.isScScratch = false

variable {τ : Topo} {sig : RefSig} {Val : EltTy → Type} (C : Call sig)

/-- The places of the copies in the result: of a device's own array and of its peers'. -/
abbrev Call.putCut (d : Fin 8) : Memref sig .tc .hbm C.s C.e := cutL C.out (C.put d) (inb_cutL (C.put_eq d) d.isLt) C.sq
abbrev Call.comeCut (k : Fin 7) (d : Fin 8) : Memref sig .tc .hbm C.s C.e := cutL C.out (C.come k d) (inb_cutL (C.come_eq k d) (far _ _).isLt) C.sq

/-- The units an array brings. -/
abbrev Call.unit : ℕ := C.src.view.dmaCredit

/-- The shares of the eight copies. -/
abbrev part (k : Fin 8) : PosShare TreeShare := piece fullShare 7 k

abbrev Call.plan : Plan 8 sig (Fin 7) (Fin 1) where
  peer k := far k.succ
  back k := far_far k.succ
  out _ d := ⟨.hbm, .hbm, C.s, C.e, C.src, C.putCut d⟩
  own _ d := ⟨.hbm, .hbm, C.s, C.e, C.src, C.putCut d⟩
  sS k := .dma (C.left k)
  rS k := .dma (C.came k)
  lS _ := .dma C.made
  N _ := C.unit
  M _ := C.unit
  amt _ _ := C.unit_eq _ _
  amtOwn _ _ := C.unit_eq _ _
  pos _ := View.dmaCredit_pos _ C.full
  posOwn _ := View.dmaCredit_pos _ C.full
  q k := part k.succ
  qOwn _ := part 0

theorem Call.exactS : C.src.view.WordExact := C.src_whole.wordExact
theorem Call.exactP (d) : (C.putCut d).view.WordExact := exact_cutL C.out C.out_whole C.axes _ _ _ _ (C.put_eq d)
theorem Call.exactC (k d) : (C.comeCut k d).view.WordExact := exact_cutL C.out C.out_whole C.axes _ _ _ _ (C.come_eq k d)
theorem Call.typed (k : Fin 7) (d n : Dev 8) : DmaTarget.Typed (nD := 8) (τ := τ) (p := .tc) Space.hbm (.dma (C.came k))
    (.remote (n.tc : Thread 8 τ) (C.putCut d) (.dma (C.left k)) (C.core _ _)) := ⟨⟨rfl, Or.inl rfl⟩, trivial⟩

/-! ## The operations of the body -/

section Ops

variable {Λ₀ : Labels}

def Call.copyOp (d : Dev 8) (_ : Fin 1) : TpuEff 8 τ sig Val Λ₀ .tc PUnit :=
  .enqueueDma C.src (.here (C.putCut d)) (.dma C.made) C.exactS (C.exactP d) ⟨Or.inl rfl, trivial⟩
def Call.sendOp (d : Dev 8) (k : Fin 7) : TpuEff 8 τ sig Val Λ₀ .tc PUnit :=
  .enqueueDma C.src (.remote (Dev.tc (nD := 8) (C.dev k d) : Thread 8 τ) (C.putCut d) (.dma (C.left k)) (C.core _ _)) (.dma (C.came k))
    C.exactS (C.exactP d) (C.typed k d _)
def Call.cameOp (d : Dev 8) (k : Fin 7) : TpuEff 8 τ sig Val Λ₀ .tc PUnit := .waitDma2 (C.came k) C.src (C.comeCut k d) C.exactS (C.exactC k d)
def Call.leftOp (d : Dev 8) (k : Fin 7) : TpuEff 8 τ sig Val Λ₀ .tc PUnit := .waitDma2 (C.left k) (C.putCut d) C.src (C.exactP d) C.exactS
def Call.madeOp (d : Dev 8) (_ : Fin 1) : TpuEff 8 τ sig Val Λ₀ .tc PUnit := .waitDma2 C.made C.src (C.putCut d) C.exactS (C.exactP d)

def all : List (Fin 7) := [0, 1, 2, 3, 4, 5, 6]

/-- The whole body on device `d`. -/
def Call.body (d : Dev 8) : Prog (TpuEff 8 τ sig Val Λ₀ .tc) PUnit :=
  wholeBody [0] all (C.copyOp d) (C.sendOp d) (C.cameOp d) (C.leftOp d) (C.madeOp d)

end Ops

/-! ## The arrays of a device -/

local notation "𝕄" => MT 8 τ sig Unit Val ℕ (UU sig 8 τ) ℕ

variable (m : (ℓ : Loc 8 τ sig) → Buf Val ℓ)

theorem whole_held {s : Shape} {e : EltTy} {M : Memref sig .tc .hbm s e} (hM : M.IsWhole) (c : Dev 8) (f : Buf Val (M.view.loc (c.tc : Thread 8 τ))) :
    (M.view.loc (c.tc : Thread 8 τ) ↦{fullShare} f : sProp 𝕄) = (M.view.loc (c.tc : Thread 8 τ) ↦[M.view.set]{fullShare} f) :=
  congrArg (fun S : Finset (Idx (M.view.loc (c.tc : Thread 8 τ))) => (M.view.loc (c.tc : Thread 8 τ) ↦[S]{fullShare} f : sProp 𝕄)) hM.set_eq_univ.symm

/-- What a device holds of its array: a share for each of its eight copies. -/
theorem Call.in_split (c : Dev 8) :
    (C.src.view.loc (c.tc : Thread 8 τ) ↦[C.src.view.set]{fullShare} m (C.src.view.loc (c.tc : Thread 8 τ)) : sProp 𝕄)
      = iprop(C.plan.ownSrc m 0 c ∗ bigSep Finset.univ fun k : Fin 7 => C.plan.srcPt m k c) := by
  rw [pointsTo_pieces _ _ 7 fullShare, bigSep_first]
  rfl

/-- What a device holds of the result: its own place and its peers'. -/
theorem Call.out_split (c : Dev 8) :
    (C.out.view.loc (c.tc : Thread 8 τ) ↦[C.out.view.set]{fullShare} m (C.out.view.loc (c.tc : Thread 8 τ)) : sProp 𝕄)
      = iprop(C.plan.ownDst m 0 c ∗ bigSep Finset.univ fun k : Fin 7 => C.plan.dstPt m k (far k.succ c) c) := by
  let K : Fin 8 → Finset (Lead 8 C.s).Idx := fun k =>
    (Rect.unit (s := Lead 8 C.s) (C.put (far k c)) (Lead 1 C.s).size (inb_cutL (C.put_eq (far k c)) (far k c).isLt)).set
  have hK : ∀ k i, i ∈ K k ↔ (i 0).val = (far k c).val := fun k i => mem_cutL (C.put_eq (far k c))
  rw [split_view C.out.view c K
    (fun t t' h => Finset.disjoint_left.2 fun i hi hi' => h (far_inj c t t' (Fin.ext (((hK t i).1 hi).symm.trans ((hK t' i).1 hi')))))
    (fun i => (far_surj c ⟨(i 0).val, (i 0).isLt⟩).imp fun k hk => (hK k i).2 (congrArg Fin.val hk).symm), bigSep_first]
  have hk (k : Fin 8) : (C.out.view.loc (c.tc : Thread 8 τ) ↦[(K k).map C.out.view.emb]{fullShare} m (C.out.view.loc (c.tc : Thread 8 τ)) : sProp 𝕄)
      = ((C.putCut (far k c)).view.loc (c.tc : Thread 8 τ) ↦[(C.putCut (far k c)).view.set]{fullShare} m ((C.putCut (far k c)).view.loc (c.tc : Thread 8 τ))) :=
    congrArg (fun S : Finset (Idx (C.out.view.loc (c.tc : Thread 8 τ))) => (C.out.view.loc (c.tc : Thread 8 τ) ↦[S]{fullShare} m (C.out.view.loc (c.tc : Thread 8 τ)) : sProp 𝕄))
      (set_cutL C.out (C.put (far k c)) _ C.sq).symm
  rw [hk 0, bigSep_congr fun k _ => hk (Fin.succ k), far_zero]
  rfl

theorem deal_out (A B C D : sProp 𝕄) : iprop((A ∗ B) ∗ C ∗ D) ⊢ iprop(B ∗ D ∗ A ∗ C) := by
  iintro ⟨⟨H1, H2⟩, H3, H4⟩
  isplitl [H2]; · iexact H2
  isplitl [H4]; · iexact H4
  isplitl [H1]; · iexact H1
  iexact H3

/-- A call with no other array is dealt to its copies. -/
theorem Call.split (hr : (Finset.univ.filter fun b : Ref sig .tc => ¬ b.isScoped) = {C.src.view.ref, C.out.view.ref}) (hne : C.src.view.ref ≠ C.out.view.ref)
    (c : Dev 8) : (unscopedBufs c (fun b => m ((c.tc : Thread 8 τ).loc b)) : sProp 𝕄)
      ⊢ iprop((bigSep Finset.univ fun k => C.plan.srcPt m k c) ∗ (bigSep Finset.univ fun k => C.plan.dstPt m k (C.plan.peer k c) c)
        ∗ bigSep Finset.univ fun i => iprop(C.plan.ownSrc m i c ∗ C.plan.ownDst m i c)) := by
  have one (Φ : Fin 1 → sProp 𝕄) : bigSep Finset.univ Φ = Φ 0 := by rw [Finset.univ_unique]; exact bigSep_singleton
  unfold unscopedBufs
  rw [hr, BI.bigSep_insert (by simpa using hne), bigSep_singleton]
  rw [whole_held C.src_whole c, whole_held C.out_whole c, C.in_split m c, C.out_split m c, bigSep_sep', one, one]
  exact deal_out _ _ _ _

/-! ## The run -/

theorem Call.runs {Λ₀ : Labels} {Pq : Type} [Fintype Pq] [DecidableEq Pq] (cfgs : Pq → Cfg sig Λ₀) (p : Pq) (defs₀ : Defs 8 τ sig Val Λ₀)
    [∀ e, Nonempty (Val e)] [∀ q, IsEmpty (Fin (cfgs q).W)] (hinj : Function.Injective (cellOf (nD := 8) (τ := τ) cfgs))
    (hw : Pipeline.WinFacts₀ (cfgs p).spec) (ho : Pipeline.OwnSemFacts (cfgs p).spec C.plan.sem)
    (hrest : ∀ c : Dev 8, (Pipeline.scopedRest (Ix := Unit) (Name := ℕ) (U := UU sig 8 τ) (Lvl := ℕ) (Val := Val) (cfgs p).spec c : sProp 𝕄) = iprop(emp))
    (hN : (cfgs p).N = 1) (g : Dev 8 → PrngReg)
    (main : Dev 8 → Prog (TpuEff 8 τ sig Val (Pipeline.Sig Λ₀ Pq fun q => ((cfgs q).toPCfg (Val := Val)).Adm) .tc) PUnit)
    (hmain : ∀ c, main c = .op (.customCall (Pipeline.entry p) ()) fun _ => .ret ⟨⟩)
    (hτ : ∀ c c' : Dev 8, τ.routes (c.tc : Thread 8 τ) (c'.tc : Thread 8 τ) = true)
    (hb : ∀ (c : Dev 8) (t : Fin (cfgs p).N) (Q : sProp 𝕄),
      (wp frame (wpE defs₀ Variants.none (c.tc : Thread 8 τ) none) Set.univ (.op .deviceId fun d => C.body d) fun _ => Q)
        ⊢ wp frame (wpE defs₀ Variants.none (c.tc : Thread 8 τ) none) Set.univ (defs₀ .tc (cfgs p).body ((cfgs p).bodyArgs t ((cfgs p).slots t))) fun _ => Q)
    (hr : (Finset.univ.filter fun b : Ref sig .tc => ¬ b.isScoped) = {C.src.view.ref, C.out.view.ref}) (hne : C.src.view.ref ≠ C.out.view.ref)
    (hs : ∀ sm : SemLoc sig, sm.isScoped .tc = true) :
    θ_run (tableOf cfgs defs₀) (onTc main) ⟨m, fun _ => 0, g⟩ (fun r => (∀ c, C.plan.After m c r.2) ∧ r.2.sem = fun _ => 0) := by
  refine (θ_run _ _ _).mono (fun r h => ⟨h.1, sem_eq_zero_of_scoped hs h.2⟩)
    (C.plan.runs m cfgs p defs₀ hinj hw ho hrest hN g main hmain hτ [0] (by decide) (by decide) all (by decide) (by decide)
      C.copyOp C.sendOp C.cameOp C.leftOp C.madeOp hb (fun c a => ⟨C.exactS, C.exactP c, ⟨Or.inl rfl, trivial⟩, rfl⟩)
      (fun c k => ⟨C.dev k c, C.dev_eq k c, C.core _ _, C.exactS, C.exactP _, C.typed k c _, rfl⟩)
      (fun c k K => ?_) (fun c k K => ?_) (fun c a K => ?_) (C.split m hr hne))
  · show waitSpec _ _ (.dma (C.came k)) (C.comeCut k c).view.dmaCredit K = _
    rw [C.unit_eq]; rfl
  · rfl
  · show waitSpec _ _ (.dma C.made) (C.putCut c).view.dmaCredit K = _
    rw [C.unit_eq]; rfl

/-! ## What the gathering leaves -/

section Lands

variable {C} {m} {c : Dev 8} {s : MemSt 8 τ sig Val}

/-- Slab `r` of the result is what device `r` holds. -/
theorem Call.lands (h : C.plan.After m c s) (r : Fin 8) (y : C.s.Idx) :
    C.out.view.read Val (s.mem (C.out.view.loc (c.tc : Thread 8 τ))) (atL r y)
      = C.src.view.read Val (m (C.src.view.loc (Dev.tc (nD := 8) r : Thread 8 τ))) y := by
  obtain ⟨k, rfl⟩ := far_surj c r
  refine Fin.cases ?_ (fun k => ?_) k
  · rw [far_zero]
    exact (read_cutL C.out (C.put c) _ C.sq c (C.put_eq c) _ y).symm.trans (congrFun (h.ownGot 0) y)
  · exact (read_cutL C.out (C.put (far k.succ c)) _ C.sq (far k.succ c) (C.put_eq _) _ y).symm.trans (congrFun (h.got k) y)

theorem Call.kept (h : C.plan.After m c s) :
    C.src.view.read Val (s.mem (C.src.view.loc (c.tc : Thread 8 τ))) = C.src.view.read Val (m (C.src.view.loc (c.tc : Thread 8 τ))) :=
  h.ownKept 0

/-- An array cut along its rows over all devices: its slabs gathered are its rows' blocks. -/
theorem all_gathered {α : Type} {a b n : ℕ} (f : (⟨3, ![8, a, b]⟩ : Shape).Idx → α) (x : (⟨2, ![n, b]⟩ : Shape).Idx → α)
    (hs : (⟨2, ![n, b]⟩ : Shape).ShapeCasts ⟨3, ![8, a, b]⟩) (hT : Layout.Tiles ⟨2, ![a, b]⟩ ⟨2, ![n, b]⟩ 0 8)
    (H : ∀ (r : Fin 8) y, f (atL (s := ⟨2, ![a, b]⟩) r y) = Layout.block ⟨2, ![a, b]⟩ ⟨2, ![n, b]⟩ 0 8 r x hT y) :
    f = shapeCast ⟨3, ![8, a, b]⟩ x hs := by
  refine extL (s := ⟨2, ![a, b]⟩) fun r y => (H r y).trans ?_
  refine (shapeCast_apply x hs _ _ ?_).symm
  rw [Shape.rowMajor_val_three, Shape.rowMajor_val_two]
  rfl

end Lands

end Eight
-- ==== Proof.CondClaims.lean ====
/- The gathering of the conditioning vectors from all devices: what its text names, and its claims. -/
module

public import proofs.«01_k».proof.Defs
public import proofs.«01_k».proof.Proof.Eight
public import proofs.«01_k».proof.Proof.Gen.Cond
public import proofs.«01_k».proof.Proof.Gen.CondIdeal.Launch
public import proofs.«01_k».proof.Proof.Gen.CondReferenceIdeal.Run

@[expose] public section

set_option Elab.async false

noncomputable section

namespace Eight.Cond

open Idealize.ShloMosaic Idealize.ShloMosaic.TcCoe Idealize.SL.Sem Exchange
open Cert.CondIdeal Cert.CondIdeal.Facts₀ Cert.CondIdeal.Facts

theorem inb_sem (k : Fin 7) : ∀ x, (![k.val] : Fin 1 → ℕ) x + S1.size x ≤ S7.size x := by revert k; decide
/-- The `k`-th of seven semaphores. -/
def nth (a : DmaSems sig S7) (k : Fin 7) : DmaSem sig := ((a.slice (Rect.unit (s := S7) ![k.val] S1.size (inb_sem k))).squeeze S_ squeezes_S1_S_).sem

/-- What the text of the call names. -/
def call : Call sig where
  s := ⟨2, ![8, 128]⟩
  e := .f32
  src := Memref.whole main_arg0
  out := Memref.whole main_v1
  src_whole := Memref.isWhole_whole _
  out_whole := Memref.isWhole_whole _
  axes := le_rfl
  full := by decide
  sq := by decide
  put := k0_off1
  come k d := seven (k0_off2 d) (k0_off3 d) (k0_off4 d) (k0_off5 d) (k0_off6 d) (k0_off7 d) (k0_off8 d) k
  dev k d := seven ⟨k0_dev1 d, k0_dev1_lt d⟩ ⟨k0_dev2 d, k0_dev2_lt d⟩ ⟨k0_dev3 d, k0_dev3_lt d⟩ ⟨k0_dev4 d, k0_dev4_lt d⟩
    ⟨k0_dev5 d, k0_dev5_lt d⟩ ⟨k0_dev6 d, k0_dev6_lt d⟩ ⟨k0_dev7 d, k0_dev7_lt d⟩ k
  put_eq := by decide +kernel
  come_eq := by decide +kernel
  dev_eq := by decide +kernel
  left := nth cc0_scratch0
  came := nth cc0_scratch1
  made := cc0_scratch2.sem
  unit_eq _ _ := rfl
  core _ _ := rfl

variable {F : FTy → Type} [FloatOps F]

theorem body_eq (t : Fin cfg0.N) (s) : (defs₀ (F := F)) .tc 0 (t, s) = .op .deviceId fun d => call.body d := by
  chain_rfl

theorem ownSems : Pipeline.OwnSemFacts cfg0.spec call.plan.sem := by decide +kernel

/-- The run of the call, over any float values. -/
theorem runs (m : (ℓ : Loc nD τ sig) → Buf (Elt F) ℓ) (g : Dev nD → PrngReg) :
    θ_run (defs (F := F)) (onTc (main (F := F))) ⟨m, fun _ => 0, g⟩ (fun r => (∀ c, call.plan.After m c r.2) ∧ r.2.sem = fun _ => 0) :=
  have : ∀ q : Fin 1, IsEmpty (Fin (cfgs q).W) := fun _ => (inferInstance : IsEmpty (Fin 0))
  call.runs m cfgs 0 defs₀ Gen.cellOf_inj Gen.winFacts0.to₀ ownSems Gen.scopedRest0_eq Gen.N_0 g main (fun _ => rfl) (fun _ _ => Topo.routes_tc _ _)
    (fun c t Q => by rw [show (defs₀ (F := F)) .tc (cfgs 0).body ((cfgs 0).bodyArgs t ((cfgs 0).slots t)) = _ from body_eq t _])
    (by decide) (by decide) (by decide)

theorem frameP : Cert.quiescent_Cond := fun m g _ =>
  (θ_run Cert.CondIdeal.defs _ _).mono (fun r h => ⟨fun c => by have k := Call.kept (h.1 c); exact k, h.2⟩) (runs (F := Bits) m g)
theorem framePI : Cert.quiescent_CondIdeal := fun m g _ =>
  (θ_run Cert.CondIdeal.defs _ _).mono (fun r h => ⟨fun c => by have k := Call.kept (h.1 c); exact k, h.2⟩) (runs (F := Ideal) m g)
theorem frameRI : Cert.quiescent_CondReferenceIdeal := fun m g _ =>
  (θ_run Cert.CondReferenceIdeal.defs _ _).mono (fun r h => ⟨fun c => (h c).2, sem_eq_zero_of_no_sems (by decide) r.2⟩)
    (Cert.CondReferenceIdeal.Value.run (F := Ideal) m g)

theorem value : Cert.algebraic_CondIdeal_CondReferenceIdeal := by
  intro m g m' g' _ hagree
  refine ⟨_, (θ_run Cert.CondIdeal.defs _ _).mono (fun r h c => ?_) (runs (F := Ideal) m g),
    (θ_run Cert.CondReferenceIdeal.defs _ _).mono (fun _ h => h 0) (Cert.CondReferenceIdeal.Value.run (F := Ideal) m' g')⟩
  exact ⟨all_gathered _ _ _ _ (fun r y => (Call.lands (h.1 c) r y).trans (congrFun (hagree r) y)), Call.kept (h.1 c)⟩

end Eight.Cond
-- ==== Proof.ModClaims.lean ====
/- The gathering of the modulations from all devices: what its text names, and its claims. -/
module

public import proofs.«01_k».proof.Defs
public import proofs.«01_k».proof.Proof.Eight
public import proofs.«01_k».proof.Proof.Gen.Mod
public import proofs.«01_k».proof.Proof.Gen.ModIdeal.Launch
public import proofs.«01_k».proof.Proof.Gen.ModReferenceIdeal.Run

@[expose] public section

set_option Elab.async false

noncomputable section

namespace Eight.Mod

open Idealize.ShloMosaic Idealize.ShloMosaic.TcCoe Idealize.SL.Sem Exchange
open Cert.ModIdeal Cert.ModIdeal.Facts₀ Cert.ModIdeal.Facts

theorem inb_sem (k : Fin 7) : ∀ x, (![k.val] : Fin 1 → ℕ) x + S1.size x ≤ S7.size x := by revert k; decide
/-- The `k`-th of seven semaphores. -/
def nth (a : DmaSems sig S7) (k : Fin 7) : DmaSem sig := ((a.slice (Rect.unit (s := S7) ![k.val] S1.size (inb_sem k))).squeeze S_ squeezes_S1_S_).sem

/-- What the text of the call names. -/
def call : Call sig where
  s := ⟨2, ![8, 6144]⟩
  e := .f32
  src := Memref.whole main_arg0
  out := Memref.whole main_v1
  src_whole := Memref.isWhole_whole _
  out_whole := Memref.isWhole_whole _
  axes := le_rfl
  full := by decide
  sq := by decide
  put := k0_off1
  come k d := seven (k0_off2 d) (k0_off3 d) (k0_off4 d) (k0_off5 d) (k0_off6 d) (k0_off7 d) (k0_off8 d) k
  dev k d := seven ⟨k0_dev1 d, k0_dev1_lt d⟩ ⟨k0_dev2 d, k0_dev2_lt d⟩ ⟨k0_dev3 d, k0_dev3_lt d⟩ ⟨k0_dev4 d, k0_dev4_lt d⟩
    ⟨k0_dev5 d, k0_dev5_lt d⟩ ⟨k0_dev6 d, k0_dev6_lt d⟩ ⟨k0_dev7 d, k0_dev7_lt d⟩ k
  put_eq := by decide +kernel
  come_eq := by decide +kernel
  dev_eq := by decide +kernel
  left := nth cc0_scratch0
  came := nth cc0_scratch1
  made := cc0_scratch2.sem
  unit_eq _ _ := rfl
  core _ _ := rfl

variable {F : FTy → Type} [FloatOps F]

theorem body_eq (t : Fin cfg0.N) (s) : (defs₀ (F := F)) .tc 0 (t, s) = .op .deviceId fun d => call.body d := by
  chain_rfl

theorem ownSems : Pipeline.OwnSemFacts cfg0.spec call.plan.sem := by decide +kernel

/-- The run of the call, over any float values. -/
theorem runs (m : (ℓ : Loc nD τ sig) → Buf (Elt F) ℓ) (g : Dev nD → PrngReg) :
    θ_run (defs (F := F)) (onTc (main (F := F))) ⟨m, fun _ => 0, g⟩ (fun r => (∀ c, call.plan.After m c r.2) ∧ r.2.sem = fun _ => 0) :=
  have : ∀ q : Fin 1, IsEmpty (Fin (cfgs q).W) := fun _ => (inferInstance : IsEmpty (Fin 0))
  call.runs m cfgs 0 defs₀ Gen.cellOf_inj Gen.winFacts0.to₀ ownSems Gen.scopedRest0_eq Gen.N_0 g main (fun _ => rfl) (fun _ _ => Topo.routes_tc _ _)
    (fun c t Q => by rw [show (defs₀ (F := F)) .tc (cfgs 0).body ((cfgs 0).bodyArgs t ((cfgs 0).slots t)) = _ from body_eq t _])
    (by decide) (by decide) (by decide)

theorem frameP : Cert.quiescent_Mod := fun m g _ =>
  (θ_run Cert.ModIdeal.defs _ _).mono (fun r h => ⟨fun c => by have k := Call.kept (h.1 c); exact k, h.2⟩) (runs (F := Bits) m g)
theorem framePI : Cert.quiescent_ModIdeal := fun m g _ =>
  (θ_run Cert.ModIdeal.defs _ _).mono (fun r h => ⟨fun c => by have k := Call.kept (h.1 c); exact k, h.2⟩) (runs (F := Ideal) m g)
theorem frameRI : Cert.quiescent_ModReferenceIdeal := fun m g _ =>
  (θ_run Cert.ModReferenceIdeal.defs _ _).mono (fun r h => ⟨fun c => (h c).2, sem_eq_zero_of_no_sems (by decide) r.2⟩)
    (Cert.ModReferenceIdeal.Value.run (F := Ideal) m g)

theorem value : Cert.algebraic_ModIdeal_ModReferenceIdeal := by
  intro m g m' g' _ hagree
  refine ⟨_, (θ_run Cert.ModIdeal.defs _ _).mono (fun r h c => ?_) (runs (F := Ideal) m g),
    (θ_run Cert.ModReferenceIdeal.defs _ _).mono (fun _ h => h 0) (Cert.ModReferenceIdeal.Value.run (F := Ideal) m' g')⟩
  exact ⟨all_gathered _ _ _ _ (fun r y => (Call.lands (h.1 c) r y).trans (congrFun (hagree r) y)), Call.kept (h.1 c)⟩

end Eight.Mod
-- ==== Proof.GradsClaims.lean ====
/- The gathering of the small weights' packed gradients from all devices: what its text names, and its claims. -/
module

public import proofs.«01_k».proof.Defs
public import proofs.«01_k».proof.Proof.Eight
public import proofs.«01_k».proof.Proof.Gen.Grads
public import proofs.«01_k».proof.Proof.Gen.GradsIdeal.Launch
public import proofs.«01_k».proof.Proof.Gen.GradsReferenceIdeal.Run

@[expose] public section

set_option Elab.async false

noncomputable section

namespace Eight.Grads

open Idealize.ShloMosaic Idealize.ShloMosaic.TcCoe Idealize.SL.Sem Exchange
open Cert.GradsIdeal Cert.GradsIdeal.Facts₀ Cert.GradsIdeal.Facts

theorem inb_sem (k : Fin 7) : ∀ x, (![k.val] : Fin 1 → ℕ) x + S1.size x ≤ S7.size x := by revert k; decide
/-- The `k`-th of seven semaphores. -/
def nth (a : DmaSems sig S7) (k : Fin 7) : DmaSem sig := ((a.slice (Rect.unit (s := S7) ![k.val] S1.size (inb_sem k))).squeeze S_ squeezes_S1_S_).sem

/-- What the text of the call names. -/
def call : Call sig where
  s := ⟨2, ![920, 128]⟩
  e := .f32
  src := Memref.whole main_arg0
  out := Memref.whole main_v1
  src_whole := Memref.isWhole_whole _
  out_whole := Memref.isWhole_whole _
  axes := le_rfl
  full := by decide
  sq := by decide
  put := k0_off1
  come k d := seven (k0_off2 d) (k0_off3 d) (k0_off4 d) (k0_off5 d) (k0_off6 d) (k0_off7 d) (k0_off8 d) k
  dev k d := seven ⟨k0_dev1 d, k0_dev1_lt d⟩ ⟨k0_dev2 d, k0_dev2_lt d⟩ ⟨k0_dev3 d, k0_dev3_lt d⟩ ⟨k0_dev4 d, k0_dev4_lt d⟩
    ⟨k0_dev5 d, k0_dev5_lt d⟩ ⟨k0_dev6 d, k0_dev6_lt d⟩ ⟨k0_dev7 d, k0_dev7_lt d⟩ k
  put_eq := by decide +kernel
  come_eq := by decide +kernel
  dev_eq := by decide +kernel
  left := nth cc0_scratch0
  came := nth cc0_scratch1
  made := cc0_scratch2.sem
  unit_eq _ _ := rfl
  core _ _ := rfl

variable {F : FTy → Type} [FloatOps F]

theorem body_eq (t : Fin cfg0.N) (s) : (defs₀ (F := F)) .tc 0 (t, s) = .op .deviceId fun d => call.body d := by
  chain_rfl

theorem ownSems : Pipeline.OwnSemFacts cfg0.spec call.plan.sem := by decide +kernel

/-- The run of the call, over any float values. -/
theorem runs (m : (ℓ : Loc nD τ sig) → Buf (Elt F) ℓ) (g : Dev nD → PrngReg) :
    θ_run (defs (F := F)) (onTc (main (F := F))) ⟨m, fun _ => 0, g⟩ (fun r => (∀ c, call.plan.After m c r.2) ∧ r.2.sem = fun _ => 0) :=
  have : ∀ q : Fin 1, IsEmpty (Fin (cfgs q).W) := fun _ => (inferInstance : IsEmpty (Fin 0))
  call.runs m cfgs 0 defs₀ Gen.cellOf_inj Gen.winFacts0.to₀ ownSems Gen.scopedRest0_eq Gen.N_0 g main (fun _ => rfl) (fun _ _ => Topo.routes_tc _ _)
    (fun c t Q => by rw [show (defs₀ (F := F)) .tc (cfgs 0).body ((cfgs 0).bodyArgs t ((cfgs 0).slots t)) = _ from body_eq t _])
    (by decide) (by decide) (by decide)

theorem frameP : Cert.quiescent_Grads := fun m g _ =>
  (θ_run Cert.GradsIdeal.defs _ _).mono (fun r h => ⟨fun c => by have k := Call.kept (h.1 c); exact k, h.2⟩) (runs (F := Bits) m g)
theorem framePI : Cert.quiescent_GradsIdeal := fun m g _ =>
  (θ_run Cert.GradsIdeal.defs _ _).mono (fun r h => ⟨fun c => by have k := Call.kept (h.1 c); exact k, h.2⟩) (runs (F := Ideal) m g)
theorem frameRI : Cert.quiescent_GradsReferenceIdeal := fun m g _ =>
  (θ_run Cert.GradsReferenceIdeal.defs _ _).mono (fun r h => ⟨fun c => (h c).2, sem_eq_zero_of_no_sems (by decide) r.2⟩)
    (Cert.GradsReferenceIdeal.Value.run (F := Ideal) m g)

theorem value : Cert.algebraic_GradsIdeal_GradsReferenceIdeal := by
  intro m g m' g' _ hagree
  refine ⟨_, (θ_run Cert.GradsIdeal.defs _ _).mono (fun r h c => ?_) (runs (F := Ideal) m g),
    (θ_run Cert.GradsReferenceIdeal.defs _ _).mono (fun _ h => h 0) (Cert.GradsReferenceIdeal.Value.run (F := Ideal) m' g')⟩
  exact ⟨all_gathered _ _ _ _ (fun r y => (Call.lands (h.1 c) r y).trans (congrFun (hagree r) y)), Call.kept (h.1 c)⟩

end Eight.Grads
-- ==== Proof.AddClaims.lean ====
/- The sums of the two devices' gradients of a chip: element by element, at the shapes of the five kinds of weights. -/
module

public import proofs.«01_k».proof.Defs
public import proofs.«01_k».proof.Proof.Gen.AddPwOne.Frame
public import proofs.«01_k».proof.Proof.Gen.AddPwOneIdeal.Value
public import proofs.«01_k».proof.Proof.Gen.AddPwOneReferenceIdeal.Run
public import proofs.«01_k».proof.Proof.Gen.AddPwTwo.Frame
public import proofs.«01_k».proof.Proof.Gen.AddPwTwoIdeal.Value
public import proofs.«01_k».proof.Proof.Gen.AddPwTwoReferenceIdeal.Run
public import proofs.«01_k».proof.Proof.Gen.AddRetIn.Frame
public import proofs.«01_k».proof.Proof.Gen.AddRetInIdeal.Value
public import proofs.«01_k».proof.Proof.Gen.AddRetInReferenceIdeal.Run
public import proofs.«01_k».proof.Proof.Gen.AddRetOut.Frame
public import proofs.«01_k».proof.Proof.Gen.AddRetOutIdeal.Value
public import proofs.«01_k».proof.Proof.Gen.AddRetOutReferenceIdeal.Run
public import proofs.«01_k».proof.Proof.Gen.AddMlp.Frame
public import proofs.«01_k».proof.Proof.Gen.AddMlpIdeal.Value
public import proofs.«01_k».proof.Proof.Gen.AddMlpReferenceIdeal.Run

@[expose] public section

noncomputable section

namespace Sums

open Idealize.ShloMosaic Idealize.ShloMosaic.TcCoe Idealize.SL.Sem

theorem AddPwOne.frameP : Cert.quiescent_AddPwOne := fun m g _ => Cert.AddPwOne.Gen.frame m g
theorem AddPwOne.framePI : Cert.quiescent_AddPwOneIdeal := fun m g _ => Cert.AddPwOneIdeal.Gen.frame (F := Ideal) m g
theorem AddPwOne.frameRI : Cert.quiescent_AddPwOneReferenceIdeal := fun m g _ =>
  (θ_run Cert.AddPwOneReferenceIdeal.defs _ _).mono (fun r h => ⟨fun c => (h c).2, sem_eq_zero_of_no_sems (by decide) r.2⟩)
    (Cert.AddPwOneReferenceIdeal.Value.run (F := Ideal) m g)
theorem AddPwOne.value : Cert.algebraic_AddPwOneIdeal_AddPwOneReferenceIdeal := fun m g m' g' _ a =>
  ⟨_, Cert.AddPwOneIdeal.Value.run m g, (θ_run Cert.AddPwOneReferenceIdeal.defs _ _).mono
    (fun r h c => ⟨(h c).1.trans (congrArg₂ addf (a c).1 (a c).2), (h c).2⟩) (Cert.AddPwOneReferenceIdeal.Value.run (F := Ideal) m' g')⟩

theorem AddPwTwo.frameP : Cert.quiescent_AddPwTwo := fun m g _ => Cert.AddPwTwo.Gen.frame m g
theorem AddPwTwo.framePI : Cert.quiescent_AddPwTwoIdeal := fun m g _ => Cert.AddPwTwoIdeal.Gen.frame (F := Ideal) m g
theorem AddPwTwo.frameRI : Cert.quiescent_AddPwTwoReferenceIdeal := fun m g _ =>
  (θ_run Cert.AddPwTwoReferenceIdeal.defs _ _).mono (fun r h => ⟨fun c => (h c).2, sem_eq_zero_of_no_sems (by decide) r.2⟩)
    (Cert.AddPwTwoReferenceIdeal.Value.run (F := Ideal) m g)
theorem AddPwTwo.value : Cert.algebraic_AddPwTwoIdeal_AddPwTwoReferenceIdeal := fun m g m' g' _ a =>
  ⟨_, Cert.AddPwTwoIdeal.Value.run m g, (θ_run Cert.AddPwTwoReferenceIdeal.defs _ _).mono
    (fun r h c => ⟨(h c).1.trans (congrArg₂ addf (a c).1 (a c).2), (h c).2⟩) (Cert.AddPwTwoReferenceIdeal.Value.run (F := Ideal) m' g')⟩

theorem AddRetIn.frameP : Cert.quiescent_AddRetIn := fun m g _ => Cert.AddRetIn.Gen.frame m g
theorem AddRetIn.framePI : Cert.quiescent_AddRetInIdeal := fun m g _ => Cert.AddRetInIdeal.Gen.frame (F := Ideal) m g
theorem AddRetIn.frameRI : Cert.quiescent_AddRetInReferenceIdeal := fun m g _ =>
  (θ_run Cert.AddRetInReferenceIdeal.defs _ _).mono (fun r h => ⟨fun c => (h c).2, sem_eq_zero_of_no_sems (by decide) r.2⟩)
    (Cert.AddRetInReferenceIdeal.Value.run (F := Ideal) m g)
theorem AddRetIn.value : Cert.algebraic_AddRetInIdeal_AddRetInReferenceIdeal := fun m g m' g' _ a =>
  ⟨_, Cert.AddRetInIdeal.Value.run m g, (θ_run Cert.AddRetInReferenceIdeal.defs _ _).mono
    (fun r h c => ⟨(h c).1.trans (congrArg₂ addf (a c).1 (a c).2), (h c).2⟩) (Cert.AddRetInReferenceIdeal.Value.run (F := Ideal) m' g')⟩

theorem AddRetOut.frameP : Cert.quiescent_AddRetOut := fun m g _ => Cert.AddRetOut.Gen.frame m g
theorem AddRetOut.framePI : Cert.quiescent_AddRetOutIdeal := fun m g _ => Cert.AddRetOutIdeal.Gen.frame (F := Ideal) m g
theorem AddRetOut.frameRI : Cert.quiescent_AddRetOutReferenceIdeal := fun m g _ =>
  (θ_run Cert.AddRetOutReferenceIdeal.defs _ _).mono (fun r h => ⟨fun c => (h c).2, sem_eq_zero_of_no_sems (by decide) r.2⟩)
    (Cert.AddRetOutReferenceIdeal.Value.run (F := Ideal) m g)
theorem AddRetOut.value : Cert.algebraic_AddRetOutIdeal_AddRetOutReferenceIdeal := fun m g m' g' _ a =>
  ⟨_, Cert.AddRetOutIdeal.Value.run m g, (θ_run Cert.AddRetOutReferenceIdeal.defs _ _).mono
    (fun r h c => ⟨(h c).1.trans (congrArg₂ addf (a c).1 (a c).2), (h c).2⟩) (Cert.AddRetOutReferenceIdeal.Value.run (F := Ideal) m' g')⟩

theorem AddMlp.frameP : Cert.quiescent_AddMlp := fun m g _ => Cert.AddMlp.Gen.frame m g
theorem AddMlp.framePI : Cert.quiescent_AddMlpIdeal := fun m g _ => Cert.AddMlpIdeal.Gen.frame (F := Ideal) m g
theorem AddMlp.frameRI : Cert.quiescent_AddMlpReferenceIdeal := fun m g _ =>
  (θ_run Cert.AddMlpReferenceIdeal.defs _ _).mono (fun r h => ⟨fun c => (h c).2, sem_eq_zero_of_no_sems (by decide) r.2⟩)
    (Cert.AddMlpReferenceIdeal.Value.run (F := Ideal) m g)
theorem AddMlp.value : Cert.algebraic_AddMlpIdeal_AddMlpReferenceIdeal := fun m g m' g' _ a =>
  ⟨_, Cert.AddMlpIdeal.Value.run m g, (θ_run Cert.AddMlpReferenceIdeal.defs _ _).mono
    (fun r h c => ⟨(h c).1.trans (congrArg₂ addf (a c).1 (a c).2), (h c).2⟩) (Cert.AddMlpReferenceIdeal.Value.run (F := Ideal) m' g')⟩

end Sums

end
-- ==== Proof.Rows.lean ====
/- The passes over rows as functions of whole arrays over the extended reals: the norm of a row, its modulation, and
   their gradients. -/
module

public import Idealize.ShloMosaic.Lib.Pipeline.ValueKit
public import Idealize.ShloMosaic.Lib.IdealHost
public import Idealize.ShloMosaic.Lib.Pipeline.ValueKit.Tiles
public import Idealize.ShloMosaic.Lib.WritesUnit
public import Idealize.ShloMosaic.Lib.Pipeline.ReadBack

@[expose] public section

noncomputable section

namespace Rows

open Idealize.ShloMosaic

/-- An array of 8192 rows of the model's width. -/
abbrev Mat : Type := FVec Ideal ⟨2, ![8192, 1024]⟩ .f32
/-- The eight rows of vectors that a call takes. -/
abbrev Vecs : Type := FVec Ideal ⟨2, ![8, 1024]⟩ .f32

/-- The array after a residual step: `x + gate * y`. -/
def res (x y : Mat) (v : Vecs) : Mat := fun i => x i + v (ix2 0 (i 1)) * y i

/-- One row. -/
abbrev Row : Type := Fin 1024 → Ideal .f32

/-- The mean square of a row, and the small constant. -/
def ms (x : Row) : Ideal .f32 :=
  FloatOps.divf (∑ k : Fin 1024, x k * x k) (Scalar.ofBits .f32 0x44800000#32) + Scalar.ofBits .f32 0x358637BD#32

/-- A row over its root mean square. -/
def unit (x : Row) : Row := fun d => x d * FloatOps.rsqrt (ms x)

/-- The modulated norm: the row over its root mean square, times the gain and one plus the scale, plus the shift. -/
def modnorm (x g b s : Row) : Row := fun d => unit x d * g d * (Scalar.ofBits .f32 0x3F800000#32 + s d) + b d

/-- A row's share of the change of its root mean square, given the cotangent `p` of the row over it. -/
def pull (x p : Row) : Ideal .f32 :=
  FloatOps.divf ((∑ k : Fin 1024, x k * p k)
    * (Scalar.ofBits .f32 0xBF000000#32 * FloatOps.divf (FloatOps.rsqrt (ms x)) (ms x))) (Scalar.ofBits .f32 0x44800000#32)

/-- The gradient of the row over its root mean square, at the cotangent `p`. -/
def back (x p : Row) : Row := fun d => p d * FloatOps.rsqrt (ms x) + x d * pull x p + pull x p * x d

/-- The last norm's distance from the target. -/
def err (x t g : Row) : Row := fun d => unit x d * g d - t d

/-- The loss's gradient at the last norm. -/
def cot (x t g : Row) : Row := fun d => err x t g d * Scalar.ofBits .f32 0x3A800000#32

/-- The loss's gradient at the last layer's row. -/
def last (x t g : Row) : Row := back x (fun k => cot x t g k * g k)

/-- A row of an array. -/
abbrev row {n : ℕ} (x : FVec Ideal ⟨2, ![n, 1024]⟩ .f32) (r : Fin n) : Row := fun d => x (ix2 r d)

/-- The same values as an array of the narrower type; over the extended reals nothing is lost. -/
def narrow (x : Mat) : FVec Ideal ⟨2, ![8192, 1024]⟩ .bf16 := fun i => FloatOps.truncf .bf16 (by decide) (x i : Ideal .f32)

/-- The modulated norm of every row. -/
def modnorms (x : Mat) (v : Vecs) : Mat := fun i => modnorm (row x (i 0)) (row v 1) (row v 2) (row v 3) (i 1)

/-! ## Constants, and the rows of a result -/

/-- The printed constants, as numbers. -/
theorem c_half : Ideal.ofBits .f32 0x3F000000#32 = ((1 / 2 : ℝ) : EReal) := by simp [Ideal.ofBits, Ideal.ieee, -EReal.coe_mul]; norm_num
theorem c_two : Ideal.ofBits .f32 0x40000000#32 = ((2 : ℝ) : EReal) := by simp [Ideal.ofBits, Ideal.ieee, -EReal.coe_mul]; norm_num
theorem c_size : Ideal.ofBits .f32 0x44800000#32 = ((1024 : ℝ) : EReal) := by simp [Ideal.ofBits, Ideal.ieee, -EReal.coe_mul]; norm_num
theorem c_inv : Ideal.ofBits .f32 0x3A800000#32 = ((1 / 1024 : ℝ) : EReal) := by simp [Ideal.ofBits, Ideal.ieee, -EReal.coe_mul]; norm_num
theorem c_halfinv : Ideal.ofBits .f32 0x3A000000#32 = ((1 / 2048 : ℝ) : EReal) := by simp [Ideal.ofBits, Ideal.ieee, -EReal.coe_mul]; norm_num

theorem div_size (x : EReal) : Ideal.div x (Ideal.ofBits .f32 0x44800000#32) = x * ((1 / 1024 : ℝ) : EReal) := by
  rw [c_size, Ideal.div, if_neg (by norm_num), ← EReal.coe_inv]
  norm_num

theorem half_twice' (e : EReal) :
    Ideal.div (Ideal.ofBits .f32 0x3F000000#32) (Ideal.ofBits .f32 0x44800000#32)
      * (Ideal.ofBits .f32 0x40000000#32 * e) = (e * Ideal.ofBits .f32 0x3A800000#32) := by
  rw [div_size, c_half, c_two, c_inv, ← mul_assoc, ← EReal.coe_mul, ← EReal.coe_mul, mul_comm e]
  norm_num

/-- A constant of no sign goes through a sum. -/
theorem scale_sum {ι : Type} (s : Finset ι) (c : ℝ) (hc : 0 ≤ c) (f : ι → EReal) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The channels' squares: halved after the sum or in each part. -/
theorem channel (f : Fin 8192 → EReal) :
    Ideal.ofBits .f32 0x3F000000#32 * ∑ r : Fin 8192, Ideal.div (f r) (Ideal.ofBits .f32 0x44800000#32)
      = (∑ r : Fin 8192, f r) * Ideal.ofBits .f32 0x3A000000#32 := by
  simp only [div_size]
  rw [← scale_sum _ _ (by norm_num), c_half, c_halfinv, mul_comm, mul_assoc, ← EReal.coe_mul]
  norm_num

/-- Eight rows put together, read at a row. -/
theorem rows8 (u0 u1 u2 u3 u4 u5 u6 u7 : FVec Ideal ⟨2, ![1, 1024]⟩ .f32) (h) (k : Fin 8) (d : Fin 1024) :
    concatenate (⟨2, ![8, 1024]⟩ : Shape) 0 [⟨⟨2, ![1, 1024]⟩, u0⟩, ⟨⟨2, ![1, 1024]⟩, u1⟩, ⟨⟨2, ![1, 1024]⟩, u2⟩, ⟨⟨2, ![1, 1024]⟩, u3⟩,
      ⟨⟨2, ![1, 1024]⟩, u4⟩, ⟨⟨2, ![1, 1024]⟩, u5⟩, ⟨⟨2, ![1, 1024]⟩, u6⟩, ⟨⟨2, ![1, 1024]⟩, u7⟩] h (ix2 k d)
      = (![u0, u1, u2, u3, u4, u5, u6, u7] : Fin 8 → FVec Ideal ⟨2, ![1, 1024]⟩ .f32) k (ix2 (0 : Fin 1) d) :=
  concatenate_ofFn_unit_apply (t := ⟨2, ![8, 1024]⟩) (s₁ := ⟨2, ![1, 1024]⟩) 0
    (![u0, u1, u2, u3, u4, u5, u6, u7] : Fin 8 → FVec Ideal ⟨2, ![1, 1024]⟩ .f32) h rfl rfl (ix2 k d) k rfl (ix2 (0 : Fin 1) d)
    (Fin.forall_fin_two.mpr ⟨fun hb => absurd rfl hb, fun _ => rfl⟩)

/-! ## Sums kept in the rows of one block -/

section Sums

variable {Val : EltTy → Type} {sig : RefSig} {κ : Kind} {sp : Space} {e : EltTy}

/-- The shape of the sums' block. -/
abbrev S8 : Shape := ⟨2, ![8, 1024]⟩

/-- A row just stored reads what was stored. -/
theorem on_row (v : View sig κ sp S8 e) (f : v.ty.Contents Val) (o : ℕ) (inb : ∀ a : Fin 2, (![o, 0] : Fin 2 → ℕ) a + (![1, 1024] : Fin 2 → ℕ) a ≤ (![8, 1024] : Fin 2 → ℕ) a)
    (w : (Rect.unit (s := S8) ![o, 0] ![1, 1024] inb).shape.Idx → Val e) (L : List (View.Piece Val S8 e)) (k : Fin 8) (d : Fin 1024) (hk : k.val = o) :
    v.read Val (v.writes Val f ((⟨Rect.unit (s := S8) ![o, 0] ![1, 1024] inb, w⟩ : View.Piece Val S8 e) :: L)) (ix2 k d)
      = w (ix2 (0 : Fin 1) d) :=
  View.read_writes_cons_rows_of_mem v f inb w L (ix2 k d) (ix2 (0 : Fin 1) d) rfl (by simpa using hk) rfl

/-- Another row reads what was there. -/
theorem off_row (v : View sig κ sp S8 e) (f : v.ty.Contents Val) (o : ℕ) (inb : ∀ a : Fin 2, (![o, 0] : Fin 2 → ℕ) a + (![1, 1024] : Fin 2 → ℕ) a ≤ (![8, 1024] : Fin 2 → ℕ) a)
    (w : (Rect.unit (s := S8) ![o, 0] ![1, 1024] inb).shape.Idx → Val e) (L : List (View.Piece Val S8 e)) (k : Fin 8) (d : Fin 1024) (hk : ¬k.val = o) :
    v.read Val (v.writes Val f ((⟨Rect.unit (s := S8) ![o, 0] ![1, 1024] inb, w⟩ : View.Piece Val S8 e) :: L)) (ix2 k d)
      = v.read Val (v.writes Val f L) (ix2 k d) :=
  View.read_writes_cons_rows_of_not_mem (W := 1) v f inb w L (ix2 k d) rfl rfl
    (by show k.val < o ∨ o + 1 ≤ k.val; omega)

variable [∀ e, Nonempty (Val e)]

/-- The same of a block that is first filled. -/
theorem canon_on (o : ℕ) (inb : ∀ a : Fin 2, (![o, 0] : Fin 2 → ℕ) a + (![1, 1024] : Fin 2 → ℕ) a ≤ (![8, 1024] : Fin 2 → ℕ) a)
    (w : (Rect.unit (s := S8) ![o, 0] ![1, 1024] inb).shape.Idx → Val e) (L : List (View.Piece Val S8 e)) (k : Fin 8) (d : Fin 1024) (hk : k.val = o) :
    View.canon ((⟨Rect.unit (s := S8) ![o, 0] ![1, 1024] inb, w⟩ : View.Piece Val S8 e) :: L) (ix2 k d) = w (ix2 (0 : Fin 1) d) := by
  have h : (Rect.unit (s := S8) ![o, 0] ![1, 1024] inb).emb (ix2 (0 : Fin 1) d) = ix2 k d := by
    refine funext fun (a : Fin 2) => Fin.ext ?_
    have h1 : ((Rect.unit (s := S8) ![o, 0] ![1, 1024] inb).emb (ix2 (0 : Fin 1) d) a : ℕ) = (![o, 0] : Fin 2 → ℕ) a + (ix2 (0 : Fin 1) d a : ℕ) :=
      Rect.idx_unit_val (s := S8) _ _ inb (ix2 (0 : Fin 1) d) a
    refine h1.trans ?_
    revert a
    exact Fin.forall_fin_two.mpr ⟨fun _ => by simpa using hk.symm, fun _ => by simp⟩
  rw [← h, View.canon_cons_emb]

theorem canon_off (o : ℕ) (inb : ∀ a : Fin 2, (![o, 0] : Fin 2 → ℕ) a + (![1, 1024] : Fin 2 → ℕ) a ≤ (![8, 1024] : Fin 2 → ℕ) a)
    (w : (Rect.unit (s := S8) ![o, 0] ![1, 1024] inb).shape.Idx → Val e) (L : List (View.Piece Val S8 e)) (k : Fin 8) (d : Fin 1024) (hk : ¬k.val = o) :
    View.canon ((⟨Rect.unit (s := S8) ![o, 0] ![1, 1024] inb, w⟩ : View.Piece Val S8 e) :: L) (ix2 k d) = View.canon L (ix2 k d) := by
  refine View.canon_cons_of_not_mem _ L fun h => hk ?_
  have h1 : o ≤ k.val ∧ k.val < o + 1 := (Rect.mem_set_unit (inb := inb) (i := ix2 k d)).mp h (0 : Fin 2)
  omega

/-- A row loaded from the block. -/
theorem ld_row (X : S8.Idx → Val e) (o : ℕ) (inb : ∀ a : Fin 2, (![o, 0] : Fin 2 → ℕ) a + (![1, 1024] : Fin 2 → ℕ) a ≤ (![8, 1024] : Fin 2 → ℕ) a)
    (k : Fin 8) (d : Fin 1024) (hk : k.val = o) :
    View.ld X (Rect.unit (s := S8) ![o, 0] ![1, 1024] inb) (ix2 (0 : Fin 1) d) = X (ix2 k d) :=
  View.ld_unit_apply_of X _ _ _ _ _ (Fin.forall_fin_two.mpr ⟨by simpa using hk, by simp⟩)

end Sums

end Rows

end
-- ==== Proof.RowFwdClaims.lean ====
/- The forward pass over rows: what each grid point leaves in its blocks, put together to whole arrays. -/
module

public import proofs.«01_k».proof.Defs
public import proofs.«01_k».proof.Proof.Rows
public import proofs.«01_k».proof.Proof.Gen.RowFwd.Frame
public import proofs.«01_k».proof.Proof.Gen.RowFwdIdeal.Value
public import proofs.«01_k».proof.Proof.Gen.RowFwdReferenceIdeal.Run

@[expose] public section

noncomputable section

namespace Rows.RowFwd

open Cert.RowFwdIdeal Cert.RowFwdIdeal.Gen Idealize.ShloMosaic Idealize.ShloMosaic.TcCoe Idealize.SL.Sem

variable (m : (ℓ : Loc nD τ sig) → Buf (Elt Ideal) ℓ) (c : Dev nD)

/-- Every window's block at a point: the group of rows the point is for; the vectors are one block. -/
theorem idx : ∀ t : Fin cfg0.N, win0_0.index t = ![t.val, 0] ∧ win0_1.index t = ![t.val, 0]
    ∧ win0_2.index t = ![0, 0] ∧ win0_3.index t = ![t.val, 0] ∧ win0_4.index t = ![t.val, 0] :=
  (by decide +kernel : ∀ t : Fin grid0.N, _)

/-- The first result is the array after the residual step. -/
theorem res_out : (dats m 0 c).arrAt 3 cfg0.N = res (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, res]
  blk_point [iblk, V, idx t]

/-- The second result is its modulated norm. -/
theorem norm_out : (dats m 0 c).arrAt 4 cfg0.N = narrow (modnorms (res (m ((c : Thread nD τ).loc main_arg0))
    (m ((c : Thread nD τ).loc main_arg1)) (m ((c : Thread nD τ).loc main_arg2))) (m ((c : Thread nD τ).loc main_arg2))) := by
  refine (dats m 0 c).arrAt_eq_of_covers 4 _ (by decide +kernel) fun t _ y => ?_
  blk_simp
  rw [after0_4]; frame_out
  pointwise [k0_pay1, k0_pay2, res, narrow, modnorms, modnorm, row, unit, ms]
  blk_point [iblk, V, idx t]

/-- The call in floating point always ends, faults nowhere and leaves its arguments and semaphores as they were. -/
theorem frameP : Cert.quiescent_RowFwd := fun m g _ => Cert.RowFwd.Gen.frame m g
/-- The same over the extended reals. -/
theorem framePI : Cert.quiescent_RowFwdIdeal := fun m g _ => Cert.RowFwdIdeal.Gen.frame (F := Ideal) m g
/-- The plain formula over the extended reals always ends and leaves its arguments and semaphores as they were. -/
theorem frameRI : Cert.quiescent_RowFwdReferenceIdeal := fun m g _ =>
  (θ_run Cert.RowFwdReferenceIdeal.defs _ _).mono (fun r h => ⟨fun c => (h c).2.2, sem_eq_zero_of_no_sems (by decide) r.2⟩)
    (Cert.RowFwdReferenceIdeal.Value.run (F := Ideal) m g)

/-- Over the extended reals, the call and the plain formula give the same two results. -/
theorem value : Cert.algebraic_RowFwdIdeal_RowFwdReferenceIdeal := by
  intro m g m' g' _ hagree
  refine ⟨_, _, (θ_run Cert.RowFwdIdeal.defs _ _).mono (fun r h c =>
      ⟨(h c).1.trans (res_out m c), (h c).2.1.trans (norm_out m c), (h c).2.2⟩) (Cert.RowFwdIdeal.Value.run_blocks m g),
    (θ_run Cert.RowFwdReferenceIdeal.defs _ _).mono (fun r h c => ?_) (Cert.RowFwdReferenceIdeal.Value.run (F := Ideal) m' g')⟩
  obtain ⟨a0, a1, a2⟩ := hagree c
  obtain ⟨h0, h1, kept⟩ := h c
  rw [a0, a1, a2] at h0 h1
  refine ⟨h0.trans ?_, h1.trans ?_, kept⟩
  · funext i
    pointwise [res]
  · funext i
    pointwise [res, narrow, modnorms, modnorm, row, unit, ms]

end Rows.RowFwd

end
-- ==== Proof.RowFirstClaims.lean ====
/- The first layer's norm over rows: what each grid point leaves in its block, put together to the whole array. -/
module

public import proofs.«01_k».proof.Defs
public import proofs.«01_k».proof.Proof.Rows
public import proofs.«01_k».proof.Proof.Gen.RowFirst.Frame
public import proofs.«01_k».proof.Proof.Gen.RowFirstIdeal.Value
public import proofs.«01_k».proof.Proof.Gen.RowFirstReferenceIdeal.Run

@[expose] public section

noncomputable section

namespace Rows.RowFirst

open Cert.RowFirstIdeal Cert.RowFirstIdeal.Gen Idealize.ShloMosaic Idealize.ShloMosaic.TcCoe Idealize.SL.Sem

variable (m : (ℓ : Loc nD τ sig) → Buf (Elt Ideal) ℓ) (c : Dev nD)

/-- Every window's block at a point: the group of rows the point is for; the vectors are one block. -/
theorem idx : ∀ t : Fin cfg0.N, win0_0.index t = ![t.val, 0] ∧ win0_1.index t = ![0, 0] ∧ win0_2.index t = ![t.val, 0] :=
  (by decide +kernel : ∀ t : Fin grid0.N, _)

/-- The result is the modulated norm. -/
theorem norm_out : (dats m 0 c).arrAt 2 cfg0.N = narrow (modnorms (m ((c : Thread nD τ).loc main_arg0))
    (m ((c : Thread nD τ).loc main_arg1))) := by
  refine (dats m 0 c).arrAt_eq_of_covers 2 _ (by decide +kernel) fun t _ y => ?_
  blk_simp
  rw [after0_2]; frame_out
  pointwise [k0_pay1, narrow, modnorms, modnorm, row, unit, ms]
  blk_point [iblk, V, idx t]

/-- The call in floating point always ends, faults nowhere and leaves its arguments and semaphores as they were. -/
theorem frameP : Cert.quiescent_RowFirst := fun m g _ => Cert.RowFirst.Gen.frame m g
/-- The same over the extended reals. -/
theorem framePI : Cert.quiescent_RowFirstIdeal := fun m g _ => Cert.RowFirstIdeal.Gen.frame (F := Ideal) m g
/-- The plain formula over the extended reals always ends and leaves its arguments and semaphores as they were. -/
theorem frameRI : Cert.quiescent_RowFirstReferenceIdeal := fun m g _ =>
  (θ_run Cert.RowFirstReferenceIdeal.defs _ _).mono (fun r h => ⟨fun c => (h c).2, sem_eq_zero_of_no_sems (by decide) r.2⟩)
    (Cert.RowFirstReferenceIdeal.Value.run (F := Ideal) m g)

/-- Over the extended reals, the call and the plain formula give the same result. -/
theorem value : Cert.algebraic_RowFirstIdeal_RowFirstReferenceIdeal := by
  intro m g m' g' _ hagree
  refine ⟨_, (θ_run Cert.RowFirstIdeal.defs _ _).mono (fun r h c =>
      ⟨(h c).1.trans (norm_out m c), (h c).2⟩) (Cert.RowFirstIdeal.Value.run_blocks m g),
    (θ_run Cert.RowFirstReferenceIdeal.defs _ _).mono (fun r h c => ?_) (Cert.RowFirstReferenceIdeal.Value.run (F := Ideal) m' g')⟩
  obtain ⟨a0, a1⟩ := hagree c
  obtain ⟨h0, kept⟩ := h c
  rw [a0, a1] at h0
  refine ⟨h0.trans ?_, kept⟩
  funext i
  pointwise [narrow, modnorms, modnorm, row, unit, ms]

end Rows.RowFirst

end
-- ==== Proof.RowBwdClaims.lean ====
/- The backward pass over rows: the gradient at a layer's array, at the branch it adds, and the sums over rows for the
   layer's vectors; what each grid point leaves in its blocks, put together to whole arrays. -/
module

public import proofs.«01_k».proof.Defs
public import proofs.«01_k».proof.Proof.Rows
public import proofs.«01_k».proof.Proof.Gen.RowBwd.Frame
public import proofs.«01_k».proof.Proof.Gen.RowBwdIdeal.Value
public import proofs.«01_k».proof.Proof.Gen.RowBwdReferenceIdeal.Run

@[expose] public section

noncomputable section

namespace Rows.RowBwd

open Idealize.ShloMosaic Idealize.ShloMosaic.TcCoe Idealize.SL.Sem

/-- One plus the scale, times the gradient of the modulated norm: what reaches the norm. -/
def scaled (h s : Row) : Row := fun d => h d * (Scalar.ofBits .f32 0x3F800000#32 + s d)

/-- The gradient at a row: what comes down the residual path, and what comes through the modulated norm. -/
def step (x h e g s : Row) : Row := fun d => e d + back x (fun k => scaled h s k * g k) d

/-- What one row adds to the sums: for the gate, the gain, the shift, the scale and the branch. -/
def term (x h e y : Row) (v : Vecs) (k : Fin 8) (d : Fin 1024) : Ideal .f32 :=
  if k.val = 0 then step x h e (row v 1) (row v 3) d * y d
  else if k.val = 1 then unit x d * scaled h (row v 3) d
  else if k.val = 2 then h d
  else if k.val = 3 then unit x d * row v 1 d * h d
  else if k.val = 4 then step x h e (row v 1) (row v 3) d * row v 0 d
  else 0

/-- The gradient at the layer's array, as a whole array. -/
def dx (x h e : Mat) (v : Vecs) : Mat := fun i => step (row x (i 0)) (row h (i 0)) (row e (i 0)) (row v 1) (row v 3) (i 1)

/-- The sums over the whole array. -/
def tot (x h e y : Mat) (v : Vecs) : Vecs := fun j =>
  ∑ r : Fin 8192, term (row x r) (row h r) (row e r) (row y r) v (j 0) (j 1)

section Rows

variable (x h e y : Mat) (v : Vecs) (k : Fin 8) (d : Fin 1024)

/-- The sums at an index, row by row. -/
theorem tot_0 (hk : k.val = 0) : tot x h e y v (ix2 k d) = ∑ r : Fin 8192, step (row x r) (row h r) (row e r) (row v 1) (row v 3) d * row y r d :=
  Finset.sum_congr rfl fun r _ => show term _ _ _ _ _ k d = _ by rw [term, if_pos hk]

theorem tot_1 (hk : k.val = 1) : tot x h e y v (ix2 k d) = ∑ r : Fin 8192, unit (row x r) d * scaled (row h r) (row v 3) d :=
  Finset.sum_congr rfl fun r _ => show term _ _ _ _ _ k d = _ by rw [term, if_neg (by omega), if_pos hk]

theorem tot_2 (hk : k.val = 2) : tot x h e y v (ix2 k d) = ∑ r : Fin 8192, row h r d :=
  Finset.sum_congr rfl fun r _ => show term _ _ _ _ _ k d = _ by rw [term, if_neg (by omega), if_neg (by omega), if_pos hk]

theorem tot_3 (hk : k.val = 3) : tot x h e y v (ix2 k d) = ∑ r : Fin 8192, unit (row x r) d * row v 1 d * row h r d :=
  Finset.sum_congr rfl fun r _ => show term _ _ _ _ _ k d = _ by rw [term, if_neg (by omega), if_neg (by omega), if_neg (by omega), if_pos hk]

theorem tot_4 (hk : k.val = 4) : tot x h e y v (ix2 k d) = ∑ r : Fin 8192, step (row x r) (row h r) (row e r) (row v 1) (row v 3) d * row v 0 d :=
  Finset.sum_congr rfl fun r _ => show term _ _ _ _ _ k d = _ by rw [term, if_neg (by omega), if_neg (by omega), if_neg (by omega), if_neg (by omega), if_pos hk]

theorem tot_5 (h0 : ¬k.val = 0) (h1 : ¬k.val = 1) (h2 : ¬k.val = 2) (h3 : ¬k.val = 3) (h4 : ¬k.val = 4) : tot x h e y v (ix2 k d) = 0 :=
  Finset.sum_eq_zero fun r _ => show term _ _ _ _ _ k d = _ by rw [term, if_neg h0, if_neg h1, if_neg h2, if_neg h3, if_neg h4]

end Rows

section Points

open Cert.RowBwdIdeal Cert.RowBwdIdeal.Gen

variable (m : (ℓ : Loc nD τ sig) → Buf (Elt Ideal) ℓ) (c : Dev nD)

/-- Every window's block at a point: the group of rows the point is for; the vectors and the sums are one block. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

section Payloads

variable (v3 v5 v6 w : Vec Ideal S1x1024 .f32) (v4 v24 v53 v62 : Vec Ideal S512x1024 .f32) (r : Fin 512) (d : Fin 1024)

theorem dx_pay : k0_pay15 v4 (k0_pay6 v4) (k0_pay7 v4) (k0_pay14 v5 v6 v24) v53 (ix2 r d)
    = step (row v4 r) (row v24 r) (row v53 r) (row v5 0) (row v6 0) d := by
  pointwise [k0_pay15, k0_pay14, k0_pay12, k0_pay9, k0_pay7, k0_pay6, k0_pay5, row, step, scaled, back, pull, ms]
  simp only [Fin.sum_univ_one]

theorem dyf_pay : k0_pay16 v3 v4 (k0_pay6 v4) (k0_pay7 v4) (k0_pay14 v5 v6 v24) v53 (ix2 r d)
    = step (row v4 r) (row v24 r) (row v53 r) (row v5 0) (row v6 0) d * row v3 0 d := by
  pointwise [k0_pay16]
  rw [dx_pay]

theorem dy_pay : k0_pay17 v3 v4 (k0_pay6 v4) (k0_pay7 v4) (k0_pay14 v5 v6 v24) v53 (ix2 r d)
    = FloatOps.truncf .bf16 (by decide) (step (row v4 r) (row v24 r) (row v53 r) (row v5 0) (row v6 0) d * row v3 0 d : Ideal .f32) := by
  pointwise [k0_pay17]
  rw [dyf_pay]

theorem gate_pay : k0_pay18 v4 (k0_pay6 v4) (k0_pay7 v4) (k0_pay14 v5 v6 v24) v53 w v62 (ix2 0 d)
    = w (ix2 0 d) + ∑ r : Fin 512, step (row v4 r) (row v24 r) (row v53 r) (row v5 0) (row v6 0) d * row v62 r d := by
  pointwise [k0_pay18]
  simp only [dx_pay]

theorem gain_pay : k0_pay19 (k0_pay13 v4 v6 v24) w (ix2 0 d)
    = w (ix2 0 d) + ∑ r : Fin 512, unit (row v4 r) d * scaled (row v24 r) (row v6 0) d := by
  pointwise [k0_pay19, k0_pay13, k0_pay12, k0_pay9, k0_pay8, k0_pay6, k0_pay5, row, unit, scaled, ms]

theorem shift_pay : k0_pay1 (k0_pay10 v24) w (ix2 0 d) = w (ix2 0 d) + ∑ r : Fin 512, row v24 r d := by
  pointwise [k0_pay1, k0_pay10]

theorem scale_pay : k0_pay2 (k0_pay11 v4 v5 v24) w (ix2 0 d)
    = w (ix2 0 d) + ∑ r : Fin 512, unit (row v4 r) d * row v5 0 d * row v24 r d := by
  pointwise [k0_pay2, k0_pay11, k0_pay9, k0_pay8, k0_pay6, k0_pay5, row, unit, ms]

theorem branch_pay : k0_pay3 (k0_pay16 v3 v4 (k0_pay6 v4) (k0_pay7 v4) (k0_pay14 v5 v6 v24) v53) w (ix2 0 d)
    = w (ix2 0 d) + ∑ r : Fin 512, step (row v4 r) (row v24 r) (row v53 r) (row v5 0) (row v6 0) d * row v3 0 d := by
  pointwise [k0_pay3]
  simp only [dyf_pay]

theorem zero_pay (j : S8x1024.Idx) : k0_pay4 (F := Ideal) j = 0 := by
  pointwise [k0_pay4]

end Payloads

/-- The row of the whole array that a point's block has at `r`. -/
abbrev at_ (t : Fin cfg0.N) (r : Fin 512) : Fin 8192 := ⟨t.val * 512 + r.val, by have h1 := t.isLt; have h2 : cfg0.N = 16 := N_0; have h3 := r.isLt; omega⟩

/-- The gate's, the gain's and the scale's row of a point's vectors. -/
abbrev gate_ (t : Fin cfg0.N) : Vec Ideal S1x1024 .f32 := View.ld (iblk m c 4 t) (Rect.unit ![0, 0] ![1, 1024] inb_S8x1024_S1x1024_0_0)
abbrev gain_ (t : Fin cfg0.N) : Vec Ideal S1x1024 .f32 := View.ld (iblk m c 4 t) (Rect.unit ![1, 0] ![1, 1024] inb_S8x1024_S1x1024_1_0)
abbrev scale_ (t : Fin cfg0.N) : Vec Ideal S1x1024 .f32 := View.ld (iblk m c 4 t) (Rect.unit ![3, 0] ![1, 1024] inb_S8x1024_S1x1024_3_0)

theorem gate_blk (t : Fin cfg0.N) : row (gate_ m c t) 0 = row (m ((c : Thread nD τ).loc main_arg4)) 0 := by
  funext d
  pointwise [row, gate_]
  blk_point [iblk, V, idx t]

theorem gain_blk (t : Fin cfg0.N) : row (gain_ m c t) 0 = row (m ((c : Thread nD τ).loc main_arg4)) 1 := by
  funext d
  pointwise [row, gain_]
  blk_point [iblk, V, idx t]

theorem scale_blk (t : Fin cfg0.N) : row (scale_ m c t) 0 = row (m ((c : Thread nD τ).loc main_arg4)) 3 := by
  funext d
  pointwise [row, scale_]
  blk_point [iblk, V, idx t]

theorem x_blk (t : Fin cfg0.N) (r : Fin 512) : row (iblk m c 0 t) r = row (m ((c : Thread nD τ).loc main_arg0)) (at_ t r) := by
  funext d
  pointwise [row, at_]
  blk_point [iblk, V, idx t]

theorem h_blk (t : Fin cfg0.N) (r : Fin 512) : row (iblk m c 1 t) r = row (m ((c : Thread nD τ).loc main_arg1)) (at_ t r) := by
  funext d
  pointwise [row, at_]
  blk_point [iblk, V, idx t]

theorem e_blk (t : Fin cfg0.N) (r : Fin 512) : row (iblk m c 2 t) r = row (m ((c : Thread nD τ).loc main_arg2)) (at_ t r) := by
  funext d
  pointwise [row, at_]
  blk_point [iblk, V, idx t]

theorem y_blk (t : Fin cfg0.N) (r : Fin 512) : row (iblk m c 3 t) r = row (m ((c : Thread nD τ).loc main_arg3)) (at_ t r) := by
  funext d
  pointwise [row, at_]
  blk_point [iblk, V, idx t]

theorem h_at (t : Fin cfg0.N) (r : Fin 512) (d : Fin 1024) : row (iblk m c 1 t) r d = row (m ((c : Thread nD τ).loc main_arg1)) (at_ t r) d :=
  congrFun (h_blk m c t r) d

theorem y_at (t : Fin cfg0.N) (r : Fin 512) (d : Fin 1024) : row (iblk m c 3 t) r d = row (m ((c : Thread nD τ).loc main_arg3)) (at_ t r) d :=
  congrFun (y_blk m c t r) d

theorem gain_at (t : Fin cfg0.N) (d : Fin 1024) : row (gain_ m c t) 0 d = row (m ((c : Thread nD τ).loc main_arg4)) 1 d :=
  congrFun (gain_blk m c t) d

theorem gate_at (t : Fin cfg0.N) (d : Fin 1024) : row (gate_ m c t) 0 d = row (m ((c : Thread nD τ).loc main_arg4)) 0 d :=
  congrFun (gate_blk m c t) d

/-- Where a point's block of the first result lies. -/
theorem emb5 (t : Fin cfg0.N) (r : Fin 512) (d : Fin 1024) :
    ((View.whole main_v0_0).slice (win0_5.rect t)).emb (ix2 r d) = ix2 (at_ t r) d := by
  blk_ext [at_, idx t]

/-- Where a point's block of the second result lies. -/
theorem emb6 (t : Fin cfg0.N) (r : Fin 512) (d : Fin 1024) :
    ((View.whole main_v0_1).slice (win0_6.rect t)).emb (ix2 r d) = ix2 (at_ t r) d := by
  blk_ext [at_, idx t]

theorem dx_out : (dats m 0 c).arrAt 5 cfg0.N = dx (m ((c : Thread nD τ).loc main_arg0)) (m ((c : Thread nD τ).loc main_arg1))
    (m ((c : Thread nD τ).loc main_arg2)) (m ((c : Thread nD τ).loc main_arg4)) := by
  refine (dats m 0 c).arrAt_eq_of_covers 5 _ (by decide +kernel) fun t _ y => ?_
  blk_simp
  rw [after0_5]
  by_cases h0 : t.val % 16 = 0
  · rw [outsAt0_A m c t h0]; frame_out
    idx_vars y
    rw [dx_pay, emb5]
    show step _ _ _ (row (gain_ m c t) 0) (row (scale_ m c t) 0) _ = _
    rw [x_blk, h_blk, e_blk, gain_blk, scale_blk]; rfl
  · rw [outsAt0_B m c t h0]; frame_out
    idx_vars y
    rw [dx_pay, emb5]
    show step _ _ _ (row (gain_ m c t) 0) (row (scale_ m c t) 0) _ = _
    rw [x_blk, h_blk, e_blk, gain_blk, scale_blk]; rfl

theorem dy_out : (dats m 0 c).arrAt 6 cfg0.N = narrow (fun i => dx (m ((c : Thread nD τ).loc main_arg0)) (m ((c : Thread nD τ).loc main_arg1))
    (m ((c : Thread nD τ).loc main_arg2)) (m ((c : Thread nD τ).loc main_arg4)) i * row (m ((c : Thread nD τ).loc main_arg4)) 0 (i 1)) := by
  refine (dats m 0 c).arrAt_eq_of_covers 6 _ (by decide +kernel) fun t _ y => ?_
  blk_simp
  rw [after0_6]
  by_cases h0 : t.val % 16 = 0
  · rw [outsAt0_A m c t h0]; frame_out
    idx_vars y
    rw [dy_pay, emb6]
    show FloatOps.truncf .bf16 _ (step _ _ _ (row (gain_ m c t) 0) (row (scale_ m c t) 0) _ * row (gate_ m c t) 0 _ : Ideal .f32) = _
    rw [x_blk, h_blk, e_blk, gain_blk, scale_blk, gate_blk]; rfl
  · rw [outsAt0_B m c t h0]; frame_out
    idx_vars y
    rw [dy_pay, emb6]
    show FloatOps.truncf .bf16 _ (step _ _ _ (row (gain_ m c t) 0) (row (scale_ m c t) 0) _ * row (gate_ m c t) 0 _ : Ideal .f32) = _
    rw [x_blk, h_blk, e_blk, gain_blk, scale_blk, gate_blk]; rfl

/-- What one point adds to the sums. -/
def part (t : Fin cfg0.N) (k : Fin 8) (d : Fin 1024) : Ideal .f32 :=
  ∑ r : Fin 512, term (row (m ((c : Thread nD τ).loc main_arg0)) (at_ t r)) (row (m ((c : Thread nD τ).loc main_arg1)) (at_ t r))
    (row (m ((c : Thread nD τ).loc main_arg2)) (at_ t r)) (row (m ((c : Thread nD τ).loc main_arg3)) (at_ t r)) (m ((c : Thread nD τ).loc main_arg4)) k d

section Parts

variable (t : Fin cfg0.N) (k : Fin 8) (d : Fin 1024) (w : Vec Ideal S1x1024 .f32)

/-- What a point's stores put into the gate's row of the sums; the next ones are for the other rows. -/
theorem part_0 (hk : k.val = 0) :
    k0_pay18 (iblk m c 0 t) (k0_pay6 (iblk m c 0 t)) (k0_pay7 (iblk m c 0 t)) (k0_pay14 (gain_ m c t) (scale_ m c t) (iblk m c 1 t)) (iblk m c 2 t) w (iblk m c 3 t) (ix2 0 d)
      = w (ix2 0 d) + part m c t k d := by
  rw [gate_pay]
  simp only [x_blk, h_blk, e_blk, y_at, gain_blk, scale_blk]
  exact congrArg _ (Finset.sum_congr rfl fun r _ => by rw [term, if_pos hk])

theorem part_1 (hk : k.val = 1) : k0_pay19 (k0_pay13 (iblk m c 0 t) (scale_ m c t) (iblk m c 1 t)) w (ix2 0 d) = w (ix2 0 d) + part m c t k d := by
  rw [gain_pay]
  simp only [x_blk, h_blk, scale_blk]
  exact congrArg _ (Finset.sum_congr rfl fun r _ => by rw [term, if_neg (by omega), if_pos hk])

theorem part_2 (hk : k.val = 2) : k0_pay1 (k0_pay10 (iblk m c 1 t)) w (ix2 0 d) = w (ix2 0 d) + part m c t k d := by
  rw [shift_pay]
  simp only [h_at]
  exact congrArg _ (Finset.sum_congr rfl fun r _ => by rw [term, if_neg (by omega), if_neg (by omega), if_pos hk])

theorem part_3 (hk : k.val = 3) : k0_pay2 (k0_pay11 (iblk m c 0 t) (gain_ m c t) (iblk m c 1 t)) w (ix2 0 d) = w (ix2 0 d) + part m c t k d := by
  rw [scale_pay]
  simp only [x_blk, h_at, gain_at]
  exact congrArg _ (Finset.sum_congr rfl fun r _ => by rw [term, if_neg (by omega), if_neg (by omega), if_neg (by omega), if_pos hk])

theorem part_4 (hk : k.val = 4) :
    k0_pay3 (k0_pay16 (gate_ m c t) (iblk m c 0 t) (k0_pay6 (iblk m c 0 t)) (k0_pay7 (iblk m c 0 t)) (k0_pay14 (gain_ m c t) (scale_ m c t) (iblk m c 1 t)) (iblk m c 2 t)) w (ix2 0 d)
      = w (ix2 0 d) + part m c t k d := by
  rw [branch_pay]
  simp only [x_blk, h_blk, e_blk, gain_blk, scale_blk, gate_at]
  exact congrArg _ (Finset.sum_congr rfl fun r _ => by rw [term, if_neg (by omega), if_neg (by omega), if_neg (by omega), if_neg (by omega), if_pos hk])

/-- The other rows get nothing. -/
theorem part_5 (h0 : ¬k.val = 0) (h1 : ¬k.val = 1) (h2 : ¬k.val = 2) (h3 : ¬k.val = 3) (h4 : ¬k.val = 4) : part m c t k d = 0 :=
  Finset.sum_eq_zero fun r _ => (if_neg h0).trans ((if_neg h1).trans ((if_neg h2).trans ((if_neg h3).trans (if_neg h4))))

end Parts

theorem part_A (t : Fin cfg0.N) (h0 : t.val % 16 = 0) (j : S8x1024.Idx) :
    (outsAt0 m c t.val t.isLt).2.2 j = 0 + part m c t (j 0) (j 1) := by
  rw [outsAt0_A m c t h0]; frame_out
  obtain ⟨k, d, rfl⟩ : ∃ (k : Fin 8) (d : Fin 1024), j = ix2 k d := ⟨j 0, j 1, by funext a; revert a; exact Fin.forall_fin_two.mpr ⟨rfl, rfl⟩⟩
  by_cases k4 : k.val = 4
  · refine (canon_on 4 _ _ _ k d k4).trans ((part_4 m c t k d _ k4).trans (congrArg (· + _) ?_))
    rw [View.readCov_skip _ _ _ _ _ rfl, View.readCov_skip _ _ _ _ _ rfl, View.readCov_skip _ _ _ _ _ rfl, View.readCov_skip _ _ _ _ _ rfl, View.readCov_fill _ _ _ _ _ (by decide)]
    exact (ld_row _ 4 _ k d k4).trans (zero_pay _)
  refine (canon_off 4 _ _ _ k d k4).trans ?_
  by_cases k3 : k.val = 3
  · refine (canon_on 3 _ _ _ k d k3).trans ((part_3 m c t k d _ k3).trans (congrArg (· + _) ?_))
    rw [View.readCov_skip _ _ _ _ _ rfl, View.readCov_skip _ _ _ _ _ rfl, View.readCov_skip _ _ _ _ _ rfl, View.readCov_fill _ _ _ _ _ (by decide)]
    exact (ld_row _ 3 _ k d k3).trans (zero_pay _)
  refine (canon_off 3 _ _ _ k d k3).trans ?_
  by_cases k2 : k.val = 2
  · refine (canon_on 2 _ _ _ k d k2).trans ((part_2 m c t k d _ k2).trans (congrArg (· + _) ?_))
    rw [View.readCov_skip _ _ _ _ _ rfl, View.readCov_skip _ _ _ _ _ rfl, View.readCov_fill _ _ _ _ _ (by decide)]
    exact (ld_row _ 2 _ k d k2).trans (zero_pay _)
  refine (canon_off 2 _ _ _ k d k2).trans ?_
  by_cases k1 : k.val = 1
  · refine (canon_on 1 _ _ _ k d k1).trans ((part_1 m c t k d _ k1).trans (congrArg (· + _) ?_))
    rw [View.readCov_skip _ _ _ _ _ rfl, View.readCov_fill _ _ _ _ _ (by decide)]
    exact (ld_row _ 1 _ k d k1).trans (zero_pay _)
  refine (canon_off 1 _ _ _ k d k1).trans ?_
  by_cases k0 : k.val = 0
  · refine (canon_on 0 _ _ _ k d k0).trans ((part_0 m c t k d _ k0).trans (congrArg (· + _) ?_))
    rw [View.readCov_fill _ _ _ _ _ (by decide)]
    exact (ld_row _ 0 _ k d k0).trans (zero_pay _)
  refine (canon_off 0 _ _ _ k d k0).trans ?_
  rw [View.canon_cons_unit_lit _ _ _ (by decide), zero_pay]
  exact (part_5 m c t k d k0 k1 k2 k3 k4 ▸ add_zero _).symm

theorem part_B (t : Fin cfg0.N) (h0 : ¬t.val % 16 = 0) (j : S8x1024.Idx) :
    (outsAt0 m c t.val t.isLt).2.2 j = (outsAt0 m c (t.val - 1) (Nat.lt_of_le_of_lt (Nat.sub_le _ _) t.isLt)).2.2 j + part m c t (j 0) (j 1) := by
  rw [outsAt0_B m c t h0]; frame_out
  obtain ⟨k, d, rfl⟩ : ∃ (k : Fin 8) (d : Fin 1024), j = ix2 k d := ⟨j 0, j 1, by funext a; revert a; exact Fin.forall_fin_two.mpr ⟨rfl, rfl⟩⟩
  by_cases k4 : k.val = 4
  · exact (on_row _ _ 4 _ _ _ k d k4).trans ((part_4 m c t k d _ k4).trans (congrArg (· + _) (ld_row _ 4 _ k d k4)))
  refine (off_row _ _ 4 _ _ _ k d k4).trans ?_
  by_cases k3 : k.val = 3
  · exact (on_row _ _ 3 _ _ _ k d k3).trans ((part_3 m c t k d _ k3).trans (congrArg (· + _) (ld_row _ 3 _ k d k3)))
  refine (off_row _ _ 3 _ _ _ k d k3).trans ?_
  by_cases k2 : k.val = 2
  · exact (on_row _ _ 2 _ _ _ k d k2).trans ((part_2 m c t k d _ k2).trans (congrArg (· + _) (ld_row _ 2 _ k d k2)))
  refine (off_row _ _ 2 _ _ _ k d k2).trans ?_
  by_cases k1 : k.val = 1
  · exact (on_row _ _ 1 _ _ _ k d k1).trans ((part_1 m c t k d _ k1).trans (congrArg (· + _) (ld_row _ 1 _ k d k1)))
  refine (off_row _ _ 1 _ _ _ k d k1).trans ?_
  by_cases k0 : k.val = 0
  · exact (on_row _ _ 0 _ _ _ k d k0).trans ((part_0 m c t k d _ k0).trans (congrArg (· + _) (ld_row _ 0 _ k d k0)))
  refine (off_row _ _ 0 _ _ _ k d k0).trans ?_
  rw [View.writes_nil, (hs0_7 t).read_unread]
  exact (part_5 m c t k d k0 k1 k2 k3 k4 ▸ add_zero _).symm

/-- What the sixteen points add, as a whole array. -/
def sums : Vecs := fun j => ∑ t : Fin cfg0.N, part m c t (j 0) (j 1)

theorem sum_out : (dats m 0 c).arrAt 7 cfg0.N = sums m c := by
  refine (dats m 0 c).arrAt_eq_of_covers 7 _ (by decide +kernel) fun t hf y => ?_
  blk_simp
  rw [after0_7]
  have ht : t = t0_15 := Fin.ext (by have h1 := (flush0_7 t).mp hf; have h2 := t.isLt; have h3 : cfg0.N = 16 := N_0; show t.val = 15; omega)
  subst ht
  have hy : ((View.whole main_v0_2).slice (win0_7.rect t0_15)).emb y = y := by
    blk_ext [idx t0_15]
  rw [hy, Pipeline.eq_sum_fin_of_reset_step_apply_last (fun n h => (outsAt0 m c n h).2.2) 16 (fun _ => 0) (fun t j => part m c t (j 0) (j 1))
    (fun t h j => part_A m c t h j) (fun t h j => part_B m c t h j) (le_of_eq N_0) t0_15 rfl]
  exact zero_add (sums m c y)

/-- What the points add is the sum over the whole array. -/
theorem sums_eq : sums m c = tot (m ((c : Thread nD τ).loc main_arg0)) (m ((c : Thread nD τ).loc main_arg1)) (m ((c : Thread nD τ).loc main_arg2))
    (m ((c : Thread nD τ).loc main_arg3)) (m ((c : Thread nD τ).loc main_arg4)) := by
  have hL : 8192 = cfg0.N * 512 := by have h : cfg0.N = 16 := N_0; omega
  funext j
  exact Fin.sum_mul_add_congr (fun _ _ _ => rfl) hL

end Points

section Ref
open Cert.RowBwdReferenceIdeal

variable (m' : (ℓ : Loc Cert.RowBwdReferenceIdeal.nD Cert.RowBwdReferenceIdeal.τ Cert.RowBwdReferenceIdeal.sig) → Buf (Elt Ideal) ℓ) (c' : Dev Cert.RowBwdReferenceIdeal.nD)

set_option maxRecDepth 8192 in
theorem ref_dx : Cert.RowBwdReferenceIdeal.Value.res_main_v62 m' c' = dx (m' ((c' : Thread nD τ).loc main_arg0)) (m' ((c' : Thread nD τ).loc main_arg1)) (m' ((c' : Thread nD τ).loc main_arg2)) (m' ((c' : Thread nD τ).loc main_arg4)) := by
  funext i
  unfold Cert.RowBwdReferenceIdeal.Value.res_main_v62
  generalize (m' ((c' : Thread nD τ).loc main_arg0) : Mat) = a0
  generalize (m' ((c' : Thread nD τ).loc main_arg1) : Mat) = a1
  generalize (m' ((c' : Thread nD τ).loc main_arg2) : Mat) = a2
  generalize (m' ((c' : Thread nD τ).loc main_arg4) : Vecs) = a4
  change Mat at a0 a1 a2
  change Vecs at a4
  idx_vars i
  pointwise [dx, step, scaled, back, pull, unit, ms, row]
  simp only [half_twice', Fin.sum_univ_one, zero_add]

set_option maxRecDepth 8192 in
theorem ref_dy : Cert.RowBwdReferenceIdeal.Value.res_main_v67 m' c' = narrow (fun i => dx (m' ((c' : Thread nD τ).loc main_arg0)) (m' ((c' : Thread nD τ).loc main_arg1)) (m' ((c' : Thread nD τ).loc main_arg2)) (m' ((c' : Thread nD τ).loc main_arg4)) i * row (m' ((c' : Thread nD τ).loc main_arg4)) 0 (i 1)) := by
  funext i
  unfold Cert.RowBwdReferenceIdeal.Value.res_main_v67
  generalize (m' ((c' : Thread nD τ).loc main_arg0) : Mat) = a0
  generalize (m' ((c' : Thread nD τ).loc main_arg1) : Mat) = a1
  generalize (m' ((c' : Thread nD τ).loc main_arg2) : Mat) = a2
  generalize (m' ((c' : Thread nD τ).loc main_arg4) : Vecs) = a4
  change Mat at a0 a1 a2
  change Vecs at a4
  idx_vars i
  pointwise [narrow, dx, step, scaled, back, pull, unit, ms, row]
  simp only [half_twice', Fin.sum_univ_one, zero_add]

set_option maxRecDepth 8192 in
theorem ref_sums : Cert.RowBwdReferenceIdeal.Value.res_main_v79 m' c' = tot (m' ((c' : Thread nD τ).loc main_arg0)) (m' ((c' : Thread nD τ).loc main_arg1)) (m' ((c' : Thread nD τ).loc main_arg2)) (m' ((c' : Thread nD τ).loc main_arg3)) (m' ((c' : Thread nD τ).loc main_arg4)) := by
  unfold Cert.RowBwdReferenceIdeal.Value.res_main_v79
  generalize (m' ((c' : Thread nD τ).loc main_arg0) : Mat) = a0
  generalize (m' ((c' : Thread nD τ).loc main_arg1) : Mat) = a1
  generalize (m' ((c' : Thread nD τ).loc main_arg2) : Mat) = a2
  generalize (m' ((c' : Thread nD τ).loc main_arg3) : Mat) = a3
  generalize (m' ((c' : Thread nD τ).loc main_arg4) : Vecs) = a4
  change Mat at a0 a1 a2 a3
  change Vecs at a4
  funext i
  idx_vars i
  refine (rows8 _ _ _ _ _ _ _ _ _ _ _).trans ?_
  fin_cases i0
  · refine Eq.trans ?_ (tot_0 _ _ _ _ _ _ _ rfl).symm
    dsimp only [Matrix.cons_val]
    pointwise [dx, step, scaled, back, pull, unit, ms, row]
    simp only [half_twice', Fin.sum_univ_one, zero_add]
  · refine Eq.trans ?_ (tot_1 _ _ _ _ _ _ _ rfl).symm
    dsimp only [Matrix.cons_val]
    pointwise [dx, step, scaled, back, pull, unit, ms, row]
    simp only [half_twice', Fin.sum_univ_one, zero_add]
  · refine Eq.trans ?_ (tot_2 _ _ _ _ _ _ _ rfl).symm
    dsimp only [Matrix.cons_val]
    pointwise [dx, step, scaled, back, pull, unit, ms, row]
    simp only [half_twice', Fin.sum_univ_one, zero_add]
  · refine Eq.trans ?_ (tot_3 _ _ _ _ _ _ _ rfl).symm
    dsimp only [Matrix.cons_val]
    pointwise [dx, step, scaled, back, pull, unit, ms, row]
    simp only [half_twice', Fin.sum_univ_one, zero_add]
  · refine Eq.trans ?_ (tot_4 _ _ _ _ _ _ _ rfl).symm
    dsimp only [Matrix.cons_val]
    pointwise [dx, step, scaled, back, pull, unit, ms, row]
    simp only [half_twice', Fin.sum_univ_one, zero_add]
  all_goals
    refine Eq.trans ?_ (tot_5 _ _ _ _ _ _ _ (by decide) (by decide) (by decide) (by decide) (by decide)).symm
    dsimp only [Matrix.cons_val]
    pointwise []

end Ref

/-- The call in floating point always ends, faults nowhere and leaves its arguments and semaphores as they were. -/
theorem frameP : Cert.quiescent_RowBwd := fun m g _ => Cert.RowBwd.Gen.frame m g
/-- The same over the extended reals. -/
theorem framePI : Cert.quiescent_RowBwdIdeal := fun m g _ => Cert.RowBwdIdeal.Gen.frame (F := Ideal) m g
/-- The plain formula over the extended reals always ends and leaves its arguments and semaphores as they were. -/
theorem frameRI : Cert.quiescent_RowBwdReferenceIdeal := fun m g _ =>
  (θ_run Cert.RowBwdReferenceIdeal.defs _ _).mono (fun r h => ⟨fun c => (h c).2.2.2, sem_eq_zero_of_no_sems (by decide) r.2⟩)
    (Cert.RowBwdReferenceIdeal.Value.run (F := Ideal) m g)

/-- Over the extended reals, the call and the plain gradient give the same three results. -/
theorem value : Cert.algebraic_RowBwdIdeal_RowBwdReferenceIdeal := by
  intro m g m' g' _ hagree
  refine ⟨_, _, _, (θ_run Cert.RowBwdIdeal.defs _ _).mono (fun r h c =>
      ⟨(h c).1.trans (dx_out m c), (h c).2.1.trans (dy_out m c), (h c).2.2.1.trans ((sum_out m c).trans (sums_eq m c)), (h c).2.2.2⟩)
        (Cert.RowBwdIdeal.Value.run_blocks m g),
    (θ_run Cert.RowBwdReferenceIdeal.defs _ _).mono (fun r h c => ?_) (Cert.RowBwdReferenceIdeal.Value.run (F := Ideal) m' g')⟩
  obtain ⟨a0, a1, a2, a3, a4⟩ := hagree c
  obtain ⟨h0, h1, h2, kept⟩ := h c
  rw [ref_dx, a0, a1, a2, a4] at h0
  rw [ref_dy, a0, a1, a2, a4] at h1
  rw [ref_sums, a0, a1, a2, a3, a4] at h2
  exact ⟨h0, h1, h2, kept⟩

end Rows.RowBwd

end
-- ==== Proof.FinalClaims.lean ====
/- The last norm, the loss per channel and its gradients: what each grid point leaves in its blocks, put together to whole
   arrays. -/
module

public import proofs.«01_k».proof.Defs
public import proofs.«01_k».proof.Proof.Rows
public import proofs.«01_k».proof.Proof.Gen.Final.Frame
public import proofs.«01_k».proof.Proof.Gen.FinalIdeal.Value
public import proofs.«01_k».proof.Proof.Gen.FinalReferenceIdeal.Run

@[expose] public section

noncomputable section

namespace Rows.Final

open Idealize.ShloMosaic Idealize.ShloMosaic.TcCoe Idealize.SL.Sem

section Points

open Cert.FinalIdeal Cert.FinalIdeal.Gen

variable (m : (ℓ : Loc nD τ sig) → Buf (Elt Ideal) ℓ) (c : Dev nD)

/-- Every window's block at a point: the group of rows the point is for; the vectors and the sums are one block. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem xs_pay (v3 : Vec Ideal S1x1024 .f32) (v4 v5 : Vec Ideal S512x1024 .f32) (r : Fin 512) (d : Fin 1024) :
    k0_pay2 v3 v4 v5 (ix2 r d) = v5 (ix2 r d) + v3 (ix2 0 d) * v4 (ix2 r d) := by
  pointwise [k0_pay2]

/-- A row of the last layer's array, from a point's blocks. -/
abbrev xrow (v3 : Vec Ideal S1x1024 .f32) (v4 v5 : Vec Ideal S512x1024 .f32) (r : Fin 512) : Row := row (k0_pay2 v3 v4 v5) r

theorem dx_pay (v3 v9 : Vec Ideal S1x1024 .f32) (v4 v5 v25 : Vec Ideal S512x1024 .f32) (r : Fin 512) (d : Fin 1024) :
    k0_pay13 (k0_pay2 v3 v4 v5) (k0_pay5 v3 v4 v5) (k0_pay11 v3 v4 v5 v9 v25) (k0_pay12 v3 v4 v5 v9 v25) (ix2 r d)
      = last (xrow v3 v4 v5 r) (row v25 r) (row v9 0) d := by
  pointwise [k0_pay13, k0_pay12, k0_pay11, k0_pay10, k0_pay8, k0_pay7, k0_pay6, k0_pay5, k0_pay4, k0_pay3, xrow, row, last, back, pull, cot, err, unit, ms]
  simp only [Fin.sum_univ_one]

theorem dy_pay (v3 v9 : Vec Ideal S1x1024 .f32) (v4 v5 v25 : Vec Ideal S512x1024 .f32) (r : Fin 512) (d : Fin 1024) :
    k0_pay14 v3 (k0_pay2 v3 v4 v5) (k0_pay5 v3 v4 v5) (k0_pay11 v3 v4 v5 v9 v25) (k0_pay12 v3 v4 v5 v9 v25) (ix2 r d)
      = FloatOps.truncf .bf16 (by decide) (last (xrow v3 v4 v5 r) (row v25 r) (row v9 0) d * v3 (ix2 0 d) : Ideal .f32) := by
  pointwise [k0_pay14]
  rw [dx_pay]

theorem gate_pay (v3 v9 v54 : Vec Ideal S1x1024 .f32) (v4 v5 v25 : Vec Ideal S512x1024 .f32) (d : Fin 1024) :
    k0_pay15 v4 (k0_pay2 v3 v4 v5) (k0_pay5 v3 v4 v5) (k0_pay11 v3 v4 v5 v9 v25) (k0_pay12 v3 v4 v5 v9 v25) v54 (ix2 0 d)
      = v54 (ix2 0 d) + ∑ r : Fin 512, last (xrow v3 v4 v5 r) (row v25 r) (row v9 0) d * v4 (ix2 r d) := by
  pointwise [k0_pay15]
  simp only [dx_pay]

theorem gain_pay (v3 v9 v61 : Vec Ideal S1x1024 .f32) (v4 v5 v25 : Vec Ideal S512x1024 .f32) (d : Fin 1024) :
    k0_pay16 (k0_pay9 v3 v4 v5 v9 v25) v61 (ix2 0 d)
      = v61 (ix2 0 d) + ∑ r : Fin 512, unit (xrow v3 v4 v5 r) d * cot (xrow v3 v4 v5 r) (row v25 r) (row v9 0) d := by
  pointwise [k0_pay16, k0_pay9, k0_pay8, k0_pay7, k0_pay6, k0_pay4, k0_pay3, xrow, row, cot, err, unit, ms]

theorem chan_pay (v3 v9 v65 : Vec Ideal S1x1024 .f32) (v4 v5 v25 : Vec Ideal S512x1024 .f32) (d : Fin 1024) :
    k0_pay17 (k0_pay7 v3 v4 v5 v9 v25) v65 (ix2 0 d)
      = v65 (ix2 0 d) + (∑ r : Fin 512, err (xrow v3 v4 v5 r) (row v25 r) (row v9 0) d * err (xrow v3 v4 v5 r) (row v25 r) (row v9 0) d)
        * Scalar.ofBits .f32 0x3A000000#32 := by
  pointwise [k0_pay17, k0_pay7, k0_pay6, k0_pay4, k0_pay3, xrow, row, err, unit, ms]

/-- The last layer's array. -/
abbrev xs : Mat := res (m ((c : Thread nD τ).loc main_arg0)) (m ((c : Thread nD τ).loc main_arg1)) (m ((c : Thread nD τ).loc main_arg3))

/-- The row of the whole array that a point's block has at `r`. -/
abbrev at_ (t : Fin cfg0.N) (r : Fin 512) : Fin 8192 := ⟨t.val * 512 + r.val, by have h1 := t.isLt; have h2 : cfg0.N = 16 := N_0; have h3 := r.isLt; omega⟩

/-- The gate's row of a point's vectors. -/
abbrev gate_ (t : Fin cfg0.N) : Vec Ideal S1x1024 .f32 := View.ld (iblk m c 3 t) (Rect.unit ![0, 0] ![1, 1024] inb_S8x1024_S1x1024_0_0)
/-- The gain's row of a point's vectors. -/
abbrev gain_ (t : Fin cfg0.N) : Vec Ideal S1x1024 .f32 := View.ld (iblk m c 3 t) (Rect.unit ![1, 0] ![1, 1024] inb_S8x1024_S1x1024_1_0)

theorem gate_blk (t : Fin cfg0.N) : row (gate_ m c t) 0 = row (m ((c : Thread nD τ).loc main_arg3)) 0 := by
  funext d
  pointwise [row, gate_]
  blk_point [iblk, V, idx t]

theorem gain_blk (t : Fin cfg0.N) : row (gain_ m c t) 0 = row (m ((c : Thread nD τ).loc main_arg3)) 1 := by
  funext d
  pointwise [row, gain_]
  blk_point [iblk, V, idx t]

theorem y_blk (t : Fin cfg0.N) (r : Fin 512) : row (iblk m c 1 t) r = row (m ((c : Thread nD τ).loc main_arg1)) (at_ t r) := by
  funext d
  pointwise [row, at_]
  blk_point [iblk, V, idx t]

theorem t_blk (t : Fin cfg0.N) (r : Fin 512) : row (iblk m c 2 t) r = row (m ((c : Thread nD τ).loc main_arg2)) (at_ t r) := by
  funext d
  pointwise [row, at_]
  blk_point [iblk, V, idx t]

theorem x_blk (t : Fin cfg0.N) (r : Fin 512) : xrow (gate_ m c t) (iblk m c 1 t) (iblk m c 0 t) r = row (xs m c) (at_ t r) := by
  funext d
  pointwise [xrow, row, gate_, k0_pay2, xs, res, at_]
  blk_point [iblk, V, idx t]

/-- Where a point's block of the first result lies. -/
theorem emb4 (t : Fin cfg0.N) (r : Fin 512) (d : Fin 1024) :
    ((View.whole main_v0_0).slice (win0_4.rect t)).emb (ix2 r d) = ix2 (at_ t r) d := by
  blk_ext [at_, idx t]

/-- Where a point's block of the second result lies. -/
theorem emb5 (t : Fin cfg0.N) (r : Fin 512) (d : Fin 1024) :
    ((View.whole main_v0_1).slice (win0_5.rect t)).emb (ix2 r d) = ix2 (at_ t r) d := by
  blk_ext [at_, idx t]

/-- The gradient at the last layer's array, as a whole array. -/
def dx (x t : Mat) (v : Vecs) : Mat := fun i => last (row x (i 0)) (row t (i 0)) (row v 1) (i 1)

theorem dx_out : (dats m 0 c).arrAt 4 cfg0.N = dx (xs m c) (m ((c : Thread nD τ).loc main_arg2)) (m ((c : Thread nD τ).loc main_arg3)) := by
  refine (dats m 0 c).arrAt_eq_of_covers 4 _ (by decide +kernel) fun t _ y => ?_
  blk_simp
  rw [after0_4]
  by_cases h0 : t.val % 16 = 0
  · rw [outsAt0_A m c t h0]; frame_out
    idx_vars y
    rw [dx_pay, emb4]
    show last (xrow (gate_ m c t) _ _ _) _ (row (gain_ m c t) 0) _ = _
    rw [x_blk, t_blk, gain_blk]; rfl
  · rw [outsAt0_B m c t h0]; frame_out
    idx_vars y
    rw [dx_pay, emb4]
    show last (xrow (gate_ m c t) _ _ _) _ (row (gain_ m c t) 0) _ = _
    rw [x_blk, t_blk, gain_blk]; rfl

theorem dy_out : (dats m 0 c).arrAt 5 cfg0.N = narrow (fun i => dx (xs m c) (m ((c : Thread nD τ).loc main_arg2)) (m ((c : Thread nD τ).loc main_arg3)) i
    * row (m ((c : Thread nD τ).loc main_arg3)) 0 (i 1)) := by
  refine (dats m 0 c).arrAt_eq_of_covers 5 _ (by decide +kernel) fun t _ y => ?_
  blk_simp
  rw [after0_5]
  by_cases h0 : t.val % 16 = 0
  · rw [outsAt0_A m c t h0]; frame_out
    idx_vars y
    rw [dy_pay, emb5]
    show FloatOps.truncf .bf16 _ (last (xrow (gate_ m c t) _ _ _) _ (row (gain_ m c t) 0) _ * row (gate_ m c t) 0 _ : Ideal .f32) = _
    rw [x_blk, t_blk, gain_blk, gate_blk]; rfl
  · rw [outsAt0_B m c t h0]; frame_out
    idx_vars y
    rw [dy_pay, emb5]
    show FloatOps.truncf .bf16 _ (last (xrow (gate_ m c t) _ _ _) _ (row (gain_ m c t) 0) _ * row (gate_ m c t) 0 _ : Ideal .f32) = _
    rw [x_blk, t_blk, gain_blk, gate_blk]; rfl

/-- What one point adds to the sums. -/
def part (t : Fin cfg0.N) (k : Fin 8) (d : Fin 1024) : Ideal .f32 :=
  if k.val = 0 then ∑ r : Fin 512, last (row (xs m c) (at_ t r)) (row (m ((c : Thread nD τ).loc main_arg2)) (at_ t r)) (row (m ((c : Thread nD τ).loc main_arg3)) 1) d
      * row (m ((c : Thread nD τ).loc main_arg1)) (at_ t r) d
  else if k.val = 1 then ∑ r : Fin 512, unit (row (xs m c) (at_ t r)) d
      * cot (row (xs m c) (at_ t r)) (row (m ((c : Thread nD τ).loc main_arg2)) (at_ t r)) (row (m ((c : Thread nD τ).loc main_arg3)) 1) d
  else if k.val = 2 then (∑ r : Fin 512, err (row (xs m c) (at_ t r)) (row (m ((c : Thread nD τ).loc main_arg2)) (at_ t r)) (row (m ((c : Thread nD τ).loc main_arg3)) 1) d
      * err (row (xs m c) (at_ t r)) (row (m ((c : Thread nD τ).loc main_arg2)) (at_ t r)) (row (m ((c : Thread nD τ).loc main_arg3)) 1) d) * Scalar.ofBits .f32 0x3A000000#32
  else 0

/-- The gate's row of a point's part. -/
theorem part_0 (t : Fin cfg0.N) (k : Fin 8) (d : Fin 1024) (hk : k.val = 0) (v : Vec Ideal S1x1024 .f32) :
    k0_pay15 (iblk m c 1 t) (k0_pay2 (gate_ m c t) (iblk m c 1 t) (iblk m c 0 t)) (k0_pay5 (gate_ m c t) (iblk m c 1 t) (iblk m c 0 t))
        (k0_pay11 (gate_ m c t) (iblk m c 1 t) (iblk m c 0 t) (gain_ m c t) (iblk m c 2 t))
        (k0_pay12 (gate_ m c t) (iblk m c 1 t) (iblk m c 0 t) (gain_ m c t) (iblk m c 2 t)) v (ix2 0 d)
      = v (ix2 0 d) + part m c t k d := by
  rw [gate_pay]
  simp only [x_blk, t_blk, gain_blk]
  refine congrArg _ ?_
  rw [part, if_pos hk]
  exact Finset.sum_congr rfl fun r _ => congrArg _ (congrFun (y_blk m c t r) d)

theorem part_1 (t : Fin cfg0.N) (k : Fin 8) (d : Fin 1024) (hk : k.val = 1) (v : Vec Ideal S1x1024 .f32) :
    k0_pay16 (k0_pay9 (gate_ m c t) (iblk m c 1 t) (iblk m c 0 t) (gain_ m c t) (iblk m c 2 t)) v (ix2 0 d)
      = v (ix2 0 d) + part m c t k d := by
  rw [gain_pay]
  simp only [x_blk, t_blk, gain_blk]
  rw [part, if_neg (by omega), if_pos hk]

theorem part_2 (t : Fin cfg0.N) (k : Fin 8) (d : Fin 1024) (hk : k.val = 2) (v : Vec Ideal S1x1024 .f32) :
    k0_pay17 (k0_pay7 (gate_ m c t) (iblk m c 1 t) (iblk m c 0 t) (gain_ m c t) (iblk m c 2 t)) v (ix2 0 d)
      = v (ix2 0 d) + part m c t k d := by
  rw [chan_pay]
  simp only [x_blk, t_blk, gain_blk]
  rw [part, if_neg (by omega),
    if_neg (by omega), if_pos hk]

/-- The other rows get nothing. -/
theorem part_3 (t : Fin cfg0.N) (k : Fin 8) (d : Fin 1024) (h0 : ¬k.val = 0) (h1 : ¬k.val = 1) (h2 : ¬k.val = 2) :
    part m c t k d = 0 := by
  rw [part, if_neg h0, if_neg h1, if_neg h2]

theorem zero_pay (j : S8x1024.Idx) : k0_pay1 (F := Ideal) j = 0 := by
  pointwise [k0_pay1]

theorem part_A (t : Fin cfg0.N) (h0 : t.val % 16 = 0) (j : S8x1024.Idx) :
    (outsAt0 m c t.val t.isLt).2.2 j = 0 + part m c t (j 0) (j 1) := by
  rw [outsAt0_A m c t h0]; frame_out
  obtain ⟨k, d, rfl⟩ : ∃ (k : Fin 8) (d : Fin 1024), j = ix2 k d := ⟨j 0, j 1, by funext a; revert a; exact Fin.forall_fin_two.mpr ⟨rfl, rfl⟩⟩
  by_cases k2 : k.val = 2
  · refine (canon_on 2 _ _ _ k d k2).trans ((part_2 m c t k d k2 _).trans (congrArg (· + _) ?_))
    rw [View.readCov_skip _ _ _ _ _ rfl, View.readCov_skip _ _ _ _ _ rfl, View.readCov_fill _ _ _ _ _ (by decide)]
    exact (ld_row _ 2 _ k d k2).trans (zero_pay _)
  refine (canon_off 2 _ _ _ k d k2).trans ?_
  by_cases k1 : k.val = 1
  · refine (canon_on 1 _ _ _ k d k1).trans ((part_1 m c t k d k1 _).trans (congrArg (· + _) ?_))
    rw [View.readCov_skip _ _ _ _ _ rfl, View.readCov_fill _ _ _ _ _ (by decide)]
    exact (ld_row _ 1 _ k d k1).trans (zero_pay _)
  refine (canon_off 1 _ _ _ k d k1).trans ?_
  by_cases k0 : k.val = 0
  · refine (canon_on 0 _ _ _ k d k0).trans ((part_0 m c t k d k0 _).trans (congrArg (· + _) ?_))
    rw [View.readCov_fill _ _ _ _ _ (by decide)]
    exact (ld_row _ 0 _ k d k0).trans (zero_pay _)
  refine (canon_off 0 _ _ _ k d k0).trans ?_
  rw [View.canon_cons_unit_lit _ _ _ (by decide), zero_pay]
  exact (part_3 m c t k d k0 k1 k2 ▸ add_zero _).symm

theorem part_B (t : Fin cfg0.N) (h0 : ¬t.val % 16 = 0) (j : S8x1024.Idx) :
    (outsAt0 m c t.val t.isLt).2.2 j = (outsAt0 m c (t.val - 1) (Nat.lt_of_le_of_lt (Nat.sub_le _ _) t.isLt)).2.2 j + part m c t (j 0) (j 1) := by
  rw [outsAt0_B m c t h0]; frame_out
  obtain ⟨k, d, rfl⟩ : ∃ (k : Fin 8) (d : Fin 1024), j = ix2 k d := ⟨j 0, j 1, by funext a; revert a; exact Fin.forall_fin_two.mpr ⟨rfl, rfl⟩⟩
  by_cases k2 : k.val = 2
  · exact (on_row _ _ 2 _ _ _ k d k2).trans ((part_2 m c t k d k2 _).trans (congrArg (· + _) (ld_row _ 2 _ k d k2)))
  refine (off_row _ _ 2 _ _ _ k d k2).trans ?_
  by_cases k1 : k.val = 1
  · exact (on_row _ _ 1 _ _ _ k d k1).trans ((part_1 m c t k d k1 _).trans (congrArg (· + _) (ld_row _ 1 _ k d k1)))
  refine (off_row _ _ 1 _ _ _ k d k1).trans ?_
  by_cases k0 : k.val = 0
  · exact (on_row _ _ 0 _ _ _ k d k0).trans ((part_0 m c t k d k0 _).trans (congrArg (· + _) (ld_row _ 0 _ k d k0)))
  refine (off_row _ _ 0 _ _ _ k d k0).trans ?_
  rw [View.writes_nil, (hs0_6 t).read_unread]
  exact (part_3 m c t k d k0 k1 k2 ▸ add_zero _).symm

/-- The sums, as a whole array: what the sixteen points add. -/
def sums : Vecs := fun j => ∑ t : Fin cfg0.N, part m c t (j 0) (j 1)

theorem sum_out : (dats m 0 c).arrAt 6 cfg0.N = sums m c := by
  refine (dats m 0 c).arrAt_eq_of_covers 6 _ (by decide +kernel) fun t hf y => ?_
  blk_simp
  rw [after0_6]
  have ht : t = t0_15 := Fin.ext (by have h1 := (flush0_6 t).mp hf; have h2 := t.isLt; have h3 : cfg0.N = 16 := N_0; show t.val = 15; omega)
  subst ht
  have hy : ((View.whole main_v0_2).slice (win0_6.rect t0_15)).emb y = y := by
    blk_ext [idx t0_15]
  rw [hy, Pipeline.eq_sum_fin_of_reset_step_apply_last (fun n h => (outsAt0 m c n h).2.2) 16 (fun _ => 0) (fun t j => part m c t (j 0) (j 1))
    (fun t h j => part_A m c t h j) (fun t h j => part_B m c t h j) (le_of_eq N_0) t0_15 rfl]
  exact zero_add (sums m c y)

/-- The sums over the whole array. -/
def tot (x y t : Mat) (v : Vecs) : Vecs := fun j =>
  if (j 0).val = 0 then ∑ r : Fin 8192, last (row x r) (row t r) (row v 1) (j 1) * row y r (j 1)
  else if (j 0).val = 1 then ∑ r : Fin 8192, unit (row x r) (j 1) * cot (row x r) (row t r) (row v 1) (j 1)
  else if (j 0).val = 2 then (∑ r : Fin 8192, err (row x r) (row t r) (row v 1) (j 1) * err (row x r) (row t r) (row v 1) (j 1)) * Scalar.ofBits .f32 0x3A000000#32
  else 0

section Rows
variable (x y t : Mat) (v : Vecs) (k : Fin 8) (d : Fin 1024)

theorem tot_0 (hk : k.val = 0) : tot x y t v (ix2 k d) = ∑ r : Fin 8192, last (row x r) (row t r) (row v 1) d * row y r d := if_pos hk

theorem tot_1 (hk : k.val = 1) : tot x y t v (ix2 k d) = ∑ r : Fin 8192, unit (row x r) d * cot (row x r) (row t r) (row v 1) d :=
  (if_neg (show ¬k.val = 0 by omega)).trans (if_pos hk)

theorem tot_2 (hk : k.val = 2) : tot x y t v (ix2 k d)
    = (∑ r : Fin 8192, err (row x r) (row t r) (row v 1) d * err (row x r) (row t r) (row v 1) d) * Scalar.ofBits .f32 0x3A000000#32 :=
  (if_neg (show ¬k.val = 0 by omega)).trans ((if_neg (show ¬k.val = 1 by omega)).trans (if_pos hk))

theorem tot_3 (h0 : ¬k.val = 0) (h1 : ¬k.val = 1) (h2 : ¬k.val = 2) : tot x y t v (ix2 k d) = 0 :=
  (if_neg h0).trans ((if_neg h1).trans (if_neg h2))

end Rows

/-- What the points add is the sum over the whole array. -/
theorem sums_eq : sums m c = tot (xs m c) (m ((c : Thread nD τ).loc main_arg1)) (m ((c : Thread nD τ).loc main_arg2)) (m ((c : Thread nD τ).loc main_arg3)) := by
  have hL : 8192 = cfg0.N * 512 := by have h : cfg0.N = 16 := N_0; omega
  funext j
  obtain ⟨k, d, rfl⟩ : ∃ (k : Fin 8) (d : Fin 1024), j = ix2 k d := ⟨j 0, j 1, by funext a; revert a; exact Fin.forall_fin_two.mpr ⟨rfl, rfl⟩⟩
  show ∑ t : Fin cfg0.N, part m c t k d = _
  by_cases k0 : k.val = 0
  · refine Eq.trans ?_ (tot_0 _ _ _ _ _ _ k0).symm
    simp only [part, if_pos k0]
    exact Fin.sum_mul_add_congr (fun _ _ _ => rfl) hL
  by_cases k1 : k.val = 1
  · refine Eq.trans ?_ (tot_1 _ _ _ _ _ _ k1).symm
    simp only [part, if_neg k0, if_pos k1]
    exact Fin.sum_mul_add_congr (fun _ _ _ => rfl) hL
  by_cases k2 : k.val = 2
  · refine Eq.trans ?_ (tot_2 _ _ _ _ _ _ k2).symm
    simp only [part, if_neg k0, if_neg k1, if_pos k2]
    rw [show Scalar.ofBits (F := Ideal) .f32 0x3A000000#32 = ((1 / 2048 : ℝ) : EReal) from c_halfinv]
    refine ((scale_sum _ _ (by norm_num) _).symm).trans ?_
    exact congrArg (· * ((1 / 2048 : ℝ) : EReal)) (Fin.sum_mul_add_congr (fun _ _ _ => rfl) hL)
  · refine Eq.trans ?_ (tot_3 _ _ _ _ _ _ k0 k1 k2).symm
    simp only [part, if_neg k0, if_neg k1, if_neg k2]
    exact Finset.sum_const_zero

end Points

section Ref
open Cert.FinalReferenceIdeal

variable (m' : (ℓ : Loc Cert.FinalReferenceIdeal.nD Cert.FinalReferenceIdeal.τ Cert.FinalReferenceIdeal.sig) → Buf (Elt Ideal) ℓ) (c' : Dev Cert.FinalReferenceIdeal.nD)

set_option maxRecDepth 8192 in
theorem ref_dx : Cert.FinalReferenceIdeal.Value.res_main_v58 m' c' = dx (res (m' ((c' : Thread nD τ).loc main_arg0)) (m' ((c' : Thread nD τ).loc main_arg1)) (m' ((c' : Thread nD τ).loc main_arg3)))
    (m' ((c' : Thread nD τ).loc main_arg2)) (m' ((c' : Thread nD τ).loc main_arg3)) := by
  funext i
  unfold Cert.FinalReferenceIdeal.Value.res_main_v58
  generalize (m' ((c' : Thread nD τ).loc main_arg0) : Mat) = a0
  generalize (m' ((c' : Thread nD τ).loc main_arg1) : Mat) = a1
  generalize (m' ((c' : Thread nD τ).loc main_arg2) : Mat) = a2
  generalize (m' ((c' : Thread nD τ).loc main_arg3) : Vecs) = a3
  change Mat at a0 a1 a2
  change Vecs at a3
  idx_vars i
  pointwise [dx, last, back, pull, cot, err, unit, ms, row, res]
  simp only [half_twice', Fin.sum_univ_one, zero_add]

set_option maxRecDepth 8192 in
theorem ref_dy : Cert.FinalReferenceIdeal.Value.res_main_v94 m' c' = narrow (fun i => dx (res (m' ((c' : Thread nD τ).loc main_arg0)) (m' ((c' : Thread nD τ).loc main_arg1)) (m' ((c' : Thread nD τ).loc main_arg3)))
    (m' ((c' : Thread nD τ).loc main_arg2)) (m' ((c' : Thread nD τ).loc main_arg3)) i * row (m' ((c' : Thread nD τ).loc main_arg3)) 0 (i 1)) := by
  funext i
  unfold Cert.FinalReferenceIdeal.Value.res_main_v94
  generalize (m' ((c' : Thread nD τ).loc main_arg0) : Mat) = a0
  generalize (m' ((c' : Thread nD τ).loc main_arg1) : Mat) = a1
  generalize (m' ((c' : Thread nD τ).loc main_arg2) : Mat) = a2
  generalize (m' ((c' : Thread nD τ).loc main_arg3) : Vecs) = a3
  change Mat at a0 a1 a2
  change Vecs at a3
  idx_vars i
  pointwise [narrow, dx, last, back, pull, cot, err, unit, ms, row, res]
  simp only [half_twice', Fin.sum_univ_one, zero_add]
  exact mul_comm (_ : EReal) _

set_option maxRecDepth 8192 in
theorem ref_sums : Cert.FinalReferenceIdeal.Value.res_main_v103 m' c' = tot (res (m' ((c' : Thread nD τ).loc main_arg0)) (m' ((c' : Thread nD τ).loc main_arg1)) (m' ((c' : Thread nD τ).loc main_arg3)))
    (m' ((c' : Thread nD τ).loc main_arg1)) (m' ((c' : Thread nD τ).loc main_arg2)) (m' ((c' : Thread nD τ).loc main_arg3)) := by
  unfold Cert.FinalReferenceIdeal.Value.res_main_v103
  generalize (m' ((c' : Thread nD τ).loc main_arg0) : Mat) = a0
  generalize (m' ((c' : Thread nD τ).loc main_arg1) : Mat) = a1
  generalize (m' ((c' : Thread nD τ).loc main_arg2) : Mat) = a2
  generalize (m' ((c' : Thread nD τ).loc main_arg3) : Vecs) = a3
  change Mat at a0 a1 a2
  change Vecs at a3
  funext i
  idx_vars i
  refine (rows8 _ _ _ _ _ _ _ _ _ _ _).trans ?_
  fin_cases i0
  · refine Eq.trans ?_ (tot_0 _ _ _ _ _ _ rfl).symm
    dsimp only [Matrix.cons_val]
    pointwise [dx, last, back, pull, cot, err, unit, ms, row, res]
    simp only [half_twice', Fin.sum_univ_one, zero_add]
  · refine Eq.trans ?_ (tot_1 _ _ _ _ _ _ rfl).symm
    dsimp only [Matrix.cons_val]
    pointwise [dx, last, back, pull, cot, err, unit, ms, row, res]
    simp only [half_twice', Fin.sum_univ_one, zero_add]
  · refine Eq.trans ?_ (tot_2 _ _ _ _ _ _ rfl).symm
    dsimp only [Matrix.cons_val]
    pointwise [dx, last, back, pull, cot, err, unit, ms, row, res]
    exact channel _
  all_goals
    refine Eq.trans ?_ (tot_3 _ _ _ _ _ _ (by decide) (by decide) (by decide)).symm
    dsimp only [Matrix.cons_val]
    pointwise []

end Ref
/-- The call in floating point always ends, faults nowhere and leaves its arguments and semaphores as they were. -/
theorem frameP : Cert.quiescent_Final := fun m g _ => Cert.Final.Gen.frame m g
/-- The same over the extended reals. -/
theorem framePI : Cert.quiescent_FinalIdeal := fun m g _ => Cert.FinalIdeal.Gen.frame (F := Ideal) m g
/-- The plain formula over the extended reals always ends and leaves its arguments and semaphores as they were. -/
theorem frameRI : Cert.quiescent_FinalReferenceIdeal := fun m g _ =>
  (θ_run Cert.FinalReferenceIdeal.defs _ _).mono (fun r h => ⟨fun c => (h c).2.2.2, sem_eq_zero_of_no_sems (by decide) r.2⟩)
    (Cert.FinalReferenceIdeal.Value.run (F := Ideal) m g)

/-- Over the extended reals, the call and the plain gradient give the same three results. -/
theorem value : Cert.algebraic_FinalIdeal_FinalReferenceIdeal := by
  intro m g m' g' _ hagree
  refine ⟨_, _, _, (θ_run Cert.FinalIdeal.defs _ _).mono (fun r h c =>
      ⟨(h c).1.trans (dx_out m c), (h c).2.1.trans (dy_out m c), (h c).2.2.1.trans ((sum_out m c).trans (sums_eq m c)), (h c).2.2.2⟩)
        (Cert.FinalIdeal.Value.run_blocks m g),
    (θ_run Cert.FinalReferenceIdeal.defs _ _).mono (fun r h c => ?_) (Cert.FinalReferenceIdeal.Value.run (F := Ideal) m' g')⟩
  obtain ⟨a0, a1, a2, a3⟩ := hagree c
  obtain ⟨h0, h1, h2, kept⟩ := h c
  rw [ref_dx, a0, a1, a2, a3] at h0
  rw [ref_dy, a0, a1, a2, a3] at h1
  rw [ref_sums, a0, a1, a2, a3] at h2
  exact ⟨h0, h1, h2, kept⟩

end Rows.Final

end
-- ==== Proof.PsumRun.lean ====
/- A program that launches no kernel: a line of host operations on every device, then one sum over all devices. Its run,
   for any such program: what every buffer holds at the end, and that every counter is back at zero. -/
module

public import Idealize.ShloMosaic.Lib.StableHlo.CollectiveRules
public import Idealize.ShloMosaic.Lib.Pipeline.Regions
public import Idealize.ShloMosaic.Lib.Pipeline.Frame
public import Idealize.ShloMosaic.Lib.Pipeline.CollectiveSegs
public import Idealize.ShloMosaic.Lib.Pipeline.Kit
public import Idealize.ShloMosaic.Lib.Quiescent
public import Idealize.ShloMosaic.Lib.Tactic

@[expose] public section

noncomputable section

namespace Rows.Psum

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- The sum's part of the resources: rounds on the counters, one duty per paying device. -/
abbrev Pay (nD : Nat) (τ : Topo) (sig : RefSig) : Type := URounds (GSem nD τ sig) (Dev nD)

/-- All of the resources: the kernels' part, of which nothing is used, and the sum's. -/
abbrev Res (nD : Nat) (τ : Topo) (sig : RefSig) : Type := UR sig nD τ × Pay nD τ sig

local notation "𝕄" => MT nD τ sig ℕ Val ℕ (Res nD τ sig) ℕ

/-- A barrier's unit is owed at index 1, a slot's credit at index 2. -/
def known (g : GSem nD τ sig) : Finset ℕ := if g.1.2 = .tc then {1, 2} else ∅

/-- An index is its own level. -/
def height (_ : GSem nD τ sig) (i : ℕ) : ℕ := i

variable (P : AllReduce.Cfg nD τ sig Val)

/-- At the barrier a device still owes the slots' credit, which is above the barrier. -/
theorem wait_bar (c : Dev nD) :
    (levAts known height : sProp 𝕄) ⊢ MayWait (c : Thread nD τ) (.reg P.barrier) 1 (0 + P.dataDue c 2) := by
  have at_recv {g : GSem nD τ sig} {i : ℕ} (h : 0 < (0 + P.dataDue c 2) g i) : g.1.2 = .tc ∧ i = 2 := by
    rw [zero_add] at h
    obtain ⟨d, -, rfl, rfl⟩ := P.dataDue_pos h
    exact ⟨rfl, rfl⟩
  refine MayOwe.of_cut (L := known) (lev := height) 1 (fun p hp => ?_) (fun g i h => ?_) (fun p hp => ?_) fun g i h => ?_
  · rw [Finset.mem_singleton.mp hp]; unfold known; rw [if_pos rfl]; exact Finset.mem_insert_self _ _
  · unfold known; rw [if_pos (at_recv h).1, (at_recv h).2]; decide
  · rw [Finset.mem_singleton.mp hp]; exact le_rfl
  · rw [(at_recv h).2]; exact Nat.one_lt_two

/-- A device that owes nothing may wait. -/
theorem wait_none (c : Dev nD) (s : SemLoc sig) (i : ℕ) :
    (levAts known height : sProp 𝕄) ⊢ MayWait (c : Thread nD τ) s i (0 : CellTallies nD τ sig ℕ) := by
  rw [MayWait_zero]; iintro -; iempintro

variable {Λ₀ : Labels} (pcs : Fin 0 → Pipeline.PCfg sig Λ₀ Val) (defs₀ : Defs nD τ sig Val Λ₀)

/-- The sum's three counters on a device, all at zero. -/
abbrev zeros (c : Dev nD) : sProp 𝕄 :=
  iprop(semVal (P.barrierCell c) 0 ∗ semVal (P.recvCell c) 0 ∗ semVal (P.sendCell c) 0)

/-- What a device owes at the start. -/
abbrev owed (c : Dev nD) : CellTallies nD τ sig ℕ := P.due c 1 2

section Run

variable [∀ e, Nonempty (Val e)]

/-- Where the sum's part sits among the resources. -/
abbrev inj : Emb (Pay nD τ sig) (MT nD τ sig ℕ Val ℕ (Res nD τ sig) ℕ) := embR

/-- The sum's part at the start, all of it with one device. -/
def seed (d : Dev nD) (V : Dev nD → Valuation τ sig Val) (c : Dev nD) : sProp 𝕄 :=
  if c = d then BI.own (inj (initOf P.cells (AllReduce.Dat.once (Ix := ℕ) (Name := ℕ) (U := Res nD τ sig) (Lvl := ℕ) P V).launchToks)) else iprop(emp)

theorem seed_all (d : Dev nD) (V : Dev nD → Valuation τ sig Val) :
    bigSep Finset.univ (seed P d V)
      = (BI.own (inj (initOf P.cells (AllReduce.Dat.once (Ix := ℕ) (Name := ℕ) (U := Res nD τ sig) (Lvl := ℕ) P V).launchToks)) : sProp 𝕄) := by
  have rest : bigSep (Finset.univ.erase d) (seed P d V) = (iprop(emp) : sProp 𝕄) := by
    rw [bigSep_congr (Ψ := fun _ => (BI.emp : sProp 𝕄)) fun c hc => show seed P d V c = BI.emp from if_neg (Finset.ne_of_mem_erase hc)]
    exact BI.bigSep_emp_const (M := MT nD τ sig ℕ Val ℕ (Res nD τ sig) ℕ) _
  rw [bigSep_univ_at _ d, rest]
  unfold seed
  rw [if_pos rfl]
  exact BI.equiv_iff.mp sep_emp

/-- What the sum needs on a device, and what it needs to say at the end. -/
abbrev carry (V : Dev nD → Valuation τ sig Val) (c : Dev nD) : sProp 𝕄 :=
  (AllReduce.Dat.once (Ix := ℕ) (Name := ℕ) (U := Res nD τ sig) (Lvl := ℕ) P V).rides inj c 1 2

/-- The record kept on every counter of the sum. -/
abbrev kept (V : Dev nD → Valuation τ sig Val) : sProp 𝕄 :=
  iprop(∃ κ, (AllReduce.Dat.once (Ix := ℕ) (Name := ℕ) (U := Res nD τ sig) (Lvl := ℕ) P V).cellInvs inj κ)

/-- What a device starts from: its buffers, the sum's part, what it owes. -/
abbrev start (W V : Dev nD → Valuation τ sig Val) (c : Dev nD) : sProp 𝕄 :=
  iprop(StableHlo.held (c : Thread nD τ) (Pipeline.ucRefs τ sig) (W c) ∗ carry P V c ∗ ∃ X, owes (c : Thread nD τ) (owed P c) X)

/-- Three families side by side, each gathered. -/
theorem three (X Y Z : Dev nD → sProp 𝕄) : (bigSep Finset.univ fun c => iprop(X c ∗ Y c ∗ Z c))
    = iprop(bigSep Finset.univ X ∗ bigSep Finset.univ Y ∗ bigSep Finset.univ Z) := by
  rw [bigSep_sep', bigSep_sep']

/-- From what the launch gives to what every device starts from. -/
theorem dealt (hsem : ∀ c : Dev nD, (unscopedSems0 c : sProp 𝕄) = zeros P c) (d : Dev nD) (W V : Dev nD → Valuation τ sig Val) (g : Dev nD → PrngReg) :
    iprop((bigSep Finset.univ fun c : Dev nD => iprop(unscopedBufs c (fun b => W c b) ∗ unscopedSems0 c
        ∗ owes (c : Thread nD τ) (owed P c) ∅ ∗ Pipeline.launchCred (owed P) c ∗ prngReg c (g c) ∗ seed P d V c)) ∗ levAts known height)
      ⊢ (|={Set.univ}=> bigSep Finset.univ (start P W V) : sProp 𝕄) := by
  have each (c : Dev nD) : iprop(unscopedBufs c (fun b => W c b) ∗ unscopedSems0 c
        ∗ owes (c : Thread nD τ) (owed P c) ∅ ∗ Pipeline.launchCred (owed P) c ∗ prngReg c (g c) ∗ seed P d V c)
      ⊢ (iprop((zeros P c ∗ Pipeline.launchCred (owed P) c) ∗ seed P d V c
          ∗ (StableHlo.held (c : Thread nD τ) (Pipeline.ucRefs τ sig) (W c) ∗ owes (c : Thread nD τ) (owed P c) ∅)) : sProp 𝕄) := by
    rw [hsem, show (unscopedBufs c (fun b => W c b) : sProp 𝕄) = StableHlo.held (c : Thread nD τ) (Pipeline.ucRefs τ sig) (W c)
      from Pipeline.unscopedBufs_held (Ix := ℕ) (Name := ℕ) (U := Res nD τ sig) (Lvl := ℕ) c (W c)]
    iintro ⟨Hb, Hz, HO, Hc, -, Hg⟩
    isplitl [Hz Hc]; · isplitl [Hz] <;> iassumption
    isplitl [Hg]; · iexact Hg
    isplitl [Hb] <;> iassumption
  have back (c : Dev nD) : iprop(carry P V c ∗ (StableHlo.held (c : Thread nD τ) (Pipeline.ucRefs τ sig) (W c) ∗ owes (c : Thread nD τ) (owed P c) ∅))
      ⊢ start P W V c := by
    iintro ⟨Hr, Hb, HO⟩
    isplitl [Hb]; · iexact Hb
    isplitl [Hr]; · iexact Hr
    iexists ∅; iexact HO
  refine (sep_mono_left (bigSep_mono fun c _ => each c)).trans ?_
  have fund := (AllReduce.Dat.once (Ix := ℕ) (Name := ℕ) (U := Res nD τ sig) (Lvl := ℕ) P V).fund_rides inj 1 2 (Es := Set.univ)
  rw [three (fun c => iprop(zeros P c ∗ Pipeline.launchCred (owed P) c)) (seed P d V), seed_all]
  iintro ⟨⟨Hz, Hu, Hk⟩, -⟩
  imod fund $$ [Hz Hu] with Hr
  · isplitl [Hz] <;> iassumption
  imodintro
  iapply (show iprop((bigSep Finset.univ fun c : Dev nD => carry P V c)
      ∗ bigSep Finset.univ fun c : Dev nD => iprop(StableHlo.held (c : Thread nD τ) (Pipeline.ucRefs τ sig) (W c) ∗ owes (c : Thread nD τ) (owed P c) ∅))
    ⊢ bigSep Finset.univ (start P W V) from by rw [← bigSep_sep']; exact bigSep_mono fun c _ => back c)
  isplitl [Hr] <;> iassumption

/-- The host operations, everything else passing by. -/
def line (ops : List (HloOp τ sig Val)) (hsub : ∀ op ∈ ops, op.bufs ⊆ StableHlo.tcRefs τ sig) (hfresh : ∀ op ∈ ops, op.fresh = ∅)
    (W V : Dev nD → Valuation τ sig Val) :
    Pipeline.HostSeg (Ix := ℕ) (Name := ℕ) (U := Res nD τ sig) (Lvl := ℕ) pcs defs₀ Variants.none known height :=
  Pipeline.HostSeg.ofOps pcs defs₀ Variants.none known height (Pipeline.ucRefs τ sig) ops (fun op h => Pipeline.sub_ucRefs op (hsub op h)) hfresh W
    fun c => iprop(carry P V c ∗ ∃ X, owes (c : Thread nD τ) (owed P c) X)

/-- The sum, the buffers that are not its own and the record passing by. -/
def total (hc : P.SlotCredit) (hN : 0 < P.amount) (V : Dev nD → Valuation τ sig Val) :
    Pipeline.HostSeg (Ix := ℕ) (Name := ℕ) (U := Res nD τ sig) (Lvl := ℕ) pcs defs₀ Variants.none known height :=
  AllReduce.hostSegHeld₀ inj pcs defs₀ Variants.none known height hc hN V (fun _ => 0) 1 1 2 1 2 (wait_bar P) (fun c => wait_none c _ _) (fun c => wait_none c _ _)
    fun c => iprop(kept P V ∗ StableHlo.held (c : Thread nD τ) (Pipeline.ucRefs τ sig \ P.siteRefs) (V c))

/-- What a device ends with. -/
abbrev done (V : Dev nD → Valuation τ sig Val) (c : Dev nD) : sProp 𝕄 :=
  iprop(StableHlo.held (c : Thread nD τ) (Pipeline.ucRefs τ sig) (P.after₀ V c) ∗ kept P V ∗ P.ghostAfter inj c 0)

theorem line_total (hc : P.SlotCredit) (hN : 0 < P.amount) (ops : List (HloOp τ sig Val)) (hsub : ∀ op ∈ ops, op.bufs ⊆ StableHlo.tcRefs τ sig)
    (hfresh : ∀ op ∈ ops, op.fresh = ∅) (W : Dev nD → Valuation τ sig Val) (c : Dev nD) :
    (line P pcs defs₀ ops hsub hfresh W fun s => StableHlo.after ops (W s)).post c ⊢ (total P pcs defs₀ hc hN fun s => StableHlo.after ops (W s)).pre c := by
  dsimp only [line, total, Pipeline.HostSeg.ofOps, AllReduce.hostSegHeld₀, carry, AllReduce.Dat.rides]
  rw [zero_add, StableHlo.held_sub_split (c : Thread nD τ) P.siteRefs_sub_ucRefs (StableHlo.after ops (W c))]
  iintro ⟨⟨Hs, Hr⟩, ⟨#Hi, Hl⟩, HO⟩
  isplitl [Hs]; · iexact Hs
  isplitl [Hl]
  · isplitr; · iexact Hi
    iexact Hl
  isplitl [HO]; · iexact HO
  isplitr; · iexact Hi
  iexact Hr

theorem total_done (hc : P.SlotCredit) (hN : 0 < P.amount) (V : Dev nD → Valuation τ sig Val) (c : Dev nD) :
    (total P pcs defs₀ hc hN V).post c ⊢ iprop(done P V c ∗ ∃ X, owes (c : Thread nD τ) (0 : CellTallies nD τ sig ℕ) X) := by
  dsimp only [total, AllReduce.hostSegHeld₀, done]
  rw [StableHlo.held_sub_split (c : Thread nD τ) P.siteRefs_sub_ucRefs (P.after₀ V c),
    StableHlo.held_congr (c : Thread nD τ) (S := Pipeline.ucRefs τ sig \ P.siteRefs) (V := P.after₀ V c) (V' := V c)
      fun b hb => P.after₀_off_siteRefs V c (Finset.mem_sdiff.mp hb).2]
  iintro ⟨Hs, Hg, HO, Hi, Hr⟩
  isplitr [HO]; swap; · iexact HO
  isplitl [Hs Hr]; · isplitl [Hs] <;> iassumption
  isplitl [Hi] <;> iassumption

/-- What the end of a device's run says of the memory: every buffer, and the sum's three counters. -/
def Ends (V : Dev nD → Valuation τ sig Val) (c : Dev nD) (s : MemSt nD τ sig Val) : Prop :=
  (∀ b : Ref sig .tc, b.isScoped = false → s.mem ((c : Thread nD τ).loc b) = P.after₀ V c b)
    ∧ s.sem (P.barrierCell c) = 0 ∧ s.sem (P.recvCell c) = 0 ∧ s.sem (P.sendCell c) = 0

theorem done_read (V : Dev nD → Valuation τ sig Val) (c : Dev nD) (s : Phys nD τ sig Val) :
    iprop(done P V c ∗ SI s) ⊢ |={Set.univ}=> (iprop(⌜Ends P V c s.mem⌝ ∗ SI s) : sProp 𝕄) := by
  refine Laws.pure_elim _ ((sep_mono_left sep_elim_left).trans (sep_comm.1.trans (SI_pointsTo_bufs_agree (qs := fun _ => fullShare) (Pipeline.ucRefs τ sig)))) fun h => ?_
  iintro ⟨⟨-, He⟩, HS⟩
  imod ((AllReduce.Dat.once (Ix := ℕ) (Name := ℕ) (U := Res nD τ sig) (Lvl := ℕ) P V).ghostAfter_read inj c (k := 0) le_rfl s) $$ [He HS] with ⟨%hz, HS⟩
  · isplitl [He] <;> iassumption
  imodintro
  isplitr
  · ipureintro
    exact ⟨fun b hb => h _ (Finset.mem_filter.mpr ⟨StableHlo.devRef_mem_tcRefs b, fun h' => Bool.false_ne_true (hb.symm.trans h')⟩), hz⟩
  iexact HS

set_option backward.isDefEq.respectTransparency.types false in
/-- Every weakly fair run of a line of host operations and one sum over the devices ends, with every buffer at what the
    two leave in it and every counter at zero. -/
theorem run (hc : P.SlotCredit) (hN : 0 < P.amount) (d : Dev nD)
    (hall : (Finset.univ.filter fun sm : SemLoc sig => ¬ sm.isScoped .tc) = [SemLoc.reg P.barrier, .dma P.recv, .dma P.send].toFinset)
    (hdiff : [(SemLoc.reg P.barrier : SemLoc sig), .dma P.recv, .dma P.send].Nodup)
    (ops : List (HloOp τ sig Val)) (hsub : ∀ op ∈ ops, op.bufs ⊆ StableHlo.tcRefs τ sig) (hfresh : ∀ op ∈ ops, op.fresh = ∅)
    (main : Dev nD → Prog (TpuEff nD τ sig Val (Pipeline.Sig Λ₀ (Fin 0) fun p => (pcs p).Adm) .tc) PUnit)
    (hmain : ∀ c, main c = Pipeline.chain [StableHlo.seq ops, StableHlo.allReduce P])
    (m : (ℓ : Loc nD τ sig) → Buf Val ℓ) (g : Dev nD → PrngReg) :
    θ_run (Pipeline.defs pcs defs₀) (onTc main) ⟨m, fun _ => 0, g⟩ fun r =>
      (∀ (c : Dev nD) (b : Ref sig .tc), b.isScoped = false →
        r.2.mem ((c : Thread nD τ).loc b) = P.after₀ (fun s => StableHlo.after ops fun x => m ((s : Dev nD), x)) c b)
      ∧ r.2.sem = fun _ => 0 := by
  let W : Dev nD → Valuation τ sig Val := fun s x => m ((s : Dev nD), x)
  let V : Dev nD → Valuation τ sig Val := fun s => StableHlo.after ops (W s)
  let a : (p : Fin 0) → (pcs p).Adm := fun p => p.elim0
  let none_ : (p : Fin 0) → (c : Dev nD) → Pipeline.Dat τ Val ℕ ℕ (Res nD τ sig) ℕ (Pipeline.pin pcs a p) c := fun p => p.elim0
  have hinj : Function.Injective (Pipeline.cellOf (nD := nD) (τ := τ) (Pipeline.pin pcs a)) := fun p _ _ => p.1.elim0
  have hsem (c : Dev nD) : (unscopedSems0 c : sProp 𝕄) = zeros P c := by
    unfold unscopedSems0
    rw [bigSep_eq_bigSepL_of_eq _ hall hdiff]
    rfl
  refine Pipeline.θ_run_regions_kit_sems pcs a none_ 0 hinj embL defs₀ Variants.none known height m g main
    [.host (line P pcs defs₀ ops hsub hfresh W V), .host (total P pcs defs₀ hc hN V)]
    (fun c Q => by rw [hmain c]; exact .rfl)
    (by simp only [Pipeline.Seg.pipes_host, Pipeline.Seg.pipes_nil]; exact List.nodup_nil)
    (O₀ := owed P) (hL := fun _ h => if_neg h) (G := seed P d V)
    (u₀ := (initOf (Pipeline.cells (Pipeline.pin pcs a) hinj) (Pipeline.launchToks (Pipeline.pin pcs a) hinj),
      initOf P.cells (AllReduce.Dat.once (Ix := ℕ) (Name := ℕ) (U := Res nD τ sig) (Lvl := ℕ) P V).launchToks))
    (hu₀ := ?_) (T₀ := start P W V) (Tₙ := done P V)
    (hch := ⟨fun _ => .rfl, line_total P pcs defs₀ hc hN ops hsub hfresh W, total_done P pcs defs₀ hc hN V⟩)
    (hinit := dealt P hsem d W V g) (QY := Ends P V) (hfin := done_read P V)
    (hQ := fun s h hs => ⟨fun c => (h c).1, sem_eq_zero hs fun c sm hsm => ?_⟩)
  · iintro Hu
    ihave H := (ownU_pair _ _) $$ Hu
    icases H with ⟨HP, HX⟩
    imodintro
    isplitl [HP]; · iexact HP
    rw [seed_all]; iexact HX
  · have hm : sm ∈ (Finset.univ.filter fun sm : SemLoc sig => ¬ sm.isScoped .tc) :=
      Finset.mem_filter.mpr ⟨Finset.mem_univ _, fun h' => Bool.false_ne_true (hsm.symm.trans h')⟩
    rw [hall, List.mem_toFinset] at hm
    simp only [List.mem_cons, List.not_mem_nil, or_false] at hm
    obtain ⟨-, hb, hr, hd⟩ := h c
    rcases hm with rfl | rfl | rfl
    exacts [hb, hr, hd]

end Run

end Rows.Psum

end
-- ==== Proof.LossClaims.lean ====
/- The loss: every device's sum over its third row, and the sum of the eight, which every device ends with. -/
module

public import proofs.«01_k».proof.Defs
public import proofs.«01_k».proof.Proof.PsumRun
public import proofs.«01_k».proof.Proof.Gen.Loss
public import proofs.«01_k».proof.Proof.Gen.LossIdeal
public import proofs.«01_k».proof.Proof.Gen.LossReferenceIdeal.Run
public import Idealize.ShloMosaic.Lib.IdealHost
public import Idealize.ShloMosaic.Lib.ValueIdxCore
public import Idealize.ShloMosaic.Lib.Pipeline.ValueKit

@[expose] public section

noncomputable section

namespace Rows.Loss

open Idealize.ShloMosaic Idealize.ShloMosaic.TcCoe Idealize.SL.Sem

/-- The sum of one line of 1024 numbers. -/
def line (x : FVec Ideal ⟨2, ![64, 1024]⟩ .f32) (s : Fin 8) : EReal := ∑ k : Fin 1024, x (ix2 ⟨s.val * 8 + 2, by omega⟩ k)

/-- The sum over one device's third row. -/
theorem part (x : FVec Ideal ⟨2, ![64, 1024]⟩ .f32) (y : FVec Ideal ⟨2, ![8, 1024]⟩ .f32) (c : Fin 8) (hy : y = Layout.block ⟨2, ![8, 1024]⟩ ⟨2, ![64, 1024]⟩ 0 8 c x)
    (h1 h2 h3) (hu : 0 < (⟨0, ![]⟩ : Shape).numel) (i : (⟨0, ![]⟩ : Shape).Idx) :
    Host.reduceAdd (F := Ideal) (φ := .f32) (s := ⟨1, ![1024]⟩) (t := ⟨0, ![]⟩) (axes := [0]) (shapeCast _ (extractStridedSlice ⟨2, ![1, 1024]⟩ ![2, 0] y h1) h2) (constant ⟨0, ![]⟩ .f32 0x00000000#32) h3 hu i
      = line x c := by
  subst hy
  rw [ValueIdx.hostReduceAdd_apply, Ideal.hostReduceAdd_total _ (fun b => b.elim0)]
  refine Eq.trans (congrArg (· + _) (Ideal.ofBits_zero .f32)) ((zero_add _).trans ?_)
  refine (Finset.sum_congr rfl fun q _ => ?_).trans (Fin.sum_idx1 ![1024] fun k => x (ix2 ⟨c.val * 8 + 2, by omega⟩ k))
  pointwise [Layout.block_apply]
  refine congrArg x (funext fun p => Fin.ext ?_)
  fin_cases p <;> rfl

/-- The sum over the third row of every device, taken at once. -/
theorem whole (x : FVec Ideal ⟨2, ![64, 1024]⟩ .f32) (h1 h2 h3 h4) (hu : 0 < (⟨0, ![]⟩ : Shape).numel) (i : (⟨0, ![]⟩ : Shape).Idx) :
    Host.reduceAdd (F := Ideal) (φ := .f32) (s := ⟨2, ![8, 1024]⟩) (t := ⟨0, ![]⟩) (axes := [0, 1]) (shapeCast _ (extractStridedSlice ⟨3, ![8, 1, 1024]⟩ ![0, 2, 0] (shapeCast ⟨3, ![8, 8, 1024]⟩ x h1) h2) h3)
        (constant ⟨0, ![]⟩ .f32 0x00000000#32) h4 hu i
      = ∑ s : Fin 8, line x s := by
  rw [ValueIdx.hostReduceAdd_apply, Ideal.hostReduceAdd_total _ (fun b => b.elim0)]
  refine Eq.trans (congrArg (· + _) (Ideal.ofBits_zero .f32)) ((zero_add _).trans ?_)
  refine (ValueIdx.sum_idx2 _).trans (Finset.sum_congr rfl fun s _ => Finset.sum_congr rfl fun k _ => ?_)
  pointwise

section Loss

open Cert.Loss Cert.Loss.Gen

variable {F : FTy → Type} [FloatOps F]

/-- The device's own operations before the exchange, in order. -/
abbrev wordOps : List (HloOp τ sig (Elt F)) :=
  [ StableHlo.unary main_arg0 main_v1 ((extractStridedSlice S1x1024 ![2, 0] · Facts₀.slices_S8x1024_S1x1024_2_0) : (⟨S8x1024, .f32⟩ : BufTy).Contents (Elt F) → (⟨S1x1024, .f32⟩ : BufTy).Contents (Elt F)),
    StableHlo.reshape main_v1 main_v2 (rfl : (.f32 : EltTy) = .f32) Facts₀.shapeCasts_S1x1024_S1024,
    StableHlo.nullary main_cst (constant S_ .f32 0x00000000#32),
    StableHlo.binary main_v2 main_cst main_v3 ((fun x v => Host.reduceAdd x v Facts₀.reducesTo_S1024_S_d0 Facts₀.h_S_) : (⟨S1024, .f32⟩ : BufTy).Contents (Elt F) → (⟨S_, .f32⟩ : BufTy).Contents (Elt F) → (⟨S_, .f32⟩ : BufTy).Contents (Elt F)) ]

theorem word_ops_sub : (wordOps : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub ..⟩

theorem word_ops_fresh : (wordOps : List (HloOp τ sig (Elt F))).Forall fun op => op.fresh = ∅ := ⟨rfl, rfl, rfl, rfl⟩

theorem word_slots : (ar0 (F := F)).SlotCredit := fun j => by fin_cases j <;> rfl

theorem word_amount : 0 < (ar0 (F := F)).amount := View.dmaCredit_pos _ (by show 0 < (main_v3 : Ref sig .tc).ty.shape.numel; decide)

theorem word_sems : (Finset.univ.filter fun sm : SemLoc sig => ¬ sm.isScoped .tc) = [SemLoc.reg ar0_barrier, .dma ar0_recv, .dma ar0_send].toFinset := by
  decide

theorem word_sems_ne : [(SemLoc.reg ar0_barrier : SemLoc sig), .dma ar0_recv, .dma ar0_send].Nodup := by decide

theorem word_arg_off : ((main_arg0 : Ref sig .tc) : DevRef τ sig) ∉ (ar0 (F := F)).foldBufs := by
  intro h
  rcases Finset.mem_insert.mp h with h | h
  · exact (by decide : main_arg0 ≠ main_v4) (Proc.devRef_injective _ h)
  · obtain ⟨j, h⟩ := (ar0 (F := F)).mem_stageRefs.mp h
    exact (by decide : ∀ j, main_arg0 ≠ ar0_stage j) j (Proc.devRef_injective _ h)

/-- What the device's own operations leave in their result, and that they keep the argument. -/
theorem word_sum (V : Valuation τ sig (Elt F)) : StableHlo.after wordOps V main_v3 =
    Host.reduceAdd (shapeCast _ (extractStridedSlice S1x1024 ![2, 0] (V main_arg0) Facts₀.slices_S8x1024_S1x1024_2_0) Facts₀.shapeCasts_S1x1024_S1024)
      (constant S_ .f32 0x00000000#32) Facts₀.reducesTo_S1024_S_d0 Facts₀.h_S_ := by
  after_results <;> rfl

theorem word_kept (V : Valuation τ sig (Elt F)) : StableHlo.after wordOps V main_arg0 = V main_arg0 := by
  after_results <;> rfl

theorem word_ends (V : Dev nD → Valuation τ sig (Elt F)) (c : Dev nD) : (ar0 (F := F)).after₀ V c main_v4 = (ar0 (F := F)).foldGroup fun j => V ((ar0 (F := F)).peer c j) main_v3 :=
  ((ar0 (F := F)).after₀_result V c).trans rfl

/-- The run: every device ends with the sum of the eight in its result, its argument kept, and no credit left. -/
theorem word_run (m : (ℓ : Loc nD τ sig) → Buf (Elt F) ℓ) (g : Dev nD → PrngReg) :
    θ_run (defs (F := F)) (onTc (τ := τ) (main (F := F))) ⟨m, fun _ => 0, g⟩ fun r =>
      (∀ c : Dev nD,
        r.2.mem ((c.tc : Thread nD τ).loc main_v4) = (ar0 (F := F)).foldGroup (fun j =>
          Host.reduceAdd (shapeCast _ (extractStridedSlice S1x1024 ![2, 0] (m ((((ar0 (F := F)).peer c j).tc : Thread nD τ).loc main_arg0)) Facts₀.slices_S8x1024_S1x1024_2_0) Facts₀.shapeCasts_S1x1024_S1024)
            (constant S_ .f32 0x00000000#32) Facts₀.reducesTo_S1024_S_d0 Facts₀.h_S_)
        ∧ r.2.mem ((c.tc : Thread nD τ).loc main_arg0) = m ((c.tc : Thread nD τ).loc main_arg0))
      ∧ r.2.sem = fun _ => 0 :=
  (θ_run defs _ _).mono (fun r h => ⟨fun c => ⟨(h.1 c main_v4 rfl).trans ((word_ends _ c).trans (congrArg (ar0 (F := F)).foldGroup (funext fun j => word_sum _))),
      (h.1 c main_arg0 rfl).trans (((ar0 (F := F)).after₀_of_notMem _ c word_arg_off).trans (word_kept _))⟩, h.2⟩)
    (Psum.run (ar0 (F := F)) pcfgs defs₀ word_slots word_amount (0 : Dev 8) word_sems word_sems_ne wordOps
      (List.forall_iff_forall_mem.mp word_ops_sub) (List.forall_iff_forall_mem.mp word_ops_fresh) main (fun _ => rfl) m g)

end Loss

section LossIdeal

open Cert.LossIdeal Cert.LossIdeal.Gen

variable {F : FTy → Type} [FloatOps F]

/-- The device's own operations before the exchange, in order. -/
abbrev realOps : List (HloOp τ sig (Elt F)) :=
  [ StableHlo.unary main_arg0 main_v1 ((extractStridedSlice S1x1024 ![2, 0] · Facts₀.slices_S8x1024_S1x1024_2_0) : (⟨S8x1024, .f32⟩ : BufTy).Contents (Elt F) → (⟨S1x1024, .f32⟩ : BufTy).Contents (Elt F)),
    StableHlo.reshape main_v1 main_v2 (rfl : (.f32 : EltTy) = .f32) Facts₀.shapeCasts_S1x1024_S1024,
    StableHlo.nullary main_cst (constant S_ .f32 0x00000000#32),
    StableHlo.binary main_v2 main_cst main_v3 ((fun x v => Host.reduceAdd x v Facts₀.reducesTo_S1024_S_d0 Facts₀.h_S_) : (⟨S1024, .f32⟩ : BufTy).Contents (Elt F) → (⟨S_, .f32⟩ : BufTy).Contents (Elt F) → (⟨S_, .f32⟩ : BufTy).Contents (Elt F)) ]

theorem real_ops_sub : (realOps : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub ..⟩

theorem real_ops_fresh : (realOps : List (HloOp τ sig (Elt F))).Forall fun op => op.fresh = ∅ := ⟨rfl, rfl, rfl, rfl⟩

theorem real_slots : (ar0 (F := F)).SlotCredit := fun j => by fin_cases j <;> rfl

theorem real_amount : 0 < (ar0 (F := F)).amount := View.dmaCredit_pos _ (by show 0 < (main_v3 : Ref sig .tc).ty.shape.numel; decide)

theorem real_sems : (Finset.univ.filter fun sm : SemLoc sig => ¬ sm.isScoped .tc) = [SemLoc.reg ar0_barrier, .dma ar0_recv, .dma ar0_send].toFinset := by
  decide

theorem real_sems_ne : [(SemLoc.reg ar0_barrier : SemLoc sig), .dma ar0_recv, .dma ar0_send].Nodup := by decide

theorem real_arg_off : ((main_arg0 : Ref sig .tc) : DevRef τ sig) ∉ (ar0 (F := F)).foldBufs := by
  intro h
  rcases Finset.mem_insert.mp h with h | h
  · exact (by decide : main_arg0 ≠ main_v4) (Proc.devRef_injective _ h)
  · obtain ⟨j, h⟩ := (ar0 (F := F)).mem_stageRefs.mp h
    exact (by decide : ∀ j, main_arg0 ≠ ar0_stage j) j (Proc.devRef_injective _ h)

/-- What the device's own operations leave in their result, and that they keep the argument. -/
theorem real_sum (V : Valuation τ sig (Elt F)) : StableHlo.after realOps V main_v3 =
    Host.reduceAdd (shapeCast _ (extractStridedSlice S1x1024 ![2, 0] (V main_arg0) Facts₀.slices_S8x1024_S1x1024_2_0) Facts₀.shapeCasts_S1x1024_S1024)
      (constant S_ .f32 0x00000000#32) Facts₀.reducesTo_S1024_S_d0 Facts₀.h_S_ := by
  after_results <;> rfl

theorem real_kept (V : Valuation τ sig (Elt F)) : StableHlo.after realOps V main_arg0 = V main_arg0 := by
  after_results <;> rfl

theorem real_ends (V : Dev nD → Valuation τ sig (Elt F)) (c : Dev nD) : (ar0 (F := F)).after₀ V c main_v4 = (ar0 (F := F)).foldGroup fun j => V ((ar0 (F := F)).peer c j) main_v3 :=
  ((ar0 (F := F)).after₀_result V c).trans rfl

/-- The run: every device ends with the sum of the eight in its result, its argument kept, and no credit left. -/
theorem real_run (m : (ℓ : Loc nD τ sig) → Buf (Elt F) ℓ) (g : Dev nD → PrngReg) :
    θ_run (defs (F := F)) (onTc (τ := τ) (main (F := F))) ⟨m, fun _ => 0, g⟩ fun r =>
      (∀ c : Dev nD,
        r.2.mem ((c.tc : Thread nD τ).loc main_v4) = (ar0 (F := F)).foldGroup (fun j =>
          Host.reduceAdd (shapeCast _ (extractStridedSlice S1x1024 ![2, 0] (m ((((ar0 (F := F)).peer c j).tc : Thread nD τ).loc main_arg0)) Facts₀.slices_S8x1024_S1x1024_2_0) Facts₀.shapeCasts_S1x1024_S1024)
            (constant S_ .f32 0x00000000#32) Facts₀.reducesTo_S1024_S_d0 Facts₀.h_S_)
        ∧ r.2.mem ((c.tc : Thread nD τ).loc main_arg0) = m ((c.tc : Thread nD τ).loc main_arg0))
      ∧ r.2.sem = fun _ => 0 :=
  (θ_run defs _ _).mono (fun r h => ⟨fun c => ⟨(h.1 c main_v4 rfl).trans ((real_ends _ c).trans (congrArg (ar0 (F := F)).foldGroup (funext fun j => real_sum _))),
      (h.1 c main_arg0 rfl).trans (((ar0 (F := F)).after₀_of_notMem _ c real_arg_off).trans (real_kept _))⟩, h.2⟩)
    (Psum.run (ar0 (F := F)) pcfgs defs₀ real_slots real_amount (0 : Dev 8) real_sems real_sems_ne realOps
      (List.forall_iff_forall_mem.mp real_ops_sub) (List.forall_iff_forall_mem.mp real_ops_fresh) main (fun _ => rfl) m g)

end LossIdeal

/-- The sum of the eight, member by member, is the sum over the whole. -/
theorem fold_eight (x : FVec Ideal ⟨2, ![64, 1024]⟩ .f32) (y : Fin 8 → FVec Ideal ⟨0, ![]⟩ .f32) (hy : ∀ s i, y s i = line x s) :
    (Cert.LossIdeal.ar0 (F := Ideal)).foldGroup y = fun _ => ∑ s : Fin 8, line x s := by
  funext i
  rw [Fin.sum_univ_eight]
  simp only [← hy _ i]
  rfl

theorem peer_eq (c : Fin 8) (j : Fin 8) : (Cert.LossIdeal.ar0 (F := Ideal)).peer c j = j := by
  revert c j; decide

theorem frameP : Cert.quiescent_Loss := fun m g _ =>
  (θ_run Cert.Loss.defs _ _).mono (fun _ h => ⟨fun c => (h.1 c).2, h.2⟩) (word_run (F := Bits) m g)
theorem framePI : Cert.quiescent_LossIdeal := fun m g _ =>
  (θ_run Cert.LossIdeal.defs _ _).mono (fun _ h => ⟨fun c => (h.1 c).2, h.2⟩) (real_run (F := Ideal) m g)
theorem frameRI : Cert.quiescent_LossReferenceIdeal := fun m g _ =>
  (θ_run Cert.LossReferenceIdeal.defs _ _).mono (fun r h => ⟨fun c => (h c).2, sem_eq_zero_of_no_sems (by decide) r.2⟩)
    (Cert.LossReferenceIdeal.Value.run (F := Ideal) m g)
theorem value : Cert.algebraic_LossIdeal_LossReferenceIdeal := fun m g m' g' _ a =>
  ⟨_, (θ_run Cert.LossIdeal.defs _ _).mono
      (fun r h c => ⟨(h.1 c).1.trans (fold_eight _ _ fun s i => part _ _ s ((congrArg (fun d : Dev Cert.LossIdeal.nD => m ((d.tc : Thread Cert.LossIdeal.nD Cert.LossIdeal.τ).loc Cert.LossIdeal.main_arg0)) (peer_eq c s)).trans (a s)) _ _ _ _ i), (h.1 c).2⟩)
      (real_run (F := Ideal) m g),
    (θ_run Cert.LossReferenceIdeal.defs _ _).mono
      (fun r h => ⟨(h 0).1.trans (funext fun i => whole _ _ _ _ _ _ i), (h 0).2⟩) (Cert.LossReferenceIdeal.Value.run (F := Ideal) m' g')⟩

end Rows.Loss

end
-- ==== Proof.SumClaims.lean ====
/- The sum of the eight devices' packed gradients of the small weights. -/
module

public import proofs.«01_k».proof.Defs
public import proofs.«01_k».proof.Proof.Gen.Sum.Frame
public import proofs.«01_k».proof.Proof.Gen.SumIdeal.Value
public import proofs.«01_k».proof.Proof.Gen.SumReferenceIdeal.Run
public import Idealize.ShloMosaic.Lib.Pipeline.ValueKit
public import Idealize.ShloMosaic.Lib.IdealHost

@[expose] public section

noncomputable section

namespace Sums.Sum

open Cert.SumIdeal Cert.SumIdeal.Gen Idealize.ShloMosaic Idealize.ShloMosaic.TcCoe Idealize.SL.Sem

/-- The sum of eight slots. -/
def eight (x : FVec Ideal ⟨3, ![8, 920, 128]⟩ .f32) : FVec Ideal ⟨2, ![920, 128]⟩ .f32 := fun i =>
  let s k := x (ix3 k (i 0) (i 1))
  s 0 + s 1 + s 2 + s 3 + s 4 + s 5 + s 6 + s 7

theorem call_sum (x : FVec Ideal ⟨3, ![8, 920, 128]⟩ .f32) : Value.G1 (F := Ideal) x = eight x := by
  funext i
  pointwise [Value.G1, k0_pay1, eight]

/-- A sum over the slots is the sum of the slots. -/
theorem plain_sum (x : FVec Ideal ⟨3, ![8, 920, 128]⟩ .f32) (h : (⟨3, ![8, 920, 128]⟩ : Shape).ReducesTo [0] ⟨2, ![920, 128]⟩)
    (hu : 0 < (⟨0, ![]⟩ : Shape).numel) : Host.reduceAdd x (constant ⟨0, ![]⟩ .f32 0x00000000#32) h hu = eight x := by
  funext i
  rw [ValueIdx.hostReduceAdd_apply, Ideal.hostReduceAdd_r3_a0]
  refine Eq.trans (congrArg (· + _) (Ideal.ofBits_zero .f32)) ((zero_add _).trans ?_)
  exact Fin.sum_univ_eight _

theorem frameP : Cert.quiescent_Sum := fun m g _ => Cert.Sum.Gen.frame m g
theorem framePI : Cert.quiescent_SumIdeal := fun m g _ => Cert.SumIdeal.Gen.frame (F := Ideal) m g
theorem frameRI : Cert.quiescent_SumReferenceIdeal := fun m g _ =>
  (θ_run Cert.SumReferenceIdeal.defs _ _).mono (fun r h => ⟨fun c => (h c).2, sem_eq_zero_of_no_sems (by decide) r.2⟩)
    (Cert.SumReferenceIdeal.Value.run (F := Ideal) m g)
theorem value : Cert.algebraic_SumIdeal_SumReferenceIdeal := fun m g m' g' _ a =>
  ⟨_, (θ_run Cert.SumIdeal.defs _ _).mono (fun r h c => ⟨(h c).1.trans (call_sum _), (h c).2⟩) (Cert.SumIdeal.Value.run m g),
    (θ_run Cert.SumReferenceIdeal.defs _ _).mono
      (fun r h c => ⟨(h c).1.trans ((plain_sum _ _ _).trans (congrArg eight (a c))), (h c).2⟩) (Cert.SumReferenceIdeal.Value.run (F := Ideal) m' g')⟩

end Sums.Sum

end
-- ==== Proof.Product.lean ====
/- What the matrix products have in common: entries of arrays by plain numbers, a product's sum over the inner axis, and
   how sums over blocks of that axis, added one after another, come to the sum over all of it. -/
module

public import proofs.«01_k».proof.Defs
public import proofs.«01_k».proof.Proof.Rows

@[expose] public section

noncomputable section

namespace Product

open Idealize.ShloMosaic Idealize.ShloMosaic.TcCoe

/-- An entry of a matrix, at numbers that need not lie in it. -/
def at2 {M N : ℕ} (a : (⟨2, ![M, N]⟩ : Shape).Idx → EReal) (i j : ℕ) : EReal :=
  if h : i < M ∧ j < N then a (ix2 ⟨i, h.1⟩ ⟨j, h.2⟩) else 0

/-- An entry of a stack of matrices. -/
def at3 {L M N : ℕ} (a : (⟨3, ![L, M, N]⟩ : Shape).Idx → EReal) (s i j : ℕ) : EReal :=
  if h : s < L ∧ i < M ∧ j < N then a (ix3 ⟨s, h.1⟩ ⟨i, h.2.1⟩ ⟨j, h.2.2⟩) else 0

theorem at2_of {M N : ℕ} (a : (⟨2, ![M, N]⟩ : Shape).Idx → EReal) {i j : ℕ} (hi : i < M) (hj : j < N) :
    at2 a i j = a (ix2 ⟨i, hi⟩ ⟨j, hj⟩) := dif_pos ⟨hi, hj⟩

theorem at3_of {L M N : ℕ} (a : (⟨3, ![L, M, N]⟩ : Shape).Idx → EReal) {s i j : ℕ} (hs : s < L) (hi : i < M) (hj : j < N) :
    at3 a s i j = a (ix3 ⟨s, hs⟩ ⟨i, hi⟩ ⟨j, hj⟩) := dif_pos ⟨hs, hi, hj⟩

/-- The sum of the products of two sequences' first `n` entries. -/
def prod (n : ℕ) (x y : ℕ → EReal) : EReal := ∑ k ∈ Finset.range n, x k * y k

theorem prod_fin (n : ℕ) (x y : ℕ → EReal) : prod n x y = ∑ k : Fin n, x k.val * y k.val :=
  (Fin.sum_univ_eq_sum_range (fun k => x k * y k) n).symm

theorem at2_ix {M N : ℕ} (a : (⟨2, ![M, N]⟩ : Shape).Idx → EReal) (i : Fin M) (j : Fin N) : at2 a i.val j.val = a (ix2 i j) :=
  at2_of a i.isLt j.isLt

theorem prod_of (n : ℕ) (x y : ℕ → EReal) (f g : Fin n → EReal) (hx : ∀ k : Fin n, f k = x k.val) (hy : ∀ k : Fin n, g k = y k.val) :
    ∑ k : Fin n, f k * g k = prod n x y :=
  (Finset.sum_congr rfl fun k _ => congrArg₂ (· * ·) (hx k) (hy k)).trans (prod_fin n x y).symm

/-- A number times its logistic. -/
def swish (x : EReal) : EReal := x * Ideal.logistic x

/-- Each entry times its logistic. -/
def silu {s : Shape} (a : s.Idx → EReal) : s.Idx → EReal := fun i => swish (a i)

section Forms

variable {M N K L W : ℕ}

/-- `a` times `b`. -/
def mul (a : (⟨2, ![M, K]⟩ : Shape).Idx → EReal) (b : (⟨2, ![K, N]⟩ : Shape).Idx → EReal) : (⟨2, ![M, N]⟩ : Shape).Idx → EReal := fun i =>
  prod K (fun k => at2 a (i 0).val k) (fun k => at2 b k (i 1).val)

/-- `a` times the matrix whose columns are those of the matrices of the stack `b`, one after another. -/
def mulCols (N : ℕ) (a : (⟨2, ![M, K]⟩ : Shape).Idx → EReal) (b : (⟨3, ![L, K, W]⟩ : Shape).Idx → EReal) : (⟨2, ![M, N]⟩ : Shape).Idx → EReal := fun i =>
  prod K (fun k => at2 a (i 0).val k) (fun k => at3 b ((i 1).val / W) k ((i 1).val % W))

/-- `a` times the transpose of `b`. -/
def mulT (a : (⟨2, ![M, K]⟩ : Shape).Idx → EReal) (b : (⟨2, ![N, K]⟩ : Shape).Idx → EReal) : (⟨2, ![M, N]⟩ : Shape).Idx → EReal := fun i =>
  prod K (fun k => at2 a (i 0).val k) (fun k => at2 b (i 1).val k)

/-- `a` times the transpose of the matrix whose columns are those of the stack `b`. -/
def mulColsT (a : (⟨2, ![M, K]⟩ : Shape).Idx → EReal) (b : (⟨3, ![L, N, W]⟩ : Shape).Idx → EReal) : (⟨2, ![M, N]⟩ : Shape).Idx → EReal := fun i =>
  prod K (fun k => at2 a (i 0).val k) (fun k => at3 b (k / W) (i 1).val (k % W))

/-- The transpose of `a`, times `b`. -/
def tMul (a : (⟨2, ![K, M]⟩ : Shape).Idx → EReal) (b : (⟨2, ![K, N]⟩ : Shape).Idx → EReal) : (⟨2, ![M, N]⟩ : Shape).Idx → EReal := fun i =>
  prod K (fun k => at2 a k (i 0).val) (fun k => at2 b k (i 1).val)

/-- The transpose of `a`, times `b`, its columns cut into a stack. -/
def tMulCols (L W : ℕ) (a : (⟨2, ![K, M]⟩ : Shape).Idx → EReal) (b : (⟨2, ![K, N]⟩ : Shape).Idx → EReal) : (⟨3, ![L, M, W]⟩ : Shape).Idx → EReal := fun i =>
  prod K (fun k => at2 a k (i 1).val) (fun k => at2 b k ((i 0).val * W + (i 2).val))

end Forms

/-- A run of `J` points, the first of which starts from zero and each of which adds the product of its two blocks, which
    are `L` long, leaves after its last point the product over all the blocks. -/
theorem acc {N : ℕ} (f : (n : ℕ) → n < N → EReal) (J L : ℕ) (x y : ℕ → ℕ → EReal) (a b : Fin N → Fin L → EReal)
    (ha : ∀ t k, a t k = x (t.val / J) (t.val % J * L + k.val)) (hb : ∀ t k, b t k = y (t.val / J) (t.val % J * L + k.val))
    (h0 : ∀ t : Fin N, t.val % J = 0 → f t.val t.isLt = 0 + ∑ k : Fin L, a t k * b t k)
    (hs : ∀ t : Fin N, ¬t.val % J = 0 → f t.val t.isLt = f (t.val - 1) (Nat.lt_of_le_of_lt (Nat.sub_le _ _) t.isLt) + ∑ k : Fin L, a t k * b t k)
    (t : Fin N) (ht : t.val % J + 1 = J) : f t.val t.isLt = prod (J * L) (x (t.val / J)) (y (t.val / J)) := by
  have hab : ∀ t : Fin N, ∑ k : Fin L, a t k * b t k = ∑ k : Fin L, x (t.val / J) (t.val % J * L + k.val) * y (t.val / J) (t.val % J * L + k.val) :=
    fun t => Finset.sum_congr rfl fun k _ => congrArg₂ (· * ·) (ha t k) (hb t k)
  have go : ∀ (n : ℕ) (h : n < N), f n h = prod ((n % J + 1) * L) (x (n / J)) (y (n / J)) := by
    intro n
    induction n with
    | zero =>
      intro h
      rw [h0 ⟨0, h⟩ (Nat.zero_mod J), hab, zero_add]
      simp only [Nat.zero_mod, Nat.zero_div, Nat.zero_mul, Nat.zero_add, Nat.one_mul, prod_fin]
    | succ n ih =>
      intro h
      by_cases hm : (n + 1) % J = 0
      · rw [h0 ⟨n + 1, h⟩ hm, hab, zero_add]
        simp only [hm, Nat.zero_mul, Nat.zero_add, Nat.one_mul, prod_fin]
      · rw [hs ⟨n + 1, h⟩ hm, hab]
        have hd : (n + 1) / J = n / J := by
          rw [Nat.succ_div, if_neg (fun hd => hm (Nat.mod_eq_zero_of_dvd hd)), Nat.add_zero]
        have hr : (n + 1) % J = n % J + 1 := by
          have e1 := Nat.div_add_mod (n + 1) J
          have e2 := Nat.div_add_mod n J
          rw [hd] at e1; omega
        show f n _ + _ = _
        rw [ih (by omega), hd, hr, show (n % J + 1 + 1) * L = (n % J + 1) * L + L by ring]
        unfold prod
        rw [Finset.sum_range_add]
        exact congrArg _ (Fin.sum_univ_eq_sum_range (fun k => x (n / J) ((n % J + 1) * L + k) * y (n / J) ((n % J + 1) * L + k)) L)
  rw [go t.val t.isLt, ht]

end Product

end
-- ==== Proof.ConvFwdClaims.lean ====
/- The gated linear unit, the causal depthwise convolution and silu of the layer norm: what each grid point leaves in its
   blocks, put together to whole arrays. -/
module

public import proofs.«01_k».proof.Defs
public import proofs.«01_k».proof.Proof.Product
public import proofs.«01_k».proof.Proof.Rows
public import proofs.«01_k».proof.Proof.Gen.ConvFwd.Frame
public import proofs.«01_k».proof.Proof.Gen.ConvFwdIdeal.Value
public import proofs.«01_k».proof.Proof.Gen.ConvFwdReferenceIdeal.Run

@[expose] public section

noncomputable section

namespace Rows.ConvFwd

open Idealize.ShloMosaic Idealize.ShloMosaic.TcCoe Idealize.SL.Sem Product

/-! ## The mathematics -/

/-- The gated linear unit: the first half of a row times the logistic of the second. -/
def glu (u : FVec Ideal ⟨2, ![8192, 2048]⟩ .f32) : Mat := fun i =>
  u (ix2 (i 0) ⟨(i 1).val, Nat.lt_of_lt_of_le (idx_lt i) (by decide)⟩) * Ideal.logistic (u (ix2 (i 0) ⟨(i 1).val + 1024, Nat.add_lt_add_right (idx_lt i) 1024⟩))
where idx_lt (i : (⟨2, ![8192, 1024]⟩ : Shape).Idx) : (i 1).val < 1024 := (i 1).isLt

/-- The rows from 32 before the first: zeros, then the array's. -/
def hist (v : Mat) (q d : ℕ) : EReal := if q < 32 then 0 else at2 v (q - 32) d

/-- A channel's 31 taps at a row: the row itself last. -/
def taps (v : Mat) (w : FVec Ideal ⟨2, ![32, 1024]⟩ .f32) (r d : ℕ) : EReal := ∑ t ∈ Finset.range 31, hist v (r + (2 + t)) d * at2 w t d

/-- The convolution, with its bias. -/
def conv (v : Mat) (w : FVec Ideal ⟨2, ![32, 1024]⟩ .f32) (b : Vecs) : Mat := fun i => taps v w (i 0).val (i 1).val + b (ix2 0 (i 1))

/-- The mean of a row. -/
def mean (x : Row) : Ideal .f32 := FloatOps.divf (∑ k : Fin 1024, x k) (Scalar.ofBits .f32 0x44800000#32)

/-- A row less its mean. -/
def centre (x : Row) : Row := fun d => x d - mean x

/-- The layer norm of a row, with its gain and shift. -/
def norm (x g b : Row) : Row := fun d =>
  centre x d * FloatOps.rsqrt (mean (fun k => centre x k * centre x k) + Scalar.ofBits .f32 0x358637BD#32) * g d + b d

/-- Silu of the layer norm of a row. -/
def lively (x g b : Row) : Row := fun d => swish (norm x g b d)

/-- The same of every row. -/
def act (x : Mat) (v : Vecs) : Mat := fun i => lively (row x (i 0)) (row v 1) (row v 2) (i 1)

/-! ## Rows kept from the point before -/

section Bands

variable {Val : EltTy → Type} [∀ e, Nonempty (Val e)] {e : EltTy} {A W : ℕ}

/-- Rows just stored read what was stored. -/
theorem band_on (o : ℕ) (inb : ∀ a : Fin 2, (![o, 0] : Fin 2 → ℕ) a + (![W, 1024] : Fin 2 → ℕ) a ≤ (![A, 1024] : Fin 2 → ℕ) a)
    (w : (⟨2, ![W, 1024]⟩ : Shape).Idx → Val e) (L : List (View.Piece Val ⟨2, ![A, 1024]⟩ e)) (k : Fin A) (j : Fin W) (d : Fin 1024) (hk : k.val = o + j.val) :
    View.canon ((⟨Rect.unit (s := ⟨2, ![A, 1024]⟩) ![o, 0] ![W, 1024] inb, w⟩ : View.Piece Val ⟨2, ![A, 1024]⟩ e) :: L) (ix2 k d) = w (ix2 j d) := by
  have h : (Rect.unit (s := ⟨2, ![A, 1024]⟩) ![o, 0] ![W, 1024] inb).emb (ix2 j d) = ix2 k d := by
    refine funext fun (a : Fin 2) => Fin.ext ?_
    refine (Rect.idx_unit_val (s := ⟨2, ![A, 1024]⟩) _ _ inb (ix2 j d) a).trans ?_
    revert a
    exact Fin.forall_fin_two.mpr ⟨by simpa using hk.symm, by simp⟩
  rw [← h, View.canon_cons_emb]

/-- Other rows read what was there. -/
theorem band_off (o : ℕ) (inb : ∀ a : Fin 2, (![o, 0] : Fin 2 → ℕ) a + (![W, 1024] : Fin 2 → ℕ) a ≤ (![A, 1024] : Fin 2 → ℕ) a)
    (w : (⟨2, ![W, 1024]⟩ : Shape).Idx → Val e) (L : List (View.Piece Val ⟨2, ![A, 1024]⟩ e)) (k : Fin A) (d : Fin 1024) (hk : k.val < o) :
    View.canon ((⟨Rect.unit (s := ⟨2, ![A, 1024]⟩) ![o, 0] ![W, 1024] inb, w⟩ : View.Piece Val ⟨2, ![A, 1024]⟩ e) :: L) (ix2 k d) = View.canon L (ix2 k d) := by
  refine View.canon_cons_of_not_mem _ L fun h => ?_
  have h1 : o ≤ k.val ∧ k.val < o + W := (Rect.mem_set_unit (inb := inb) (i := ix2 k d)).mp h (0 : Fin 2)
  omega

/-- Where a loaded row lies. -/
theorem band_at (o : ℕ) (inb : ∀ a : Fin 2, (![o, 0] : Fin 2 → ℕ) a + (![W, 1024] : Fin 2 → ℕ) a ≤ (![A, 1024] : Fin 2 → ℕ) a)
    (j : Fin W) (d : Fin 1024) (h : o + j.val < A) :
    (Rect.unit (s := ⟨2, ![A, 1024]⟩) ![o, 0] ![W, 1024] inb).toLoadRect.idx (ix2 j d) = ix2 ⟨o + j.val, h⟩ d := by
  refine funext fun (a : Fin 2) => Fin.ext ?_
  refine (Rect.idx_unit_val (s := ⟨2, ![A, 1024]⟩) _ _ inb (ix2 j d) a).trans ?_
  revert a
  exact Fin.forall_fin_two.mpr ⟨by simp, by simp⟩

omit [∀ e, Nonempty (Val e)] in
/-- Rows just stored over other contents read what was stored. -/
theorem over_on {sig : RefSig} {κ : Kind} {sp : Space} (v : View sig κ sp ⟨2, ![A, 1024]⟩ e) (f : v.ty.Contents Val) (o : ℕ)
    (inb : ∀ a : Fin 2, (![o, 0] : Fin 2 → ℕ) a + (![W, 1024] : Fin 2 → ℕ) a ≤ (![A, 1024] : Fin 2 → ℕ) a)
    (w : (⟨2, ![W, 1024]⟩ : Shape).Idx → Val e) (L : List (View.Piece Val ⟨2, ![A, 1024]⟩ e)) (k : Fin A) (j : Fin W) (d : Fin 1024) (hk : k.val = o + j.val) :
    v.read Val (v.writes Val f ((⟨Rect.unit (s := ⟨2, ![A, 1024]⟩) ![o, 0] ![W, 1024] inb, w⟩ : View.Piece Val ⟨2, ![A, 1024]⟩ e) :: L)) (ix2 k d) = w (ix2 j d) :=
  View.read_writes_cons_rows_of_mem v f inb w L (ix2 k d) (ix2 j d) rfl hk rfl

omit [∀ e, Nonempty (Val e)] in
/-- Rows before them read the other contents. -/
theorem over_off {sig : RefSig} {κ : Kind} {sp : Space} (v : View sig κ sp ⟨2, ![A, 1024]⟩ e) (f : v.ty.Contents Val) (o : ℕ)
    (inb : ∀ a : Fin 2, (![o, 0] : Fin 2 → ℕ) a + (![W, 1024] : Fin 2 → ℕ) a ≤ (![A, 1024] : Fin 2 → ℕ) a)
    (w : (⟨2, ![W, 1024]⟩ : Shape).Idx → Val e) (L : List (View.Piece Val ⟨2, ![A, 1024]⟩ e)) (k : Fin A) (d : Fin 1024) (hk : k.val < o) :
    v.read Val (v.writes Val f ((⟨Rect.unit (s := ⟨2, ![A, 1024]⟩) ![o, 0] ![W, 1024] inb, w⟩ : View.Piece Val ⟨2, ![A, 1024]⟩ e) :: L)) (ix2 k d)
      = v.read Val (v.writes Val f L) (ix2 k d) :=
  View.read_writes_cons_rows_of_not_mem (W := W) v f inb w L (ix2 k d) rfl rfl (Or.inl hk)

end Bands

section Points

open Cert.ConvFwdIdeal Cert.ConvFwdIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

theorem pts (t : Fin cfg0.N) : t.val < 32 := lt_of_lt_of_eq t.isLt N_0

/-- The gated array. -/
abbrev vs : Mat := glu (m ((c : Thread nD τ).loc main_arg0))

theorem v_blk (t : Fin cfg0.N) (r : Fin 256) (d : Fin 1024) :
    k0_pay3 (iblk m c 0 t) (ix2 r d) = hist (vs m c) (t.val * 256 + (32 + r.val)) d.val := by
  have := pts t
  rw [hist, if_neg (by omega), at2_of _ (by omega) d.isLt]
  have he : t.val * 256 + (32 + r.val) - 32 = t.val * 256 + r.val := by omega
  simp only [he]
  pointwise [k0_pay3, vs, glu]
  blk_point [iblk, V, idx t]

theorem tile_pay (t : Fin cfg0.N) (r : Fin 256) (d : Fin 1024) :
    k0_pay4 (iblk m c 0 t) (ix2 r d) = hist (vs m c) (t.val * 256 + (32 + r.val)) d.val := by
  rw [← v_blk]
  pointwise [k0_pay4]

theorem zero_pay (r : Fin 32) (d : Fin 1024) : k0_pay2 (F := Ideal) (ix2 r d) = (0 : EReal) := by
  pointwise [k0_pay2]

/-- A load of the scratch after a first point's stores: the zeros, then the point's own rows. -/
theorem tapA {W : ℕ} (t : Fin cfg0.N) (h0 : t.val % 32 = 0) (o : ℕ) (inb : ∀ a : Fin 2, (![o, 0] : Fin 2 → ℕ) a + (![W, 1024] : Fin 2 → ℕ) a ≤ (![288, 1024] : Fin 2 → ℕ) a)
    (r : Fin W) (d : Fin 1024) :
    View.readCov (Val := Elt Ideal) (s := S288x1024) (e := .f32) (View.whole cc0_scratch0)
        [⟨Rect.unit (s := S288x1024) ![32, 0] ![256, 1024] inb_S288x1024_S256x1024_32_0, k0_pay4 (iblk m c 0 t)⟩,
          ⟨Rect.unit (s := S288x1024) ![0, 0] ![32, 1024] inb_S288x1024_S32x1024_0_0, k0_pay2 (F := Ideal)⟩]
        (Rect.unit (s := S288x1024) ![o, 0] ![W, 1024] inb).toLoadRect (ix2 r d)
      = hist (vs m c) (t.val * 256 + (o + r.val)) d.val := by
  have h : o + W ≤ 288 := inb 0
  have hr := r.isLt
  have ht := pts t
  rw [View.readCov_eq_canon']
  refine (congrArg (View.canon _) (band_at o inb r d (by omega))).trans ?_
  by_cases hk : o + r.val < 32
  · refine (band_off 32 _ _ _ _ d hk).trans ((band_on 0 _ _ _ _ ⟨o + r.val, hk⟩ d (by simp)).trans ?_)
    rw [zero_pay, hist, if_pos (by omega)]
  · refine (band_on 32 _ _ _ _ ⟨o + r.val - 32, by omega⟩ d (by show o + r.val = 32 + (o + r.val - 32); omega)).trans ?_
    rw [tile_pay]
    congr 1
    show t.val * 256 + (32 + (o + r.val - 32)) = _
    omega

/-- A load of the point's own rows. -/
theorem tapC {W : ℕ} (t : Fin cfg0.N) (o : ℕ) (inb : ∀ a : Fin 2, (![o, 0] : Fin 2 → ℕ) a + (![W, 1024] : Fin 2 → ℕ) a ≤ (![288, 1024] : Fin 2 → ℕ) a)
    (ho : 32 ≤ o) (r : Fin W) (d : Fin 1024) :
    View.readCov (Val := Elt Ideal) (s := S288x1024) (e := .f32) (View.whole cc0_scratch0)
        [⟨Rect.unit (s := S288x1024) ![32, 0] ![256, 1024] inb_S288x1024_S256x1024_32_0, k0_pay4 (iblk m c 0 t)⟩]
        (Rect.unit (s := S288x1024) ![o, 0] ![W, 1024] inb).toLoadRect (ix2 r d)
      = hist (vs m c) (t.val * 256 + (o + r.val)) d.val := by
  have h : o + W ≤ 288 := inb 0
  have hr := r.isLt
  rw [View.readCov_eq_canon']
  refine (congrArg (View.canon _) (band_at o inb r d (by omega))).trans ?_
  refine (band_on 32 _ _ _ _ ⟨o + r.val - 32, by omega⟩ d (by show o + r.val = 32 + (o + r.val - 32); omega)).trans ?_
  rw [tile_pay]
  congr 1
  show t.val * 256 + (32 + (o + r.val - 32)) = _
  omega

/-- What a point leaves for the next: the last 32 rows up to its own. -/
theorem halo (t : Fin cfg0.N) (k : Fin 32) (d : Fin 1024) :
    (outsAt0 m c t.val t.isLt).2.2.2 (ix2 ⟨k.val, by omega⟩ d) = hist (vs m c) ((t.val + 1) * 256 + k.val) d.val := by
  have e : (t.val + 1) * 256 + k.val = t.val * 256 + (256 + k.val) := by omega
  rw [e]
  by_cases h0 : t.val % 32 = 0
  · rw [outsAt0_A m c t h0]; frame_out
    refine (band_on 0 _ _ _ _ k d (by simp)).trans ?_
    pointwise [k0_pay1]
    exact tapA m c t h0 256 _ k d
  · rw [outsAt0_B m c t h0]; frame_out
    refine (band_on 0 _ _ _ _ k d (by simp)).trans ?_
    pointwise [k0_pay1]
    exact tapC m c t 256 _ (by omega) k d

/-- The scratch after a later point's store: the rows kept, then the point's own. -/
theorem tapB (t : Fin cfg0.N) (h0 : ¬t.val % 32 = 0) (hw : (Memref.whole cc0_scratch0).IsWhole) (hn : t.val - 1 < cfg0.N) (k : Fin 288) (d : Fin 1024) :
    View.read (s := S288x1024) (e := .f32) (Elt Ideal) (View.whole cc0_scratch0)
        (View.writes (s := S288x1024) (e := .f32) (View.whole cc0_scratch0) (Elt Ideal) (hw.unread (outsAt0 m c (t.val - 1) hn).2.2.2)
          [⟨Rect.unit (s := S288x1024) ![32, 0] ![256, 1024] inb_S288x1024_S256x1024_32_0, k0_pay4 (iblk m c 0 t)⟩]) (ix2 k d)
      = hist (vs m c) (t.val * 256 + k.val) d.val := by
  by_cases hk : k.val < 32
  · refine (over_off (A := 288) (W := 256) (View.whole cc0_scratch0) _ 32 _ _ _ k d hk).trans ?_
    refine (congrFun (hw.read_unread _) _).trans ((halo m c ⟨t.val - 1, hn⟩ ⟨k.val, hk⟩ d).trans ?_)
    have : t.val - 1 + 1 = t.val := by omega
    show hist _ ((t.val - 1 + 1) * 256 + k.val) _ = _
    rw [this]
  · refine (over_on (A := 288) (W := 256) (View.whole cc0_scratch0) _ 32 _ _ _ k ⟨k.val - 32, by omega⟩ d (by show k.val = 32 + (k.val - 32); omega)).trans ?_
    rw [tile_pay]
    congr 1
    show t.val * 256 + (32 + (k.val - 32)) = _
    omega

/-- A tap's row of weights. -/
theorem w_row (t : Fin cfg0.N) (k : Fin 32) (d : Fin 1024) : iblk m c 1 t (ix2 k d) = at2 (m ((c : Thread nD τ).loc main_arg1)) k.val d.val := by
  rw [at2_ix]
  blk_point [iblk, V, idx t]

/-- A row of the point's vectors. -/
theorem b_row (t : Fin cfg0.N) (k : Fin 8) (d : Fin 1024) : iblk m c 2 t (ix2 k d) = m ((c : Thread nD τ).loc main_arg2) (ix2 k d) := by
  blk_point [iblk, V, idx t]

/-- The convolved array. -/
abbrev cs : Mat := conv (vs m c) (m ((c : Thread nD τ).loc main_arg1)) (m ((c : Thread nD τ).loc main_arg2))

/-- The row of the whole array that a point's block has at `r`. -/
abbrev at_ (t : Fin cfg0.N) (r : Fin 256) : Fin 8192 := ⟨t.val * 256 + r.val, by have := pts t; omega⟩

theorem cs_at (t : Fin cfg0.N) (r : Fin 256) (d : Fin 1024) :
    cs m c (ix2 (at_ t r) d) = ∑ k ∈ Finset.range 31, hist (vs m c) (t.val * 256 + ((2 + k) + r.val)) d.val * at2 (m ((c : Thread nD τ).loc main_arg1)) k d.val
      + m ((c : Thread nD τ).loc main_arg2) (ix2 0 d) := by
  show ∑ k ∈ Finset.range 31, _ + _ = _
  refine congrArg (· + _) (Finset.sum_congr rfl fun k _ => ?_)
  have : t.val * 256 + r.val + (2 + k) = t.val * 256 + ((2 + k) + r.val) := by omega
  exact congrArg (fun q => hist (vs m c) q d.val * _) this

theorem conv_at (t : Fin cfg0.N) (r : Fin 256) (d : Fin 1024) : (outsAt0 m c t.val t.isLt).2.1 (ix2 r d) = cs m c (ix2 (at_ t r) d) := by
  rw [cs_at]
  by_cases h0 : t.val % 32 = 0
  · rw [outsAt0_A m c t h0]; frame_out
    pointwise [k0_pay12, k0_pay11, k0_pay10, k0_pay9, k0_pay8, k0_pay7, k0_pay6, k0_pay5]
    simp only [tapA m c t h0, w_row, b_row, Finset.sum_range_succ, Finset.sum_range_zero, zero_add, Nat.reduceAdd, Fin.isValue, Fin.coe_ofNat_eq_mod, Nat.reduceMod]
  · rw [outsAt0_B m c t h0]; frame_out
    pointwise [k0_pay12, k0_pay11, k0_pay10, k0_pay9, k0_pay8, k0_pay7, k0_pay6, k0_pay5]
    simp only [tapB m c t h0, tapC m c t 32 _ (le_refl _), w_row, b_row, Finset.sum_range_succ, Finset.sum_range_zero, zero_add, Nat.reduceAdd, Fin.isValue, Fin.coe_ofNat_eq_mod, Nat.reduceMod]

theorem emb3 (t : Fin cfg0.N) (r : Fin 256) (d : Fin 1024) : ((View.whole main_v0_0).slice (win0_3.rect t)).emb (ix2 r d) = ix2 (at_ t r) d := by
  blk_ext [at_, idx t]

theorem emb4 (t : Fin cfg0.N) (r : Fin 256) (d : Fin 1024) : ((View.whole main_v0_1).slice (win0_4.rect t)).emb (ix2 r d) = ix2 (at_ t r) d := by
  blk_ext [at_, idx t]

theorem emb5 (t : Fin cfg0.N) (r : Fin 256) (d : Fin 1024) : ((View.whole main_v0_2).slice (win0_5.rect t)).emb (ix2 r d) = ix2 (at_ t r) d := by
  blk_ext [at_, idx t]

theorem glu_at (t : Fin cfg0.N) (r : Fin 256) (d : Fin 1024) : k0_pay3 (iblk m c 0 t) (ix2 r d) = vs m c (ix2 (at_ t r) d) := by
  pointwise [k0_pay3, vs, glu, at_]
  blk_point [iblk, V, idx t]

theorem v_out : (dats m 0 c).arrAt 3 cfg0.N = vs m c := by
  refine (dats m 0 c).arrAt_eq_of_covers 3 _ (by decide +kernel) fun t _ y => ?_
  blk_simp
  rw [after0_3]
  have h : (outsAt0 m c t.val t.isLt).1 = k0_pay3 (iblk m c 0 t) := by
    by_cases h0 : t.val % 32 = 0
    · rw [outsAt0_A m c t h0]; frame_out
    · rw [outsAt0_B m c t h0]; frame_out
  idx_vars y
  rw [h, glu_at, emb3]

theorem cv_out : (dats m 0 c).arrAt 4 cfg0.N = cs m c := by
  refine (dats m 0 c).arrAt_eq_of_covers 4 _ (by decide +kernel) fun t _ y => ?_
  blk_simp
  rw [after0_4]
  idx_vars y
  rw [conv_at, emb4]

/-- The activation of a point's rows, given what the point convolved. -/
theorem act_pay (a p : Vec Ideal S256x1024 .f32) (w b g s : Vec Ideal S1x1024 .f32) (r : Fin 256) (d : Fin 1024) :
    k0_pay13 a p w b g s (ix2 r d)
      = FloatOps.truncf .bf16 (by decide) (lively (row (k0_pay12 a p w b) r) (row g 0) (row s 0) d : Ideal .f32) := by
  pointwise [k0_pay13, row, lively, norm, centre, mean, swish]

/-- What a point stores of the activation, from what it stores of the convolution. -/
theorem act_at (t : Fin cfg0.N) (r : Fin 256) (d : Fin 1024) :
    (outsAt0 m c t.val t.isLt).2.2.1 (ix2 r d)
      = FloatOps.truncf .bf16 (by decide) (lively (row (outsAt0 m c t.val t.isLt).2.1 r) (row (m ((c : Thread nD τ).loc main_arg2)) 1) (row (m ((c : Thread nD τ).loc main_arg2)) 2) d : Ideal .f32) := by
  have hb : ∀ (o : Fin 8) (inb), row (View.ld (iblk m c 2 t) (Rect.unit (s := S8x1024) ![o.val, 0] ![1, 1024] inb)) 0 = row (m ((c : Thread nD τ).loc main_arg2)) o := by
    intro o inb
    funext d
    exact (View.ld_unit_apply_of _ _ _ _ _ (ix2 o d) (Fin.forall_fin_two.mpr ⟨by simp, by simp⟩)).trans (b_row m c t o d)
  by_cases h0 : t.val % 32 = 0
  · rw [outsAt0_A m c t h0]; frame_out
    rw [act_pay, ← hb 1, ← hb 2]; rfl
  · rw [outsAt0_B m c t h0]; frame_out
    rw [act_pay, ← hb 1, ← hb 2]; rfl

theorem z_out : (dats m 0 c).arrAt 5 cfg0.N = narrow (act (cs m c) (m ((c : Thread nD τ).loc main_arg2))) := by
  refine (dats m 0 c).arrAt_eq_of_covers 5 _ (by decide +kernel) fun t _ y => ?_
  blk_simp
  rw [after0_5]
  idx_vars y
  rw [act_at, emb5]
  have h : row (outsAt0 m c t.val t.isLt).2.1 y0 = row (cs m c) (at_ t y0) := funext fun d => conv_at m c t y0 d
  rw [h]; rfl

end Points

section Ref

open Cert.ConvFwdReferenceIdeal Cert.ConvFwdReferenceIdeal.Gen Cert.ConvFwdReferenceIdeal.Value StableHlo

variable (V0 : Valuation τ sig (Elt Ideal))

theorem ref_v : mulf (extractStridedSlice S8192x1024 ![0, 0] (V0 (Proc.devRef .tc main_arg0)) slices_S8192x2048_S8192x1024_0_0) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] (V0 (Proc.devRef .tc main_arg0)) slices_S8192x2048_S8192x1024_0_1024)))))
    = glu (V0 (Proc.devRef .tc main_arg0)) := by
  funext i
  idx_vars i
  pointwise [glu]
  simp only [Nat.add_comm 1024]
  rfl

theorem ref_past (q : Fin 8222) (d : Fin 1024) : res_main_v9 V0 (ix2 q d) = hist (glu (V0 (Proc.devRef .tc main_arg0))) (q.val + 2) d.val := by
  unfold res_main_v9
  rw [ref_v, hist]
  by_cases h : q.val < 30
  · rw [if_pos (by omega)]
    pointwise []
    rw [dif_neg (by omega)]
    simp [FloatOps.sitofp]
  · rw [if_neg (by omega), at2_of _ (by omega) d.isLt]
    pointwise []
    rw [dif_pos (by omega)]
    congr 2

theorem ref_w (k : Fin 32) (d : Fin 1024) : V0 (Proc.devRef .tc main_arg1) (ix2 k d) = at2 (V0 (Proc.devRef .tc main_arg1)) k.val d.val := (at2_ix _ k d).symm

theorem ref_cv : res_main_v168 V0 = conv (glu (V0 (Proc.devRef .tc main_arg0))) (V0 (Proc.devRef .tc main_arg1)) (V0 (Proc.devRef .tc main_arg2)) := by
  funext i
  idx_vars i
  have e : conv (glu (V0 (Proc.devRef .tc main_arg0))) (V0 (Proc.devRef .tc main_arg1)) (V0 (Proc.devRef .tc main_arg2)) (ix2 i0 i1)
      = ∑ k ∈ Finset.range 31, hist (glu (V0 (Proc.devRef .tc main_arg0))) (k + i0.val + 2) i1.val * at2 (V0 (Proc.devRef .tc main_arg1)) k i1.val
        + V0 (Proc.devRef .tc main_arg2) (ix2 0 i1) := by
    show ∑ k ∈ Finset.range 31, _ + _ = _
    refine congrArg (· + _) (Finset.sum_congr rfl fun k _ => ?_)
    have : i0.val + (2 + k) = k + i0.val + 2 := by omega
    exact congrArg (fun q => hist _ q i1.val * _) this
  rw [e]
  unfold res_main_v168 res_main_v160 res_main_v85
  pointwise []
  simp only [ref_past, ref_w, Finset.sum_range_succ, Finset.sum_range_zero, zero_add, Nat.reduceAdd, Fin.isValue, Fin.coe_ofNat_eq_mod, Nat.reduceMod]

theorem ref_norm (i0 : Fin 8192) (i1 : Fin 1024) : res_main_v192 V0 (ix2 i0 i1)
    = norm (row (res_main_v168 V0) i0) (row (V0 (Proc.devRef .tc main_arg2)) 1) (row (V0 (Proc.devRef .tc main_arg2)) 2) i1 := by
  unfold res_main_v192 res_main_v174 res_main_v172
  pointwise [norm, centre, mean, row]

theorem ref_z : truncf .bf16 (mulf (res_main_v192 V0) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (res_main_v192 V0)))))) bitsLt_bf16_f32
    = narrow (act (conv (glu (V0 (Proc.devRef .tc main_arg0))) (V0 (Proc.devRef .tc main_arg1)) (V0 (Proc.devRef .tc main_arg2))) (V0 (Proc.devRef .tc main_arg2))) := by
  rw [← ref_cv]
  funext i
  idx_vars i
  pointwise [narrow, act, lively, swish, ref_norm]
  rfl

end Ref

/-- The call in floating point always ends, faults nowhere and leaves its arguments and semaphores as they were. -/
theorem frameP : Cert.quiescent_ConvFwd := fun m g _ => Cert.ConvFwd.Gen.frame m g
/-- The same over the extended reals. -/
theorem framePI : Cert.quiescent_ConvFwdIdeal := fun m g _ => Cert.ConvFwdIdeal.Gen.frame (F := Ideal) m g
/-- The plain formula over the extended reals always ends and leaves its arguments and semaphores as they were. -/
theorem frameRI : Cert.quiescent_ConvFwdReferenceIdeal := fun m g _ =>
  (θ_run Cert.ConvFwdReferenceIdeal.defs _ _).mono (fun r h => ⟨fun c => (h c).2.2.2, sem_eq_zero_of_no_sems (by decide) r.2⟩)
    (Cert.ConvFwdReferenceIdeal.Value.run (F := Ideal) m g)

/-- Over the extended reals, the call and the plain formula give the same three results. -/
theorem value : Cert.algebraic_ConvFwdIdeal_ConvFwdReferenceIdeal := by
  intro m g m' g' _ hagree
  refine ⟨_, _, _, (θ_run Cert.ConvFwdIdeal.defs _ _).mono (fun r h c =>
      ⟨(h c).1.trans (v_out m c), (h c).2.1.trans (cv_out m c), (h c).2.2.1.trans (z_out m c), (h c).2.2.2⟩)
        (Cert.ConvFwdIdeal.Value.run_blocks m g),
    (θ_run Cert.ConvFwdReferenceIdeal.defs _ _).mono (fun r h c => ?_) (Cert.ConvFwdReferenceIdeal.Value.run (F := Ideal) m' g')⟩
  obtain ⟨a0, a1, a2⟩ := hagree c
  obtain ⟨h0, h1, h2, kept⟩ := h c
  have e0 : StableHlo.launchContents m' c (Proc.devRef .tc Cert.ConvFwdReferenceIdeal.main_arg0) = _ := a0
  have e1 : StableHlo.launchContents m' c (Proc.devRef .tc Cert.ConvFwdReferenceIdeal.main_arg1) = _ := a1
  have e2 : StableHlo.launchContents m' c (Proc.devRef .tc Cert.ConvFwdReferenceIdeal.main_arg2) = _ := a2
  rw [ref_v, e0] at h0
  rw [ref_cv, e0, e1, e2] at h1
  rw [ref_z, e0, e1, e2] at h2
  exact ⟨h0, h1, h2, kept⟩

end Rows.ConvFwd

end
-- ==== Proof.PwOneFwdClaims.lean ====
/- The pointwise layer's first product, with its bias. -/
module

public import proofs.«01_k».proof.Defs
public import proofs.«01_k».proof.Proof.Product
public import proofs.«01_k».proof.Proof.Gen.PwOneFwd.Frame
public import proofs.«01_k».proof.Proof.Gen.PwOneFwdIdeal.Value
public import proofs.«01_k».proof.Proof.Gen.PwOneFwdReferenceIdeal.Run

@[expose] public section

noncomputable section

namespace Product.PwOneFwd

open Cert.PwOneFwdIdeal Cert.PwOneFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, 0] ∧ win0_1.index t = ![t.val % 4, 0, 0] ∧ win0_2.index t = ![0, t.val % 4]
    ∧ win0_3.index t = ![t.val / 4, t.val % 4] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 r k) = at2 (m ((c : Thread nD τ).loc main_arg0)) (t.val / 4 * 1024 + r.val) k.val := by
  have := pts t
  rw [at2_of _ (by omega) (by omega)]
  blk_point [iblk, V, idx t]

theorem b_blk (t : Fin cfg0.N) (k : Fin 1024) (d : Fin 512) :
    iblk m c 1 t (ix3 0 k d) = at3 (m ((c : Thread nD τ).loc main_arg1)) ((t.val % 4 * 512 + d.val) / 512) k.val ((t.val % 4 * 512 + d.val) % 512) := by
  have h1 : (t.val % 4 * 512 + d.val) / 512 = t.val % 4 := by omega
  have h2 : (t.val % 4 * 512 + d.val) % 512 = d.val := by omega
  rw [h1, h2, at3_of _ (by omega) (by omega) (by omega)]
  blk_point [iblk, V, idx t]

theorem pay (a : Vec Ideal S1024x1024 .bf16) (b : Vec Ideal S1x1024x512 .bf16) (v : Vec Ideal S1x512 .f32) (r : Fin 1024) (d : Fin 512) :
    k0_pay1 a b v (ix2 r d) = ∑ k : Fin 1024, (a (ix2 r k) : EReal) * b (ix3 0 k d) + v (ix2 0 d) := by
  pointwise [k0_pay1]

theorem out : (dats m 0 c).arrAt 3 cfg0.N = fun i => mulCols 2048 (m ((c : Thread nD τ).loc main_arg0)) (m ((c : Thread nD τ).loc main_arg1)) i
    + (m ((c : Thread nD τ).loc main_arg2) (ix2 0 (i 1)) : EReal) := by
  refine (dats m 0 c).arrAt_eq_of_covers 3 _ (by decide +kernel) fun t _ y => ?_
  blk_simp
  rw [after0_3]; frame_out
  idx_vars y
  have he : ((View.whole main_v0).slice (win0_3.rect t)).emb (ix2 y0 y1) = ix2 ⟨t.val / 4 * 1024 + y0.val, by have := pts t; omega⟩ ⟨t.val % 4 * 512 + y1.val, by omega⟩ := by
    blk_ext [idx t]
  rw [he, pay]
  refine congrArg₂ (· + ·) (prod_of _ _ _ _ _ (fun k => a_blk m c t y0 k) (fun k => b_blk m c t k y1)) ?_
  blk_point [iblk, V, idx t]

theorem frameP : Cert.quiescent_PwOneFwd := fun m g _ => Cert.PwOneFwd.Gen.frame m g

theorem framePI : Cert.quiescent_PwOneFwdIdeal := fun m g _ => Cert.PwOneFwdIdeal.Gen.frame (F := Ideal) m g

theorem frameRI : Cert.quiescent_PwOneFwdReferenceIdeal := fun m g _ =>
  (θ_run Cert.PwOneFwdReferenceIdeal.defs _ _).mono (fun r h => ⟨fun c => (h c).2, sem_eq_zero_of_no_sems (by decide) r.2⟩) (Cert.PwOneFwdReferenceIdeal.Value.run (F := Ideal) m g)

theorem value : Cert.algebraic_PwOneFwdIdeal_PwOneFwdReferenceIdeal := by
  intro m g m' g' _ hagree
  refine ⟨_, (θ_run Cert.PwOneFwdIdeal.defs _ _).mono (fun r h c => ⟨(h c).1.trans (out m c), (h c).2⟩) (Cert.PwOneFwdIdeal.Value.run_blocks m g),
    (θ_run Cert.PwOneFwdReferenceIdeal.defs _ _).mono (fun r h c => ?_) (Cert.PwOneFwdReferenceIdeal.Value.run (F := Ideal) m' g')⟩
  obtain ⟨a0, a1, a2⟩ := hagree c; obtain ⟨h0, kept⟩ := h c; rw [a0, a1, a2] at h0
  refine ⟨h0.trans ?_, kept⟩
  funext i
  idx_vars i
  pointwise [mulCols]
  exact congrArg (· + _) (prod_of _ _ _ _ _ (fun k => (at2_ix _ i0 k).symm) (fun k => (at3_of _ (by omega) k.isLt (by omega)).symm))

end Product.PwOneFwd

end
-- ==== Proof.PwTwoFwdClaims.lean ====
/- The pointwise layer's second product, with its bias. -/
module

public import proofs.«01_k».proof.Defs
public import proofs.«01_k».proof.Proof.Product
public import proofs.«01_k».proof.Proof.Gen.PwTwoFwd.Frame
public import proofs.«01_k».proof.Proof.Gen.PwTwoFwdIdeal.Value
public import proofs.«01_k».proof.Proof.Gen.PwTwoFwdReferenceIdeal.Run

@[expose] public section

noncomputable section

namespace Product.PwTwoFwd

open Cert.PwTwoFwdIdeal Cert.PwTwoFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

theorem pts (t : Fin cfg0.N) : t.val < 8 := lt_of_lt_of_eq t.isLt N_0

theorem a_blk (t : Fin cfg0.N) (r : Fin 1024) (k : Fin 1024) :
    iblk m c 0 t (ix2 r k) = at2 (m ((c : Thread nD τ).loc main_arg0)) (t.val * 1024 + r.val) k.val := by
  have := pts t
  rw [at2_of _ (by omega) (by omega)]
  blk_point [iblk, V, idx t]

theorem b_blk (t : Fin cfg0.N) (k : Fin 1024) (d : Fin 1024) :
    iblk m c 1 t (ix2 k d) = at2 (m ((c : Thread nD τ).loc main_arg1)) k.val d.val := by
  rw [at2_of _ (by omega) (by omega)]
  blk_point [iblk, V, idx t]

theorem pay (a : Vec Ideal S1024x1024 .bf16) (b : Vec Ideal S1024x1024 .bf16) (v : Vec Ideal S1x1024 .f32) (r : Fin 1024) (d : Fin 1024) :
    k0_pay1 a b v (ix2 r d) = ∑ k : Fin 1024, (a (ix2 r k) : EReal) * b (ix2 k d) + v (ix2 0 d) := by
  pointwise [k0_pay1]

theorem out : (dats m 0 c).arrAt 3 cfg0.N = fun i => mul (m ((c : Thread nD τ).loc main_arg0)) (m ((c : Thread nD τ).loc main_arg1)) i
    + (m ((c : Thread nD τ).loc main_arg2) (ix2 0 (i 1)) : EReal) := by
  refine (dats m 0 c).arrAt_eq_of_covers 3 _ (by decide +kernel) fun t _ y => ?_
  blk_simp
  rw [after0_3]; frame_out
  idx_vars y
  have he : ((View.whole main_v0).slice (win0_3.rect t)).emb (ix2 y0 y1) = ix2 ⟨t.val * 1024 + y0.val, by have := pts t; omega⟩ y1 := by
    blk_ext [idx t]
  rw [he, pay]
  refine congrArg₂ (· + ·) (prod_of _ _ _ _ _ (fun k => a_blk m c t y0 k) (fun k => b_blk m c t k y1)) ?_
  blk_point [iblk, V, idx t]

theorem frameP : Cert.quiescent_PwTwoFwd := fun m g _ => Cert.PwTwoFwd.Gen.frame m g

theorem framePI : Cert.quiescent_PwTwoFwdIdeal := fun m g _ => Cert.PwTwoFwdIdeal.Gen.frame (F := Ideal) m g

theorem frameRI : Cert.quiescent_PwTwoFwdReferenceIdeal := fun m g _ =>
  (θ_run Cert.PwTwoFwdReferenceIdeal.defs _ _).mono (fun r h => ⟨fun c => (h c).2, sem_eq_zero_of_no_sems (by decide) r.2⟩) (Cert.PwTwoFwdReferenceIdeal.Value.run (F := Ideal) m g)

theorem value : Cert.algebraic_PwTwoFwdIdeal_PwTwoFwdReferenceIdeal := by
  intro m g m' g' _ hagree
  refine ⟨_, (θ_run Cert.PwTwoFwdIdeal.defs _ _).mono (fun r h c => ⟨(h c).1.trans (out m c), (h c).2⟩) (Cert.PwTwoFwdIdeal.Value.run_blocks m g),
    (θ_run Cert.PwTwoFwdReferenceIdeal.defs _ _).mono (fun r h c => ?_) (Cert.PwTwoFwdReferenceIdeal.Value.run (F := Ideal) m' g')⟩
  obtain ⟨a0, a1, a2⟩ := hagree c; obtain ⟨h0, kept⟩ := h c; rw [a0, a1, a2] at h0
  refine ⟨h0.trans ?_, kept⟩
  funext i
  idx_vars i
  pointwise [mul]
  exact congrArg (· + _) (prod_of _ _ _ _ _ (fun k => (at2_ix _ i0 k).symm) (fun k => (at2_ix _ k i1).symm))

end Product.PwTwoFwd

end
-- ==== Proof.RetInFwdClaims.lean ====
/- The product into the retention. -/
module

public import proofs.«01_k».proof.Defs
public import proofs.«01_k».proof.Proof.Product
public import proofs.«01_k».proof.Proof.Gen.RetInFwd.Frame
public import proofs.«01_k».proof.Proof.Gen.RetInFwdIdeal.Value
public import proofs.«01_k».proof.Proof.Gen.RetInFwdReferenceIdeal.Run

@[expose] public section

noncomputable section

namespace Product.RetInFwd

open Cert.RetInFwdIdeal Cert.RetInFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 r k) = at2 (m ((c : Thread nD τ).loc main_arg0)) (t.val / 4 * 1024 + r.val) k.val := by
  have := pts t
  rw [at2_of _ (by omega) (by omega)]
  blk_point [iblk, V, idx t]

theorem b_blk (t : Fin cfg0.N) (k : Fin 1024) (d : Fin 1536) :
    iblk m c 1 t (ix3 0 k d) = at3 (m ((c : Thread nD τ).loc main_arg1)) ((t.val % 4 * 1536 + d.val) / 1536) k.val ((t.val % 4 * 1536 + d.val) % 1536) := by
  have h1 : (t.val % 4 * 1536 + d.val) / 1536 = t.val % 4 := by omega
  have h2 : (t.val % 4 * 1536 + d.val) % 1536 = d.val := by omega
  rw [h1, h2, at3_of _ (by omega) (by omega) (by omega)]
  blk_point [iblk, V, idx t]

theorem pay (a : Vec Ideal S1024x1024 .bf16) (b : Vec Ideal S1x1024x1536 .bf16) (r : Fin 1024) (d : Fin 1536) :
    k0_pay1 a b (ix2 r d) = ∑ k : Fin 1024, (a (ix2 r k) : EReal) * b (ix3 0 k d) := by
  pointwise [k0_pay1]

theorem out : (dats m 0 c).arrAt 2 cfg0.N = mulCols 6144 (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  have he : ((View.whole main_v0).slice (win0_2.rect t)).emb (ix2 y0 y1) = ix2 ⟨t.val / 4 * 1024 + y0.val, by have := pts t; omega⟩ ⟨t.val % 4 * 1536 + y1.val, by omega⟩ := by
    blk_ext [idx t]
  rw [he, pay]
  exact prod_of _ _ _ _ _ (fun k => a_blk m c t y0 k) (fun k => b_blk m c t k y1)

theorem frameP : Cert.quiescent_RetInFwd := fun m g _ => Cert.RetInFwd.Gen.frame m g

theorem framePI : Cert.quiescent_RetInFwdIdeal := fun m g _ => Cert.RetInFwdIdeal.Gen.frame (F := Ideal) m g

theorem frameRI : Cert.quiescent_RetInFwdReferenceIdeal := fun m g _ =>
  (θ_run Cert.RetInFwdReferenceIdeal.defs _ _).mono (fun r h => ⟨fun c => (h c).2, sem_eq_zero_of_no_sems (by decide) r.2⟩) (Cert.RetInFwdReferenceIdeal.Value.run (F := Ideal) m g)

theorem value : Cert.algebraic_RetInFwdIdeal_RetInFwdReferenceIdeal := by
  intro m g m' g' _ hagree
  refine ⟨_, (θ_run Cert.RetInFwdIdeal.defs _ _).mono (fun r h c => ⟨(h c).1.trans (out m c), (h c).2⟩) (Cert.RetInFwdIdeal.Value.run_blocks m g),
    (θ_run Cert.RetInFwdReferenceIdeal.defs _ _).mono (fun r h c => ?_) (Cert.RetInFwdReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [mulCols]
  exact prod_of _ _ _ _ _ (fun k => (at2_ix _ i0 k).symm) (fun k => (at3_of _ (by omega) k.isLt (by omega)).symm)

end Product.RetInFwd

end
-- ==== Proof.RetOutFwdClaims.lean ====
/- The product out of the retention. -/
module

public import proofs.«01_k».proof.Defs
public import proofs.«01_k».proof.Proof.Product
public import proofs.«01_k».proof.Proof.Gen.RetOutFwd.Frame
public import proofs.«01_k».proof.Proof.Gen.RetOutFwdIdeal.Value
public import proofs.«01_k».proof.Proof.Gen.RetOutFwdReferenceIdeal.Run

@[expose] public section

noncomputable section

namespace Product.RetOutFwd

open Cert.RetOutFwdIdeal Cert.RetOutFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

theorem pts (t : Fin cfg0.N) : t.val < 16 := lt_of_lt_of_eq t.isLt N_0

theorem a_blk (t : Fin cfg0.N) (r : Fin 1024) (k : Fin 1024) :
    iblk m c 0 t (ix2 r k) = at2 (m ((c : Thread nD τ).loc main_arg0)) (t.val / 2 * 1024 + r.val) (t.val % 2 * 1024 + k.val) := by
  have := pts t
  rw [at2_of _ (by omega) (by omega)]
  blk_point [iblk, V, idx t]

theorem b_blk (t : Fin cfg0.N) (k : Fin 1024) (d : Fin 1024) :
    iblk m c 1 t (ix2 k d) = at2 (m ((c : Thread nD τ).loc main_arg1)) (t.val % 2 * 1024 + k.val) d.val := by
  have := pts t
  rw [at2_of _ (by omega) (by omega)]
  blk_point [iblk, V, idx t]

theorem pay (v : Vec Ideal S1024x1024 .f32) (a : Vec Ideal S1024x1024 .bf16) (b : Vec Ideal S1024x1024 .bf16) (r : Fin 1024) (d : Fin 1024) :
    k0_pay2 v a b (ix2 r d) = v (ix2 r d) + ∑ k : Fin 1024, (a (ix2 r k) : EReal) * b (ix2 k d) := by
  pointwise [k0_pay2]

theorem zero_pay (r d : Fin 1024) : k0_pay1 (F := Ideal) (ix2 r d) = (0 : EReal) := by
  pointwise [k0_pay1]

theorem step (t : Fin cfg0.N) (h0 : ¬t.val % 2 = 0) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 (by omega)]; frame_out
  rw [(Memref.isWhole_whole _).read_unread]

/-- What a block's last point writes out is what it leaves in the accumulator. -/
theorem last (t : Fin cfg0.N) (h1 : t.val % 2 = 1) : (outsAt0 m c t.val t.isLt).1 = (outsAt0 m c t.val t.isLt).2 := by
  rw [outsAt0_B m c t (by omega) h1]; frame_out

theorem out : (dats m 0 c).arrAt 2 cfg0.N = mul (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  refine (acc (fun n h => (outsAt0 m c n h).2 (ix2 y0 y1)) 2 1024 (fun q => at2 (m ((c : Thread nD τ).loc main_arg0)) (q * 1024 + y0.val)) (fun _ k => at2 (m ((c : Thread nD τ).loc main_arg1)) k y1.val) _ _ (fun t k => a_blk m c t y0 k) (fun t k => b_blk m c t k y1)
    (fun t h => by rw [outsAt0_A m c t h (by omega)]; frame_out; exact (pay _ _ _ y0 y1).trans (congrArg (· + _) (zero_pay y0 y1)))
    (fun t h => (congrFun (step m c t h) _).trans (pay _ _ _ y0 y1)) t (by omega)).trans ?_
  have he : ((View.whole main_v0).slice (win0_2.rect t)).emb (ix2 y0 y1) = ix2 ⟨t.val / 2 * 1024 + y0.val, by have := pts t; omega⟩ y1 := by
    blk_ext [idx t]
  rw [he]; rfl

theorem frameP : Cert.quiescent_RetOutFwd := fun m g _ => Cert.RetOutFwd.Gen.frame m g

theorem framePI : Cert.quiescent_RetOutFwdIdeal := fun m g _ => Cert.RetOutFwdIdeal.Gen.frame (F := Ideal) m g

theorem frameRI : Cert.quiescent_RetOutFwdReferenceIdeal := fun m g _ =>
  (θ_run Cert.RetOutFwdReferenceIdeal.defs _ _).mono (fun r h => ⟨fun c => (h c).2, sem_eq_zero_of_no_sems (by decide) r.2⟩) (Cert.RetOutFwdReferenceIdeal.Value.run (F := Ideal) m g)

theorem value : Cert.algebraic_RetOutFwdIdeal_RetOutFwdReferenceIdeal := by
  intro m g m' g' _ hagree
  refine ⟨_, (θ_run Cert.RetOutFwdIdeal.defs _ _).mono (fun r h c => ⟨(h c).1.trans ((Cert.RetOutFwdIdeal.Value.final2 m c).symm.trans (out m c)), (h c).2⟩) (Cert.RetOutFwdIdeal.Value.run m g),
    (θ_run Cert.RetOutFwdReferenceIdeal.defs _ _).mono (fun r h c => ?_) (Cert.RetOutFwdReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [mul]
  exact prod_of _ _ _ _ _ (fun k => (at2_ix _ i0 k).symm) (fun k => (at2_ix _ k i1).symm)

end Product.RetOutFwd

end
-- ==== Proof.UpFwdClaims.lean ====
/- The feed-forward block's first product, what is positive of it, and that squared. -/
module

public import proofs.«01_k».proof.Defs
public import proofs.«01_k».proof.Proof.Product
public import proofs.«01_k».proof.Proof.Gen.UpFwd.Frame
public import proofs.«01_k».proof.Proof.Gen.UpFwdIdeal.Value
public import proofs.«01_k».proof.Proof.Gen.UpFwdReferenceIdeal.Run

@[expose] public section

noncomputable section

namespace Product.UpFwd

open Cert.UpFwdIdeal Cert.UpFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, 0] ∧ win0_1.index t = ![t.val % 4, 0, 0]
    ∧ win0_2.index t = ![t.val / 4, t.val % 4]
    ∧ win0_3.index t = ![t.val / 4, t.val % 4] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 r k) = at2 (m ((c : Thread nD τ).loc main_arg0)) (t.val / 4 * 1024 + r.val) k.val := by
  have := pts t
  rw [at2_of _ (by omega) (by omega)]
  blk_point [iblk, V, idx t]

theorem b_blk (t : Fin cfg0.N) (k : Fin 1024) (d : Fin 1024) :
    iblk m c 1 t (ix3 0 k d) = at3 (m ((c : Thread nD τ).loc main_arg1)) ((t.val % 4 * 1024 + d.val) / 1024) k.val ((t.val % 4 * 1024 + d.val) % 1024) := by
  have h1 : (t.val % 4 * 1024 + d.val) / 1024 = t.val % 4 := by omega
  have h2 : (t.val % 4 * 1024 + d.val) % 1024 = d.val := by omega
  rw [h1, h2, at3_of _ (by omega) (by omega) (by omega)]
  blk_point [iblk, V, idx t]

theorem pay (a : Vec Ideal S1024x1024 .bf16) (b : Vec Ideal S1x1024x1024 .bf16) (r : Fin 1024) (d : Fin 1024) :
    k0_pay2 a b (ix2 r d) = max (∑ k : Fin 1024, (a (ix2 r k) : EReal) * b (ix3 0 k d)) 0 := by
  pointwise [k0_pay2, k0_pay1]

theorem square_pay (a : Vec Ideal S1024x1024 .bf16) (b : Vec Ideal S1x1024x1024 .bf16) (r : Fin 1024) (d : Fin 1024) :
    k0_pay3 a b (ix2 r d) = (k0_pay2 a b (ix2 r d) * k0_pay2 a b (ix2 r d) : EReal) := by
  pointwise [k0_pay3, k0_pay2]

/-- What is positive of the product. -/
def relu (a : Vec Ideal S8192x1024 .bf16) (b : Vec Ideal S4x1024x1024 .bf16) : Vec Ideal S8192x4096 .bf16 := fun i =>
  max (mulCols 4096 a b i) (0 : EReal)

/-- That, squared. -/
def square (a : Vec Ideal S8192x1024 .bf16) (b : Vec Ideal S4x1024x1024 .bf16) : Vec Ideal S8192x4096 .bf16 := fun i =>
  (relu a b i * relu a b i : EReal)

theorem relu_blk (t : Fin cfg0.N) (r d : Fin 1024) : k0_pay2 (iblk m c 0 t) (iblk m c 1 t) (ix2 r d)
    = relu (m ((c : Thread nD τ).loc main_arg0)) (m ((c : Thread nD τ).loc main_arg1)) (ix2 ⟨t.val / 4 * 1024 + r.val, by have := pts t; omega⟩ ⟨t.val % 4 * 1024 + d.val, by omega⟩) :=
  (pay _ _ r d).trans (congrArg (max · (0 : EReal)) (prod_of _ _ _ _ _ (fun k => a_blk m c t r k) (fun k => b_blk m c t k d)))

theorem relu_out : (dats m 0 c).arrAt 2 cfg0.N = relu (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  have he : ((View.whole main_v0_0).slice (win0_2.rect t)).emb (ix2 y0 y1) = ix2 ⟨t.val / 4 * 1024 + y0.val, by have := pts t; omega⟩ ⟨t.val % 4 * 1024 + y1.val, by omega⟩ := by
    blk_ext [idx t]
  rw [he, relu_blk]

theorem square_out : (dats m 0 c).arrAt 3 cfg0.N = square (m ((c : Thread nD τ).loc main_arg0)) (m ((c : Thread nD τ).loc main_arg1)) := by
  refine (dats m 0 c).arrAt_eq_of_covers 3 _ (by decide +kernel) fun t _ y => ?_
  blk_simp
  rw [after0_3]; frame_out
  idx_vars y
  have he : ((View.whole main_v0_1).slice (win0_3.rect t)).emb (ix2 y0 y1) = ix2 ⟨t.val / 4 * 1024 + y0.val, by have := pts t; omega⟩ ⟨t.val % 4 * 1024 + y1.val, by omega⟩ := by
    blk_ext [idx t]
  rw [he, square_pay, relu_blk]; rfl

theorem frameP : Cert.quiescent_UpFwd := fun m g _ => Cert.UpFwd.Gen.frame m g

theorem framePI : Cert.quiescent_UpFwdIdeal := fun m g _ => Cert.UpFwdIdeal.Gen.frame (F := Ideal) m g

theorem frameRI : Cert.quiescent_UpFwdReferenceIdeal := fun m g _ =>
  (θ_run Cert.UpFwdReferenceIdeal.defs _ _).mono (fun r h => ⟨fun c => (h c).2.2, sem_eq_zero_of_no_sems (by decide) r.2⟩) (Cert.UpFwdReferenceIdeal.Value.run (F := Ideal) m g)

theorem value : Cert.algebraic_UpFwdIdeal_UpFwdReferenceIdeal := by
  intro m g m' g' _ hagree
  refine ⟨_, _, (θ_run Cert.UpFwdIdeal.defs _ _).mono (fun r h c => ⟨(h c).1.trans (relu_out m c), (h c).2.1.trans (square_out m c), (h c).2.2⟩) (Cert.UpFwdIdeal.Value.run_blocks m g),
    (θ_run Cert.UpFwdReferenceIdeal.defs _ _).mono (fun r h c => ?_) (Cert.UpFwdReferenceIdeal.Value.run (F := Ideal) m' g')⟩
  obtain ⟨a0, a1⟩ := hagree c; obtain ⟨h0, h1, kept⟩ := h c; rw [a0, a1] at h0 h1
  have hp : ∀ (i0 : Fin 8192) (i1 : Fin 4096), _ = mulCols 4096 (m ((c : Thread nD τ).loc main_arg0)) (m ((c : Thread nD τ).loc main_arg1)) (ix2 i0 i1) :=
    fun i0 i1 => prod_of _ _ _ _ _ (fun k => (at2_ix _ i0 k).symm) (fun k => (at3_of _ (show i1.val / 1024 < 4 by omega) k.isLt (show i1.val % 1024 < 1024 by omega)).symm)
  refine ⟨h0.trans ?_, h1.trans ?_, kept⟩
  · funext i
    idx_vars i
    pointwise [relu]
    exact congrArg (max · (0 : EReal)) (hp i0 i1)
  · funext i
    idx_vars i
    pointwise [square, relu]
    exact congrArg (fun p : EReal => max p 0 * max p 0) (hp i0 i1)

end Product.UpFwd

end
-- ==== Proof.DownFwdClaims.lean ====
/- The second product of the feed-forward block. -/
module

public import proofs.«01_k».proof.Defs
public import proofs.«01_k».proof.Proof.Product
public import proofs.«01_k».proof.Proof.Gen.DownFwd.Frame
public import proofs.«01_k».proof.Proof.Gen.DownFwdIdeal.Value
public import proofs.«01_k».proof.Proof.Gen.DownFwdReferenceIdeal.Run

@[expose] public section

noncomputable section

namespace Product.DownFwd

open Cert.DownFwdIdeal Cert.DownFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, t.val % 4] ∧ win0_1.index t = ![t.val % 4, 0] ∧ win0_2.index t = ![t.val / 4, 0] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 r k) = at2 (m ((c : Thread nD τ).loc main_arg0)) (t.val / 4 * 1024 + r.val) (t.val % 4 * 1024 + k.val) := by
  have := pts t
  rw [at2_of _ (by omega) (by omega)]
  blk_point [iblk, V, idx t]

theorem b_blk (t : Fin cfg0.N) (k : Fin 1024) (d : Fin 1024) :
    iblk m c 1 t (ix2 k d) = at2 (m ((c : Thread nD τ).loc main_arg1)) (t.val % 4 * 1024 + k.val) d.val := by
  have := pts t
  rw [at2_of _ (by omega) (by omega)]
  blk_point [iblk, V, idx t]

theorem pay (v : Vec Ideal S1024x1024 .f32) (a : Vec Ideal S1024x1024 .bf16) (b : Vec Ideal S1024x1024 .bf16) (r : Fin 1024) (d : Fin 1024) :
    k0_pay2 v a b (ix2 r d) = v (ix2 r d) + ∑ k : Fin 1024, (a (ix2 r k) : EReal) * b (ix2 k d) := by
  pointwise [k0_pay2]

theorem zero_pay (r d : Fin 1024) : k0_pay1 (F := Ideal) (ix2 r d) = (0 : EReal) := by
  pointwise [k0_pay1]

theorem step (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]; frame_out
    rw [(Memref.isWhole_whole _).read_unread]
  · rw [outsAt0_B m c t h0 h1]; frame_out
    rw [(Memref.isWhole_whole _).read_unread]

/-- What a block's last point writes out is what it leaves in the accumulator. -/
theorem last (t : Fin cfg0.N) (h1 : t.val % 4 = 3) : (outsAt0 m c t.val t.isLt).1 = (outsAt0 m c t.val t.isLt).2 := by
  rw [outsAt0_C m c t (by omega) h1]; frame_out

theorem out : (dats m 0 c).arrAt 2 cfg0.N = mul (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  refine (acc (fun n h => (outsAt0 m c n h).2 (ix2 y0 y1)) 4 1024 (fun q => at2 (m ((c : Thread nD τ).loc main_arg0)) (q * 1024 + y0.val)) (fun _ k => at2 (m ((c : Thread nD τ).loc main_arg1)) k y1.val) _ _ (fun t k => a_blk m c t y0 k) (fun t k => b_blk m c t k y1)
    (fun t h => by rw [outsAt0_A m c t h (by omega)]; frame_out; exact (pay _ _ _ y0 y1).trans (congrArg (· + _) (zero_pay y0 y1)))
    (fun t h => (congrFun (step m c t h) _).trans (pay _ _ _ y0 y1)) t (by omega)).trans ?_
  have he : ((View.whole main_v0).slice (win0_2.rect t)).emb (ix2 y0 y1) = ix2 ⟨t.val / 4 * 1024 + y0.val, by have := pts t; omega⟩ y1 := by
    blk_ext [idx t]
  rw [he]; rfl

theorem frameP : Cert.quiescent_DownFwd := fun m g _ => Cert.DownFwd.Gen.frame m g

theorem framePI : Cert.quiescent_DownFwdIdeal := fun m g _ => Cert.DownFwdIdeal.Gen.frame (F := Ideal) m g

theorem frameRI : Cert.quiescent_DownFwdReferenceIdeal := fun m g _ =>
  (θ_run Cert.DownFwdReferenceIdeal.defs _ _).mono (fun r h => ⟨fun c => (h c).2, sem_eq_zero_of_no_sems (by decide) r.2⟩) (Cert.DownFwdReferenceIdeal.Value.run (F := Ideal) m g)

theorem value : Cert.algebraic_DownFwdIdeal_DownFwdReferenceIdeal := by
  intro m g m' g' _ hagree
  refine ⟨_, (θ_run Cert.DownFwdIdeal.defs _ _).mono (fun r h c => ⟨(h c).1.trans ((Cert.DownFwdIdeal.Value.final2 m c).symm.trans (out m c)), (h c).2⟩) (Cert.DownFwdIdeal.Value.run m g),
    (θ_run Cert.DownFwdReferenceIdeal.defs _ _).mono (fun r h c => ?_) (Cert.DownFwdReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [mul]
  exact prod_of _ _ _ _ _ (fun k => (at2_ix _ i0 k).symm) (fun k => (at2_ix _ k i1).symm)

end Product.DownFwd

end
-- ==== Proof.AdaFwdClaims.lean ====
/- The product of the conditioning, each entry times its logistic, with its bias. -/
module

public import proofs.«01_k».proof.Defs
public import proofs.«01_k».proof.Proof.Product
public import proofs.«01_k».proof.Proof.Gen.AdaFwd.Frame
public import proofs.«01_k».proof.Proof.Gen.AdaFwdIdeal.Value
public import proofs.«01_k».proof.Proof.Gen.AdaFwdReferenceIdeal.Run

@[expose] public section

noncomputable section

namespace Product.AdaFwd

open Cert.AdaFwdIdeal Cert.AdaFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, 0] ∧ win0_1.index t = ![t.val, 0, 0] ∧ win0_2.index t = ![0, t.val]
    ∧ win0_3.index t = ![0, t.val] :=
  (by decide +kernel : ∀ t : Fin grid0.N, _)

theorem pts (t : Fin cfg0.N) : t.val < 4 := lt_of_lt_of_eq t.isLt N_0

theorem a_blk (t : Fin cfg0.N) (r : Fin 8) (k : Fin 1024) :
    silu (iblk m c 0 t) (ix2 r k) = at2 (silu (m ((c : Thread nD τ).loc main_arg0))) r.val k.val := by
  rw [at2_ix]
  refine congrArg swish ?_
  blk_point [iblk, V, idx t]

theorem b_blk (t : Fin cfg0.N) (k : Fin 1024) (d : Fin 1536) :
    iblk m c 1 t (ix3 0 k d) = at3 (m ((c : Thread nD τ).loc main_arg1)) ((t.val * 1536 + d.val) / 1536) k.val ((t.val * 1536 + d.val) % 1536) := by
  have h1 : (t.val * 1536 + d.val) / 1536 = t.val := by omega
  have h2 : (t.val * 1536 + d.val) % 1536 = d.val := by omega
  have := pts t
  rw [h1, h2, at3_of _ (by omega) (by omega) (by omega)]
  blk_point [iblk, V, idx t]

theorem pay (a : Vec Ideal S8x1024 .f32) (b : Vec Ideal S1x1024x1536 .f32) (v : Vec Ideal S1x1536 .f32) (r : Fin 8) (d : Fin 1536) :
    k0_pay1 a b v (ix2 r d) = ∑ k : Fin 1024, silu a (ix2 r k) * b (ix3 0 k d) + v (ix2 0 d) := by
  pointwise [k0_pay1, silu, swish]

theorem out : (dats m 0 c).arrAt 3 cfg0.N = fun i => mulCols 6144 (silu (m ((c : Thread nD τ).loc main_arg0))) (m ((c : Thread nD τ).loc main_arg1)) i
    + (m ((c : Thread nD τ).loc main_arg2) (ix2 0 (i 1)) : EReal) := by
  refine (dats m 0 c).arrAt_eq_of_covers 3 _ (by decide +kernel) fun t _ y => ?_
  blk_simp
  rw [after0_3]; frame_out
  idx_vars y
  have he : ((View.whole main_v0).slice (win0_3.rect t)).emb (ix2 y0 y1) = ix2 y0 ⟨t.val * 1536 + y1.val, by have := pts t; omega⟩ := by
    blk_ext [idx t]
  rw [he, pay]
  refine congrArg₂ (· + ·) (prod_of _ _ _ _ _ (fun k => a_blk m c t y0 k) (fun k => b_blk m c t k y1)) ?_
  blk_point [iblk, V, idx t]

theorem frameP : Cert.quiescent_AdaFwd := fun m g _ => Cert.AdaFwd.Gen.frame m g

theorem framePI : Cert.quiescent_AdaFwdIdeal := fun m g _ => Cert.AdaFwdIdeal.Gen.frame (F := Ideal) m g

theorem frameRI : Cert.quiescent_AdaFwdReferenceIdeal := fun m g _ =>
  (θ_run Cert.AdaFwdReferenceIdeal.defs _ _).mono (fun r h => ⟨fun c => (h c).2, sem_eq_zero_of_no_sems (by decide) r.2⟩) (Cert.AdaFwdReferenceIdeal.Value.run (F := Ideal) m g)

theorem value : Cert.algebraic_AdaFwdIdeal_AdaFwdReferenceIdeal := by
  intro m g m' g' _ hagree
  refine ⟨_, (θ_run Cert.AdaFwdIdeal.defs _ _).mono (fun r h c => ⟨(h c).1.trans (out m c), (h c).2⟩) (Cert.AdaFwdIdeal.Value.run_blocks m g),
    (θ_run Cert.AdaFwdReferenceIdeal.defs _ _).mono (fun r h c => ?_) (Cert.AdaFwdReferenceIdeal.Value.run (F := Ideal) m' g')⟩
  obtain ⟨a0, a1, a2⟩ := hagree c; obtain ⟨h0, kept⟩ := h c; rw [a0, a1, a2] at h0
  refine ⟨h0.trans ?_, kept⟩
  funext i
  idx_vars i
  pointwise [mulCols]
  exact congrArg (· + _) (prod_of _ _ _ _ _ (fun k => (at2_ix (silu (m ((c : Thread nD τ).loc main_arg0))) i0 k).symm) (fun k => (at3_of _ (by omega) k.isLt (by omega)).symm))

end Product.AdaFwd

end
-- ==== Proof.DownDxClaims.lean ====
/- The gradient of the feed-forward block's second product, back through the square of what is positive. -/
module

public import proofs.«01_k».proof.Defs
public import proofs.«01_k».proof.Proof.Product
public import proofs.«01_k».proof.Proof.Gen.DownDx.Frame
public import proofs.«01_k».proof.Proof.Gen.DownDxIdeal.Value
public import proofs.«01_k».proof.Proof.Gen.DownDxReferenceIdeal.Run

@[expose] public section

noncomputable section

namespace Product.DownDx

open Cert.DownDxIdeal Cert.DownDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, 0] ∧ win0_1.index t = ![t.val % 4, 0]
    ∧ win0_2.index t = ![t.val / 4, t.val % 4]
    ∧ win0_3.index t = ![t.val / 4, t.val % 4] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 r k) = at2 (m ((c : Thread nD τ).loc main_arg0)) (t.val / 4 * 1024 + r.val) k.val := by
  have := pts t
  rw [at2_of _ (by omega) (by omega)]
  blk_point [iblk, V, idx t]

theorem b_blk (t : Fin cfg0.N) (k : Fin 1024) (d : Fin 1024) :
    iblk m c 1 t (ix2 d k) = at2 (m ((c : Thread nD τ).loc main_arg1)) (t.val % 4 * 1024 + d.val) k.val := by
  rw [at2_of _ (by omega) (by omega)]
  blk_point [iblk, V, idx t]

theorem e_blk (t : Fin cfg0.N) (r : Fin 1024) (d : Fin 1024) :
    iblk m c 2 t (ix2 r d) = m ((c : Thread nD τ).loc main_arg2) (ix2 ⟨t.val / 4 * 1024 + r.val, by have := pts t; omega⟩ ⟨t.val % 4 * 1024 + d.val, by omega⟩) := by
  blk_point [iblk, V, idx t]

theorem pay (a : Vec Ideal S1024x1024 .bf16) (b : Vec Ideal S1024x1024 .bf16) (e : Vec Ideal S1024x1024 .bf16) (r : Fin 1024) (d : Fin 1024) :
    k0_pay1 a b e (ix2 r d) = (∑ k : Fin 1024, (a (ix2 r k) : EReal) * b (ix2 d k)) * Ideal.ofBits .f32 0x40000000#32 * e (ix2 r d) := by
  pointwise [k0_pay1]

/-- Twice the product, times the entry of `e`. -/
def twice (a : Vec Ideal S8192x1024 .bf16) (b : Vec Ideal S4096x1024 .bf16) (e : Vec Ideal S8192x4096 .bf16) : Vec Ideal S8192x4096 .bf16 := fun i =>
  mulT a b i * Ideal.ofBits .f32 0x40000000#32 * (e i : EReal)

theorem out : (dats m 0 c).arrAt 3 cfg0.N = twice (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  idx_vars y
  have he : ((View.whole main_v0).slice (win0_3.rect t)).emb (ix2 y0 y1) = ix2 ⟨t.val / 4 * 1024 + y0.val, by have := pts t; omega⟩ ⟨t.val % 4 * 1024 + y1.val, by omega⟩ := by
    blk_ext [idx t]
  rw [he, pay, e_blk]
  exact congrArg (fun p : EReal => p * Ideal.ofBits .f32 0x40000000#32 * _) (prod_of _ _ _ _ _ (fun k => a_blk m c t y0 k) (fun k => b_blk m c t k y1))

theorem frameP : Cert.quiescent_DownDx := fun m g _ => Cert.DownDx.Gen.frame m g

theorem framePI : Cert.quiescent_DownDxIdeal := fun m g _ => Cert.DownDxIdeal.Gen.frame (F := Ideal) m g

theorem frameRI : Cert.quiescent_DownDxReferenceIdeal := fun m g _ =>
  (θ_run Cert.DownDxReferenceIdeal.defs _ _).mono (fun r h => ⟨fun c => (h c).2, sem_eq_zero_of_no_sems (by decide) r.2⟩) (Cert.DownDxReferenceIdeal.Value.run (F := Ideal) m g)

theorem value : Cert.algebraic_DownDxIdeal_DownDxReferenceIdeal := by
  intro m g m' g' _ hagree
  refine ⟨_, (θ_run Cert.DownDxIdeal.defs _ _).mono (fun r h c => ⟨(h c).1.trans (out m c), (h c).2⟩) (Cert.DownDxIdeal.Value.run_blocks m g),
    (θ_run Cert.DownDxReferenceIdeal.defs _ _).mono (fun r h c => ?_) (Cert.DownDxReferenceIdeal.Value.run (F := Ideal) m' g')⟩
  obtain ⟨a0, a1, a2⟩ := hagree c; obtain ⟨h0, kept⟩ := h c; rw [a0, a1, a2] at h0
  refine ⟨h0.trans ?_, kept⟩
  funext i
  idx_vars i
  pointwise [twice, mulT]
  exact congrArg (fun p : EReal => p * Ideal.ofBits .f32 0x40000000#32 * _) (prod_of _ _ _ _ _ (fun k => (at2_ix _ i0 k).symm) (fun k => (at2_ix _ i1 k).symm))

end Product.DownDx

end
-- ==== Proof.DownDwClaims.lean ====
/- The gradient of the feed-forward block's second product at its weight. -/
module

public import proofs.«01_k».proof.Defs
public import proofs.«01_k».proof.Proof.Product
public import proofs.«01_k».proof.Proof.Gen.DownDw.Frame
public import proofs.«01_k».proof.Proof.Gen.DownDwIdeal.Value
public import proofs.«01_k».proof.Proof.Gen.DownDwReferenceIdeal.Run

@[expose] public section

noncomputable section

namespace Product.DownDw

open Cert.DownDwIdeal Cert.DownDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 k r) = at2 (m ((c : Thread nD τ).loc main_arg0)) (t.val % 8 * 1024 + k.val) (t.val / 8 * 1024 + r.val) := by
  have := pts t
  rw [at2_of _ (by omega) (by omega)]
  blk_point [iblk, V, idx t]

theorem b_blk (t : Fin cfg0.N) (k : Fin 1024) (d : Fin 1024) :
    iblk m c 1 t (ix2 k d) = at2 (m ((c : Thread nD τ).loc main_arg1)) (t.val % 8 * 1024 + k.val) d.val := by
  have := pts t
  rw [at2_of _ (by omega) (by omega)]
  blk_point [iblk, V, idx t]

theorem pay (v : Vec Ideal S1024x1024 .f32) (a : Vec Ideal S1024x1024 .bf16) (b : Vec Ideal S1024x1024 .bf16) (r : Fin 1024) (d : Fin 1024) :
    k0_pay2 v a b (ix2 r d) = v (ix2 r d) + ∑ k : Fin 1024, (a (ix2 k r) : EReal) * b (ix2 k d) := by
  pointwise [k0_pay2]

theorem zero_pay (r d : Fin 1024) : k0_pay1 (F := Ideal) (ix2 r d) = (0 : EReal) := by
  pointwise [k0_pay1]

theorem step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out
    rw [(Memref.isWhole_whole _).read_unread]
  · rw [outsAt0_B m c t h0 h1]; frame_out
    rw [(Memref.isWhole_whole _).read_unread]

/-- What a block's last point writes out is what it leaves in the accumulator. -/
theorem last (t : Fin cfg0.N) (h1 : t.val % 8 = 7) : (outsAt0 m c t.val t.isLt).1 = (outsAt0 m c t.val t.isLt).2 := by
  rw [outsAt0_C m c t (by omega) h1]; frame_out

theorem out : (dats m 0 c).arrAt 2 cfg0.N = tMul (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  refine (acc (fun n h => (outsAt0 m c n h).2 (ix2 y0 y1)) 8 1024 (fun q k => at2 (m ((c : Thread nD τ).loc main_arg0)) k (q * 1024 + y0.val)) (fun _ k => at2 (m ((c : Thread nD τ).loc main_arg1)) k y1.val) _ _ (fun t k => a_blk m c t y0 k) (fun t k => b_blk m c t k y1)
    (fun t h => by rw [outsAt0_A m c t h (by omega)]; frame_out; exact (pay _ _ _ y0 y1).trans (congrArg (· + _) (zero_pay y0 y1)))
    (fun t h => (congrFun (step m c t h) _).trans (pay _ _ _ y0 y1)) t (by omega)).trans ?_
  have he : ((View.whole main_v0).slice (win0_2.rect t)).emb (ix2 y0 y1) = ix2 ⟨t.val / 8 * 1024 + y0.val, by have := pts t; omega⟩ y1 := by
    blk_ext [idx t]
  rw [he]; rfl

theorem frameP : Cert.quiescent_DownDw := fun m g _ => Cert.DownDw.Gen.frame m g

theorem framePI : Cert.quiescent_DownDwIdeal := fun m g _ => Cert.DownDwIdeal.Gen.frame (F := Ideal) m g

theorem frameRI : Cert.quiescent_DownDwReferenceIdeal := fun m g _ =>
  (θ_run Cert.DownDwReferenceIdeal.defs _ _).mono (fun r h => ⟨fun c => (h c).2, sem_eq_zero_of_no_sems (by decide) r.2⟩) (Cert.DownDwReferenceIdeal.Value.run (F := Ideal) m g)

theorem value : Cert.algebraic_DownDwIdeal_DownDwReferenceIdeal := by
  intro m g m' g' _ hagree
  refine ⟨_, (θ_run Cert.DownDwIdeal.defs _ _).mono (fun r h c => ⟨(h c).1.trans ((Cert.DownDwIdeal.Value.final2 m c).symm.trans (out m c)), (h c).2⟩) (Cert.DownDwIdeal.Value.run m g),
    (θ_run Cert.DownDwReferenceIdeal.defs _ _).mono (fun r h c => ?_) (Cert.DownDwReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [tMul]
  exact prod_of _ _ _ _ _ (fun k => (at2_ix _ k i0).symm) (fun k => (at2_ix _ k i1).symm)

end Product.DownDw

end
-- ==== Proof.UpDwClaims.lean ====
/- The gradient of the feed-forward block's first product at its weight. -/
module

public import proofs.«01_k».proof.Defs
public import proofs.«01_k».proof.Proof.Product
public import proofs.«01_k».proof.Proof.Gen.UpDw.Frame
public import proofs.«01_k».proof.Proof.Gen.UpDwIdeal.Value
public import proofs.«01_k».proof.Proof.Gen.UpDwReferenceIdeal.Run

@[expose] public section

noncomputable section

namespace Product.UpDw

open Cert.UpDwIdeal Cert.UpDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![t.val / 8, 0, 0] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 k r) = at2 (m ((c : Thread nD τ).loc main_arg0)) (t.val % 8 * 1024 + k.val) r.val := by
  have := pts t
  rw [at2_of _ (by omega) (by omega)]
  blk_point [iblk, V, idx t]

theorem b_blk (t : Fin cfg0.N) (k : Fin 1024) (d : Fin 1024) :
    iblk m c 1 t (ix2 k d) = at2 (m ((c : Thread nD τ).loc main_arg1)) (t.val % 8 * 1024 + k.val) (t.val / 8 * 1024 + d.val) := by
  have := pts t
  rw [at2_of _ (by omega) (by omega)]
  blk_point [iblk, V, idx t]

theorem pay (v : Vec Ideal S1024x1024 .f32) (a : Vec Ideal S1024x1024 .bf16) (b : Vec Ideal S1024x1024 .bf16) (r : Fin 1024) (d : Fin 1024) :
    k0_pay2 v a b (ix2 r d) = v (ix2 r d) + ∑ k : Fin 1024, (a (ix2 k r) : EReal) * b (ix2 k d) := by
  pointwise [k0_pay2]

theorem zero_pay (r d : Fin 1024) : k0_pay1 (F := Ideal) (ix2 r d) = (0 : EReal) := by
  pointwise [k0_pay1]

theorem step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out
    rw [(Memref.isWhole_whole _).read_unread]
  · rw [outsAt0_B m c t h0 h1]; frame_out
    rw [(Memref.isWhole_whole _).read_unread]

theorem out_pay (v : Vec Ideal S1024x1024 .f32) (r d : Fin 1024) : k0_pay3 v (ix3 0 r d) = v (ix2 r d) := by
  pointwise [k0_pay3]

/-- What a block's last point writes out is what it leaves in the accumulator. -/
theorem last (t : Fin cfg0.N) (h1 : t.val % 8 = 7) : (outsAt0 m c t.val t.isLt).1 = k0_pay3 (outsAt0 m c t.val t.isLt).2 := by
  rw [outsAt0_C m c t (by omega) h1]; frame_out

theorem out : (dats m 0 c).arrAt 2 cfg0.N = tMulCols 4 1024 (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  rw [Subsingleton.elim y0 0, out_pay]
  refine (acc (fun n h => (outsAt0 m c n h).2 (ix2 y1 y2)) 8 1024 (fun _ k => at2 (m ((c : Thread nD τ).loc main_arg0)) k y1.val) (fun q k => at2 (m ((c : Thread nD τ).loc main_arg1)) k (q * 1024 + y2.val)) _ _ (fun t k => a_blk m c t y1 k) (fun t k => b_blk m c t k y2)
    (fun t h => by rw [outsAt0_A m c t h (by omega)]; frame_out; exact (pay _ _ _ y1 y2).trans (congrArg (· + _) (zero_pay y1 y2)))
    (fun t h => (congrFun (step m c t h) _).trans (pay _ _ _ y1 y2)) t (by omega)).trans ?_
  have he : ((View.whole main_v0).slice (win0_2.rect t)).emb (ix3 0 y1 y2) = ix3 ⟨t.val / 8, by have := pts t; omega⟩ y1 y2 := by
    blk_ext [idx t]
  rw [he]; rfl

theorem frameP : Cert.quiescent_UpDw := fun m g _ => Cert.UpDw.Gen.frame m g

theorem framePI : Cert.quiescent_UpDwIdeal := fun m g _ => Cert.UpDwIdeal.Gen.frame (F := Ideal) m g

theorem frameRI : Cert.quiescent_UpDwReferenceIdeal := fun m g _ =>
  (θ_run Cert.UpDwReferenceIdeal.defs _ _).mono (fun r h => ⟨fun c => (h c).2, sem_eq_zero_of_no_sems (by decide) r.2⟩) (Cert.UpDwReferenceIdeal.Value.run (F := Ideal) m g)

theorem value : Cert.algebraic_UpDwIdeal_UpDwReferenceIdeal := by
  intro m g m' g' _ hagree
  refine ⟨_, (θ_run Cert.UpDwIdeal.defs _ _).mono (fun r h c => ⟨(h c).1.trans ((Cert.UpDwIdeal.Value.final2 m c).symm.trans (out m c)), (h c).2⟩) (Cert.UpDwIdeal.Value.run m g),
    (θ_run Cert.UpDwReferenceIdeal.defs _ _).mono (fun r h c => ?_) (Cert.UpDwReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [tMulCols]
  exact prod_of _ _ _ _ _ (fun k => (at2_ix _ k i1).symm) (fun k => (at2_of _ k.isLt (by omega)).symm)

end Product.UpDw

end
-- ==== Proof.UpDxClaims.lean ====
/- The gradient of the feed-forward block's first product, back to its input. -/
module

public import proofs.«01_k».proof.Defs
public import proofs.«01_k».proof.Proof.Product
public import proofs.«01_k».proof.Proof.Gen.UpDx.Frame
public import proofs.«01_k».proof.Proof.Gen.UpDxIdeal.Value
public import proofs.«01_k».proof.Proof.Gen.UpDxReferenceIdeal.Run

@[expose] public section

noncomputable section

namespace Product.UpDx

open Cert.UpDxIdeal Cert.UpDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 r k) = at2 (m ((c : Thread nD τ).loc main_arg0)) (t.val / 4 * 1024 + r.val) (t.val % 4 * 1024 + k.val) := by
  have := pts t
  rw [at2_of _ (by omega) (by omega)]
  blk_point [iblk, V, idx t]

theorem b_blk (t : Fin cfg0.N) (k : Fin 1024) (d : Fin 1024) :
    iblk m c 1 t (ix3 0 d k) = at3 (m ((c : Thread nD τ).loc main_arg1)) ((t.val % 4 * 1024 + k.val) / 1024) d.val ((t.val % 4 * 1024 + k.val) % 1024) := by
  have h1 : (t.val % 4 * 1024 + k.val) / 1024 = t.val % 4 := by omega
  have h2 : (t.val % 4 * 1024 + k.val) % 1024 = k.val := by omega
  rw [h1, h2, at3_of _ (by omega) (by omega) (by omega)]
  blk_point [iblk, V, idx t]

theorem pay (v : Vec Ideal S1024x1024 .f32) (a : Vec Ideal S1024x1024 .bf16) (b : Vec Ideal S1x1024x1024 .bf16) (r : Fin 1024) (d : Fin 1024) :
    k0_pay2 v a b (ix2 r d) = v (ix2 r d) + ∑ k : Fin 1024, (a (ix2 r k) : EReal) * b (ix3 0 d k) := by
  pointwise [k0_pay2]

theorem zero_pay (r d : Fin 1024) : k0_pay1 (F := Ideal) (ix2 r d) = (0 : EReal) := by
  pointwise [k0_pay1]

theorem step (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]; frame_out
    rw [(Memref.isWhole_whole _).read_unread]
  · rw [outsAt0_B m c t h0 h1]; frame_out
    rw [(Memref.isWhole_whole _).read_unread]

/-- What a block's last point writes out is what it leaves in the accumulator. -/
theorem last (t : Fin cfg0.N) (h1 : t.val % 4 = 3) : (outsAt0 m c t.val t.isLt).1 = (outsAt0 m c t.val t.isLt).2 := by
  rw [outsAt0_C m c t (by omega) h1]; frame_out

theorem out : (dats m 0 c).arrAt 2 cfg0.N = mulColsT (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  refine (acc (fun n h => (outsAt0 m c n h).2 (ix2 y0 y1)) 4 1024 (fun q => at2 (m ((c : Thread nD τ).loc main_arg0)) (q * 1024 + y0.val)) (fun _ k => at3 (m ((c : Thread nD τ).loc main_arg1)) (k / 1024) y1.val (k % 1024)) _ _ (fun t k => a_blk m c t y0 k) (fun t k => b_blk m c t k y1)
    (fun t h => by rw [outsAt0_A m c t h (by omega)]; frame_out; exact (pay _ _ _ y0 y1).trans (congrArg (· + _) (zero_pay y0 y1)))
    (fun t h => (congrFun (step m c t h) _).trans (pay _ _ _ y0 y1)) t (by omega)).trans ?_
  have he : ((View.whole main_v0).slice (win0_2.rect t)).emb (ix2 y0 y1) = ix2 ⟨t.val / 4 * 1024 + y0.val, by have := pts t; omega⟩ y1 := by
    blk_ext [idx t]
  rw [he]; rfl

theorem frameP : Cert.quiescent_UpDx := fun m g _ => Cert.UpDx.Gen.frame m g

theorem framePI : Cert.quiescent_UpDxIdeal := fun m g _ => Cert.UpDxIdeal.Gen.frame (F := Ideal) m g

theorem frameRI : Cert.quiescent_UpDxReferenceIdeal := fun m g _ =>
  (θ_run Cert.UpDxReferenceIdeal.defs _ _).mono (fun r h => ⟨fun c => (h c).2, sem_eq_zero_of_no_sems (by decide) r.2⟩) (Cert.UpDxReferenceIdeal.Value.run (F := Ideal) m g)

theorem value : Cert.algebraic_UpDxIdeal_UpDxReferenceIdeal := by
  intro m g m' g' _ hagree
  refine ⟨_, (θ_run Cert.UpDxIdeal.defs _ _).mono (fun r h c => ⟨(h c).1.trans ((Cert.UpDxIdeal.Value.final2 m c).symm.trans (out m c)), (h c).2⟩) (Cert.UpDxIdeal.Value.run m g),
    (θ_run Cert.UpDxReferenceIdeal.defs _ _).mono (fun r h c => ?_) (Cert.UpDxReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [mulColsT]
  exact prod_of _ _ _ _ _ (fun k => (at2_ix _ i0 k).symm) (fun k => (at3_of _ (by omega) i1.isLt (by omega)).symm)

end Product.UpDx

end
-- ==== Proof.PwTwoDxClaims.lean ====
/- The gradient of the pointwise layer's second product, back to its input. -/
module

public import proofs.«01_k».proof.Defs
public import proofs.«01_k».proof.Proof.Product
public import proofs.«01_k».proof.Proof.Gen.PwTwoDx.Frame
public import proofs.«01_k».proof.Proof.Gen.PwTwoDxIdeal.Value
public import proofs.«01_k».proof.Proof.Gen.PwTwoDxReferenceIdeal.Run

@[expose] public section

noncomputable section

namespace Product.PwTwoDx

open Cert.PwTwoDxIdeal Cert.PwTwoDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] :=
  (by decide +kernel : ∀ t : Fin grid0.N, _)

theorem pts (t : Fin cfg0.N) : t.val < 8 := lt_of_lt_of_eq t.isLt N_0

theorem a_blk (t : Fin cfg0.N) (r : Fin 1024) (k : Fin 1024) :
    iblk m c 0 t (ix2 r k) = at2 (m ((c : Thread nD τ).loc main_arg0)) (t.val * 1024 + r.val) k.val := by
  have := pts t
  rw [at2_of _ (by omega) (by omega)]
  blk_point [iblk, V, idx t]

theorem b_blk (t : Fin cfg0.N) (k : Fin 1024) (d : Fin 1024) :
    iblk m c 1 t (ix2 d k) = at2 (m ((c : Thread nD τ).loc main_arg1)) d.val k.val := by
  rw [at2_of _ (by omega) (by omega)]
  blk_point [iblk, V, idx t]

theorem pay (a : Vec Ideal S1024x1024 .bf16) (b : Vec Ideal S1024x1024 .bf16) (r : Fin 1024) (d : Fin 1024) :
    k0_pay1 a b (ix2 r d) = ∑ k : Fin 1024, (a (ix2 r k) : EReal) * b (ix2 d k) := by
  pointwise [k0_pay1]

theorem out : (dats m 0 c).arrAt 2 cfg0.N = mulT (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  have he : ((View.whole main_v0).slice (win0_2.rect t)).emb (ix2 y0 y1) = ix2 ⟨t.val * 1024 + y0.val, by have := pts t; omega⟩ y1 := by
    blk_ext [idx t]
  rw [he, pay]
  exact prod_of _ _ _ _ _ (fun k => a_blk m c t y0 k) (fun k => b_blk m c t k y1)

theorem frameP : Cert.quiescent_PwTwoDx := fun m g _ => Cert.PwTwoDx.Gen.frame m g

theorem framePI : Cert.quiescent_PwTwoDxIdeal := fun m g _ => Cert.PwTwoDxIdeal.Gen.frame (F := Ideal) m g

theorem frameRI : Cert.quiescent_PwTwoDxReferenceIdeal := fun m g _ =>
  (θ_run Cert.PwTwoDxReferenceIdeal.defs _ _).mono (fun r h => ⟨fun c => (h c).2, sem_eq_zero_of_no_sems (by decide) r.2⟩) (Cert.PwTwoDxReferenceIdeal.Value.run (F := Ideal) m g)

theorem value : Cert.algebraic_PwTwoDxIdeal_PwTwoDxReferenceIdeal := by
  intro m g m' g' _ hagree
  refine ⟨_, (θ_run Cert.PwTwoDxIdeal.defs _ _).mono (fun r h c => ⟨(h c).1.trans (out m c), (h c).2⟩) (Cert.PwTwoDxIdeal.Value.run_blocks m g),
    (θ_run Cert.PwTwoDxReferenceIdeal.defs _ _).mono (fun r h c => ?_) (Cert.PwTwoDxReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [mulT]
  exact prod_of _ _ _ _ _ (fun k => (at2_ix _ i0 k).symm) (fun k => (at2_ix _ i1 k).symm)

end Product.PwTwoDx

end
-- ==== Proof.PwTwoDwClaims.lean ====
/- The gradient of the pointwise layer's second product at its weight. -/
module

public import proofs.«01_k».proof.Defs
public import proofs.«01_k».proof.Proof.Product
public import proofs.«01_k».proof.Proof.Gen.PwTwoDw.Frame
public import proofs.«01_k».proof.Proof.Gen.PwTwoDwIdeal.Value
public import proofs.«01_k».proof.Proof.Gen.PwTwoDwReferenceIdeal.Run

@[expose] public section

noncomputable section

namespace Product.PwTwoDw

open Cert.PwTwoDwIdeal Cert.PwTwoDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem pts (t : Fin cfg0.N) : t.val < 8 := lt_of_lt_of_eq t.isLt N_0

theorem a_blk (t : Fin cfg0.N) (r : Fin 1024) (k : Fin 1024) :
    iblk m c 0 t (ix2 k r) = at2 (m ((c : Thread nD τ).loc main_arg0)) (t.val % 8 * 1024 + k.val) (t.val / 8 * 1024 + r.val) := by
  have := pts t
  rw [at2_of _ (by omega) (by omega)]
  blk_point [iblk, V, idx t]

theorem b_blk (t : Fin cfg0.N) (k : Fin 1024) (d : Fin 1024) :
    iblk m c 1 t (ix2 k d) = at2 (m ((c : Thread nD τ).loc main_arg1)) (t.val % 8 * 1024 + k.val) d.val := by
  have := pts t
  rw [at2_of _ (by omega) (by omega)]
  blk_point [iblk, V, idx t]

theorem pay (v : Vec Ideal S1024x1024 .f32) (a : Vec Ideal S1024x1024 .bf16) (b : Vec Ideal S1024x1024 .bf16) (r : Fin 1024) (d : Fin 1024) :
    k0_pay2 v a b (ix2 r d) = v (ix2 r d) + ∑ k : Fin 1024, (a (ix2 k r) : EReal) * b (ix2 k d) := by
  pointwise [k0_pay2]

theorem zero_pay (r d : Fin 1024) : k0_pay1 (F := Ideal) (ix2 r d) = (0 : EReal) := by
  pointwise [k0_pay1]

theorem step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out
    rw [(Memref.isWhole_whole _).read_unread]
  · rw [outsAt0_B m c t h0 h1]; frame_out
    rw [(Memref.isWhole_whole _).read_unread]

/-- What a block's last point writes out is what it leaves in the accumulator. -/
theorem last (t : Fin cfg0.N) (h1 : t.val % 8 = 7) : (outsAt0 m c t.val t.isLt).1 = (outsAt0 m c t.val t.isLt).2 := by
  rw [outsAt0_C m c t (by omega) h1]; frame_out

theorem out : (dats m 0 c).arrAt 2 cfg0.N = tMul (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  refine (acc (fun n h => (outsAt0 m c n h).2 (ix2 y0 y1)) 8 1024 (fun q k => at2 (m ((c : Thread nD τ).loc main_arg0)) k (q * 1024 + y0.val)) (fun _ k => at2 (m ((c : Thread nD τ).loc main_arg1)) k y1.val) _ _ (fun t k => a_blk m c t y0 k) (fun t k => b_blk m c t k y1)
    (fun t h => by rw [outsAt0_A m c t h (by omega)]; frame_out; exact (pay _ _ _ y0 y1).trans (congrArg (· + _) (zero_pay y0 y1)))
    (fun t h => (congrFun (step m c t h) _).trans (pay _ _ _ y0 y1)) t (by omega)).trans ?_
  have he : ((View.whole main_v0).slice (win0_2.rect t)).emb (ix2 y0 y1) = ix2 ⟨t.val / 8 * 1024 + y0.val, by have := pts t; omega⟩ y1 := by
    blk_ext [idx t]
  rw [he]; rfl

theorem frameP : Cert.quiescent_PwTwoDw := fun m g _ => Cert.PwTwoDw.Gen.frame m g

theorem framePI : Cert.quiescent_PwTwoDwIdeal := fun m g _ => Cert.PwTwoDwIdeal.Gen.frame (F := Ideal) m g

theorem frameRI : Cert.quiescent_PwTwoDwReferenceIdeal := fun m g _ =>
  (θ_run Cert.PwTwoDwReferenceIdeal.defs _ _).mono (fun r h => ⟨fun c => (h c).2, sem_eq_zero_of_no_sems (by decide) r.2⟩) (Cert.PwTwoDwReferenceIdeal.Value.run (F := Ideal) m g)

theorem value : Cert.algebraic_PwTwoDwIdeal_PwTwoDwReferenceIdeal := by
  intro m g m' g' _ hagree
  refine ⟨_, (θ_run Cert.PwTwoDwIdeal.defs _ _).mono (fun r h c => ⟨(h c).1.trans ((Cert.PwTwoDwIdeal.Value.final2 m c).symm.trans (out m c)), (h c).2⟩) (Cert.PwTwoDwIdeal.Value.run m g),
    (θ_run Cert.PwTwoDwReferenceIdeal.defs _ _).mono (fun r h c => ?_) (Cert.PwTwoDwReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [tMul]
  exact prod_of _ _ _ _ _ (fun k => (at2_ix _ k i0).symm) (fun k => (at2_ix _ k i1).symm)

end Product.PwTwoDw

end
-- ==== Proof.PwOneDwClaims.lean ====
/- The gradient of the pointwise layer's first product at its weight. -/
module

public import proofs.«01_k».proof.Defs
public import proofs.«01_k».proof.Proof.Product
public import proofs.«01_k».proof.Proof.Gen.PwOneDw.Frame
public import proofs.«01_k».proof.Proof.Gen.PwOneDwIdeal.Value
public import proofs.«01_k».proof.Proof.Gen.PwOneDwReferenceIdeal.Run

@[expose] public section

noncomputable section

namespace Product.PwOneDw

open Cert.PwOneDwIdeal Cert.PwOneDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![t.val / 8, 0, 0] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 k r) = at2 (m ((c : Thread nD τ).loc main_arg0)) (t.val % 8 * 1024 + k.val) r.val := by
  have := pts t
  rw [at2_of _ (by omega) (by omega)]
  blk_point [iblk, V, idx t]

theorem b_blk (t : Fin cfg0.N) (k : Fin 1024) (d : Fin 512) :
    iblk m c 1 t (ix2 k d) = at2 (m ((c : Thread nD τ).loc main_arg1)) (t.val % 8 * 1024 + k.val) (t.val / 8 * 512 + d.val) := by
  have := pts t
  rw [at2_of _ (by omega) (by omega)]
  blk_point [iblk, V, idx t]

theorem pay (v : Vec Ideal S1024x512 .f32) (a : Vec Ideal S1024x1024 .bf16) (b : Vec Ideal S1024x512 .bf16) (r : Fin 1024) (d : Fin 512) :
    k0_pay2 v a b (ix2 r d) = v (ix2 r d) + ∑ k : Fin 1024, (a (ix2 k r) : EReal) * b (ix2 k d) := by
  pointwise [k0_pay2]

theorem zero_pay (r : Fin 1024) (d : Fin 512) : k0_pay1 (F := Ideal) (ix2 r d) = (0 : EReal) := by
  pointwise [k0_pay1]

theorem step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out
    rw [(Memref.isWhole_whole _).read_unread]
  · rw [outsAt0_B m c t h0 h1]; frame_out
    rw [(Memref.isWhole_whole _).read_unread]

theorem out_pay (v : Vec Ideal S1024x512 .f32) (r : Fin 1024) (d : Fin 512) : k0_pay3 v (ix3 0 r d) = v (ix2 r d) := by
  pointwise [k0_pay3]

/-- What a block's last point writes out is what it leaves in the accumulator. -/
theorem last (t : Fin cfg0.N) (h1 : t.val % 8 = 7) : (outsAt0 m c t.val t.isLt).1 = k0_pay3 (outsAt0 m c t.val t.isLt).2 := by
  rw [outsAt0_C m c t (by omega) h1]; frame_out

theorem out : (dats m 0 c).arrAt 2 cfg0.N = tMulCols 4 512 (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  rw [Subsingleton.elim y0 0, out_pay]
  refine (acc (fun n h => (outsAt0 m c n h).2 (ix2 y1 y2)) 8 1024 (fun _ k => at2 (m ((c : Thread nD τ).loc main_arg0)) k y1.val) (fun q k => at2 (m ((c : Thread nD τ).loc main_arg1)) k (q * 512 + y2.val)) _ _ (fun t k => a_blk m c t y1 k) (fun t k => b_blk m c t k y2)
    (fun t h => by rw [outsAt0_A m c t h (by omega)]; frame_out; exact (pay _ _ _ y1 y2).trans (congrArg (· + _) (zero_pay y1 y2)))
    (fun t h => (congrFun (step m c t h) _).trans (pay _ _ _ y1 y2)) t (by omega)).trans ?_
  have he : ((View.whole main_v0).slice (win0_2.rect t)).emb (ix3 0 y1 y2) = ix3 ⟨t.val / 8, by have := pts t; omega⟩ y1 y2 := by
    blk_ext [idx t]
  rw [he]; rfl

theorem frameP : Cert.quiescent_PwOneDw := fun m g _ => Cert.PwOneDw.Gen.frame m g

theorem framePI : Cert.quiescent_PwOneDwIdeal := fun m g _ => Cert.PwOneDwIdeal.Gen.frame (F := Ideal) m g

theorem frameRI : Cert.quiescent_PwOneDwReferenceIdeal := fun m g _ =>
  (θ_run Cert.PwOneDwReferenceIdeal.defs _ _).mono (fun r h => ⟨fun c => (h c).2, sem_eq_zero_of_no_sems (by decide) r.2⟩) (Cert.PwOneDwReferenceIdeal.Value.run (F := Ideal) m g)

theorem value : Cert.algebraic_PwOneDwIdeal_PwOneDwReferenceIdeal := by
  intro m g m' g' _ hagree
  refine ⟨_, (θ_run Cert.PwOneDwIdeal.defs _ _).mono (fun r h c => ⟨(h c).1.trans ((Cert.PwOneDwIdeal.Value.final2 m c).symm.trans (out m c)), (h c).2⟩) (Cert.PwOneDwIdeal.Value.run m g),
    (θ_run Cert.PwOneDwReferenceIdeal.defs _ _).mono (fun r h c => ?_) (Cert.PwOneDwReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [tMulCols]
  exact prod_of _ _ _ _ _ (fun k => (at2_ix _ k i1).symm) (fun k => (at2_of _ k.isLt (by omega)).symm)

end Product.PwOneDw

end
-- ==== Proof.PwOneDxClaims.lean ====
/- The gradient of the pointwise layer's first product, back to its input. -/
module

public import proofs.«01_k».proof.Defs
public import proofs.«01_k».proof.Proof.Product
public import proofs.«01_k».proof.Proof.Gen.PwOneDx.Frame
public import proofs.«01_k».proof.Proof.Gen.PwOneDxIdeal.Value
public import proofs.«01_k».proof.Proof.Gen.PwOneDxReferenceIdeal.Run

@[expose] public section

noncomputable section

namespace Product.PwOneDx

open Cert.PwOneDxIdeal Cert.PwOneDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

theorem pts (t : Fin cfg0.N) : t.val < 32 := lt_of_lt_of_eq t.isLt N_0

theorem a_blk (t : Fin cfg0.N) (r : Fin 1024) (k : Fin 512) :
    iblk m c 0 t (ix2 r k) = at2 (m ((c : Thread nD τ).loc main_arg0)) (t.val / 4 * 1024 + r.val) (t.val % 4 * 512 + k.val) := by
  have := pts t
  rw [at2_of _ (by omega) (by omega)]
  blk_point [iblk, V, idx t]

theorem b_blk (t : Fin cfg0.N) (k : Fin 512) (d : Fin 1024) :
    iblk m c 1 t (ix3 0 d k) = at3 (m ((c : Thread nD τ).loc main_arg1)) ((t.val % 4 * 512 + k.val) / 512) d.val ((t.val % 4 * 512 + k.val) % 512) := by
  have h1 : (t.val % 4 * 512 + k.val) / 512 = t.val % 4 := by omega
  have h2 : (t.val % 4 * 512 + k.val) % 512 = k.val := by omega
  rw [h1, h2, at3_of _ (by omega) (by omega) (by omega)]
  blk_point [iblk, V, idx t]

theorem pay (v : Vec Ideal S1024x1024 .f32) (a : Vec Ideal S1024x512 .bf16) (b : Vec Ideal S1x1024x512 .bf16) (r : Fin 1024) (d : Fin 1024) :
    k0_pay2 v a b (ix2 r d) = v (ix2 r d) + ∑ k : Fin 512, (a (ix2 r k) : EReal) * b (ix3 0 d k) := by
  pointwise [k0_pay2]

theorem zero_pay (r d : Fin 1024) : k0_pay1 (F := Ideal) (ix2 r d) = (0 : EReal) := by
  pointwise [k0_pay1]

theorem step (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]; frame_out
    rw [(Memref.isWhole_whole _).read_unread]
  · rw [outsAt0_B m c t h0 h1]; frame_out
    rw [(Memref.isWhole_whole _).read_unread]

/-- What a block's last point writes out is what it leaves in the accumulator. -/
theorem last (t : Fin cfg0.N) (h1 : t.val % 4 = 3) : (outsAt0 m c t.val t.isLt).1 = (outsAt0 m c t.val t.isLt).2 := by
  rw [outsAt0_C m c t (by omega) h1]; frame_out

theorem out : (dats m 0 c).arrAt 2 cfg0.N = mulColsT (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  refine (acc (fun n h => (outsAt0 m c n h).2 (ix2 y0 y1)) 4 512 (fun q => at2 (m ((c : Thread nD τ).loc main_arg0)) (q * 1024 + y0.val)) (fun _ k => at3 (m ((c : Thread nD τ).loc main_arg1)) (k / 512) y1.val (k % 512)) _ _ (fun t k => a_blk m c t y0 k) (fun t k => b_blk m c t k y1)
    (fun t h => by rw [outsAt0_A m c t h (by omega)]; frame_out; exact (pay _ _ _ y0 y1).trans (congrArg (· + _) (zero_pay y0 y1)))
    (fun t h => (congrFun (step m c t h) _).trans (pay _ _ _ y0 y1)) t (by omega)).trans ?_
  have he : ((View.whole main_v0).slice (win0_2.rect t)).emb (ix2 y0 y1) = ix2 ⟨t.val / 4 * 1024 + y0.val, by have := pts t; omega⟩ y1 := by
    blk_ext [idx t]
  rw [he]; rfl

theorem frameP : Cert.quiescent_PwOneDx := fun m g _ => Cert.PwOneDx.Gen.frame m g

theorem framePI : Cert.quiescent_PwOneDxIdeal := fun m g _ => Cert.PwOneDxIdeal.Gen.frame (F := Ideal) m g

theorem frameRI : Cert.quiescent_PwOneDxReferenceIdeal := fun m g _ =>
  (θ_run Cert.PwOneDxReferenceIdeal.defs _ _).mono (fun r h => ⟨fun c => (h c).2, sem_eq_zero_of_no_sems (by decide) r.2⟩) (Cert.PwOneDxReferenceIdeal.Value.run (F := Ideal) m g)

theorem value : Cert.algebraic_PwOneDxIdeal_PwOneDxReferenceIdeal := by
  intro m g m' g' _ hagree
  refine ⟨_, (θ_run Cert.PwOneDxIdeal.defs _ _).mono (fun r h c => ⟨(h c).1.trans ((Cert.PwOneDxIdeal.Value.final2 m c).symm.trans (out m c)), (h c).2⟩) (Cert.PwOneDxIdeal.Value.run m g),
    (θ_run Cert.PwOneDxReferenceIdeal.defs _ _).mono (fun r h c => ?_) (Cert.PwOneDxReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [mulColsT]
  exact prod_of _ _ _ _ _ (fun k => (at2_ix _ i0 k).symm) (fun k => (at3_of _ (by omega) i1.isLt (by omega)).symm)

end Product.PwOneDx

end
-- ==== Proof.RetOutDxClaims.lean ====
/- The gradient of the product out of the retention, back to its input. -/
module

public import proofs.«01_k».proof.Defs
public import proofs.«01_k».proof.Proof.Product
public import proofs.«01_k».proof.Proof.Gen.RetOutDx.Frame
public import proofs.«01_k».proof.Proof.Gen.RetOutDxIdeal.Value
public import proofs.«01_k».proof.Proof.Gen.RetOutDxReferenceIdeal.Run

@[expose] public section

noncomputable section

namespace Product.RetOutDx

open Cert.RetOutDxIdeal Cert.RetOutDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem pts (t : Fin cfg0.N) : t.val < 16 := lt_of_lt_of_eq t.isLt N_0

theorem a_blk (t : Fin cfg0.N) (r : Fin 1024) (k : Fin 1024) :
    iblk m c 0 t (ix2 r k) = at2 (m ((c : Thread nD τ).loc main_arg0)) (t.val / 2 * 1024 + r.val) k.val := by
  have := pts t
  rw [at2_of _ (by omega) (by omega)]
  blk_point [iblk, V, idx t]

theorem b_blk (t : Fin cfg0.N) (k : Fin 1024) (d : Fin 1024) :
    iblk m c 1 t (ix2 d k) = at2 (m ((c : Thread nD τ).loc main_arg1)) (t.val % 2 * 1024 + d.val) k.val := by
  rw [at2_of _ (by omega) (by omega)]
  blk_point [iblk, V, idx t]

theorem pay (a : Vec Ideal S1024x1024 .bf16) (b : Vec Ideal S1024x1024 .bf16) (r : Fin 1024) (d : Fin 1024) :
    k0_pay1 a b (ix2 r d) = ∑ k : Fin 1024, (a (ix2 r k) : EReal) * b (ix2 d k) := by
  pointwise [k0_pay1]

theorem out : (dats m 0 c).arrAt 2 cfg0.N = mulT (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  have he : ((View.whole main_v0).slice (win0_2.rect t)).emb (ix2 y0 y1) = ix2 ⟨t.val / 2 * 1024 + y0.val, by have := pts t; omega⟩ ⟨t.val % 2 * 1024 + y1.val, by omega⟩ := by
    blk_ext [idx t]
  rw [he, pay]
  exact prod_of _ _ _ _ _ (fun k => a_blk m c t y0 k) (fun k => b_blk m c t k y1)

theorem frameP : Cert.quiescent_RetOutDx := fun m g _ => Cert.RetOutDx.Gen.frame m g

theorem framePI : Cert.quiescent_RetOutDxIdeal := fun m g _ => Cert.RetOutDxIdeal.Gen.frame (F := Ideal) m g

theorem frameRI : Cert.quiescent_RetOutDxReferenceIdeal := fun m g _ =>
  (θ_run Cert.RetOutDxReferenceIdeal.defs _ _).mono (fun r h => ⟨fun c => (h c).2, sem_eq_zero_of_no_sems (by decide) r.2⟩) (Cert.RetOutDxReferenceIdeal.Value.run (F := Ideal) m g)

theorem value : Cert.algebraic_RetOutDxIdeal_RetOutDxReferenceIdeal := by
  intro m g m' g' _ hagree
  refine ⟨_, (θ_run Cert.RetOutDxIdeal.defs _ _).mono (fun r h c => ⟨(h c).1.trans (out m c), (h c).2⟩) (Cert.RetOutDxIdeal.Value.run_blocks m g),
    (θ_run Cert.RetOutDxReferenceIdeal.defs _ _).mono (fun r h c => ?_) (Cert.RetOutDxReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [mulT]
  exact prod_of _ _ _ _ _ (fun k => (at2_ix _ i0 k).symm) (fun k => (at2_ix _ i1 k).symm)

end Product.RetOutDx

end
-- ==== Proof.RetOutDwClaims.lean ====
/- The gradient of the product out of the retention at its weight. -/
module

public import proofs.«01_k».proof.Defs
public import proofs.«01_k».proof.Proof.Product
public import proofs.«01_k».proof.Proof.Gen.RetOutDw.Frame
public import proofs.«01_k».proof.Proof.Gen.RetOutDwIdeal.Value
public import proofs.«01_k».proof.Proof.Gen.RetOutDwReferenceIdeal.Run

@[expose] public section

noncomputable section

namespace Product.RetOutDw

open Cert.RetOutDwIdeal Cert.RetOutDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem pts (t : Fin cfg0.N) : t.val < 16 := lt_of_lt_of_eq t.isLt N_0

theorem a_blk (t : Fin cfg0.N) (r : Fin 1024) (k : Fin 1024) :
    iblk m c 0 t (ix2 k r) = at2 (m ((c : Thread nD τ).loc main_arg0)) (t.val % 8 * 1024 + k.val) (t.val / 8 * 1024 + r.val) := by
  have := pts t
  rw [at2_of _ (by omega) (by omega)]
  blk_point [iblk, V, idx t]

theorem b_blk (t : Fin cfg0.N) (k : Fin 1024) (d : Fin 1024) :
    iblk m c 1 t (ix2 k d) = at2 (m ((c : Thread nD τ).loc main_arg1)) (t.val % 8 * 1024 + k.val) d.val := by
  have := pts t
  rw [at2_of _ (by omega) (by omega)]
  blk_point [iblk, V, idx t]

theorem pay (v : Vec Ideal S1024x1024 .f32) (a : Vec Ideal S1024x1024 .bf16) (b : Vec Ideal S1024x1024 .bf16) (r : Fin 1024) (d : Fin 1024) :
    k0_pay2 v a b (ix2 r d) = v (ix2 r d) + ∑ k : Fin 1024, (a (ix2 k r) : EReal) * b (ix2 k d) := by
  pointwise [k0_pay2]

theorem zero_pay (r d : Fin 1024) : k0_pay1 (F := Ideal) (ix2 r d) = (0 : EReal) := by
  pointwise [k0_pay1]

theorem step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out
    rw [(Memref.isWhole_whole _).read_unread]
  · rw [outsAt0_B m c t h0 h1]; frame_out
    rw [(Memref.isWhole_whole _).read_unread]

/-- What a block's last point writes out is what it leaves in the accumulator. -/
theorem last (t : Fin cfg0.N) (h1 : t.val % 8 = 7) : (outsAt0 m c t.val t.isLt).1 = (outsAt0 m c t.val t.isLt).2 := by
  rw [outsAt0_C m c t (by omega) h1]; frame_out

theorem out : (dats m 0 c).arrAt 2 cfg0.N = tMul (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  refine (acc (fun n h => (outsAt0 m c n h).2 (ix2 y0 y1)) 8 1024 (fun q k => at2 (m ((c : Thread nD τ).loc main_arg0)) k (q * 1024 + y0.val)) (fun _ k => at2 (m ((c : Thread nD τ).loc main_arg1)) k y1.val) _ _ (fun t k => a_blk m c t y0 k) (fun t k => b_blk m c t k y1)
    (fun t h => by rw [outsAt0_A m c t h (by omega)]; frame_out; exact (pay _ _ _ y0 y1).trans (congrArg (· + _) (zero_pay y0 y1)))
    (fun t h => (congrFun (step m c t h) _).trans (pay _ _ _ y0 y1)) t (by omega)).trans ?_
  have he : ((View.whole main_v0).slice (win0_2.rect t)).emb (ix2 y0 y1) = ix2 ⟨t.val / 8 * 1024 + y0.val, by have := pts t; omega⟩ y1 := by
    blk_ext [idx t]
  rw [he]; rfl

theorem frameP : Cert.quiescent_RetOutDw := fun m g _ => Cert.RetOutDw.Gen.frame m g

theorem framePI : Cert.quiescent_RetOutDwIdeal := fun m g _ => Cert.RetOutDwIdeal.Gen.frame (F := Ideal) m g

theorem frameRI : Cert.quiescent_RetOutDwReferenceIdeal := fun m g _ =>
  (θ_run Cert.RetOutDwReferenceIdeal.defs _ _).mono (fun r h => ⟨fun c => (h c).2, sem_eq_zero_of_no_sems (by decide) r.2⟩) (Cert.RetOutDwReferenceIdeal.Value.run (F := Ideal) m g)

theorem value : Cert.algebraic_RetOutDwIdeal_RetOutDwReferenceIdeal := by
  intro m g m' g' _ hagree
  refine ⟨_, (θ_run Cert.RetOutDwIdeal.defs _ _).mono (fun r h c => ⟨(h c).1.trans ((Cert.RetOutDwIdeal.Value.final2 m c).symm.trans (out m c)), (h c).2⟩) (Cert.RetOutDwIdeal.Value.run m g),
    (θ_run Cert.RetOutDwReferenceIdeal.defs _ _).mono (fun r h c => ?_) (Cert.RetOutDwReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [tMul]
  exact prod_of _ _ _ _ _ (fun k => (at2_ix _ k i0).symm) (fun k => (at2_ix _ k i1).symm)

end Product.RetOutDw

end
-- ==== Proof.RetInDwClaims.lean ====
/- The gradient of the product into the retention at its weight. -/
module

public import proofs.«01_k».proof.Defs
public import proofs.«01_k».proof.Proof.Product
public import proofs.«01_k».proof.Proof.Gen.RetInDw.Frame
public import proofs.«01_k».proof.Proof.Gen.RetInDwIdeal.Value
public import proofs.«01_k».proof.Proof.Gen.RetInDwReferenceIdeal.Run

@[expose] public section

noncomputable section

namespace Product.RetInDw

open Cert.RetInDwIdeal Cert.RetInDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![t.val / 8, 0, 0] :=
  (by decide +kernel : ∀ t : Fin grid0.N, _)

theorem pts (t : Fin cfg0.N) : t.val < 32 := lt_of_lt_of_eq t.isLt N_0

theorem a_blk (t : Fin cfg0.N) (r : Fin 1024) (k : Fin 1024) :
    iblk m c 0 t (ix2 k r) = at2 (m ((c : Thread nD τ).loc main_arg0)) (t.val % 8 * 1024 + k.val) r.val := by
  have := pts t
  rw [at2_of _ (by omega) (by omega)]
  blk_point [iblk, V, idx t]

theorem b_blk (t : Fin cfg0.N) (k : Fin 1024) (d : Fin 1536) :
    iblk m c 1 t (ix2 k d) = at2 (m ((c : Thread nD τ).loc main_arg1)) (t.val % 8 * 1024 + k.val) (t.val / 8 * 1536 + d.val) := by
  have := pts t
  rw [at2_of _ (by omega) (by omega)]
  blk_point [iblk, V, idx t]

theorem pay (v : Vec Ideal S1024x1536 .f32) (a : Vec Ideal S1024x1024 .bf16) (b : Vec Ideal S1024x1536 .bf16) (r : Fin 1024) (d : Fin 1536) :
    k0_pay2 v a b (ix2 r d) = v (ix2 r d) + ∑ k : Fin 1024, (a (ix2 k r) : EReal) * b (ix2 k d) := by
  pointwise [k0_pay2]

theorem zero_pay (r : Fin 1024) (d : Fin 1536) : k0_pay1 (F := Ideal) (ix2 r d) = (0 : EReal) := by
  pointwise [k0_pay1]

theorem step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out
    rw [(Memref.isWhole_whole _).read_unread]
  · rw [outsAt0_B m c t h0 h1]; frame_out
    rw [(Memref.isWhole_whole _).read_unread]

theorem out_pay (v : Vec Ideal S1024x1536 .f32) (r : Fin 1024) (d : Fin 1536) : k0_pay3 v (ix3 0 r d) = v (ix2 r d) := by
  pointwise [k0_pay3]

/-- What a block's last point writes out is what it leaves in the accumulator. -/
theorem last (t : Fin cfg0.N) (h1 : t.val % 8 = 7) : (outsAt0 m c t.val t.isLt).1 = k0_pay3 (outsAt0 m c t.val t.isLt).2 := by
  rw [outsAt0_C m c t (by omega) h1]; frame_out

theorem out : (dats m 0 c).arrAt 2 cfg0.N = tMulCols 4 1536 (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  rw [Subsingleton.elim y0 0, out_pay]
  refine (acc (fun n h => (outsAt0 m c n h).2 (ix2 y1 y2)) 8 1024 (fun _ k => at2 (m ((c : Thread nD τ).loc main_arg0)) k y1.val) (fun q k => at2 (m ((c : Thread nD τ).loc main_arg1)) k (q * 1536 + y2.val)) _ _ (fun t k => a_blk m c t y1 k) (fun t k => b_blk m c t k y2)
    (fun t h => by rw [outsAt0_A m c t h (by omega)]; frame_out; exact (pay _ _ _ y1 y2).trans (congrArg (· + _) (zero_pay y1 y2)))
    (fun t h => (congrFun (step m c t h) _).trans (pay _ _ _ y1 y2)) t (by omega)).trans ?_
  have he : ((View.whole main_v0).slice (win0_2.rect t)).emb (ix3 0 y1 y2) = ix3 ⟨t.val / 8, by have := pts t; omega⟩ y1 y2 := by
    blk_ext [idx t]
  rw [he]; rfl

theorem frameP : Cert.quiescent_RetInDw := fun m g _ => Cert.RetInDw.Gen.frame m g

theorem framePI : Cert.quiescent_RetInDwIdeal := fun m g _ => Cert.RetInDwIdeal.Gen.frame (F := Ideal) m g

theorem frameRI : Cert.quiescent_RetInDwReferenceIdeal := fun m g _ =>
  (θ_run Cert.RetInDwReferenceIdeal.defs _ _).mono (fun r h => ⟨fun c => (h c).2, sem_eq_zero_of_no_sems (by decide) r.2⟩) (Cert.RetInDwReferenceIdeal.Value.run (F := Ideal) m g)

theorem value : Cert.algebraic_RetInDwIdeal_RetInDwReferenceIdeal := by
  intro m g m' g' _ hagree
  refine ⟨_, (θ_run Cert.RetInDwIdeal.defs _ _).mono (fun r h c => ⟨(h c).1.trans ((Cert.RetInDwIdeal.Value.final2 m c).symm.trans (out m c)), (h c).2⟩) (Cert.RetInDwIdeal.Value.run m g),
    (θ_run Cert.RetInDwReferenceIdeal.defs _ _).mono (fun r h c => ?_) (Cert.RetInDwReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [tMulCols]
  exact prod_of _ _ _ _ _ (fun k => (at2_ix _ k i1).symm) (fun k => (at2_of _ k.isLt (by omega)).symm)

end Product.RetInDw

end
-- ==== Proof.RetInDxClaims.lean ====
/- The gradient of the product into the retention, back to its input. -/
module

public import proofs.«01_k».proof.Defs
public import proofs.«01_k».proof.Proof.Product
public import proofs.«01_k».proof.Proof.Gen.RetInDx.Frame
public import proofs.«01_k».proof.Proof.Gen.RetInDxIdeal.Value
public import proofs.«01_k».proof.Proof.Gen.RetInDxReferenceIdeal.Run

@[expose] public section

noncomputable section

namespace Product.RetInDx

open Cert.RetInDxIdeal Cert.RetInDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

theorem pts (t : Fin cfg0.N) : t.val < 32 := lt_of_lt_of_eq t.isLt N_0

theorem a_blk (t : Fin cfg0.N) (r : Fin 1024) (k : Fin 1536) :
    iblk m c 0 t (ix2 r k) = at2 (m ((c : Thread nD τ).loc main_arg0)) (t.val / 4 * 1024 + r.val) (t.val % 4 * 1536 + k.val) := by
  have := pts t
  rw [at2_of _ (by omega) (by omega)]
  blk_point [iblk, V, idx t]

theorem b_blk (t : Fin cfg0.N) (k : Fin 1536) (d : Fin 1024) :
    iblk m c 1 t (ix3 0 d k) = at3 (m ((c : Thread nD τ).loc main_arg1)) ((t.val % 4 * 1536 + k.val) / 1536) d.val ((t.val % 4 * 1536 + k.val) % 1536) := by
  have h1 : (t.val % 4 * 1536 + k.val) / 1536 = t.val % 4 := by omega
  have h2 : (t.val % 4 * 1536 + k.val) % 1536 = k.val := by omega
  rw [h1, h2, at3_of _ (by omega) (by omega) (by omega)]
  blk_point [iblk, V, idx t]

theorem pay (v : Vec Ideal S1024x1024 .f32) (a : Vec Ideal S1024x1536 .bf16) (b : Vec Ideal S1x1024x1536 .bf16) (r : Fin 1024) (d : Fin 1024) :
    k0_pay2 v a b (ix2 r d) = v (ix2 r d) + ∑ k : Fin 1536, (a (ix2 r k) : EReal) * b (ix3 0 d k) := by
  pointwise [k0_pay2]

theorem zero_pay (r d : Fin 1024) : k0_pay1 (F := Ideal) (ix2 r d) = (0 : EReal) := by
  pointwise [k0_pay1]

theorem step (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]; frame_out
    rw [(Memref.isWhole_whole _).read_unread]
  · rw [outsAt0_B m c t h0 h1]; frame_out
    rw [(Memref.isWhole_whole _).read_unread]

/-- What a block's last point writes out is what it leaves in the accumulator. -/
theorem last (t : Fin cfg0.N) (h1 : t.val % 4 = 3) : (outsAt0 m c t.val t.isLt).1 = (outsAt0 m c t.val t.isLt).2 := by
  rw [outsAt0_C m c t (by omega) h1]; frame_out

theorem out : (dats m 0 c).arrAt 2 cfg0.N = mulColsT (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1]
  idx_vars y
  refine (acc (fun n h => (outsAt0 m c n h).2 (ix2 y0 y1)) 4 1536 (fun q => at2 (m ((c : Thread nD τ).loc main_arg0)) (q * 1024 + y0.val)) (fun _ k => at3 (m ((c : Thread nD τ).loc main_arg1)) (k / 1536) y1.val (k % 1536)) _ _ (fun t k => a_blk m c t y0 k) (fun t k => b_blk m c t k y1)
    (fun t h => by rw [outsAt0_A m c t h (by omega)]; frame_out; exact (pay _ _ _ y0 y1).trans (congrArg (· + _) (zero_pay y0 y1)))
    (fun t h => (congrFun (step m c t h) _).trans (pay _ _ _ y0 y1)) t (by omega)).trans ?_
  have he : ((View.whole main_v0).slice (win0_2.rect t)).emb (ix2 y0 y1) = ix2 ⟨t.val / 4 * 1024 + y0.val, by have := pts t; omega⟩ y1 := by
    blk_ext [idx t]
  rw [he]; rfl

theorem frameP : Cert.quiescent_RetInDx := fun m g _ => Cert.RetInDx.Gen.frame m g

theorem framePI : Cert.quiescent_RetInDxIdeal := fun m g _ => Cert.RetInDxIdeal.Gen.frame (F := Ideal) m g

theorem frameRI : Cert.quiescent_RetInDxReferenceIdeal := fun m g _ =>
  (θ_run Cert.RetInDxReferenceIdeal.defs _ _).mono (fun r h => ⟨fun c => (h c).2, sem_eq_zero_of_no_sems (by decide) r.2⟩) (Cert.RetInDxReferenceIdeal.Value.run (F := Ideal) m g)

theorem value : Cert.algebraic_RetInDxIdeal_RetInDxReferenceIdeal := by
  intro m g m' g' _ hagree
  refine ⟨_, (θ_run Cert.RetInDxIdeal.defs _ _).mono (fun r h c => ⟨(h c).1.trans ((Cert.RetInDxIdeal.Value.final2 m c).symm.trans (out m c)), (h c).2⟩) (Cert.RetInDxIdeal.Value.run m g),
    (θ_run Cert.RetInDxReferenceIdeal.defs _ _).mono (fun r h c => ?_) (Cert.RetInDxReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [mulColsT]
  exact prod_of _ _ _ _ _ (fun k => (at2_ix _ i0 k).symm) (fun k => (at3_of _ (by omega) i1.isLt (by omega)).symm)

end Product.RetInDx

end
-- ==== Proof.AdaDwClaims.lean ====
/- The gradient of the conditioning's product at its weight. -/
module

public import proofs.«01_k».proof.Defs
public import proofs.«01_k».proof.Proof.Product
public import proofs.«01_k».proof.Proof.Gen.AdaDw.Frame
public import proofs.«01_k».proof.Proof.Gen.AdaDwIdeal.Value
public import proofs.«01_k».proof.Proof.Gen.AdaDwReferenceIdeal.Run

@[expose] public section

noncomputable section

namespace Product.AdaDw

open Cert.AdaDwIdeal Cert.AdaDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, 0] ∧ win0_1.index t = ![0, t.val] ∧ win0_2.index t = ![t.val, 0, 0] :=
  (by decide +kernel : ∀ t : Fin grid0.N, _)

theorem pts (t : Fin cfg0.N) : t.val < 4 := lt_of_lt_of_eq t.isLt N_0

theorem a_blk (t : Fin cfg0.N) (r : Fin 1024) (k : Fin 128) :
    silu (iblk m c 0 t) (ix2 r k) = at2 (silu (m ((c : Thread nD τ).loc main_arg0))) r.val k.val := by
  rw [at2_ix]
  refine congrArg swish ?_
  blk_point [iblk, V, idx t]

theorem b_blk (t : Fin cfg0.N) (k : Fin 128) (d : Fin 1536) :
    iblk m c 1 t (ix2 k d) = at2 (m ((c : Thread nD τ).loc main_arg1)) k.val (t.val * 1536 + d.val) := by
  have := pts t
  rw [at2_of _ (by omega) (by omega)]
  blk_point [iblk, V, idx t]

theorem pay (a : Vec Ideal S1024x128 .f32) (b : Vec Ideal S128x1536 .f32) (r : Fin 1024) (d : Fin 1536) :
    k0_pay1 a b (ix3 0 r d) = ∑ k : Fin 128, silu a (ix2 r k) * b (ix2 k d) := by
  pointwise [k0_pay1, silu, swish]

/-- The product, its columns cut into a stack. -/
def cut (a : Vec Ideal S1024x128 .f32) (b : Vec Ideal S128x6144 .f32) : Vec Ideal S4x1024x1536 .f32 := fun i =>
  prod 128 (fun k => at2 (silu a) (i 1).val k) (fun k => at2 b k ((i 0).val * 1536 + (i 2).val))

theorem out : (dats m 0 c).arrAt 2 cfg0.N = cut (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  have he : ((View.whole main_v0).slice (win0_2.rect t)).emb (ix3 y0 y1 y2) = ix3 ⟨t.val, pts t⟩ y1 y2 := by
    blk_ext [idx t]
  rw [he, Subsingleton.elim y0 0, pay]
  exact prod_of _ _ _ _ _ (fun k => a_blk m c t y1 k) (fun k => b_blk m c t k y2)

theorem frameP : Cert.quiescent_AdaDw := fun m g _ => Cert.AdaDw.Gen.frame m g

theorem framePI : Cert.quiescent_AdaDwIdeal := fun m g _ => Cert.AdaDwIdeal.Gen.frame (F := Ideal) m g

theorem frameRI : Cert.quiescent_AdaDwReferenceIdeal := fun m g _ =>
  (θ_run Cert.AdaDwReferenceIdeal.defs _ _).mono (fun r h => ⟨fun c => (h c).2, sem_eq_zero_of_no_sems (by decide) r.2⟩) (Cert.AdaDwReferenceIdeal.Value.run (F := Ideal) m g)

theorem value : Cert.algebraic_AdaDwIdeal_AdaDwReferenceIdeal := by
  intro m g m' g' _ hagree
  refine ⟨_, (θ_run Cert.AdaDwIdeal.defs _ _).mono (fun r h c => ⟨(h c).1.trans (out m c), (h c).2⟩) (Cert.AdaDwIdeal.Value.run_blocks m g),
    (θ_run Cert.AdaDwReferenceIdeal.defs _ _).mono (fun r h c => ?_) (Cert.AdaDwReferenceIdeal.Value.run (F := Ideal) m' g')⟩
  obtain ⟨a0, a1⟩ := hagree c; obtain ⟨h0, kept⟩ := h c; rw [a0, a1] at h0
  refine ⟨h0.trans ?_, kept⟩
  funext i
  idx_vars i
  pointwise [cut]
  exact prod_of _ _ _ _ _ (fun k => (at2_ix (silu (m ((c : Thread nD τ).loc main_arg0))) i1 k).symm) (fun k => (at2_of _ k.isLt (by omega)).symm)

end Product.AdaDw

end
-- ==== Proof.lean ====
/-
# The proof of the claims
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Scatter
public import proofs.«01_k».proof.Proof.Gen.ScatterIdeal
public import proofs.«01_k».proof.Proof.Gen.ScatterIdeal.Launch
public import proofs.«01_k».proof.Proof.Gen.ScatterReferenceIdeal
public import proofs.«01_k».proof.Proof.Gen.ScatterReferenceIdeal.Run
public import proofs.«01_k».proof.Proof.Gen.Gather
public import proofs.«01_k».proof.Proof.Gen.GatherIdeal
public import proofs.«01_k».proof.Proof.Gen.GatherIdeal.Launch
public import proofs.«01_k».proof.Proof.Gen.GatherReferenceIdeal
public import proofs.«01_k».proof.Proof.Gen.GatherReferenceIdeal.Run
public import proofs.«01_k».proof.Proof.Gen.PwOne.Frame
public import proofs.«01_k».proof.Proof.Gen.PwOneIdeal.Value
public import proofs.«01_k».proof.Proof.Gen.PwOneReferenceIdeal
public import proofs.«01_k».proof.Proof.Gen.PwOneReferenceIdeal.Run
public import proofs.«01_k».proof.Proof.Gen.PwTwo.Frame
public import proofs.«01_k».proof.Proof.Gen.PwTwoIdeal.Value
public import proofs.«01_k».proof.Proof.Gen.PwTwoReferenceIdeal
public import proofs.«01_k».proof.Proof.Gen.PwTwoReferenceIdeal.Run
public import proofs.«01_k».proof.Proof.Gen.RetIn.Frame
public import proofs.«01_k».proof.Proof.Gen.RetInIdeal.Value
public import proofs.«01_k».proof.Proof.Gen.RetInReferenceIdeal
public import proofs.«01_k».proof.Proof.Gen.RetInReferenceIdeal.Run
public import proofs.«01_k».proof.Proof.Gen.RetOut.Frame
public import proofs.«01_k».proof.Proof.Gen.RetOutIdeal.Value
public import proofs.«01_k».proof.Proof.Gen.RetOutReferenceIdeal
public import proofs.«01_k».proof.Proof.Gen.RetOutReferenceIdeal.Run
public import proofs.«01_k».proof.Proof.Gen.Mlp.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.Ada.Frame
public import proofs.«01_k».proof.Proof.Gen.Small.Frame
public import proofs.«01_k».proof.Proof.Gen.AdaIdeal.Value
public import proofs.«01_k».proof.Proof.Gen.SmallIdeal.Value
public import proofs.«01_k».proof.Proof.Gen.AdaReferenceIdeal
public import proofs.«01_k».proof.Proof.Gen.SmallReferenceIdeal
public import proofs.«01_k».proof.Proof.Gen.AdaReferenceIdeal.Run
public import proofs.«01_k».proof.Proof.Gen.SmallReferenceIdeal.Run
public import proofs.«01_k».proof.Proof.SwapClaims
public import proofs.«01_k».proof.Proof.ScatterClaims
public import proofs.«01_k».proof.Proof.GatherClaims
public import proofs.«01_k».proof.Proof.PwOneClaims
public import proofs.«01_k».proof.Proof.PwTwoClaims
public import proofs.«01_k».proof.Proof.RetInClaims
public import proofs.«01_k».proof.Proof.RetOutClaims
public import proofs.«01_k».proof.Proof.MlpClaims
public import proofs.«01_k».proof.Proof.AdaClaims
public import proofs.«01_k».proof.Proof.SmallClaims
public import proofs.«01_k».proof.Proof.Gen.Cond
public import proofs.«01_k».proof.Proof.Gen.CondIdeal
public import proofs.«01_k».proof.Proof.Gen.CondIdeal.Launch
public import proofs.«01_k».proof.Proof.Gen.CondReferenceIdeal
public import proofs.«01_k».proof.Proof.Gen.CondReferenceIdeal.Run
public import proofs.«01_k».proof.Proof.CondClaims
public import proofs.«01_k».proof.Proof.Gen.Mod
public import proofs.«01_k».proof.Proof.Gen.ModIdeal
public import proofs.«01_k».proof.Proof.Gen.ModIdeal.Launch
public import proofs.«01_k».proof.Proof.Gen.ModReferenceIdeal
public import proofs.«01_k».proof.Proof.Gen.ModReferenceIdeal.Run
public import proofs.«01_k».proof.Proof.ModClaims
public import proofs.«01_k».proof.Proof.Gen.Grads
public import proofs.«01_k».proof.Proof.Gen.GradsIdeal
public import proofs.«01_k».proof.Proof.Gen.GradsIdeal.Launch
public import proofs.«01_k».proof.Proof.Gen.GradsReferenceIdeal
public import proofs.«01_k».proof.Proof.Gen.GradsReferenceIdeal.Run
public import proofs.«01_k».proof.Proof.GradsClaims
public import proofs.«01_k».proof.Proof.Gen.AddPwOne.Frame
public import proofs.«01_k».proof.Proof.Gen.AddPwOneIdeal.Value
public import proofs.«01_k».proof.Proof.Gen.AddPwOneReferenceIdeal
public import proofs.«01_k».proof.Proof.Gen.AddPwOneReferenceIdeal.Run
public import proofs.«01_k».proof.Proof.AddClaims
public import proofs.«01_k».proof.Proof.Gen.AddPwTwo.Frame
public import proofs.«01_k».proof.Proof.Gen.AddPwTwoIdeal.Value
public import proofs.«01_k».proof.Proof.Gen.AddPwTwoReferenceIdeal
public import proofs.«01_k».proof.Proof.Gen.AddPwTwoReferenceIdeal.Run
public import proofs.«01_k».proof.Proof.Gen.AddRetIn.Frame
public import proofs.«01_k».proof.Proof.Gen.AddRetInIdeal.Value
public import proofs.«01_k».proof.Proof.Gen.AddRetInReferenceIdeal
public import proofs.«01_k».proof.Proof.Gen.AddRetInReferenceIdeal.Run
public import proofs.«01_k».proof.Proof.Gen.AddRetOut.Frame
public import proofs.«01_k».proof.Proof.Gen.AddRetOutIdeal.Value
public import proofs.«01_k».proof.Proof.Gen.AddRetOutReferenceIdeal
public import proofs.«01_k».proof.Proof.Gen.AddRetOutReferenceIdeal.Run
public import proofs.«01_k».proof.Proof.Gen.AddMlp.Frame
public import proofs.«01_k».proof.Proof.Gen.AddMlpIdeal.Value
public import proofs.«01_k».proof.Proof.Gen.AddMlpReferenceIdeal
public import proofs.«01_k».proof.Proof.Gen.AddMlpReferenceIdeal.Run
public import proofs.«01_k».proof.Proof.Gen.Sum.Frame
public import proofs.«01_k».proof.Proof.Gen.SumIdeal.Value
public import proofs.«01_k».proof.Proof.Gen.SumReferenceIdeal
public import proofs.«01_k».proof.Proof.Gen.SumReferenceIdeal.Run
public import proofs.«01_k».proof.Proof.RowFwdClaims
public import proofs.«01_k».proof.Proof.RowFirstClaims
public import proofs.«01_k».proof.Proof.RowBwdClaims
public import proofs.«01_k».proof.Proof.FinalClaims
public import proofs.«01_k».proof.Proof.LossClaims
public import proofs.«01_k».proof.Proof.SumClaims
public import proofs.«01_k».proof.Proof.ConvFwdClaims
public import proofs.«01_k».proof.Proof.PwOneFwdClaims
public import proofs.«01_k».proof.Proof.PwTwoFwdClaims
public import proofs.«01_k».proof.Proof.RetInFwdClaims
public import proofs.«01_k».proof.Proof.RetOutFwdClaims
public import proofs.«01_k».proof.Proof.UpFwdClaims
public import proofs.«01_k».proof.Proof.DownFwdClaims
public import proofs.«01_k».proof.Proof.AdaFwdClaims
public import proofs.«01_k».proof.Proof.DownDxClaims
public import proofs.«01_k».proof.Proof.DownDwClaims
public import proofs.«01_k».proof.Proof.UpDwClaims
public import proofs.«01_k».proof.Proof.UpDxClaims
public import proofs.«01_k».proof.Proof.PwTwoDxClaims
public import proofs.«01_k».proof.Proof.PwTwoDwClaims
public import proofs.«01_k».proof.Proof.PwOneDwClaims
public import proofs.«01_k».proof.Proof.PwOneDxClaims
public import proofs.«01_k».proof.Proof.RetOutDxClaims
public import proofs.«01_k».proof.Proof.RetOutDwClaims
public import proofs.«01_k».proof.Proof.RetInDwClaims
public import proofs.«01_k».proof.Proof.RetInDxClaims
public import proofs.«01_k».proof.Proof.AdaDwClaims
public import Idealize.ShloMosaic.Adequacy
public import Idealize.ShloMosaic.Init

@[expose] public section

theorem Cert.Proof.claim : Cert.Claim :=
  ⟨Cert.Kernel.Gen.facts, Cert.KernelIdeal.Gen.facts, Cert.ReferenceIdeal.Gen.facts,
    Cert.Scatter.Gen.facts, Cert.ScatterIdeal.Gen.facts, Cert.ScatterReferenceIdeal.Gen.facts,
    Cert.Gather.Gen.facts, Cert.GatherIdeal.Gen.facts, Cert.GatherReferenceIdeal.Gen.facts,
    Cert.PwOne.Gen.facts, Cert.PwOneIdeal.Gen.facts, Cert.PwOneReferenceIdeal.Gen.facts,
    Cert.PwTwo.Gen.facts, Cert.PwTwoIdeal.Gen.facts, Cert.PwTwoReferenceIdeal.Gen.facts,
    Cert.RetIn.Gen.facts, Cert.RetInIdeal.Gen.facts, Cert.RetInReferenceIdeal.Gen.facts,
    Cert.RetOut.Gen.facts, Cert.RetOutIdeal.Gen.facts, Cert.RetOutReferenceIdeal.Gen.facts,
    Cert.Mlp.Gen.facts, Cert.MlpIdeal.Gen.facts, Cert.MlpReferenceIdeal.Gen.facts,
    Cert.Ada.Gen.facts, Cert.AdaIdeal.Gen.facts, Cert.AdaReferenceIdeal.Gen.facts,
    Cert.Small.Gen.facts, Cert.SmallIdeal.Gen.facts, Cert.SmallReferenceIdeal.Gen.facts,
    Cert.Cond.Gen.facts, Cert.CondIdeal.Gen.facts, Cert.CondReferenceIdeal.Gen.facts,
    Cert.Mod.Gen.facts, Cert.ModIdeal.Gen.facts, Cert.ModReferenceIdeal.Gen.facts,
    Cert.Grads.Gen.facts, Cert.GradsIdeal.Gen.facts, Cert.GradsReferenceIdeal.Gen.facts,
    Cert.AddPwOne.Gen.facts, Cert.AddPwOneIdeal.Gen.facts, Cert.AddPwOneReferenceIdeal.Gen.facts,
    Cert.AddPwTwo.Gen.facts, Cert.AddPwTwoIdeal.Gen.facts, Cert.AddPwTwoReferenceIdeal.Gen.facts,
    Cert.AddRetIn.Gen.facts, Cert.AddRetInIdeal.Gen.facts, Cert.AddRetInReferenceIdeal.Gen.facts,
    Cert.AddRetOut.Gen.facts, Cert.AddRetOutIdeal.Gen.facts, Cert.AddRetOutReferenceIdeal.Gen.facts,
    Cert.AddMlp.Gen.facts, Cert.AddMlpIdeal.Gen.facts, Cert.AddMlpReferenceIdeal.Gen.facts,
    Cert.Sum.Gen.facts, Cert.SumIdeal.Gen.facts, Cert.SumReferenceIdeal.Gen.facts,
    Cert.RowFwd.Gen.facts, Cert.RowFwdIdeal.Gen.facts, Cert.RowFwdReferenceIdeal.Gen.facts,
    Cert.RowFirst.Gen.facts, Cert.RowFirstIdeal.Gen.facts, Cert.RowFirstReferenceIdeal.Gen.facts,
    Cert.RowBwd.Gen.facts, Cert.RowBwdIdeal.Gen.facts, Cert.RowBwdReferenceIdeal.Gen.facts,
    Cert.Final.Gen.facts, Cert.FinalIdeal.Gen.facts, Cert.FinalReferenceIdeal.Gen.facts,
    Cert.Loss.Gen.facts, Cert.LossIdeal.Gen.facts, Cert.LossReferenceIdeal.Gen.facts,
    Cert.ConvFwd.Gen.facts, Cert.ConvFwdIdeal.Gen.facts, Cert.ConvFwdReferenceIdeal.Gen.facts,
    Cert.PwOneFwd.Gen.facts, Cert.PwOneFwdIdeal.Gen.facts, Cert.PwOneFwdReferenceIdeal.Gen.facts,
    Cert.PwTwoFwd.Gen.facts, Cert.PwTwoFwdIdeal.Gen.facts, Cert.PwTwoFwdReferenceIdeal.Gen.facts,
    Cert.RetInFwd.Gen.facts, Cert.RetInFwdIdeal.Gen.facts, Cert.RetInFwdReferenceIdeal.Gen.facts,
    Cert.RetOutFwd.Gen.facts, Cert.RetOutFwdIdeal.Gen.facts, Cert.RetOutFwdReferenceIdeal.Gen.facts,
    Cert.UpFwd.Gen.facts, Cert.UpFwdIdeal.Gen.facts, Cert.UpFwdReferenceIdeal.Gen.facts,
    Cert.DownFwd.Gen.facts, Cert.DownFwdIdeal.Gen.facts, Cert.DownFwdReferenceIdeal.Gen.facts,
    Cert.AdaFwd.Gen.facts, Cert.AdaFwdIdeal.Gen.facts, Cert.AdaFwdReferenceIdeal.Gen.facts,
    Cert.DownDx.Gen.facts, Cert.DownDxIdeal.Gen.facts, Cert.DownDxReferenceIdeal.Gen.facts,
    Cert.DownDw.Gen.facts, Cert.DownDwIdeal.Gen.facts, Cert.DownDwReferenceIdeal.Gen.facts,
    Cert.UpDw.Gen.facts, Cert.UpDwIdeal.Gen.facts, Cert.UpDwReferenceIdeal.Gen.facts,
    Cert.UpDx.Gen.facts, Cert.UpDxIdeal.Gen.facts, Cert.UpDxReferenceIdeal.Gen.facts,
    Cert.PwTwoDx.Gen.facts, Cert.PwTwoDxIdeal.Gen.facts, Cert.PwTwoDxReferenceIdeal.Gen.facts,
    Cert.PwTwoDw.Gen.facts, Cert.PwTwoDwIdeal.Gen.facts, Cert.PwTwoDwReferenceIdeal.Gen.facts,
    Cert.PwOneDw.Gen.facts, Cert.PwOneDwIdeal.Gen.facts, Cert.PwOneDwReferenceIdeal.Gen.facts,
    Cert.PwOneDx.Gen.facts, Cert.PwOneDxIdeal.Gen.facts, Cert.PwOneDxReferenceIdeal.Gen.facts,
    Cert.RetOutDx.Gen.facts, Cert.RetOutDxIdeal.Gen.facts, Cert.RetOutDxReferenceIdeal.Gen.facts,
    Cert.RetOutDw.Gen.facts, Cert.RetOutDwIdeal.Gen.facts, Cert.RetOutDwReferenceIdeal.Gen.facts,
    Cert.RetInDw.Gen.facts, Cert.RetInDwIdeal.Gen.facts, Cert.RetInDwReferenceIdeal.Gen.facts,
    Cert.RetInDx.Gen.facts, Cert.RetInDxIdeal.Gen.facts, Cert.RetInDxReferenceIdeal.Gen.facts,
    Cert.AdaDw.Gen.facts, Cert.AdaDwIdeal.Gen.facts, Cert.AdaDwReferenceIdeal.Gen.facts,
    Swap.frameP, Swap.framePI, Swap.frameRI, Scatter.frameP, Scatter.framePI, Scatter.frameRI, Gather.frameP, Gather.framePI, Gather.frameRI,
    Adam.PwOne.frameP, Adam.PwOne.framePI, Adam.PwOne.frameRI,
    Adam.PwTwo.frameP, Adam.PwTwo.framePI, Adam.PwTwo.frameRI,
    Adam.RetIn.frameP, Adam.RetIn.framePI, Adam.RetIn.frameRI,
    Adam.RetOut.frameP, Adam.RetOut.framePI, Adam.RetOut.frameRI,
    Adam.Mlp.frameP, Adam.Mlp.framePI, Adam.Mlp.frameRI,
    Adam.Ada.frameP, Adam.Ada.framePI, Adam.Ada.frameRI,
    Adam.Small.frameP, Adam.Small.framePI, Adam.Small.frameRI,
    Eight.Cond.frameP, Eight.Cond.framePI, Eight.Cond.frameRI,
    Eight.Mod.frameP, Eight.Mod.framePI, Eight.Mod.frameRI,
    Eight.Grads.frameP, Eight.Grads.framePI, Eight.Grads.frameRI,
    Sums.AddPwOne.frameP, Sums.AddPwOne.framePI, Sums.AddPwOne.frameRI,
    Sums.AddPwTwo.frameP, Sums.AddPwTwo.framePI, Sums.AddPwTwo.frameRI,
    Sums.AddRetIn.frameP, Sums.AddRetIn.framePI, Sums.AddRetIn.frameRI,
    Sums.AddRetOut.frameP, Sums.AddRetOut.framePI, Sums.AddRetOut.frameRI,
    Sums.AddMlp.frameP, Sums.AddMlp.framePI, Sums.AddMlp.frameRI,
    Sums.Sum.frameP, Sums.Sum.framePI, Sums.Sum.frameRI,
    Rows.RowFwd.frameP, Rows.RowFwd.framePI, Rows.RowFwd.frameRI,
    Rows.RowFirst.frameP, Rows.RowFirst.framePI, Rows.RowFirst.frameRI,
    Rows.RowBwd.frameP, Rows.RowBwd.framePI, Rows.RowBwd.frameRI,
    Rows.Final.frameP, Rows.Final.framePI, Rows.Final.frameRI,
    Rows.Loss.frameP, Rows.Loss.framePI, Rows.Loss.frameRI,
    Rows.ConvFwd.frameP, Rows.ConvFwd.framePI, Rows.ConvFwd.frameRI,
    Product.PwOneFwd.frameP, Product.PwOneFwd.framePI, Product.PwOneFwd.frameRI,
    Product.PwTwoFwd.frameP, Product.PwTwoFwd.framePI, Product.PwTwoFwd.frameRI,
    Product.RetInFwd.frameP, Product.RetInFwd.framePI, Product.RetInFwd.frameRI,
    Product.RetOutFwd.frameP, Product.RetOutFwd.framePI, Product.RetOutFwd.frameRI,
    Product.UpFwd.frameP, Product.UpFwd.framePI, Product.UpFwd.frameRI,
    Product.DownFwd.frameP, Product.DownFwd.framePI, Product.DownFwd.frameRI,
    Product.AdaFwd.frameP, Product.AdaFwd.framePI, Product.AdaFwd.frameRI,
    Product.DownDx.frameP, Product.DownDx.framePI, Product.DownDx.frameRI,
    Product.DownDw.frameP, Product.DownDw.framePI, Product.DownDw.frameRI,
    Product.UpDw.frameP, Product.UpDw.framePI, Product.UpDw.frameRI,
    Product.UpDx.frameP, Product.UpDx.framePI, Product.UpDx.frameRI,
    Product.PwTwoDx.frameP, Product.PwTwoDx.framePI, Product.PwTwoDx.frameRI,
    Product.PwTwoDw.frameP, Product.PwTwoDw.framePI, Product.PwTwoDw.frameRI,
    Product.PwOneDw.frameP, Product.PwOneDw.framePI, Product.PwOneDw.frameRI,
    Product.PwOneDx.frameP, Product.PwOneDx.framePI, Product.PwOneDx.frameRI,
    Product.RetOutDx.frameP, Product.RetOutDx.framePI, Product.RetOutDx.frameRI,
    Product.RetOutDw.frameP, Product.RetOutDw.framePI, Product.RetOutDw.frameRI,
    Product.RetInDw.frameP, Product.RetInDw.framePI, Product.RetInDw.frameRI,
    Product.RetInDx.frameP, Product.RetInDx.framePI, Product.RetInDx.frameRI,
    Product.AdaDw.frameP, Product.AdaDw.framePI, Product.AdaDw.frameRI,
    trivial, Swap.value, trivial, Scatter.value, trivial, Gather.value,
    trivial, Adam.PwOne.value, trivial, Adam.PwTwo.value, trivial, Adam.RetIn.value, trivial, Adam.RetOut.value, trivial, Adam.Mlp.value, trivial, Adam.Ada.value, trivial, Adam.Small.value,
    trivial, Eight.Cond.value,
    trivial, Eight.Mod.value,
    trivial, Eight.Grads.value,
    trivial, Sums.AddPwOne.value,
    trivial, Sums.AddPwTwo.value,
    trivial, Sums.AddRetIn.value,
    trivial, Sums.AddRetOut.value,
    trivial, Sums.AddMlp.value,
    trivial, Sums.Sum.value,
    trivial, Rows.RowFwd.value,
    trivial, Rows.RowFirst.value,
    trivial, Rows.RowBwd.value,
    trivial, Rows.Final.value,
    trivial, Rows.Loss.value,
    trivial, Rows.ConvFwd.value,
    trivial, Product.PwOneFwd.value,
    trivial, Product.PwTwoFwd.value,
    trivial, Product.RetInFwd.value,
    trivial, Product.RetOutFwd.value,
    trivial, Product.UpFwd.value,
    trivial, Product.DownFwd.value,
    trivial, Product.AdaFwd.value,
    trivial, Product.DownDx.value,
    trivial, Product.DownDw.value,
    trivial, Product.UpDw.value,
    trivial, Product.UpDx.value,
    trivial, Product.PwTwoDx.value,
    trivial, Product.PwTwoDw.value,
    trivial, Product.PwOneDw.value,
    trivial, Product.PwOneDx.value,
    trivial, Product.RetOutDx.value,
    trivial, Product.RetOutDw.value,
    trivial, Product.RetInDw.value,
    trivial, Product.RetInDx.value,
    trivial, Product.AdaDw.value⟩
